-- ==== Defs.lean ====
def Pre_Kernel [hPre_admissible : Cert.Pre_admissible.Facts] (m : (ℓ : Loc Cert.Kernel.nD Cert.Kernel.τ Cert.Kernel.sig) → Buf (Elt Bits) ℓ) : Prop :=
  ∀ c : Dev Cert.Kernel.nD,
    (Cert.Pre_admissible.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))).1 = (fun _ => 1#1)
    ∧ (Cert.Pre_admissible.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))).2.1 = (fun _ => 1#1)
    ∧ (Cert.Pre_admissible.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))).2.2.1 = (fun _ => 1#1)
    ∧ (Cert.Pre_admissible.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))).2.2.2 = (fun _ => 1#1)

def Pre_KernelIdeal [hPre_admissible : Cert.Pre_admissible.Facts] (m : (ℓ : Loc Cert.KernelIdeal.nD Cert.KernelIdeal.τ Cert.KernelIdeal.sig) → Buf (Elt Ideal) ℓ) : Prop :=
  ∀ c : Dev Cert.KernelIdeal.nD,
    (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).1 = (fun _ => 1#1)
    ∧ (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.1 = (fun _ => 1#1)
    ∧ (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.1 = (fun _ => 1#1)
    ∧ (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_admissible [hPre_admissible : Cert.Pre_admissible.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).1 = (fun _ => 1#1)
    ∧ (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.1 = (fun _ => 1#1)
    ∧ (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.1 = (fun _ => 1#1)
    ∧ (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2 = (fun _ => 1#1)

def Pre_Finish [hPre_placed : Cert.Pre_placed.Facts] (m : (ℓ : Loc Cert.Finish.nD Cert.Finish.τ Cert.Finish.sig) → Buf (Elt Bits) ℓ) : Prop :=
  ∀ c : Dev Cert.Finish.nD,
    (Cert.Pre_placed.fn (F := Bits) (m ((c.tc : Thread Cert.Finish.nD Cert.Finish.τ).loc Cert.Finish.main_arg0)) (m ((c.tc : Thread Cert.Finish.nD Cert.Finish.τ).loc Cert.Finish.main_arg1)) (m ((c.tc : Thread Cert.Finish.nD Cert.Finish.τ).loc Cert.Finish.main_arg2)) (m ((c.tc : Thread Cert.Finish.nD Cert.Finish.τ).loc Cert.Finish.main_arg3)) (m ((c.tc : Thread Cert.Finish.nD Cert.Finish.τ).loc Cert.Finish.main_arg4))).1 = (fun _ => 1#1)
    ∧ (Cert.Pre_placed.fn (F := Bits) (m ((c.tc : Thread Cert.Finish.nD Cert.Finish.τ).loc Cert.Finish.main_arg0)) (m ((c.tc : Thread Cert.Finish.nD Cert.Finish.τ).loc Cert.Finish.main_arg1)) (m ((c.tc : Thread Cert.Finish.nD Cert.Finish.τ).loc Cert.Finish.main_arg2)) (m ((c.tc : Thread Cert.Finish.nD Cert.Finish.τ).loc Cert.Finish.main_arg3)) (m ((c.tc : Thread Cert.Finish.nD Cert.Finish.τ).loc Cert.Finish.main_arg4))).2 = (fun _ => 1#1)

def Pre_FinishReference [hPre_placed : Cert.Pre_placed.Facts] (m : (ℓ : Loc Cert.FinishReference.nD Cert.FinishReference.τ Cert.FinishReference.sig) → Buf (Elt Bits) ℓ) : Prop :=
  ∀ c : Dev Cert.FinishReference.nD,
    (Cert.Pre_placed.fn (F := Bits) (m ((c.tc : Thread Cert.FinishReference.nD Cert.FinishReference.τ).loc Cert.FinishReference.main_arg0)) (m ((c.tc : Thread Cert.FinishReference.nD Cert.FinishReference.τ).loc Cert.FinishReference.main_arg1)) (m ((c.tc : Thread Cert.FinishReference.nD Cert.FinishReference.τ).loc Cert.FinishReference.main_arg2)) (m ((c.tc : Thread Cert.FinishReference.nD Cert.FinishReference.τ).loc Cert.FinishReference.main_arg3)) (m ((c.tc : Thread Cert.FinishReference.nD Cert.FinishReference.τ).loc Cert.FinishReference.main_arg4))).1 = (fun _ => 1#1)
    ∧ (Cert.Pre_placed.fn (F := Bits) (m ((c.tc : Thread Cert.FinishReference.nD Cert.FinishReference.τ).loc Cert.FinishReference.main_arg0)) (m ((c.tc : Thread Cert.FinishReference.nD Cert.FinishReference.τ).loc Cert.FinishReference.main_arg1)) (m ((c.tc : Thread Cert.FinishReference.nD Cert.FinishReference.τ).loc Cert.FinishReference.main_arg2)) (m ((c.tc : Thread Cert.FinishReference.nD Cert.FinishReference.τ).loc Cert.FinishReference.main_arg3)) (m ((c.tc : Thread Cert.FinishReference.nD Cert.FinishReference.τ).loc Cert.FinishReference.main_arg4))).2 = (fun _ => 1#1)

def quiescent_Kernel [hKernel : Cert.Kernel.Facts] [hPre_admissible : Cert.Pre_admissible.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] [hPre_admissible : Cert.Pre_admissible.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_admissible [hReferenceIdeal : Cert.ReferenceIdeal.Facts] [hPre_admissible : Cert.Pre_admissible.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_admissible m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_Finish [hFinish : Cert.Finish.Facts] [hPre_placed : Cert.Pre_placed.Facts] : Prop :=
  ∀ (m : (ℓ : Loc Cert.Finish.nD Cert.Finish.τ Cert.Finish.sig) → Buf (Elt Bits) ℓ) (g : Dev Cert.Finish.nD → PrngReg), Pre_Finish m →
    θ_run (Cert.Finish.defs (F := Bits)) (onTc (τ := Cert.Finish.τ) (Cert.Finish.main (F := Bits))) ⟨m, fun _ => 0, g⟩ (fun r => (∀ c : Dev Cert.Finish.nD,
      r.2.mem ((c.tc : Thread Cert.Finish.nD Cert.Finish.τ).loc Cert.Finish.main_arg0) = m ((c.tc : Thread Cert.Finish.nD Cert.Finish.τ).loc Cert.Finish.main_arg0)
      ∧ r.2.mem ((c.tc : Thread Cert.Finish.nD Cert.Finish.τ).loc Cert.Finish.main_arg1) = m ((c.tc : Thread Cert.Finish.nD Cert.Finish.τ).loc Cert.Finish.main_arg1)
      ∧ r.2.mem ((c.tc : Thread Cert.Finish.nD Cert.Finish.τ).loc Cert.Finish.main_arg2) = m ((c.tc : Thread Cert.Finish.nD Cert.Finish.τ).loc Cert.Finish.main_arg2)
      ∧ r.2.mem ((c.tc : Thread Cert.Finish.nD Cert.Finish.τ).loc Cert.Finish.main_arg3) = m ((c.tc : Thread Cert.Finish.nD Cert.Finish.τ).loc Cert.Finish.main_arg3)
      ∧ r.2.mem ((c.tc : Thread Cert.Finish.nD Cert.Finish.τ).loc Cert.Finish.main_arg4) = m ((c.tc : Thread Cert.Finish.nD Cert.Finish.τ).loc Cert.Finish.main_arg4))
      ∧ r.2.sem = fun _ => 0)

def quiescent_FinishReference [hFinishReference : Cert.FinishReference.Facts] [hPre_placed : Cert.Pre_placed.Facts] : Prop :=
  ∀ (m : (ℓ : Loc Cert.FinishReference.nD Cert.FinishReference.τ Cert.FinishReference.sig) → Buf (Elt Bits) ℓ) (g : Dev Cert.FinishReference.nD → PrngReg), Pre_FinishReference m →
    θ_run (Cert.FinishReference.defs (F := Bits)) (onTc (τ := Cert.FinishReference.τ) (Cert.FinishReference.main (F := Bits))) ⟨m, fun _ => 0, g⟩ (fun r => (∀ c : Dev Cert.FinishReference.nD,
      r.2.mem ((c.tc : Thread Cert.FinishReference.nD Cert.FinishReference.τ).loc Cert.FinishReference.main_arg0) = m ((c.tc : Thread Cert.FinishReference.nD Cert.FinishReference.τ).loc Cert.FinishReference.main_arg0)
      ∧ r.2.mem ((c.tc : Thread Cert.FinishReference.nD Cert.FinishReference.τ).loc Cert.FinishReference.main_arg1) = m ((c.tc : Thread Cert.FinishReference.nD Cert.FinishReference.τ).loc Cert.FinishReference.main_arg1)
      ∧ r.2.mem ((c.tc : Thread Cert.FinishReference.nD Cert.FinishReference.τ).loc Cert.FinishReference.main_arg2) = m ((c.tc : Thread Cert.FinishReference.nD Cert.FinishReference.τ).loc Cert.FinishReference.main_arg2)
      ∧ r.2.mem ((c.tc : Thread Cert.FinishReference.nD Cert.FinishReference.τ).loc Cert.FinishReference.main_arg3) = m ((c.tc : Thread Cert.FinishReference.nD Cert.FinishReference.τ).loc Cert.FinishReference.main_arg3)
      ∧ r.2.mem ((c.tc : Thread Cert.FinishReference.nD Cert.FinishReference.τ).loc Cert.FinishReference.main_arg4) = m ((c.tc : Thread Cert.FinishReference.nD Cert.FinishReference.τ).loc Cert.FinishReference.main_arg4))
      ∧ r.2.sem = fun _ => 0)

def preserves_Kernel_KernelIdeal : Prop :=
  True

def algebraic_KernelIdeal_ReferenceIdeal_on_written [hKernelIdeal : Cert.KernelIdeal.Facts] [hReferenceIdeal : Cert.ReferenceIdeal.Facts] [hPre_admissible : Cert.Pre_admissible.Facts] [hOn_written : Cert.On_written.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![1208, 128]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) i = 1#1 → r.2.mem ((c.tc : Thread Cert.KernelIdeal.nD Cert.KernelIdeal.τ).loc Cert.KernelIdeal.main_v5_1) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![1208, 128]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) i = 1#1 → r.2.mem ((c.tc : Thread Cert.ReferenceIdeal.nD Cert.ReferenceIdeal.τ).loc Cert.ReferenceIdeal.main_v105) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def bitexact_Finish_FinishReference [hFinish : Cert.Finish.Facts] [hFinishReference : Cert.FinishReference.Facts] [hPre_placed : Cert.Pre_placed.Facts] : Prop :=
  ∀ (m : (ℓ : Loc Cert.Finish.nD Cert.Finish.τ Cert.Finish.sig) → Buf (Elt Bits) ℓ) (g : Dev Cert.Finish.nD → PrngReg)
    (m' : (ℓ : Loc Cert.FinishReference.nD Cert.FinishReference.τ Cert.FinishReference.sig) → Buf (Elt Bits) ℓ) (g' : Dev Cert.FinishReference.nD → PrngReg), Pre_Finish m →
    (∀ c : Dev Cert.Finish.nD,
      m' ((c.tc : Thread Cert.FinishReference.nD Cert.FinishReference.τ).loc Cert.FinishReference.main_arg0) = m ((c.tc : Thread Cert.Finish.nD Cert.Finish.τ).loc Cert.Finish.main_arg0)
      ∧ m' ((c.tc : Thread Cert.FinishReference.nD Cert.FinishReference.τ).loc Cert.FinishReference.main_arg1) = m ((c.tc : Thread Cert.Finish.nD Cert.Finish.τ).loc Cert.Finish.main_arg1)
      ∧ m' ((c.tc : Thread Cert.FinishReference.nD Cert.FinishReference.τ).loc Cert.FinishReference.main_arg2) = m ((c.tc : Thread Cert.Finish.nD Cert.Finish.τ).loc Cert.Finish.main_arg2)
      ∧ m' ((c.tc : Thread Cert.FinishReference.nD Cert.FinishReference.τ).loc Cert.FinishReference.main_arg3) = m ((c.tc : Thread Cert.Finish.nD Cert.Finish.τ).loc Cert.Finish.main_arg3)
      ∧ m' ((c.tc : Thread Cert.FinishReference.nD Cert.FinishReference.τ).loc Cert.FinishReference.main_arg4) = m ((c.tc : Thread Cert.Finish.nD Cert.Finish.τ).loc Cert.Finish.main_arg4)) →
    ∃ (v0 : (c : Dev Cert.Finish.nD) → Buf (Elt Bits) ((c.tc : Thread Cert.Finish.nD Cert.Finish.τ).loc Cert.Finish.main_v0_0)) (v1 : (c : Dev Cert.Finish.nD) → Buf (Elt Bits) ((c.tc : Thread Cert.Finish.nD Cert.Finish.τ).loc Cert.Finish.main_v0_1)),
      θ_run (Cert.Finish.defs (F := Bits)) (onTc (τ := Cert.Finish.τ) (Cert.Finish.main (F := Bits))) ⟨m, fun _ => 0, g⟩ (fun r => ∀ c : Dev Cert.Finish.nD,
          r.2.mem ((c.tc : Thread Cert.Finish.nD Cert.Finish.τ).loc Cert.Finish.main_v0_0) = v0 c
          ∧ r.2.mem ((c.tc : Thread Cert.Finish.nD Cert.Finish.τ).loc Cert.Finish.main_v0_1) = v1 c
          ∧ r.2.mem ((c.tc : Thread Cert.Finish.nD Cert.Finish.τ).loc Cert.Finish.main_arg0) = m ((c.tc : Thread Cert.Finish.nD Cert.Finish.τ).loc Cert.Finish.main_arg0)
          ∧ r.2.mem ((c.tc : Thread Cert.Finish.nD Cert.Finish.τ).loc Cert.Finish.main_arg1) = m ((c.tc : Thread Cert.Finish.nD Cert.Finish.τ).loc Cert.Finish.main_arg1)
          ∧ r.2.mem ((c.tc : Thread Cert.Finish.nD Cert.Finish.τ).loc Cert.Finish.main_arg2) = m ((c.tc : Thread Cert.Finish.nD Cert.Finish.τ).loc Cert.Finish.main_arg2)
          ∧ r.2.mem ((c.tc : Thread Cert.Finish.nD Cert.Finish.τ).loc Cert.Finish.main_arg3) = m ((c.tc : Thread Cert.Finish.nD Cert.Finish.τ).loc Cert.Finish.main_arg3)
          ∧ r.2.mem ((c.tc : Thread Cert.Finish.nD Cert.Finish.τ).loc Cert.Finish.main_arg4) = m ((c.tc : Thread Cert.Finish.nD Cert.Finish.τ).loc Cert.Finish.main_arg4))
      ∧ θ_run (Cert.FinishReference.defs (F := Bits)) (onTc (τ := Cert.FinishReference.τ) (Cert.FinishReference.main (F := Bits))) ⟨m', fun _ => 0, g'⟩ (fun r => ∀ c : Dev Cert.FinishReference.nD,
          r.2.mem ((c.tc : Thread Cert.FinishReference.nD Cert.FinishReference.τ).loc Cert.FinishReference.main_v3) = v0 c
          ∧ r.2.mem ((c.tc : Thread Cert.FinishReference.nD Cert.FinishReference.τ).loc Cert.FinishReference.main_v25) = v1 c
          ∧ r.2.mem ((c.tc : Thread Cert.FinishReference.nD Cert.FinishReference.τ).loc Cert.FinishReference.main_arg0) = m' ((c.tc : Thread Cert.FinishReference.nD Cert.FinishReference.τ).loc Cert.FinishReference.main_arg0)
          ∧ r.2.mem ((c.tc : Thread Cert.FinishReference.nD Cert.FinishReference.τ).loc Cert.FinishReference.main_arg1) = m' ((c.tc : Thread Cert.FinishReference.nD Cert.FinishReference.τ).loc Cert.FinishReference.main_arg1)
          ∧ r.2.mem ((c.tc : Thread Cert.FinishReference.nD Cert.FinishReference.τ).loc Cert.FinishReference.main_arg2) = m' ((c.tc : Thread Cert.FinishReference.nD Cert.FinishReference.τ).loc Cert.FinishReference.main_arg2)
          ∧ r.2.mem ((c.tc : Thread Cert.FinishReference.nD Cert.FinishReference.τ).loc Cert.FinishReference.main_arg3) = m' ((c.tc : Thread Cert.FinishReference.nD Cert.FinishReference.τ).loc Cert.FinishReference.main_arg3)
          ∧ r.2.mem ((c.tc : Thread Cert.FinishReference.nD Cert.FinishReference.τ).loc Cert.FinishReference.main_arg4) = m' ((c.tc : Thread Cert.FinishReference.nD Cert.FinishReference.τ).loc Cert.FinishReference.main_arg4))

def Claim : Prop :=
  ∃ (hKernel : Cert.Kernel.Facts) (hKernelIdeal : Cert.KernelIdeal.Facts) (hReferenceIdeal : Cert.ReferenceIdeal.Facts) (hFinish : Cert.Finish.Facts) (hFinishReference : Cert.FinishReference.Facts) (hPre_admissible : Cert.Pre_admissible.Facts) (hPre_placed : Cert.Pre_placed.Facts) (hOn_written : Cert.On_written.Facts),
    quiescent_Kernel (hKernel := hKernel) (hPre_admissible := hPre_admissible)
    ∧ quiescent_KernelIdeal (hKernelIdeal := hKernelIdeal) (hPre_admissible := hPre_admissible)
    ∧ quiescent_ReferenceIdeal (hReferenceIdeal := hReferenceIdeal)
    ∧ quiescent_ReferenceIdeal_pre_admissible (hReferenceIdeal := hReferenceIdeal) (hPre_admissible := hPre_admissible)
    ∧ quiescent_Finish (hFinish := hFinish) (hPre_placed := hPre_placed)
    ∧ quiescent_FinishReference (hFinishReference := hFinishReference) (hPre_placed := hPre_placed)
    ∧ preserves_Kernel_KernelIdeal
    ∧ algebraic_KernelIdeal_ReferenceIdeal_on_written (hKernelIdeal := hKernelIdeal) (hReferenceIdeal := hReferenceIdeal) (hPre_admissible := hPre_admissible) (hOn_written := hOn_written)
    ∧ bitexact_Finish_FinishReference (hFinish := hFinish) (hFinishReference := hFinishReference) (hPre_placed := hPre_placed)
-- ==== On_written.lean ====
abbrev S2432x6x8x128 : Shape := ⟨4, ![2432, 6, 8, 128]⟩
abbrev S2432x2x128 : Shape := ⟨3, ![2432, 2, 128]⟩
abbrev S224x768 : Shape := ⟨2, ![224, 768]⟩
abbrev S224x512 : Shape := ⟨2, ![224, 512]⟩
abbrev S4800 : Shape := ⟨1, ![4800]⟩
abbrev S1 : Shape := ⟨1, ![1]⟩
abbrev S_ : Shape := ⟨0, ![]⟩
abbrev S216x128 : Shape := ⟨2, ![216, 128]⟩
abbrev S6x216x128 : Shape := ⟨3, ![6, 216, 128]⟩
abbrev S3072x512 : Shape := ⟨2, ![3072, 512]⟩
abbrev S512 : Shape := ⟨1, ![512]⟩
abbrev S512x128 : Shape := ⟨2, ![512, 128]⟩
abbrev S128 : Shape := ⟨1, ![128]⟩
abbrev S1208x128 : Shape := ⟨2, ![1208, 128]⟩

class Facts : Prop where
  bcast_S_S1208x128 : S_.BroadcastsInDim S1208x128 (![] : Fin 0 → Fin S1208x128.rank)

variable [Facts]

def fn {F : FTy → Type} [FloatOps F] (main_arg0 : IVec S2432x6x8x128 32) (main_arg1 : IVec S2432x2x128 32) (main_arg2 : IVec S224x768 32) (main_arg3 : FVec F S224x512 .f32) (main_arg4 : IVec S4800 32) (main_arg5 : IVec S1 32) (main_arg6 : IVec S_ 32) (main_arg7 : IVec S216x128 32) (main_arg8 : IVec S216x128 32) (main_arg9 : FVec F S6x216x128 .f32) (main_arg10 : FVec F S3072x512 .bf16) (main_arg11 : FVec F S512 .f32) (main_arg12 : FVec F S512x128 .bf16) (main_arg13 : FVec F S128 .f32) (main_arg14 : FVec F S128 .f32) (main_arg15 : FVec F S128 .bf16) (main_arg16 : FVec F S1 .f32) : IVec S1208x128 1 :=
  let main_v0 : IVec S1208x128 32 := iotaInDim S1208x128 32 0
  let main_c : IVec S_ 32 := constantI S_ 32 8#32
  let main_v1 : IVec S_ 32 := muli main_c main_arg6
  let main_v2 : IVec S1208x128 32 := broadcastInDim S1208x128 ![] bcast_S_S1208x128 main_v1
  let main_v3 : IVec S1208x128 1 := cmpi .slt main_v0 main_v2
  main_v3
-- ==== Pre_admissible.lean ====
abbrev S2432x6x8x128 : Shape := ⟨4, ![2432, 6, 8, 128]⟩
abbrev S2432x2x128 : Shape := ⟨3, ![2432, 2, 128]⟩
abbrev S224x768 : Shape := ⟨2, ![224, 768]⟩
abbrev S224x512 : Shape := ⟨2, ![224, 512]⟩
abbrev S4800 : Shape := ⟨1, ![4800]⟩
abbrev S1 : Shape := ⟨1, ![1]⟩
abbrev S_ : Shape := ⟨0, ![]⟩
abbrev S216x128 : Shape := ⟨2, ![216, 128]⟩
abbrev S6x216x128 : Shape := ⟨3, ![6, 216, 128]⟩
abbrev S3072x512 : Shape := ⟨2, ![3072, 512]⟩
abbrev S512 : Shape := ⟨1, ![512]⟩
abbrev S512x128 : Shape := ⟨2, ![512, 128]⟩
abbrev S128 : Shape := ⟨1, ![128]⟩

class Facts : Prop where
  bcast_S_S4800 : S_.BroadcastsInDim S4800 (![] : Fin 0 → Fin S4800.rank)
  bcast_S_S1 : S_.BroadcastsInDim S1 (![] : Fin 0 → Fin S1.rank)
  bcast_S_S224x768 : S_.BroadcastsInDim S224x768 (![] : Fin 0 → Fin S224x768.rank)

variable [Facts]

def fn {F : FTy → Type} [FloatOps F] (main_arg0 : IVec S2432x6x8x128 32) (main_arg1 : IVec S2432x2x128 32) (main_arg2 : IVec S224x768 32) (main_arg3 : FVec F S224x512 .f32) (main_arg4 : IVec S4800 32) (main_arg5 : IVec S1 32) (main_arg6 : IVec S_ 32) (main_arg7 : IVec S216x128 32) (main_arg8 : IVec S216x128 32) (main_arg9 : FVec F S6x216x128 .f32) (main_arg10 : FVec F S3072x512 .bf16) (main_arg11 : FVec F S512 .f32) (main_arg12 : FVec F S512x128 .bf16) (main_arg13 : FVec F S128 .f32) (main_arg14 : FVec F S128 .f32) (main_arg15 : FVec F S128 .bf16) (main_arg16 : FVec F S1 .f32) : IVec S4800 1 × IVec S1 1 × IVec S_ 1 × IVec S224x768 1 :=
  let main_c : IVec S_ 32 := constantI S_ 32 0#32
  let main_v0 : IVec S4800 32 := broadcastInDim S4800 ![] bcast_S_S4800 main_c
  let main_v1 : IVec S4800 1 := cmpi .sge main_arg4 main_v0
  let main_c_0 : IVec S_ 32 := constantI S_ 32 200#32
  let main_v2 : IVec S4800 32 := broadcastInDim S4800 ![] bcast_S_S4800 main_c_0
  let main_v3 : IVec S4800 1 := cmpi .slt main_arg4 main_v2
  let main_v4 : IVec S4800 1 := andi main_v1 main_v3
  let main_c_1 : IVec S_ 32 := constantI S_ 32 0#32
  let main_v5 : IVec S1 32 := broadcastInDim S1 ![] bcast_S_S1 main_c_1
  let main_v6 : IVec S1 1 := cmpi .eq main_arg5 main_v5
  let main_c_2 : IVec S_ 32 := constantI S_ 32 0#32
  let main_v7 : IVec S_ 1 := cmpi .sge main_arg6 main_c_2
  let main_c_3 : IVec S_ 32 := constantI S_ 32 150#32
  let main_v8 : IVec S_ 1 := cmpi .sle main_arg6 main_c_3
  let main_v9 : IVec S_ 1 := andi main_v7 main_v8
  let main_c_4 : IVec S_ 32 := constantI S_ 32 16#32
  let main_v10 : IVec S224x768 32 := broadcastInDim S224x768 ![] bcast_S_S224x768 main_c_4
  let main_v11 : IVec S224x768 32 := Host.shrui main_arg2 main_v10
  let main_c_5 : IVec S_ 32 := constantI S_ 32 16#32
  let main_v12 : IVec S224x768 32 := broadcastInDim S224x768 ![] bcast_S_S224x768 main_c_5
  let main_v13 : IVec S224x768 32 := Host.shli main_arg2 main_v12
  let main_v14 : IVec S224x768 32 := ori main_v11 main_v13
  let main_v15 : IVec S224x768 1 := cmpi .eq main_arg2 main_v14
  (main_v4, main_v6, main_v9, main_v15)
-- ==== Pre_placed.lean ====
abbrev S200 : Shape := ⟨1, ![200]⟩
abbrev S1 : Shape := ⟨1, ![1]⟩
abbrev S6x216x128 : Shape := ⟨3, ![6, 216, 128]⟩
abbrev S1208x128 : Shape := ⟨2, ![1208, 128]⟩
abbrev S_ : Shape := ⟨0, ![]⟩

class Facts : Prop where
  bcast_S_S200 : S_.BroadcastsInDim S200 (![] : Fin 0 → Fin S200.rank)
  bcast_S_S1 : S_.BroadcastsInDim S1 (![] : Fin 0 → Fin S1.rank)

variable [Facts]

def fn {F : FTy → Type} [FloatOps F] (main_arg0 : IVec S200 32) (main_arg1 : IVec S200 32) (main_arg2 : IVec S1 32) (main_arg3 : FVec F S6x216x128 .f32) (main_arg4 : FVec F S1208x128 .f32) : IVec S200 1 × IVec S1 1 :=
  let main_c : IVec S_ 32 := constantI S_ 32 0#32
  let main_v0 : IVec S200 32 := broadcastInDim S200 ![] bcast_S_S200 main_c
  let main_v1 : IVec S200 1 := cmpi .sge main_arg0 main_v0
  let main_c_0 : IVec S_ 32 := constantI S_ 32 76927#32
  let main_v2 : IVec S200 32 := broadcastInDim S200 ![] bcast_S_S200 main_c_0
  let main_v3 : IVec S200 1 := cmpi .sle main_arg0 main_v2
  let main_v4 : IVec S200 1 := andi main_v1 main_v3
  let main_c_1 : IVec S_ 32 := constantI S_ 32 0#32
  let main_v5 : IVec S1 32 := broadcastInDim S1 ![] bcast_S_S1 main_c_1
  let main_v6 : IVec S1 1 := cmpi .eq main_arg2 main_v5
  (main_v4, main_v6)
-- ==== Kernel.lean ====
abbrev S2432x6x8x128 : Shape := ⟨4, ![2432, 6, 8, 128]⟩
abbrev S2432x2x128 : Shape := ⟨3, ![2432, 2, 128]⟩
abbrev S224x768 : Shape := ⟨2, ![224, 768]⟩
abbrev S224x512 : Shape := ⟨2, ![224, 512]⟩
abbrev S4800 : Shape := ⟨1, ![4800]⟩
abbrev S1 : Shape := ⟨1, ![1]⟩
abbrev S_ : Shape := ⟨0, ![]⟩
abbrev S216x128 : Shape := ⟨2, ![216, 128]⟩
abbrev S6x216x128 : Shape := ⟨3, ![6, 216, 128]⟩
abbrev S3072x512 : Shape := ⟨2, ![3072, 512]⟩
abbrev S512 : Shape := ⟨1, ![512]⟩
abbrev S512x128 : Shape := ⟨2, ![512, 128]⟩
abbrev S128 : Shape := ⟨1, ![128]⟩
abbrev S1x512 : Shape := ⟨2, ![1, 512]⟩
abbrev S1x128 : Shape := ⟨2, ![1, 128]⟩
abbrev S8x128 : Shape := ⟨2, ![8, 128]⟩
abbrev S1208x128 : Shape := ⟨2, ![1208, 128]⟩
abbrev S16x6x8x128 : Shape := ⟨4, ![16, 6, 8, 128]⟩
abbrev S16x2x128 : Shape := ⟨3, ![16, 2, 128]⟩
abbrev S512x2304 : Shape := ⟨2, ![512, 2304]⟩
abbrev S512x512 : Shape := ⟨2, ![512, 512]⟩
abbrev S1x6x8x128 : Shape := ⟨4, ![1, 6, 8, 128]⟩
abbrev S6x8x128 : Shape := ⟨3, ![6, 8, 128]⟩
abbrev S1x1x128 : Shape := ⟨3, ![1, 1, 128]⟩
abbrev S1x8x128 : Shape := ⟨3, ![1, 8, 128]⟩
abbrev S32x128 : Shape := ⟨2, ![32, 128]⟩
abbrev S8x128x1 : Shape := ⟨3, ![8, 128, 1]⟩
abbrev S16x128 : Shape := ⟨2, ![16, 128]⟩
abbrev S32x768 : Shape := ⟨2, ![32, 768]⟩
abbrev S1x768 : Shape := ⟨2, ![1, 768]⟩
abbrev S8x768 : Shape := ⟨2, ![8, 768]⟩
abbrev S16x768 : Shape := ⟨2, ![16, 768]⟩
abbrev S256x768 : Shape := ⟨2, ![256, 768]⟩
abbrev S768x512 : Shape := ⟨2, ![768, 512]⟩
abbrev S256x512 : Shape := ⟨2, ![256, 512]⟩
abbrev S256x1536 : Shape := ⟨2, ![256, 1536]⟩
abbrev S1536x512 : Shape := ⟨2, ![1536, 512]⟩
abbrev S16x512 : Shape := ⟨2, ![16, 512]⟩
abbrev S8x512 : Shape := ⟨2, ![8, 512]⟩
abbrev S24x512 : Shape := ⟨2, ![24, 512]⟩
abbrev S512x768 : Shape := ⟨2, ![512, 768]⟩
abbrev S24x768 : Shape := ⟨2, ![24, 768]⟩

abbrev nBuf : Space → Nat
  | .hbm => 21
  | .vmem => 20
  | .smem => 4
  | _ => 0

abbrev bufTy : (tb : Table) → Fin (tcTables nBuf tb) → BufTy
  | .hbm, ⟨0, _⟩ => ⟨S2432x6x8x128, .i32⟩
  | .hbm, ⟨1, _⟩ => ⟨S2432x2x128, .i32⟩
  | .hbm, ⟨2, _⟩ => ⟨S224x768, .i32⟩
  | .hbm, ⟨3, _⟩ => ⟨S224x512, .f32⟩
  | .hbm, ⟨4, _⟩ => ⟨S216x128, .i32⟩
  | .hbm, ⟨5, _⟩ => ⟨S216x128, .i32⟩
  | .hbm, ⟨6, _⟩ => ⟨S6x216x128, .f32⟩
  | .hbm, ⟨7, _⟩ => ⟨S3072x512, .bf16⟩
  | .hbm, ⟨8, _⟩ => ⟨S512, .f32⟩
  | .hbm, ⟨9, _⟩ => ⟨S512x128, .bf16⟩
  | .hbm, ⟨10, _⟩ => ⟨S128, .f32⟩
  | .hbm, ⟨11, _⟩ => ⟨S128, .f32⟩
  | .hbm, ⟨12, _⟩ => ⟨S128, .bf16⟩
  | .hbm, ⟨13, _⟩ => ⟨S1, .f32⟩
  | .hbm, ⟨14, _⟩ => ⟨S1x512, .f32⟩
  | .hbm, ⟨15, _⟩ => ⟨S1x128, .f32⟩
  | .hbm, ⟨16, _⟩ => ⟨S1x128, .f32⟩
  | .hbm, ⟨17, _⟩ => ⟨S1x128, .bf16⟩
  | .hbm, ⟨18, _⟩ => ⟨S8x128, .bf16⟩
  | .hbm, ⟨19, _⟩ => ⟨S6x216x128, .f32⟩
  | .hbm, ⟨20, _⟩ => ⟨S1208x128, .f32⟩
  | .local _ .vmem, ⟨0, _⟩ => ⟨S16x6x8x128, .i32⟩
  | .local _ .vmem, ⟨1, _⟩ => ⟨S16x6x8x128, .i32⟩
  | .local _ .vmem, ⟨2, _⟩ => ⟨S16x2x128, .i32⟩
  | .local _ .vmem, ⟨3, _⟩ => ⟨S16x2x128, .i32⟩
  | .local _ .vmem, ⟨4, _⟩ => ⟨S224x768, .i32⟩
  | .local _ .vmem, ⟨5, _⟩ => ⟨S224x512, .f32⟩
  | .local _ .vmem, ⟨6, _⟩ => ⟨S3072x512, .bf16⟩
  | .local _ .vmem, ⟨7, _⟩ => ⟨S1x512, .f32⟩
  | .local _ .vmem, ⟨8, _⟩ => ⟨S512x128, .bf16⟩
  | .local _ .vmem, ⟨9, _⟩ => ⟨S1x128, .f32⟩
  | .local _ .vmem, ⟨10, _⟩ => ⟨S1x128, .f32⟩
  | .local _ .vmem, ⟨11, _⟩ => ⟨S8x128, .bf16⟩
  | .local _ .vmem, ⟨12, _⟩ => ⟨S216x128, .i32⟩
  | .local _ .vmem, ⟨13, _⟩ => ⟨S216x128, .i32⟩
  | .local _ .vmem, ⟨14, _⟩ => ⟨S6x216x128, .f32⟩
  | .local _ .vmem, ⟨15, _⟩ => ⟨S6x216x128, .f32⟩
  | .local _ .vmem, ⟨16, _⟩ => ⟨S8x128, .f32⟩
  | .local _ .vmem, ⟨17, _⟩ => ⟨S8x128, .f32⟩
  | .local _ .vmem, ⟨18, _⟩ => ⟨S512x2304, .bf16⟩
  | .local _ .vmem, ⟨19, _⟩ => ⟨S512x512, .bf16⟩
  | .local _ .smem, ⟨0, _⟩ => ⟨S_, .i32⟩
  | .local _ .smem, ⟨1, _⟩ => ⟨S4800, .i32⟩
  | .local _ .smem, ⟨2, _⟩ => ⟨S1, .i32⟩
  | .local _ .smem, ⟨3, _⟩ => ⟨S1, .f32⟩
  | _, _ => ⟨S2432x6x8x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨3, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg7 : Ref sig .tc := ⟨.hbm, 4, rfl⟩
abbrev main_arg8 : Ref sig .tc := ⟨.hbm, 5, rfl⟩
abbrev main_arg9 : Ref sig .tc := ⟨.hbm, 6, rfl⟩
abbrev main_arg10 : Ref sig .tc := ⟨.hbm, 7, rfl⟩
abbrev main_arg11 : Ref sig .tc := ⟨.hbm, 8, rfl⟩
abbrev main_arg12 : Ref sig .tc := ⟨.hbm, 9, rfl⟩
abbrev main_arg13 : Ref sig .tc := ⟨.hbm, 10, rfl⟩
abbrev main_arg14 : Ref sig .tc := ⟨.hbm, 11, rfl⟩
abbrev main_arg15 : Ref sig .tc := ⟨.hbm, 12, rfl⟩
abbrev main_arg16 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5_0 : Ref sig .tc := ⟨.hbm, 19, rfl⟩
abbrev main_v5_1 : Ref sig .tc := ⟨.hbm, 20, rfl⟩
abbrev main_arg6 : Ref sig .tc := ⟨.smem, 0, rfl⟩
abbrev main_arg4 : Ref sig .tc := ⟨.smem, 1, rfl⟩
abbrev main_arg5 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg15_1 : Ref sig .tc := ⟨.vmem, 17, rfl⟩
abbrev cc0_scratch0 : Ref sig .tc := ⟨.vmem, 18, rfl⟩
abbrev cc0_scratch1 : Ref sig .tc := ⟨.vmem, 19, rfl⟩
abbrev cc0_stg10_0 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem15_1 : DmaSem sig := 18

abbrev nD : Nat := 1
abbrev τ : Topo := Topo.v7x

variable {F : FTy → Type} [FloatOps F]

abbrev grid0 : Pipeline.Grid := ⟨1, ![0], ![true]⟩

abbrev pre0 : Pipeline.Prefetch sig := ⟨3, ![main_arg6.idx, main_arg4.idx, main_arg5.idx], fun | 0 => main_arg6.names | 1 => main_arg4.names | 2 => main_arg5.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def dynb0 (pf : pre0.Contents (Elt F)) : grid0.Bounds := ![(pf 0 fun a => a.elim0).toNat]

def k0_off1 (arg0 : BitVec 32) (v0 : BitVec 32) : Fin 1 → Nat :=
  let v1 : BitVec 32 := Scalar.addi v0 arg0
  let c32_i32 : BitVec 32 := 32#32
  let v532 : BitVec 32 := Scalar.muli v1 c32_i32
  let c0_i32_133 : BitVec 32 := 0#32
  let v533 : BitVec 32 := Scalar.addi v532 c0_i32_133
  let c0_i32_134 : BitVec 32 := 0#32
  let v534 : BitVec 32 := Scalar.addi v533 c0_i32_134
  let v535 : Index := Scalar.indexCast v534
  ![v535.toNat]

def k0_off2 (v536 : BitVec 32) : Fin 2 → Nat :=
  let v537 : Index := Scalar.indexCast v536
  let c0_135 : Index := 0#32
  ![v537.toNat, 0]

def k0_chk2 (v536 : BitVec 32) : Prop :=
  (∀ a, (k0_off2 v536) a + S1x768.size a ≤ S224x768.size a)
theorem k0_off2_inb : ∀ (v536 : BitVec 32) (k0_hw2 : k0_chk2 v536), ∀ a, (k0_off2 v536) a + S1x768.size a ≤ S224x768.size a := fun v536 k0_hw2 => k0_hw2

def k0_off3 (arg0 : BitVec 32) (v0 : BitVec 32) : Fin 1 → Nat :=
  let v1 : BitVec 32 := Scalar.addi v0 arg0
  let c32_i32_136 : BitVec 32 := 32#32
  let v542 : BitVec 32 := Scalar.muli v1 c32_i32_136
  let c0_i32_137 : BitVec 32 := 0#32
  let v543 : BitVec 32 := Scalar.addi v542 c0_i32_137
  let c1_i32_138 : BitVec 32 := 1#32
  let v544 : BitVec 32 := Scalar.addi v543 c1_i32_138
  let v545 : Index := Scalar.indexCast v544
  ![v545.toNat]
def k0_off4 (v546 : BitVec 32) : Fin 2 → Nat :=
  let v547 : Index := Scalar.indexCast v546
  let c0_139 : Index := 0#32
  ![v547.toNat, 0]

def k0_chk3 (v546 : BitVec 32) : Prop :=
  (∀ a, (k0_off4 v546) a + S1x768.size a ≤ S224x768.size a)
theorem k0_off4_inb : ∀ (v546 : BitVec 32) (k0_hw3 : k0_chk3 v546), ∀ a, (k0_off4 v546) a + S1x768.size a ≤ S224x768.size a := fun v546 k0_hw3 => k0_hw3

def k0_off5 (arg0 : BitVec 32) (v0 : BitVec 32) : Fin 1 → Nat :=
  let v1 : BitVec 32 := Scalar.addi v0 arg0
  let c32_i32_286 : BitVec 32 := 32#32
  let v1091 : BitVec 32 := Scalar.muli v1 c32_i32_286
  let c2_i32_287 : BitVec 32 := 2#32
  let v1092 : BitVec 32 := Scalar.addi v1091 c2_i32_287
  let c0_i32_288 : BitVec 32 := 0#32
  let v1093 : BitVec 32 := Scalar.addi v1092 c0_i32_288
  let v1094 : Index := Scalar.indexCast v1093
  ![v1094.toNat]
def k0_off6 (v1095 : BitVec 32) : Fin 2 → Nat :=
  let v1096 : Index := Scalar.indexCast v1095
  let c0_289 : Index := 0#32
  ![v1096.toNat, 0]

def k0_chk4 (v1095 : BitVec 32) : Prop :=
  (∀ a, (k0_off6 v1095) a + S1x768.size a ≤ S224x768.size a)
theorem k0_off6_inb : ∀ (v1095 : BitVec 32) (k0_hw4 : k0_chk4 v1095), ∀ a, (k0_off6 v1095) a + S1x768.size a ≤ S224x768.size a := fun v1095 k0_hw4 => k0_hw4

def k0_off7 (arg0 : BitVec 32) (v0 : BitVec 32) : Fin 1 → Nat :=
  let v1 : BitVec 32 := Scalar.addi v0 arg0
  let c32_i32_290 : BitVec 32 := 32#32
  let v1101 : BitVec 32 := Scalar.muli v1 c32_i32_290
  let c2_i32_291 : BitVec 32 := 2#32
  let v1102 : BitVec 32 := Scalar.addi v1101 c2_i32_291
  let c1_i32_292 : BitVec 32 := 1#32
  let v1103 : BitVec 32 := Scalar.addi v1102 c1_i32_292
  let v1104 : Index := Scalar.indexCast v1103
  ![v1104.toNat]
def k0_off8 (v1105 : BitVec 32) : Fin 2 → Nat :=
  let v1106 : Index := Scalar.indexCast v1105
  let c0_293 : Index := 0#32
  ![v1106.toNat, 0]

def k0_chk5 (v1105 : BitVec 32) : Prop :=
  (∀ a, (k0_off8 v1105) a + S1x768.size a ≤ S224x768.size a)
theorem k0_off8_inb : ∀ (v1105 : BitVec 32) (k0_hw5 : k0_chk5 v1105), ∀ a, (k0_off8 v1105) a + S1x768.size a ≤ S224x768.size a := fun v1105 k0_hw5 => k0_hw5

def k0_off9 (arg0 : BitVec 32) (v0 : BitVec 32) : Fin 1 → Nat :=
  let v1 : BitVec 32 := Scalar.addi v0 arg0
  let c32_i32_440 : BitVec 32 := 32#32
  let v1650 : BitVec 32 := Scalar.muli v1 c32_i32_440
  let c4_i32_441 : BitVec 32 := 4#32
  let v1651 : BitVec 32 := Scalar.addi v1650 c4_i32_441
  let c0_i32_442 : BitVec 32 := 0#32
  let v1652 : BitVec 32 := Scalar.addi v1651 c0_i32_442
  let v1653 : Index := Scalar.indexCast v1652
  ![v1653.toNat]
def k0_off10 (v1654 : BitVec 32) : Fin 2 → Nat :=
  let v1655 : Index := Scalar.indexCast v1654
  let c0_443 : Index := 0#32
  ![v1655.toNat, 0]

def k0_chk6 (v1654 : BitVec 32) : Prop :=
  (∀ a, (k0_off10 v1654) a + S1x768.size a ≤ S224x768.size a)
theorem k0_off10_inb : ∀ (v1654 : BitVec 32) (k0_hw6 : k0_chk6 v1654), ∀ a, (k0_off10 v1654) a + S1x768.size a ≤ S224x768.size a := fun v1654 k0_hw6 => k0_hw6

def k0_off11 (arg0 : BitVec 32) (v0 : BitVec 32) : Fin 1 → Nat :=
  let v1 : BitVec 32 := Scalar.addi v0 arg0
  let c32_i32_444 : BitVec 32 := 32#32
  let v1660 : BitVec 32 := Scalar.muli v1 c32_i32_444
  let c4_i32_445 : BitVec 32 := 4#32
  let v1661 : BitVec 32 := Scalar.addi v1660 c4_i32_445
  let c1_i32_446 : BitVec 32 := 1#32
  let v1662 : BitVec 32 := Scalar.addi v1661 c1_i32_446
  let v1663 : Index := Scalar.indexCast v1662
  ![v1663.toNat]
def k0_off12 (v1664 : BitVec 32) : Fin 2 → Nat :=
  let v1665 : Index := Scalar.indexCast v1664
  let c0_447 : Index := 0#32
  ![v1665.toNat, 0]

def k0_chk7 (v1664 : BitVec 32) : Prop :=
  (∀ a, (k0_off12 v1664) a + S1x768.size a ≤ S224x768.size a)
theorem k0_off12_inb : ∀ (v1664 : BitVec 32) (k0_hw7 : k0_chk7 v1664), ∀ a, (k0_off12 v1664) a + S1x768.size a ≤ S224x768.size a := fun v1664 k0_hw7 => k0_hw7

def k0_off13 (arg0 : BitVec 32) (v0 : BitVec 32) : Fin 1 → Nat :=
  let v1 : BitVec 32 := Scalar.addi v0 arg0
  let c32_i32_594 : BitVec 32 := 32#32
  let v2209 : BitVec 32 := Scalar.muli v1 c32_i32_594
  let c6_i32_595 : BitVec 32 := 6#32
  let v2210 : BitVec 32 := Scalar.addi v2209 c6_i32_595
  let c0_i32_596 : BitVec 32 := 0#32
  let v2211 : BitVec 32 := Scalar.addi v2210 c0_i32_596
  let v2212 : Index := Scalar.indexCast v2211
  ![v2212.toNat]
def k0_off14 (v2213 : BitVec 32) : Fin 2 → Nat :=
  let v2214 : Index := Scalar.indexCast v2213
  let c0_597 : Index := 0#32
  ![v2214.toNat, 0]

def k0_chk8 (v2213 : BitVec 32) : Prop :=
  (∀ a, (k0_off14 v2213) a + S1x768.size a ≤ S224x768.size a)
theorem k0_off14_inb : ∀ (v2213 : BitVec 32) (k0_hw8 : k0_chk8 v2213), ∀ a, (k0_off14 v2213) a + S1x768.size a ≤ S224x768.size a := fun v2213 k0_hw8 => k0_hw8

def k0_off15 (arg0 : BitVec 32) (v0 : BitVec 32) : Fin 1 → Nat :=
  let v1 : BitVec 32 := Scalar.addi v0 arg0
  let c32_i32_598 : BitVec 32 := 32#32
  let v2219 : BitVec 32 := Scalar.muli v1 c32_i32_598
  let c6_i32_599 : BitVec 32 := 6#32
  let v2220 : BitVec 32 := Scalar.addi v2219 c6_i32_599
  let c1_i32_600 : BitVec 32 := 1#32
  let v2221 : BitVec 32 := Scalar.addi v2220 c1_i32_600
  let v2222 : Index := Scalar.indexCast v2221
  ![v2222.toNat]
def k0_off16 (v2223 : BitVec 32) : Fin 2 → Nat :=
  let v2224 : Index := Scalar.indexCast v2223
  let c0_601 : Index := 0#32
  ![v2224.toNat, 0]

def k0_chk9 (v2223 : BitVec 32) : Prop :=
  (∀ a, (k0_off16 v2223) a + S1x768.size a ≤ S224x768.size a)
theorem k0_off16_inb : ∀ (v2223 : BitVec 32) (k0_hw9 : k0_chk9 v2223), ∀ a, (k0_off16 v2223) a + S1x768.size a ≤ S224x768.size a := fun v2223 k0_hw9 => k0_hw9

def k0_off17 (arg0 : BitVec 32) (v0 : BitVec 32) : Fin 1 → Nat :=
  let v1 : BitVec 32 := Scalar.addi v0 arg0
  let c32_i32_748 : BitVec 32 := 32#32
  let v2768 : BitVec 32 := Scalar.muli v1 c32_i32_748
  let c8_i32_749 : BitVec 32 := 8#32
  let v2769 : BitVec 32 := Scalar.addi v2768 c8_i32_749
  let c0_i32_750 : BitVec 32 := 0#32
  let v2770 : BitVec 32 := Scalar.addi v2769 c0_i32_750
  let v2771 : Index := Scalar.indexCast v2770
  ![v2771.toNat]
def k0_off18 (v2772 : BitVec 32) : Fin 2 → Nat :=
  let v2773 : Index := Scalar.indexCast v2772
  let c0_751 : Index := 0#32
  ![v2773.toNat, 0]

def k0_chk10 (v2772 : BitVec 32) : Prop :=
  (∀ a, (k0_off18 v2772) a + S1x768.size a ≤ S224x768.size a)
theorem k0_off18_inb : ∀ (v2772 : BitVec 32) (k0_hw10 : k0_chk10 v2772), ∀ a, (k0_off18 v2772) a + S1x768.size a ≤ S224x768.size a := fun v2772 k0_hw10 => k0_hw10

def k0_off19 (arg0 : BitVec 32) (v0 : BitVec 32) : Fin 1 → Nat :=
  let v1 : BitVec 32 := Scalar.addi v0 arg0
  let c32_i32_752 : BitVec 32 := 32#32
  let v2778 : BitVec 32 := Scalar.muli v1 c32_i32_752
  let c8_i32_753 : BitVec 32 := 8#32
  let v2779 : BitVec 32 := Scalar.addi v2778 c8_i32_753
  let c1_i32_754 : BitVec 32 := 1#32
  let v2780 : BitVec 32 := Scalar.addi v2779 c1_i32_754
  let v2781 : Index := Scalar.indexCast v2780
  ![v2781.toNat]
def k0_off20 (v2782 : BitVec 32) : Fin 2 → Nat :=
  let v2783 : Index := Scalar.indexCast v2782
  let c0_755 : Index := 0#32
  ![v2783.toNat, 0]

def k0_chk11 (v2782 : BitVec 32) : Prop :=
  (∀ a, (k0_off20 v2782) a + S1x768.size a ≤ S224x768.size a)
theorem k0_off20_inb : ∀ (v2782 : BitVec 32) (k0_hw11 : k0_chk11 v2782), ∀ a, (k0_off20 v2782) a + S1x768.size a ≤ S224x768.size a := fun v2782 k0_hw11 => k0_hw11

def k0_off21 (arg0 : BitVec 32) (v0 : BitVec 32) : Fin 1 → Nat :=
  let v1 : BitVec 32 := Scalar.addi v0 arg0
  let c32_i32_902 : BitVec 32 := 32#32
  let v3327 : BitVec 32 := Scalar.muli v1 c32_i32_902
  let c10_i32_903 : BitVec 32 := 10#32
  let v3328 : BitVec 32 := Scalar.addi v3327 c10_i32_903
  let c0_i32_904 : BitVec 32 := 0#32
  let v3329 : BitVec 32 := Scalar.addi v3328 c0_i32_904
  let v3330 : Index := Scalar.indexCast v3329
  ![v3330.toNat]
def k0_off22 (v3331 : BitVec 32) : Fin 2 → Nat :=
  let v3332 : Index := Scalar.indexCast v3331
  let c0_905 : Index := 0#32
  ![v3332.toNat, 0]

def k0_chk12 (v3331 : BitVec 32) : Prop :=
  (∀ a, (k0_off22 v3331) a + S1x768.size a ≤ S224x768.size a)
theorem k0_off22_inb : ∀ (v3331 : BitVec 32) (k0_hw12 : k0_chk12 v3331), ∀ a, (k0_off22 v3331) a + S1x768.size a ≤ S224x768.size a := fun v3331 k0_hw12 => k0_hw12

def k0_off23 (arg0 : BitVec 32) (v0 : BitVec 32) : Fin 1 → Nat :=
  let v1 : BitVec 32 := Scalar.addi v0 arg0
  let c32_i32_906 : BitVec 32 := 32#32
  let v3337 : BitVec 32 := Scalar.muli v1 c32_i32_906
  let c10_i32_907 : BitVec 32 := 10#32
  let v3338 : BitVec 32 := Scalar.addi v3337 c10_i32_907
  let c1_i32_908 : BitVec 32 := 1#32
  let v3339 : BitVec 32 := Scalar.addi v3338 c1_i32_908
  let v3340 : Index := Scalar.indexCast v3339
  ![v3340.toNat]
def k0_off24 (v3341 : BitVec 32) : Fin 2 → Nat :=
  let v3342 : Index := Scalar.indexCast v3341
  let c0_909 : Index := 0#32
  ![v3342.toNat, 0]

def k0_chk13 (v3341 : BitVec 32) : Prop :=
  (∀ a, (k0_off24 v3341) a + S1x768.size a ≤ S224x768.size a)
theorem k0_off24_inb : ∀ (v3341 : BitVec 32) (k0_hw13 : k0_chk13 v3341), ∀ a, (k0_off24 v3341) a + S1x768.size a ≤ S224x768.size a := fun v3341 k0_hw13 => k0_hw13

def k0_off25 (arg0 : BitVec 32) (v0 : BitVec 32) : Fin 1 → Nat :=
  let v1 : BitVec 32 := Scalar.addi v0 arg0
  let c32_i32_1056 : BitVec 32 := 32#32
  let v3886 : BitVec 32 := Scalar.muli v1 c32_i32_1056
  let c12_i32 : BitVec 32 := 12#32
  let v3887 : BitVec 32 := Scalar.addi v3886 c12_i32
  let c0_i32_1057 : BitVec 32 := 0#32
  let v3888 : BitVec 32 := Scalar.addi v3887 c0_i32_1057
  let v3889 : Index := Scalar.indexCast v3888
  ![v3889.toNat]
def k0_off26 (v3890 : BitVec 32) : Fin 2 → Nat :=
  let v3891 : Index := Scalar.indexCast v3890
  let c0_1058 : Index := 0#32
  ![v3891.toNat, 0]

def k0_chk14 (v3890 : BitVec 32) : Prop :=
  (∀ a, (k0_off26 v3890) a + S1x768.size a ≤ S224x768.size a)
theorem k0_off26_inb : ∀ (v3890 : BitVec 32) (k0_hw14 : k0_chk14 v3890), ∀ a, (k0_off26 v3890) a + S1x768.size a ≤ S224x768.size a := fun v3890 k0_hw14 => k0_hw14

def k0_off27 (arg0 : BitVec 32) (v0 : BitVec 32) : Fin 1 → Nat :=
  let v1 : BitVec 32 := Scalar.addi v0 arg0
  let c32_i32_1059 : BitVec 32 := 32#32
  let v3896 : BitVec 32 := Scalar.muli v1 c32_i32_1059
  let c12_i32_1060 : BitVec 32 := 12#32
  let v3897 : BitVec 32 := Scalar.addi v3896 c12_i32_1060
  let c1_i32_1061 : BitVec 32 := 1#32
  let v3898 : BitVec 32 := Scalar.addi v3897 c1_i32_1061
  let v3899 : Index := Scalar.indexCast v3898
  ![v3899.toNat]
def k0_off28 (v3900 : BitVec 32) : Fin 2 → Nat :=
  let v3901 : Index := Scalar.indexCast v3900
  let c0_1062 : Index := 0#32
  ![v3901.toNat, 0]

def k0_chk15 (v3900 : BitVec 32) : Prop :=
  (∀ a, (k0_off28 v3900) a + S1x768.size a ≤ S224x768.size a)
theorem k0_off28_inb : ∀ (v3900 : BitVec 32) (k0_hw15 : k0_chk15 v3900), ∀ a, (k0_off28 v3900) a + S1x768.size a ≤ S224x768.size a := fun v3900 k0_hw15 => k0_hw15

def k0_off29 (arg0 : BitVec 32) (v0 : BitVec 32) : Fin 1 → Nat :=
  let v1 : BitVec 32 := Scalar.addi v0 arg0
  let c32_i32_1209 : BitVec 32 := 32#32
  let v4445 : BitVec 32 := Scalar.muli v1 c32_i32_1209
  let c14_i32 : BitVec 32 := 14#32
  let v4446 : BitVec 32 := Scalar.addi v4445 c14_i32
  let c0_i32_1210 : BitVec 32 := 0#32
  let v4447 : BitVec 32 := Scalar.addi v4446 c0_i32_1210
  let v4448 : Index := Scalar.indexCast v4447
  ![v4448.toNat]
def k0_off30 (v4449 : BitVec 32) : Fin 2 → Nat :=
  let v4450 : Index := Scalar.indexCast v4449
  let c0_1211 : Index := 0#32
  ![v4450.toNat, 0]

def k0_chk16 (v4449 : BitVec 32) : Prop :=
  (∀ a, (k0_off30 v4449) a + S1x768.size a ≤ S224x768.size a)
theorem k0_off30_inb : ∀ (v4449 : BitVec 32) (k0_hw16 : k0_chk16 v4449), ∀ a, (k0_off30 v4449) a + S1x768.size a ≤ S224x768.size a := fun v4449 k0_hw16 => k0_hw16

def k0_off31 (arg0 : BitVec 32) (v0 : BitVec 32) : Fin 1 → Nat :=
  let v1 : BitVec 32 := Scalar.addi v0 arg0
  let c32_i32_1212 : BitVec 32 := 32#32
  let v4455 : BitVec 32 := Scalar.muli v1 c32_i32_1212
  let c14_i32_1213 : BitVec 32 := 14#32
  let v4456 : BitVec 32 := Scalar.addi v4455 c14_i32_1213
  let c1_i32_1214 : BitVec 32 := 1#32
  let v4457 : BitVec 32 := Scalar.addi v4456 c1_i32_1214
  let v4458 : Index := Scalar.indexCast v4457
  ![v4458.toNat]
def k0_off32 (v4459 : BitVec 32) : Fin 2 → Nat :=
  let v4460 : Index := Scalar.indexCast v4459
  let c0_1215 : Index := 0#32
  ![v4460.toNat, 0]

def k0_chk17 (v4459 : BitVec 32) : Prop :=
  (∀ a, (k0_off32 v4459) a + S1x768.size a ≤ S224x768.size a)
theorem k0_off32_inb : ∀ (v4459 : BitVec 32) (k0_hw17 : k0_chk17 v4459), ∀ a, (k0_off32 v4459) a + S1x768.size a ≤ S224x768.size a := fun v4459 k0_hw17 => k0_hw17

def k0_off33 (arg0 : BitVec 32) (v0 : BitVec 32) : Fin 1 → Nat :=
  let v1 : BitVec 32 := Scalar.addi v0 arg0
  let c32_i32_1362 : BitVec 32 := 32#32
  let v5004 : BitVec 32 := Scalar.muli v1 c32_i32_1362
  let c16_i32_1363 : BitVec 32 := 16#32
  let v5005 : BitVec 32 := Scalar.addi v5004 c16_i32_1363
  let c0_i32_1364 : BitVec 32 := 0#32
  let v5006 : BitVec 32 := Scalar.addi v5005 c0_i32_1364
  let v5007 : Index := Scalar.indexCast v5006
  ![v5007.toNat]
def k0_off34 (v5008 : BitVec 32) : Fin 2 → Nat :=
  let v5009 : Index := Scalar.indexCast v5008
  let c0_1365 : Index := 0#32
  ![v5009.toNat, 0]

def k0_chk18 (v5008 : BitVec 32) : Prop :=
  (∀ a, (k0_off34 v5008) a + S1x768.size a ≤ S224x768.size a)
theorem k0_off34_inb : ∀ (v5008 : BitVec 32) (k0_hw18 : k0_chk18 v5008), ∀ a, (k0_off34 v5008) a + S1x768.size a ≤ S224x768.size a := fun v5008 k0_hw18 => k0_hw18

def k0_off35 (arg0 : BitVec 32) (v0 : BitVec 32) : Fin 1 → Nat :=
  let v1 : BitVec 32 := Scalar.addi v0 arg0
  let c32_i32_1366 : BitVec 32 := 32#32
  let v5014 : BitVec 32 := Scalar.muli v1 c32_i32_1366
  let c16_i32_1367 : BitVec 32 := 16#32
  let v5015 : BitVec 32 := Scalar.addi v5014 c16_i32_1367
  let c1_i32_1368 : BitVec 32 := 1#32
  let v5016 : BitVec 32 := Scalar.addi v5015 c1_i32_1368
  let v5017 : Index := Scalar.indexCast v5016
  ![v5017.toNat]
def k0_off36 (v5018 : BitVec 32) : Fin 2 → Nat :=
  let v5019 : Index := Scalar.indexCast v5018
  let c0_1369 : Index := 0#32
  ![v5019.toNat, 0]

def k0_chk19 (v5018 : BitVec 32) : Prop :=
  (∀ a, (k0_off36 v5018) a + S1x768.size a ≤ S224x768.size a)
theorem k0_off36_inb : ∀ (v5018 : BitVec 32) (k0_hw19 : k0_chk19 v5018), ∀ a, (k0_off36 v5018) a + S1x768.size a ≤ S224x768.size a := fun v5018 k0_hw19 => k0_hw19

def k0_off37 (arg0 : BitVec 32) (v0 : BitVec 32) : Fin 1 → Nat :=
  let v1 : BitVec 32 := Scalar.addi v0 arg0
  let c32_i32_1516 : BitVec 32 := 32#32
  let v5563 : BitVec 32 := Scalar.muli v1 c32_i32_1516
  let c18_i32 : BitVec 32 := 18#32
  let v5564 : BitVec 32 := Scalar.addi v5563 c18_i32
  let c0_i32_1517 : BitVec 32 := 0#32
  let v5565 : BitVec 32 := Scalar.addi v5564 c0_i32_1517
  let v5566 : Index := Scalar.indexCast v5565
  ![v5566.toNat]
def k0_off38 (v5567 : BitVec 32) : Fin 2 → Nat :=
  let v5568 : Index := Scalar.indexCast v5567
  let c0_1518 : Index := 0#32
  ![v5568.toNat, 0]

def k0_chk20 (v5567 : BitVec 32) : Prop :=
  (∀ a, (k0_off38 v5567) a + S1x768.size a ≤ S224x768.size a)
theorem k0_off38_inb : ∀ (v5567 : BitVec 32) (k0_hw20 : k0_chk20 v5567), ∀ a, (k0_off38 v5567) a + S1x768.size a ≤ S224x768.size a := fun v5567 k0_hw20 => k0_hw20

def k0_off39 (arg0 : BitVec 32) (v0 : BitVec 32) : Fin 1 → Nat :=
  let v1 : BitVec 32 := Scalar.addi v0 arg0
  let c32_i32_1519 : BitVec 32 := 32#32
  let v5573 : BitVec 32 := Scalar.muli v1 c32_i32_1519
  let c18_i32_1520 : BitVec 32 := 18#32
  let v5574 : BitVec 32 := Scalar.addi v5573 c18_i32_1520
  let c1_i32_1521 : BitVec 32 := 1#32
  let v5575 : BitVec 32 := Scalar.addi v5574 c1_i32_1521
  let v5576 : Index := Scalar.indexCast v5575
  ![v5576.toNat]
def k0_off40 (v5577 : BitVec 32) : Fin 2 → Nat :=
  let v5578 : Index := Scalar.indexCast v5577
  let c0_1522 : Index := 0#32
  ![v5578.toNat, 0]

def k0_chk21 (v5577 : BitVec 32) : Prop :=
  (∀ a, (k0_off40 v5577) a + S1x768.size a ≤ S224x768.size a)
theorem k0_off40_inb : ∀ (v5577 : BitVec 32) (k0_hw21 : k0_chk21 v5577), ∀ a, (k0_off40 v5577) a + S1x768.size a ≤ S224x768.size a := fun v5577 k0_hw21 => k0_hw21

def k0_off41 (arg0 : BitVec 32) (v0 : BitVec 32) : Fin 1 → Nat :=
  let v1 : BitVec 32 := Scalar.addi v0 arg0
  let c32_i32_1669 : BitVec 32 := 32#32
  let v6122 : BitVec 32 := Scalar.muli v1 c32_i32_1669
  let c20_i32 : BitVec 32 := 20#32
  let v6123 : BitVec 32 := Scalar.addi v6122 c20_i32
  let c0_i32_1670 : BitVec 32 := 0#32
  let v6124 : BitVec 32 := Scalar.addi v6123 c0_i32_1670
  let v6125 : Index := Scalar.indexCast v6124
  ![v6125.toNat]
def k0_off42 (v6126 : BitVec 32) : Fin 2 → Nat :=
  let v6127 : Index := Scalar.indexCast v6126
  let c0_1671 : Index := 0#32
  ![v6127.toNat, 0]

def k0_chk22 (v6126 : BitVec 32) : Prop :=
  (∀ a, (k0_off42 v6126) a + S1x768.size a ≤ S224x768.size a)
theorem k0_off42_inb : ∀ (v6126 : BitVec 32) (k0_hw22 : k0_chk22 v6126), ∀ a, (k0_off42 v6126) a + S1x768.size a ≤ S224x768.size a := fun v6126 k0_hw22 => k0_hw22

def k0_off43 (arg0 : BitVec 32) (v0 : BitVec 32) : Fin 1 → Nat :=
  let v1 : BitVec 32 := Scalar.addi v0 arg0
  let c32_i32_1672 : BitVec 32 := 32#32
  let v6132 : BitVec 32 := Scalar.muli v1 c32_i32_1672
  let c20_i32_1673 : BitVec 32 := 20#32
  let v6133 : BitVec 32 := Scalar.addi v6132 c20_i32_1673
  let c1_i32_1674 : BitVec 32 := 1#32
  let v6134 : BitVec 32 := Scalar.addi v6133 c1_i32_1674
  let v6135 : Index := Scalar.indexCast v6134
  ![v6135.toNat]
def k0_off44 (v6136 : BitVec 32) : Fin 2 → Nat :=
  let v6137 : Index := Scalar.indexCast v6136
  let c0_1675 : Index := 0#32
  ![v6137.toNat, 0]

def k0_chk23 (v6136 : BitVec 32) : Prop :=
  (∀ a, (k0_off44 v6136) a + S1x768.size a ≤ S224x768.size a)
theorem k0_off44_inb : ∀ (v6136 : BitVec 32) (k0_hw23 : k0_chk23 v6136), ∀ a, (k0_off44 v6136) a + S1x768.size a ≤ S224x768.size a := fun v6136 k0_hw23 => k0_hw23

def k0_off45 (arg0 : BitVec 32) (v0 : BitVec 32) : Fin 1 → Nat :=
  let v1 : BitVec 32 := Scalar.addi v0 arg0
  let c32_i32_1822 : BitVec 32 := 32#32
  let v6681 : BitVec 32 := Scalar.muli v1 c32_i32_1822
  let c22_i32 : BitVec 32 := 22#32
  let v6682 : BitVec 32 := Scalar.addi v6681 c22_i32
  let c0_i32_1823 : BitVec 32 := 0#32
  let v6683 : BitVec 32 := Scalar.addi v6682 c0_i32_1823
  let v6684 : Index := Scalar.indexCast v6683
  ![v6684.toNat]
def k0_off46 (v6685 : BitVec 32) : Fin 2 → Nat :=
  let v6686 : Index := Scalar.indexCast v6685
  let c0_1824 : Index := 0#32
  ![v6686.toNat, 0]

def k0_chk24 (v6685 : BitVec 32) : Prop :=
  (∀ a, (k0_off46 v6685) a + S1x768.size a ≤ S224x768.size a)
theorem k0_off46_inb : ∀ (v6685 : BitVec 32) (k0_hw24 : k0_chk24 v6685), ∀ a, (k0_off46 v6685) a + S1x768.size a ≤ S224x768.size a := fun v6685 k0_hw24 => k0_hw24

def k0_off47 (arg0 : BitVec 32) (v0 : BitVec 32) : Fin 1 → Nat :=
  let v1 : BitVec 32 := Scalar.addi v0 arg0
  let c32_i32_1825 : BitVec 32 := 32#32
  let v6691 : BitVec 32 := Scalar.muli v1 c32_i32_1825
  let c22_i32_1826 : BitVec 32 := 22#32
  let v6692 : BitVec 32 := Scalar.addi v6691 c22_i32_1826
  let c1_i32_1827 : BitVec 32 := 1#32
  let v6693 : BitVec 32 := Scalar.addi v6692 c1_i32_1827
  let v6694 : Index := Scalar.indexCast v6693
  ![v6694.toNat]
def k0_off48 (v6695 : BitVec 32) : Fin 2 → Nat :=
  let v6696 : Index := Scalar.indexCast v6695
  let c0_1828 : Index := 0#32
  ![v6696.toNat, 0]

def k0_chk25 (v6695 : BitVec 32) : Prop :=
  (∀ a, (k0_off48 v6695) a + S1x768.size a ≤ S224x768.size a)
theorem k0_off48_inb : ∀ (v6695 : BitVec 32) (k0_hw25 : k0_chk25 v6695), ∀ a, (k0_off48 v6695) a + S1x768.size a ≤ S224x768.size a := fun v6695 k0_hw25 => k0_hw25

def k0_off49 (arg0 : BitVec 32) (v0 : BitVec 32) : Fin 1 → Nat :=
  let v1 : BitVec 32 := Scalar.addi v0 arg0
  let c32_i32_1975 : BitVec 32 := 32#32
  let v7240 : BitVec 32 := Scalar.muli v1 c32_i32_1975
  let c24_i32 : BitVec 32 := 24#32
  let v7241 : BitVec 32 := Scalar.addi v7240 c24_i32
  let c0_i32_1976 : BitVec 32 := 0#32
  let v7242 : BitVec 32 := Scalar.addi v7241 c0_i32_1976
  let v7243 : Index := Scalar.indexCast v7242
  ![v7243.toNat]
def k0_off50 (v7244 : BitVec 32) : Fin 2 → Nat :=
  let v7245 : Index := Scalar.indexCast v7244
  let c0_1977 : Index := 0#32
  ![v7245.toNat, 0]

def k0_chk26 (v7244 : BitVec 32) : Prop :=
  (∀ a, (k0_off50 v7244) a + S1x768.size a ≤ S224x768.size a)
theorem k0_off50_inb : ∀ (v7244 : BitVec 32) (k0_hw26 : k0_chk26 v7244), ∀ a, (k0_off50 v7244) a + S1x768.size a ≤ S224x768.size a := fun v7244 k0_hw26 => k0_hw26

def k0_off51 (arg0 : BitVec 32) (v0 : BitVec 32) : Fin 1 → Nat :=
  let v1 : BitVec 32 := Scalar.addi v0 arg0
  let c32_i32_1978 : BitVec 32 := 32#32
  let v7250 : BitVec 32 := Scalar.muli v1 c32_i32_1978
  let c24_i32_1979 : BitVec 32 := 24#32
  let v7251 : BitVec 32 := Scalar.addi v7250 c24_i32_1979
  let c1_i32_1980 : BitVec 32 := 1#32
  let v7252 : BitVec 32 := Scalar.addi v7251 c1_i32_1980
  let v7253 : Index := Scalar.indexCast v7252
  ![v7253.toNat]
def k0_off52 (v7254 : BitVec 32) : Fin 2 → Nat :=
  let v7255 : Index := Scalar.indexCast v7254
  let c0_1981 : Index := 0#32
  ![v7255.toNat, 0]

def k0_chk27 (v7254 : BitVec 32) : Prop :=
  (∀ a, (k0_off52 v7254) a + S1x768.size a ≤ S224x768.size a)
theorem k0_off52_inb : ∀ (v7254 : BitVec 32) (k0_hw27 : k0_chk27 v7254), ∀ a, (k0_off52 v7254) a + S1x768.size a ≤ S224x768.size a := fun v7254 k0_hw27 => k0_hw27

def k0_off53 (arg0 : BitVec 32) (v0 : BitVec 32) : Fin 1 → Nat :=
  let v1 : BitVec 32 := Scalar.addi v0 arg0
  let c32_i32_2128 : BitVec 32 := 32#32
  let v7799 : BitVec 32 := Scalar.muli v1 c32_i32_2128
  let c26_i32 : BitVec 32 := 26#32
  let v7800 : BitVec 32 := Scalar.addi v7799 c26_i32
  let c0_i32_2129 : BitVec 32 := 0#32
  let v7801 : BitVec 32 := Scalar.addi v7800 c0_i32_2129
  let v7802 : Index := Scalar.indexCast v7801
  ![v7802.toNat]
def k0_off54 (v7803 : BitVec 32) : Fin 2 → Nat :=
  let v7804 : Index := Scalar.indexCast v7803
  let c0_2130 : Index := 0#32
  ![v7804.toNat, 0]

def k0_chk28 (v7803 : BitVec 32) : Prop :=
  (∀ a, (k0_off54 v7803) a + S1x768.size a ≤ S224x768.size a)
theorem k0_off54_inb : ∀ (v7803 : BitVec 32) (k0_hw28 : k0_chk28 v7803), ∀ a, (k0_off54 v7803) a + S1x768.size a ≤ S224x768.size a := fun v7803 k0_hw28 => k0_hw28

def k0_off55 (arg0 : BitVec 32) (v0 : BitVec 32) : Fin 1 → Nat :=
  let v1 : BitVec 32 := Scalar.addi v0 arg0
  let c32_i32_2131 : BitVec 32 := 32#32
  let v7809 : BitVec 32 := Scalar.muli v1 c32_i32_2131
  let c26_i32_2132 : BitVec 32 := 26#32
  let v7810 : BitVec 32 := Scalar.addi v7809 c26_i32_2132
  let c1_i32_2133 : BitVec 32 := 1#32
  let v7811 : BitVec 32 := Scalar.addi v7810 c1_i32_2133
  let v7812 : Index := Scalar.indexCast v7811
  ![v7812.toNat]
def k0_off56 (v7813 : BitVec 32) : Fin 2 → Nat :=
  let v7814 : Index := Scalar.indexCast v7813
  let c0_2134 : Index := 0#32
  ![v7814.toNat, 0]

def k0_chk29 (v7813 : BitVec 32) : Prop :=
  (∀ a, (k0_off56 v7813) a + S1x768.size a ≤ S224x768.size a)
theorem k0_off56_inb : ∀ (v7813 : BitVec 32) (k0_hw29 : k0_chk29 v7813), ∀ a, (k0_off56 v7813) a + S1x768.size a ≤ S224x768.size a := fun v7813 k0_hw29 => k0_hw29

def k0_off57 (arg0 : BitVec 32) (v0 : BitVec 32) : Fin 1 → Nat :=
  let v1 : BitVec 32 := Scalar.addi v0 arg0
  let c32_i32_2281 : BitVec 32 := 32#32
  let v8358 : BitVec 32 := Scalar.muli v1 c32_i32_2281
  let c28_i32 : BitVec 32 := 28#32
  let v8359 : BitVec 32 := Scalar.addi v8358 c28_i32
  let c0_i32_2282 : BitVec 32 := 0#32
  let v8360 : BitVec 32 := Scalar.addi v8359 c0_i32_2282
  let v8361 : Index := Scalar.indexCast v8360
  ![v8361.toNat]
def k0_off58 (v8362 : BitVec 32) : Fin 2 → Nat :=
  let v8363 : Index := Scalar.indexCast v8362
  let c0_2283 : Index := 0#32
  ![v8363.toNat, 0]

def k0_chk30 (v8362 : BitVec 32) : Prop :=
  (∀ a, (k0_off58 v8362) a + S1x768.size a ≤ S224x768.size a)
theorem k0_off58_inb : ∀ (v8362 : BitVec 32) (k0_hw30 : k0_chk30 v8362), ∀ a, (k0_off58 v8362) a + S1x768.size a ≤ S224x768.size a := fun v8362 k0_hw30 => k0_hw30

def k0_off59 (arg0 : BitVec 32) (v0 : BitVec 32) : Fin 1 → Nat :=
  let v1 : BitVec 32 := Scalar.addi v0 arg0
  let c32_i32_2284 : BitVec 32 := 32#32
  let v8368 : BitVec 32 := Scalar.muli v1 c32_i32_2284
  let c28_i32_2285 : BitVec 32 := 28#32
  let v8369 : BitVec 32 := Scalar.addi v8368 c28_i32_2285
  let c1_i32_2286 : BitVec 32 := 1#32
  let v8370 : BitVec 32 := Scalar.addi v8369 c1_i32_2286
  let v8371 : Index := Scalar.indexCast v8370
  ![v8371.toNat]
def k0_off60 (v8372 : BitVec 32) : Fin 2 → Nat :=
  let v8373 : Index := Scalar.indexCast v8372
  let c0_2287 : Index := 0#32
  ![v8373.toNat, 0]

def k0_chk31 (v8372 : BitVec 32) : Prop :=
  (∀ a, (k0_off60 v8372) a + S1x768.size a ≤ S224x768.size a)
theorem k0_off60_inb : ∀ (v8372 : BitVec 32) (k0_hw31 : k0_chk31 v8372), ∀ a, (k0_off60 v8372) a + S1x768.size a ≤ S224x768.size a := fun v8372 k0_hw31 => k0_hw31

def k0_off61 (arg0 : BitVec 32) (v0 : BitVec 32) : Fin 1 → Nat :=
  let v1 : BitVec 32 := Scalar.addi v0 arg0
  let c32_i32_2434 : BitVec 32 := 32#32
  let v8917 : BitVec 32 := Scalar.muli v1 c32_i32_2434
  let c30_i32 : BitVec 32 := 30#32
  let v8918 : BitVec 32 := Scalar.addi v8917 c30_i32
  let c0_i32_2435 : BitVec 32 := 0#32
  let v8919 : BitVec 32 := Scalar.addi v8918 c0_i32_2435
  let v8920 : Index := Scalar.indexCast v8919
  ![v8920.toNat]
def k0_off62 (v8921 : BitVec 32) : Fin 2 → Nat :=
  let v8922 : Index := Scalar.indexCast v8921
  let c0_2436 : Index := 0#32
  ![v8922.toNat, 0]

def k0_chk32 (v8921 : BitVec 32) : Prop :=
  (∀ a, (k0_off62 v8921) a + S1x768.size a ≤ S224x768.size a)
theorem k0_off62_inb : ∀ (v8921 : BitVec 32) (k0_hw32 : k0_chk32 v8921), ∀ a, (k0_off62 v8921) a + S1x768.size a ≤ S224x768.size a := fun v8921 k0_hw32 => k0_hw32

def k0_off63 (arg0 : BitVec 32) (v0 : BitVec 32) : Fin 1 → Nat :=
  let v1 : BitVec 32 := Scalar.addi v0 arg0
  let c32_i32_2437 : BitVec 32 := 32#32
  let v8927 : BitVec 32 := Scalar.muli v1 c32_i32_2437
  let c30_i32_2438 : BitVec 32 := 30#32
  let v8928 : BitVec 32 := Scalar.addi v8927 c30_i32_2438
  let c1_i32_2439 : BitVec 32 := 1#32
  let v8929 : BitVec 32 := Scalar.addi v8928 c1_i32_2439
  let v8930 : Index := Scalar.indexCast v8929
  ![v8930.toNat]
def k0_off64 (v8931 : BitVec 32) : Fin 2 → Nat :=
  let v8932 : Index := Scalar.indexCast v8931
  let c0_2440 : Index := 0#32
  ![v8932.toNat, 0]

def k0_chk33 (v8931 : BitVec 32) : Prop :=
  (∀ a, (k0_off64 v8931) a + S1x768.size a ≤ S224x768.size a)
theorem k0_off64_inb : ∀ (v8931 : BitVec 32) (k0_hw33 : k0_chk33 v8931), ∀ a, (k0_off64 v8931) a + S1x768.size a ≤ S224x768.size a := fun v8931 k0_hw33 => k0_hw33

def k0_off65 (arg0 : BitVec 32) (v0 : BitVec 32) : Fin 1 → Nat :=
  let v1 : BitVec 32 := Scalar.addi v0 arg0
  let c32_i32_2455 : BitVec 32 := 32#32
  let v8956 : BitVec 32 := Scalar.muli v1 c32_i32_2455
  let c0_i32_2456 : BitVec 32 := 0#32
  let v8957 : BitVec 32 := Scalar.addi v8956 c0_i32_2456
  let c0_i32_2457 : BitVec 32 := 0#32
  let v8958 : BitVec 32 := Scalar.addi v8957 c0_i32_2457
  let v8959 : Index := Scalar.indexCast v8958
  ![v8959.toNat]
def k0_off66 (v8960 : BitVec 32) : Fin 2 → Nat :=
  let v8962 : Index := Scalar.indexCast v8960
  let c0_2458 : Index := 0#32
  ![v8962.toNat, 0]

def k0_chk34 (v8960 : BitVec 32) : Prop :=
  (∀ a, (k0_off66 v8960) a + S1x512.size a ≤ S224x512.size a)
theorem k0_off66_inb : ∀ (v8960 : BitVec 32) (k0_hw34 : k0_chk34 v8960), ∀ a, (k0_off66 v8960) a + S1x512.size a ≤ S224x512.size a := fun v8960 k0_hw34 => k0_hw34

def k0_off67 (arg0 : BitVec 32) (v0 : BitVec 32) : Fin 1 → Nat :=
  let v1 : BitVec 32 := Scalar.addi v0 arg0
  let c32_i32_2464 : BitVec 32 := 32#32
  let v8977 : BitVec 32 := Scalar.muli v1 c32_i32_2464
  let c0_i32_2465 : BitVec 32 := 0#32
  let v8978 : BitVec 32 := Scalar.addi v8977 c0_i32_2465
  let c1_i32_2466 : BitVec 32 := 1#32
  let v8979 : BitVec 32 := Scalar.addi v8978 c1_i32_2466
  let v8980 : Index := Scalar.indexCast v8979
  ![v8980.toNat]
def k0_off68 (v8981 : BitVec 32) : Fin 2 → Nat :=
  let v8983 : Index := Scalar.indexCast v8981
  let c0_2467 : Index := 0#32
  ![v8983.toNat, 0]

def k0_chk35 (v8981 : BitVec 32) : Prop :=
  (∀ a, (k0_off68 v8981) a + S1x512.size a ≤ S224x512.size a)
theorem k0_off68_inb : ∀ (v8981 : BitVec 32) (k0_hw35 : k0_chk35 v8981), ∀ a, (k0_off68 v8981) a + S1x512.size a ≤ S224x512.size a := fun v8981 k0_hw35 => k0_hw35

def k0_off69 (arg0 : BitVec 32) (v0 : BitVec 32) : Fin 1 → Nat :=
  let v1 : BitVec 32 := Scalar.addi v0 arg0
  let c32_i32_2472 : BitVec 32 := 32#32
  let v8998 : BitVec 32 := Scalar.muli v1 c32_i32_2472
  let c0_i32_2473 : BitVec 32 := 0#32
  let v8999 : BitVec 32 := Scalar.addi v8998 c0_i32_2473
  let c2_i32_2474 : BitVec 32 := 2#32
  let v9000 : BitVec 32 := Scalar.addi v8999 c2_i32_2474
  let v9001 : Index := Scalar.indexCast v9000
  ![v9001.toNat]
def k0_off70 (v9002 : BitVec 32) : Fin 2 → Nat :=
  let v9004 : Index := Scalar.indexCast v9002
  let c0_2475 : Index := 0#32
  ![v9004.toNat, 0]

def k0_chk36 (v9002 : BitVec 32) : Prop :=
  (∀ a, (k0_off70 v9002) a + S1x512.size a ≤ S224x512.size a)
theorem k0_off70_inb : ∀ (v9002 : BitVec 32) (k0_hw36 : k0_chk36 v9002), ∀ a, (k0_off70 v9002) a + S1x512.size a ≤ S224x512.size a := fun v9002 k0_hw36 => k0_hw36

def k0_off71 (arg0 : BitVec 32) (v0 : BitVec 32) : Fin 1 → Nat :=
  let v1 : BitVec 32 := Scalar.addi v0 arg0
  let c32_i32_2481 : BitVec 32 := 32#32
  let v9019 : BitVec 32 := Scalar.muli v1 c32_i32_2481
  let c0_i32_2482 : BitVec 32 := 0#32
  let v9020 : BitVec 32 := Scalar.addi v9019 c0_i32_2482
  let c3_i32 : BitVec 32 := 3#32
  let v9021 : BitVec 32 := Scalar.addi v9020 c3_i32
  let v9022 : Index := Scalar.indexCast v9021
  ![v9022.toNat]
def k0_off72 (v9023 : BitVec 32) : Fin 2 → Nat :=
  let v9025 : Index := Scalar.indexCast v9023
  let c0_2483 : Index := 0#32
  ![v9025.toNat, 0]

def k0_chk37 (v9023 : BitVec 32) : Prop :=
  (∀ a, (k0_off72 v9023) a + S1x512.size a ≤ S224x512.size a)
theorem k0_off72_inb : ∀ (v9023 : BitVec 32) (k0_hw37 : k0_chk37 v9023), ∀ a, (k0_off72 v9023) a + S1x512.size a ≤ S224x512.size a := fun v9023 k0_hw37 => k0_hw37

def k0_off73 (arg0 : BitVec 32) (v0 : BitVec 32) : Fin 1 → Nat :=
  let v1 : BitVec 32 := Scalar.addi v0 arg0
  let c32_i32_2488 : BitVec 32 := 32#32
  let v9040 : BitVec 32 := Scalar.muli v1 c32_i32_2488
  let c0_i32_2489 : BitVec 32 := 0#32
  let v9041 : BitVec 32 := Scalar.addi v9040 c0_i32_2489
  let c4_i32_2490 : BitVec 32 := 4#32
  let v9042 : BitVec 32 := Scalar.addi v9041 c4_i32_2490
  let v9043 : Index := Scalar.indexCast v9042
  ![v9043.toNat]
def k0_off74 (v9044 : BitVec 32) : Fin 2 → Nat :=
  let v9046 : Index := Scalar.indexCast v9044
  let c0_2491 : Index := 0#32
  ![v9046.toNat, 0]

def k0_chk38 (v9044 : BitVec 32) : Prop :=
  (∀ a, (k0_off74 v9044) a + S1x512.size a ≤ S224x512.size a)
theorem k0_off74_inb : ∀ (v9044 : BitVec 32) (k0_hw38 : k0_chk38 v9044), ∀ a, (k0_off74 v9044) a + S1x512.size a ≤ S224x512.size a := fun v9044 k0_hw38 => k0_hw38

def k0_off75 (arg0 : BitVec 32) (v0 : BitVec 32) : Fin 1 → Nat :=
  let v1 : BitVec 32 := Scalar.addi v0 arg0
  let c32_i32_2497 : BitVec 32 := 32#32
  let v9061 : BitVec 32 := Scalar.muli v1 c32_i32_2497
  let c0_i32_2498 : BitVec 32 := 0#32
  let v9062 : BitVec 32 := Scalar.addi v9061 c0_i32_2498
  let c5_i32 : BitVec 32 := 5#32
  let v9063 : BitVec 32 := Scalar.addi v9062 c5_i32
  let v9064 : Index := Scalar.indexCast v9063
  ![v9064.toNat]
def k0_off76 (v9065 : BitVec 32) : Fin 2 → Nat :=
  let v9067 : Index := Scalar.indexCast v9065
  let c0_2499 : Index := 0#32
  ![v9067.toNat, 0]

def k0_chk39 (v9065 : BitVec 32) : Prop :=
  (∀ a, (k0_off76 v9065) a + S1x512.size a ≤ S224x512.size a)
theorem k0_off76_inb : ∀ (v9065 : BitVec 32) (k0_hw39 : k0_chk39 v9065), ∀ a, (k0_off76 v9065) a + S1x512.size a ≤ S224x512.size a := fun v9065 k0_hw39 => k0_hw39

def k0_off77 (arg0 : BitVec 32) (v0 : BitVec 32) : Fin 1 → Nat :=
  let v1 : BitVec 32 := Scalar.addi v0 arg0
  let c32_i32_2504 : BitVec 32 := 32#32
  let v9082 : BitVec 32 := Scalar.muli v1 c32_i32_2504
  let c0_i32_2505 : BitVec 32 := 0#32
  let v9083 : BitVec 32 := Scalar.addi v9082 c0_i32_2505
  let c6_i32_2506 : BitVec 32 := 6#32
  let v9084 : BitVec 32 := Scalar.addi v9083 c6_i32_2506
  let v9085 : Index := Scalar.indexCast v9084
  ![v9085.toNat]
def k0_off78 (v9086 : BitVec 32) : Fin 2 → Nat :=
  let v9088 : Index := Scalar.indexCast v9086
  let c0_2507 : Index := 0#32
  ![v9088.toNat, 0]

def k0_chk40 (v9086 : BitVec 32) : Prop :=
  (∀ a, (k0_off78 v9086) a + S1x512.size a ≤ S224x512.size a)
theorem k0_off78_inb : ∀ (v9086 : BitVec 32) (k0_hw40 : k0_chk40 v9086), ∀ a, (k0_off78 v9086) a + S1x512.size a ≤ S224x512.size a := fun v9086 k0_hw40 => k0_hw40

def k0_off79 (arg0 : BitVec 32) (v0 : BitVec 32) : Fin 1 → Nat :=
  let v1 : BitVec 32 := Scalar.addi v0 arg0
  let c32_i32_2513 : BitVec 32 := 32#32
  let v9103 : BitVec 32 := Scalar.muli v1 c32_i32_2513
  let c0_i32_2514 : BitVec 32 := 0#32
  let v9104 : BitVec 32 := Scalar.addi v9103 c0_i32_2514
  let c7_i32 : BitVec 32 := 7#32
  let v9105 : BitVec 32 := Scalar.addi v9104 c7_i32
  let v9106 : Index := Scalar.indexCast v9105
  ![v9106.toNat]
def k0_off80 (v9107 : BitVec 32) : Fin 2 → Nat :=
  let v9109 : Index := Scalar.indexCast v9107
  let c0_2515 : Index := 0#32
  ![v9109.toNat, 0]

def k0_chk41 (v9107 : BitVec 32) : Prop :=
  (∀ a, (k0_off80 v9107) a + S1x512.size a ≤ S224x512.size a)
theorem k0_off80_inb : ∀ (v9107 : BitVec 32) (k0_hw41 : k0_chk41 v9107), ∀ a, (k0_off80 v9107) a + S1x512.size a ≤ S224x512.size a := fun v9107 k0_hw41 => k0_hw41

def k0_off81 (arg0 : BitVec 32) (v0 : BitVec 32) : Fin 1 → Nat :=
  let v1 : BitVec 32 := Scalar.addi v0 arg0
  let c32_i32_2520 : BitVec 32 := 32#32
  let v9124 : BitVec 32 := Scalar.muli v1 c32_i32_2520
  let c0_i32_2521 : BitVec 32 := 0#32
  let v9125 : BitVec 32 := Scalar.addi v9124 c0_i32_2521
  let c8_i32_2522 : BitVec 32 := 8#32
  let v9126 : BitVec 32 := Scalar.addi v9125 c8_i32_2522
  let v9127 : Index := Scalar.indexCast v9126
  ![v9127.toNat]
def k0_off82 (v9128 : BitVec 32) : Fin 2 → Nat :=
  let v9130 : Index := Scalar.indexCast v9128
  let c0_2523 : Index := 0#32
  ![v9130.toNat, 0]

def k0_chk42 (v9128 : BitVec 32) : Prop :=
  (∀ a, (k0_off82 v9128) a + S1x512.size a ≤ S224x512.size a)
theorem k0_off82_inb : ∀ (v9128 : BitVec 32) (k0_hw42 : k0_chk42 v9128), ∀ a, (k0_off82 v9128) a + S1x512.size a ≤ S224x512.size a := fun v9128 k0_hw42 => k0_hw42

def k0_off83 (arg0 : BitVec 32) (v0 : BitVec 32) : Fin 1 → Nat :=
  let v1 : BitVec 32 := Scalar.addi v0 arg0
  let c32_i32_2529 : BitVec 32 := 32#32
  let v9145 : BitVec 32 := Scalar.muli v1 c32_i32_2529
  let c0_i32_2530 : BitVec 32 := 0#32
  let v9146 : BitVec 32 := Scalar.addi v9145 c0_i32_2530
  let c9_i32 : BitVec 32 := 9#32
  let v9147 : BitVec 32 := Scalar.addi v9146 c9_i32
  let v9148 : Index := Scalar.indexCast v9147
  ![v9148.toNat]
def k0_off84 (v9149 : BitVec 32) : Fin 2 → Nat :=
  let v9151 : Index := Scalar.indexCast v9149
  let c0_2531 : Index := 0#32
  ![v9151.toNat, 0]

def k0_chk43 (v9149 : BitVec 32) : Prop :=
  (∀ a, (k0_off84 v9149) a + S1x512.size a ≤ S224x512.size a)
theorem k0_off84_inb : ∀ (v9149 : BitVec 32) (k0_hw43 : k0_chk43 v9149), ∀ a, (k0_off84 v9149) a + S1x512.size a ≤ S224x512.size a := fun v9149 k0_hw43 => k0_hw43

def k0_off85 (arg0 : BitVec 32) (v0 : BitVec 32) : Fin 1 → Nat :=
  let v1 : BitVec 32 := Scalar.addi v0 arg0
  let c32_i32_2536 : BitVec 32 := 32#32
  let v9166 : BitVec 32 := Scalar.muli v1 c32_i32_2536
  let c0_i32_2537 : BitVec 32 := 0#32
  let v9167 : BitVec 32 := Scalar.addi v9166 c0_i32_2537
  let c10_i32_2538 : BitVec 32 := 10#32
  let v9168 : BitVec 32 := Scalar.addi v9167 c10_i32_2538
  let v9169 : Index := Scalar.indexCast v9168
  ![v9169.toNat]
def k0_off86 (v9170 : BitVec 32) : Fin 2 → Nat :=
  let v9172 : Index := Scalar.indexCast v9170
  let c0_2539 : Index := 0#32
  ![v9172.toNat, 0]

def k0_chk44 (v9170 : BitVec 32) : Prop :=
  (∀ a, (k0_off86 v9170) a + S1x512.size a ≤ S224x512.size a)
theorem k0_off86_inb : ∀ (v9170 : BitVec 32) (k0_hw44 : k0_chk44 v9170), ∀ a, (k0_off86 v9170) a + S1x512.size a ≤ S224x512.size a := fun v9170 k0_hw44 => k0_hw44

def k0_off87 (arg0 : BitVec 32) (v0 : BitVec 32) : Fin 1 → Nat :=
  let v1 : BitVec 32 := Scalar.addi v0 arg0
  let c32_i32_2545 : BitVec 32 := 32#32
  let v9187 : BitVec 32 := Scalar.muli v1 c32_i32_2545
  let c0_i32_2546 : BitVec 32 := 0#32
  let v9188 : BitVec 32 := Scalar.addi v9187 c0_i32_2546
  let c11_i32 : BitVec 32 := 11#32
  let v9189 : BitVec 32 := Scalar.addi v9188 c11_i32
  let v9190 : Index := Scalar.indexCast v9189
  ![v9190.toNat]
def k0_off88 (v9191 : BitVec 32) : Fin 2 → Nat :=
  let v9193 : Index := Scalar.indexCast v9191
  let c0_2547 : Index := 0#32
  ![v9193.toNat, 0]

def k0_chk45 (v9191 : BitVec 32) : Prop :=
  (∀ a, (k0_off88 v9191) a + S1x512.size a ≤ S224x512.size a)
theorem k0_off88_inb : ∀ (v9191 : BitVec 32) (k0_hw45 : k0_chk45 v9191), ∀ a, (k0_off88 v9191) a + S1x512.size a ≤ S224x512.size a := fun v9191 k0_hw45 => k0_hw45

def k0_off89 (arg0 : BitVec 32) (v0 : BitVec 32) : Fin 1 → Nat :=
  let v1 : BitVec 32 := Scalar.addi v0 arg0
  let c32_i32_2552 : BitVec 32 := 32#32
  let v9208 : BitVec 32 := Scalar.muli v1 c32_i32_2552
  let c0_i32_2553 : BitVec 32 := 0#32
  let v9209 : BitVec 32 := Scalar.addi v9208 c0_i32_2553
  let c12_i32_2554 : BitVec 32 := 12#32
  let v9210 : BitVec 32 := Scalar.addi v9209 c12_i32_2554
  let v9211 : Index := Scalar.indexCast v9210
  ![v9211.toNat]
def k0_off90 (v9212 : BitVec 32) : Fin 2 → Nat :=
  let v9214 : Index := Scalar.indexCast v9212
  let c0_2555 : Index := 0#32
  ![v9214.toNat, 0]

def k0_chk46 (v9212 : BitVec 32) : Prop :=
  (∀ a, (k0_off90 v9212) a + S1x512.size a ≤ S224x512.size a)
theorem k0_off90_inb : ∀ (v9212 : BitVec 32) (k0_hw46 : k0_chk46 v9212), ∀ a, (k0_off90 v9212) a + S1x512.size a ≤ S224x512.size a := fun v9212 k0_hw46 => k0_hw46

def k0_off91 (arg0 : BitVec 32) (v0 : BitVec 32) : Fin 1 → Nat :=
  let v1 : BitVec 32 := Scalar.addi v0 arg0
  let c32_i32_2561 : BitVec 32 := 32#32
  let v9229 : BitVec 32 := Scalar.muli v1 c32_i32_2561
  let c0_i32_2562 : BitVec 32 := 0#32
  let v9230 : BitVec 32 := Scalar.addi v9229 c0_i32_2562
  let c13_i32 : BitVec 32 := 13#32
  let v9231 : BitVec 32 := Scalar.addi v9230 c13_i32
  let v9232 : Index := Scalar.indexCast v9231
  ![v9232.toNat]
def k0_off92 (v9233 : BitVec 32) : Fin 2 → Nat :=
  let v9235 : Index := Scalar.indexCast v9233
  let c0_2563 : Index := 0#32
  ![v9235.toNat, 0]

def k0_chk47 (v9233 : BitVec 32) : Prop :=
  (∀ a, (k0_off92 v9233) a + S1x512.size a ≤ S224x512.size a)
theorem k0_off92_inb : ∀ (v9233 : BitVec 32) (k0_hw47 : k0_chk47 v9233), ∀ a, (k0_off92 v9233) a + S1x512.size a ≤ S224x512.size a := fun v9233 k0_hw47 => k0_hw47

def k0_off93 (arg0 : BitVec 32) (v0 : BitVec 32) : Fin 1 → Nat :=
  let v1 : BitVec 32 := Scalar.addi v0 arg0
  let c32_i32_2568 : BitVec 32 := 32#32
  let v9250 : BitVec 32 := Scalar.muli v1 c32_i32_2568
  let c0_i32_2569 : BitVec 32 := 0#32
  let v9251 : BitVec 32 := Scalar.addi v9250 c0_i32_2569
  let c14_i32_2570 : BitVec 32 := 14#32
  let v9252 : BitVec 32 := Scalar.addi v9251 c14_i32_2570
  let v9253 : Index := Scalar.indexCast v9252
  ![v9253.toNat]
def k0_off94 (v9254 : BitVec 32) : Fin 2 → Nat :=
  let v9256 : Index := Scalar.indexCast v9254
  let c0_2571 : Index := 0#32
  ![v9256.toNat, 0]

def k0_chk48 (v9254 : BitVec 32) : Prop :=
  (∀ a, (k0_off94 v9254) a + S1x512.size a ≤ S224x512.size a)
theorem k0_off94_inb : ∀ (v9254 : BitVec 32) (k0_hw48 : k0_chk48 v9254), ∀ a, (k0_off94 v9254) a + S1x512.size a ≤ S224x512.size a := fun v9254 k0_hw48 => k0_hw48

def k0_off95 (arg0 : BitVec 32) (v0 : BitVec 32) : Fin 1 → Nat :=
  let v1 : BitVec 32 := Scalar.addi v0 arg0
  let c32_i32_2577 : BitVec 32 := 32#32
  let v9271 : BitVec 32 := Scalar.muli v1 c32_i32_2577
  let c0_i32_2578 : BitVec 32 := 0#32
  let v9272 : BitVec 32 := Scalar.addi v9271 c0_i32_2578
  let c15_i32 : BitVec 32 := 15#32
  let v9273 : BitVec 32 := Scalar.addi v9272 c15_i32
  let v9274 : Index := Scalar.indexCast v9273
  ![v9274.toNat]
def k0_off96 (v9275 : BitVec 32) : Fin 2 → Nat :=
  let v9277 : Index := Scalar.indexCast v9275
  let c0_2579 : Index := 0#32
  ![v9277.toNat, 0]

def k0_chk49 (v9275 : BitVec 32) : Prop :=
  (∀ a, (k0_off96 v9275) a + S1x512.size a ≤ S224x512.size a)
theorem k0_off96_inb : ∀ (v9275 : BitVec 32) (k0_hw49 : k0_chk49 v9275), ∀ a, (k0_off96 v9275) a + S1x512.size a ≤ S224x512.size a := fun v9275 k0_hw49 => k0_hw49

def k0_off97 (arg0 : BitVec 32) (v0 : BitVec 32) : Fin 1 → Nat :=
  let v1 : BitVec 32 := Scalar.addi v0 arg0
  let c32_i32_2594 : BitVec 32 := 32#32
  let v9299 : BitVec 32 := Scalar.muli v1 c32_i32_2594
  let c16_i32_2595 : BitVec 32 := 16#32
  let v9300 : BitVec 32 := Scalar.addi v9299 c16_i32_2595
  let c0_i32_2596 : BitVec 32 := 0#32
  let v9301 : BitVec 32 := Scalar.addi v9300 c0_i32_2596
  let v9302 : Index := Scalar.indexCast v9301
  ![v9302.toNat]
def k0_off98 (v9303 : BitVec 32) : Fin 2 → Nat :=
  let v9305 : Index := Scalar.indexCast v9303
  let c0_2597 : Index := 0#32
  ![v9305.toNat, 0]

def k0_chk50 (v9303 : BitVec 32) : Prop :=
  (∀ a, (k0_off98 v9303) a + S1x512.size a ≤ S224x512.size a)
theorem k0_off98_inb : ∀ (v9303 : BitVec 32) (k0_hw50 : k0_chk50 v9303), ∀ a, (k0_off98 v9303) a + S1x512.size a ≤ S224x512.size a := fun v9303 k0_hw50 => k0_hw50

def k0_off99 (arg0 : BitVec 32) (v0 : BitVec 32) : Fin 1 → Nat :=
  let v1 : BitVec 32 := Scalar.addi v0 arg0
  let c32_i32_2603 : BitVec 32 := 32#32
  let v9320 : BitVec 32 := Scalar.muli v1 c32_i32_2603
  let c16_i32_2604 : BitVec 32 := 16#32
  let v9321 : BitVec 32 := Scalar.addi v9320 c16_i32_2604
  let c1_i32_2605 : BitVec 32 := 1#32
  let v9322 : BitVec 32 := Scalar.addi v9321 c1_i32_2605
  let v9323 : Index := Scalar.indexCast v9322
  ![v9323.toNat]
def k0_off100 (v9324 : BitVec 32) : Fin 2 → Nat :=
  let v9326 : Index := Scalar.indexCast v9324
  let c0_2606 : Index := 0#32
  ![v9326.toNat, 0]

def k0_chk51 (v9324 : BitVec 32) : Prop :=
  (∀ a, (k0_off100 v9324) a + S1x512.size a ≤ S224x512.size a)
theorem k0_off100_inb : ∀ (v9324 : BitVec 32) (k0_hw51 : k0_chk51 v9324), ∀ a, (k0_off100 v9324) a + S1x512.size a ≤ S224x512.size a := fun v9324 k0_hw51 => k0_hw51

def k0_off101 (arg0 : BitVec 32) (v0 : BitVec 32) : Fin 1 → Nat :=
  let v1 : BitVec 32 := Scalar.addi v0 arg0
  let c32_i32_2611 : BitVec 32 := 32#32
  let v9341 : BitVec 32 := Scalar.muli v1 c32_i32_2611
  let c16_i32_2612 : BitVec 32 := 16#32
  let v9342 : BitVec 32 := Scalar.addi v9341 c16_i32_2612
  let c2_i32_2613 : BitVec 32 := 2#32
  let v9343 : BitVec 32 := Scalar.addi v9342 c2_i32_2613
  let v9344 : Index := Scalar.indexCast v9343
  ![v9344.toNat]
def k0_off102 (v9345 : BitVec 32) : Fin 2 → Nat :=
  let v9347 : Index := Scalar.indexCast v9345
  let c0_2614 : Index := 0#32
  ![v9347.toNat, 0]

def k0_chk52 (v9345 : BitVec 32) : Prop :=
  (∀ a, (k0_off102 v9345) a + S1x512.size a ≤ S224x512.size a)
theorem k0_off102_inb : ∀ (v9345 : BitVec 32) (k0_hw52 : k0_chk52 v9345), ∀ a, (k0_off102 v9345) a + S1x512.size a ≤ S224x512.size a := fun v9345 k0_hw52 => k0_hw52

def k0_off103 (arg0 : BitVec 32) (v0 : BitVec 32) : Fin 1 → Nat :=
  let v1 : BitVec 32 := Scalar.addi v0 arg0
  let c32_i32_2620 : BitVec 32 := 32#32
  let v9362 : BitVec 32 := Scalar.muli v1 c32_i32_2620
  let c16_i32_2621 : BitVec 32 := 16#32
  let v9363 : BitVec 32 := Scalar.addi v9362 c16_i32_2621
  let c3_i32_2622 : BitVec 32 := 3#32
  let v9364 : BitVec 32 := Scalar.addi v9363 c3_i32_2622
  let v9365 : Index := Scalar.indexCast v9364
  ![v9365.toNat]
def k0_off104 (v9366 : BitVec 32) : Fin 2 → Nat :=
  let v9368 : Index := Scalar.indexCast v9366
  let c0_2623 : Index := 0#32
  ![v9368.toNat, 0]

def k0_chk53 (v9366 : BitVec 32) : Prop :=
  (∀ a, (k0_off104 v9366) a + S1x512.size a ≤ S224x512.size a)
theorem k0_off104_inb : ∀ (v9366 : BitVec 32) (k0_hw53 : k0_chk53 v9366), ∀ a, (k0_off104 v9366) a + S1x512.size a ≤ S224x512.size a := fun v9366 k0_hw53 => k0_hw53

def k0_off105 (arg0 : BitVec 32) (v0 : BitVec 32) : Fin 1 → Nat :=
  let v1 : BitVec 32 := Scalar.addi v0 arg0
  let c32_i32_2628 : BitVec 32 := 32#32
  let v9383 : BitVec 32 := Scalar.muli v1 c32_i32_2628
  let c16_i32_2629 : BitVec 32 := 16#32
  let v9384 : BitVec 32 := Scalar.addi v9383 c16_i32_2629
  let c4_i32_2630 : BitVec 32 := 4#32
  let v9385 : BitVec 32 := Scalar.addi v9384 c4_i32_2630
  let v9386 : Index := Scalar.indexCast v9385
  ![v9386.toNat]
def k0_off106 (v9387 : BitVec 32) : Fin 2 → Nat :=
  let v9389 : Index := Scalar.indexCast v9387
  let c0_2631 : Index := 0#32
  ![v9389.toNat, 0]

def k0_chk54 (v9387 : BitVec 32) : Prop :=
  (∀ a, (k0_off106 v9387) a + S1x512.size a ≤ S224x512.size a)
theorem k0_off106_inb : ∀ (v9387 : BitVec 32) (k0_hw54 : k0_chk54 v9387), ∀ a, (k0_off106 v9387) a + S1x512.size a ≤ S224x512.size a := fun v9387 k0_hw54 => k0_hw54

def k0_off107 (arg0 : BitVec 32) (v0 : BitVec 32) : Fin 1 → Nat :=
  let v1 : BitVec 32 := Scalar.addi v0 arg0
  let c32_i32_2637 : BitVec 32 := 32#32
  let v9404 : BitVec 32 := Scalar.muli v1 c32_i32_2637
  let c16_i32_2638 : BitVec 32 := 16#32
  let v9405 : BitVec 32 := Scalar.addi v9404 c16_i32_2638
  let c5_i32_2639 : BitVec 32 := 5#32
  let v9406 : BitVec 32 := Scalar.addi v9405 c5_i32_2639
  let v9407 : Index := Scalar.indexCast v9406
  ![v9407.toNat]
def k0_off108 (v9408 : BitVec 32) : Fin 2 → Nat :=
  let v9410 : Index := Scalar.indexCast v9408
  let c0_2640 : Index := 0#32
  ![v9410.toNat, 0]

def k0_chk55 (v9408 : BitVec 32) : Prop :=
  (∀ a, (k0_off108 v9408) a + S1x512.size a ≤ S224x512.size a)
theorem k0_off108_inb : ∀ (v9408 : BitVec 32) (k0_hw55 : k0_chk55 v9408), ∀ a, (k0_off108 v9408) a + S1x512.size a ≤ S224x512.size a := fun v9408 k0_hw55 => k0_hw55

def k0_off109 (arg0 : BitVec 32) (v0 : BitVec 32) : Fin 1 → Nat :=
  let v1 : BitVec 32 := Scalar.addi v0 arg0
  let c32_i32_2645 : BitVec 32 := 32#32
  let v9425 : BitVec 32 := Scalar.muli v1 c32_i32_2645
  let c16_i32_2646 : BitVec 32 := 16#32
  let v9426 : BitVec 32 := Scalar.addi v9425 c16_i32_2646
  let c6_i32_2647 : BitVec 32 := 6#32
  let v9427 : BitVec 32 := Scalar.addi v9426 c6_i32_2647
  let v9428 : Index := Scalar.indexCast v9427
  ![v9428.toNat]
def k0_off110 (v9429 : BitVec 32) : Fin 2 → Nat :=
  let v9431 : Index := Scalar.indexCast v9429
  let c0_2648 : Index := 0#32
  ![v9431.toNat, 0]

def k0_chk56 (v9429 : BitVec 32) : Prop :=
  (∀ a, (k0_off110 v9429) a + S1x512.size a ≤ S224x512.size a)
theorem k0_off110_inb : ∀ (v9429 : BitVec 32) (k0_hw56 : k0_chk56 v9429), ∀ a, (k0_off110 v9429) a + S1x512.size a ≤ S224x512.size a := fun v9429 k0_hw56 => k0_hw56

def k0_off111 (arg0 : BitVec 32) (v0 : BitVec 32) : Fin 1 → Nat :=
  let v1 : BitVec 32 := Scalar.addi v0 arg0
  let c32_i32_2654 : BitVec 32 := 32#32
  let v9446 : BitVec 32 := Scalar.muli v1 c32_i32_2654
  let c16_i32_2655 : BitVec 32 := 16#32
  let v9447 : BitVec 32 := Scalar.addi v9446 c16_i32_2655
  let c7_i32_2656 : BitVec 32 := 7#32
  let v9448 : BitVec 32 := Scalar.addi v9447 c7_i32_2656
  let v9449 : Index := Scalar.indexCast v9448
  ![v9449.toNat]
def k0_off112 (v9450 : BitVec 32) : Fin 2 → Nat :=
  let v9452 : Index := Scalar.indexCast v9450
  let c0_2657 : Index := 0#32
  ![v9452.toNat, 0]

def k0_chk57 (v9450 : BitVec 32) : Prop :=
  (∀ a, (k0_off112 v9450) a + S1x512.size a ≤ S224x512.size a)
theorem k0_off112_inb : ∀ (v9450 : BitVec 32) (k0_hw57 : k0_chk57 v9450), ∀ a, (k0_off112 v9450) a + S1x512.size a ≤ S224x512.size a := fun v9450 k0_hw57 => k0_hw57

def k0_off113 (arg0 : BitVec 32) (v0 : BitVec 32) : Fin 1 → Nat :=
  let v1 : BitVec 32 := Scalar.addi v0 arg0
  let c32_i32_2662 : BitVec 32 := 32#32
  let v9467 : BitVec 32 := Scalar.muli v1 c32_i32_2662
  let c16_i32_2663 : BitVec 32 := 16#32
  let v9468 : BitVec 32 := Scalar.addi v9467 c16_i32_2663
  let c8_i32_2664 : BitVec 32 := 8#32
  let v9469 : BitVec 32 := Scalar.addi v9468 c8_i32_2664
  let v9470 : Index := Scalar.indexCast v9469
  ![v9470.toNat]
def k0_off114 (v9471 : BitVec 32) : Fin 2 → Nat :=
  let v9473 : Index := Scalar.indexCast v9471
  let c0_2665 : Index := 0#32
  ![v9473.toNat, 0]

def k0_chk58 (v9471 : BitVec 32) : Prop :=
  (∀ a, (k0_off114 v9471) a + S1x512.size a ≤ S224x512.size a)
theorem k0_off114_inb : ∀ (v9471 : BitVec 32) (k0_hw58 : k0_chk58 v9471), ∀ a, (k0_off114 v9471) a + S1x512.size a ≤ S224x512.size a := fun v9471 k0_hw58 => k0_hw58

def k0_off115 (arg0 : BitVec 32) (v0 : BitVec 32) : Fin 1 → Nat :=
  let v1 : BitVec 32 := Scalar.addi v0 arg0
  let c32_i32_2671 : BitVec 32 := 32#32
  let v9488 : BitVec 32 := Scalar.muli v1 c32_i32_2671
  let c16_i32_2672 : BitVec 32 := 16#32
  let v9489 : BitVec 32 := Scalar.addi v9488 c16_i32_2672
  let c9_i32_2673 : BitVec 32 := 9#32
  let v9490 : BitVec 32 := Scalar.addi v9489 c9_i32_2673
  let v9491 : Index := Scalar.indexCast v9490
  ![v9491.toNat]
def k0_off116 (v9492 : BitVec 32) : Fin 2 → Nat :=
  let v9494 : Index := Scalar.indexCast v9492
  let c0_2674 : Index := 0#32
  ![v9494.toNat, 0]

def k0_chk59 (v9492 : BitVec 32) : Prop :=
  (∀ a, (k0_off116 v9492) a + S1x512.size a ≤ S224x512.size a)
theorem k0_off116_inb : ∀ (v9492 : BitVec 32) (k0_hw59 : k0_chk59 v9492), ∀ a, (k0_off116 v9492) a + S1x512.size a ≤ S224x512.size a := fun v9492 k0_hw59 => k0_hw59

def k0_off117 (arg0 : BitVec 32) (v0 : BitVec 32) : Fin 1 → Nat :=
  let v1 : BitVec 32 := Scalar.addi v0 arg0
  let c32_i32_2679 : BitVec 32 := 32#32
  let v9509 : BitVec 32 := Scalar.muli v1 c32_i32_2679
  let c16_i32_2680 : BitVec 32 := 16#32
  let v9510 : BitVec 32 := Scalar.addi v9509 c16_i32_2680
  let c10_i32_2681 : BitVec 32 := 10#32
  let v9511 : BitVec 32 := Scalar.addi v9510 c10_i32_2681
  let v9512 : Index := Scalar.indexCast v9511
  ![v9512.toNat]
def k0_off118 (v9513 : BitVec 32) : Fin 2 → Nat :=
  let v9515 : Index := Scalar.indexCast v9513
  let c0_2682 : Index := 0#32
  ![v9515.toNat, 0]

def k0_chk60 (v9513 : BitVec 32) : Prop :=
  (∀ a, (k0_off118 v9513) a + S1x512.size a ≤ S224x512.size a)
theorem k0_off118_inb : ∀ (v9513 : BitVec 32) (k0_hw60 : k0_chk60 v9513), ∀ a, (k0_off118 v9513) a + S1x512.size a ≤ S224x512.size a := fun v9513 k0_hw60 => k0_hw60

def k0_off119 (arg0 : BitVec 32) (v0 : BitVec 32) : Fin 1 → Nat :=
  let v1 : BitVec 32 := Scalar.addi v0 arg0
  let c32_i32_2688 : BitVec 32 := 32#32
  let v9530 : BitVec 32 := Scalar.muli v1 c32_i32_2688
  let c16_i32_2689 : BitVec 32 := 16#32
  let v9531 : BitVec 32 := Scalar.addi v9530 c16_i32_2689
  let c11_i32_2690 : BitVec 32 := 11#32
  let v9532 : BitVec 32 := Scalar.addi v9531 c11_i32_2690
  let v9533 : Index := Scalar.indexCast v9532
  ![v9533.toNat]
def k0_off120 (v9534 : BitVec 32) : Fin 2 → Nat :=
  let v9536 : Index := Scalar.indexCast v9534
  let c0_2691 : Index := 0#32
  ![v9536.toNat, 0]

def k0_chk61 (v9534 : BitVec 32) : Prop :=
  (∀ a, (k0_off120 v9534) a + S1x512.size a ≤ S224x512.size a)
theorem k0_off120_inb : ∀ (v9534 : BitVec 32) (k0_hw61 : k0_chk61 v9534), ∀ a, (k0_off120 v9534) a + S1x512.size a ≤ S224x512.size a := fun v9534 k0_hw61 => k0_hw61

def k0_off121 (arg0 : BitVec 32) (v0 : BitVec 32) : Fin 1 → Nat :=
  let v1 : BitVec 32 := Scalar.addi v0 arg0
  let c32_i32_2696 : BitVec 32 := 32#32
  let v9551 : BitVec 32 := Scalar.muli v1 c32_i32_2696
  let c16_i32_2697 : BitVec 32 := 16#32
  let v9552 : BitVec 32 := Scalar.addi v9551 c16_i32_2697
  let c12_i32_2698 : BitVec 32 := 12#32
  let v9553 : BitVec 32 := Scalar.addi v9552 c12_i32_2698
  let v9554 : Index := Scalar.indexCast v9553
  ![v9554.toNat]
def k0_off122 (v9555 : BitVec 32) : Fin 2 → Nat :=
  let v9557 : Index := Scalar.indexCast v9555
  let c0_2699 : Index := 0#32
  ![v9557.toNat, 0]

def k0_chk62 (v9555 : BitVec 32) : Prop :=
  (∀ a, (k0_off122 v9555) a + S1x512.size a ≤ S224x512.size a)
theorem k0_off122_inb : ∀ (v9555 : BitVec 32) (k0_hw62 : k0_chk62 v9555), ∀ a, (k0_off122 v9555) a + S1x512.size a ≤ S224x512.size a := fun v9555 k0_hw62 => k0_hw62

def k0_off123 (arg0 : BitVec 32) (v0 : BitVec 32) : Fin 1 → Nat :=
  let v1 : BitVec 32 := Scalar.addi v0 arg0
  let c32_i32_2705 : BitVec 32 := 32#32
  let v9572 : BitVec 32 := Scalar.muli v1 c32_i32_2705
  let c16_i32_2706 : BitVec 32 := 16#32
  let v9573 : BitVec 32 := Scalar.addi v9572 c16_i32_2706
  let c13_i32_2707 : BitVec 32 := 13#32
  let v9574 : BitVec 32 := Scalar.addi v9573 c13_i32_2707
  let v9575 : Index := Scalar.indexCast v9574
  ![v9575.toNat]
def k0_off124 (v9576 : BitVec 32) : Fin 2 → Nat :=
  let v9578 : Index := Scalar.indexCast v9576
  let c0_2708 : Index := 0#32
  ![v9578.toNat, 0]

def k0_chk63 (v9576 : BitVec 32) : Prop :=
  (∀ a, (k0_off124 v9576) a + S1x512.size a ≤ S224x512.size a)
theorem k0_off124_inb : ∀ (v9576 : BitVec 32) (k0_hw63 : k0_chk63 v9576), ∀ a, (k0_off124 v9576) a + S1x512.size a ≤ S224x512.size a := fun v9576 k0_hw63 => k0_hw63

def k0_off125 (arg0 : BitVec 32) (v0 : BitVec 32) : Fin 1 → Nat :=
  let v1 : BitVec 32 := Scalar.addi v0 arg0
  let c32_i32_2713 : BitVec 32 := 32#32
  let v9593 : BitVec 32 := Scalar.muli v1 c32_i32_2713
  let c16_i32_2714 : BitVec 32 := 16#32
  let v9594 : BitVec 32 := Scalar.addi v9593 c16_i32_2714
  let c14_i32_2715 : BitVec 32 := 14#32
  let v9595 : BitVec 32 := Scalar.addi v9594 c14_i32_2715
  let v9596 : Index := Scalar.indexCast v9595
  ![v9596.toNat]
def k0_off126 (v9597 : BitVec 32) : Fin 2 → Nat :=
  let v9599 : Index := Scalar.indexCast v9597
  let c0_2716 : Index := 0#32
  ![v9599.toNat, 0]

def k0_chk64 (v9597 : BitVec 32) : Prop :=
  (∀ a, (k0_off126 v9597) a + S1x512.size a ≤ S224x512.size a)
theorem k0_off126_inb : ∀ (v9597 : BitVec 32) (k0_hw64 : k0_chk64 v9597), ∀ a, (k0_off126 v9597) a + S1x512.size a ≤ S224x512.size a := fun v9597 k0_hw64 => k0_hw64

def k0_off127 (arg0 : BitVec 32) (v0 : BitVec 32) : Fin 1 → Nat :=
  let v1 : BitVec 32 := Scalar.addi v0 arg0
  let c32_i32_2722 : BitVec 32 := 32#32
  let v9614 : BitVec 32 := Scalar.muli v1 c32_i32_2722
  let c16_i32_2723 : BitVec 32 := 16#32
  let v9615 : BitVec 32 := Scalar.addi v9614 c16_i32_2723
  let c15_i32_2724 : BitVec 32 := 15#32
  let v9616 : BitVec 32 := Scalar.addi v9615 c15_i32_2724
  let v9617 : Index := Scalar.indexCast v9616
  ![v9617.toNat]
def k0_off128 (v9618 : BitVec 32) : Fin 2 → Nat :=
  let v9620 : Index := Scalar.indexCast v9618
  let c0_2725 : Index := 0#32
  ![v9620.toNat, 0]

def k0_chk65 (v9618 : BitVec 32) : Prop :=
  (∀ a, (k0_off128 v9618) a + S1x512.size a ≤ S224x512.size a)
theorem k0_off128_inb : ∀ (v9618 : BitVec 32) (k0_hw65 : k0_chk65 v9618), ∀ a, (k0_off128 v9618) a + S1x512.size a ≤ S224x512.size a := fun v9618 k0_hw65 => k0_hw65

def k0_off129 (arg0 : BitVec 32) (v0 : BitVec 32) : Fin 1 → Nat :=
  let v1 : BitVec 32 := Scalar.addi v0 arg0
  let c32_i32_2749 : BitVec 32 := 32#32
  let v9675 : BitVec 32 := Scalar.muli v1 c32_i32_2749
  let v9676 : Index := Scalar.indexCast v9675
  ![v9676.toNat]
def k0_off130 (arg0 : BitVec 32) (v0 : BitVec 32) : Fin 1 → Nat :=
  let v1 : BitVec 32 := Scalar.addi v0 arg0
  let c32_i32_2750 : BitVec 32 := 32#32
  let v9678 : BitVec 32 := Scalar.muli v1 c32_i32_2750
  let c32_i32_2751 : BitVec 32 := 32#32
  let v9679 : BitVec 32 := Scalar.addi v9678 c32_i32_2751
  let c1_i32_2752 : BitVec 32 := 1#32
  let v9680 : BitVec 32 := Scalar.subi v9679 c1_i32_2752
  let v9681 : Index := Scalar.indexCast v9680
  ![v9681.toNat]

def k0_chk1_0 (arg0 : BitVec 32) (v0 : BitVec 32) : Prop :=
  (∀ a, (k0_off1 arg0 v0) a + S1.size a ≤ S4800.size a) ∧
  (∀ a, (k0_off3 arg0 v0) a + S1.size a ≤ S4800.size a) ∧
  (∀ a, (k0_off5 arg0 v0) a + S1.size a ≤ S4800.size a) ∧
  (∀ a, (k0_off7 arg0 v0) a + S1.size a ≤ S4800.size a) ∧
  (∀ a, (k0_off9 arg0 v0) a + S1.size a ≤ S4800.size a) ∧
  (∀ a, (k0_off11 arg0 v0) a + S1.size a ≤ S4800.size a) ∧
  (∀ a, (k0_off13 arg0 v0) a + S1.size a ≤ S4800.size a) ∧
  (∀ a, (k0_off15 arg0 v0) a + S1.size a ≤ S4800.size a) ∧
  (∀ a, (k0_off17 arg0 v0) a + S1.size a ≤ S4800.size a) ∧
  (∀ a, (k0_off19 arg0 v0) a + S1.size a ≤ S4800.size a) ∧
  (∀ a, (k0_off21 arg0 v0) a + S1.size a ≤ S4800.size a) ∧
  (∀ a, (k0_off23 arg0 v0) a + S1.size a ≤ S4800.size a) ∧
  (∀ a, (k0_off25 arg0 v0) a + S1.size a ≤ S4800.size a) ∧
  (∀ a, (k0_off27 arg0 v0) a + S1.size a ≤ S4800.size a) ∧
  (∀ a, (k0_off29 arg0 v0) a + S1.size a ≤ S4800.size a) ∧
  (∀ a, (k0_off31 arg0 v0) a + S1.size a ≤ S4800.size a) ∧
  (∀ a, (k0_off33 arg0 v0) a + S1.size a ≤ S4800.size a) ∧
  (∀ a, (k0_off35 arg0 v0) a + S1.size a ≤ S4800.size a) ∧
  (∀ a, (k0_off37 arg0 v0) a + S1.size a ≤ S4800.size a) ∧
  (∀ a, (k0_off39 arg0 v0) a + S1.size a ≤ S4800.size a) ∧
  (∀ a, (k0_off41 arg0 v0) a + S1.size a ≤ S4800.size a) ∧
  (∀ a, (k0_off43 arg0 v0) a + S1.size a ≤ S4800.size a) ∧
  (∀ a, (k0_off45 arg0 v0) a + S1.size a ≤ S4800.size a) ∧
  (∀ a, (k0_off47 arg0 v0) a + S1.size a ≤ S4800.size a) ∧
  (∀ a, (k0_off49 arg0 v0) a + S1.size a ≤ S4800.size a) ∧
  (∀ a, (k0_off51 arg0 v0) a + S1.size a ≤ S4800.size a) ∧
  (∀ a, (k0_off53 arg0 v0) a + S1.size a ≤ S4800.size a) ∧
  (∀ a, (k0_off55 arg0 v0) a + S1.size a ≤ S4800.size a) ∧
  (∀ a, (k0_off57 arg0 v0) a + S1.size a ≤ S4800.size a) ∧
  (∀ a, (k0_off59 arg0 v0) a + S1.size a ≤ S4800.size a) ∧
  (∀ a, (k0_off61 arg0 v0) a + S1.size a ≤ S4800.size a) ∧
  (∀ a, (k0_off63 arg0 v0) a + S1.size a ≤ S4800.size a)
def k0_chk1_1 (arg0 : BitVec 32) (v0 : BitVec 32) : Prop :=
  (∀ a, (k0_off65 arg0 v0) a + S1.size a ≤ S4800.size a) ∧
  (∀ a, (k0_off67 arg0 v0) a + S1.size a ≤ S4800.size a) ∧
  (∀ a, (k0_off69 arg0 v0) a + S1.size a ≤ S4800.size a) ∧
  (∀ a, (k0_off71 arg0 v0) a + S1.size a ≤ S4800.size a) ∧
  (∀ a, (k0_off73 arg0 v0) a + S1.size a ≤ S4800.size a) ∧
  (∀ a, (k0_off75 arg0 v0) a + S1.size a ≤ S4800.size a) ∧
  (∀ a, (k0_off77 arg0 v0) a + S1.size a ≤ S4800.size a) ∧
  (∀ a, (k0_off79 arg0 v0) a + S1.size a ≤ S4800.size a) ∧
  (∀ a, (k0_off81 arg0 v0) a + S1.size a ≤ S4800.size a) ∧
  (∀ a, (k0_off83 arg0 v0) a + S1.size a ≤ S4800.size a) ∧
  (∀ a, (k0_off85 arg0 v0) a + S1.size a ≤ S4800.size a) ∧
  (∀ a, (k0_off87 arg0 v0) a + S1.size a ≤ S4800.size a) ∧
  (∀ a, (k0_off89 arg0 v0) a + S1.size a ≤ S4800.size a) ∧
  (∀ a, (k0_off91 arg0 v0) a + S1.size a ≤ S4800.size a) ∧
  (∀ a, (k0_off93 arg0 v0) a + S1.size a ≤ S4800.size a) ∧
  (∀ a, (k0_off95 arg0 v0) a + S1.size a ≤ S4800.size a) ∧
  (∀ a, (k0_off97 arg0 v0) a + S1.size a ≤ S4800.size a) ∧
  (∀ a, (k0_off99 arg0 v0) a + S1.size a ≤ S4800.size a) ∧
  (∀ a, (k0_off101 arg0 v0) a + S1.size a ≤ S4800.size a) ∧
  (∀ a, (k0_off103 arg0 v0) a + S1.size a ≤ S4800.size a) ∧
  (∀ a, (k0_off105 arg0 v0) a + S1.size a ≤ S4800.size a) ∧
  (∀ a, (k0_off107 arg0 v0) a + S1.size a ≤ S4800.size a) ∧
  (∀ a, (k0_off109 arg0 v0) a + S1.size a ≤ S4800.size a) ∧
  (∀ a, (k0_off111 arg0 v0) a + S1.size a ≤ S4800.size a) ∧
  (∀ a, (k0_off113 arg0 v0) a + S1.size a ≤ S4800.size a) ∧
  (∀ a, (k0_off115 arg0 v0) a + S1.size a ≤ S4800.size a) ∧
  (∀ a, (k0_off117 arg0 v0) a + S1.size a ≤ S4800.size a) ∧
  (∀ a, (k0_off119 arg0 v0) a + S1.size a ≤ S4800.size a) ∧
  (∀ a, (k0_off121 arg0 v0) a + S1.size a ≤ S4800.size a) ∧
  (∀ a, (k0_off123 arg0 v0) a + S1.size a ≤ S4800.size a) ∧
  (∀ a, (k0_off125 arg0 v0) a + S1.size a ≤ S4800.size a) ∧
  (∀ a, (k0_off127 arg0 v0) a + S1.size a ≤ S4800.size a)
def k0_chk1_2 (arg0 : BitVec 32) (v0 : BitVec 32) : Prop :=
  (∀ a, (k0_off129 arg0 v0) a + S1.size a ≤ S4800.size a) ∧
  (∀ a, (k0_off130 arg0 v0) a + S1.size a ≤ S4800.size a)
def k0_chk1 (arg0 : BitVec 32) (v0 : BitVec 32) : Prop :=
  k0_chk1_0 arg0 v0 ∧
  k0_chk1_1 arg0 v0 ∧
  k0_chk1_2 arg0 v0
theorem k0_off1_inb : ∀ (arg0 : BitVec 32) (v0 : BitVec 32) (k0_hw1 : k0_chk1 arg0 v0), ∀ a, (k0_off1 arg0 v0) a + S1.size a ≤ S4800.size a := fun arg0 v0 k0_hw1 => k0_hw1.1.1
theorem k0_off3_inb : ∀ (arg0 : BitVec 32) (v0 : BitVec 32) (k0_hw1 : k0_chk1 arg0 v0), ∀ a, (k0_off3 arg0 v0) a + S1.size a ≤ S4800.size a := fun arg0 v0 k0_hw1 => k0_hw1.1.2.1
theorem k0_off5_inb : ∀ (arg0 : BitVec 32) (v0 : BitVec 32) (k0_hw1 : k0_chk1 arg0 v0), ∀ a, (k0_off5 arg0 v0) a + S1.size a ≤ S4800.size a := fun arg0 v0 k0_hw1 => k0_hw1.1.2.2.1
theorem k0_off7_inb : ∀ (arg0 : BitVec 32) (v0 : BitVec 32) (k0_hw1 : k0_chk1 arg0 v0), ∀ a, (k0_off7 arg0 v0) a + S1.size a ≤ S4800.size a := fun arg0 v0 k0_hw1 => k0_hw1.1.2.2.2.1
theorem k0_off9_inb : ∀ (arg0 : BitVec 32) (v0 : BitVec 32) (k0_hw1 : k0_chk1 arg0 v0), ∀ a, (k0_off9 arg0 v0) a + S1.size a ≤ S4800.size a := fun arg0 v0 k0_hw1 => k0_hw1.1.2.2.2.2.1
theorem k0_off11_inb : ∀ (arg0 : BitVec 32) (v0 : BitVec 32) (k0_hw1 : k0_chk1 arg0 v0), ∀ a, (k0_off11 arg0 v0) a + S1.size a ≤ S4800.size a := fun arg0 v0 k0_hw1 => k0_hw1.1.2.2.2.2.2.1
theorem k0_off13_inb : ∀ (arg0 : BitVec 32) (v0 : BitVec 32) (k0_hw1 : k0_chk1 arg0 v0), ∀ a, (k0_off13 arg0 v0) a + S1.size a ≤ S4800.size a := fun arg0 v0 k0_hw1 => k0_hw1.1.2.2.2.2.2.2.1
theorem k0_off15_inb : ∀ (arg0 : BitVec 32) (v0 : BitVec 32) (k0_hw1 : k0_chk1 arg0 v0), ∀ a, (k0_off15 arg0 v0) a + S1.size a ≤ S4800.size a := fun arg0 v0 k0_hw1 => k0_hw1.1.2.2.2.2.2.2.2.1
theorem k0_off17_inb : ∀ (arg0 : BitVec 32) (v0 : BitVec 32) (k0_hw1 : k0_chk1 arg0 v0), ∀ a, (k0_off17 arg0 v0) a + S1.size a ≤ S4800.size a := fun arg0 v0 k0_hw1 => k0_hw1.1.2.2.2.2.2.2.2.2.1
theorem k0_off19_inb : ∀ (arg0 : BitVec 32) (v0 : BitVec 32) (k0_hw1 : k0_chk1 arg0 v0), ∀ a, (k0_off19 arg0 v0) a + S1.size a ≤ S4800.size a := fun arg0 v0 k0_hw1 => k0_hw1.1.2.2.2.2.2.2.2.2.2.1
theorem k0_off21_inb : ∀ (arg0 : BitVec 32) (v0 : BitVec 32) (k0_hw1 : k0_chk1 arg0 v0), ∀ a, (k0_off21 arg0 v0) a + S1.size a ≤ S4800.size a := fun arg0 v0 k0_hw1 => k0_hw1.1.2.2.2.2.2.2.2.2.2.2.1
theorem k0_off23_inb : ∀ (arg0 : BitVec 32) (v0 : BitVec 32) (k0_hw1 : k0_chk1 arg0 v0), ∀ a, (k0_off23 arg0 v0) a + S1.size a ≤ S4800.size a := fun arg0 v0 k0_hw1 => k0_hw1.1.2.2.2.2.2.2.2.2.2.2.2.1
theorem k0_off25_inb : ∀ (arg0 : BitVec 32) (v0 : BitVec 32) (k0_hw1 : k0_chk1 arg0 v0), ∀ a, (k0_off25 arg0 v0) a + S1.size a ≤ S4800.size a := fun arg0 v0 k0_hw1 => k0_hw1.1.2.2.2.2.2.2.2.2.2.2.2.2.1
theorem k0_off27_inb : ∀ (arg0 : BitVec 32) (v0 : BitVec 32) (k0_hw1 : k0_chk1 arg0 v0), ∀ a, (k0_off27 arg0 v0) a + S1.size a ≤ S4800.size a := fun arg0 v0 k0_hw1 => k0_hw1.1.2.2.2.2.2.2.2.2.2.2.2.2.2.1
theorem k0_off29_inb : ∀ (arg0 : BitVec 32) (v0 : BitVec 32) (k0_hw1 : k0_chk1 arg0 v0), ∀ a, (k0_off29 arg0 v0) a + S1.size a ≤ S4800.size a := fun arg0 v0 k0_hw1 => k0_hw1.1.2.2.2.2.2.2.2.2.2.2.2.2.2.2.1
theorem k0_off31_inb : ∀ (arg0 : BitVec 32) (v0 : BitVec 32) (k0_hw1 : k0_chk1 arg0 v0), ∀ a, (k0_off31 arg0 v0) a + S1.size a ≤ S4800.size a := fun arg0 v0 k0_hw1 => k0_hw1.1.2.2.2.2.2.2.2.2.2.2.2.2.2.2.2.1
theorem k0_off33_inb : ∀ (arg0 : BitVec 32) (v0 : BitVec 32) (k0_hw1 : k0_chk1 arg0 v0), ∀ a, (k0_off33 arg0 v0) a + S1.size a ≤ S4800.size a := fun arg0 v0 k0_hw1 => k0_hw1.1.2.2.2.2.2.2.2.2.2.2.2.2.2.2.2.2.1
theorem k0_off35_inb : ∀ (arg0 : BitVec 32) (v0 : BitVec 32) (k0_hw1 : k0_chk1 arg0 v0), ∀ a, (k0_off35 arg0 v0) a + S1.size a ≤ S4800.size a := fun arg0 v0 k0_hw1 => k0_hw1.1.2.2.2.2.2.2.2.2.2.2.2.2.2.2.2.2.2.1
theorem k0_off37_inb : ∀ (arg0 : BitVec 32) (v0 : BitVec 32) (k0_hw1 : k0_chk1 arg0 v0), ∀ a, (k0_off37 arg0 v0) a + S1.size a ≤ S4800.size a := fun arg0 v0 k0_hw1 => k0_hw1.1.2.2.2.2.2.2.2.2.2.2.2.2.2.2.2.2.2.2.1
theorem k0_off39_inb : ∀ (arg0 : BitVec 32) (v0 : BitVec 32) (k0_hw1 : k0_chk1 arg0 v0), ∀ a, (k0_off39 arg0 v0) a + S1.size a ≤ S4800.size a := fun arg0 v0 k0_hw1 => k0_hw1.1.2.2.2.2.2.2.2.2.2.2.2.2.2.2.2.2.2.2.2.1
theorem k0_off41_inb : ∀ (arg0 : BitVec 32) (v0 : BitVec 32) (k0_hw1 : k0_chk1 arg0 v0), ∀ a, (k0_off41 arg0 v0) a + S1.size a ≤ S4800.size a := fun arg0 v0 k0_hw1 => k0_hw1.1.2.2.2.2.2.2.2.2.2.2.2.2.2.2.2.2.2.2.2.2.1
theorem k0_off43_inb : ∀ (arg0 : BitVec 32) (v0 : BitVec 32) (k0_hw1 : k0_chk1 arg0 v0), ∀ a, (k0_off43 arg0 v0) a + S1.size a ≤ S4800.size a := fun arg0 v0 k0_hw1 => k0_hw1.1.2.2.2.2.2.2.2.2.2.2.2.2.2.2.2.2.2.2.2.2.2.1
theorem k0_off45_inb : ∀ (arg0 : BitVec 32) (v0 : BitVec 32) (k0_hw1 : k0_chk1 arg0 v0), ∀ a, (k0_off45 arg0 v0) a + S1.size a ≤ S4800.size a := fun arg0 v0 k0_hw1 => k0_hw1.1.2.2.2.2.2.2.2.2.2.2.2.2.2.2.2.2.2.2.2.2.2.2.1
theorem k0_off47_inb : ∀ (arg0 : BitVec 32) (v0 : BitVec 32) (k0_hw1 : k0_chk1 arg0 v0), ∀ a, (k0_off47 arg0 v0) a + S1.size a ≤ S4800.size a := fun arg0 v0 k0_hw1 => k0_hw1.1.2.2.2.2.2.2.2.2.2.2.2.2.2.2.2.2.2.2.2.2.2.2.2.1
theorem k0_off49_inb : ∀ (arg0 : BitVec 32) (v0 : BitVec 32) (k0_hw1 : k0_chk1 arg0 v0), ∀ a, (k0_off49 arg0 v0) a + S1.size a ≤ S4800.size a := fun arg0 v0 k0_hw1 => k0_hw1.1.2.2.2.2.2.2.2.2.2.2.2.2.2.2.2.2.2.2.2.2.2.2.2.2.1
theorem k0_off51_inb : ∀ (arg0 : BitVec 32) (v0 : BitVec 32) (k0_hw1 : k0_chk1 arg0 v0), ∀ a, (k0_off51 arg0 v0) a + S1.size a ≤ S4800.size a := fun arg0 v0 k0_hw1 => k0_hw1.1.2.2.2.2.2.2.2.2.2.2.2.2.2.2.2.2.2.2.2.2.2.2.2.2.2.1
theorem k0_off53_inb : ∀ (arg0 : BitVec 32) (v0 : BitVec 32) (k0_hw1 : k0_chk1 arg0 v0), ∀ a, (k0_off53 arg0 v0) a + S1.size a ≤ S4800.size a := fun arg0 v0 k0_hw1 => k0_hw1.1.2.2.2.2.2.2.2.2.2.2.2.2.2.2.2.2.2.2.2.2.2.2.2.2.2.2.1
theorem k0_off55_inb : ∀ (arg0 : BitVec 32) (v0 : BitVec 32) (k0_hw1 : k0_chk1 arg0 v0), ∀ a, (k0_off55 arg0 v0) a + S1.size a ≤ S4800.size a := fun arg0 v0 k0_hw1 => k0_hw1.1.2.2.2.2.2.2.2.2.2.2.2.2.2.2.2.2.2.2.2.2.2.2.2.2.2.2.2.1
theorem k0_off57_inb : ∀ (arg0 : BitVec 32) (v0 : BitVec 32) (k0_hw1 : k0_chk1 arg0 v0), ∀ a, (k0_off57 arg0 v0) a + S1.size a ≤ S4800.size a := fun arg0 v0 k0_hw1 => k0_hw1.1.2.2.2.2.2.2.2.2.2.2.2.2.2.2.2.2.2.2.2.2.2.2.2.2.2.2.2.2.1
theorem k0_off59_inb : ∀ (arg0 : BitVec 32) (v0 : BitVec 32) (k0_hw1 : k0_chk1 arg0 v0), ∀ a, (k0_off59 arg0 v0) a + S1.size a ≤ S4800.size a := fun arg0 v0 k0_hw1 => k0_hw1.1.2.2.2.2.2.2.2.2.2.2.2.2.2.2.2.2.2.2.2.2.2.2.2.2.2.2.2.2.2.1
theorem k0_off61_inb : ∀ (arg0 : BitVec 32) (v0 : BitVec 32) (k0_hw1 : k0_chk1 arg0 v0), ∀ a, (k0_off61 arg0 v0) a + S1.size a ≤ S4800.size a := fun arg0 v0 k0_hw1 => k0_hw1.1.2.2.2.2.2.2.2.2.2.2.2.2.2.2.2.2.2.2.2.2.2.2.2.2.2.2.2.2.2.2.1
theorem k0_off63_inb : ∀ (arg0 : BitVec 32) (v0 : BitVec 32) (k0_hw1 : k0_chk1 arg0 v0), ∀ a, (k0_off63 arg0 v0) a + S1.size a ≤ S4800.size a := fun arg0 v0 k0_hw1 => k0_hw1.1.2.2.2.2.2.2.2.2.2.2.2.2.2.2.2.2.2.2.2.2.2.2.2.2.2.2.2.2.2.2.2
theorem k0_off65_inb : ∀ (arg0 : BitVec 32) (v0 : BitVec 32) (k0_hw1 : k0_chk1 arg0 v0), ∀ a, (k0_off65 arg0 v0) a + S1.size a ≤ S4800.size a := fun arg0 v0 k0_hw1 => k0_hw1.2.1.1
theorem k0_off67_inb : ∀ (arg0 : BitVec 32) (v0 : BitVec 32) (k0_hw1 : k0_chk1 arg0 v0), ∀ a, (k0_off67 arg0 v0) a + S1.size a ≤ S4800.size a := fun arg0 v0 k0_hw1 => k0_hw1.2.1.2.1
theorem k0_off69_inb : ∀ (arg0 : BitVec 32) (v0 : BitVec 32) (k0_hw1 : k0_chk1 arg0 v0), ∀ a, (k0_off69 arg0 v0) a + S1.size a ≤ S4800.size a := fun arg0 v0 k0_hw1 => k0_hw1.2.1.2.2.1
theorem k0_off71_inb : ∀ (arg0 : BitVec 32) (v0 : BitVec 32) (k0_hw1 : k0_chk1 arg0 v0), ∀ a, (k0_off71 arg0 v0) a + S1.size a ≤ S4800.size a := fun arg0 v0 k0_hw1 => k0_hw1.2.1.2.2.2.1
theorem k0_off73_inb : ∀ (arg0 : BitVec 32) (v0 : BitVec 32) (k0_hw1 : k0_chk1 arg0 v0), ∀ a, (k0_off73 arg0 v0) a + S1.size a ≤ S4800.size a := fun arg0 v0 k0_hw1 => k0_hw1.2.1.2.2.2.2.1
theorem k0_off75_inb : ∀ (arg0 : BitVec 32) (v0 : BitVec 32) (k0_hw1 : k0_chk1 arg0 v0), ∀ a, (k0_off75 arg0 v0) a + S1.size a ≤ S4800.size a := fun arg0 v0 k0_hw1 => k0_hw1.2.1.2.2.2.2.2.1
theorem k0_off77_inb : ∀ (arg0 : BitVec 32) (v0 : BitVec 32) (k0_hw1 : k0_chk1 arg0 v0), ∀ a, (k0_off77 arg0 v0) a + S1.size a ≤ S4800.size a := fun arg0 v0 k0_hw1 => k0_hw1.2.1.2.2.2.2.2.2.1
theorem k0_off79_inb : ∀ (arg0 : BitVec 32) (v0 : BitVec 32) (k0_hw1 : k0_chk1 arg0 v0), ∀ a, (k0_off79 arg0 v0) a + S1.size a ≤ S4800.size a := fun arg0 v0 k0_hw1 => k0_hw1.2.1.2.2.2.2.2.2.2.1
theorem k0_off81_inb : ∀ (arg0 : BitVec 32) (v0 : BitVec 32) (k0_hw1 : k0_chk1 arg0 v0), ∀ a, (k0_off81 arg0 v0) a + S1.size a ≤ S4800.size a := fun arg0 v0 k0_hw1 => k0_hw1.2.1.2.2.2.2.2.2.2.2.1
theorem k0_off83_inb : ∀ (arg0 : BitVec 32) (v0 : BitVec 32) (k0_hw1 : k0_chk1 arg0 v0), ∀ a, (k0_off83 arg0 v0) a + S1.size a ≤ S4800.size a := fun arg0 v0 k0_hw1 => k0_hw1.2.1.2.2.2.2.2.2.2.2.2.1
theorem k0_off85_inb : ∀ (arg0 : BitVec 32) (v0 : BitVec 32) (k0_hw1 : k0_chk1 arg0 v0), ∀ a, (k0_off85 arg0 v0) a + S1.size a ≤ S4800.size a := fun arg0 v0 k0_hw1 => k0_hw1.2.1.2.2.2.2.2.2.2.2.2.2.1
theorem k0_off87_inb : ∀ (arg0 : BitVec 32) (v0 : BitVec 32) (k0_hw1 : k0_chk1 arg0 v0), ∀ a, (k0_off87 arg0 v0) a + S1.size a ≤ S4800.size a := fun arg0 v0 k0_hw1 => k0_hw1.2.1.2.2.2.2.2.2.2.2.2.2.2.1
theorem k0_off89_inb : ∀ (arg0 : BitVec 32) (v0 : BitVec 32) (k0_hw1 : k0_chk1 arg0 v0), ∀ a, (k0_off89 arg0 v0) a + S1.size a ≤ S4800.size a := fun arg0 v0 k0_hw1 => k0_hw1.2.1.2.2.2.2.2.2.2.2.2.2.2.2.1
theorem k0_off91_inb : ∀ (arg0 : BitVec 32) (v0 : BitVec 32) (k0_hw1 : k0_chk1 arg0 v0), ∀ a, (k0_off91 arg0 v0) a + S1.size a ≤ S4800.size a := fun arg0 v0 k0_hw1 => k0_hw1.2.1.2.2.2.2.2.2.2.2.2.2.2.2.2.1
theorem k0_off93_inb : ∀ (arg0 : BitVec 32) (v0 : BitVec 32) (k0_hw1 : k0_chk1 arg0 v0), ∀ a, (k0_off93 arg0 v0) a + S1.size a ≤ S4800.size a := fun arg0 v0 k0_hw1 => k0_hw1.2.1.2.2.2.2.2.2.2.2.2.2.2.2.2.2.1
theorem k0_off95_inb : ∀ (arg0 : BitVec 32) (v0 : BitVec 32) (k0_hw1 : k0_chk1 arg0 v0), ∀ a, (k0_off95 arg0 v0) a + S1.size a ≤ S4800.size a := fun arg0 v0 k0_hw1 => k0_hw1.2.1.2.2.2.2.2.2.2.2.2.2.2.2.2.2.2.1
theorem k0_off97_inb : ∀ (arg0 : BitVec 32) (v0 : BitVec 32) (k0_hw1 : k0_chk1 arg0 v0), ∀ a, (k0_off97 arg0 v0) a + S1.size a ≤ S4800.size a := fun arg0 v0 k0_hw1 => k0_hw1.2.1.2.2.2.2.2.2.2.2.2.2.2.2.2.2.2.2.1
theorem k0_off99_inb : ∀ (arg0 : BitVec 32) (v0 : BitVec 32) (k0_hw1 : k0_chk1 arg0 v0), ∀ a, (k0_off99 arg0 v0) a + S1.size a ≤ S4800.size a := fun arg0 v0 k0_hw1 => k0_hw1.2.1.2.2.2.2.2.2.2.2.2.2.2.2.2.2.2.2.2.1
theorem k0_off101_inb : ∀ (arg0 : BitVec 32) (v0 : BitVec 32) (k0_hw1 : k0_chk1 arg0 v0), ∀ a, (k0_off101 arg0 v0) a + S1.size a ≤ S4800.size a := fun arg0 v0 k0_hw1 => k0_hw1.2.1.2.2.2.2.2.2.2.2.2.2.2.2.2.2.2.2.2.2.1
theorem k0_off103_inb : ∀ (arg0 : BitVec 32) (v0 : BitVec 32) (k0_hw1 : k0_chk1 arg0 v0), ∀ a, (k0_off103 arg0 v0) a + S1.size a ≤ S4800.size a := fun arg0 v0 k0_hw1 => k0_hw1.2.1.2.2.2.2.2.2.2.2.2.2.2.2.2.2.2.2.2.2.2.1
theorem k0_off105_inb : ∀ (arg0 : BitVec 32) (v0 : BitVec 32) (k0_hw1 : k0_chk1 arg0 v0), ∀ a, (k0_off105 arg0 v0) a + S1.size a ≤ S4800.size a := fun arg0 v0 k0_hw1 => k0_hw1.2.1.2.2.2.2.2.2.2.2.2.2.2.2.2.2.2.2.2.2.2.2.1
theorem k0_off107_inb : ∀ (arg0 : BitVec 32) (v0 : BitVec 32) (k0_hw1 : k0_chk1 arg0 v0), ∀ a, (k0_off107 arg0 v0) a + S1.size a ≤ S4800.size a := fun arg0 v0 k0_hw1 => k0_hw1.2.1.2.2.2.2.2.2.2.2.2.2.2.2.2.2.2.2.2.2.2.2.2.1
theorem k0_off109_inb : ∀ (arg0 : BitVec 32) (v0 : BitVec 32) (k0_hw1 : k0_chk1 arg0 v0), ∀ a, (k0_off109 arg0 v0) a + S1.size a ≤ S4800.size a := fun arg0 v0 k0_hw1 => k0_hw1.2.1.2.2.2.2.2.2.2.2.2.2.2.2.2.2.2.2.2.2.2.2.2.2.1
theorem k0_off111_inb : ∀ (arg0 : BitVec 32) (v0 : BitVec 32) (k0_hw1 : k0_chk1 arg0 v0), ∀ a, (k0_off111 arg0 v0) a + S1.size a ≤ S4800.size a := fun arg0 v0 k0_hw1 => k0_hw1.2.1.2.2.2.2.2.2.2.2.2.2.2.2.2.2.2.2.2.2.2.2.2.2.2.1
theorem k0_off113_inb : ∀ (arg0 : BitVec 32) (v0 : BitVec 32) (k0_hw1 : k0_chk1 arg0 v0), ∀ a, (k0_off113 arg0 v0) a + S1.size a ≤ S4800.size a := fun arg0 v0 k0_hw1 => k0_hw1.2.1.2.2.2.2.2.2.2.2.2.2.2.2.2.2.2.2.2.2.2.2.2.2.2.2.1
theorem k0_off115_inb : ∀ (arg0 : BitVec 32) (v0 : BitVec 32) (k0_hw1 : k0_chk1 arg0 v0), ∀ a, (k0_off115 arg0 v0) a + S1.size a ≤ S4800.size a := fun arg0 v0 k0_hw1 => k0_hw1.2.1.2.2.2.2.2.2.2.2.2.2.2.2.2.2.2.2.2.2.2.2.2.2.2.2.2.1
theorem k0_off117_inb : ∀ (arg0 : BitVec 32) (v0 : BitVec 32) (k0_hw1 : k0_chk1 arg0 v0), ∀ a, (k0_off117 arg0 v0) a + S1.size a ≤ S4800.size a := fun arg0 v0 k0_hw1 => k0_hw1.2.1.2.2.2.2.2.2.2.2.2.2.2.2.2.2.2.2.2.2.2.2.2.2.2.2.2.2.1
theorem k0_off119_inb : ∀ (arg0 : BitVec 32) (v0 : BitVec 32) (k0_hw1 : k0_chk1 arg0 v0), ∀ a, (k0_off119 arg0 v0) a + S1.size a ≤ S4800.size a := fun arg0 v0 k0_hw1 => k0_hw1.2.1.2.2.2.2.2.2.2.2.2.2.2.2.2.2.2.2.2.2.2.2.2.2.2.2.2.2.2.1
theorem k0_off121_inb : ∀ (arg0 : BitVec 32) (v0 : BitVec 32) (k0_hw1 : k0_chk1 arg0 v0), ∀ a, (k0_off121 arg0 v0) a + S1.size a ≤ S4800.size a := fun arg0 v0 k0_hw1 => k0_hw1.2.1.2.2.2.2.2.2.2.2.2.2.2.2.2.2.2.2.2.2.2.2.2.2.2.2.2.2.2.2.1
theorem k0_off123_inb : ∀ (arg0 : BitVec 32) (v0 : BitVec 32) (k0_hw1 : k0_chk1 arg0 v0), ∀ a, (k0_off123 arg0 v0) a + S1.size a ≤ S4800.size a := fun arg0 v0 k0_hw1 => k0_hw1.2.1.2.2.2.2.2.2.2.2.2.2.2.2.2.2.2.2.2.2.2.2.2.2.2.2.2.2.2.2.2.1
theorem k0_off125_inb : ∀ (arg0 : BitVec 32) (v0 : BitVec 32) (k0_hw1 : k0_chk1 arg0 v0), ∀ a, (k0_off125 arg0 v0) a + S1.size a ≤ S4800.size a := fun arg0 v0 k0_hw1 => k0_hw1.2.1.2.2.2.2.2.2.2.2.2.2.2.2.2.2.2.2.2.2.2.2.2.2.2.2.2.2.2.2.2.2.1
theorem k0_off127_inb : ∀ (arg0 : BitVec 32) (v0 : BitVec 32) (k0_hw1 : k0_chk1 arg0 v0), ∀ a, (k0_off127 arg0 v0) a + S1.size a ≤ S4800.size a := fun arg0 v0 k0_hw1 => k0_hw1.2.1.2.2.2.2.2.2.2.2.2.2.2.2.2.2.2.2.2.2.2.2.2.2.2.2.2.2.2.2.2.2.2
theorem k0_off129_inb : ∀ (arg0 : BitVec 32) (v0 : BitVec 32) (k0_hw1 : k0_chk1 arg0 v0), ∀ a, (k0_off129 arg0 v0) a + S1.size a ≤ S4800.size a := fun arg0 v0 k0_hw1 => k0_hw1.2.2.1
theorem k0_off130_inb : ∀ (arg0 : BitVec 32) (v0 : BitVec 32) (k0_hw1 : k0_chk1 arg0 v0), ∀ a, (k0_off130 arg0 v0) a + S1.size a ≤ S4800.size a := fun arg0 v0 k0_hw1 => k0_hw1.2.2.2

def k0_off131 (v9677 : BitVec 32) : Fin 2 → Nat :=
  let c0_i32_2753 : BitVec 32 := 0#32
  let v9683 : BitVec 32 := Scalar.addi v9677 c0_i32_2753
  let v9684 : Index := Scalar.indexCast v9683
  let c0_2754 : Index := 0#32
  ![v9684.toNat, 0]

def k0_off132 (v9677 : BitVec 32) : Fin 3 → Nat :=
  let c0_2760 : Index := 0#32
  let c0_i32_2753 : BitVec 32 := 0#32
  let v9683 : BitVec 32 := Scalar.addi v9677 c0_i32_2753
  let v9714 : Index := Scalar.indexCast v9683
  let c0_2761 : Index := 0#32
  ![0, v9714.toNat, 0]
def k0_off133 (v9677 : BitVec 32) : Fin 3 → Nat :=
  let c1_2764 : Index := 1#32
  let c0_i32_2753 : BitVec 32 := 0#32
  let v9683 : BitVec 32 := Scalar.addi v9677 c0_i32_2753
  let v9723 : Index := Scalar.indexCast v9683
  let c0_2765 : Index := 0#32
  ![1, v9723.toNat, 0]
def k0_off134 (v9677 : BitVec 32) : Fin 3 → Nat :=
  let c2_2768 : Index := 2#32
  let c0_i32_2753 : BitVec 32 := 0#32
  let v9683 : BitVec 32 := Scalar.addi v9677 c0_i32_2753
  let v9732 : Index := Scalar.indexCast v9683
  let c0_2769 : Index := 0#32
  ![2, v9732.toNat, 0]
def k0_off135 (v9677 : BitVec 32) : Fin 3 → Nat :=
  let c3_2772 : Index := 3#32
  let c0_i32_2753 : BitVec 32 := 0#32
  let v9683 : BitVec 32 := Scalar.addi v9677 c0_i32_2753
  let v9741 : Index := Scalar.indexCast v9683
  let c0_2773 : Index := 0#32
  ![3, v9741.toNat, 0]
def k0_off136 (v9677 : BitVec 32) : Fin 3 → Nat :=
  let c4_2776 : Index := 4#32
  let c0_i32_2753 : BitVec 32 := 0#32
  let v9683 : BitVec 32 := Scalar.addi v9677 c0_i32_2753
  let v9750 : Index := Scalar.indexCast v9683
  let c0_2777 : Index := 0#32
  ![4, v9750.toNat, 0]
def k0_off137 (v9677 : BitVec 32) : Fin 3 → Nat :=
  let c5_2780 : Index := 5#32
  let c0_i32_2753 : BitVec 32 := 0#32
  let v9683 : BitVec 32 := Scalar.addi v9677 c0_i32_2753
  let v9759 : Index := Scalar.indexCast v9683
  let c0_2781 : Index := 0#32
  ![5, v9759.toNat, 0]

def k0_chk66 (v9677 : BitVec 32) : Prop :=
  (∀ a, (k0_off131 v9677) a + S8x128.size a ≤ S216x128.size a) ∧
  (∀ a, (k0_off132 v9677) a + S1x8x128.size a ≤ S6x216x128.size a) ∧
  (∀ a, (k0_off133 v9677) a + S1x8x128.size a ≤ S6x216x128.size a) ∧
  (∀ a, (k0_off134 v9677) a + S1x8x128.size a ≤ S6x216x128.size a) ∧
  (∀ a, (k0_off135 v9677) a + S1x8x128.size a ≤ S6x216x128.size a) ∧
  (∀ a, (k0_off136 v9677) a + S1x8x128.size a ≤ S6x216x128.size a) ∧
  (∀ a, (k0_off137 v9677) a + S1x8x128.size a ≤ S6x216x128.size a)
theorem k0_off131_inb : ∀ (v9677 : BitVec 32) (k0_hw66 : k0_chk66 v9677), ∀ a, (k0_off131 v9677) a + S8x128.size a ≤ S216x128.size a := fun v9677 k0_hw66 => k0_hw66.1
theorem k0_off132_inb : ∀ (v9677 : BitVec 32) (k0_hw66 : k0_chk66 v9677), ∀ a, (k0_off132 v9677) a + S1x8x128.size a ≤ S6x216x128.size a := fun v9677 k0_hw66 => k0_hw66.2.1
theorem k0_off133_inb : ∀ (v9677 : BitVec 32) (k0_hw66 : k0_chk66 v9677), ∀ a, (k0_off133 v9677) a + S1x8x128.size a ≤ S6x216x128.size a := fun v9677 k0_hw66 => k0_hw66.2.2.1
theorem k0_off134_inb : ∀ (v9677 : BitVec 32) (k0_hw66 : k0_chk66 v9677), ∀ a, (k0_off134 v9677) a + S1x8x128.size a ≤ S6x216x128.size a := fun v9677 k0_hw66 => k0_hw66.2.2.2.1
theorem k0_off135_inb : ∀ (v9677 : BitVec 32) (k0_hw66 : k0_chk66 v9677), ∀ a, (k0_off135 v9677) a + S1x8x128.size a ≤ S6x216x128.size a := fun v9677 k0_hw66 => k0_hw66.2.2.2.2.1
theorem k0_off136_inb : ∀ (v9677 : BitVec 32) (k0_hw66 : k0_chk66 v9677), ∀ a, (k0_off136 v9677) a + S1x8x128.size a ≤ S6x216x128.size a := fun v9677 k0_hw66 => k0_hw66.2.2.2.2.2.1
theorem k0_off137_inb : ∀ (v9677 : BitVec 32) (k0_hw66 : k0_chk66 v9677), ∀ a, (k0_off137 v9677) a + S1x8x128.size a ≤ S6x216x128.size a := fun v9677 k0_hw66 => k0_hw66.2.2.2.2.2.2

@[reducible] def k0_t1_loop (v9677 : BitVec 32) (v9682 : BitVec 32) : Scf.Loop 32 :=
  let c0_i32_2792 : BitVec 32 := 0#32
  let v9768 : BitVec 32 := Scalar.subi v9682 v9677
  let c8_i32_2784 : BitVec 32 := 8#32
  let v9769 : BitVec 32 := Scalar.divsi v9768 c8_i32_2784
  let c1_i32_2785 : BitVec 32 := 1#32
  let v9770 : BitVec 32 := Scalar.addi v9769 c1_i32_2785
  let c1_i32_2786 : BitVec 32 := 1#32
  let v9771 : BitVec 32 := Scalar.subi v9770 c1_i32_2786
  let c1_i32_2787 : BitVec 32 := 1#32
  let c1_i32_2788 : BitVec 32 := 1#32
  let v9772 : BitVec 32 := Scalar.subi c1_i32_2787 c1_i32_2788
  let v9773 : BitVec 32 := Scalar.addi v9771 v9772
  let c1_i32_2789 : BitVec 32 := 1#32
  let v9774 : BitVec 32 := Scalar.divsi v9773 c1_i32_2789
  let v9775 : BitVec 32 := Scalar.subi v9774 c0_i32_2792
  let c1_i32_2793 : BitVec 32 := 1#32
  let v9777 : BitVec 32 := Scalar.divsi v9775 c1_i32_2793
  let v9778 : BitVec 32 := Scalar.muli v9777 c1_i32_2793
  let v9779 : BitVec 32 := Scalar.addi c0_i32_2792 v9778
  let c1_i32_2794 : BitVec 32 := 1#32
  ⟨c0_i32_2792, v9779, c1_i32_2794⟩

def k0_off138 (v9677 : BitVec 32) (v9682 : BitVec 32) (k0_t1 : Fin (k0_t1_loop v9677 v9682).trips) : Fin 2 → Nat :=
  let c1_i32_2791 : BitVec 32 := 1#32
  let c0_i32_2792 : BitVec 32 := 0#32
  let c1_i32_2794 : BitVec 32 := 1#32
  let arg21 : BitVec 32 := Scf.iv c0_i32_2792 c1_i32_2794 k0_t1
  let c1_i32_2790 : BitVec 32 := 1#32
  let v9780 : BitVec 32 := Scalar.muli arg21 c1_i32_2790
  let v9781 : BitVec 32 := Scalar.addi c1_i32_2791 v9780
  let c8_i32_2796 : BitVec 32 := 8#32
  let v9782 : BitVec 32 := Scalar.muli v9781 c8_i32_2796
  let v9783 : BitVec 32 := Scalar.addi v9677 v9782
  let v9784 : Index := Scalar.indexCast v9783
  let c0_2797 : Index := 0#32
  ![v9784.toNat, 0]
def k0_off139 (v9677 : BitVec 32) (v9682 : BitVec 32) (k0_t1 : Fin (k0_t1_loop v9677 v9682).trips) : Fin 3 → Nat :=
  let c0_2803 : Index := 0#32
  let c1_i32_2791 : BitVec 32 := 1#32
  let c0_i32_2792 : BitVec 32 := 0#32
  let c1_i32_2794 : BitVec 32 := 1#32
  let arg21 : BitVec 32 := Scf.iv c0_i32_2792 c1_i32_2794 k0_t1
  let c1_i32_2790 : BitVec 32 := 1#32
  let v9780 : BitVec 32 := Scalar.muli arg21 c1_i32_2790
  let v9781 : BitVec 32 := Scalar.addi c1_i32_2791 v9780
  let c8_i32_2796 : BitVec 32 := 8#32
  let v9782 : BitVec 32 := Scalar.muli v9781 c8_i32_2796
  let v9783 : BitVec 32 := Scalar.addi v9677 v9782
  let v9814 : Index := Scalar.indexCast v9783
  let c0_2804 : Index := 0#32
  ![0, v9814.toNat, 0]
def k0_off140 (v9677 : BitVec 32) (v9682 : BitVec 32) (k0_t1 : Fin (k0_t1_loop v9677 v9682).trips) : Fin 3 → Nat :=
  let c1_2807 : Index := 1#32
  let c1_i32_2791 : BitVec 32 := 1#32
  let c0_i32_2792 : BitVec 32 := 0#32
  let c1_i32_2794 : BitVec 32 := 1#32
  let arg21 : BitVec 32 := Scf.iv c0_i32_2792 c1_i32_2794 k0_t1
  let c1_i32_2790 : BitVec 32 := 1#32
  let v9780 : BitVec 32 := Scalar.muli arg21 c1_i32_2790
  let v9781 : BitVec 32 := Scalar.addi c1_i32_2791 v9780
  let c8_i32_2796 : BitVec 32 := 8#32
  let v9782 : BitVec 32 := Scalar.muli v9781 c8_i32_2796
  let v9783 : BitVec 32 := Scalar.addi v9677 v9782
  let v9823 : Index := Scalar.indexCast v9783
  let c0_2808 : Index := 0#32
  ![1, v9823.toNat, 0]
def k0_off141 (v9677 : BitVec 32) (v9682 : BitVec 32) (k0_t1 : Fin (k0_t1_loop v9677 v9682).trips) : Fin 3 → Nat :=
  let c2_2811 : Index := 2#32
  let c1_i32_2791 : BitVec 32 := 1#32
  let c0_i32_2792 : BitVec 32 := 0#32
  let c1_i32_2794 : BitVec 32 := 1#32
  let arg21 : BitVec 32 := Scf.iv c0_i32_2792 c1_i32_2794 k0_t1
  let c1_i32_2790 : BitVec 32 := 1#32
  let v9780 : BitVec 32 := Scalar.muli arg21 c1_i32_2790
  let v9781 : BitVec 32 := Scalar.addi c1_i32_2791 v9780
  let c8_i32_2796 : BitVec 32 := 8#32
  let v9782 : BitVec 32 := Scalar.muli v9781 c8_i32_2796
  let v9783 : BitVec 32 := Scalar.addi v9677 v9782
  let v9832 : Index := Scalar.indexCast v9783
  let c0_2812 : Index := 0#32
  ![2, v9832.toNat, 0]
def k0_off142 (v9677 : BitVec 32) (v9682 : BitVec 32) (k0_t1 : Fin (k0_t1_loop v9677 v9682).trips) : Fin 3 → Nat :=
  let c3_2815 : Index := 3#32
  let c1_i32_2791 : BitVec 32 := 1#32
  let c0_i32_2792 : BitVec 32 := 0#32
  let c1_i32_2794 : BitVec 32 := 1#32
  let arg21 : BitVec 32 := Scf.iv c0_i32_2792 c1_i32_2794 k0_t1
  let c1_i32_2790 : BitVec 32 := 1#32
  let v9780 : BitVec 32 := Scalar.muli arg21 c1_i32_2790
  let v9781 : BitVec 32 := Scalar.addi c1_i32_2791 v9780
  let c8_i32_2796 : BitVec 32 := 8#32
  let v9782 : BitVec 32 := Scalar.muli v9781 c8_i32_2796
  let v9783 : BitVec 32 := Scalar.addi v9677 v9782
  let v9841 : Index := Scalar.indexCast v9783
  let c0_2816 : Index := 0#32
  ![3, v9841.toNat, 0]
def k0_off143 (v9677 : BitVec 32) (v9682 : BitVec 32) (k0_t1 : Fin (k0_t1_loop v9677 v9682).trips) : Fin 3 → Nat :=
  let c4_2819 : Index := 4#32
  let c1_i32_2791 : BitVec 32 := 1#32
  let c0_i32_2792 : BitVec 32 := 0#32
  let c1_i32_2794 : BitVec 32 := 1#32
  let arg21 : BitVec 32 := Scf.iv c0_i32_2792 c1_i32_2794 k0_t1
  let c1_i32_2790 : BitVec 32 := 1#32
  let v9780 : BitVec 32 := Scalar.muli arg21 c1_i32_2790
  let v9781 : BitVec 32 := Scalar.addi c1_i32_2791 v9780
  let c8_i32_2796 : BitVec 32 := 8#32
  let v9782 : BitVec 32 := Scalar.muli v9781 c8_i32_2796
  let v9783 : BitVec 32 := Scalar.addi v9677 v9782
  let v9850 : Index := Scalar.indexCast v9783
  let c0_2820 : Index := 0#32
  ![4, v9850.toNat, 0]
def k0_off144 (v9677 : BitVec 32) (v9682 : BitVec 32) (k0_t1 : Fin (k0_t1_loop v9677 v9682).trips) : Fin 3 → Nat :=
  let c5_2823 : Index := 5#32
  let c1_i32_2791 : BitVec 32 := 1#32
  let c0_i32_2792 : BitVec 32 := 0#32
  let c1_i32_2794 : BitVec 32 := 1#32
  let arg21 : BitVec 32 := Scf.iv c0_i32_2792 c1_i32_2794 k0_t1
  let c1_i32_2790 : BitVec 32 := 1#32
  let v9780 : BitVec 32 := Scalar.muli arg21 c1_i32_2790
  let v9781 : BitVec 32 := Scalar.addi c1_i32_2791 v9780
  let c8_i32_2796 : BitVec 32 := 8#32
  let v9782 : BitVec 32 := Scalar.muli v9781 c8_i32_2796
  let v9783 : BitVec 32 := Scalar.addi v9677 v9782
  let v9859 : Index := Scalar.indexCast v9783
  let c0_2824 : Index := 0#32
  ![5, v9859.toNat, 0]
@[reducible] def k0_t2_loop (v9677 : BitVec 32) (v9682 : BitVec 32) : Scf.Loop 32 :=
  let c0_i32_2792 : BitVec 32 := 0#32
  let v9768 : BitVec 32 := Scalar.subi v9682 v9677
  let c8_i32_2784 : BitVec 32 := 8#32
  let v9769 : BitVec 32 := Scalar.divsi v9768 c8_i32_2784
  let c1_i32_2785 : BitVec 32 := 1#32
  let v9770 : BitVec 32 := Scalar.addi v9769 c1_i32_2785
  let c1_i32_2786 : BitVec 32 := 1#32
  let v9771 : BitVec 32 := Scalar.subi v9770 c1_i32_2786
  let c1_i32_2787 : BitVec 32 := 1#32
  let c1_i32_2788 : BitVec 32 := 1#32
  let v9772 : BitVec 32 := Scalar.subi c1_i32_2787 c1_i32_2788
  let v9773 : BitVec 32 := Scalar.addi v9771 v9772
  let c1_i32_2789 : BitVec 32 := 1#32
  let v9774 : BitVec 32 := Scalar.divsi v9773 c1_i32_2789
  let v9775 : BitVec 32 := Scalar.subi v9774 c0_i32_2792
  let c1_i32_2793 : BitVec 32 := 1#32
  let v9777 : BitVec 32 := Scalar.divsi v9775 c1_i32_2793
  let v9778 : BitVec 32 := Scalar.muli v9777 c1_i32_2793
  let v9779 : BitVec 32 := Scalar.addi c0_i32_2792 v9778
  let v9776 : BitVec 32 := Scalar.addi c0_i32_2792 v9775
  let c1_i32_2795 : BitVec 32 := 1#32
  ⟨v9779, v9776, c1_i32_2795⟩
def k0_off145 (v9677 : BitVec 32) (v9682 : BitVec 32) (k0_t2 : Fin (k0_t2_loop v9677 v9682).trips) : Fin 2 → Nat :=
  let c1_i32_2791 : BitVec 32 := 1#32
  let c0_i32_2792 : BitVec 32 := 0#32
  let v9768 : BitVec 32 := Scalar.subi v9682 v9677
  let c8_i32_2784 : BitVec 32 := 8#32
  let v9769 : BitVec 32 := Scalar.divsi v9768 c8_i32_2784
  let c1_i32_2785 : BitVec 32 := 1#32
  let v9770 : BitVec 32 := Scalar.addi v9769 c1_i32_2785
  let c1_i32_2786 : BitVec 32 := 1#32
  let v9771 : BitVec 32 := Scalar.subi v9770 c1_i32_2786
  let c1_i32_2787 : BitVec 32 := 1#32
  let c1_i32_2788 : BitVec 32 := 1#32
  let v9772 : BitVec 32 := Scalar.subi c1_i32_2787 c1_i32_2788
  let v9773 : BitVec 32 := Scalar.addi v9771 v9772
  let c1_i32_2789 : BitVec 32 := 1#32
  let v9774 : BitVec 32 := Scalar.divsi v9773 c1_i32_2789
  let v9775 : BitVec 32 := Scalar.subi v9774 c0_i32_2792
  let c1_i32_2793 : BitVec 32 := 1#32
  let v9777 : BitVec 32 := Scalar.divsi v9775 c1_i32_2793
  let v9778 : BitVec 32 := Scalar.muli v9777 c1_i32_2793
  let v9779 : BitVec 32 := Scalar.addi c0_i32_2792 v9778
  let c1_i32_2795 : BitVec 32 := 1#32
  let arg21 : BitVec 32 := Scf.iv v9779 c1_i32_2795 k0_t2
  let c1_i32_2790 : BitVec 32 := 1#32
  let v9780 : BitVec 32 := Scalar.muli arg21 c1_i32_2790
  let v9781 : BitVec 32 := Scalar.addi c1_i32_2791 v9780
  let c8_i32_2796 : BitVec 32 := 8#32
  let v9782 : BitVec 32 := Scalar.muli v9781 c8_i32_2796
  let v9783 : BitVec 32 := Scalar.addi v9677 v9782
  let v9784 : Index := Scalar.indexCast v9783
  let c0_2797 : Index := 0#32
  ![v9784.toNat, 0]
def k0_off146 (v9677 : BitVec 32) (v9682 : BitVec 32) (k0_t2 : Fin (k0_t2_loop v9677 v9682).trips) : Fin 3 → Nat :=
  let c0_2803 : Index := 0#32
  let c1_i32_2791 : BitVec 32 := 1#32
  let c0_i32_2792 : BitVec 32 := 0#32
  let v9768 : BitVec 32 := Scalar.subi v9682 v9677
  let c8_i32_2784 : BitVec 32 := 8#32
  let v9769 : BitVec 32 := Scalar.divsi v9768 c8_i32_2784
  let c1_i32_2785 : BitVec 32 := 1#32
  let v9770 : BitVec 32 := Scalar.addi v9769 c1_i32_2785
  let c1_i32_2786 : BitVec 32 := 1#32
  let v9771 : BitVec 32 := Scalar.subi v9770 c1_i32_2786
  let c1_i32_2787 : BitVec 32 := 1#32
  let c1_i32_2788 : BitVec 32 := 1#32
  let v9772 : BitVec 32 := Scalar.subi c1_i32_2787 c1_i32_2788
  let v9773 : BitVec 32 := Scalar.addi v9771 v9772
  let c1_i32_2789 : BitVec 32 := 1#32
  let v9774 : BitVec 32 := Scalar.divsi v9773 c1_i32_2789
  let v9775 : BitVec 32 := Scalar.subi v9774 c0_i32_2792
  let c1_i32_2793 : BitVec 32 := 1#32
  let v9777 : BitVec 32 := Scalar.divsi v9775 c1_i32_2793
  let v9778 : BitVec 32 := Scalar.muli v9777 c1_i32_2793
  let v9779 : BitVec 32 := Scalar.addi c0_i32_2792 v9778
  let c1_i32_2795 : BitVec 32 := 1#32
  let arg21 : BitVec 32 := Scf.iv v9779 c1_i32_2795 k0_t2
  let c1_i32_2790 : BitVec 32 := 1#32
  let v9780 : BitVec 32 := Scalar.muli arg21 c1_i32_2790
  let v9781 : BitVec 32 := Scalar.addi c1_i32_2791 v9780
  let c8_i32_2796 : BitVec 32 := 8#32
  let v9782 : BitVec 32 := Scalar.muli v9781 c8_i32_2796
  let v9783 : BitVec 32 := Scalar.addi v9677 v9782
  let v9814 : Index := Scalar.indexCast v9783
  let c0_2804 : Index := 0#32
  ![0, v9814.toNat, 0]
def k0_off147 (v9677 : BitVec 32) (v9682 : BitVec 32) (k0_t2 : Fin (k0_t2_loop v9677 v9682).trips) : Fin 3 → Nat :=
  let c1_2807 : Index := 1#32
  let c1_i32_2791 : BitVec 32 := 1#32
  let c0_i32_2792 : BitVec 32 := 0#32
  let v9768 : BitVec 32 := Scalar.subi v9682 v9677
  let c8_i32_2784 : BitVec 32 := 8#32
  let v9769 : BitVec 32 := Scalar.divsi v9768 c8_i32_2784
  let c1_i32_2785 : BitVec 32 := 1#32
  let v9770 : BitVec 32 := Scalar.addi v9769 c1_i32_2785
  let c1_i32_2786 : BitVec 32 := 1#32
  let v9771 : BitVec 32 := Scalar.subi v9770 c1_i32_2786
  let c1_i32_2787 : BitVec 32 := 1#32
  let c1_i32_2788 : BitVec 32 := 1#32
  let v9772 : BitVec 32 := Scalar.subi c1_i32_2787 c1_i32_2788
  let v9773 : BitVec 32 := Scalar.addi v9771 v9772
  let c1_i32_2789 : BitVec 32 := 1#32
  let v9774 : BitVec 32 := Scalar.divsi v9773 c1_i32_2789
  let v9775 : BitVec 32 := Scalar.subi v9774 c0_i32_2792
  let c1_i32_2793 : BitVec 32 := 1#32
  let v9777 : BitVec 32 := Scalar.divsi v9775 c1_i32_2793
  let v9778 : BitVec 32 := Scalar.muli v9777 c1_i32_2793
  let v9779 : BitVec 32 := Scalar.addi c0_i32_2792 v9778
  let c1_i32_2795 : BitVec 32 := 1#32
  let arg21 : BitVec 32 := Scf.iv v9779 c1_i32_2795 k0_t2
  let c1_i32_2790 : BitVec 32 := 1#32
  let v9780 : BitVec 32 := Scalar.muli arg21 c1_i32_2790
  let v9781 : BitVec 32 := Scalar.addi c1_i32_2791 v9780
  let c8_i32_2796 : BitVec 32 := 8#32
  let v9782 : BitVec 32 := Scalar.muli v9781 c8_i32_2796
  let v9783 : BitVec 32 := Scalar.addi v9677 v9782
  let v9823 : Index := Scalar.indexCast v9783
  let c0_2808 : Index := 0#32
  ![1, v9823.toNat, 0]
def k0_off148 (v9677 : BitVec 32) (v9682 : BitVec 32) (k0_t2 : Fin (k0_t2_loop v9677 v9682).trips) : Fin 3 → Nat :=
  let c2_2811 : Index := 2#32
  let c1_i32_2791 : BitVec 32 := 1#32
  let c0_i32_2792 : BitVec 32 := 0#32
  let v9768 : BitVec 32 := Scalar.subi v9682 v9677
  let c8_i32_2784 : BitVec 32 := 8#32
  let v9769 : BitVec 32 := Scalar.divsi v9768 c8_i32_2784
  let c1_i32_2785 : BitVec 32 := 1#32
  let v9770 : BitVec 32 := Scalar.addi v9769 c1_i32_2785
  let c1_i32_2786 : BitVec 32 := 1#32
  let v9771 : BitVec 32 := Scalar.subi v9770 c1_i32_2786
  let c1_i32_2787 : BitVec 32 := 1#32
  let c1_i32_2788 : BitVec 32 := 1#32
  let v9772 : BitVec 32 := Scalar.subi c1_i32_2787 c1_i32_2788
  let v9773 : BitVec 32 := Scalar.addi v9771 v9772
  let c1_i32_2789 : BitVec 32 := 1#32
  let v9774 : BitVec 32 := Scalar.divsi v9773 c1_i32_2789
  let v9775 : BitVec 32 := Scalar.subi v9774 c0_i32_2792
  let c1_i32_2793 : BitVec 32 := 1#32
  let v9777 : BitVec 32 := Scalar.divsi v9775 c1_i32_2793
  let v9778 : BitVec 32 := Scalar.muli v9777 c1_i32_2793
  let v9779 : BitVec 32 := Scalar.addi c0_i32_2792 v9778
  let c1_i32_2795 : BitVec 32 := 1#32
  let arg21 : BitVec 32 := Scf.iv v9779 c1_i32_2795 k0_t2
  let c1_i32_2790 : BitVec 32 := 1#32
  let v9780 : BitVec 32 := Scalar.muli arg21 c1_i32_2790
  let v9781 : BitVec 32 := Scalar.addi c1_i32_2791 v9780
  let c8_i32_2796 : BitVec 32 := 8#32
  let v9782 : BitVec 32 := Scalar.muli v9781 c8_i32_2796
  let v9783 : BitVec 32 := Scalar.addi v9677 v9782
  let v9832 : Index := Scalar.indexCast v9783
  let c0_2812 : Index := 0#32
  ![2, v9832.toNat, 0]
def k0_off149 (v9677 : BitVec 32) (v9682 : BitVec 32) (k0_t2 : Fin (k0_t2_loop v9677 v9682).trips) : Fin 3 → Nat :=
  let c3_2815 : Index := 3#32
  let c1_i32_2791 : BitVec 32 := 1#32
  let c0_i32_2792 : BitVec 32 := 0#32
  let v9768 : BitVec 32 := Scalar.subi v9682 v9677
  let c8_i32_2784 : BitVec 32 := 8#32
  let v9769 : BitVec 32 := Scalar.divsi v9768 c8_i32_2784
  let c1_i32_2785 : BitVec 32 := 1#32
  let v9770 : BitVec 32 := Scalar.addi v9769 c1_i32_2785
  let c1_i32_2786 : BitVec 32 := 1#32
  let v9771 : BitVec 32 := Scalar.subi v9770 c1_i32_2786
  let c1_i32_2787 : BitVec 32 := 1#32
  let c1_i32_2788 : BitVec 32 := 1#32
  let v9772 : BitVec 32 := Scalar.subi c1_i32_2787 c1_i32_2788
  let v9773 : BitVec 32 := Scalar.addi v9771 v9772
  let c1_i32_2789 : BitVec 32 := 1#32
  let v9774 : BitVec 32 := Scalar.divsi v9773 c1_i32_2789
  let v9775 : BitVec 32 := Scalar.subi v9774 c0_i32_2792
  let c1_i32_2793 : BitVec 32 := 1#32
  let v9777 : BitVec 32 := Scalar.divsi v9775 c1_i32_2793
  let v9778 : BitVec 32 := Scalar.muli v9777 c1_i32_2793
  let v9779 : BitVec 32 := Scalar.addi c0_i32_2792 v9778
  let c1_i32_2795 : BitVec 32 := 1#32
  let arg21 : BitVec 32 := Scf.iv v9779 c1_i32_2795 k0_t2
  let c1_i32_2790 : BitVec 32 := 1#32
  let v9780 : BitVec 32 := Scalar.muli arg21 c1_i32_2790
  let v9781 : BitVec 32 := Scalar.addi c1_i32_2791 v9780
  let c8_i32_2796 : BitVec 32 := 8#32
  let v9782 : BitVec 32 := Scalar.muli v9781 c8_i32_2796
  let v9783 : BitVec 32 := Scalar.addi v9677 v9782
  let v9841 : Index := Scalar.indexCast v9783
  let c0_2816 : Index := 0#32
  ![3, v9841.toNat, 0]
def k0_off150 (v9677 : BitVec 32) (v9682 : BitVec 32) (k0_t2 : Fin (k0_t2_loop v9677 v9682).trips) : Fin 3 → Nat :=
  let c4_2819 : Index := 4#32
  let c1_i32_2791 : BitVec 32 := 1#32
  let c0_i32_2792 : BitVec 32 := 0#32
  let v9768 : BitVec 32 := Scalar.subi v9682 v9677
  let c8_i32_2784 : BitVec 32 := 8#32
  let v9769 : BitVec 32 := Scalar.divsi v9768 c8_i32_2784
  let c1_i32_2785 : BitVec 32 := 1#32
  let v9770 : BitVec 32 := Scalar.addi v9769 c1_i32_2785
  let c1_i32_2786 : BitVec 32 := 1#32
  let v9771 : BitVec 32 := Scalar.subi v9770 c1_i32_2786
  let c1_i32_2787 : BitVec 32 := 1#32
  let c1_i32_2788 : BitVec 32 := 1#32
  let v9772 : BitVec 32 := Scalar.subi c1_i32_2787 c1_i32_2788
  let v9773 : BitVec 32 := Scalar.addi v9771 v9772
  let c1_i32_2789 : BitVec 32 := 1#32
  let v9774 : BitVec 32 := Scalar.divsi v9773 c1_i32_2789
  let v9775 : BitVec 32 := Scalar.subi v9774 c0_i32_2792
  let c1_i32_2793 : BitVec 32 := 1#32
  let v9777 : BitVec 32 := Scalar.divsi v9775 c1_i32_2793
  let v9778 : BitVec 32 := Scalar.muli v9777 c1_i32_2793
  let v9779 : BitVec 32 := Scalar.addi c0_i32_2792 v9778
  let c1_i32_2795 : BitVec 32 := 1#32
  let arg21 : BitVec 32 := Scf.iv v9779 c1_i32_2795 k0_t2
  let c1_i32_2790 : BitVec 32 := 1#32
  let v9780 : BitVec 32 := Scalar.muli arg21 c1_i32_2790
  let v9781 : BitVec 32 := Scalar.addi c1_i32_2791 v9780
  let c8_i32_2796 : BitVec 32 := 8#32
  let v9782 : BitVec 32 := Scalar.muli v9781 c8_i32_2796
  let v9783 : BitVec 32 := Scalar.addi v9677 v9782
  let v9850 : Index := Scalar.indexCast v9783
  let c0_2820 : Index := 0#32
  ![4, v9850.toNat, 0]
def k0_off151 (v9677 : BitVec 32) (v9682 : BitVec 32) (k0_t2 : Fin (k0_t2_loop v9677 v9682).trips) : Fin 3 → Nat :=
  let c5_2823 : Index := 5#32
  let c1_i32_2791 : BitVec 32 := 1#32
  let c0_i32_2792 : BitVec 32 := 0#32
  let v9768 : BitVec 32 := Scalar.subi v9682 v9677
  let c8_i32_2784 : BitVec 32 := 8#32
  let v9769 : BitVec 32 := Scalar.divsi v9768 c8_i32_2784
  let c1_i32_2785 : BitVec 32 := 1#32
  let v9770 : BitVec 32 := Scalar.addi v9769 c1_i32_2785
  let c1_i32_2786 : BitVec 32 := 1#32
  let v9771 : BitVec 32 := Scalar.subi v9770 c1_i32_2786
  let c1_i32_2787 : BitVec 32 := 1#32
  let c1_i32_2788 : BitVec 32 := 1#32
  let v9772 : BitVec 32 := Scalar.subi c1_i32_2787 c1_i32_2788
  let v9773 : BitVec 32 := Scalar.addi v9771 v9772
  let c1_i32_2789 : BitVec 32 := 1#32
  let v9774 : BitVec 32 := Scalar.divsi v9773 c1_i32_2789
  let v9775 : BitVec 32 := Scalar.subi v9774 c0_i32_2792
  let c1_i32_2793 : BitVec 32 := 1#32
  let v9777 : BitVec 32 := Scalar.divsi v9775 c1_i32_2793
  let v9778 : BitVec 32 := Scalar.muli v9777 c1_i32_2793
  let v9779 : BitVec 32 := Scalar.addi c0_i32_2792 v9778
  let c1_i32_2795 : BitVec 32 := 1#32
  let arg21 : BitVec 32 := Scf.iv v9779 c1_i32_2795 k0_t2
  let c1_i32_2790 : BitVec 32 := 1#32
  let v9780 : BitVec 32 := Scalar.muli arg21 c1_i32_2790
  let v9781 : BitVec 32 := Scalar.addi c1_i32_2791 v9780
  let c8_i32_2796 : BitVec 32 := 8#32
  let v9782 : BitVec 32 := Scalar.muli v9781 c8_i32_2796
  let v9783 : BitVec 32 := Scalar.addi v9677 v9782
  let v9859 : Index := Scalar.indexCast v9783
  let c0_2824 : Index := 0#32
  ![5, v9859.toNat, 0]

def k0_chk67 (v9677 : BitVec 32) (v9682 : BitVec 32) : Prop :=
  ((k0_t1_loop v9677 v9682).OK) ∧
  (∀ k0_t1 : Fin (k0_t1_loop v9677 v9682).trips, ∀ a, (k0_off138 v9677 v9682 k0_t1) a + S8x128.size a ≤ S216x128.size a) ∧
  (∀ k0_t1 : Fin (k0_t1_loop v9677 v9682).trips, ∀ a, (k0_off139 v9677 v9682 k0_t1) a + S1x8x128.size a ≤ S6x216x128.size a) ∧
  (∀ k0_t1 : Fin (k0_t1_loop v9677 v9682).trips, ∀ a, (k0_off140 v9677 v9682 k0_t1) a + S1x8x128.size a ≤ S6x216x128.size a) ∧
  (∀ k0_t1 : Fin (k0_t1_loop v9677 v9682).trips, ∀ a, (k0_off141 v9677 v9682 k0_t1) a + S1x8x128.size a ≤ S6x216x128.size a) ∧
  (∀ k0_t1 : Fin (k0_t1_loop v9677 v9682).trips, ∀ a, (k0_off142 v9677 v9682 k0_t1) a + S1x8x128.size a ≤ S6x216x128.size a) ∧
  (∀ k0_t1 : Fin (k0_t1_loop v9677 v9682).trips, ∀ a, (k0_off143 v9677 v9682 k0_t1) a + S1x8x128.size a ≤ S6x216x128.size a) ∧
  (∀ k0_t1 : Fin (k0_t1_loop v9677 v9682).trips, ∀ a, (k0_off144 v9677 v9682 k0_t1) a + S1x8x128.size a ≤ S6x216x128.size a) ∧
  ((k0_t2_loop v9677 v9682).OK) ∧
  (∀ k0_t2 : Fin (k0_t2_loop v9677 v9682).trips, ∀ a, (k0_off145 v9677 v9682 k0_t2) a + S8x128.size a ≤ S216x128.size a) ∧
  (∀ k0_t2 : Fin (k0_t2_loop v9677 v9682).trips, ∀ a, (k0_off146 v9677 v9682 k0_t2) a + S1x8x128.size a ≤ S6x216x128.size a) ∧
  (∀ k0_t2 : Fin (k0_t2_loop v9677 v9682).trips, ∀ a, (k0_off147 v9677 v9682 k0_t2) a + S1x8x128.size a ≤ S6x216x128.size a) ∧
  (∀ k0_t2 : Fin (k0_t2_loop v9677 v9682).trips, ∀ a, (k0_off148 v9677 v9682 k0_t2) a + S1x8x128.size a ≤ S6x216x128.size a) ∧
  (∀ k0_t2 : Fin (k0_t2_loop v9677 v9682).trips, ∀ a, (k0_off149 v9677 v9682 k0_t2) a + S1x8x128.size a ≤ S6x216x128.size a) ∧
  (∀ k0_t2 : Fin (k0_t2_loop v9677 v9682).trips, ∀ a, (k0_off150 v9677 v9682 k0_t2) a + S1x8x128.size a ≤ S6x216x128.size a) ∧
  (∀ k0_t2 : Fin (k0_t2_loop v9677 v9682).trips, ∀ a, (k0_off151 v9677 v9682 k0_t2) a + S1x8x128.size a ≤ S6x216x128.size a)
theorem k0_t1_ok : ∀ (v9677 : BitVec 32) (v9682 : BitVec 32) (k0_hw67 : k0_chk67 v9677 v9682), (k0_t1_loop v9677 v9682).OK := fun v9677 v9682 k0_hw67 => k0_hw67.1
theorem k0_off138_inb : ∀ (v9677 : BitVec 32) (v9682 : BitVec 32) (k0_hw67 : k0_chk67 v9677 v9682) (k0_t1 : Fin (k0_t1_loop v9677 v9682).trips), ∀ a, (k0_off138 v9677 v9682 k0_t1) a + S8x128.size a ≤ S216x128.size a := fun v9677 v9682 k0_hw67 k0_t1 => k0_hw67.2.1 k0_t1
theorem k0_off139_inb : ∀ (v9677 : BitVec 32) (v9682 : BitVec 32) (k0_hw67 : k0_chk67 v9677 v9682) (k0_t1 : Fin (k0_t1_loop v9677 v9682).trips), ∀ a, (k0_off139 v9677 v9682 k0_t1) a + S1x8x128.size a ≤ S6x216x128.size a := fun v9677 v9682 k0_hw67 k0_t1 => k0_hw67.2.2.1 k0_t1
theorem k0_off140_inb : ∀ (v9677 : BitVec 32) (v9682 : BitVec 32) (k0_hw67 : k0_chk67 v9677 v9682) (k0_t1 : Fin (k0_t1_loop v9677 v9682).trips), ∀ a, (k0_off140 v9677 v9682 k0_t1) a + S1x8x128.size a ≤ S6x216x128.size a := fun v9677 v9682 k0_hw67 k0_t1 => k0_hw67.2.2.2.1 k0_t1
theorem k0_off141_inb : ∀ (v9677 : BitVec 32) (v9682 : BitVec 32) (k0_hw67 : k0_chk67 v9677 v9682) (k0_t1 : Fin (k0_t1_loop v9677 v9682).trips), ∀ a, (k0_off141 v9677 v9682 k0_t1) a + S1x8x128.size a ≤ S6x216x128.size a := fun v9677 v9682 k0_hw67 k0_t1 => k0_hw67.2.2.2.2.1 k0_t1
theorem k0_off142_inb : ∀ (v9677 : BitVec 32) (v9682 : BitVec 32) (k0_hw67 : k0_chk67 v9677 v9682) (k0_t1 : Fin (k0_t1_loop v9677 v9682).trips), ∀ a, (k0_off142 v9677 v9682 k0_t1) a + S1x8x128.size a ≤ S6x216x128.size a := fun v9677 v9682 k0_hw67 k0_t1 => k0_hw67.2.2.2.2.2.1 k0_t1
theorem k0_off143_inb : ∀ (v9677 : BitVec 32) (v9682 : BitVec 32) (k0_hw67 : k0_chk67 v9677 v9682) (k0_t1 : Fin (k0_t1_loop v9677 v9682).trips), ∀ a, (k0_off143 v9677 v9682 k0_t1) a + S1x8x128.size a ≤ S6x216x128.size a := fun v9677 v9682 k0_hw67 k0_t1 => k0_hw67.2.2.2.2.2.2.1 k0_t1
theorem k0_off144_inb : ∀ (v9677 : BitVec 32) (v9682 : BitVec 32) (k0_hw67 : k0_chk67 v9677 v9682) (k0_t1 : Fin (k0_t1_loop v9677 v9682).trips), ∀ a, (k0_off144 v9677 v9682 k0_t1) a + S1x8x128.size a ≤ S6x216x128.size a := fun v9677 v9682 k0_hw67 k0_t1 => k0_hw67.2.2.2.2.2.2.2.1 k0_t1
theorem k0_t2_ok : ∀ (v9677 : BitVec 32) (v9682 : BitVec 32) (k0_hw67 : k0_chk67 v9677 v9682), (k0_t2_loop v9677 v9682).OK := fun v9677 v9682 k0_hw67 => k0_hw67.2.2.2.2.2.2.2.2.1
theorem k0_off145_inb : ∀ (v9677 : BitVec 32) (v9682 : BitVec 32) (k0_hw67 : k0_chk67 v9677 v9682) (k0_t2 : Fin (k0_t2_loop v9677 v9682).trips), ∀ a, (k0_off145 v9677 v9682 k0_t2) a + S8x128.size a ≤ S216x128.size a := fun v9677 v9682 k0_hw67 k0_t2 => k0_hw67.2.2.2.2.2.2.2.2.2.1 k0_t2
theorem k0_off146_inb : ∀ (v9677 : BitVec 32) (v9682 : BitVec 32) (k0_hw67 : k0_chk67 v9677 v9682) (k0_t2 : Fin (k0_t2_loop v9677 v9682).trips), ∀ a, (k0_off146 v9677 v9682 k0_t2) a + S1x8x128.size a ≤ S6x216x128.size a := fun v9677 v9682 k0_hw67 k0_t2 => k0_hw67.2.2.2.2.2.2.2.2.2.2.1 k0_t2
theorem k0_off147_inb : ∀ (v9677 : BitVec 32) (v9682 : BitVec 32) (k0_hw67 : k0_chk67 v9677 v9682) (k0_t2 : Fin (k0_t2_loop v9677 v9682).trips), ∀ a, (k0_off147 v9677 v9682 k0_t2) a + S1x8x128.size a ≤ S6x216x128.size a := fun v9677 v9682 k0_hw67 k0_t2 => k0_hw67.2.2.2.2.2.2.2.2.2.2.2.1 k0_t2
theorem k0_off148_inb : ∀ (v9677 : BitVec 32) (v9682 : BitVec 32) (k0_hw67 : k0_chk67 v9677 v9682) (k0_t2 : Fin (k0_t2_loop v9677 v9682).trips), ∀ a, (k0_off148 v9677 v9682 k0_t2) a + S1x8x128.size a ≤ S6x216x128.size a := fun v9677 v9682 k0_hw67 k0_t2 => k0_hw67.2.2.2.2.2.2.2.2.2.2.2.2.1 k0_t2
theorem k0_off149_inb : ∀ (v9677 : BitVec 32) (v9682 : BitVec 32) (k0_hw67 : k0_chk67 v9677 v9682) (k0_t2 : Fin (k0_t2_loop v9677 v9682).trips), ∀ a, (k0_off149 v9677 v9682 k0_t2) a + S1x8x128.size a ≤ S6x216x128.size a := fun v9677 v9682 k0_hw67 k0_t2 => k0_hw67.2.2.2.2.2.2.2.2.2.2.2.2.2.1 k0_t2
theorem k0_off150_inb : ∀ (v9677 : BitVec 32) (v9682 : BitVec 32) (k0_hw67 : k0_chk67 v9677 v9682) (k0_t2 : Fin (k0_t2_loop v9677 v9682).trips), ∀ a, (k0_off150 v9677 v9682 k0_t2) a + S1x8x128.size a ≤ S6x216x128.size a := fun v9677 v9682 k0_hw67 k0_t2 => k0_hw67.2.2.2.2.2.2.2.2.2.2.2.2.2.2.1 k0_t2
theorem k0_off151_inb : ∀ (v9677 : BitVec 32) (v9682 : BitVec 32) (k0_hw67 : k0_chk67 v9677 v9682) (k0_t2 : Fin (k0_t2_loop v9677 v9682).trips), ∀ a, (k0_off151 v9677 v9682 k0_t2) a + S1x8x128.size a ≤ S6x216x128.size a := fun v9677 v9682 k0_hw67 k0_t2 => k0_hw67.2.2.2.2.2.2.2.2.2.2.2.2.2.2.2 k0_t2

def cc0_transform_0 (b : grid0.Bounds) (i : (grid0.at b).Coords) : Fin 4 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_1 (b : grid0.Bounds) (i : (grid0.at b).Coords) : Fin 3 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  let c0_i32_1 : BitVec 32 := 0#32
  ![v0.toNat, c0_i32.toNat, c0_i32_0.toNat]

def cc0_transform_2 (b : grid0.Bounds) (i : (grid0.at b).Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (b : grid0.Bounds) (i : (grid0.at b).Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (b : grid0.Bounds) (i : (grid0.at b).Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (b : grid0.Bounds) (i : (grid0.at b).Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (b : grid0.Bounds) (i : (grid0.at b).Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (b : grid0.Bounds) (i : (grid0.at b).Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (b : grid0.Bounds) (i : (grid0.at b).Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (b : grid0.Bounds) (i : (grid0.at b).Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (b : grid0.Bounds) (i : (grid0.at b).Coords) : Fin 1 → Nat :=
  let arg0 : BitVec 32 := BitVec.ofNat 32 (i 0).val
  let c0_i32 : BitVec 32 := 0#32
  let c0_i32_0 : BitVec 32 := 0#32
  ![c0_i32.toNat]

def cc0_transform_11 (b : grid0.Bounds) (i : (grid0.at b).Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (b : grid0.Bounds) (i : (grid0.at b).Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (b : grid0.Bounds) (i : (grid0.at b).Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (b : grid0.Bounds) (i : (grid0.at b).Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (b : grid0.Bounds) (i : (grid0.at b).Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x6x8x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x2x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S224x768 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S224x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3072x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .smem S1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S216x128 .i32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S216x128 .i32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S6x216x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S6x216x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S8x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== ReferenceIdeal.lean ====
abbrev S2432x6x8x128 : Shape := ⟨4, ![2432, 6, 8, 128]⟩
abbrev S2432x2x128 : Shape := ⟨3, ![2432, 2, 128]⟩
abbrev S224x768 : Shape := ⟨2, ![224, 768]⟩
abbrev S224x512 : Shape := ⟨2, ![224, 512]⟩
abbrev S4800 : Shape := ⟨1, ![4800]⟩
abbrev S1 : Shape := ⟨1, ![1]⟩
abbrev S_ : Shape := ⟨0, ![]⟩
abbrev S216x128 : Shape := ⟨2, ![216, 128]⟩
abbrev S6x216x128 : Shape := ⟨3, ![6, 216, 128]⟩
abbrev S3072x512 : Shape := ⟨2, ![3072, 512]⟩
abbrev S512 : Shape := ⟨1, ![512]⟩
abbrev S512x128 : Shape := ⟨2, ![512, 128]⟩
abbrev S128 : Shape := ⟨1, ![128]⟩
abbrev S2416x6x8x128 : Shape := ⟨4, ![2416, 6, 8, 128]⟩
abbrev S2416x6x8x1x128 : Shape := ⟨5, ![2416, 6, 8, 1, 128]⟩
abbrev S2416x6x8x4x128 : Shape := ⟨5, ![2416, 6, 8, 4, 128]⟩
abbrev S2416x8x4x6x128 : Shape := ⟨5, ![2416, 8, 4, 6, 128]⟩
abbrev S77312x12x64 : Shape := ⟨3, ![77312, 12, 64]⟩
abbrev S2416x2x128 : Shape := ⟨3, ![2416, 2, 128]⟩
abbrev S4832x8x16 : Shape := ⟨3, ![4832, 8, 16]⟩
abbrev S4832x8x12 : Shape := ⟨3, ![4832, 8, 12]⟩
abbrev S4832x8x1x12 : Shape := ⟨4, ![4832, 8, 1, 12]⟩
abbrev S4832x8x2x12 : Shape := ⟨4, ![4832, 8, 2, 12]⟩
abbrev S77312x12 : Shape := ⟨2, ![77312, 12]⟩
abbrev S77312x12x1 : Shape := ⟨3, ![77312, 12, 1]⟩
abbrev S77312x768 : Shape := ⟨2, ![77312, 768]⟩
abbrev S4832 : Shape := ⟨1, ![4832]⟩
abbrev S4832x1 : Shape := ⟨2, ![4832, 1]⟩
abbrev S4832x768 : Shape := ⟨2, ![4832, 768]⟩
abbrev S4832x1x768 : Shape := ⟨3, ![4832, 1, 768]⟩
abbrev S4832x16x768 : Shape := ⟨3, ![4832, 16, 768]⟩
abbrev S4832x512 : Shape := ⟨2, ![4832, 512]⟩
abbrev S4832x1x512 : Shape := ⟨3, ![4832, 1, 512]⟩
abbrev S4832x16x512 : Shape := ⟨3, ![4832, 16, 512]⟩
abbrev S77312x512 : Shape := ⟨2, ![77312, 512]⟩
abbrev S77312x2304 : Shape := ⟨2, ![77312, 2304]⟩
abbrev S768x512 : Shape := ⟨2, ![768, 512]⟩
abbrev S1536x512 : Shape := ⟨2, ![1536, 512]⟩
abbrev S2304x512 : Shape := ⟨2, ![2304, 512]⟩
abbrev S1x512 : Shape := ⟨2, ![1, 512]⟩
abbrev S77312x128 : Shape := ⟨2, ![77312, 128]⟩
abbrev S1x128 : Shape := ⟨2, ![1, 128]⟩
abbrev S77312 : Shape := ⟨1, ![77312]⟩
abbrev S151x4x128 : Shape := ⟨3, ![151, 4, 128]⟩
abbrev S151x1x128 : Shape := ⟨3, ![151, 1, 128]⟩
abbrev S151x8x128 : Shape := ⟨3, ![151, 8, 128]⟩
abbrev S1208x128 : Shape := ⟨2, ![1208, 128]⟩

abbrev nBuf : Space → Nat
  | .hbm => 142
  | .vmem => 0
  | .smem => 0
  | _ => 0

abbrev hbmTy0_0 (i : Nat) : BufTy := match i % 128 with
  | 0 => ⟨S2432x6x8x128, .i32⟩
  | 1 => ⟨S2432x2x128, .i32⟩
  | 2 => ⟨S224x768, .i32⟩
  | 3 => ⟨S224x512, .f32⟩
  | 4 => ⟨S4800, .i32⟩
  | 5 => ⟨S1, .i32⟩
  | 6 => ⟨S_, .i32⟩
  | 7 => ⟨S216x128, .i32⟩
  | 8 => ⟨S216x128, .i32⟩
  | 9 => ⟨S6x216x128, .f32⟩
  | 10 => ⟨S3072x512, .bf16⟩
  | 11 => ⟨S512, .f32⟩
  | 12 => ⟨S512x128, .bf16⟩
  | 13 => ⟨S128, .f32⟩
  | 14 => ⟨S128, .f32⟩
  | 15 => ⟨S128, .bf16⟩
  | 16 => ⟨S1, .f32⟩
  | 17 => ⟨S2416x6x8x128, .i32⟩
  | 18 => ⟨S_, .i32⟩
  | 19 => ⟨S2416x6x8x128, .i32⟩
  | 20 => ⟨S2416x6x8x128, .i32⟩
  | 21 => ⟨S_, .i32⟩
  | 22 => ⟨S2416x6x8x128, .i32⟩
  | 23 => ⟨S2416x6x8x128, .i32⟩
  | 24 => ⟨S_, .i32⟩
  | 25 => ⟨S2416x6x8x128, .i32⟩
  | 26 => ⟨S2416x6x8x128, .i32⟩
  | 27 => ⟨S_, .i32⟩
  | 28 => ⟨S2416x6x8x128, .i32⟩
  | 29 => ⟨S2416x6x8x128, .i32⟩
  | 30 => ⟨S_, .i32⟩
  | 31 => ⟨S2416x6x8x128, .i32⟩
  | 32 => ⟨S2416x6x8x128, .i32⟩
  | 33 => ⟨S_, .i32⟩
  | 34 => ⟨S2416x6x8x128, .i32⟩
  | 35 => ⟨S2416x6x8x128, .i32⟩
  | 36 => ⟨S_, .i32⟩
  | 37 => ⟨S2416x6x8x128, .i32⟩
  | 38 => ⟨S2416x6x8x128, .i32⟩
  | 39 => ⟨S_, .i32⟩
  | 40 => ⟨S2416x6x8x128, .i32⟩
  | 41 => ⟨S2416x6x8x128, .i32⟩
  | 42 => ⟨S2416x6x8x1x128, .i32⟩
  | 43 => ⟨S2416x6x8x1x128, .i32⟩
  | 44 => ⟨S2416x6x8x1x128, .i32⟩
  | 45 => ⟨S2416x6x8x1x128, .i32⟩
  | 46 => ⟨S2416x6x8x4x128, .i32⟩
  | 47 => ⟨S2416x8x4x6x128, .i32⟩
  | 48 => ⟨S77312x12x64, .i32⟩
  | 49 => ⟨S77312x12x64, .f32⟩
  | 50 => ⟨S77312x12x64, .bf16⟩
  | 51 => ⟨S2416x2x128, .i32⟩
  | 52 => ⟨S4832x8x16, .i32⟩
  | 53 => ⟨S4832x8x12, .i32⟩
  | 54 => ⟨S_, .i32⟩
  | 55 => ⟨S4832x8x12, .i32⟩
  | 56 => ⟨S4832x8x12, .i32⟩
  | 57 => ⟨S_, .i32⟩
  | 58 => ⟨S4832x8x12, .i32⟩
  | 59 => ⟨S4832x8x12, .i32⟩
  | 60 => ⟨S4832x8x1x12, .i32⟩
  | 61 => ⟨S4832x8x1x12, .i32⟩
  | 62 => ⟨S4832x8x2x12, .i32⟩
  | 63 => ⟨S4832x8x2x12, .f32⟩
  | 64 => ⟨S77312x12, .f32⟩
  | 65 => ⟨S77312x12, .bf16⟩
  | 66 => ⟨S77312x12x1, .bf16⟩
  | 67 => ⟨S77312x12x64, .bf16⟩
  | 68 => ⟨S77312x12x64, .bf16⟩
  | 69 => ⟨S77312x768, .bf16⟩
  | 70 => ⟨S_, .i32⟩
  | 71 => ⟨S224x768, .i32⟩
  | 72 => ⟨S224x768, .i32⟩
  | 73 => ⟨S224x768, .f32⟩
  | 74 => ⟨S224x768, .bf16⟩
  | 75 => ⟨S_, .i32⟩
  | 76 => ⟨S_, .i32⟩
  | 77 => ⟨S4832, .i32⟩
  | 78 => ⟨S_, .i32⟩
  | 79 => ⟨S4832, .i32⟩
  | 80 => ⟨S4832, .i1⟩
  | 81 => ⟨S_, .i32⟩
  | 82 => ⟨S4832, .i32⟩
  | 83 => ⟨S4832, .i32⟩
  | 84 => ⟨S4832, .i32⟩
  | 85 => ⟨S4832x1, .i32⟩
  | 86 => ⟨S4832x768, .bf16⟩
  | 87 => ⟨S4832x1x768, .bf16⟩
  | 88 => ⟨S4832x16x768, .bf16⟩
  | 89 => ⟨S77312x768, .bf16⟩
  | 90 => ⟨S_, .i32⟩
  | 91 => ⟨S4832, .i32⟩
  | 92 => ⟨S4832, .i1⟩
  | 93 => ⟨S_, .i32⟩
  | 94 => ⟨S4832, .i32⟩
  | 95 => ⟨S4832, .i32⟩
  | 96 => ⟨S4832, .i32⟩
  | 97 => ⟨S4832x1, .i32⟩
  | 98 => ⟨S4832x512, .f32⟩
  | 99 => ⟨S4832x1x512, .f32⟩
  | 100 => ⟨S4832x16x512, .f32⟩
  | 101 => ⟨S77312x512, .f32⟩
  | 102 => ⟨S77312x768, .f32⟩
  | 103 => ⟨S77312x768, .f32⟩
  | 104 => ⟨S77312x768, .f32⟩
  | 105 => ⟨S77312x768, .bf16⟩
  | 106 => ⟨S77312x768, .f32⟩
  | 107 => ⟨S77312x768, .bf16⟩
  | 108 => ⟨S77312x2304, .bf16⟩
  | 109 => ⟨S768x512, .bf16⟩
  | 110 => ⟨S1536x512, .bf16⟩
  | 111 => ⟨S2304x512, .bf16⟩
  | 112 => ⟨S77312x512, .f32⟩
  | 113 => ⟨S77312x512, .f32⟩
  | 114 => ⟨S_, .f32⟩
  | 115 => ⟨S77312x512, .f32⟩
  | 116 => ⟨S77312x512, .i1⟩
  | 117 => ⟨S1x512, .f32⟩
  | 118 => ⟨S77312x512, .f32⟩
  | 119 => ⟨S77312x512, .f32⟩
  | 120 => ⟨S77312x512, .f32⟩
  | 121 => ⟨S77312x512, .bf16⟩
  | 122 => ⟨S77312x128, .f32⟩
  | 123 => ⟨S1x128, .f32⟩
  | 124 => ⟨S77312x128, .f32⟩
  | 125 => ⟨S77312x128, .f32⟩
  | 126 => ⟨S_, .f32⟩
  | 127 => ⟨S77312x128, .f32⟩
  | _ => ⟨S2432x6x8x128, .i32⟩

abbrev hbmTy0_1 (i : Nat) : BufTy := match i % 128 with
  | 0 => ⟨S77312x128, .i1⟩
  | 1 => ⟨S1x128, .f32⟩
  | 2 => ⟨S77312x128, .f32⟩
  | 3 => ⟨S77312x128, .f32⟩
  | 4 => ⟨S77312x128, .f32⟩
  | 5 => ⟨S77312x128, .bf16⟩
  | 6 => ⟨S77312, .f32⟩
  | 7 => ⟨S_, .f32⟩
  | 8 => ⟨S77312, .f32⟩
  | 9 => ⟨S77312, .f32⟩
  | 10 => ⟨S151x4x128, .f32⟩
  | 11 => ⟨S151x1x128, .f32⟩
  | 12 => ⟨S151x8x128, .f32⟩
  | 13 => ⟨S1208x128, .f32⟩
  | _ => ⟨S2432x6x8x128, .i32⟩

abbrev hbmTy (i : Nat) : BufTy := match i / 128 with
  | 0 => hbmTy0_0 i
  | 1 => hbmTy0_1 i
  | _ => ⟨S2432x6x8x128, .i32⟩

abbrev bufTy : (tb : Table) → Fin (tcTables nBuf tb) → BufTy
  | .hbm, ⟨i, _⟩ => hbmTy i
  | _, _ => ⟨S2432x6x8x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_c : Ref sig .tc := ⟨.hbm, 18, rfl⟩
abbrev main_v1 : Ref sig .tc := ⟨.hbm, 19, rfl⟩
abbrev main_v2 : Ref sig .tc := ⟨.hbm, 20, rfl⟩
abbrev main_c_0 : Ref sig .tc := ⟨.hbm, 21, rfl⟩
abbrev main_v3 : Ref sig .tc := ⟨.hbm, 22, rfl⟩
abbrev main_v4 : Ref sig .tc := ⟨.hbm, 23, rfl⟩
abbrev main_c_1 : Ref sig .tc := ⟨.hbm, 24, rfl⟩
abbrev main_v5 : Ref sig .tc := ⟨.hbm, 25, rfl⟩
abbrev main_v6 : Ref sig .tc := ⟨.hbm, 26, rfl⟩
abbrev main_c_2 : Ref sig .tc := ⟨.hbm, 27, rfl⟩
abbrev main_v7 : Ref sig .tc := ⟨.hbm, 28, rfl⟩
abbrev main_v8 : Ref sig .tc := ⟨.hbm, 29, rfl⟩
abbrev main_c_3 : Ref sig .tc := ⟨.hbm, 30, rfl⟩
abbrev main_v9 : Ref sig .tc := ⟨.hbm, 31, rfl⟩
abbrev main_v10 : Ref sig .tc := ⟨.hbm, 32, rfl⟩
abbrev main_c_4 : Ref sig .tc := ⟨.hbm, 33, rfl⟩
abbrev main_v11 : Ref sig .tc := ⟨.hbm, 34, rfl⟩
abbrev main_v12 : Ref sig .tc := ⟨.hbm, 35, rfl⟩
abbrev main_c_5 : Ref sig .tc := ⟨.hbm, 36, rfl⟩
abbrev main_v13 : Ref sig .tc := ⟨.hbm, 37, rfl⟩
abbrev main_v14 : Ref sig .tc := ⟨.hbm, 38, rfl⟩
abbrev main_c_6 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_c_7 : Ref sig .tc := ⟨.hbm, 54, rfl⟩
abbrev main_v29 : Ref sig .tc := ⟨.hbm, 55, rfl⟩
abbrev main_v30 : Ref sig .tc := ⟨.hbm, 56, rfl⟩
abbrev main_c_8 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_c_9 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_c_10 : Ref sig .tc := ⟨.hbm, 75, rfl⟩
abbrev main_call0_v0 : Ref sig .tc := ⟨.hbm, 76, rfl⟩
abbrev main_v47 : Ref sig .tc := ⟨.hbm, 77, rfl⟩
abbrev main_c_11 : Ref sig .tc := ⟨.hbm, 78, rfl⟩
abbrev main_v48 : Ref sig .tc := ⟨.hbm, 79, rfl⟩
abbrev main_v49 : Ref sig .tc := ⟨.hbm, 80, rfl⟩
abbrev main_c_12 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_c_13 : Ref sig .tc := ⟨.hbm, 90, rfl⟩
abbrev main_v58 : Ref sig .tc := ⟨.hbm, 91, rfl⟩
abbrev main_v59 : Ref sig .tc := ⟨.hbm, 92, rfl⟩
abbrev main_c_14 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_cst : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_cst_15 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩

abbrev nD : Nat := 1
abbrev τ : Topo := Topo.v7x

variable {F : FTy → Type} [FloatOps F]
-- ==== Finish.lean ====
abbrev S200 : Shape := ⟨1, ![200]⟩
abbrev S1 : Shape := ⟨1, ![1]⟩
abbrev S6x216x128 : Shape := ⟨3, ![6, 216, 128]⟩
abbrev S1208x128 : Shape := ⟨2, ![1208, 128]⟩
abbrev S200x768 : Shape := ⟨2, ![200, 768]⟩
abbrev S200x384 : Shape := ⟨2, ![200, 384]⟩
abbrev S2416x128 : Shape := ⟨2, ![2416, 128]⟩
abbrev S1x200x128 : Shape := ⟨3, ![1, 200, 128]⟩
abbrev S200x128 : Shape := ⟨2, ![200, 128]⟩
abbrev S8x128 : Shape := ⟨2, ![8, 128]⟩
abbrev S1x128 : Shape := ⟨2, ![1, 128]⟩

abbrev nBuf : Space → Nat
  | .hbm => 4
  | .vmem => 5
  | .smem => 3
  | _ => 0

abbrev bufTy : (tb : Table) → Fin (tcTables nBuf tb) → BufTy
  | .hbm, ⟨0, _⟩ => ⟨S6x216x128, .f32⟩
  | .hbm, ⟨1, _⟩ => ⟨S1208x128, .f32⟩
  | .hbm, ⟨2, _⟩ => ⟨S200x768, .bf16⟩
  | .hbm, ⟨3, _⟩ => ⟨S200x384, .f32⟩
  | .local _ .vmem, ⟨0, _⟩ => ⟨S6x216x128, .f32⟩
  | .local _ .vmem, ⟨1, _⟩ => ⟨S1208x128, .f32⟩
  | .local _ .vmem, ⟨2, _⟩ => ⟨S200x768, .bf16⟩
  | .local _ .vmem, ⟨3, _⟩ => ⟨S200x384, .f32⟩
  | .local _ .vmem, ⟨4, _⟩ => ⟨S2416x128, .f32⟩
  | .local _ .smem, ⟨0, _⟩ => ⟨S200, .i32⟩
  | .local _ .smem, ⟨1, _⟩ => ⟨S200, .i32⟩
  | .local _ .smem, ⟨2, _⟩ => ⟨S1, .i32⟩
  | _, _ => ⟨S6x216x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_v0_0 : Ref sig .tc := ⟨.hbm, 2, rfl⟩
abbrev main_v0_1 : Ref sig .tc := ⟨.hbm, 3, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_mult1 (v25 : BitVec 32) : BitVec 32 :=
  let c8_i32 : BitVec 32 := 8#32
  let v26 : BitVec 32 := Scalar.muli v25 c8_i32
  v26

def k0_off1 (v25 : BitVec 32) : Fin 2 → Nat :=
  let c8_i32 : BitVec 32 := 8#32
  let v26 : BitVec 32 := Scalar.muli v25 c8_i32
  let v27 : BitVec 32 := v26
  let v28 : Index := Scalar.indexCast v27
  let c0_22 : Index := 0#32
  ![v28.toNat, 0]

def k0_chk1 (v25 : BitVec 32) : Prop :=
  (8 ∣ (k0_mult1 v25).toNat) ∧
  (∀ a, (k0_off1 v25) a + S1208x128.size a ≤ S2416x128.size a)
theorem k0_mult1_dvd : ∀ (v25 : BitVec 32) (k0_hw1 : k0_chk1 v25), 8 ∣ (k0_mult1 v25).toNat := fun v25 k0_hw1 => k0_hw1.1
theorem k0_off1_inb : ∀ (v25 : BitVec 32) (k0_hw1 : k0_chk1 v25), ∀ a, (k0_off1 v25) a + S1208x128.size a ≤ S2416x128.size a := fun v25 k0_hw1 => k0_hw1.2

@[reducible] def k0_t1_loop : Scf.Loop 32 :=
  let c0_i32 : BitVec 32 := 0#32
  let c25_i32 : BitVec 32 := 25#32
  let v34 : BitVec 32 := Scalar.addi c0_i32 c25_i32
  let c1_i32 : BitVec 32 := 1#32
  ⟨c0_i32, v34, c1_i32⟩
def k0_off2 (k0_t1 : Fin k0_t1_loop.trips) : Fin 1 → Nat :=
  let c0_i32_25 : BitVec 32 := 0#32
  let c0_i32 : BitVec 32 := 0#32
  let c1_i32 : BitVec 32 := 1#32
  let arg9 : BitVec 32 := Scf.iv c0_i32 c1_i32 k0_t1
  let c1_i32_24 : BitVec 32 := 1#32
  let v35 : BitVec 32 := Scalar.muli arg9 c1_i32_24
  let v36 : BitVec 32 := Scalar.addi c0_i32_25 v35
  let c8_i32_26 : BitVec 32 := 8#32
  let v37 : BitVec 32 := Scalar.muli v36 c8_i32_26
  let c0_i32_27 : BitVec 32 := 0#32
  let v38 : BitVec 32 := Scalar.addi v37 c0_i32_27
  let v39 : Index := Scalar.indexCast v38
  ![v39.toNat]
def k0_off3 (v40 : BitVec 32) (c0_i32_28 : BitVec 32) : Fin 2 → Nat :=
  let c7_i32 : BitVec 32 := 7#32
  let v42 : BitVec 32 := Scalar.shrui v40 c7_i32
  let v43 : BitVec 32 := Scalar.addi v42 c0_i32_28
  let c2_i32 : BitVec 32 := 2#32
  let v44 : BitVec 32 := Scalar.shrui v43 c2_i32
  let c8_i32_29 : BitVec 32 := 8#32
  let v45 : BitVec 32 := Scalar.muli v44 c8_i32_29
  let c3_i32 : BitVec 32 := 3#32
  let v46 : BitVec 32 := Scalar.andi v43 c3_i32
  let v47 : BitVec 32 := Scalar.addi v45 v46
  let v48 : Index := Scalar.indexCast v47
  let c0_30 : Index := 0#32
  ![v48.toNat, 0]

def k0_chk2 (v40 : BitVec 32) : Prop :=
  (∀ (r : Fin 4), ∀ a, (k0_off3 v40 (BitVec.ofNat 32 r.val)) a + S1x128.size a ≤ S2416x128.size a)
theorem k0_off3_inb : ∀ (v40 : BitVec 32) (k0_hw2 : k0_chk2 v40), ∀ (r : Fin 4), ∀ a, (k0_off3 v40 (BitVec.ofNat 32 r.val)) a + S1x128.size a ≤ S2416x128.size a := fun v40 k0_hw2 r => k0_hw2 r

def k0_off4 (k0_t1 : Fin k0_t1_loop.trips) (c0_i32_27 : BitVec 32) : Fin 1 → Nat :=
  let c0_i32_25 : BitVec 32 := 0#32
  let c0_i32 : BitVec 32 := 0#32
  let c1_i32 : BitVec 32 := 1#32
  let arg9 : BitVec 32 := Scf.iv c0_i32 c1_i32 k0_t1
  let c1_i32_24 : BitVec 32 := 1#32
  let v35 : BitVec 32 := Scalar.muli arg9 c1_i32_24
  let v36 : BitVec 32 := Scalar.addi c0_i32_25 v35
  let c8_i32_26 : BitVec 32 := 8#32
  let v37 : BitVec 32 := Scalar.muli v36 c8_i32_26
  let v38 : BitVec 32 := Scalar.addi v37 c0_i32_27
  let v86 : Index := Scalar.indexCast v38
  ![v86.toNat]
def k0_off5 (v95 : BitVec 32) (c0_i32_57 : BitVec 32) : Fin 2 → Nat :=
  let c7_i32_56 : BitVec 32 := 7#32
  let v97 : BitVec 32 := Scalar.shrui v95 c7_i32_56
  let v98 : BitVec 32 := Scalar.addi v97 c0_i32_57
  let c2_i32_58 : BitVec 32 := 2#32
  let v99 : BitVec 32 := Scalar.shrui v98 c2_i32_58
  let c8_i32_59 : BitVec 32 := 8#32
  let v100 : BitVec 32 := Scalar.muli v99 c8_i32_59
  let c3_i32_60 : BitVec 32 := 3#32
  let v101 : BitVec 32 := Scalar.andi v98 c3_i32_60
  let v102 : BitVec 32 := Scalar.addi v100 v101
  let v103 : Index := Scalar.indexCast v102
  let c0_61 : Index := 0#32
  ![v103.toNat, 0]

def k0_chk3 (v95 : BitVec 32) : Prop :=
  (∀ (r : Fin 4), ∀ a, (k0_off5 v95 (BitVec.ofNat 32 r.val)) a + S1x128.size a ≤ S2416x128.size a)
theorem k0_off5_inb : ∀ (v95 : BitVec 32) (k0_hw3 : k0_chk3 v95), ∀ (r : Fin 4), ∀ a, (k0_off5 v95 (BitVec.ofNat 32 r.val)) a + S1x128.size a ≤ S2416x128.size a := fun v95 k0_hw3 r => k0_hw3 r

def k0_off6 (k0_t1 : Fin k0_t1_loop.trips) (c1_i32_54 : BitVec 32) : Fin 1 → Nat :=
  let c0_i32_25 : BitVec 32 := 0#32
  let c0_i32 : BitVec 32 := 0#32
  let c1_i32 : BitVec 32 := 1#32
  let arg9 : BitVec 32 := Scf.iv c0_i32 c1_i32 k0_t1
  let c1_i32_24 : BitVec 32 := 1#32
  let v35 : BitVec 32 := Scalar.muli arg9 c1_i32_24
  let v36 : BitVec 32 := Scalar.addi c0_i32_25 v35
  let c8_i32_53 : BitVec 32 := 8#32
  let v92 : BitVec 32 := Scalar.muli v36 c8_i32_53
  let v93 : BitVec 32 := Scalar.addi v92 c1_i32_54
  let v141 : Index := Scalar.indexCast v93
  ![v141.toNat]
def k0_off7 (v150 : BitVec 32) (c0_i32_90 : BitVec 32) : Fin 2 → Nat :=
  let c7_i32_89 : BitVec 32 := 7#32
  let v152 : BitVec 32 := Scalar.shrui v150 c7_i32_89
  let v153 : BitVec 32 := Scalar.addi v152 c0_i32_90
  let c2_i32_91 : BitVec 32 := 2#32
  let v154 : BitVec 32 := Scalar.shrui v153 c2_i32_91
  let c8_i32_92 : BitVec 32 := 8#32
  let v155 : BitVec 32 := Scalar.muli v154 c8_i32_92
  let c3_i32_93 : BitVec 32 := 3#32
  let v156 : BitVec 32 := Scalar.andi v153 c3_i32_93
  let v157 : BitVec 32 := Scalar.addi v155 v156
  let v158 : Index := Scalar.indexCast v157
  let c0_94 : Index := 0#32
  ![v158.toNat, 0]

def k0_chk4 (v150 : BitVec 32) : Prop :=
  (∀ (r : Fin 4), ∀ a, (k0_off7 v150 (BitVec.ofNat 32 r.val)) a + S1x128.size a ≤ S2416x128.size a)
theorem k0_off7_inb : ∀ (v150 : BitVec 32) (k0_hw4 : k0_chk4 v150), ∀ (r : Fin 4), ∀ a, (k0_off7 v150 (BitVec.ofNat 32 r.val)) a + S1x128.size a ≤ S2416x128.size a := fun v150 k0_hw4 r => k0_hw4 r

def k0_off8 (k0_t1 : Fin k0_t1_loop.trips) (c2_i32_87 : BitVec 32) : Fin 1 → Nat :=
  let c0_i32_25 : BitVec 32 := 0#32
  let c0_i32 : BitVec 32 := 0#32
  let c1_i32 : BitVec 32 := 1#32
  let arg9 : BitVec 32 := Scf.iv c0_i32 c1_i32 k0_t1
  let c1_i32_24 : BitVec 32 := 1#32
  let v35 : BitVec 32 := Scalar.muli arg9 c1_i32_24
  let v36 : BitVec 32 := Scalar.addi c0_i32_25 v35
  let c8_i32_86 : BitVec 32 := 8#32
  let v147 : BitVec 32 := Scalar.muli v36 c8_i32_86
  let v148 : BitVec 32 := Scalar.addi v147 c2_i32_87
  let v196 : Index := Scalar.indexCast v148
  ![v196.toNat]
def k0_off9 (v205 : BitVec 32) (c0_i32_123 : BitVec 32) : Fin 2 → Nat :=
  let c7_i32_122 : BitVec 32 := 7#32
  let v207 : BitVec 32 := Scalar.shrui v205 c7_i32_122
  let v208 : BitVec 32 := Scalar.addi v207 c0_i32_123
  let c2_i32_124 : BitVec 32 := 2#32
  let v209 : BitVec 32 := Scalar.shrui v208 c2_i32_124
  let c8_i32_125 : BitVec 32 := 8#32
  let v210 : BitVec 32 := Scalar.muli v209 c8_i32_125
  let c3_i32_126 : BitVec 32 := 3#32
  let v211 : BitVec 32 := Scalar.andi v208 c3_i32_126
  let v212 : BitVec 32 := Scalar.addi v210 v211
  let v213 : Index := Scalar.indexCast v212
  let c0_127 : Index := 0#32
  ![v213.toNat, 0]

def k0_chk5 (v205 : BitVec 32) : Prop :=
  (∀ (r : Fin 4), ∀ a, (k0_off9 v205 (BitVec.ofNat 32 r.val)) a + S1x128.size a ≤ S2416x128.size a)
theorem k0_off9_inb : ∀ (v205 : BitVec 32) (k0_hw5 : k0_chk5 v205), ∀ (r : Fin 4), ∀ a, (k0_off9 v205 (BitVec.ofNat 32 r.val)) a + S1x128.size a ≤ S2416x128.size a := fun v205 k0_hw5 r => k0_hw5 r

def k0_off10 (k0_t1 : Fin k0_t1_loop.trips) (c3_i32_120 : BitVec 32) : Fin 1 → Nat :=
  let c0_i32_25 : BitVec 32 := 0#32
  let c0_i32 : BitVec 32 := 0#32
  let c1_i32 : BitVec 32 := 1#32
  let arg9 : BitVec 32 := Scf.iv c0_i32 c1_i32 k0_t1
  let c1_i32_24 : BitVec 32 := 1#32
  let v35 : BitVec 32 := Scalar.muli arg9 c1_i32_24
  let v36 : BitVec 32 := Scalar.addi c0_i32_25 v35
  let c8_i32_119 : BitVec 32 := 8#32
  let v202 : BitVec 32 := Scalar.muli v36 c8_i32_119
  let v203 : BitVec 32 := Scalar.addi v202 c3_i32_120
  let v251 : Index := Scalar.indexCast v203
  ![v251.toNat]
def k0_off11 (v260 : BitVec 32) (c0_i32_155 : BitVec 32) : Fin 2 → Nat :=
  let c7_i32_154 : BitVec 32 := 7#32
  let v262 : BitVec 32 := Scalar.shrui v260 c7_i32_154
  let v263 : BitVec 32 := Scalar.addi v262 c0_i32_155
  let c2_i32_156 : BitVec 32 := 2#32
  let v264 : BitVec 32 := Scalar.shrui v263 c2_i32_156
  let c8_i32_157 : BitVec 32 := 8#32
  let v265 : BitVec 32 := Scalar.muli v264 c8_i32_157
  let c3_i32_158 : BitVec 32 := 3#32
  let v266 : BitVec 32 := Scalar.andi v263 c3_i32_158
  let v267 : BitVec 32 := Scalar.addi v265 v266
  let v268 : Index := Scalar.indexCast v267
  let c0_159 : Index := 0#32
  ![v268.toNat, 0]

def k0_chk6 (v260 : BitVec 32) : Prop :=
  (∀ (r : Fin 4), ∀ a, (k0_off11 v260 (BitVec.ofNat 32 r.val)) a + S1x128.size a ≤ S2416x128.size a)
theorem k0_off11_inb : ∀ (v260 : BitVec 32) (k0_hw6 : k0_chk6 v260), ∀ (r : Fin 4), ∀ a, (k0_off11 v260 (BitVec.ofNat 32 r.val)) a + S1x128.size a ≤ S2416x128.size a := fun v260 k0_hw6 r => k0_hw6 r

def k0_off12 (k0_t1 : Fin k0_t1_loop.trips) (c4_i32 : BitVec 32) : Fin 1 → Nat :=
  let c0_i32_25 : BitVec 32 := 0#32
  let c0_i32 : BitVec 32 := 0#32
  let c1_i32 : BitVec 32 := 1#32
  let arg9 : BitVec 32 := Scf.iv c0_i32 c1_i32 k0_t1
  let c1_i32_24 : BitVec 32 := 1#32
  let v35 : BitVec 32 := Scalar.muli arg9 c1_i32_24
  let v36 : BitVec 32 := Scalar.addi c0_i32_25 v35
  let c8_i32_152 : BitVec 32 := 8#32
  let v257 : BitVec 32 := Scalar.muli v36 c8_i32_152
  let v258 : BitVec 32 := Scalar.addi v257 c4_i32
  let v306 : Index := Scalar.indexCast v258
  ![v306.toNat]
def k0_off13 (v315 : BitVec 32) (c0_i32_187 : BitVec 32) : Fin 2 → Nat :=
  let c7_i32_186 : BitVec 32 := 7#32
  let v317 : BitVec 32 := Scalar.shrui v315 c7_i32_186
  let v318 : BitVec 32 := Scalar.addi v317 c0_i32_187
  let c2_i32_188 : BitVec 32 := 2#32
  let v319 : BitVec 32 := Scalar.shrui v318 c2_i32_188
  let c8_i32_189 : BitVec 32 := 8#32
  let v320 : BitVec 32 := Scalar.muli v319 c8_i32_189
  let c3_i32_190 : BitVec 32 := 3#32
  let v321 : BitVec 32 := Scalar.andi v318 c3_i32_190
  let v322 : BitVec 32 := Scalar.addi v320 v321
  let v323 : Index := Scalar.indexCast v322
  let c0_191 : Index := 0#32
  ![v323.toNat, 0]

def k0_chk7 (v315 : BitVec 32) : Prop :=
  (∀ (r : Fin 4), ∀ a, (k0_off13 v315 (BitVec.ofNat 32 r.val)) a + S1x128.size a ≤ S2416x128.size a)
theorem k0_off13_inb : ∀ (v315 : BitVec 32) (k0_hw7 : k0_chk7 v315), ∀ (r : Fin 4), ∀ a, (k0_off13 v315 (BitVec.ofNat 32 r.val)) a + S1x128.size a ≤ S2416x128.size a := fun v315 k0_hw7 r => k0_hw7 r

def k0_off14 (k0_t1 : Fin k0_t1_loop.trips) (c5_i32 : BitVec 32) : Fin 1 → Nat :=
  let c0_i32_25 : BitVec 32 := 0#32
  let c0_i32 : BitVec 32 := 0#32
  let c1_i32 : BitVec 32 := 1#32
  let arg9 : BitVec 32 := Scf.iv c0_i32 c1_i32 k0_t1
  let c1_i32_24 : BitVec 32 := 1#32
  let v35 : BitVec 32 := Scalar.muli arg9 c1_i32_24
  let v36 : BitVec 32 := Scalar.addi c0_i32_25 v35
  let c8_i32_184 : BitVec 32 := 8#32
  let v312 : BitVec 32 := Scalar.muli v36 c8_i32_184
  let v313 : BitVec 32 := Scalar.addi v312 c5_i32
  let v361 : Index := Scalar.indexCast v313
  ![v361.toNat]
def k0_off15 (v370 : BitVec 32) (c0_i32_219 : BitVec 32) : Fin 2 → Nat :=
  let c7_i32_218 : BitVec 32 := 7#32
  let v372 : BitVec 32 := Scalar.shrui v370 c7_i32_218
  let v373 : BitVec 32 := Scalar.addi v372 c0_i32_219
  let c2_i32_220 : BitVec 32 := 2#32
  let v374 : BitVec 32 := Scalar.shrui v373 c2_i32_220
  let c8_i32_221 : BitVec 32 := 8#32
  let v375 : BitVec 32 := Scalar.muli v374 c8_i32_221
  let c3_i32_222 : BitVec 32 := 3#32
  let v376 : BitVec 32 := Scalar.andi v373 c3_i32_222
  let v377 : BitVec 32 := Scalar.addi v375 v376
  let v378 : Index := Scalar.indexCast v377
  let c0_223 : Index := 0#32
  ![v378.toNat, 0]

def k0_chk8 (v370 : BitVec 32) : Prop :=
  (∀ (r : Fin 4), ∀ a, (k0_off15 v370 (BitVec.ofNat 32 r.val)) a + S1x128.size a ≤ S2416x128.size a)
theorem k0_off15_inb : ∀ (v370 : BitVec 32) (k0_hw8 : k0_chk8 v370), ∀ (r : Fin 4), ∀ a, (k0_off15 v370 (BitVec.ofNat 32 r.val)) a + S1x128.size a ≤ S2416x128.size a := fun v370 k0_hw8 r => k0_hw8 r

def k0_off16 (k0_t1 : Fin k0_t1_loop.trips) (c6_i32 : BitVec 32) : Fin 1 → Nat :=
  let c0_i32_25 : BitVec 32 := 0#32
  let c0_i32 : BitVec 32 := 0#32
  let c1_i32 : BitVec 32 := 1#32
  let arg9 : BitVec 32 := Scf.iv c0_i32 c1_i32 k0_t1
  let c1_i32_24 : BitVec 32 := 1#32
  let v35 : BitVec 32 := Scalar.muli arg9 c1_i32_24
  let v36 : BitVec 32 := Scalar.addi c0_i32_25 v35
  let c8_i32_216 : BitVec 32 := 8#32
  let v367 : BitVec 32 := Scalar.muli v36 c8_i32_216
  let v368 : BitVec 32 := Scalar.addi v367 c6_i32
  let v416 : Index := Scalar.indexCast v368
  ![v416.toNat]
def k0_off17 (v425 : BitVec 32) (c0_i32_252 : BitVec 32) : Fin 2 → Nat :=
  let c7_i32_251 : BitVec 32 := 7#32
  let v427 : BitVec 32 := Scalar.shrui v425 c7_i32_251
  let v428 : BitVec 32 := Scalar.addi v427 c0_i32_252
  let c2_i32_253 : BitVec 32 := 2#32
  let v429 : BitVec 32 := Scalar.shrui v428 c2_i32_253
  let c8_i32_254 : BitVec 32 := 8#32
  let v430 : BitVec 32 := Scalar.muli v429 c8_i32_254
  let c3_i32_255 : BitVec 32 := 3#32
  let v431 : BitVec 32 := Scalar.andi v428 c3_i32_255
  let v432 : BitVec 32 := Scalar.addi v430 v431
  let v433 : Index := Scalar.indexCast v432
  let c0_256 : Index := 0#32
  ![v433.toNat, 0]

def k0_chk9 (v425 : BitVec 32) : Prop :=
  (∀ (r : Fin 4), ∀ a, (k0_off17 v425 (BitVec.ofNat 32 r.val)) a + S1x128.size a ≤ S2416x128.size a)
theorem k0_off17_inb : ∀ (v425 : BitVec 32) (k0_hw9 : k0_chk9 v425), ∀ (r : Fin 4), ∀ a, (k0_off17 v425 (BitVec.ofNat 32 r.val)) a + S1x128.size a ≤ S2416x128.size a := fun v425 k0_hw9 r => k0_hw9 r

def k0_off18 (k0_t1 : Fin k0_t1_loop.trips) : Fin 1 → Nat :=
  let c0_i32_25 : BitVec 32 := 0#32
  let c0_i32 : BitVec 32 := 0#32
  let c1_i32 : BitVec 32 := 1#32
  let arg9 : BitVec 32 := Scf.iv c0_i32 c1_i32 k0_t1
  let c1_i32_24 : BitVec 32 := 1#32
  let v35 : BitVec 32 := Scalar.muli arg9 c1_i32_24
  let v36 : BitVec 32 := Scalar.addi c0_i32_25 v35
  let c8_i32_248 : BitVec 32 := 8#32
  let v422 : BitVec 32 := Scalar.muli v36 c8_i32_248
  let c7_i32_249 : BitVec 32 := 7#32
  let v423 : BitVec 32 := Scalar.addi v422 c7_i32_249
  let v471 : Index := Scalar.indexCast v423
  ![v471.toNat]
def k0_mult2 (k0_t1 : Fin k0_t1_loop.trips) : BitVec 32 :=
  let c0_i32_25 : BitVec 32 := 0#32
  let c0_i32 : BitVec 32 := 0#32
  let c1_i32 : BitVec 32 := 1#32
  let arg9 : BitVec 32 := Scf.iv c0_i32 c1_i32 k0_t1
  let c1_i32_24 : BitVec 32 := 1#32
  let v35 : BitVec 32 := Scalar.muli arg9 c1_i32_24
  let v36 : BitVec 32 := Scalar.addi c0_i32_25 v35
  let c8_i32_281 : BitVec 32 := 8#32
  let v486 : BitVec 32 := Scalar.muli v36 c8_i32_281
  v486
def k0_off19 (k0_t1 : Fin k0_t1_loop.trips) : Fin 2 → Nat :=
  let c0_i32_25 : BitVec 32 := 0#32
  let c0_i32 : BitVec 32 := 0#32
  let c1_i32 : BitVec 32 := 1#32
  let arg9 : BitVec 32 := Scf.iv c0_i32 c1_i32 k0_t1
  let c1_i32_24 : BitVec 32 := 1#32
  let v35 : BitVec 32 := Scalar.muli arg9 c1_i32_24
  let v36 : BitVec 32 := Scalar.addi c0_i32_25 v35
  let c8_i32_281 : BitVec 32 := 8#32
  let v486 : BitVec 32 := Scalar.muli v36 c8_i32_281
  let v487 : BitVec 32 := v486
  let v488 : Index := Scalar.indexCast v487
  let c0_282 : Index := 0#32
  ![v488.toNat, 0]
def k0_mult3 (k0_t1 : Fin k0_t1_loop.trips) : BitVec 32 :=
  let c0_i32_25 : BitVec 32 := 0#32
  let c0_i32 : BitVec 32 := 0#32
  let c1_i32 : BitVec 32 := 1#32
  let arg9 : BitVec 32 := Scf.iv c0_i32 c1_i32 k0_t1
  let c1_i32_24 : BitVec 32 := 1#32
  let v35 : BitVec 32 := Scalar.muli arg9 c1_i32_24
  let v36 : BitVec 32 := Scalar.addi c0_i32_25 v35
  let c8_i32_283 : BitVec 32 := 8#32
  let v499 : BitVec 32 := Scalar.muli v36 c8_i32_283
  v499
def k0_off20 (k0_t1 : Fin k0_t1_loop.trips) : Fin 2 → Nat :=
  let c0_i32_25 : BitVec 32 := 0#32
  let c0_i32 : BitVec 32 := 0#32
  let c1_i32 : BitVec 32 := 1#32
  let arg9 : BitVec 32 := Scf.iv c0_i32 c1_i32 k0_t1
  let c1_i32_24 : BitVec 32 := 1#32
  let v35 : BitVec 32 := Scalar.muli arg9 c1_i32_24
  let v36 : BitVec 32 := Scalar.addi c0_i32_25 v35
  let c8_i32_283 : BitVec 32 := 8#32
  let v499 : BitVec 32 := Scalar.muli v36 c8_i32_283
  let v500 : BitVec 32 := v499
  let v501 : Index := Scalar.indexCast v500
  let c128_284 : Index := 128#32
  ![v501.toNat, 128]
def k0_mult4 (k0_t1 : Fin k0_t1_loop.trips) : BitVec 32 :=
  let c0_i32_25 : BitVec 32 := 0#32
  let c0_i32 : BitVec 32 := 0#32
  let c1_i32 : BitVec 32 := 1#32
  let arg9 : BitVec 32 := Scf.iv c0_i32 c1_i32 k0_t1
  let c1_i32_24 : BitVec 32 := 1#32
  let v35 : BitVec 32 := Scalar.muli arg9 c1_i32_24
  let v36 : BitVec 32 := Scalar.addi c0_i32_25 v35
  let c8_i32_285 : BitVec 32 := 8#32
  let v512 : BitVec 32 := Scalar.muli v36 c8_i32_285
  v512
def k0_off21 (k0_t1 : Fin k0_t1_loop.trips) : Fin 2 → Nat :=
  let c0_i32_25 : BitVec 32 := 0#32
  let c0_i32 : BitVec 32 := 0#32
  let c1_i32 : BitVec 32 := 1#32
  let arg9 : BitVec 32 := Scf.iv c0_i32 c1_i32 k0_t1
  let c1_i32_24 : BitVec 32 := 1#32
  let v35 : BitVec 32 := Scalar.muli arg9 c1_i32_24
  let v36 : BitVec 32 := Scalar.addi c0_i32_25 v35
  let c8_i32_285 : BitVec 32 := 8#32
  let v512 : BitVec 32 := Scalar.muli v36 c8_i32_285
  let v513 : BitVec 32 := v512
  let v514 : Index := Scalar.indexCast v513
  let c256_286 : Index := 256#32
  ![v514.toNat, 256]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S6x216x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1208x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S200x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S200x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== FinishReference.lean ====
abbrev S200 : Shape := ⟨1, ![200]⟩
abbrev S1 : Shape := ⟨1, ![1]⟩
abbrev S6x216x128 : Shape := ⟨3, ![6, 216, 128]⟩
abbrev S1208x128 : Shape := ⟨2, ![1208, 128]⟩
abbrev S6x200x128 : Shape := ⟨3, ![6, 200, 128]⟩
abbrev S200x6x128 : Shape := ⟨3, ![200, 6, 128]⟩
abbrev S200x768 : Shape := ⟨2, ![200, 768]⟩
abbrev S151x8x128 : Shape := ⟨3, ![151, 8, 128]⟩
abbrev S151x4x128 : Shape := ⟨3, ![151, 4, 128]⟩
abbrev S77312 : Shape := ⟨1, ![77312]⟩
abbrev S384 : Shape := ⟨1, ![384]⟩
abbrev S200x1 : Shape := ⟨2, ![200, 1]⟩
abbrev S1x384 : Shape := ⟨2, ![1, 384]⟩
abbrev S200x384 : Shape := ⟨2, ![200, 384]⟩
abbrev S_ : Shape := ⟨0, ![]⟩
abbrev S200x384x1 : Shape := ⟨3, ![200, 384, 1]⟩

abbrev nBuf : Space → Nat
  | .hbm => 36
  | .vmem => 0
  | .smem => 0
  | _ => 0

abbrev bufTy : (tb : Table) → Fin (tcTables nBuf tb) → BufTy
  | .hbm, ⟨0, _⟩ => ⟨S200, .i32⟩
  | .hbm, ⟨1, _⟩ => ⟨S200, .i32⟩
  | .hbm, ⟨2, _⟩ => ⟨S1, .i32⟩
  | .hbm, ⟨3, _⟩ => ⟨S6x216x128, .f32⟩
  | .hbm, ⟨4, _⟩ => ⟨S1208x128, .f32⟩
  | .hbm, ⟨5, _⟩ => ⟨S6x200x128, .f32⟩
  | .hbm, ⟨6, _⟩ => ⟨S200x6x128, .f32⟩
  | .hbm, ⟨7, _⟩ => ⟨S200x768, .f32⟩
  | .hbm, ⟨8, _⟩ => ⟨S200x768, .bf16⟩
  | .hbm, ⟨9, _⟩ => ⟨S151x8x128, .f32⟩
  | .hbm, ⟨10, _⟩ => ⟨S151x4x128, .f32⟩
  | .hbm, ⟨11, _⟩ => ⟨S77312, .f32⟩
  | .hbm, ⟨12, _⟩ => ⟨S384, .i32⟩
  | .hbm, ⟨13, _⟩ => ⟨S200x1, .i32⟩
  | .hbm, ⟨14, _⟩ => ⟨S1x384, .i32⟩
  | .hbm, ⟨15, _⟩ => ⟨S200x384, .i32⟩
  | .hbm, ⟨16, _⟩ => ⟨S200x384, .i32⟩
  | .hbm, ⟨17, _⟩ => ⟨S200x384, .i32⟩
  | .hbm, ⟨18, _⟩ => ⟨S_, .i32⟩
  | .hbm, ⟨19, _⟩ => ⟨S200x384, .i32⟩
  | .hbm, ⟨20, _⟩ => ⟨S200x384, .i1⟩
  | .hbm, ⟨21, _⟩ => ⟨S_, .i32⟩
  | .hbm, ⟨22, _⟩ => ⟨S200x384, .i32⟩
  | .hbm, ⟨23, _⟩ => ⟨S200x384, .i32⟩
  | .hbm, ⟨24, _⟩ => ⟨S200x384, .i32⟩
  | .hbm, ⟨25, _⟩ => ⟨S200x384x1, .i32⟩
  | .hbm, ⟨26, _⟩ => ⟨S200x384, .f32⟩
  | .hbm, ⟨27, _⟩ => ⟨S1x384, .i32⟩
  | .hbm, ⟨28, _⟩ => ⟨S200x1, .i32⟩
  | .hbm, ⟨29, _⟩ => ⟨S200x384, .i32⟩
  | .hbm, ⟨30, _⟩ => ⟨S200x384, .i32⟩
  | .hbm, ⟨31, _⟩ => ⟨S200x384, .i1⟩
  | .hbm, ⟨32, _⟩ => ⟨S_, .f32⟩
  | .hbm, ⟨33, _⟩ => ⟨S_, .f32⟩
  | .hbm, ⟨34, _⟩ => ⟨S200x384, .f32⟩
  | .hbm, ⟨35, _⟩ => ⟨S200x384, .f32⟩
  | _, _ => ⟨S200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_v13 : Ref sig .tc := ⟨.hbm, 19, rfl⟩
abbrev main_v14 : Ref sig .tc := ⟨.hbm, 20, rfl⟩
abbrev main_c_0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst : Ref sig .tc := ⟨.hbm, 32, rfl⟩
abbrev main_call0_v0 : Ref sig .tc := ⟨.hbm, 33, rfl⟩
abbrev main_call0_v1 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== Proof.Checks.lean ====
/-
  The side conditions the body assumes of the words it reads.
-/
module

public import proofs.«01_k».proof.Proof.Gen.Kernel
public import proofs.«01_k».proof.Proof.Gen.Kernel.Skeleton
public import proofs.«01_k».proof.Proof.Gen.Kernel.Loops
public import Idealize.ShloMosaic.Lib.Tactic

@[expose] public section

set_option maxRecDepth 8192

noncomputable section

namespace Cert.Proof.Kernel

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- A word below 200 is a row of the target table. -/
theorem row768 (v : BitVec 32) (h : v.toNat < 200) : ∀ a, (![(Scalar.indexCast v).toNat, 0] : Fin 2 → Nat) a + S1x768.size a ≤ S224x768.size a := by
  intro a; fin_cases a
  · show v.toNat + 1 ≤ 224; omega
  · exact Nat.le_refl 768

/-- A word below 200 is a row of the share table. -/
theorem row512 (v : BitVec 32) (h : v.toNat < 200) : ∀ a, (![(Scalar.indexCast v).toNat, 0] : Fin 2 → Nat) a + S1x512.size a ≤ S224x512.size a := by
  intro a; fin_cases a
  · show v.toNat + 1 ≤ 224; omega
  · exact Nat.le_refl 512

/-- The 32 entries of a tile below 150 are inside the batch table. -/
theorem check1 (x v : BitVec 32) (h : x.toNat < 150) (hv : v = 0#32) : k0_chk1 x v := by
  subst hv
  simp only [k0_chk1, k0_chk1_0, k0_chk1_1, k0_chk1_2]
  repeat' apply And.intro
  all_goals
    intro a
    fin_cases a
    show BitVec.toNat _ + 1 ≤ 4800
    simp only [Scalar.addi, Scalar.muli, Scalar.subi, Scalar.indexCast, IntOp.addi, IntOp.muli, IntOp.subi, BitVec.toNat_add, BitVec.toNat_sub, BitVec.toNat_mul, BitVec.toNat_ofNat]
    omega

/-- The eight rows from a batch below 200 on are rows of the accumulator. -/
theorem check66 (v : BitVec 32) (h : v.toNat < 200) : k0_chk66 v := by
  simp only [k0_chk66]
  repeat' apply And.intro
  all_goals
    intro a
    fin_cases a <;> simp [k0_off131, k0_off132, k0_off133, k0_off134, k0_off135, k0_off136, k0_off137, S8x128, S216x128, S1x8x128, S6x216x128, Scalar.addi, IntOp.addi, Scalar.indexCast]
    try omega

theorem divsi_one (x : BitVec 32) : Scalar.divsi x 1#32 = x := by
  have h : ¬ IntOp.SDivCorner x 1#32 := by simp [IntOp.SDivCorner]
  show (if IntOp.SDivCorner x 1#32 then _ else _) = _
  rw [if_neg h]; exact BitVec.sdiv_one

theorem divsi_eight (x : BitVec 32) : Scalar.divsi x 8#32 = x.sdiv 8#32 := by
  have h : ¬ IntOp.SDivCorner x 8#32 := by simp [IntOp.SDivCorner]
  show (if IntOp.SDivCorner x 8#32 then _ else _) = _
  rw [if_neg h]

/-- Division by eight toward zero, by the dividend's sign. -/
theorem tdiv_eight (x : Int) : (0 ≤ x ∧ x.tdiv 8 = x / 8) ∨ (x < 0 ∧ x.tdiv 8 = -(-x / 8)) := by
  rcases Int.lt_or_le x 0 with h | h
  · refine .inr ⟨h, ?_⟩
    rw [← Int.tdiv_eq_ediv_of_nonneg (by omega : 0 ≤ -x), Int.neg_tdiv, Int.neg_neg]
  · exact .inl ⟨h, Int.tdiv_eq_ediv_of_nonneg h⟩

/-- The number of further windows: the distance of the two batches over eight. -/
theorem windows_toInt (v w : BitVec 32) (hv : v.toNat < 200) (hw : w.toNat < 200) :
    ((w - v).sdiv 8#32).toInt = ((w.toNat : Int) - v.toNat).tdiv 8 := by
  have h1 : (w - v).toInt = (w.toNat : Int) - v.toNat := by
    rw [BitVec.toInt_sub, BitVec.toInt_eq_toNat_of_lt (by omega), BitVec.toInt_eq_toNat_of_lt (by omega)]
    simp only [Int.bmod]; omega
  rw [BitVec.toInt_sdiv, h1]
  have h8 : (8#32 : BitVec 32).toInt = 8 := by decide
  rw [h8]
  have ht := tdiv_eight ((w.toNat : Int) - v.toNat)
  have h2 : ((w.toNat : Int) - v.toNat).tdiv 8 ≤ 25 := by omega
  have h3 : -25 ≤ ((w.toNat : Int) - v.toNat).tdiv 8 := by omega
  generalize ((w.toNat : Int) - v.toNat).tdiv 8 = q at *
  simp only [Int.bmod]; omega

theorem loop1_eq (v w : BitVec 32) : k0_t1_loop v w = ⟨0#32, (w - v).sdiv 8#32, 1#32⟩ := by
  simp only [k0_t1_loop, divsi_one, divsi_eight, Scalar.subi, Scalar.addi, Scalar.muli, IntOp.addi, IntOp.muli, IntOp.subi]
  congr 1
  generalize (w - v).sdiv 8#32 = q
  bv_omega

theorem loop2_trips (v w : BitVec 32) : (k0_t2_loop v w).trips = 0 := by
  have h : k0_t2_loop v w = ⟨(w - v).sdiv 8#32, (w - v).sdiv 8#32, 1#32⟩ := by
    simp only [k0_t2_loop, divsi_one, divsi_eight, Scalar.subi, Scalar.addi, Scalar.muli, IntOp.addi, IntOp.muli, IntOp.subi]
    congr 1
    all_goals
      generalize (w - v).sdiv 8#32 = q
      bv_omega
  rw [h]
  show Scf.trips _ _ _ = 0
  have h1 : (1#32 : BitVec 32).toInt = 1 := by decide
  simp only [Scf.trips, h1]
  omega

/-- Window `n + 1` from the first batch on stays below the last batch's window. -/
theorem window_row (v w : BitVec 32) (hv : v.toNat < 200) (hw : w.toNat < 200) (n : Nat)
    (hn : n < Scf.trips (0#32) ((w - v).sdiv 8#32) (1#32)) :
    (v + (1#32 + Scf.iv (0#32) (1#32) n * 1#32) * 8#32).toNat + 8 ≤ 216 := by
  have h1 : (1#32 : BitVec 32).toInt = 1 := by decide
  have h0 : (0#32 : BitVec 32).toInt = 0 := by decide
  simp only [Scf.trips, windows_toInt v w hv hw, h1, h0] at hn
  have ht := tdiv_eight ((w.toNat : Int) - v.toNat)
  have hk2 : 8 * (n + 1) ≤ w.toNat := by omega
  have hk3 : v.toNat + 8 * (n + 1) ≤ w.toNat := by omega
  simp only [Scf.iv, BitVec.toNat_add, BitVec.toNat_mul, BitVec.toNat_ofNat]
  clear hn ht
  omega

theorem trips1 (v w : BitVec 32) : (k0_t1_loop v w).trips = Scf.trips (0#32) ((w - v).sdiv 8#32) (1#32) := by rw [loop1_eq]

theorem loop1_ok (v w : BitVec 32) (hv : v.toNat < 200) (hw : w.toNat < 200) : (k0_t1_loop v w).OK := by
  rw [loop1_eq]
  have h1 : (1#32 : BitVec 32).toInt = 1 := by decide
  have h0 : (0#32 : BitVec 32).toInt = 0 := by decide
  show Scf.OK _ _ _
  simp only [Scf.OK, Scf.trips, windows_toInt v w hv hw, h1, h0]
  have ht := tdiv_eight ((w.toNat : Int) - v.toNat)
  omega

theorem loop2_ok (v w : BitVec 32) (hv : v.toNat < 200) (hw : w.toNat < 200) : (k0_t2_loop v w).OK := by
  have h : k0_t2_loop v w = ⟨(w - v).sdiv 8#32, (w - v).sdiv 8#32, 1#32⟩ := by
    simp only [k0_t2_loop, divsi_one, divsi_eight, Scalar.subi, Scalar.addi, Scalar.muli, IntOp.addi, IntOp.muli, IntOp.subi]
    congr 1
    all_goals
      generalize (w - v).sdiv 8#32 = q
      bv_omega
  rw [h]
  have h1 : (1#32 : BitVec 32).toInt = 1 := by decide
  show Scf.OK _ _ _
  simp only [Scf.OK, Scf.trips, windows_toInt v w hv hw, h1]
  have ht := tdiv_eight ((w.toNat : Int) - v.toNat)
  omega

theorem check67 (v w : BitVec 32) (hv : v.toNat < 200) (hw : w.toNat < 200) : k0_chk67 v w := by
  refine ⟨loop1_ok v w hv hw, ?_, ?_, ?_, ?_, ?_, ?_, ?_, loop2_ok v w hv hw, ?_, ?_, ?_, ?_, ?_, ?_, ?_⟩
  · intro k a; fin_cases a
    · exact window_row v w hv hw k.val (lt_of_lt_of_eq k.isLt (trips1 v w))
    · exact Nat.le_refl 128
  · intro k a; fin_cases a
    · exact (by decide : 0 + 1 ≤ 6)
    · exact window_row v w hv hw k.val (lt_of_lt_of_eq k.isLt (trips1 v w))
    · exact Nat.le_refl 128
  · intro k a; fin_cases a
    · exact (by decide : 1 + 1 ≤ 6)
    · exact window_row v w hv hw k.val (lt_of_lt_of_eq k.isLt (trips1 v w))
    · exact Nat.le_refl 128
  · intro k a; fin_cases a
    · exact (by decide : 2 + 1 ≤ 6)
    · exact window_row v w hv hw k.val (lt_of_lt_of_eq k.isLt (trips1 v w))
    · exact Nat.le_refl 128
  · intro k a; fin_cases a
    · exact (by decide : 3 + 1 ≤ 6)
    · exact window_row v w hv hw k.val (lt_of_lt_of_eq k.isLt (trips1 v w))
    · exact Nat.le_refl 128
  · intro k a; fin_cases a
    · exact (by decide : 4 + 1 ≤ 6)
    · exact window_row v w hv hw k.val (lt_of_lt_of_eq k.isLt (trips1 v w))
    · exact Nat.le_refl 128
  · intro k a; fin_cases a
    · exact (by decide : 5 + 1 ≤ 6)
    · exact window_row v w hv hw k.val (lt_of_lt_of_eq k.isLt (trips1 v w))
    · exact Nat.le_refl 128
  all_goals
    intro k
    exact absurd (lt_of_lt_of_eq k.isLt (loop2_trips v w)) (Nat.not_lt_zero _)

theorem check2 (v : BitVec 32) (h : v.toNat < 200) : k0_chk2 v := row768 v h
theorem check3 (v : BitVec 32) (h : v.toNat < 200) : k0_chk3 v := row768 v h
theorem check4 (v : BitVec 32) (h : v.toNat < 200) : k0_chk4 v := row768 v h
theorem check5 (v : BitVec 32) (h : v.toNat < 200) : k0_chk5 v := row768 v h
theorem check6 (v : BitVec 32) (h : v.toNat < 200) : k0_chk6 v := row768 v h
theorem check7 (v : BitVec 32) (h : v.toNat < 200) : k0_chk7 v := row768 v h
theorem check8 (v : BitVec 32) (h : v.toNat < 200) : k0_chk8 v := row768 v h
theorem check9 (v : BitVec 32) (h : v.toNat < 200) : k0_chk9 v := row768 v h
theorem check10 (v : BitVec 32) (h : v.toNat < 200) : k0_chk10 v := row768 v h
theorem check11 (v : BitVec 32) (h : v.toNat < 200) : k0_chk11 v := row768 v h
theorem check12 (v : BitVec 32) (h : v.toNat < 200) : k0_chk12 v := row768 v h
theorem check13 (v : BitVec 32) (h : v.toNat < 200) : k0_chk13 v := row768 v h
theorem check14 (v : BitVec 32) (h : v.toNat < 200) : k0_chk14 v := row768 v h
theorem check15 (v : BitVec 32) (h : v.toNat < 200) : k0_chk15 v := row768 v h
theorem check16 (v : BitVec 32) (h : v.toNat < 200) : k0_chk16 v := row768 v h
theorem check17 (v : BitVec 32) (h : v.toNat < 200) : k0_chk17 v := row768 v h
theorem check18 (v : BitVec 32) (h : v.toNat < 200) : k0_chk18 v := row768 v h
theorem check19 (v : BitVec 32) (h : v.toNat < 200) : k0_chk19 v := row768 v h
theorem check20 (v : BitVec 32) (h : v.toNat < 200) : k0_chk20 v := row768 v h
theorem check21 (v : BitVec 32) (h : v.toNat < 200) : k0_chk21 v := row768 v h
theorem check22 (v : BitVec 32) (h : v.toNat < 200) : k0_chk22 v := row768 v h
theorem check23 (v : BitVec 32) (h : v.toNat < 200) : k0_chk23 v := row768 v h
theorem check24 (v : BitVec 32) (h : v.toNat < 200) : k0_chk24 v := row768 v h
theorem check25 (v : BitVec 32) (h : v.toNat < 200) : k0_chk25 v := row768 v h
theorem check26 (v : BitVec 32) (h : v.toNat < 200) : k0_chk26 v := row768 v h
theorem check27 (v : BitVec 32) (h : v.toNat < 200) : k0_chk27 v := row768 v h
theorem check28 (v : BitVec 32) (h : v.toNat < 200) : k0_chk28 v := row768 v h
theorem check29 (v : BitVec 32) (h : v.toNat < 200) : k0_chk29 v := row768 v h
theorem check30 (v : BitVec 32) (h : v.toNat < 200) : k0_chk30 v := row768 v h
theorem check31 (v : BitVec 32) (h : v.toNat < 200) : k0_chk31 v := row768 v h
theorem check32 (v : BitVec 32) (h : v.toNat < 200) : k0_chk32 v := row768 v h
theorem check33 (v : BitVec 32) (h : v.toNat < 200) : k0_chk33 v := row768 v h
theorem check34 (v : BitVec 32) (h : v.toNat < 200) : k0_chk34 v := row512 v h
theorem check35 (v : BitVec 32) (h : v.toNat < 200) : k0_chk35 v := row512 v h
theorem check36 (v : BitVec 32) (h : v.toNat < 200) : k0_chk36 v := row512 v h
theorem check37 (v : BitVec 32) (h : v.toNat < 200) : k0_chk37 v := row512 v h
theorem check38 (v : BitVec 32) (h : v.toNat < 200) : k0_chk38 v := row512 v h
theorem check39 (v : BitVec 32) (h : v.toNat < 200) : k0_chk39 v := row512 v h
theorem check40 (v : BitVec 32) (h : v.toNat < 200) : k0_chk40 v := row512 v h
theorem check41 (v : BitVec 32) (h : v.toNat < 200) : k0_chk41 v := row512 v h
theorem check42 (v : BitVec 32) (h : v.toNat < 200) : k0_chk42 v := row512 v h
theorem check43 (v : BitVec 32) (h : v.toNat < 200) : k0_chk43 v := row512 v h
theorem check44 (v : BitVec 32) (h : v.toNat < 200) : k0_chk44 v := row512 v h
theorem check45 (v : BitVec 32) (h : v.toNat < 200) : k0_chk45 v := row512 v h
theorem check46 (v : BitVec 32) (h : v.toNat < 200) : k0_chk46 v := row512 v h
theorem check47 (v : BitVec 32) (h : v.toNat < 200) : k0_chk47 v := row512 v h
theorem check48 (v : BitVec 32) (h : v.toNat < 200) : k0_chk48 v := row512 v h
theorem check49 (v : BitVec 32) (h : v.toNat < 200) : k0_chk49 v := row512 v h
theorem check50 (v : BitVec 32) (h : v.toNat < 200) : k0_chk50 v := row512 v h
theorem check51 (v : BitVec 32) (h : v.toNat < 200) : k0_chk51 v := row512 v h
theorem check52 (v : BitVec 32) (h : v.toNat < 200) : k0_chk52 v := row512 v h
theorem check53 (v : BitVec 32) (h : v.toNat < 200) : k0_chk53 v := row512 v h
theorem check54 (v : BitVec 32) (h : v.toNat < 200) : k0_chk54 v := row512 v h
theorem check55 (v : BitVec 32) (h : v.toNat < 200) : k0_chk55 v := row512 v h
theorem check56 (v : BitVec 32) (h : v.toNat < 200) : k0_chk56 v := row512 v h
theorem check57 (v : BitVec 32) (h : v.toNat < 200) : k0_chk57 v := row512 v h
theorem check58 (v : BitVec 32) (h : v.toNat < 200) : k0_chk58 v := row512 v h
theorem check59 (v : BitVec 32) (h : v.toNat < 200) : k0_chk59 v := row512 v h
theorem check60 (v : BitVec 32) (h : v.toNat < 200) : k0_chk60 v := row512 v h
theorem check61 (v : BitVec 32) (h : v.toNat < 200) : k0_chk61 v := row512 v h
theorem check62 (v : BitVec 32) (h : v.toNat < 200) : k0_chk62 v := row512 v h
theorem check63 (v : BitVec 32) (h : v.toNat < 200) : k0_chk63 v := row512 v h
theorem check64 (v : BitVec 32) (h : v.toNat < 200) : k0_chk64 v := row512 v h
theorem check65 (v : BitVec 32) (h : v.toNat < 200) : k0_chk65 v := row512 v h

end Cert.Proof.Kernel

end
-- ==== Proof.Body.lean ====
/-
  The body of the activation unit's kernel run once at symbolic operands, part by part: what it leaves in the score
  window's buffer is a term over the input windows and the two tables alone, found by the run.
-/
module

public import proofs.«01_k».proof.Proof.Gen.Kernel
public import proofs.«01_k».proof.Proof.Gen.Kernel.Skeleton
public import proofs.«01_k».proof.Proof.Gen.Kernel.Loops
public import proofs.«01_k».proof.Proof.Checks
public import Idealize.ShloMosaic.Lib.Tactic

@[expose] public section

set_option maxRecDepth 8192

noncomputable section

namespace Cert.Proof.Kernel

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦[M.view.set]{fullShare} f
/-- A table memref's buffer, read only: held at the half of the full share the pipeline hands the body. -/
abbrev tb (c : Dev nD) {sp : Space} {S : Shape} {e : EltTy} (M : Memref sig .tc sp S e) (f : Bf (F := F) c M) : sProp 𝕄 :=
  M.view.loc (c : Thread nD τ) ↦[M.view.set]{fullShare.right} f

/-- What the body leaves in the score window's buffer, WITH the proof that from the twenty buffers held whole the
    body runs to its return handing back its inputs as they were and the score window at that value. -/
noncomputable def bodyRun (𝒱 : Variants) (bd : Option 𝒱.V) (c : Dev nD) (b : grid0.Bounds) (i : grid0.Static) (arg0 : BitVec 32)
    (arg1 : Memref sig .tc .smem S4800 .i32) (harg1 : arg1.IsWhole)
    (arg2 : Memref sig .tc .smem S1 .i32) (harg2 : arg2.IsWhole)
    (arg3 : Memref sig .tc .vmem S16x6x8x128 .i32) (harg3 : arg3.IsWhole)
    (arg4 : Memref sig .tc .vmem S16x2x128 .i32) (harg4 : arg4.IsWhole)
    (arg5 : Memref sig .tc .vmem S224x768 .i32) (harg5 : arg5.IsWhole)
    (arg6 : Memref sig .tc .vmem S224x512 .f32) (harg6 : arg6.IsWhole)
    (arg7 : Memref sig .tc .vmem S3072x512 .bf16) (harg7 : arg7.IsWhole)
    (arg8 : Memref sig .tc .vmem S1x512 .f32) (harg8 : arg8.IsWhole)
    (arg9 : Memref sig .tc .vmem S512x128 .bf16) (harg9 : arg9.IsWhole)
    (arg10 : Memref sig .tc .vmem S1x128 .f32) (harg10 : arg10.IsWhole)
    (arg11 : Memref sig .tc .vmem S1x128 .f32) (harg11 : arg11.IsWhole)
    (arg12 : Memref sig .tc .vmem S8x128 .bf16) (harg12 : arg12.IsWhole)
    (arg13 : Memref sig .tc .smem S1 .f32) (harg13 : arg13.IsWhole)
    (arg14 : Memref sig .tc .vmem S216x128 .i32) (harg14 : arg14.IsWhole)
    (arg15 : Memref sig .tc .vmem S216x128 .i32) (harg15 : arg15.IsWhole)
    (arg16 : Memref sig .tc .vmem S6x216x128 .f32) (harg16 : arg16.IsWhole)
    (arg17 : Memref sig .tc .vmem S6x216x128 .f32) (harg17 : arg17.IsWhole)
    (arg18 : Memref sig .tc .vmem S8x128 .f32) (harg18 : arg18.IsWhole)
    (arg19 : Memref sig .tc .vmem S512x2304 .bf16) (harg19 : arg19.IsWhole)
    (arg20 : Memref sig .tc .vmem S512x512 .bf16) (harg20 : arg20.IsWhole)
    (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (f15 : Bf (F := F) c arg15) (f16 : Bf (F := F) c arg16)
    (hstep : arg0.toNat < 150) (hmeta : ∀ x, arg2.view.read (Elt F) f2 x = (0#32 : BitVec 32)) (hgb : ∀ x, BitVec.toNat (arg1.view.read (Elt F) f1 x) < 200) :
    { W : Bf (F := F) c arg18 //
      ∀ (f17 : Bf (F := F) c arg17) (f18 : Bf (F := F) c arg18) (f19 : Bf (F := F) c arg19) (f20 : Bf (F := F) c arg20) (E : Set ℕ) (Q : PUnit → sProp 𝕄),
        iprop(tb c arg1 f1 ∗ tb c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg17 f17 ∗ pt c arg18 f18 ∗ pt c arg19 f19 ∗ pt c arg20 f20
          ∗ (iprop(tb c arg1 f1 ∗ tb c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ (∃ f, pt c arg17 f) ∗ pt c arg18 W
                ∗ (∃ f, pt c arg19 f) ∗ (∃ f, pt c arg20 f)) -∗ Q ⟨⟩))
        ⊢ wp frame (wpE (defs₀ (F := F)) 𝒱 c bd) E
            (cc0_activation_unit b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) Q } := by
  refine ⟨?_, fun f17 f18 f19 f20 E Q => ?run⟩
  case run =>
    iintro ⟨H1, H2, H3, H4, H5, H6, H7, H8, H9, H10, H11, H12, H13, H14, H15, H16, H17, H18, H19, H20, Hk⟩
    sl_exec_parts! (disch := first | assumption | ((with_reducible first | refine check1 _ _ hstep ?_ | refine check67 _ _ ?_ ?_ | refine check2 _ ?_ | refine check3 _ ?_ | refine check4 _ ?_ | refine check5 _ ?_ | refine check6 _ ?_ | refine check7 _ ?_ | refine check8 _ ?_ | refine check9 _ ?_ | refine check10 _ ?_ | refine check11 _ ?_ | refine check12 _ ?_ | refine check13 _ ?_ | refine check14 _ ?_ | refine check15 _ ?_ | refine check16 _ ?_ | refine check17 _ ?_ | refine check18 _ ?_ | refine check19 _ ?_ | refine check20 _ ?_ | refine check21 _ ?_ | refine check22 _ ?_ | refine check23 _ ?_ | refine check24 _ ?_ | refine check25 _ ?_ | refine check26 _ ?_ | refine check27 _ ?_ | refine check28 _ ?_ | refine check29 _ ?_ | refine check30 _ ?_ | refine check31 _ ?_ | refine check32 _ ?_ | refine check33 _ ?_ | refine check34 _ ?_ | refine check35 _ ?_ | refine check36 _ ?_ | refine check37 _ ?_ | refine check38 _ ?_ | refine check39 _ ?_ | refine check40 _ ?_ | refine check41 _ ?_ | refine check42 _ ?_ | refine check43 _ ?_ | refine check44 _ ?_ | refine check45 _ ?_ | refine check46 _ ?_ | refine check47 _ ?_ | refine check48 _ ?_ | refine check49 _ ?_ | refine check50 _ ?_ | refine check51 _ ?_ | refine check52 _ ?_ | refine check53 _ ?_ | refine check54 _ ?_ | refine check55 _ ?_ | refine check56 _ ?_ | refine check57 _ ?_ | refine check58 _ ?_ | refine check59 _ ?_ | refine check60 _ ?_ | refine check61 _ ?_ | refine check62 _ ?_ | refine check63 _ ?_ | refine check64 _ ?_ | refine check65 _ ?_ | refine check66 _ ?_) <;> first | exact hgb _ | exact hmeta _))
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexists _; iexact H17
    isplitl [H18]; · iexact H18
    isplitl [H19]; · iexists _; iexact H19
    iexists _; iexact H20

end Cert.Proof.Kernel

end
-- ==== Proof.Launch.lean ====
/-
  The launch of the activation unit's pallas_call: the kernel's body at every grid point, the proof data of its pipeline
  (the score window at what the body leaves there, the accumulator forgotten), and the run from launch to return.
-/
module

public import proofs.«01_k».proof.Proof.Body
public import proofs.«01_k».proof.Proof.Gen.Kernel.Launch
public import Idealize.ShloMosaic.Lib.Pipeline.FrameBody
public import Idealize.ShloMosaic.Lib.Tactic
public import Idealize.ShloMosaic.Lib.Claim

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core `c`'s buffers when the region is entered: after the host operations before it. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The program up to the region: the host operations, then the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_arg15 (c : Dev nD) : V m c main_arg15 = m ((c : Thread nD τ).loc main_arg15) :=
  StableHlo.after_of_forall_not_mem (b := Proc.devRef .tc main_arg15) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_arg16 (c : Dev nD) : V m c main_arg16 = m ((c : Thread nD τ).loc main_arg16) :=
  StableHlo.after_of_forall_not_mem (b := Proc.devRef .tc main_arg16) _ _ (List.forall_iff_forall_mem.mp (by
    simp only [hostOps0, List.Forall, StableHlo.unary_writes, StableHlo.reshape_writes, Finset.mem_singleton]
    repeat' apply And.intro
    all_goals exact StableHlo.devRef_ne_of_ne (by decide)))

/-! ## The prefetched tables -/

/-- The tables' contents when the region is entered (the program runs on one device). -/
def tbl : pre0.Contents (Elt F) := fun j => V m (0 : Dev nD) (pre0.ref j)

theorem V_pre (c : Dev nD) (j : Fin 3) : V m c (pre0.ref j) = tbl m j := by
  obtain rfl : c = 0 := Subsingleton.elim _ _; rfl

/-- What the precondition says of the tables: at most 150 tiles, every group's batch below 200, the padding word zero. -/
structure Good : Prop where
  n_le : dynb0 (tbl m) 0 ≤ 150
  gb_lt : ∀ x, BitVec.toNat ((Memref.whole main_arg4 : Memref sig .tc .smem S4800 .i32).view.read (Elt F) (tbl m 1) x) < 200
  meta_eq : ∀ x, (Memref.whole main_arg5 : Memref sig .tc .smem S1 .i32).view.read (Elt F) (tbl m 2) x = (0#32 : BitVec 32)

theorem N_at (b : grid0.Bounds) : (grid0.at b).N = b 0 := by
  unfold Pipeline.Grid.N
  show (List.ofFn fun a : Fin 1 => grid0.boundAt b a).prod = b 0
  rw [List.ofFn_succ, List.ofFn_zero, List.prod_cons, List.prod_nil, mul_one, Pipeline.Grid.boundAt_of_dyn_true (h := rfl)]

theorem coords_at (b : grid0.Bounds) (t : Fin (grid0.at b).N) : ((grid0.at b).coords t 0).val = t.val := by
  have h : t.val < b 0 := lt_of_lt_of_eq t.isLt (N_at b)
  rw [Pipeline.Grid.coords_val (G := grid0.at b) t 0 (S := 1) (B := b 0) rfl (Pipeline.Grid.boundAt_of_dyn_true grid0 (b := b) (a := 0) rfl), Nat.div_one, Nat.mod_eq_of_lt h]

theorem coords_lt (b : grid0.Bounds) (i : (grid0.at b).Coords) : (i 0).val < b 0 :=
  lt_of_lt_of_eq (i 0).isLt (Pipeline.Grid.boundAt_of_dyn_true grid0 (b := b) (a := 0) rfl)

theorem transform_0_eq (b : grid0.Bounds) (hb : b 0 ≤ 150) (i : (grid0.at b).Coords) : cc0_transform_0 b i = ![(i 0).val + 1, 0, 0, 0] := by
  have h := coords_lt b i
  have e : (Scalar.addi (BitVec.ofNat 32 (i 0).val) 1#32).toNat = (i 0).val + 1 := by
    show (BitVec.ofNat 32 (i 0).val + 1#32).toNat = _
    simp only [BitVec.toNat_add, BitVec.toNat_ofNat]; omega
  unfold cc0_transform_0; dsimp only; rw [e]; rfl

theorem transform_1_eq (b : grid0.Bounds) (hb : b 0 ≤ 150) (i : (grid0.at b).Coords) : cc0_transform_1 b i = ![(i 0).val + 1, 0, 0] := by
  have h := coords_lt b i
  have e : (Scalar.addi (BitVec.ofNat 32 (i 0).val) 1#32).toNat = (i 0).val + 1 := by
    show (BitVec.ofNat 32 (i 0).val + 1#32).toNat = _
    simp only [BitVec.toNat_add, BitVec.toNat_ofNat]; omega
  unfold cc0_transform_1; dsimp only; rw [e]; rfl

theorem transform_15_eq (b : grid0.Bounds) (hb : b 0 ≤ 150) (i : (grid0.at b).Coords) : cc0_transform_15 b i = ![(i 0).val, 0] := by
  have h := coords_lt b i
  have e : (BitVec.ofNat 32 (i 0).val).toNat = (i 0).val := by
    simp only [BitVec.toNat_ofNat]; omega
  unfold cc0_transform_15; dsimp only; rw [e]; rfl

theorem whole_4 (b : grid0.Bounds) (i : (grid0.at b).Coords) (h : ∀ a, (cc0_transform_4 b i a + 1) * S3072x512.size a ≤ S3072x512.size a) :
    (Rect.block (s := S3072x512) S3072x512.size (cc0_transform_4 b i) h).WholeWords (EltTy.packing .bf16) := by
  have e : cc0_transform_4 b i = ![0, 0] := rfl
  revert h; rw [e]; decide

theorem whole_6 (b : grid0.Bounds) (i : (grid0.at b).Coords) (h : ∀ a, (cc0_transform_6 b i a + 1) * S512x128.size a ≤ S512x128.size a) :
    (Rect.block (s := S512x128) S512x128.size (cc0_transform_6 b i) h).WholeWords (EltTy.packing .bf16) := by
  have e : cc0_transform_6 b i = ![0, 0] := rfl
  revert h; rw [e]; decide

theorem whole_9 (b : grid0.Bounds) (i : (grid0.at b).Coords) (h : ∀ a, (cc0_transform_9 b i a + 1) * S8x128.size a ≤ S8x128.size a) :
    (Rect.block (s := S8x128) S8x128.size (cc0_transform_9 b i) h).WholeWords (EltTy.packing .bf16) := by
  have e : cc0_transform_9 b i = ![0, 0] := rfl
  revert h; rw [e]; decide

/-- The pipeline's side condition holds of such tables. -/
theorem ok_of_le (pf : pre0.Contents (Elt F)) (hb : dynb0 pf 0 ≤ 150) : ok0 pf := by
  unfold ok0
  refine ⟨?_, ?_, ?_, ?_, ?_, ?_, ?_, ?_, ?_, ?_, ?_, ?_, ?_, ?_, ?_, ?_, ?_⟩
  · unfold Pipeline.Grid.Admits; rw [N_at]; omega
  · intro i; have h := coords_lt _ i
    refine ⟨?_, .inl rfl⟩
    rw [transform_0_eq _ hb]; intro a; fin_cases a
    · show ((i 0).val + 1 + 1) * 16 ≤ 2432; omega
    all_goals exact Nat.le_of_eq rfl
  · intro i; have h := coords_lt _ i
    refine ⟨?_, .inl rfl⟩
    rw [transform_1_eq _ hb]; intro a; fin_cases a
    · show ((i 0).val + 1 + 1) * 16 ≤ 2432; omega
    all_goals exact Nat.le_of_eq rfl
  · intro i; exact ⟨fun a => by fin_cases a <;> exact Nat.le_of_eq rfl, .inl rfl⟩
  · intro i; exact ⟨fun a => by fin_cases a <;> exact Nat.le_of_eq rfl, .inl rfl⟩
  · intro i; exact ⟨fun a => by fin_cases a <;> exact Nat.le_of_eq rfl, .inr (whole_4 (dynb0 pf) i _)⟩
  · intro i; exact ⟨fun a => by fin_cases a <;> exact Nat.le_of_eq rfl, .inl rfl⟩
  · intro i; exact ⟨fun a => by fin_cases a <;> exact Nat.le_of_eq rfl, .inr (whole_6 (dynb0 pf) i _)⟩
  · intro i; exact ⟨fun a => by fin_cases a <;> exact Nat.le_of_eq rfl, .inl rfl⟩
  · intro i; exact ⟨fun a => by fin_cases a <;> exact Nat.le_of_eq rfl, .inl rfl⟩
  · intro i; exact ⟨fun a => by fin_cases a <;> exact Nat.le_of_eq rfl, .inr (whole_9 (dynb0 pf) i _)⟩
  · intro i; exact ⟨fun a => by fin_cases a <;> exact Nat.le_of_eq rfl, .inl rfl⟩
  · intro i; exact ⟨fun a => by fin_cases a <;> exact Nat.le_of_eq rfl, .inl rfl⟩
  · intro i; exact ⟨fun a => by fin_cases a <;> exact Nat.le_of_eq rfl, .inl rfl⟩
  · intro i; exact ⟨fun a => by fin_cases a <;> exact Nat.le_of_eq rfl, .inl rfl⟩
  · intro i; exact ⟨fun a => by fin_cases a <;> exact Nat.le_of_eq rfl, .inl rfl⟩
  · intro i; have h := coords_lt _ i
    refine ⟨?_, .inl rfl⟩
    rw [transform_15_eq _ hb]; intro a; fin_cases a
    · show ((i 0).val + 1) * 8 ≤ 1208; omega
    all_goals exact Nat.le_of_eq rfl

variable {m}
/-- The tables as admissible contents, and the pipeline at them. -/
abbrev adm (hG : Good m) : (pcfg0 (F := F)).Adm := ⟨tbl m, ok_of_le _ hG.n_le⟩
abbrev cfgM (hG : Good m) : Pipeline.Cfg sig Λ₀ := cfg0 (adm hG)

theorem N_le (hG : Good m) (t : Fin (cfgM hG).N) : t.val < 150 :=
  lt_of_lt_of_le (lt_of_lt_of_eq t.isLt (N_at _)) hG.n_le

/-- A table's half as the region hands it to the body. -/
theorem tb_whole (c : Dev nD) (b : Ref sig .tc) (f : Buf (Elt F) ((c : Thread nD τ).loc b)) :
    (tb c (Memref.whole b : Memref sig .tc b.space b.ty.shape b.ty.elt) f : sProp 𝕄) = (((c : Thread nD τ).loc b) ↦{fullShare.right} f) :=
  congrArg (fun s => (((c : Thread nD τ).loc b) ↦[s]{fullShare.right} f : sProp 𝕄)) (View.set_whole b)

theorem PhiT0_eq (c : Dev nD) : (Pipeline.ΦT pre0 (tbl m) c : sProp 𝕄)
    = iprop((((c : Thread nD τ).loc main_arg6) ↦{fullShare.right} (tbl m 0)) ∗ tb c (Memref.whole main_arg4 : Memref sig .tc .smem S4800 .i32) (tbl m 1) ∗ tb c (Memref.whole main_arg5 : Memref sig .tc .smem S1 .i32) (tbl m 2)) := by
  rw [show (tb c (Memref.whole main_arg4 : Memref sig .tc .smem S4800 .i32) (tbl m 1) : sProp 𝕄) = _ from tb_whole c main_arg4 (tbl m 1),
    show (tb c (Memref.whole main_arg5 : Memref sig .tc .smem S1 .i32) (tbl m 2) : sProp 𝕄) = _ from tb_whole c main_arg5 (tbl m 2)]
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

abbrev scM0 : Memref sig .tc .vmem S512x2304 .bf16 := Memref.whole cc0_scratch0
abbrev scM1 : Memref sig .tc .vmem S512x512 .bf16 := Memref.whole cc0_scratch1

theorem pt_whole (c : Dev nD) (b : Ref sig .tc) (f : Buf (Elt F) ((c : Thread nD τ).loc b)) :
    (pt c (Memref.whole b : Memref sig .tc b.space b.ty.shape b.ty.elt) f : sProp 𝕄) = (((c : Thread nD τ).loc b) ↦{fullShare} f) :=
  congrArg (fun s => (((c : Thread nD τ).loc b) ↦[s]{fullShare} f : sProp 𝕄)) (View.set_whole b)

/-- The kernel's scratch buffers at some contents. -/
theorem PhiA0_eq (c : Dev nD) : (Pipeline.ΦA spec0 c : sProp 𝕄)
      = iprop(iprop((∃ f, pt c scM0 f) ∗ (∃ f, pt c scM1 f)) ∗ (∃ r, prngReg c r)) := by
  rw [show (fun f => (pt c scM0 f : sProp 𝕄)) = _ from funext fun f => pt_whole c cc0_scratch0 f,
    show (fun f => (pt c scM1 f : sProp 𝕄)) = _ from funext fun f => pt_whole c cc0_scratch1 f]
  unfold Pipeline.ΦA; rw [scopedRest0_eq]; try rfl

/-! ## The windows' blocks -/

variable (m)
/-- Window `w`'s block at point `t`, read off its array as the region finds it. -/
def iblk (hG : Good m) (c : Dev nD) (w : Fin (cfgM hG).W) (t : Fin (cfgM hG).N) : (((cfgM hG).win w).xblock ((cfgM hG).grid.coords t)).Idx → Elt F ((cfgM hG).win w).elt :=
  (((cfgM hG).win w).blk t).view.read (Elt F) (V m c (Pipeline.arrRef spec0 w))

theorem before_0_of (hG : Good m) {c : Dev nD} (dat : Dat τ (Elt F) Unit ℕ (UR sig nD τ) ℕ (cfgM hG) c) (hA : dat.A 0 = V m c (Pipeline.arrRef spec0 0))
    (hafter : ∀ t, dat.after 0 t = iblk m hG c 0 t) (t : Fin (cfgM hG).N) (d) : dat.before 0 t d = iblk m hG c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of (hG : Good m) {c : Dev nD} (dat : Dat τ (Elt F) Unit ℕ (UR sig nD τ) ℕ (cfgM hG) c) (hA : dat.A 1 = V m c (Pipeline.arrRef spec0 1))
    (hafter : ∀ t, dat.after 1 t = iblk m hG c 1 t) (t : Fin (cfgM hG).N) (d) : dat.before 1 t d = iblk m hG c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of (hG : Good m) {c : Dev nD} (dat : Dat τ (Elt F) Unit ℕ (UR sig nD τ) ℕ (cfgM hG) c) (hA : dat.A 2 = V m c (Pipeline.arrRef spec0 2))
    (hafter : ∀ t, dat.after 2 t = iblk m hG c 2 t) (t : Fin (cfgM hG).N) (d) : dat.before 2 t d = iblk m hG c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of (hG : Good m) {c : Dev nD} (dat : Dat τ (Elt F) Unit ℕ (UR sig nD τ) ℕ (cfgM hG) c) (hA : dat.A 3 = V m c (Pipeline.arrRef spec0 3))
    (hafter : ∀ t, dat.after 3 t = iblk m hG c 3 t) (t : Fin (cfgM hG).N) (d) : dat.before 3 t d = iblk m hG c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of (hG : Good m) {c : Dev nD} (dat : Dat τ (Elt F) Unit ℕ (UR sig nD τ) ℕ (cfgM hG) c) (hA : dat.A 4 = V m c (Pipeline.arrRef spec0 4))
    (hafter : ∀ t, dat.after 4 t = iblk m hG c 4 t) (t : Fin (cfgM hG).N) (d) : dat.before 4 t d = iblk m hG c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of (hG : Good m) {c : Dev nD} (dat : Dat τ (Elt F) Unit ℕ (UR sig nD τ) ℕ (cfgM hG) c) (hA : dat.A 5 = V m c (Pipeline.arrRef spec0 5))
    (hafter : ∀ t, dat.after 5 t = iblk m hG c 5 t) (t : Fin (cfgM hG).N) (d) : dat.before 5 t d = iblk m hG c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_6_of (hG : Good m) {c : Dev nD} (dat : Dat τ (Elt F) Unit ℕ (UR sig nD τ) ℕ (cfgM hG) c) (hA : dat.A 6 = V m c (Pipeline.arrRef spec0 6))
    (hafter : ∀ t, dat.after 6 t = iblk m hG c 6 t) (t : Fin (cfgM hG).N) (d) : dat.before 6 t d = iblk m hG c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_7_of (hG : Good m) {c : Dev nD} (dat : Dat τ (Elt F) Unit ℕ (UR sig nD τ) ℕ (cfgM hG) c) (hA : dat.A 7 = V m c (Pipeline.arrRef spec0 7))
    (hafter : ∀ t, dat.after 7 t = iblk m hG c 7 t) (t : Fin (cfgM hG).N) (d) : dat.before 7 t d = iblk m hG c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before_8_of (hG : Good m) {c : Dev nD} (dat : Dat τ (Elt F) Unit ℕ (UR sig nD τ) ℕ (cfgM hG) c) (hA : dat.A 8 = V m c (Pipeline.arrRef spec0 8))
    (hafter : ∀ t, dat.after 8 t = iblk m hG c 8 t) (t : Fin (cfgM hG).N) (d) : dat.before 8 t d = iblk m hG c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before_9_of (hG : Good m) {c : Dev nD} (dat : Dat τ (Elt F) Unit ℕ (UR sig nD τ) ℕ (cfgM hG) c) (hA : dat.A 9 = V m c (Pipeline.arrRef spec0 9))
    (hafter : ∀ t, dat.after 9 t = iblk m hG c 9 t) (t : Fin (cfgM hG).N) (d) : dat.before 9 t d = iblk m hG c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before_10_of (hG : Good m) {c : Dev nD} (dat : Dat τ (Elt F) Unit ℕ (UR sig nD τ) ℕ (cfgM hG) c) (hA : dat.A 10 = V m c (Pipeline.arrRef spec0 10))
    (hafter : ∀ t, dat.after 10 t = iblk m hG c 10 t) (t : Fin (cfgM hG).N) (d) : dat.before 10 t d = iblk m hG c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before_11_of (hG : Good m) {c : Dev nD} (dat : Dat τ (Elt F) Unit ℕ (UR sig nD τ) ℕ (cfgM hG) c) (hA : dat.A 11 = V m c (Pipeline.arrRef spec0 11))
    (hafter : ∀ t, dat.after 11 t = iblk m hG c 11 t) (t : Fin (cfgM hG).N) (d) : dat.before 11 t d = iblk m hG c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before_12_of (hG : Good m) {c : Dev nD} (dat : Dat τ (Elt F) Unit ℕ (UR sig nD τ) ℕ (cfgM hG) c) (hA : dat.A 12 = V m c (Pipeline.arrRef spec0 12))
    (hafter : ∀ t, dat.after 12 t = iblk m hG c 12 t) (t : Fin (cfgM hG).N) (d) : dat.before 12 t d = iblk m hG c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before_13_of (hG : Good m) {c : Dev nD} (dat : Dat τ (Elt F) Unit ℕ (UR sig nD τ) ℕ (cfgM hG) c) (hA : dat.A 13 = V m c (Pipeline.arrRef spec0 13))
    (hafter : ∀ t, dat.after 13 t = iblk m hG c 13 t) (t : Fin (cfgM hG).N) (d) : dat.before 13 t d = iblk m hG c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
abbrev ms_0 (hG : Good m) (t : Fin (cfgM hG).N) : Memref sig .tc .vmem S16x6x8x128 .i32 := spec0_0.stage ((cfgM hG).slots t 0)
abbrev hs_0 (hG : Good m) (t : Fin (cfgM hG).N) : (ms_0 m hG t).IsWhole := hstage0_0 (((cfgM hG).slots t 0).cast nbuf0_0)
abbrev ms_1 (hG : Good m) (t : Fin (cfgM hG).N) : Memref sig .tc .vmem S16x2x128 .i32 := spec0_1.stage ((cfgM hG).slots t 1)
abbrev hs_1 (hG : Good m) (t : Fin (cfgM hG).N) : (ms_1 m hG t).IsWhole := hstage0_1 (((cfgM hG).slots t 1).cast nbuf0_1)
abbrev ms_2 (hG : Good m) (t : Fin (cfgM hG).N) : Memref sig .tc .vmem S224x768 .i32 := spec0_2.stage ((cfgM hG).slots t 2)
abbrev hs_2 (hG : Good m) (t : Fin (cfgM hG).N) : (ms_2 m hG t).IsWhole := hstage0_2 (((cfgM hG).slots t 2).cast nbuf0_2)
abbrev ms_3 (hG : Good m) (t : Fin (cfgM hG).N) : Memref sig .tc .vmem S224x512 .f32 := spec0_3.stage ((cfgM hG).slots t 3)
abbrev hs_3 (hG : Good m) (t : Fin (cfgM hG).N) : (ms_3 m hG t).IsWhole := hstage0_3 (((cfgM hG).slots t 3).cast nbuf0_3)
abbrev ms_4 (hG : Good m) (t : Fin (cfgM hG).N) : Memref sig .tc .vmem S3072x512 .bf16 := spec0_4.stage ((cfgM hG).slots t 4)
abbrev hs_4 (hG : Good m) (t : Fin (cfgM hG).N) : (ms_4 m hG t).IsWhole := hstage0_4 (((cfgM hG).slots t 4).cast nbuf0_4)
abbrev ms_5 (hG : Good m) (t : Fin (cfgM hG).N) : Memref sig .tc .vmem S1x512 .f32 := spec0_5.stage ((cfgM hG).slots t 5)
abbrev hs_5 (hG : Good m) (t : Fin (cfgM hG).N) : (ms_5 m hG t).IsWhole := hstage0_5 (((cfgM hG).slots t 5).cast nbuf0_5)
abbrev ms_6 (hG : Good m) (t : Fin (cfgM hG).N) : Memref sig .tc .vmem S512x128 .bf16 := spec0_6.stage ((cfgM hG).slots t 6)
abbrev hs_6 (hG : Good m) (t : Fin (cfgM hG).N) : (ms_6 m hG t).IsWhole := hstage0_6 (((cfgM hG).slots t 6).cast nbuf0_6)
abbrev ms_7 (hG : Good m) (t : Fin (cfgM hG).N) : Memref sig .tc .vmem S1x128 .f32 := spec0_7.stage ((cfgM hG).slots t 7)
abbrev hs_7 (hG : Good m) (t : Fin (cfgM hG).N) : (ms_7 m hG t).IsWhole := hstage0_7 (((cfgM hG).slots t 7).cast nbuf0_7)
abbrev ms_8 (hG : Good m) (t : Fin (cfgM hG).N) : Memref sig .tc .vmem S1x128 .f32 := spec0_8.stage ((cfgM hG).slots t 8)
abbrev hs_8 (hG : Good m) (t : Fin (cfgM hG).N) : (ms_8 m hG t).IsWhole := hstage0_8 (((cfgM hG).slots t 8).cast nbuf0_8)
abbrev ms_9 (hG : Good m) (t : Fin (cfgM hG).N) : Memref sig .tc .vmem S8x128 .bf16 := spec0_9.stage ((cfgM hG).slots t 9)
abbrev hs_9 (hG : Good m) (t : Fin (cfgM hG).N) : (ms_9 m hG t).IsWhole := hstage0_9 (((cfgM hG).slots t 9).cast nbuf0_9)
abbrev ms_10 (hG : Good m) (t : Fin (cfgM hG).N) : Memref sig .tc .smem S1 .f32 := spec0_10.stage ((cfgM hG).slots t 10)
abbrev hs_10 (hG : Good m) (t : Fin (cfgM hG).N) : (ms_10 m hG t).IsWhole := hstage0_10 (((cfgM hG).slots t 10).cast nbuf0_10)
abbrev ms_11 (hG : Good m) (t : Fin (cfgM hG).N) : Memref sig .tc .vmem S216x128 .i32 := spec0_11.stage ((cfgM hG).slots t 11)
abbrev hs_11 (hG : Good m) (t : Fin (cfgM hG).N) : (ms_11 m hG t).IsWhole := hstage0_11 (((cfgM hG).slots t 11).cast nbuf0_11)
abbrev ms_12 (hG : Good m) (t : Fin (cfgM hG).N) : Memref sig .tc .vmem S216x128 .i32 := spec0_12.stage ((cfgM hG).slots t 12)
abbrev hs_12 (hG : Good m) (t : Fin (cfgM hG).N) : (ms_12 m hG t).IsWhole := hstage0_12 (((cfgM hG).slots t 12).cast nbuf0_12)
abbrev ms_13 (hG : Good m) (t : Fin (cfgM hG).N) : Memref sig .tc .vmem S6x216x128 .f32 := spec0_13.stage ((cfgM hG).slots t 13)
abbrev hs_13 (hG : Good m) (t : Fin (cfgM hG).N) : (ms_13 m hG t).IsWhole := hstage0_13 (((cfgM hG).slots t 13).cast nbuf0_13)
abbrev ms_14 (hG : Good m) (t : Fin (cfgM hG).N) : Memref sig .tc .vmem S6x216x128 .f32 := spec0_14.stage ((cfgM hG).slots t 14)
abbrev hs_14 (hG : Good m) (t : Fin (cfgM hG).N) : (ms_14 m hG t).IsWhole := hstage0_14 (((cfgM hG).slots t 14).cast nbuf0_14)
abbrev ms_15 (hG : Good m) (t : Fin (cfgM hG).N) : Memref sig .tc .vmem S8x128 .f32 := spec0_15.stage ((cfgM hG).slots t 15)
abbrev hs_15 (hG : Good m) (t : Fin (cfgM hG).N) : (ms_15 m hG t).IsWhole := hstage0_15 (((cfgM hG).slots t 15).cast nbuf0_15)

/-- The kernel body at point `t`, on what the pipeline calls it with. -/
abbrev bodyAt (hG : Good m) (t : Fin (cfgM hG).N) : Prog (TpuEff nD τ sig (Elt F) Λ₀ .tc) PUnit :=
  cc0_activation_unit (dynb0 (tbl m)) (Pipeline.Grid.Coords.static grid0 ((cfgM hG).grid.coords t)) (BitVec.ofNat 32 (((cfgM hG).grid.coords t) 0).val) (Memref.whole main_arg4) (Memref.isWhole_whole _) (Memref.whole main_arg5) (Memref.isWhole_whole _) (ms_0 m hG t) (hs_0 m hG t) (ms_1 m hG t) (hs_1 m hG t) (ms_2 m hG t) (hs_2 m hG t) (ms_3 m hG t) (hs_3 m hG t) (ms_4 m hG t) (hs_4 m hG t) (ms_5 m hG t) (hs_5 m hG t) (ms_6 m hG t) (hs_6 m hG t) (ms_7 m hG t) (hs_7 m hG t) (ms_8 m hG t) (hs_8 m hG t) (ms_9 m hG t) (hs_9 m hG t) (ms_10 m hG t) (hs_10 m hG t) (ms_11 m hG t) (hs_11 m hG t) (ms_12 m hG t) (hs_12 m hG t) (ms_13 m hG t) (hs_13 m hG t) (ms_14 m hG t) (hs_14 m hG t) (ms_15 m hG t) (hs_15 m hG t) scM0 (Memref.isWhole_whole _) scM1 (Memref.isWhole_whole _)

theorem step_lt (hG : Good m) (t : Fin (cfgM hG).N) : (BitVec.ofNat 32 (((cfgM hG).grid.coords t) 0).val).toNat < 150 := by
  have h := N_le hG t
  have e : (((cfgM hG).grid.coords t) 0).val = t.val := coords_at _ t
  rw [e, BitVec.toNat_ofNat, Nat.mod_eq_of_lt (lt_trans h (by decide))]; exact h

/-- The body's run at point `t` on the windows' blocks. -/
abbrev runAt (hG : Good m) (c : Dev nD) (t : Fin (cfgM hG).N) :=
  bodyRun (F := F) Variants.none none c (dynb0 (tbl m)) (Pipeline.Grid.Coords.static grid0 ((cfgM hG).grid.coords t)) (BitVec.ofNat 32 (((cfgM hG).grid.coords t) 0).val) (Memref.whole main_arg4) (Memref.isWhole_whole _) (Memref.whole main_arg5) (Memref.isWhole_whole _) (ms_0 m hG t) (hs_0 m hG t) (ms_1 m hG t) (hs_1 m hG t) (ms_2 m hG t) (hs_2 m hG t) (ms_3 m hG t) (hs_3 m hG t) (ms_4 m hG t) (hs_4 m hG t) (ms_5 m hG t) (hs_5 m hG t) (ms_6 m hG t) (hs_6 m hG t) (ms_7 m hG t) (hs_7 m hG t) (ms_8 m hG t) (hs_8 m hG t) (ms_9 m hG t) (hs_9 m hG t) (ms_10 m hG t) (hs_10 m hG t) (ms_11 m hG t) (hs_11 m hG t) (ms_12 m hG t) (hs_12 m hG t) (ms_13 m hG t) (hs_13 m hG t) (ms_14 m hG t) (hs_14 m hG t) (ms_15 m hG t) (hs_15 m hG t) scM0 (Memref.isWhole_whole _) scM1 (Memref.isWhole_whole _)
    (tbl m 1) (tbl m 2) ((hs_0 m hG t).unread (iblk m hG c 0 t)) ((hs_1 m hG t).unread (iblk m hG c 1 t)) ((hs_2 m hG t).unread (iblk m hG c 2 t)) ((hs_3 m hG t).unread (iblk m hG c 3 t)) ((hs_4 m hG t).unread (iblk m hG c 4 t)) ((hs_5 m hG t).unread (iblk m hG c 5 t)) ((hs_6 m hG t).unread (iblk m hG c 6 t)) ((hs_7 m hG t).unread (iblk m hG c 7 t)) ((hs_8 m hG t).unread (iblk m hG c 8 t)) ((hs_9 m hG t).unread (iblk m hG c 9 t)) ((hs_10 m hG t).unread (iblk m hG c 10 t)) ((hs_11 m hG t).unread (iblk m hG c 11 t)) ((hs_12 m hG t).unread (iblk m hG c 12 t)) ((hs_13 m hG t).unread (iblk m hG c 13 t))
    (step_lt m hG t) hG.meta_eq hG.gb_lt

/-- What the body leaves in the score window's buffer at point `t`. -/
def scoreAt (hG : Good m) (c : Dev nD) (t : Fin (cfgM hG).N) : Vec F S8x128 .f32 :=
  (ms_15 m hG t).view.read (Elt F) (runAt m hG c t).1

/-! ## The pipeline's proof data -/

/-- The accumulator window is forgotten. -/
def forgets : Fin 16 → Bool := fun w => w.val == 14

def dats (hG : Good m) (_ : Fin 1) (c : Dev nD) : Dat τ (Elt F) Unit ℕ (UR sig nD τ) ℕ (cfgM hG) c where
  A w := V m c (Pipeline.arrRef spec0 w)
  after w t := match w with
    | ⟨0, _⟩ => iblk m hG c 0 t
    | ⟨1, _⟩ => iblk m hG c 1 t
    | ⟨2, _⟩ => iblk m hG c 2 t
    | ⟨3, _⟩ => iblk m hG c 3 t
    | ⟨4, _⟩ => iblk m hG c 4 t
    | ⟨5, _⟩ => iblk m hG c 5 t
    | ⟨6, _⟩ => iblk m hG c 6 t
    | ⟨7, _⟩ => iblk m hG c 7 t
    | ⟨8, _⟩ => iblk m hG c 8 t
    | ⟨9, _⟩ => iblk m hG c 9 t
    | ⟨10, _⟩ => iblk m hG c 10 t
    | ⟨11, _⟩ => iblk m hG c 11 t
    | ⟨12, _⟩ => iblk m hG c 12 t
    | ⟨13, _⟩ => iblk m hG c 13 t
    | ⟨14, h⟩ => Pipeline.Dat.unnamed (cfg := (cfgM hG)) ⟨14, h⟩ t
    | ⟨15, _⟩ => scoreAt m hG c t
    | ⟨_ + 16, h⟩ => absurd h (Nat.not_lt.2 (Nat.le_add_left _ _))
  Φ _ := iprop(Pipeline.ΦA spec0 c ∗ Pipeline.ΦT pre0 (tbl m) c)
  q _ := fullShare
  owed _ := 0

theorem A_eq (hG : Good m) (c : Dev nD) (w : Fin (cfgM hG).W) : (dats m hG 0 c).A w = V m c (Pipeline.arrRef spec0 w) := by
  dsimp only [dats]

theorem after_0 (hG : Good m) (c : Dev nD) (t : Fin (cfgM hG).N) : (dats m hG 0 c).after 0 t = iblk m hG c 0 t := by dsimp only [dats]; try rfl
theorem after_1 (hG : Good m) (c : Dev nD) (t : Fin (cfgM hG).N) : (dats m hG 0 c).after 1 t = iblk m hG c 1 t := by dsimp only [dats]; try rfl
theorem after_2 (hG : Good m) (c : Dev nD) (t : Fin (cfgM hG).N) : (dats m hG 0 c).after 2 t = iblk m hG c 2 t := by dsimp only [dats]; try rfl
theorem after_3 (hG : Good m) (c : Dev nD) (t : Fin (cfgM hG).N) : (dats m hG 0 c).after 3 t = iblk m hG c 3 t := by dsimp only [dats]; try rfl
theorem after_4 (hG : Good m) (c : Dev nD) (t : Fin (cfgM hG).N) : (dats m hG 0 c).after 4 t = iblk m hG c 4 t := by dsimp only [dats]; try rfl
theorem after_5 (hG : Good m) (c : Dev nD) (t : Fin (cfgM hG).N) : (dats m hG 0 c).after 5 t = iblk m hG c 5 t := by dsimp only [dats]; try rfl
theorem after_6 (hG : Good m) (c : Dev nD) (t : Fin (cfgM hG).N) : (dats m hG 0 c).after 6 t = iblk m hG c 6 t := by dsimp only [dats]; try rfl
theorem after_7 (hG : Good m) (c : Dev nD) (t : Fin (cfgM hG).N) : (dats m hG 0 c).after 7 t = iblk m hG c 7 t := by dsimp only [dats]; try rfl
theorem after_8 (hG : Good m) (c : Dev nD) (t : Fin (cfgM hG).N) : (dats m hG 0 c).after 8 t = iblk m hG c 8 t := by dsimp only [dats]; try rfl
theorem after_9 (hG : Good m) (c : Dev nD) (t : Fin (cfgM hG).N) : (dats m hG 0 c).after 9 t = iblk m hG c 9 t := by dsimp only [dats]; try rfl
theorem after_10 (hG : Good m) (c : Dev nD) (t : Fin (cfgM hG).N) : (dats m hG 0 c).after 10 t = iblk m hG c 10 t := by dsimp only [dats]; try rfl
theorem after_11 (hG : Good m) (c : Dev nD) (t : Fin (cfgM hG).N) : (dats m hG 0 c).after 11 t = iblk m hG c 11 t := by dsimp only [dats]; try rfl
theorem after_12 (hG : Good m) (c : Dev nD) (t : Fin (cfgM hG).N) : (dats m hG 0 c).after 12 t = iblk m hG c 12 t := by dsimp only [dats]; try rfl
theorem after_13 (hG : Good m) (c : Dev nD) (t : Fin (cfgM hG).N) : (dats m hG 0 c).after 13 t = iblk m hG c 13 t := by dsimp only [dats]; try rfl
theorem after_15 (hG : Good m) (c : Dev nD) (t : Fin (cfgM hG).N) : (dats m hG 0 c).after 15 t = scoreAt m hG c t := by dsimp only [dats]; try rfl
theorem before_0 (hG : Good m) (c : Dev nD) (t : Fin (cfgM hG).N) (d) : (dats m hG 0 c).before 0 t d = iblk m hG c 0 t :=
  before_0_of m hG (dats m hG 0 c) (A_eq m hG c 0) (after_0 m hG c) t d
theorem before_1 (hG : Good m) (c : Dev nD) (t : Fin (cfgM hG).N) (d) : (dats m hG 0 c).before 1 t d = iblk m hG c 1 t :=
  before_1_of m hG (dats m hG 0 c) (A_eq m hG c 1) (after_1 m hG c) t d
theorem before_2 (hG : Good m) (c : Dev nD) (t : Fin (cfgM hG).N) (d) : (dats m hG 0 c).before 2 t d = iblk m hG c 2 t :=
  before_2_of m hG (dats m hG 0 c) (A_eq m hG c 2) (after_2 m hG c) t d
theorem before_3 (hG : Good m) (c : Dev nD) (t : Fin (cfgM hG).N) (d) : (dats m hG 0 c).before 3 t d = iblk m hG c 3 t :=
  before_3_of m hG (dats m hG 0 c) (A_eq m hG c 3) (after_3 m hG c) t d
theorem before_4 (hG : Good m) (c : Dev nD) (t : Fin (cfgM hG).N) (d) : (dats m hG 0 c).before 4 t d = iblk m hG c 4 t :=
  before_4_of m hG (dats m hG 0 c) (A_eq m hG c 4) (after_4 m hG c) t d
theorem before_5 (hG : Good m) (c : Dev nD) (t : Fin (cfgM hG).N) (d) : (dats m hG 0 c).before 5 t d = iblk m hG c 5 t :=
  before_5_of m hG (dats m hG 0 c) (A_eq m hG c 5) (after_5 m hG c) t d
theorem before_6 (hG : Good m) (c : Dev nD) (t : Fin (cfgM hG).N) (d) : (dats m hG 0 c).before 6 t d = iblk m hG c 6 t :=
  before_6_of m hG (dats m hG 0 c) (A_eq m hG c 6) (after_6 m hG c) t d
theorem before_7 (hG : Good m) (c : Dev nD) (t : Fin (cfgM hG).N) (d) : (dats m hG 0 c).before 7 t d = iblk m hG c 7 t :=
  before_7_of m hG (dats m hG 0 c) (A_eq m hG c 7) (after_7 m hG c) t d
theorem before_8 (hG : Good m) (c : Dev nD) (t : Fin (cfgM hG).N) (d) : (dats m hG 0 c).before 8 t d = iblk m hG c 8 t :=
  before_8_of m hG (dats m hG 0 c) (A_eq m hG c 8) (after_8 m hG c) t d
theorem before_9 (hG : Good m) (c : Dev nD) (t : Fin (cfgM hG).N) (d) : (dats m hG 0 c).before 9 t d = iblk m hG c 9 t :=
  before_9_of m hG (dats m hG 0 c) (A_eq m hG c 9) (after_9 m hG c) t d
theorem before_10 (hG : Good m) (c : Dev nD) (t : Fin (cfgM hG).N) (d) : (dats m hG 0 c).before 10 t d = iblk m hG c 10 t :=
  before_10_of m hG (dats m hG 0 c) (A_eq m hG c 10) (after_10 m hG c) t d
theorem before_11 (hG : Good m) (c : Dev nD) (t : Fin (cfgM hG).N) (d) : (dats m hG 0 c).before 11 t d = iblk m hG c 11 t :=
  before_11_of m hG (dats m hG 0 c) (A_eq m hG c 11) (after_11 m hG c) t d
theorem before_12 (hG : Good m) (c : Dev nD) (t : Fin (cfgM hG).N) (d) : (dats m hG 0 c).before 12 t d = iblk m hG c 12 t :=
  before_12_of m hG (dats m hG 0 c) (A_eq m hG c 12) (after_12 m hG c) t d
theorem before_13 (hG : Good m) (c : Dev nD) (t : Fin (cfgM hG).N) (d) : (dats m hG 0 c).before 13 t d = iblk m hG c 13 t :=
  before_13_of m hG (dats m hG 0 c) (A_eq m hG c 13) (after_13 m hG c) t d

/-! ## The body obligation -/

/-- What the body is called with at point `t`, -/
def bodyPre (hG : Good m) (c : Dev nD) (t : Fin (cfgM hG).N) : sProp 𝕄 :=
  iprop((dats m hG 0 c).Φ t.castSucc ∗ (dats m hG 0 c).owesAt () t.castSucc
    ∗ (∃ d, owns (c : Thread nD τ) (ms_0 m hG t) fullShare ((dats m hG 0 c).before 0 t d))
    ∗ (∃ d, owns (c : Thread nD τ) (ms_1 m hG t) fullShare ((dats m hG 0 c).before 1 t d))
    ∗ (∃ d, owns (c : Thread nD τ) (ms_2 m hG t) fullShare ((dats m hG 0 c).before 2 t d))
    ∗ (∃ d, owns (c : Thread nD τ) (ms_3 m hG t) fullShare ((dats m hG 0 c).before 3 t d))
    ∗ (∃ d, owns (c : Thread nD τ) (ms_4 m hG t) fullShare ((dats m hG 0 c).before 4 t d))
    ∗ (∃ d, owns (c : Thread nD τ) (ms_5 m hG t) fullShare ((dats m hG 0 c).before 5 t d))
    ∗ (∃ d, owns (c : Thread nD τ) (ms_6 m hG t) fullShare ((dats m hG 0 c).before 6 t d))
    ∗ (∃ d, owns (c : Thread nD τ) (ms_7 m hG t) fullShare ((dats m hG 0 c).before 7 t d))
    ∗ (∃ d, owns (c : Thread nD τ) (ms_8 m hG t) fullShare ((dats m hG 0 c).before 8 t d))
    ∗ (∃ d, owns (c : Thread nD τ) (ms_9 m hG t) fullShare ((dats m hG 0 c).before 9 t d))
    ∗ (∃ d, owns (c : Thread nD τ) (ms_10 m hG t) fullShare ((dats m hG 0 c).before 10 t d))
    ∗ (∃ d, owns (c : Thread nD τ) (ms_11 m hG t) fullShare ((dats m hG 0 c).before 11 t d))
    ∗ (∃ d, owns (c : Thread nD τ) (ms_12 m hG t) fullShare ((dats m hG 0 c).before 12 t d))
    ∗ (∃ d, owns (c : Thread nD τ) (ms_13 m hG t) fullShare ((dats m hG 0 c).before 13 t d))
    ∗ (∃ d, owns (c : Thread nD τ) (ms_14 m hG t) fullShare d)
    ∗ (∃ d, owns (c : Thread nD τ) (ms_15 m hG t) fullShare ((dats m hG 0 c).before 15 t d)))

/-- and what it returns. -/
def bodyPost (hG : Good m) (c : Dev nD) (t : Fin (cfgM hG).N) : sProp 𝕄 :=
  iprop((dats m hG 0 c).Φ t.succ ∗ (dats m hG 0 c).owesAt () t.succ
    ∗ owns (c : Thread nD τ) (ms_0 m hG t) fullShare ((dats m hG 0 c).after 0 t)
    ∗ owns (c : Thread nD τ) (ms_1 m hG t) fullShare ((dats m hG 0 c).after 1 t)
    ∗ owns (c : Thread nD τ) (ms_2 m hG t) fullShare ((dats m hG 0 c).after 2 t)
    ∗ owns (c : Thread nD τ) (ms_3 m hG t) fullShare ((dats m hG 0 c).after 3 t)
    ∗ owns (c : Thread nD τ) (ms_4 m hG t) fullShare ((dats m hG 0 c).after 4 t)
    ∗ owns (c : Thread nD τ) (ms_5 m hG t) fullShare ((dats m hG 0 c).after 5 t)
    ∗ owns (c : Thread nD τ) (ms_6 m hG t) fullShare ((dats m hG 0 c).after 6 t)
    ∗ owns (c : Thread nD τ) (ms_7 m hG t) fullShare ((dats m hG 0 c).after 7 t)
    ∗ owns (c : Thread nD τ) (ms_8 m hG t) fullShare ((dats m hG 0 c).after 8 t)
    ∗ owns (c : Thread nD τ) (ms_9 m hG t) fullShare ((dats m hG 0 c).after 9 t)
    ∗ owns (c : Thread nD τ) (ms_10 m hG t) fullShare ((dats m hG 0 c).after 10 t)
    ∗ owns (c : Thread nD τ) (ms_11 m hG t) fullShare ((dats m hG 0 c).after 11 t)
    ∗ owns (c : Thread nD τ) (ms_12 m hG t) fullShare ((dats m hG 0 c).after 12 t)
    ∗ owns (c : Thread nD τ) (ms_13 m hG t) fullShare ((dats m hG 0 c).after 13 t)
    ∗ (∃ d, owns (c : Thread nD τ) (ms_14 m hG t) fullShare d)
    ∗ owns (c : Thread nD τ) (ms_15 m hG t) fullShare ((dats m hG 0 c).after 15 t))

set_option maxHeartbeats 2000000 in
/-- The body at any point: the inputs' buffers hold their blocks, so the run applies. -/
theorem sound_body (hG : Good m) (c : Dev nD) (t : Fin (cfgM hG).N) :
    bodyPre m hG c t ⊢ wp frame (wpE (defs₀ (F := F)) Variants.none c none) Set.univ (bodyAt m hG t) (fun _ => bodyPost m hG c t) := by
  unfold bodyPre bodyPost bodyAt
  simp only [before_0, before_1, before_2, before_3, before_4, before_5, before_6, before_7, before_8, before_9, before_10, before_11, before_12, before_13]
  rw [show (dats m hG 0 c).Φ t.succ = (dats m hG 0 c).Φ t.castSucc from rfl,
    show (dats m hG 0 c).owesAt () t.succ = (dats m hG 0 c).owesAt () t.castSucc from rfl,
    after_0, after_1, after_2, after_3, after_4, after_5, after_6, after_7, after_8, after_9, after_10, after_11, after_12, after_13, after_15]
  rw [show (dats m hG 0 c).Φ t.castSucc = iprop(Pipeline.ΦA spec0 c ∗ Pipeline.ΦT pre0 (tbl m) c) from rfl, PhiT0_eq, PhiA0_eq]
  unfold owns
  iintro ⟨⟨⟨⟨⟨%s0, HS0⟩, ⟨%s1, HS1⟩⟩, Hg⟩, ⟨HN, HT1, HT2⟩⟩, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩, ⟨%d9, %f9, %hf9, H9⟩, ⟨%d10, %f10, %hf10, H10⟩, ⟨%d11, %f11, %hf11, H11⟩, ⟨%d12, %f12, %hf12, H12⟩, ⟨%d13, %f13, %hf13, H13⟩, ⟨%d14, %f14, %hf14, H14⟩, ⟨%d15, %f15, %hf15, H15⟩⟩
  obtain rfl := (hs_0 m hG t).eq_unread hf0; obtain rfl := (hs_1 m hG t).eq_unread hf1; obtain rfl := (hs_2 m hG t).eq_unread hf2; obtain rfl := (hs_3 m hG t).eq_unread hf3; obtain rfl := (hs_4 m hG t).eq_unread hf4; obtain rfl := (hs_5 m hG t).eq_unread hf5; obtain rfl := (hs_6 m hG t).eq_unread hf6; obtain rfl := (hs_7 m hG t).eq_unread hf7; obtain rfl := (hs_8 m hG t).eq_unread hf8; obtain rfl := (hs_9 m hG t).eq_unread hf9; obtain rfl := (hs_10 m hG t).eq_unread hf10; obtain rfl := (hs_11 m hG t).eq_unread hf11; obtain rfl := (hs_12 m hG t).eq_unread hf12; obtain rfl := (hs_13 m hG t).eq_unread hf13
  iapply ((runAt m hG c t).2 f14 f15 s0 s1 Set.univ _)
  isplitl [HT1]; · iexact HT1
  isplitl [HT2]; · iexact HT2
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [HS0]; · iexact HS0
  isplitl [HS1]; · iexact HS1
  iintro ⟨HT1, HT2, H0, H1, H2, H3, H4, H5, H6, H7, H8, H9, H10, H11, H12, H13, ⟨%g14, H14⟩, H15, ⟨%g19, HS0⟩, ⟨%g20, HS1⟩⟩
  isplitl [HS0 HS1 Hg HN HT1 HT2]
  · isplitl [HS0 HS1 Hg]
    · isplitl [HS0 HS1]
      · isplitl [HS0]
        · iexists _; iexact HS0
        iexists _; iexact HS1
      iexact Hg
    isplitl [HN]; · iexact HN
    isplitl [HT1]; · iexact HT1
    iexact HT2
  isplitl [Ho]; · iexact Ho
  isplitl [H0]
  · iexists _; isplitr; · ipureintro; exact (hs_0 m hG t).read_unread _
    iexact H0
  isplitl [H1]
  · iexists _; isplitr; · ipureintro; exact (hs_1 m hG t).read_unread _
    iexact H1
  isplitl [H2]
  · iexists _; isplitr; · ipureintro; exact (hs_2 m hG t).read_unread _
    iexact H2
  isplitl [H3]
  · iexists _; isplitr; · ipureintro; exact (hs_3 m hG t).read_unread _
    iexact H3
  isplitl [H4]
  · iexists _; isplitr; · ipureintro; exact (hs_4 m hG t).read_unread _
    iexact H4
  isplitl [H5]
  · iexists _; isplitr; · ipureintro; exact (hs_5 m hG t).read_unread _
    iexact H5
  isplitl [H6]
  · iexists _; isplitr; · ipureintro; exact (hs_6 m hG t).read_unread _
    iexact H6
  isplitl [H7]
  · iexists _; isplitr; · ipureintro; exact (hs_7 m hG t).read_unread _
    iexact H7
  isplitl [H8]
  · iexists _; isplitr; · ipureintro; exact (hs_8 m hG t).read_unread _
    iexact H8
  isplitl [H9]
  · iexists _; isplitr; · ipureintro; exact (hs_9 m hG t).read_unread _
    iexact H9
  isplitl [H10]
  · iexists _; isplitr; · ipureintro; exact (hs_10 m hG t).read_unread _
    iexact H10
  isplitl [H11]
  · iexists _; isplitr; · ipureintro; exact (hs_11 m hG t).read_unread _
    iexact H11
  isplitl [H12]
  · iexists _; isplitr; · ipureintro; exact (hs_12 m hG t).read_unread _
    iexact H12
  isplitl [H13]
  · iexists _; isplitr; · ipureintro; exact (hs_13 m hG t).read_unread _
    iexact H13
  isplitl [H14]
  · iexists _, _; isplitr; swap; · iexact H14
    ipureintro; rfl
  iexists _; isplitr; swap; · iexact H15
  ipureintro; rfl

theorem defs₀_row (hG : Good m) (t : Fin (cfgM hG).N) :
    defs₀ (F := F) .tc (cfgM hG).body ((cfgM hG).bodyArgs t ((cfgM hG).slots t)) = bodyAt m hG t := by
  unfold defs₀; rw [Defs.onTc_tc]

theorem body_obligation (hG : Good m) (c : Dev nD) : BodyObligation (dats (F := F) m hG 0 c) (defs₀ (F := F)) Variants.none () Set.univ forgets := fun t => by
  rw [bigSep_W0, bigSep_W0, defs₀_row m hG]
  exact triple_restated (sound_body m hG c t) rfl .rfl fun _ => .rfl

/-! ## The run -/

set_option backward.isDefEq.respectTransparency.types false in
/-- Every run terminates with the arrays as the proof data say and every counter at zero. -/
theorem run_main (hG : Good m) : θ_run defs (onTc (τ := τ) (main (F := F))) (s₀ m ρ) (fun r => (Pipeline.RDat.FramePost ((Pipeline.pin pcfgs fun _ => adm hG) 0) (fun c => (dats m hG 0 c).toRForget forgets) (V m)) r ∧ r.2.sem = fun _ => 0) :=
  Pipeline.θ_run_frameP_forget (Q' := _) pcfgs (fun _ => adm hG) (dats m hG) (0 : Fin 1) launch0 defs₀ Variants.none forgets m ρ main
    (hbody := fun c => (body_obligation m hG c).loose) (hshare := fun c => (dats m hG 0 c).share_full fun _ => rfl)
    (howed := fun _ _ => rfl) (V := V m) (hmain := hmain m Variants.none) (hA := A_eq m hG) (hpf := V_pre m) (hΦ := fun _ _ => rfl)

/-- The run's end: the arguments unchanged, the score array the pipeline's, every counter at zero. -/
theorem run_end (hG : Good m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_v5_1) = (dats m hG 0 c).arrAt 15 (cfgM hG).N)
      ∧ r.2.sem = fun _ => 0) :=
  (θ_run defs _ _).mono (fun _ h => ⟨fun c => ⟨(Pipeline.RDat.FramePost.arr_in h.1 c 0 rfl).trans ((A_eq m hG c 0).trans (V_arg0 m c)),
      (Pipeline.RDat.FramePost.arr_in h.1 c 1 rfl).trans ((A_eq m hG c 1).trans (V_arg1 m c)),
      (Pipeline.RDat.FramePost.arr_in h.1 c 2 rfl).trans ((A_eq m hG c 2).trans (V_arg2 m c)),
      (Pipeline.RDat.FramePost.arr_in h.1 c 3 rfl).trans ((A_eq m hG c 3).trans (V_arg3 m c)),
      ((h.1 c).2 main_arg4 (by decide : main_arg4 ∈ Pipeline.restRefs sig spec0)).trans (V_arg4 m c),
      ((h.1 c).2 main_arg5 (by decide : main_arg5 ∈ Pipeline.restRefs sig spec0)).trans (V_arg5 m c),
      ((h.1 c).2 main_arg6 (by decide : main_arg6 ∈ Pipeline.restRefs sig spec0)).trans (V_arg6 m c),
      (Pipeline.RDat.FramePost.arr_in h.1 c 11 rfl).trans ((A_eq m hG c 11).trans (V_arg7 m c)),
      (Pipeline.RDat.FramePost.arr_in h.1 c 12 rfl).trans ((A_eq m hG c 12).trans (V_arg8 m c)),
      (Pipeline.RDat.FramePost.arr_in h.1 c 13 rfl).trans ((A_eq m hG c 13).trans (V_arg9 m c)),
      (Pipeline.RDat.FramePost.arr_in h.1 c 4 rfl).trans ((A_eq m hG c 4).trans (V_arg10 m c)),
      ((h.1 c).2 main_arg11 (by decide : main_arg11 ∈ Pipeline.restRefs sig spec0)).trans (V_arg11 m c),
      (Pipeline.RDat.FramePost.arr_in h.1 c 6 rfl).trans ((A_eq m hG c 6).trans (V_arg12 m c)),
      ((h.1 c).2 main_arg13 (by decide : main_arg13 ∈ Pipeline.restRefs sig spec0)).trans (V_arg13 m c),
      ((h.1 c).2 main_arg14 (by decide : main_arg14 ∈ Pipeline.restRefs sig spec0)).trans (V_arg14 m c),
      ((h.1 c).2 main_arg15 (by decide : main_arg15 ∈ Pipeline.restRefs sig spec0)).trans (V_arg15 m c),
      (Pipeline.RDat.FramePost.arr_in h.1 c 10 rfl).trans ((A_eq m hG c 10).trans (V_arg16 m c)),
      ((dats m hG 0 c).toRForget_arrAt_iff (fgt := forgets) (w := 15) rfl _ _).mp ((h.1 c).1 15)⟩, h.2⟩) (run_main m ρ hG)

end Cert.Proof.Kernel

end
-- ==== Proof.Pre.lean ====
/-
  The precondition read element by element, and the frame claim of `Kernel` from the run.
-/
module

public import proofs.«01_k».proof.Defs
public import proofs.«01_k».proof.Proof.Launch
public import proofs.«01_k».proof.Proof.Gen.Pre_admissible
public import Idealize.ShloMosaic.Lib.StableHlo.Predicate

@[expose] public section

noncomputable section

namespace Cert.Proof.Kernel

open Cert.Kernel Cert.Kernel.Gen
open Idealize.ShloMosaic Idealize.SL.Sem
open Idealize.ShloMosaic.StableHlo.Predicate (ofBool_eq_one_iff cmpi_eq_iff)

variable (m : (ℓ : Loc nD τ sig) → Buf (Elt Bits) ℓ)

/-- Both bits of a conjunction. -/
theorem andi_one {a b : BitVec 1} (h : IntOp.andi a b = 1#1) : a = 1#1 ∧ b = 1#1 := by
  revert h; unfold IntOp.andi; revert a b; decide

theorem toNat_of_sge {w : BitVec 32} (h : IntOp.cmpi .sge w 0#32 = 1#1) : w.toInt = w.toNat := by
  have h' : (0#32 : BitVec 32).sle w = true := (ofBool_eq_one_iff _).mp h
  simp only [BitVec.sle, decide_eq_true_eq] at h'
  have z : (0#32 : BitVec 32).toInt = 0 := by decide
  rw [z, BitVec.toInt_eq_toNat_cond] at h'
  rw [BitVec.toInt_eq_toNat_cond]
  split <;> rename_i g
  · rfl
  · rw [if_neg g] at h'; omega

theorem toNat_lt_of_slt {w c : BitVec 32} (h0 : IntOp.cmpi .sge w 0#32 = 1#1) (hc : c.toInt = c.toNat) (h : IntOp.cmpi .slt w c = 1#1) : w.toNat < c.toNat := by
  have h' : w.slt c = true := (ofBool_eq_one_iff _).mp h
  simp only [BitVec.slt, decide_eq_true_eq, hc, toNat_of_sge h0] at h'
  omega

theorem toNat_le_of_sle {w c : BitVec 32} (h0 : IntOp.cmpi .sge w 0#32 = 1#1) (hc : c.toInt = c.toNat) (h : IntOp.cmpi .sle w c = 1#1) : w.toNat ≤ c.toNat := by
  have h' : w.sle c = true := (ofBool_eq_one_iff _).mp h
  simp only [BitVec.sle, decide_eq_true_eq, hc, toNat_of_sge h0] at h'
  omega

variable {m}

theorem pre_gb (h : Cert.Pre_Kernel m) (x : S4800.Idx) : (m (((0 : Dev nD).tc : Thread nD τ).loc main_arg4) x : BitVec 32).toNat < 200 := by
  have e := congrFun (h 0).1 x
  have e' : IntOp.andi (IntOp.cmpi .sge (m (((0 : Dev nD).tc : Thread nD τ).loc main_arg4) x : BitVec 32) 0#32) (IntOp.cmpi .slt (m (((0 : Dev nD).tc : Thread nD τ).loc main_arg4) x : BitVec 32) 200#32) = 1#1 := e
  exact toNat_lt_of_slt (andi_one e').1 (by decide) (andi_one e').2

theorem pre_meta (h : Cert.Pre_Kernel m) (x : S1.Idx) : (m (((0 : Dev nD).tc : Thread nD τ).loc main_arg5) x : BitVec 32) = 0#32 := by
  have e := congrFun (h 0).2.1 x
  exact cmpi_eq_iff.mp e

theorem pre_n (h : Cert.Pre_Kernel m) (x : S_.Idx) : (m (((0 : Dev nD).tc : Thread nD τ).loc main_arg6) x : BitVec 32).toNat ≤ 150 := by
  have e := congrFun (h 0).2.2.1 x
  have e' : IntOp.andi (IntOp.cmpi .sge (m (((0 : Dev nD).tc : Thread nD τ).loc main_arg6) x : BitVec 32) 0#32) (IntOp.cmpi .sle (m (((0 : Dev nD).tc : Thread nD τ).loc main_arg6) x : BitVec 32) 150#32) = 1#1 := e
  exact toNat_le_of_sle (andi_one e').1 (by decide) (andi_one e').2

/-- Every target row's word holds one half twice. -/
theorem pre_tp (h : Cert.Pre_Kernel m) (x : S224x768.Idx) : (m (((0 : Dev nD).tc : Thread nD τ).loc main_arg2) x : BitVec 32)
    = IntOp.ori (IntOp.shrui .host (m (((0 : Dev nD).tc : Thread nD τ).loc main_arg2) x : BitVec 32) 16#32) (IntOp.shli .host (m (((0 : Dev nD).tc : Thread nD τ).loc main_arg2) x : BitVec 32) 16#32) := by
  have e := congrFun (h 0).2.2.2 x
  exact cmpi_eq_iff.mp e

theorem good_of_pre (h : Cert.Pre_Kernel m) : Good (F := Bits) m where
  n_le := by
    show BitVec.toNat (tbl m 0 fun a => a.elim0) ≤ 150
    have e : tbl m 0 = m (((0 : Dev nD).tc : Thread nD τ).loc main_arg6) := V_arg6 m 0
    rw [e]; exact pre_n h _
  gb_lt x := by
    have e : tbl m 1 = m (((0 : Dev nD).tc : Thread nD τ).loc main_arg4) := V_arg4 m 0
    rw [e]; exact pre_gb h _
  meta_eq x := by
    have e : tbl m 2 = m (((0 : Dev nD).tc : Thread nD τ).loc main_arg5) := V_arg5 m 0
    rw [e]; exact pre_meta h _

theorem frame : Cert.quiescent_Kernel := fun m g h =>
  (θ_run _ _ _).mono (fun _ r => ⟨fun c => by
    obtain ⟨h0, h1, h2, h3, h4, h5, h6, h7, h8, h9, h10, h11, h12, h13, h14, h15, h16, -⟩ := r.1 c
    exact ⟨h0, h1, h2, h3, h4, h5, h6, h7, h8, h9, h10, h11, h12, h13, h14, h15, h16⟩, r.2⟩) (run_end (F := Bits) m g (good_of_pre h))

end Cert.Proof.Kernel

end
-- ==== Proof.ChecksIdeal.lean ====
/-
  The side conditions the body assumes of the words it reads.
-/
module

public import proofs.«01_k».proof.Proof.Gen.KernelIdeal
public import proofs.«01_k».proof.Proof.Gen.KernelIdeal.Skeleton
public import proofs.«01_k».proof.Proof.Gen.KernelIdeal.Loops
public import Idealize.ShloMosaic.Lib.Tactic

@[expose] public section

set_option maxRecDepth 8192

noncomputable section

namespace Cert.Proof.KernelIdeal

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- A word below 200 is a row of the target table. -/
theorem row768 (v : BitVec 32) (h : v.toNat < 200) : ∀ a, (![(Scalar.indexCast v).toNat, 0] : Fin 2 → Nat) a + S1x768.size a ≤ S224x768.size a := by
  intro a; fin_cases a
  · show v.toNat + 1 ≤ 224; omega
  · exact Nat.le_refl 768

/-- A word below 200 is a row of the share table. -/
theorem row512 (v : BitVec 32) (h : v.toNat < 200) : ∀ a, (![(Scalar.indexCast v).toNat, 0] : Fin 2 → Nat) a + S1x512.size a ≤ S224x512.size a := by
  intro a; fin_cases a
  · show v.toNat + 1 ≤ 224; omega
  · exact Nat.le_refl 512

/-- The 32 entries of a tile below 150 are inside the batch table. -/
theorem check1 (x v : BitVec 32) (h : x.toNat < 150) (hv : v = 0#32) : k0_chk1 x v := by
  subst hv
  simp only [k0_chk1, k0_chk1_0, k0_chk1_1, k0_chk1_2]
  repeat' apply And.intro
  all_goals
    intro a
    fin_cases a
    show BitVec.toNat _ + 1 ≤ 4800
    simp only [Scalar.addi, Scalar.muli, Scalar.subi, Scalar.indexCast, IntOp.addi, IntOp.muli, IntOp.subi, BitVec.toNat_add, BitVec.toNat_sub, BitVec.toNat_mul, BitVec.toNat_ofNat]
    omega

/-- The eight rows from a batch below 200 on are rows of the accumulator. -/
theorem check66 (v : BitVec 32) (h : v.toNat < 200) : k0_chk66 v := by
  simp only [k0_chk66]
  repeat' apply And.intro
  all_goals
    intro a
    fin_cases a <;> simp [k0_off131, k0_off132, k0_off133, k0_off134, k0_off135, k0_off136, k0_off137, S8x128, S216x128, S1x8x128, S6x216x128, Scalar.addi, IntOp.addi, Scalar.indexCast]
    try omega

theorem divsi_one (x : BitVec 32) : Scalar.divsi x 1#32 = x := by
  have h : ¬ IntOp.SDivCorner x 1#32 := by simp [IntOp.SDivCorner]
  show (if IntOp.SDivCorner x 1#32 then _ else _) = _
  rw [if_neg h]; exact BitVec.sdiv_one

theorem divsi_eight (x : BitVec 32) : Scalar.divsi x 8#32 = x.sdiv 8#32 := by
  have h : ¬ IntOp.SDivCorner x 8#32 := by simp [IntOp.SDivCorner]
  show (if IntOp.SDivCorner x 8#32 then _ else _) = _
  rw [if_neg h]

/-- Division by eight toward zero, by the dividend's sign. -/
theorem tdiv_eight (x : Int) : (0 ≤ x ∧ x.tdiv 8 = x / 8) ∨ (x < 0 ∧ x.tdiv 8 = -(-x / 8)) := by
  rcases Int.lt_or_le x 0 with h | h
  · refine .inr ⟨h, ?_⟩
    rw [← Int.tdiv_eq_ediv_of_nonneg (by omega : 0 ≤ -x), Int.neg_tdiv, Int.neg_neg]
  · exact .inl ⟨h, Int.tdiv_eq_ediv_of_nonneg h⟩

/-- The number of further windows: the distance of the two batches over eight. -/
theorem windows_toInt (v w : BitVec 32) (hv : v.toNat < 200) (hw : w.toNat < 200) :
    ((w - v).sdiv 8#32).toInt = ((w.toNat : Int) - v.toNat).tdiv 8 := by
  have h1 : (w - v).toInt = (w.toNat : Int) - v.toNat := by
    rw [BitVec.toInt_sub, BitVec.toInt_eq_toNat_of_lt (by omega), BitVec.toInt_eq_toNat_of_lt (by omega)]
    simp only [Int.bmod]; omega
  rw [BitVec.toInt_sdiv, h1]
  have h8 : (8#32 : BitVec 32).toInt = 8 := by decide
  rw [h8]
  have ht := tdiv_eight ((w.toNat : Int) - v.toNat)
  have h2 : ((w.toNat : Int) - v.toNat).tdiv 8 ≤ 25 := by omega
  have h3 : -25 ≤ ((w.toNat : Int) - v.toNat).tdiv 8 := by omega
  generalize ((w.toNat : Int) - v.toNat).tdiv 8 = q at *
  simp only [Int.bmod]; omega

theorem loop1_eq (v w : BitVec 32) : k0_t1_loop v w = ⟨0#32, (w - v).sdiv 8#32, 1#32⟩ := by
  simp only [k0_t1_loop, divsi_one, divsi_eight, Scalar.subi, Scalar.addi, Scalar.muli, IntOp.addi, IntOp.muli, IntOp.subi]
  congr 1
  generalize (w - v).sdiv 8#32 = q
  bv_omega

theorem loop2_trips (v w : BitVec 32) : (k0_t2_loop v w).trips = 0 := by
  have h : k0_t2_loop v w = ⟨(w - v).sdiv 8#32, (w - v).sdiv 8#32, 1#32⟩ := by
    simp only [k0_t2_loop, divsi_one, divsi_eight, Scalar.subi, Scalar.addi, Scalar.muli, IntOp.addi, IntOp.muli, IntOp.subi]
    congr 1
    all_goals
      generalize (w - v).sdiv 8#32 = q
      bv_omega
  rw [h]
  show Scf.trips _ _ _ = 0
  have h1 : (1#32 : BitVec 32).toInt = 1 := by decide
  simp only [Scf.trips, h1]
  omega

/-- Window `n + 1` from the first batch on stays below the last batch's window. -/
theorem window_row (v w : BitVec 32) (hv : v.toNat < 200) (hw : w.toNat < 200) (n : Nat)
    (hn : n < Scf.trips (0#32) ((w - v).sdiv 8#32) (1#32)) :
    (v + (1#32 + Scf.iv (0#32) (1#32) n * 1#32) * 8#32).toNat + 8 ≤ 216 := by
  have h1 : (1#32 : BitVec 32).toInt = 1 := by decide
  have h0 : (0#32 : BitVec 32).toInt = 0 := by decide
  simp only [Scf.trips, windows_toInt v w hv hw, h1, h0] at hn
  have ht := tdiv_eight ((w.toNat : Int) - v.toNat)
  have hk2 : 8 * (n + 1) ≤ w.toNat := by omega
  have hk3 : v.toNat + 8 * (n + 1) ≤ w.toNat := by omega
  simp only [Scf.iv, BitVec.toNat_add, BitVec.toNat_mul, BitVec.toNat_ofNat]
  clear hn ht
  omega

theorem trips1 (v w : BitVec 32) : (k0_t1_loop v w).trips = Scf.trips (0#32) ((w - v).sdiv 8#32) (1#32) := by rw [loop1_eq]

theorem loop1_ok (v w : BitVec 32) (hv : v.toNat < 200) (hw : w.toNat < 200) : (k0_t1_loop v w).OK := by
  rw [loop1_eq]
  have h1 : (1#32 : BitVec 32).toInt = 1 := by decide
  have h0 : (0#32 : BitVec 32).toInt = 0 := by decide
  show Scf.OK _ _ _
  simp only [Scf.OK, Scf.trips, windows_toInt v w hv hw, h1, h0]
  have ht := tdiv_eight ((w.toNat : Int) - v.toNat)
  omega

theorem loop2_ok (v w : BitVec 32) (hv : v.toNat < 200) (hw : w.toNat < 200) : (k0_t2_loop v w).OK := by
  have h : k0_t2_loop v w = ⟨(w - v).sdiv 8#32, (w - v).sdiv 8#32, 1#32⟩ := by
    simp only [k0_t2_loop, divsi_one, divsi_eight, Scalar.subi, Scalar.addi, Scalar.muli, IntOp.addi, IntOp.muli, IntOp.subi]
    congr 1
    all_goals
      generalize (w - v).sdiv 8#32 = q
      bv_omega
  rw [h]
  have h1 : (1#32 : BitVec 32).toInt = 1 := by decide
  show Scf.OK _ _ _
  simp only [Scf.OK, Scf.trips, windows_toInt v w hv hw, h1]
  have ht := tdiv_eight ((w.toNat : Int) - v.toNat)
  omega

theorem check67 (v w : BitVec 32) (hv : v.toNat < 200) (hw : w.toNat < 200) : k0_chk67 v w := by
  refine ⟨loop1_ok v w hv hw, ?_, ?_, ?_, ?_, ?_, ?_, ?_, loop2_ok v w hv hw, ?_, ?_, ?_, ?_, ?_, ?_, ?_⟩
  · intro k a; fin_cases a
    · exact window_row v w hv hw k.val (lt_of_lt_of_eq k.isLt (trips1 v w))
    · exact Nat.le_refl 128
  · intro k a; fin_cases a
    · exact (by decide : 0 + 1 ≤ 6)
    · exact window_row v w hv hw k.val (lt_of_lt_of_eq k.isLt (trips1 v w))
    · exact Nat.le_refl 128
  · intro k a; fin_cases a
    · exact (by decide : 1 + 1 ≤ 6)
    · exact window_row v w hv hw k.val (lt_of_lt_of_eq k.isLt (trips1 v w))
    · exact Nat.le_refl 128
  · intro k a; fin_cases a
    · exact (by decide : 2 + 1 ≤ 6)
    · exact window_row v w hv hw k.val (lt_of_lt_of_eq k.isLt (trips1 v w))
    · exact Nat.le_refl 128
  · intro k a; fin_cases a
    · exact (by decide : 3 + 1 ≤ 6)
    · exact window_row v w hv hw k.val (lt_of_lt_of_eq k.isLt (trips1 v w))
    · exact Nat.le_refl 128
  · intro k a; fin_cases a
    · exact (by decide : 4 + 1 ≤ 6)
    · exact window_row v w hv hw k.val (lt_of_lt_of_eq k.isLt (trips1 v w))
    · exact Nat.le_refl 128
  · intro k a; fin_cases a
    · exact (by decide : 5 + 1 ≤ 6)
    · exact window_row v w hv hw k.val (lt_of_lt_of_eq k.isLt (trips1 v w))
    · exact Nat.le_refl 128
  all_goals
    intro k
    exact absurd (lt_of_lt_of_eq k.isLt (loop2_trips v w)) (Nat.not_lt_zero _)

theorem check2 (v : BitVec 32) (h : v.toNat < 200) : k0_chk2 v := row768 v h
theorem check3 (v : BitVec 32) (h : v.toNat < 200) : k0_chk3 v := row768 v h
theorem check4 (v : BitVec 32) (h : v.toNat < 200) : k0_chk4 v := row768 v h
theorem check5 (v : BitVec 32) (h : v.toNat < 200) : k0_chk5 v := row768 v h
theorem check6 (v : BitVec 32) (h : v.toNat < 200) : k0_chk6 v := row768 v h
theorem check7 (v : BitVec 32) (h : v.toNat < 200) : k0_chk7 v := row768 v h
theorem check8 (v : BitVec 32) (h : v.toNat < 200) : k0_chk8 v := row768 v h
theorem check9 (v : BitVec 32) (h : v.toNat < 200) : k0_chk9 v := row768 v h
theorem check10 (v : BitVec 32) (h : v.toNat < 200) : k0_chk10 v := row768 v h
theorem check11 (v : BitVec 32) (h : v.toNat < 200) : k0_chk11 v := row768 v h
theorem check12 (v : BitVec 32) (h : v.toNat < 200) : k0_chk12 v := row768 v h
theorem check13 (v : BitVec 32) (h : v.toNat < 200) : k0_chk13 v := row768 v h
theorem check14 (v : BitVec 32) (h : v.toNat < 200) : k0_chk14 v := row768 v h
theorem check15 (v : BitVec 32) (h : v.toNat < 200) : k0_chk15 v := row768 v h
theorem check16 (v : BitVec 32) (h : v.toNat < 200) : k0_chk16 v := row768 v h
theorem check17 (v : BitVec 32) (h : v.toNat < 200) : k0_chk17 v := row768 v h
theorem check18 (v : BitVec 32) (h : v.toNat < 200) : k0_chk18 v := row768 v h
theorem check19 (v : BitVec 32) (h : v.toNat < 200) : k0_chk19 v := row768 v h
theorem check20 (v : BitVec 32) (h : v.toNat < 200) : k0_chk20 v := row768 v h
theorem check21 (v : BitVec 32) (h : v.toNat < 200) : k0_chk21 v := row768 v h
theorem check22 (v : BitVec 32) (h : v.toNat < 200) : k0_chk22 v := row768 v h
theorem check23 (v : BitVec 32) (h : v.toNat < 200) : k0_chk23 v := row768 v h
theorem check24 (v : BitVec 32) (h : v.toNat < 200) : k0_chk24 v := row768 v h
theorem check25 (v : BitVec 32) (h : v.toNat < 200) : k0_chk25 v := row768 v h
theorem check26 (v : BitVec 32) (h : v.toNat < 200) : k0_chk26 v := row768 v h
theorem check27 (v : BitVec 32) (h : v.toNat < 200) : k0_chk27 v := row768 v h
theorem check28 (v : BitVec 32) (h : v.toNat < 200) : k0_chk28 v := row768 v h
theorem check29 (v : BitVec 32) (h : v.toNat < 200) : k0_chk29 v := row768 v h
theorem check30 (v : BitVec 32) (h : v.toNat < 200) : k0_chk30 v := row768 v h
theorem check31 (v : BitVec 32) (h : v.toNat < 200) : k0_chk31 v := row768 v h
theorem check32 (v : BitVec 32) (h : v.toNat < 200) : k0_chk32 v := row768 v h
theorem check33 (v : BitVec 32) (h : v.toNat < 200) : k0_chk33 v := row768 v h
theorem check34 (v : BitVec 32) (h : v.toNat < 200) : k0_chk34 v := row512 v h
theorem check35 (v : BitVec 32) (h : v.toNat < 200) : k0_chk35 v := row512 v h
theorem check36 (v : BitVec 32) (h : v.toNat < 200) : k0_chk36 v := row512 v h
theorem check37 (v : BitVec 32) (h : v.toNat < 200) : k0_chk37 v := row512 v h
theorem check38 (v : BitVec 32) (h : v.toNat < 200) : k0_chk38 v := row512 v h
theorem check39 (v : BitVec 32) (h : v.toNat < 200) : k0_chk39 v := row512 v h
theorem check40 (v : BitVec 32) (h : v.toNat < 200) : k0_chk40 v := row512 v h
theorem check41 (v : BitVec 32) (h : v.toNat < 200) : k0_chk41 v := row512 v h
theorem check42 (v : BitVec 32) (h : v.toNat < 200) : k0_chk42 v := row512 v h
theorem check43 (v : BitVec 32) (h : v.toNat < 200) : k0_chk43 v := row512 v h
theorem check44 (v : BitVec 32) (h : v.toNat < 200) : k0_chk44 v := row512 v h
theorem check45 (v : BitVec 32) (h : v.toNat < 200) : k0_chk45 v := row512 v h
theorem check46 (v : BitVec 32) (h : v.toNat < 200) : k0_chk46 v := row512 v h
theorem check47 (v : BitVec 32) (h : v.toNat < 200) : k0_chk47 v := row512 v h
theorem check48 (v : BitVec 32) (h : v.toNat < 200) : k0_chk48 v := row512 v h
theorem check49 (v : BitVec 32) (h : v.toNat < 200) : k0_chk49 v := row512 v h
theorem check50 (v : BitVec 32) (h : v.toNat < 200) : k0_chk50 v := row512 v h
theorem check51 (v : BitVec 32) (h : v.toNat < 200) : k0_chk51 v := row512 v h
theorem check52 (v : BitVec 32) (h : v.toNat < 200) : k0_chk52 v := row512 v h
theorem check53 (v : BitVec 32) (h : v.toNat < 200) : k0_chk53 v := row512 v h
theorem check54 (v : BitVec 32) (h : v.toNat < 200) : k0_chk54 v := row512 v h
theorem check55 (v : BitVec 32) (h : v.toNat < 200) : k0_chk55 v := row512 v h
theorem check56 (v : BitVec 32) (h : v.toNat < 200) : k0_chk56 v := row512 v h
theorem check57 (v : BitVec 32) (h : v.toNat < 200) : k0_chk57 v := row512 v h
theorem check58 (v : BitVec 32) (h : v.toNat < 200) : k0_chk58 v := row512 v h
theorem check59 (v : BitVec 32) (h : v.toNat < 200) : k0_chk59 v := row512 v h
theorem check60 (v : BitVec 32) (h : v.toNat < 200) : k0_chk60 v := row512 v h
theorem check61 (v : BitVec 32) (h : v.toNat < 200) : k0_chk61 v := row512 v h
theorem check62 (v : BitVec 32) (h : v.toNat < 200) : k0_chk62 v := row512 v h
theorem check63 (v : BitVec 32) (h : v.toNat < 200) : k0_chk63 v := row512 v h
theorem check64 (v : BitVec 32) (h : v.toNat < 200) : k0_chk64 v := row512 v h
theorem check65 (v : BitVec 32) (h : v.toNat < 200) : k0_chk65 v := row512 v h

end Cert.Proof.KernelIdeal

end
-- ==== Proof.BodyIdeal.lean ====
/-
  The body of the activation unit's kernel run once at symbolic operands, part by part: what it leaves in the score
  window's buffer is a term over the input windows and the two tables alone, found by the run.
-/
module

public import proofs.«01_k».proof.Proof.Gen.KernelIdeal
public import proofs.«01_k».proof.Proof.Gen.KernelIdeal.Skeleton
public import proofs.«01_k».proof.Proof.Gen.KernelIdeal.Loops
public import proofs.«01_k».proof.Proof.ChecksIdeal
public import Idealize.ShloMosaic.Lib.Tactic

@[expose] public section

set_option maxRecDepth 8192

noncomputable section

namespace Cert.Proof.KernelIdeal

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦[M.view.set]{fullShare} f
/-- A table memref's buffer, read only: held at the half of the full share the pipeline hands the body. -/
abbrev tb (c : Dev nD) {sp : Space} {S : Shape} {e : EltTy} (M : Memref sig .tc sp S e) (f : Bf (F := F) c M) : sProp 𝕄 :=
  M.view.loc (c : Thread nD τ) ↦[M.view.set]{fullShare.right} f

/-- What the body leaves in the score window's buffer, WITH the proof that from the twenty buffers held whole the
    body runs to its return handing back its inputs as they were and the score window at that value. -/
noncomputable def bodyRun (𝒱 : Variants) (bd : Option 𝒱.V) (c : Dev nD) (b : grid0.Bounds) (i : grid0.Static) (arg0 : BitVec 32)
    (arg1 : Memref sig .tc .smem S4800 .i32) (harg1 : arg1.IsWhole)
    (arg2 : Memref sig .tc .smem S1 .i32) (harg2 : arg2.IsWhole)
    (arg3 : Memref sig .tc .vmem S16x6x8x128 .i32) (harg3 : arg3.IsWhole)
    (arg4 : Memref sig .tc .vmem S16x2x128 .i32) (harg4 : arg4.IsWhole)
    (arg5 : Memref sig .tc .vmem S224x768 .i32) (harg5 : arg5.IsWhole)
    (arg6 : Memref sig .tc .vmem S224x512 .f32) (harg6 : arg6.IsWhole)
    (arg7 : Memref sig .tc .vmem S3072x512 .bf16) (harg7 : arg7.IsWhole)
    (arg8 : Memref sig .tc .vmem S1x512 .f32) (harg8 : arg8.IsWhole)
    (arg9 : Memref sig .tc .vmem S512x128 .bf16) (harg9 : arg9.IsWhole)
    (arg10 : Memref sig .tc .vmem S1x128 .f32) (harg10 : arg10.IsWhole)
    (arg11 : Memref sig .tc .vmem S1x128 .f32) (harg11 : arg11.IsWhole)
    (arg12 : Memref sig .tc .vmem S8x128 .bf16) (harg12 : arg12.IsWhole)
    (arg13 : Memref sig .tc .smem S1 .f32) (harg13 : arg13.IsWhole)
    (arg14 : Memref sig .tc .vmem S216x128 .i32) (harg14 : arg14.IsWhole)
    (arg15 : Memref sig .tc .vmem S216x128 .i32) (harg15 : arg15.IsWhole)
    (arg16 : Memref sig .tc .vmem S6x216x128 .f32) (harg16 : arg16.IsWhole)
    (arg17 : Memref sig .tc .vmem S6x216x128 .f32) (harg17 : arg17.IsWhole)
    (arg18 : Memref sig .tc .vmem S8x128 .f32) (harg18 : arg18.IsWhole)
    (arg19 : Memref sig .tc .vmem S512x2304 .bf16) (harg19 : arg19.IsWhole)
    (arg20 : Memref sig .tc .vmem S512x512 .bf16) (harg20 : arg20.IsWhole)
    (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (f15 : Bf (F := F) c arg15) (f16 : Bf (F := F) c arg16)
    (hstep : arg0.toNat < 150) (hmeta : ∀ x, arg2.view.read (Elt F) f2 x = (0#32 : BitVec 32)) (hgb : ∀ x, BitVec.toNat (arg1.view.read (Elt F) f1 x) < 200) :
    { W : Bf (F := F) c arg18 //
      ∀ (f17 : Bf (F := F) c arg17) (f18 : Bf (F := F) c arg18) (f19 : Bf (F := F) c arg19) (f20 : Bf (F := F) c arg20) (E : Set ℕ) (Q : PUnit → sProp 𝕄),
        iprop(tb c arg1 f1 ∗ tb c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg17 f17 ∗ pt c arg18 f18 ∗ pt c arg19 f19 ∗ pt c arg20 f20
          ∗ (iprop(tb c arg1 f1 ∗ tb c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ (∃ f, pt c arg17 f) ∗ pt c arg18 W
                ∗ (∃ f, pt c arg19 f) ∗ (∃ f, pt c arg20 f)) -∗ Q ⟨⟩))
        ⊢ wp frame (wpE (defs₀ (F := F)) 𝒱 c bd) E
            (cc0_activation_unit b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) Q } := by
  refine ⟨?_, fun f17 f18 f19 f20 E Q => ?run⟩
  case run =>
    iintro ⟨H1, H2, H3, H4, H5, H6, H7, H8, H9, H10, H11, H12, H13, H14, H15, H16, H17, H18, H19, H20, Hk⟩
    sl_exec_parts! (disch := first | assumption | ((with_reducible first | refine check1 _ _ hstep ?_ | refine check67 _ _ ?_ ?_ | refine check2 _ ?_ | refine check3 _ ?_ | refine check4 _ ?_ | refine check5 _ ?_ | refine check6 _ ?_ | refine check7 _ ?_ | refine check8 _ ?_ | refine check9 _ ?_ | refine check10 _ ?_ | refine check11 _ ?_ | refine check12 _ ?_ | refine check13 _ ?_ | refine check14 _ ?_ | refine check15 _ ?_ | refine check16 _ ?_ | refine check17 _ ?_ | refine check18 _ ?_ | refine check19 _ ?_ | refine check20 _ ?_ | refine check21 _ ?_ | refine check22 _ ?_ | refine check23 _ ?_ | refine check24 _ ?_ | refine check25 _ ?_ | refine check26 _ ?_ | refine check27 _ ?_ | refine check28 _ ?_ | refine check29 _ ?_ | refine check30 _ ?_ | refine check31 _ ?_ | refine check32 _ ?_ | refine check33 _ ?_ | refine check34 _ ?_ | refine check35 _ ?_ | refine check36 _ ?_ | refine check37 _ ?_ | refine check38 _ ?_ | refine check39 _ ?_ | refine check40 _ ?_ | refine check41 _ ?_ | refine check42 _ ?_ | refine check43 _ ?_ | refine check44 _ ?_ | refine check45 _ ?_ | refine check46 _ ?_ | refine check47 _ ?_ | refine check48 _ ?_ | refine check49 _ ?_ | refine check50 _ ?_ | refine check51 _ ?_ | refine check52 _ ?_ | refine check53 _ ?_ | refine check54 _ ?_ | refine check55 _ ?_ | refine check56 _ ?_ | refine check57 _ ?_ | refine check58 _ ?_ | refine check59 _ ?_ | refine check60 _ ?_ | refine check61 _ ?_ | refine check62 _ ?_ | refine check63 _ ?_ | refine check64 _ ?_ | refine check65 _ ?_ | refine check66 _ ?_) <;> first | exact hgb _ | exact hmeta _))
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexists _; iexact H17
    isplitl [H18]; · iexact H18
    isplitl [H19]; · iexists _; iexact H19
    iexists _; iexact H20

end Cert.Proof.KernelIdeal

end
-- ==== Proof.LaunchIdeal.lean ====
/-
  The launch of the activation unit's pallas_call: the kernel's body at every grid point, the proof data of its pipeline
  (the score window at what the body leaves there, the accumulator forgotten), and the run from launch to return.
-/
module

public import proofs.«01_k».proof.Proof.BodyIdeal
public import proofs.«01_k».proof.Proof.Gen.KernelIdeal.Launch
public import Idealize.ShloMosaic.Lib.Pipeline.FrameBody
public import Idealize.ShloMosaic.Lib.Tactic
public import Idealize.ShloMosaic.Lib.Claim

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core `c`'s buffers when the region is entered: after the host operations before it. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The program up to the region: the host operations, then the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_arg15 (c : Dev nD) : V m c main_arg15 = m ((c : Thread nD τ).loc main_arg15) :=
  StableHlo.after_of_forall_not_mem (b := Proc.devRef .tc main_arg15) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_arg16 (c : Dev nD) : V m c main_arg16 = m ((c : Thread nD τ).loc main_arg16) :=
  StableHlo.after_of_forall_not_mem (b := Proc.devRef .tc main_arg16) _ _ (List.forall_iff_forall_mem.mp (by
    simp only [hostOps0, List.Forall, StableHlo.unary_writes, StableHlo.reshape_writes, Finset.mem_singleton]
    repeat' apply And.intro
    all_goals exact StableHlo.devRef_ne_of_ne (by decide)))

/-! ## The prefetched tables -/

/-- The tables' contents when the region is entered (the program runs on one device). -/
def tbl : pre0.Contents (Elt F) := fun j => V m (0 : Dev nD) (pre0.ref j)

theorem V_pre (c : Dev nD) (j : Fin 3) : V m c (pre0.ref j) = tbl m j := by
  obtain rfl : c = 0 := Subsingleton.elim _ _; rfl

/-- What the precondition says of the tables: at most 150 tiles, every group's batch below 200, the padding word zero. -/
structure Good : Prop where
  n_le : dynb0 (tbl m) 0 ≤ 150
  gb_lt : ∀ x, BitVec.toNat ((Memref.whole main_arg4 : Memref sig .tc .smem S4800 .i32).view.read (Elt F) (tbl m 1) x) < 200
  meta_eq : ∀ x, (Memref.whole main_arg5 : Memref sig .tc .smem S1 .i32).view.read (Elt F) (tbl m 2) x = (0#32 : BitVec 32)

theorem N_at (b : grid0.Bounds) : (grid0.at b).N = b 0 := by
  unfold Pipeline.Grid.N
  show (List.ofFn fun a : Fin 1 => grid0.boundAt b a).prod = b 0
  rw [List.ofFn_succ, List.ofFn_zero, List.prod_cons, List.prod_nil, mul_one, Pipeline.Grid.boundAt_of_dyn_true (h := rfl)]

theorem coords_at (b : grid0.Bounds) (t : Fin (grid0.at b).N) : ((grid0.at b).coords t 0).val = t.val := by
  have h : t.val < b 0 := lt_of_lt_of_eq t.isLt (N_at b)
  rw [Pipeline.Grid.coords_val (G := grid0.at b) t 0 (S := 1) (B := b 0) rfl (Pipeline.Grid.boundAt_of_dyn_true grid0 (b := b) (a := 0) rfl), Nat.div_one, Nat.mod_eq_of_lt h]

theorem coords_lt (b : grid0.Bounds) (i : (grid0.at b).Coords) : (i 0).val < b 0 :=
  lt_of_lt_of_eq (i 0).isLt (Pipeline.Grid.boundAt_of_dyn_true grid0 (b := b) (a := 0) rfl)

theorem transform_0_eq (b : grid0.Bounds) (hb : b 0 ≤ 150) (i : (grid0.at b).Coords) : cc0_transform_0 b i = ![(i 0).val + 1, 0, 0, 0] := by
  have h := coords_lt b i
  have e : (Scalar.addi (BitVec.ofNat 32 (i 0).val) 1#32).toNat = (i 0).val + 1 := by
    show (BitVec.ofNat 32 (i 0).val + 1#32).toNat = _
    simp only [BitVec.toNat_add, BitVec.toNat_ofNat]; omega
  unfold cc0_transform_0; dsimp only; rw [e]; rfl

theorem transform_1_eq (b : grid0.Bounds) (hb : b 0 ≤ 150) (i : (grid0.at b).Coords) : cc0_transform_1 b i = ![(i 0).val + 1, 0, 0] := by
  have h := coords_lt b i
  have e : (Scalar.addi (BitVec.ofNat 32 (i 0).val) 1#32).toNat = (i 0).val + 1 := by
    show (BitVec.ofNat 32 (i 0).val + 1#32).toNat = _
    simp only [BitVec.toNat_add, BitVec.toNat_ofNat]; omega
  unfold cc0_transform_1; dsimp only; rw [e]; rfl

theorem transform_15_eq (b : grid0.Bounds) (hb : b 0 ≤ 150) (i : (grid0.at b).Coords) : cc0_transform_15 b i = ![(i 0).val, 0] := by
  have h := coords_lt b i
  have e : (BitVec.ofNat 32 (i 0).val).toNat = (i 0).val := by
    simp only [BitVec.toNat_ofNat]; omega
  unfold cc0_transform_15; dsimp only; rw [e]; rfl

theorem whole_4 (b : grid0.Bounds) (i : (grid0.at b).Coords) (h : ∀ a, (cc0_transform_4 b i a + 1) * S3072x512.size a ≤ S3072x512.size a) :
    (Rect.block (s := S3072x512) S3072x512.size (cc0_transform_4 b i) h).WholeWords (EltTy.packing .bf16) := by
  have e : cc0_transform_4 b i = ![0, 0] := rfl
  revert h; rw [e]; decide

theorem whole_6 (b : grid0.Bounds) (i : (grid0.at b).Coords) (h : ∀ a, (cc0_transform_6 b i a + 1) * S512x128.size a ≤ S512x128.size a) :
    (Rect.block (s := S512x128) S512x128.size (cc0_transform_6 b i) h).WholeWords (EltTy.packing .bf16) := by
  have e : cc0_transform_6 b i = ![0, 0] := rfl
  revert h; rw [e]; decide

theorem whole_9 (b : grid0.Bounds) (i : (grid0.at b).Coords) (h : ∀ a, (cc0_transform_9 b i a + 1) * S8x128.size a ≤ S8x128.size a) :
    (Rect.block (s := S8x128) S8x128.size (cc0_transform_9 b i) h).WholeWords (EltTy.packing .bf16) := by
  have e : cc0_transform_9 b i = ![0, 0] := rfl
  revert h; rw [e]; decide

/-- The pipeline's side condition holds of such tables. -/
theorem ok_of_le (pf : pre0.Contents (Elt F)) (hb : dynb0 pf 0 ≤ 150) : ok0 pf := by
  unfold ok0
  refine ⟨?_, ?_, ?_, ?_, ?_, ?_, ?_, ?_, ?_, ?_, ?_, ?_, ?_, ?_, ?_, ?_, ?_⟩
  · unfold Pipeline.Grid.Admits; rw [N_at]; omega
  · intro i; have h := coords_lt _ i
    refine ⟨?_, .inl rfl⟩
    rw [transform_0_eq _ hb]; intro a; fin_cases a
    · show ((i 0).val + 1 + 1) * 16 ≤ 2432; omega
    all_goals exact Nat.le_of_eq rfl
  · intro i; have h := coords_lt _ i
    refine ⟨?_, .inl rfl⟩
    rw [transform_1_eq _ hb]; intro a; fin_cases a
    · show ((i 0).val + 1 + 1) * 16 ≤ 2432; omega
    all_goals exact Nat.le_of_eq rfl
  · intro i; exact ⟨fun a => by fin_cases a <;> exact Nat.le_of_eq rfl, .inl rfl⟩
  · intro i; exact ⟨fun a => by fin_cases a <;> exact Nat.le_of_eq rfl, .inl rfl⟩
  · intro i; exact ⟨fun a => by fin_cases a <;> exact Nat.le_of_eq rfl, .inr (whole_4 (dynb0 pf) i _)⟩
  · intro i; exact ⟨fun a => by fin_cases a <;> exact Nat.le_of_eq rfl, .inl rfl⟩
  · intro i; exact ⟨fun a => by fin_cases a <;> exact Nat.le_of_eq rfl, .inr (whole_6 (dynb0 pf) i _)⟩
  · intro i; exact ⟨fun a => by fin_cases a <;> exact Nat.le_of_eq rfl, .inl rfl⟩
  · intro i; exact ⟨fun a => by fin_cases a <;> exact Nat.le_of_eq rfl, .inl rfl⟩
  · intro i; exact ⟨fun a => by fin_cases a <;> exact Nat.le_of_eq rfl, .inr (whole_9 (dynb0 pf) i _)⟩
  · intro i; exact ⟨fun a => by fin_cases a <;> exact Nat.le_of_eq rfl, .inl rfl⟩
  · intro i; exact ⟨fun a => by fin_cases a <;> exact Nat.le_of_eq rfl, .inl rfl⟩
  · intro i; exact ⟨fun a => by fin_cases a <;> exact Nat.le_of_eq rfl, .inl rfl⟩
  · intro i; exact ⟨fun a => by fin_cases a <;> exact Nat.le_of_eq rfl, .inl rfl⟩
  · intro i; exact ⟨fun a => by fin_cases a <;> exact Nat.le_of_eq rfl, .inl rfl⟩
  · intro i; have h := coords_lt _ i
    refine ⟨?_, .inl rfl⟩
    rw [transform_15_eq _ hb]; intro a; fin_cases a
    · show ((i 0).val + 1) * 8 ≤ 1208; omega
    all_goals exact Nat.le_of_eq rfl

variable {m}
/-- The tables as admissible contents, and the pipeline at them. -/
abbrev adm (hG : Good m) : (pcfg0 (F := F)).Adm := ⟨tbl m, ok_of_le _ hG.n_le⟩
abbrev cfgM (hG : Good m) : Pipeline.Cfg sig Λ₀ := cfg0 (adm hG)

theorem N_le (hG : Good m) (t : Fin (cfgM hG).N) : t.val < 150 :=
  lt_of_lt_of_le (lt_of_lt_of_eq t.isLt (N_at _)) hG.n_le

/-- A table's half as the region hands it to the body. -/
theorem tb_whole (c : Dev nD) (b : Ref sig .tc) (f : Buf (Elt F) ((c : Thread nD τ).loc b)) :
    (tb c (Memref.whole b : Memref sig .tc b.space b.ty.shape b.ty.elt) f : sProp 𝕄) = (((c : Thread nD τ).loc b) ↦{fullShare.right} f) :=
  congrArg (fun s => (((c : Thread nD τ).loc b) ↦[s]{fullShare.right} f : sProp 𝕄)) (View.set_whole b)

theorem PhiT0_eq (c : Dev nD) : (Pipeline.ΦT pre0 (tbl m) c : sProp 𝕄)
    = iprop((((c : Thread nD τ).loc main_arg6) ↦{fullShare.right} (tbl m 0)) ∗ tb c (Memref.whole main_arg4 : Memref sig .tc .smem S4800 .i32) (tbl m 1) ∗ tb c (Memref.whole main_arg5 : Memref sig .tc .smem S1 .i32) (tbl m 2)) := by
  rw [show (tb c (Memref.whole main_arg4 : Memref sig .tc .smem S4800 .i32) (tbl m 1) : sProp 𝕄) = _ from tb_whole c main_arg4 (tbl m 1),
    show (tb c (Memref.whole main_arg5 : Memref sig .tc .smem S1 .i32) (tbl m 2) : sProp 𝕄) = _ from tb_whole c main_arg5 (tbl m 2)]
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

abbrev scM0 : Memref sig .tc .vmem S512x2304 .bf16 := Memref.whole cc0_scratch0
abbrev scM1 : Memref sig .tc .vmem S512x512 .bf16 := Memref.whole cc0_scratch1

theorem pt_whole (c : Dev nD) (b : Ref sig .tc) (f : Buf (Elt F) ((c : Thread nD τ).loc b)) :
    (pt c (Memref.whole b : Memref sig .tc b.space b.ty.shape b.ty.elt) f : sProp 𝕄) = (((c : Thread nD τ).loc b) ↦{fullShare} f) :=
  congrArg (fun s => (((c : Thread nD τ).loc b) ↦[s]{fullShare} f : sProp 𝕄)) (View.set_whole b)

/-- The kernel's scratch buffers at some contents. -/
theorem PhiA0_eq (c : Dev nD) : (Pipeline.ΦA spec0 c : sProp 𝕄)
      = iprop(iprop((∃ f, pt c scM0 f) ∗ (∃ f, pt c scM1 f)) ∗ (∃ r, prngReg c r)) := by
  rw [show (fun f => (pt c scM0 f : sProp 𝕄)) = _ from funext fun f => pt_whole c cc0_scratch0 f,
    show (fun f => (pt c scM1 f : sProp 𝕄)) = _ from funext fun f => pt_whole c cc0_scratch1 f]
  unfold Pipeline.ΦA; rw [scopedRest0_eq]; try rfl

/-! ## The windows' blocks -/

variable (m)
/-- Window `w`'s block at point `t`, read off its array as the region finds it. -/
def iblk (hG : Good m) (c : Dev nD) (w : Fin (cfgM hG).W) (t : Fin (cfgM hG).N) : (((cfgM hG).win w).xblock ((cfgM hG).grid.coords t)).Idx → Elt F ((cfgM hG).win w).elt :=
  (((cfgM hG).win w).blk t).view.read (Elt F) (V m c (Pipeline.arrRef spec0 w))

theorem before_0_of (hG : Good m) {c : Dev nD} (dat : Dat τ (Elt F) Unit ℕ (UR sig nD τ) ℕ (cfgM hG) c) (hA : dat.A 0 = V m c (Pipeline.arrRef spec0 0))
    (hafter : ∀ t, dat.after 0 t = iblk m hG c 0 t) (t : Fin (cfgM hG).N) (d) : dat.before 0 t d = iblk m hG c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of (hG : Good m) {c : Dev nD} (dat : Dat τ (Elt F) Unit ℕ (UR sig nD τ) ℕ (cfgM hG) c) (hA : dat.A 1 = V m c (Pipeline.arrRef spec0 1))
    (hafter : ∀ t, dat.after 1 t = iblk m hG c 1 t) (t : Fin (cfgM hG).N) (d) : dat.before 1 t d = iblk m hG c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of (hG : Good m) {c : Dev nD} (dat : Dat τ (Elt F) Unit ℕ (UR sig nD τ) ℕ (cfgM hG) c) (hA : dat.A 2 = V m c (Pipeline.arrRef spec0 2))
    (hafter : ∀ t, dat.after 2 t = iblk m hG c 2 t) (t : Fin (cfgM hG).N) (d) : dat.before 2 t d = iblk m hG c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of (hG : Good m) {c : Dev nD} (dat : Dat τ (Elt F) Unit ℕ (UR sig nD τ) ℕ (cfgM hG) c) (hA : dat.A 3 = V m c (Pipeline.arrRef spec0 3))
    (hafter : ∀ t, dat.after 3 t = iblk m hG c 3 t) (t : Fin (cfgM hG).N) (d) : dat.before 3 t d = iblk m hG c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of (hG : Good m) {c : Dev nD} (dat : Dat τ (Elt F) Unit ℕ (UR sig nD τ) ℕ (cfgM hG) c) (hA : dat.A 4 = V m c (Pipeline.arrRef spec0 4))
    (hafter : ∀ t, dat.after 4 t = iblk m hG c 4 t) (t : Fin (cfgM hG).N) (d) : dat.before 4 t d = iblk m hG c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of (hG : Good m) {c : Dev nD} (dat : Dat τ (Elt F) Unit ℕ (UR sig nD τ) ℕ (cfgM hG) c) (hA : dat.A 5 = V m c (Pipeline.arrRef spec0 5))
    (hafter : ∀ t, dat.after 5 t = iblk m hG c 5 t) (t : Fin (cfgM hG).N) (d) : dat.before 5 t d = iblk m hG c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_6_of (hG : Good m) {c : Dev nD} (dat : Dat τ (Elt F) Unit ℕ (UR sig nD τ) ℕ (cfgM hG) c) (hA : dat.A 6 = V m c (Pipeline.arrRef spec0 6))
    (hafter : ∀ t, dat.after 6 t = iblk m hG c 6 t) (t : Fin (cfgM hG).N) (d) : dat.before 6 t d = iblk m hG c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_7_of (hG : Good m) {c : Dev nD} (dat : Dat τ (Elt F) Unit ℕ (UR sig nD τ) ℕ (cfgM hG) c) (hA : dat.A 7 = V m c (Pipeline.arrRef spec0 7))
    (hafter : ∀ t, dat.after 7 t = iblk m hG c 7 t) (t : Fin (cfgM hG).N) (d) : dat.before 7 t d = iblk m hG c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before_8_of (hG : Good m) {c : Dev nD} (dat : Dat τ (Elt F) Unit ℕ (UR sig nD τ) ℕ (cfgM hG) c) (hA : dat.A 8 = V m c (Pipeline.arrRef spec0 8))
    (hafter : ∀ t, dat.after 8 t = iblk m hG c 8 t) (t : Fin (cfgM hG).N) (d) : dat.before 8 t d = iblk m hG c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before_9_of (hG : Good m) {c : Dev nD} (dat : Dat τ (Elt F) Unit ℕ (UR sig nD τ) ℕ (cfgM hG) c) (hA : dat.A 9 = V m c (Pipeline.arrRef spec0 9))
    (hafter : ∀ t, dat.after 9 t = iblk m hG c 9 t) (t : Fin (cfgM hG).N) (d) : dat.before 9 t d = iblk m hG c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before_10_of (hG : Good m) {c : Dev nD} (dat : Dat τ (Elt F) Unit ℕ (UR sig nD τ) ℕ (cfgM hG) c) (hA : dat.A 10 = V m c (Pipeline.arrRef spec0 10))
    (hafter : ∀ t, dat.after 10 t = iblk m hG c 10 t) (t : Fin (cfgM hG).N) (d) : dat.before 10 t d = iblk m hG c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before_11_of (hG : Good m) {c : Dev nD} (dat : Dat τ (Elt F) Unit ℕ (UR sig nD τ) ℕ (cfgM hG) c) (hA : dat.A 11 = V m c (Pipeline.arrRef spec0 11))
    (hafter : ∀ t, dat.after 11 t = iblk m hG c 11 t) (t : Fin (cfgM hG).N) (d) : dat.before 11 t d = iblk m hG c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before_12_of (hG : Good m) {c : Dev nD} (dat : Dat τ (Elt F) Unit ℕ (UR sig nD τ) ℕ (cfgM hG) c) (hA : dat.A 12 = V m c (Pipeline.arrRef spec0 12))
    (hafter : ∀ t, dat.after 12 t = iblk m hG c 12 t) (t : Fin (cfgM hG).N) (d) : dat.before 12 t d = iblk m hG c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before_13_of (hG : Good m) {c : Dev nD} (dat : Dat τ (Elt F) Unit ℕ (UR sig nD τ) ℕ (cfgM hG) c) (hA : dat.A 13 = V m c (Pipeline.arrRef spec0 13))
    (hafter : ∀ t, dat.after 13 t = iblk m hG c 13 t) (t : Fin (cfgM hG).N) (d) : dat.before 13 t d = iblk m hG c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
abbrev ms_0 (hG : Good m) (t : Fin (cfgM hG).N) : Memref sig .tc .vmem S16x6x8x128 .i32 := spec0_0.stage ((cfgM hG).slots t 0)
abbrev hs_0 (hG : Good m) (t : Fin (cfgM hG).N) : (ms_0 m hG t).IsWhole := hstage0_0 (((cfgM hG).slots t 0).cast nbuf0_0)
abbrev ms_1 (hG : Good m) (t : Fin (cfgM hG).N) : Memref sig .tc .vmem S16x2x128 .i32 := spec0_1.stage ((cfgM hG).slots t 1)
abbrev hs_1 (hG : Good m) (t : Fin (cfgM hG).N) : (ms_1 m hG t).IsWhole := hstage0_1 (((cfgM hG).slots t 1).cast nbuf0_1)
abbrev ms_2 (hG : Good m) (t : Fin (cfgM hG).N) : Memref sig .tc .vmem S224x768 .i32 := spec0_2.stage ((cfgM hG).slots t 2)
abbrev hs_2 (hG : Good m) (t : Fin (cfgM hG).N) : (ms_2 m hG t).IsWhole := hstage0_2 (((cfgM hG).slots t 2).cast nbuf0_2)
abbrev ms_3 (hG : Good m) (t : Fin (cfgM hG).N) : Memref sig .tc .vmem S224x512 .f32 := spec0_3.stage ((cfgM hG).slots t 3)
abbrev hs_3 (hG : Good m) (t : Fin (cfgM hG).N) : (ms_3 m hG t).IsWhole := hstage0_3 (((cfgM hG).slots t 3).cast nbuf0_3)
abbrev ms_4 (hG : Good m) (t : Fin (cfgM hG).N) : Memref sig .tc .vmem S3072x512 .bf16 := spec0_4.stage ((cfgM hG).slots t 4)
abbrev hs_4 (hG : Good m) (t : Fin (cfgM hG).N) : (ms_4 m hG t).IsWhole := hstage0_4 (((cfgM hG).slots t 4).cast nbuf0_4)
abbrev ms_5 (hG : Good m) (t : Fin (cfgM hG).N) : Memref sig .tc .vmem S1x512 .f32 := spec0_5.stage ((cfgM hG).slots t 5)
abbrev hs_5 (hG : Good m) (t : Fin (cfgM hG).N) : (ms_5 m hG t).IsWhole := hstage0_5 (((cfgM hG).slots t 5).cast nbuf0_5)
abbrev ms_6 (hG : Good m) (t : Fin (cfgM hG).N) : Memref sig .tc .vmem S512x128 .bf16 := spec0_6.stage ((cfgM hG).slots t 6)
abbrev hs_6 (hG : Good m) (t : Fin (cfgM hG).N) : (ms_6 m hG t).IsWhole := hstage0_6 (((cfgM hG).slots t 6).cast nbuf0_6)
abbrev ms_7 (hG : Good m) (t : Fin (cfgM hG).N) : Memref sig .tc .vmem S1x128 .f32 := spec0_7.stage ((cfgM hG).slots t 7)
abbrev hs_7 (hG : Good m) (t : Fin (cfgM hG).N) : (ms_7 m hG t).IsWhole := hstage0_7 (((cfgM hG).slots t 7).cast nbuf0_7)
abbrev ms_8 (hG : Good m) (t : Fin (cfgM hG).N) : Memref sig .tc .vmem S1x128 .f32 := spec0_8.stage ((cfgM hG).slots t 8)
abbrev hs_8 (hG : Good m) (t : Fin (cfgM hG).N) : (ms_8 m hG t).IsWhole := hstage0_8 (((cfgM hG).slots t 8).cast nbuf0_8)
abbrev ms_9 (hG : Good m) (t : Fin (cfgM hG).N) : Memref sig .tc .vmem S8x128 .bf16 := spec0_9.stage ((cfgM hG).slots t 9)
abbrev hs_9 (hG : Good m) (t : Fin (cfgM hG).N) : (ms_9 m hG t).IsWhole := hstage0_9 (((cfgM hG).slots t 9).cast nbuf0_9)
abbrev ms_10 (hG : Good m) (t : Fin (cfgM hG).N) : Memref sig .tc .smem S1 .f32 := spec0_10.stage ((cfgM hG).slots t 10)
abbrev hs_10 (hG : Good m) (t : Fin (cfgM hG).N) : (ms_10 m hG t).IsWhole := hstage0_10 (((cfgM hG).slots t 10).cast nbuf0_10)
abbrev ms_11 (hG : Good m) (t : Fin (cfgM hG).N) : Memref sig .tc .vmem S216x128 .i32 := spec0_11.stage ((cfgM hG).slots t 11)
abbrev hs_11 (hG : Good m) (t : Fin (cfgM hG).N) : (ms_11 m hG t).IsWhole := hstage0_11 (((cfgM hG).slots t 11).cast nbuf0_11)
abbrev ms_12 (hG : Good m) (t : Fin (cfgM hG).N) : Memref sig .tc .vmem S216x128 .i32 := spec0_12.stage ((cfgM hG).slots t 12)
abbrev hs_12 (hG : Good m) (t : Fin (cfgM hG).N) : (ms_12 m hG t).IsWhole := hstage0_12 (((cfgM hG).slots t 12).cast nbuf0_12)
abbrev ms_13 (hG : Good m) (t : Fin (cfgM hG).N) : Memref sig .tc .vmem S6x216x128 .f32 := spec0_13.stage ((cfgM hG).slots t 13)
abbrev hs_13 (hG : Good m) (t : Fin (cfgM hG).N) : (ms_13 m hG t).IsWhole := hstage0_13 (((cfgM hG).slots t 13).cast nbuf0_13)
abbrev ms_14 (hG : Good m) (t : Fin (cfgM hG).N) : Memref sig .tc .vmem S6x216x128 .f32 := spec0_14.stage ((cfgM hG).slots t 14)
abbrev hs_14 (hG : Good m) (t : Fin (cfgM hG).N) : (ms_14 m hG t).IsWhole := hstage0_14 (((cfgM hG).slots t 14).cast nbuf0_14)
abbrev ms_15 (hG : Good m) (t : Fin (cfgM hG).N) : Memref sig .tc .vmem S8x128 .f32 := spec0_15.stage ((cfgM hG).slots t 15)
abbrev hs_15 (hG : Good m) (t : Fin (cfgM hG).N) : (ms_15 m hG t).IsWhole := hstage0_15 (((cfgM hG).slots t 15).cast nbuf0_15)

/-- The kernel body at point `t`, on what the pipeline calls it with. -/
abbrev bodyAt (hG : Good m) (t : Fin (cfgM hG).N) : Prog (TpuEff nD τ sig (Elt F) Λ₀ .tc) PUnit :=
  cc0_activation_unit (dynb0 (tbl m)) (Pipeline.Grid.Coords.static grid0 ((cfgM hG).grid.coords t)) (BitVec.ofNat 32 (((cfgM hG).grid.coords t) 0).val) (Memref.whole main_arg4) (Memref.isWhole_whole _) (Memref.whole main_arg5) (Memref.isWhole_whole _) (ms_0 m hG t) (hs_0 m hG t) (ms_1 m hG t) (hs_1 m hG t) (ms_2 m hG t) (hs_2 m hG t) (ms_3 m hG t) (hs_3 m hG t) (ms_4 m hG t) (hs_4 m hG t) (ms_5 m hG t) (hs_5 m hG t) (ms_6 m hG t) (hs_6 m hG t) (ms_7 m hG t) (hs_7 m hG t) (ms_8 m hG t) (hs_8 m hG t) (ms_9 m hG t) (hs_9 m hG t) (ms_10 m hG t) (hs_10 m hG t) (ms_11 m hG t) (hs_11 m hG t) (ms_12 m hG t) (hs_12 m hG t) (ms_13 m hG t) (hs_13 m hG t) (ms_14 m hG t) (hs_14 m hG t) (ms_15 m hG t) (hs_15 m hG t) scM0 (Memref.isWhole_whole _) scM1 (Memref.isWhole_whole _)

theorem step_lt (hG : Good m) (t : Fin (cfgM hG).N) : (BitVec.ofNat 32 (((cfgM hG).grid.coords t) 0).val).toNat < 150 := by
  have h := N_le hG t
  have e : (((cfgM hG).grid.coords t) 0).val = t.val := coords_at _ t
  rw [e, BitVec.toNat_ofNat, Nat.mod_eq_of_lt (lt_trans h (by decide))]; exact h

/-- The body's run at point `t` on the windows' blocks. -/
abbrev runAt (hG : Good m) (c : Dev nD) (t : Fin (cfgM hG).N) :=
  bodyRun (F := F) Variants.none none c (dynb0 (tbl m)) (Pipeline.Grid.Coords.static grid0 ((cfgM hG).grid.coords t)) (BitVec.ofNat 32 (((cfgM hG).grid.coords t) 0).val) (Memref.whole main_arg4) (Memref.isWhole_whole _) (Memref.whole main_arg5) (Memref.isWhole_whole _) (ms_0 m hG t) (hs_0 m hG t) (ms_1 m hG t) (hs_1 m hG t) (ms_2 m hG t) (hs_2 m hG t) (ms_3 m hG t) (hs_3 m hG t) (ms_4 m hG t) (hs_4 m hG t) (ms_5 m hG t) (hs_5 m hG t) (ms_6 m hG t) (hs_6 m hG t) (ms_7 m hG t) (hs_7 m hG t) (ms_8 m hG t) (hs_8 m hG t) (ms_9 m hG t) (hs_9 m hG t) (ms_10 m hG t) (hs_10 m hG t) (ms_11 m hG t) (hs_11 m hG t) (ms_12 m hG t) (hs_12 m hG t) (ms_13 m hG t) (hs_13 m hG t) (ms_14 m hG t) (hs_14 m hG t) (ms_15 m hG t) (hs_15 m hG t) scM0 (Memref.isWhole_whole _) scM1 (Memref.isWhole_whole _)
    (tbl m 1) (tbl m 2) ((hs_0 m hG t).unread (iblk m hG c 0 t)) ((hs_1 m hG t).unread (iblk m hG c 1 t)) ((hs_2 m hG t).unread (iblk m hG c 2 t)) ((hs_3 m hG t).unread (iblk m hG c 3 t)) ((hs_4 m hG t).unread (iblk m hG c 4 t)) ((hs_5 m hG t).unread (iblk m hG c 5 t)) ((hs_6 m hG t).unread (iblk m hG c 6 t)) ((hs_7 m hG t).unread (iblk m hG c 7 t)) ((hs_8 m hG t).unread (iblk m hG c 8 t)) ((hs_9 m hG t).unread (iblk m hG c 9 t)) ((hs_10 m hG t).unread (iblk m hG c 10 t)) ((hs_11 m hG t).unread (iblk m hG c 11 t)) ((hs_12 m hG t).unread (iblk m hG c 12 t)) ((hs_13 m hG t).unread (iblk m hG c 13 t))
    (step_lt m hG t) hG.meta_eq hG.gb_lt

/-- What the body leaves in the score window's buffer at point `t`. -/
def scoreAt (hG : Good m) (c : Dev nD) (t : Fin (cfgM hG).N) : Vec F S8x128 .f32 :=
  (ms_15 m hG t).view.read (Elt F) (runAt m hG c t).1

/-! ## The pipeline's proof data -/

/-- The accumulator window is forgotten. -/
def forgets : Fin 16 → Bool := fun w => w.val == 14

def dats (hG : Good m) (_ : Fin 1) (c : Dev nD) : Dat τ (Elt F) Unit ℕ (UR sig nD τ) ℕ (cfgM hG) c where
  A w := V m c (Pipeline.arrRef spec0 w)
  after w t := match w with
    | ⟨0, _⟩ => iblk m hG c 0 t
    | ⟨1, _⟩ => iblk m hG c 1 t
    | ⟨2, _⟩ => iblk m hG c 2 t
    | ⟨3, _⟩ => iblk m hG c 3 t
    | ⟨4, _⟩ => iblk m hG c 4 t
    | ⟨5, _⟩ => iblk m hG c 5 t
    | ⟨6, _⟩ => iblk m hG c 6 t
    | ⟨7, _⟩ => iblk m hG c 7 t
    | ⟨8, _⟩ => iblk m hG c 8 t
    | ⟨9, _⟩ => iblk m hG c 9 t
    | ⟨10, _⟩ => iblk m hG c 10 t
    | ⟨11, _⟩ => iblk m hG c 11 t
    | ⟨12, _⟩ => iblk m hG c 12 t
    | ⟨13, _⟩ => iblk m hG c 13 t
    | ⟨14, h⟩ => Pipeline.Dat.unnamed (cfg := (cfgM hG)) ⟨14, h⟩ t
    | ⟨15, _⟩ => scoreAt m hG c t
    | ⟨_ + 16, h⟩ => absurd h (Nat.not_lt.2 (Nat.le_add_left _ _))
  Φ _ := iprop(Pipeline.ΦA spec0 c ∗ Pipeline.ΦT pre0 (tbl m) c)
  q _ := fullShare
  owed _ := 0

theorem A_eq (hG : Good m) (c : Dev nD) (w : Fin (cfgM hG).W) : (dats m hG 0 c).A w = V m c (Pipeline.arrRef spec0 w) := by
  dsimp only [dats]

theorem after_0 (hG : Good m) (c : Dev nD) (t : Fin (cfgM hG).N) : (dats m hG 0 c).after 0 t = iblk m hG c 0 t := by dsimp only [dats]; try rfl
theorem after_1 (hG : Good m) (c : Dev nD) (t : Fin (cfgM hG).N) : (dats m hG 0 c).after 1 t = iblk m hG c 1 t := by dsimp only [dats]; try rfl
theorem after_2 (hG : Good m) (c : Dev nD) (t : Fin (cfgM hG).N) : (dats m hG 0 c).after 2 t = iblk m hG c 2 t := by dsimp only [dats]; try rfl
theorem after_3 (hG : Good m) (c : Dev nD) (t : Fin (cfgM hG).N) : (dats m hG 0 c).after 3 t = iblk m hG c 3 t := by dsimp only [dats]; try rfl
theorem after_4 (hG : Good m) (c : Dev nD) (t : Fin (cfgM hG).N) : (dats m hG 0 c).after 4 t = iblk m hG c 4 t := by dsimp only [dats]; try rfl
theorem after_5 (hG : Good m) (c : Dev nD) (t : Fin (cfgM hG).N) : (dats m hG 0 c).after 5 t = iblk m hG c 5 t := by dsimp only [dats]; try rfl
theorem after_6 (hG : Good m) (c : Dev nD) (t : Fin (cfgM hG).N) : (dats m hG 0 c).after 6 t = iblk m hG c 6 t := by dsimp only [dats]; try rfl
theorem after_7 (hG : Good m) (c : Dev nD) (t : Fin (cfgM hG).N) : (dats m hG 0 c).after 7 t = iblk m hG c 7 t := by dsimp only [dats]; try rfl
theorem after_8 (hG : Good m) (c : Dev nD) (t : Fin (cfgM hG).N) : (dats m hG 0 c).after 8 t = iblk m hG c 8 t := by dsimp only [dats]; try rfl
theorem after_9 (hG : Good m) (c : Dev nD) (t : Fin (cfgM hG).N) : (dats m hG 0 c).after 9 t = iblk m hG c 9 t := by dsimp only [dats]; try rfl
theorem after_10 (hG : Good m) (c : Dev nD) (t : Fin (cfgM hG).N) : (dats m hG 0 c).after 10 t = iblk m hG c 10 t := by dsimp only [dats]; try rfl
theorem after_11 (hG : Good m) (c : Dev nD) (t : Fin (cfgM hG).N) : (dats m hG 0 c).after 11 t = iblk m hG c 11 t := by dsimp only [dats]; try rfl
theorem after_12 (hG : Good m) (c : Dev nD) (t : Fin (cfgM hG).N) : (dats m hG 0 c).after 12 t = iblk m hG c 12 t := by dsimp only [dats]; try rfl
theorem after_13 (hG : Good m) (c : Dev nD) (t : Fin (cfgM hG).N) : (dats m hG 0 c).after 13 t = iblk m hG c 13 t := by dsimp only [dats]; try rfl
theorem after_15 (hG : Good m) (c : Dev nD) (t : Fin (cfgM hG).N) : (dats m hG 0 c).after 15 t = scoreAt m hG c t := by dsimp only [dats]; try rfl
theorem before_0 (hG : Good m) (c : Dev nD) (t : Fin (cfgM hG).N) (d) : (dats m hG 0 c).before 0 t d = iblk m hG c 0 t :=
  before_0_of m hG (dats m hG 0 c) (A_eq m hG c 0) (after_0 m hG c) t d
theorem before_1 (hG : Good m) (c : Dev nD) (t : Fin (cfgM hG).N) (d) : (dats m hG 0 c).before 1 t d = iblk m hG c 1 t :=
  before_1_of m hG (dats m hG 0 c) (A_eq m hG c 1) (after_1 m hG c) t d
theorem before_2 (hG : Good m) (c : Dev nD) (t : Fin (cfgM hG).N) (d) : (dats m hG 0 c).before 2 t d = iblk m hG c 2 t :=
  before_2_of m hG (dats m hG 0 c) (A_eq m hG c 2) (after_2 m hG c) t d
theorem before_3 (hG : Good m) (c : Dev nD) (t : Fin (cfgM hG).N) (d) : (dats m hG 0 c).before 3 t d = iblk m hG c 3 t :=
  before_3_of m hG (dats m hG 0 c) (A_eq m hG c 3) (after_3 m hG c) t d
theorem before_4 (hG : Good m) (c : Dev nD) (t : Fin (cfgM hG).N) (d) : (dats m hG 0 c).before 4 t d = iblk m hG c 4 t :=
  before_4_of m hG (dats m hG 0 c) (A_eq m hG c 4) (after_4 m hG c) t d
theorem before_5 (hG : Good m) (c : Dev nD) (t : Fin (cfgM hG).N) (d) : (dats m hG 0 c).before 5 t d = iblk m hG c 5 t :=
  before_5_of m hG (dats m hG 0 c) (A_eq m hG c 5) (after_5 m hG c) t d
theorem before_6 (hG : Good m) (c : Dev nD) (t : Fin (cfgM hG).N) (d) : (dats m hG 0 c).before 6 t d = iblk m hG c 6 t :=
  before_6_of m hG (dats m hG 0 c) (A_eq m hG c 6) (after_6 m hG c) t d
theorem before_7 (hG : Good m) (c : Dev nD) (t : Fin (cfgM hG).N) (d) : (dats m hG 0 c).before 7 t d = iblk m hG c 7 t :=
  before_7_of m hG (dats m hG 0 c) (A_eq m hG c 7) (after_7 m hG c) t d
theorem before_8 (hG : Good m) (c : Dev nD) (t : Fin (cfgM hG).N) (d) : (dats m hG 0 c).before 8 t d = iblk m hG c 8 t :=
  before_8_of m hG (dats m hG 0 c) (A_eq m hG c 8) (after_8 m hG c) t d
theorem before_9 (hG : Good m) (c : Dev nD) (t : Fin (cfgM hG).N) (d) : (dats m hG 0 c).before 9 t d = iblk m hG c 9 t :=
  before_9_of m hG (dats m hG 0 c) (A_eq m hG c 9) (after_9 m hG c) t d
theorem before_10 (hG : Good m) (c : Dev nD) (t : Fin (cfgM hG).N) (d) : (dats m hG 0 c).before 10 t d = iblk m hG c 10 t :=
  before_10_of m hG (dats m hG 0 c) (A_eq m hG c 10) (after_10 m hG c) t d
theorem before_11 (hG : Good m) (c : Dev nD) (t : Fin (cfgM hG).N) (d) : (dats m hG 0 c).before 11 t d = iblk m hG c 11 t :=
  before_11_of m hG (dats m hG 0 c) (A_eq m hG c 11) (after_11 m hG c) t d
theorem before_12 (hG : Good m) (c : Dev nD) (t : Fin (cfgM hG).N) (d) : (dats m hG 0 c).before 12 t d = iblk m hG c 12 t :=
  before_12_of m hG (dats m hG 0 c) (A_eq m hG c 12) (after_12 m hG c) t d
theorem before_13 (hG : Good m) (c : Dev nD) (t : Fin (cfgM hG).N) (d) : (dats m hG 0 c).before 13 t d = iblk m hG c 13 t :=
  before_13_of m hG (dats m hG 0 c) (A_eq m hG c 13) (after_13 m hG c) t d

/-! ## The body obligation -/

/-- What the body is called with at point `t`, -/
def bodyPre (hG : Good m) (c : Dev nD) (t : Fin (cfgM hG).N) : sProp 𝕄 :=
  iprop((dats m hG 0 c).Φ t.castSucc ∗ (dats m hG 0 c).owesAt () t.castSucc
    ∗ (∃ d, owns (c : Thread nD τ) (ms_0 m hG t) fullShare ((dats m hG 0 c).before 0 t d))
    ∗ (∃ d, owns (c : Thread nD τ) (ms_1 m hG t) fullShare ((dats m hG 0 c).before 1 t d))
    ∗ (∃ d, owns (c : Thread nD τ) (ms_2 m hG t) fullShare ((dats m hG 0 c).before 2 t d))
    ∗ (∃ d, owns (c : Thread nD τ) (ms_3 m hG t) fullShare ((dats m hG 0 c).before 3 t d))
    ∗ (∃ d, owns (c : Thread nD τ) (ms_4 m hG t) fullShare ((dats m hG 0 c).before 4 t d))
    ∗ (∃ d, owns (c : Thread nD τ) (ms_5 m hG t) fullShare ((dats m hG 0 c).before 5 t d))
    ∗ (∃ d, owns (c : Thread nD τ) (ms_6 m hG t) fullShare ((dats m hG 0 c).before 6 t d))
    ∗ (∃ d, owns (c : Thread nD τ) (ms_7 m hG t) fullShare ((dats m hG 0 c).before 7 t d))
    ∗ (∃ d, owns (c : Thread nD τ) (ms_8 m hG t) fullShare ((dats m hG 0 c).before 8 t d))
    ∗ (∃ d, owns (c : Thread nD τ) (ms_9 m hG t) fullShare ((dats m hG 0 c).before 9 t d))
    ∗ (∃ d, owns (c : Thread nD τ) (ms_10 m hG t) fullShare ((dats m hG 0 c).before 10 t d))
    ∗ (∃ d, owns (c : Thread nD τ) (ms_11 m hG t) fullShare ((dats m hG 0 c).before 11 t d))
    ∗ (∃ d, owns (c : Thread nD τ) (ms_12 m hG t) fullShare ((dats m hG 0 c).before 12 t d))
    ∗ (∃ d, owns (c : Thread nD τ) (ms_13 m hG t) fullShare ((dats m hG 0 c).before 13 t d))
    ∗ (∃ d, owns (c : Thread nD τ) (ms_14 m hG t) fullShare d)
    ∗ (∃ d, owns (c : Thread nD τ) (ms_15 m hG t) fullShare ((dats m hG 0 c).before 15 t d)))

/-- and what it returns. -/
def bodyPost (hG : Good m) (c : Dev nD) (t : Fin (cfgM hG).N) : sProp 𝕄 :=
  iprop((dats m hG 0 c).Φ t.succ ∗ (dats m hG 0 c).owesAt () t.succ
    ∗ owns (c : Thread nD τ) (ms_0 m hG t) fullShare ((dats m hG 0 c).after 0 t)
    ∗ owns (c : Thread nD τ) (ms_1 m hG t) fullShare ((dats m hG 0 c).after 1 t)
    ∗ owns (c : Thread nD τ) (ms_2 m hG t) fullShare ((dats m hG 0 c).after 2 t)
    ∗ owns (c : Thread nD τ) (ms_3 m hG t) fullShare ((dats m hG 0 c).after 3 t)
    ∗ owns (c : Thread nD τ) (ms_4 m hG t) fullShare ((dats m hG 0 c).after 4 t)
    ∗ owns (c : Thread nD τ) (ms_5 m hG t) fullShare ((dats m hG 0 c).after 5 t)
    ∗ owns (c : Thread nD τ) (ms_6 m hG t) fullShare ((dats m hG 0 c).after 6 t)
    ∗ owns (c : Thread nD τ) (ms_7 m hG t) fullShare ((dats m hG 0 c).after 7 t)
    ∗ owns (c : Thread nD τ) (ms_8 m hG t) fullShare ((dats m hG 0 c).after 8 t)
    ∗ owns (c : Thread nD τ) (ms_9 m hG t) fullShare ((dats m hG 0 c).after 9 t)
    ∗ owns (c : Thread nD τ) (ms_10 m hG t) fullShare ((dats m hG 0 c).after 10 t)
    ∗ owns (c : Thread nD τ) (ms_11 m hG t) fullShare ((dats m hG 0 c).after 11 t)
    ∗ owns (c : Thread nD τ) (ms_12 m hG t) fullShare ((dats m hG 0 c).after 12 t)
    ∗ owns (c : Thread nD τ) (ms_13 m hG t) fullShare ((dats m hG 0 c).after 13 t)
    ∗ (∃ d, owns (c : Thread nD τ) (ms_14 m hG t) fullShare d)
    ∗ owns (c : Thread nD τ) (ms_15 m hG t) fullShare ((dats m hG 0 c).after 15 t))

set_option maxHeartbeats 2000000 in
/-- The body at any point: the inputs' buffers hold their blocks, so the run applies. -/
theorem sound_body (hG : Good m) (c : Dev nD) (t : Fin (cfgM hG).N) :
    bodyPre m hG c t ⊢ wp frame (wpE (defs₀ (F := F)) Variants.none c none) Set.univ (bodyAt m hG t) (fun _ => bodyPost m hG c t) := by
  unfold bodyPre bodyPost bodyAt
  simp only [before_0, before_1, before_2, before_3, before_4, before_5, before_6, before_7, before_8, before_9, before_10, before_11, before_12, before_13]
  rw [show (dats m hG 0 c).Φ t.succ = (dats m hG 0 c).Φ t.castSucc from rfl,
    show (dats m hG 0 c).owesAt () t.succ = (dats m hG 0 c).owesAt () t.castSucc from rfl,
    after_0, after_1, after_2, after_3, after_4, after_5, after_6, after_7, after_8, after_9, after_10, after_11, after_12, after_13, after_15]
  rw [show (dats m hG 0 c).Φ t.castSucc = iprop(Pipeline.ΦA spec0 c ∗ Pipeline.ΦT pre0 (tbl m) c) from rfl, PhiT0_eq, PhiA0_eq]
  unfold owns
  iintro ⟨⟨⟨⟨⟨%s0, HS0⟩, ⟨%s1, HS1⟩⟩, Hg⟩, ⟨HN, HT1, HT2⟩⟩, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩, ⟨%d9, %f9, %hf9, H9⟩, ⟨%d10, %f10, %hf10, H10⟩, ⟨%d11, %f11, %hf11, H11⟩, ⟨%d12, %f12, %hf12, H12⟩, ⟨%d13, %f13, %hf13, H13⟩, ⟨%d14, %f14, %hf14, H14⟩, ⟨%d15, %f15, %hf15, H15⟩⟩
  obtain rfl := (hs_0 m hG t).eq_unread hf0; obtain rfl := (hs_1 m hG t).eq_unread hf1; obtain rfl := (hs_2 m hG t).eq_unread hf2; obtain rfl := (hs_3 m hG t).eq_unread hf3; obtain rfl := (hs_4 m hG t).eq_unread hf4; obtain rfl := (hs_5 m hG t).eq_unread hf5; obtain rfl := (hs_6 m hG t).eq_unread hf6; obtain rfl := (hs_7 m hG t).eq_unread hf7; obtain rfl := (hs_8 m hG t).eq_unread hf8; obtain rfl := (hs_9 m hG t).eq_unread hf9; obtain rfl := (hs_10 m hG t).eq_unread hf10; obtain rfl := (hs_11 m hG t).eq_unread hf11; obtain rfl := (hs_12 m hG t).eq_unread hf12; obtain rfl := (hs_13 m hG t).eq_unread hf13
  iapply ((runAt m hG c t).2 f14 f15 s0 s1 Set.univ _)
  isplitl [HT1]; · iexact HT1
  isplitl [HT2]; · iexact HT2
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [HS0]; · iexact HS0
  isplitl [HS1]; · iexact HS1
  iintro ⟨HT1, HT2, H0, H1, H2, H3, H4, H5, H6, H7, H8, H9, H10, H11, H12, H13, ⟨%g14, H14⟩, H15, ⟨%g19, HS0⟩, ⟨%g20, HS1⟩⟩
  isplitl [HS0 HS1 Hg HN HT1 HT2]
  · isplitl [HS0 HS1 Hg]
    · isplitl [HS0 HS1]
      · isplitl [HS0]
        · iexists _; iexact HS0
        iexists _; iexact HS1
      iexact Hg
    isplitl [HN]; · iexact HN
    isplitl [HT1]; · iexact HT1
    iexact HT2
  isplitl [Ho]; · iexact Ho
  isplitl [H0]
  · iexists _; isplitr; · ipureintro; exact (hs_0 m hG t).read_unread _
    iexact H0
  isplitl [H1]
  · iexists _; isplitr; · ipureintro; exact (hs_1 m hG t).read_unread _
    iexact H1
  isplitl [H2]
  · iexists _; isplitr; · ipureintro; exact (hs_2 m hG t).read_unread _
    iexact H2
  isplitl [H3]
  · iexists _; isplitr; · ipureintro; exact (hs_3 m hG t).read_unread _
    iexact H3
  isplitl [H4]
  · iexists _; isplitr; · ipureintro; exact (hs_4 m hG t).read_unread _
    iexact H4
  isplitl [H5]
  · iexists _; isplitr; · ipureintro; exact (hs_5 m hG t).read_unread _
    iexact H5
  isplitl [H6]
  · iexists _; isplitr; · ipureintro; exact (hs_6 m hG t).read_unread _
    iexact H6
  isplitl [H7]
  · iexists _; isplitr; · ipureintro; exact (hs_7 m hG t).read_unread _
    iexact H7
  isplitl [H8]
  · iexists _; isplitr; · ipureintro; exact (hs_8 m hG t).read_unread _
    iexact H8
  isplitl [H9]
  · iexists _; isplitr; · ipureintro; exact (hs_9 m hG t).read_unread _
    iexact H9
  isplitl [H10]
  · iexists _; isplitr; · ipureintro; exact (hs_10 m hG t).read_unread _
    iexact H10
  isplitl [H11]
  · iexists _; isplitr; · ipureintro; exact (hs_11 m hG t).read_unread _
    iexact H11
  isplitl [H12]
  · iexists _; isplitr; · ipureintro; exact (hs_12 m hG t).read_unread _
    iexact H12
  isplitl [H13]
  · iexists _; isplitr; · ipureintro; exact (hs_13 m hG t).read_unread _
    iexact H13
  isplitl [H14]
  · iexists _, _; isplitr; swap; · iexact H14
    ipureintro; rfl
  iexists _; isplitr; swap; · iexact H15
  ipureintro; rfl

theorem defs₀_row (hG : Good m) (t : Fin (cfgM hG).N) :
    defs₀ (F := F) .tc (cfgM hG).body ((cfgM hG).bodyArgs t ((cfgM hG).slots t)) = bodyAt m hG t := by
  unfold defs₀; rw [Defs.onTc_tc]

theorem body_obligation (hG : Good m) (c : Dev nD) : BodyObligation (dats (F := F) m hG 0 c) (defs₀ (F := F)) Variants.none () Set.univ forgets := fun t => by
  rw [bigSep_W0, bigSep_W0, defs₀_row m hG]
  exact triple_restated (sound_body m hG c t) rfl .rfl fun _ => .rfl

/-! ## The run -/

set_option backward.isDefEq.respectTransparency.types false in
/-- Every run terminates with the arrays as the proof data say and every counter at zero. -/
theorem run_main (hG : Good m) : θ_run defs (onTc (τ := τ) (main (F := F))) (s₀ m ρ) (fun r => (Pipeline.RDat.FramePost ((Pipeline.pin pcfgs fun _ => adm hG) 0) (fun c => (dats m hG 0 c).toRForget forgets) (V m)) r ∧ r.2.sem = fun _ => 0) :=
  Pipeline.θ_run_frameP_forget (Q' := _) pcfgs (fun _ => adm hG) (dats m hG) (0 : Fin 1) launch0 defs₀ Variants.none forgets m ρ main
    (hbody := fun c => (body_obligation m hG c).loose) (hshare := fun c => (dats m hG 0 c).share_full fun _ => rfl)
    (howed := fun _ _ => rfl) (V := V m) (hmain := hmain m Variants.none) (hA := A_eq m hG) (hpf := V_pre m) (hΦ := fun _ _ => rfl)

/-- The run's end: the arguments unchanged, the score array the pipeline's, every counter at zero. -/
theorem run_end (hG : Good m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_v5_1) = (dats m hG 0 c).arrAt 15 (cfgM hG).N)
      ∧ r.2.sem = fun _ => 0) :=
  (θ_run defs _ _).mono (fun _ h => ⟨fun c => ⟨(Pipeline.RDat.FramePost.arr_in h.1 c 0 rfl).trans ((A_eq m hG c 0).trans (V_arg0 m c)),
      (Pipeline.RDat.FramePost.arr_in h.1 c 1 rfl).trans ((A_eq m hG c 1).trans (V_arg1 m c)),
      (Pipeline.RDat.FramePost.arr_in h.1 c 2 rfl).trans ((A_eq m hG c 2).trans (V_arg2 m c)),
      (Pipeline.RDat.FramePost.arr_in h.1 c 3 rfl).trans ((A_eq m hG c 3).trans (V_arg3 m c)),
      ((h.1 c).2 main_arg4 (by decide : main_arg4 ∈ Pipeline.restRefs sig spec0)).trans (V_arg4 m c),
      ((h.1 c).2 main_arg5 (by decide : main_arg5 ∈ Pipeline.restRefs sig spec0)).trans (V_arg5 m c),
      ((h.1 c).2 main_arg6 (by decide : main_arg6 ∈ Pipeline.restRefs sig spec0)).trans (V_arg6 m c),
      (Pipeline.RDat.FramePost.arr_in h.1 c 11 rfl).trans ((A_eq m hG c 11).trans (V_arg7 m c)),
      (Pipeline.RDat.FramePost.arr_in h.1 c 12 rfl).trans ((A_eq m hG c 12).trans (V_arg8 m c)),
      (Pipeline.RDat.FramePost.arr_in h.1 c 13 rfl).trans ((A_eq m hG c 13).trans (V_arg9 m c)),
      (Pipeline.RDat.FramePost.arr_in h.1 c 4 rfl).trans ((A_eq m hG c 4).trans (V_arg10 m c)),
      ((h.1 c).2 main_arg11 (by decide : main_arg11 ∈ Pipeline.restRefs sig spec0)).trans (V_arg11 m c),
      (Pipeline.RDat.FramePost.arr_in h.1 c 6 rfl).trans ((A_eq m hG c 6).trans (V_arg12 m c)),
      ((h.1 c).2 main_arg13 (by decide : main_arg13 ∈ Pipeline.restRefs sig spec0)).trans (V_arg13 m c),
      ((h.1 c).2 main_arg14 (by decide : main_arg14 ∈ Pipeline.restRefs sig spec0)).trans (V_arg14 m c),
      ((h.1 c).2 main_arg15 (by decide : main_arg15 ∈ Pipeline.restRefs sig spec0)).trans (V_arg15 m c),
      (Pipeline.RDat.FramePost.arr_in h.1 c 10 rfl).trans ((A_eq m hG c 10).trans (V_arg16 m c)),
      ((dats m hG 0 c).toRForget_arrAt_iff (fgt := forgets) (w := 15) rfl _ _).mp ((h.1 c).1 15)⟩, h.2⟩) (run_main m ρ hG)

end Cert.Proof.KernelIdeal

end
-- ==== Proof.PreIdeal.lean ====
/-
  The precondition read element by element, and the frame claim of `KernelIdeal` from the run.
-/
module

public import proofs.«01_k».proof.Defs
public import proofs.«01_k».proof.Proof.LaunchIdeal
public import proofs.«01_k».proof.Proof.Gen.Pre_admissible
public import Idealize.ShloMosaic.Lib.StableHlo.Predicate

@[expose] public section

noncomputable section

namespace Cert.Proof.KernelIdeal

open Cert.KernelIdeal Cert.KernelIdeal.Gen
open Idealize.ShloMosaic Idealize.SL.Sem
open Idealize.ShloMosaic.StableHlo.Predicate (ofBool_eq_one_iff cmpi_eq_iff)

variable (m : (ℓ : Loc nD τ sig) → Buf (Elt Ideal) ℓ)

/-- Both bits of a conjunction. -/
theorem andi_one {a b : BitVec 1} (h : IntOp.andi a b = 1#1) : a = 1#1 ∧ b = 1#1 := by
  revert h; unfold IntOp.andi; revert a b; decide

theorem toNat_of_sge {w : BitVec 32} (h : IntOp.cmpi .sge w 0#32 = 1#1) : w.toInt = w.toNat := by
  have h' : (0#32 : BitVec 32).sle w = true := (ofBool_eq_one_iff _).mp h
  simp only [BitVec.sle, decide_eq_true_eq] at h'
  have z : (0#32 : BitVec 32).toInt = 0 := by decide
  rw [z, BitVec.toInt_eq_toNat_cond] at h'
  rw [BitVec.toInt_eq_toNat_cond]
  split <;> rename_i g
  · rfl
  · rw [if_neg g] at h'; omega

theorem toNat_lt_of_slt {w c : BitVec 32} (h0 : IntOp.cmpi .sge w 0#32 = 1#1) (hc : c.toInt = c.toNat) (h : IntOp.cmpi .slt w c = 1#1) : w.toNat < c.toNat := by
  have h' : w.slt c = true := (ofBool_eq_one_iff _).mp h
  simp only [BitVec.slt, decide_eq_true_eq, hc, toNat_of_sge h0] at h'
  omega

theorem toNat_le_of_sle {w c : BitVec 32} (h0 : IntOp.cmpi .sge w 0#32 = 1#1) (hc : c.toInt = c.toNat) (h : IntOp.cmpi .sle w c = 1#1) : w.toNat ≤ c.toNat := by
  have h' : w.sle c = true := (ofBool_eq_one_iff _).mp h
  simp only [BitVec.sle, decide_eq_true_eq, hc, toNat_of_sge h0] at h'
  omega

variable {m}

theorem pre_gb (h : Cert.Pre_KernelIdeal m) (x : S4800.Idx) : (m (((0 : Dev nD).tc : Thread nD τ).loc main_arg4) x : BitVec 32).toNat < 200 := by
  have e := congrFun (h 0).1 x
  have e' : IntOp.andi (IntOp.cmpi .sge (m (((0 : Dev nD).tc : Thread nD τ).loc main_arg4) x : BitVec 32) 0#32) (IntOp.cmpi .slt (m (((0 : Dev nD).tc : Thread nD τ).loc main_arg4) x : BitVec 32) 200#32) = 1#1 := e
  exact toNat_lt_of_slt (andi_one e').1 (by decide) (andi_one e').2

theorem pre_meta (h : Cert.Pre_KernelIdeal m) (x : S1.Idx) : (m (((0 : Dev nD).tc : Thread nD τ).loc main_arg5) x : BitVec 32) = 0#32 := by
  have e := congrFun (h 0).2.1 x
  exact cmpi_eq_iff.mp e

theorem pre_n (h : Cert.Pre_KernelIdeal m) (x : S_.Idx) : (m (((0 : Dev nD).tc : Thread nD τ).loc main_arg6) x : BitVec 32).toNat ≤ 150 := by
  have e := congrFun (h 0).2.2.1 x
  have e' : IntOp.andi (IntOp.cmpi .sge (m (((0 : Dev nD).tc : Thread nD τ).loc main_arg6) x : BitVec 32) 0#32) (IntOp.cmpi .sle (m (((0 : Dev nD).tc : Thread nD τ).loc main_arg6) x : BitVec 32) 150#32) = 1#1 := e
  exact toNat_le_of_sle (andi_one e').1 (by decide) (andi_one e').2

/-- Every target row's word holds one half twice. -/
theorem pre_tp (h : Cert.Pre_KernelIdeal m) (x : S224x768.Idx) : (m (((0 : Dev nD).tc : Thread nD τ).loc main_arg2) x : BitVec 32)
    = IntOp.ori (IntOp.shrui .host (m (((0 : Dev nD).tc : Thread nD τ).loc main_arg2) x : BitVec 32) 16#32) (IntOp.shli .host (m (((0 : Dev nD).tc : Thread nD τ).loc main_arg2) x : BitVec 32) 16#32) := by
  have e := congrFun (h 0).2.2.2 x
  exact cmpi_eq_iff.mp e

theorem good_of_pre (h : Cert.Pre_KernelIdeal m) : Good (F := Ideal) m where
  n_le := by
    show BitVec.toNat (tbl m 0 fun a => a.elim0) ≤ 150
    have e : tbl m 0 = m (((0 : Dev nD).tc : Thread nD τ).loc main_arg6) := V_arg6 m 0
    rw [e]; exact pre_n h _
  gb_lt x := by
    have e : tbl m 1 = m (((0 : Dev nD).tc : Thread nD τ).loc main_arg4) := V_arg4 m 0
    rw [e]; exact pre_gb h _
  meta_eq x := by
    have e : tbl m 2 = m (((0 : Dev nD).tc : Thread nD τ).loc main_arg5) := V_arg5 m 0
    rw [e]; exact pre_meta h _

theorem frame : Cert.quiescent_KernelIdeal := fun m g h =>
  (θ_run _ _ _).mono (fun _ r => ⟨fun c => by
    obtain ⟨h0, h1, h2, h3, h4, h5, h6, h7, h8, h9, h10, h11, h12, h13, h14, h15, h16, -⟩ := r.1 c
    exact ⟨h0, h1, h2, h3, h4, h5, h6, h7, h8, h9, h10, h11, h12, h13, h14, h15, h16⟩, r.2⟩) (run_end (F := Ideal) m g (good_of_pre h))

end Cert.Proof.KernelIdeal

end
-- ==== Proof.RefFrame.lean ====
/-
  The reference's frame claim, from its run.
-/
module

public import proofs.«01_k».proof.Defs
public import proofs.«01_k».proof.Proof.Gen.ReferenceIdeal.Run
public import proofs.«01_k».proof.Proof.Gen.Pre_admissible
public import Idealize.ShloMosaic.Lib.Quiescent

@[expose] public section

noncomputable section

namespace Cert.Proof.ReferenceIdeal

open Idealize.ShloMosaic Idealize.SL.Sem

theorem frame : Cert.quiescent_ReferenceIdeal := fun m ρ _ =>
  (θ_run _ _ _).mono (fun r h => ⟨fun c => (h c).2, Idealize.ShloMosaic.sem_eq_zero_of_no_sems (by decide) r.2⟩) (Cert.ReferenceIdeal.Value.run (F := Ideal) m ρ)

end Cert.Proof.ReferenceIdeal

end
-- ==== Proof.RefCode.lean ====
/-
  The reference's codes, an element at a time: the bytes it takes out of the packed words, sign extended.
-/
module

public import proofs.«01_k».proof.Proof.Gen.ReferenceIdeal.Read
public import Idealize.ShloMosaic.Lib.Pipeline.ValueKit.Tiles
public import Idealize.ShloMosaic.Lib.Pointwise

@[expose] public section

noncomputable section

namespace Cert.ReferenceIdeal.Read

open Cert.ReferenceIdeal Cert.ReferenceIdeal.Gen Idealize.ShloMosaic Idealize.ShloMosaic.TcCoe Idealize.SL.Sem Idealize.ShloMosaic.StableHlo
open Idealize.ShloMosaic (ix1 ix2 ix3 ix4)

/-- Shifting byte `k` of a word to the top and arithmetically back down sign extends it. -/
theorem byte_of_shifts (w : BitVec 32) (k : Nat) (hk : k < 4) :
    IntOp.shrsi .host (IntOp.shli .host w (BitVec.ofNat 32 (24 - 8 * k))) 24#32 = (w.extractLsb' (8 * k) 8).signExtend 32 := by
  have h1 : IntOp.shli .host w (BitVec.ofNat 32 (24 - 8 * k)) = w <<< (24 - 8 * k) := by
    unfold IntOp.shli
    have e : (BitVec.ofNat 32 (24 - 8 * k)).toNat = 24 - 8 * k := by rw [BitVec.toNat_ofNat]; exact Nat.mod_eq_of_lt (by omega)
    rw [if_pos (by omega), BitVec.shiftLeft_eq', e]
  rw [h1]
  have h2 : ∀ v : BitVec 32, IntOp.shrsi .host v 24#32 = v.sshiftRight 24 := fun v => rfl
  rw [h2]
  refine BitVec.eq_of_getLsbD_eq fun i hi => ?_
  rw [BitVec.getLsbD_sshiftRight, BitVec.getLsbD_signExtend, BitVec.getLsbD_extractLsb', BitVec.msb_eq_getLsbD_last, BitVec.msb_eq_getLsbD_last]
  simp only [BitVec.getLsbD_extractLsb', BitVec.getLsbD_shiftLeft]
  have hn : ¬ 32 ≤ i := by omega
  by_cases h8 : i < 8
  · have a1 : 24 + i < 32 := by omega
    have a2 : ¬ (24 + i < 24 - 8 * k) := by omega
    have a3 : 24 + i - (24 - 8 * k) = 8 * k + i := by omega
    simp [hn, h8, a1, a2, a3, hi]
  · have a1 : ¬ 24 + i < 32 := by omega
    have a2 : ¬ (31 < 24 - 8 * k) := by omega
    have a3 : 31 - (24 - 8 * k) = 8 * k + 7 := by omega
    simp [hn, h8, a1, a2, a3, hi]

/-- The codes as the stacked bytes hold them. -/
theorem v21_at (x0 : (⟨S2432x6x8x128, .i32⟩ : BufTy).Contents (Elt Ideal)) (j : S2416x6x8x4x128.Idx) (w : BitVec 32)
    (hw : ∀ I : S2416x6x8x128.Idx, (I 0).val = (j 0).val → (I 1).val = (j 1).val → (I 2).val = (j 2).val → (I 3).val = (j 4).val → x0 (idx_main_v0 I) = w) :
    val_main_v21 (F := Ideal) x0 j = (w.extractLsb' (8 * (j 3).val) 8).signExtend 32 := by
  unfold val_main_v21
  concat_tiles i h
  · have hj : (j 3).val = 0 := h
    rw [hj]
    refine (val_main_v17_apply x0 i).trans ?_
    refine Eq.trans ?_ (byte_of_shifts w 0 (by decide))
    rw [val_main_v4_apply, val_main_v2_apply, val_main_v0_apply, hw (idx_main_v17 i) h0 h1 h2 h4,
      val_main_v3_apply, val_main_v1_apply, val_main_c_apply, val_main_c_0_apply]
  · have hj : (j 3).val = 1 := h
    rw [hj]
    refine (val_main_v18_apply x0 i).trans ?_
    refine Eq.trans ?_ (byte_of_shifts w 1 (by decide))
    rw [val_main_v8_apply, val_main_v6_apply, val_main_v0_apply, hw (idx_main_v18 i) h0 h1 h2 h4,
      val_main_v7_apply, val_main_v5_apply, val_main_c_1_apply, val_main_c_2_apply]
  · have hj : (j 3).val = 2 := h
    rw [hj]
    refine (val_main_v19_apply x0 i).trans ?_
    refine Eq.trans ?_ (byte_of_shifts w 2 (by decide))
    rw [val_main_v12_apply, val_main_v10_apply, val_main_v0_apply, hw (idx_main_v19 i) h0 h1 h2 h4,
      val_main_v11_apply, val_main_v9_apply, val_main_c_3_apply, val_main_c_4_apply]
  · have hj : (j 3).val = 3 := h
    rw [hj]
    refine (val_main_v20_apply x0 i).trans ?_
    refine Eq.trans ?_ (byte_of_shifts w 3 (by decide))
    rw [val_main_v16_apply, val_main_v14_apply, val_main_v0_apply, hw (idx_main_v20 i) h0 h1 h2 h4,
      val_main_v15_apply, val_main_v13_apply, val_main_c_5_apply, val_main_c_6_apply]

theorem idx42 (n : Fin 77312) (c : Fin 768) : idx_main_v42 (ix2 n c) = ix3 n (⟨c.val / 64, by omega⟩ : Fin 12) (⟨c.val % 64, by omega⟩ : Fin 64) := by
  funext a
  refine Fin.ext ?_
  match a with
  | ⟨0, _⟩ => show (n.val * 768 + c.val) / 768 = n.val; omega
  | ⟨1, _⟩ => show (n.val * 768 + c.val) / 64 % 12 = c.val / 64; omega
  | ⟨2, _⟩ => show (n.val * 768 + c.val) % 64 = c.val % 64; omega

/-- A code of the reference, as the byte of the packed word. -/
theorem v25_at (x0 : (⟨S2432x6x8x128, .i32⟩ : BufTy).Contents (Elt Ideal)) (n : Fin 77312) (c : Fin 768) :
    val_main_v25 (F := Ideal) x0 (ix3 n (⟨c.val / 64, by omega⟩ : Fin 12) (⟨c.val % 64, by omega⟩ : Fin 64))
      = FloatOps.sitofp (F := Ideal) .bf16 ((x0 (ix4 (⟨16 + n.val / 32, by omega⟩ : Fin 2432) (⟨c.val / 128, by omega⟩ : Fin 6) (⟨n.val % 32 / 4, by omega⟩ : Fin 8) (⟨c.val % 128, by omega⟩ : Fin 128))).extractLsb' (8 * (n.val % 4)) 8) := by
  have e : ((n.val * 12 + c.val / 64) * 64 + c.val % 64) = n.val * 768 + c.val := by omega
  have d0 : (((n.val * 12 + c.val / 64) * 64 + c.val % 64) / 24576) = n.val / 32 := by omega
  have d1 : (((n.val * 12 + c.val / 64) * 64 + c.val % 64) / 3072 % 8) = n.val % 32 / 4 := by omega
  have d2 : (((n.val * 12 + c.val / 64) * 64 + c.val % 64) / 768 % 4) = n.val % 4 := by omega
  have d3 : (((n.val * 12 + c.val / 64) * 64 + c.val % 64) / 128 % 6) = c.val / 128 := by omega
  have d4 : (((n.val * 12 + c.val / 64) * 64 + c.val % 64) % 128) = c.val % 128 := by omega
  rw [val_main_v25_apply, val_main_v24_apply, val_main_v23_apply, val_main_v22_apply,
    v21_at x0 _ (x0 (ix4 (⟨16 + n.val / 32, by omega⟩ : Fin 2432) (⟨c.val / 128, by omega⟩ : Fin 6) (⟨n.val % 32 / 4, by omega⟩ : Fin 8) (⟨c.val % 128, by omega⟩ : Fin 128)))
      (fun I h0 h1 h2 h3 => congrArg x0 (funext fun a => Fin.ext (match a with
        | ⟨0, _⟩ => congrArg (16 + ·) (h0.trans d0)
        | ⟨1, _⟩ => h1.trans d3
        | ⟨2, _⟩ => h2.trans d1
        | ⟨3, _⟩ => h3.trans d4)))]
  have hk : (idx_main_v22 (idx_main_v23 (ix3 n (⟨c.val / 64, by omega⟩ : Fin 12) (⟨c.val % 64, by omega⟩ : Fin 64))) 3).val = n.val % 4 := d2
  rw [hk]
  show (((BitVec.signExtend 32 _).toInt : ℝ) : EReal) = (((BitVec.extractLsb' _ _ _).toInt : ℝ) : EReal)
  rw [BitVec.toInt_signExtend_of_le (by decide)]

/-- The wider format's pattern with the narrower one's in its upper half and zeros below denotes the same number. -/
theorem ofBits_upper (W : BitVec 32) (h : BitVec 16) (hW : W.toNat = 65536 * h.toNat) :
    FloatOps.ofBits (F := Ideal) .f32 W = FloatOps.ofBits (F := Ideal) .bf16 h := by
  have hh := h.isLt
  show Ideal.ieee 8 23 W = Ideal.ieee 8 7 h
  have hx : (W.extractLsb' 23 8).toNat = (h.extractLsb' 7 8).toNat := by
    rw [BitVec.extractLsb'_toNat, BitVec.extractLsb'_toNat, hW, Nat.shiftRight_eq_div_pow, Nat.shiftRight_eq_div_pow]; omega
  have hs : W.extractLsb' (8 + 23) 1 = h.extractLsb' (8 + 7) 1 := by
    refine BitVec.eq_of_toNat_eq ?_
    rw [BitVec.extractLsb'_toNat, BitVec.extractLsb'_toNat, hW, Nat.shiftRight_eq_div_pow, Nat.shiftRight_eq_div_pow]; omega
  have hf : (W.extractLsb' 0 23).toNat = 65536 * (h.extractLsb' 0 7).toNat := by
    rw [BitVec.extractLsb'_toNat, BitVec.extractLsb'_toNat, hW, Nat.shiftRight_eq_div_pow, Nat.shiftRight_eq_div_pow]; omega
  have hz : ∀ e : ℤ, (65536 : ℝ) * (2 : ℝ) ^ (e - ((23 : ℕ) : ℤ)) = (2 : ℝ) ^ (e - ((7 : ℕ) : ℤ)) := by
    intro e
    have : (65536 : ℝ) = (2 : ℝ) ^ (16 : ℤ) := by
      rw [show (16 : ℤ) = ((16 : ℕ) : ℤ) from rfl, zpow_natCast]
      have : ((65536 : ℕ) : ℝ) = ((2 ^ 16 : ℕ) : ℝ) := congrArg _ (by decide)
      rw [Nat.cast_pow] at this
      exact_mod_cast this
    rw [this, ← zpow_add₀ (by exact two_ne_zero)]
    congr 1
    omega
  unfold Ideal.ieee
  simp only [hx, hs, hf]
  by_cases h1 : (h.extractLsb' 7 8).toNat = 2 ^ 8 - 1
  · rw [if_pos h1, if_pos h1]
    by_cases h2 : (h.extractLsb' 0 7).toNat = 0
    · rw [if_pos h2, if_pos (by rw [h2])]
    · rw [if_neg h2, if_neg (by omega)]
  · rw [if_neg h1, if_neg h1]
    by_cases h2 : (h.extractLsb' 7 8).toNat = 0
    · rw [if_pos h2, if_pos h2]
      refine congrArg _ ?_
      have := hz (1 - (2 ^ (8 - 1) - 1))
      rw [← this]
      push_cast
      ring
    · rw [if_neg h2, if_neg h2]
      refine congrArg _ ?_
      have := hz (((h.extractLsb' 7 8).toNat : ℤ) - (2 ^ (8 - 1) - 1))
      rw [← this]
      push_cast
      ring

/-- Shifted up by a half, a word is its lower half on top of zeros. -/
theorem shl_half (w : BitVec 32) : (IntOp.shli .host w 16#32).toNat = 65536 * (w.extractLsb' (16 * 0) 16).toNat := by
  have e : IntOp.shli .host w 16#32 = w <<< 16 := rfl
  have hw := w.isLt
  rw [e, BitVec.toNat_shiftLeft, BitVec.extractLsb'_toNat, Nat.shiftRight_eq_div_pow, Nat.shiftLeft_eq]
  omega

/-- Masked to its upper half, a word is that half on top of zeros. -/
theorem and_half (w : BitVec 32) : (IntOp.andi w 4294901760#32).toNat = 65536 * (w.extractLsb' (16 * 1) 16).toNat := by
  have e : IntOp.andi w 4294901760#32 = (w >>> 16) <<< 16 := by
    refine BitVec.eq_of_getLsbD_eq fun i hi => ?_
    have hc : (4294901760#32 : BitVec 32) = BitVec.allOnes 32 <<< 16 := by decide
    show (w &&& 4294901760#32).getLsbD i = _
    rw [hc]
    simp only [BitVec.getLsbD_and, BitVec.getLsbD_shiftLeft, BitVec.getLsbD_allOnes, BitVec.getLsbD_ushiftRight]
    by_cases h : i < 16
    · simp [h]
    · have a1 : i - 16 < 32 := by omega
      have a2 : 16 + (i - 16) = i := by omega
      simp [h, hi, a1, a2]
  have hw := w.isLt
  rw [e, BitVec.toNat_shiftLeft, BitVec.toNat_ushiftRight, BitVec.extractLsb'_toNat, Nat.shiftRight_eq_div_pow, Nat.shiftLeft_eq]
  omega

/-- The scales' patterns as the interleaved words hold them. -/
theorem v35_at (x1 : (⟨S2432x2x128, .i32⟩ : BufTy).Contents (Elt Ideal)) (j : S4832x8x2x12.Idx) (w : BitVec 32)
    (hw : ∀ I : S4832x8x12.Idx, (I 0).val = (j 0).val → (I 1).val = (j 1).val → (I 2).val = (j 3).val → val_main_v28 (F := Ideal) x1 I = w) :
    (val_main_v35 (F := Ideal) x1 j).toNat = 65536 * (w.extractLsb' (16 * (j 2).val) 16).toNat := by
  have hlt : (j 2).val < 2 := (j 2).isLt
  by_cases hj : (j 2).val = 0
  · have e : val_main_v35 (F := Ideal) x1 j = IntOp.shli .host w 16#32 := by
      unfold val_main_v35
      concat_tiles i h
      · refine (val_main_v33_apply x1 i).trans ?_
        rw [val_main_v30_apply, hw (idx_main_v33 i) h0 h1 h3, val_main_v29_apply, val_main_c_7_apply]
      · exact absurd (h : (j 2).val = 1) (by omega)
    rw [e, hj]
    exact shl_half w
  · have hj1 : (j 2).val = 1 := by omega
    have e : val_main_v35 (F := Ideal) x1 j = IntOp.andi w 4294901760#32 := by
      unfold val_main_v35
      concat_tiles i h
      · exact absurd (h : (j 2).val = 0) hj
      · refine (val_main_v34_apply x1 i).trans ?_
        rw [val_main_v32_apply, hw (idx_main_v34 i) h0 h1 h3, val_main_v31_apply, val_main_c_8_apply]
    rw [e, hj1]
    exact and_half w

/-- A scale of the reference, as the half of the packed word. -/
theorem v40_at (x1 : (⟨S2432x2x128, .i32⟩ : BufTy).Contents (Elt Ideal)) (n : Fin 77312) (c : Fin 768) :
    val_main_v40 (F := Ideal) x1 (ix3 n (⟨c.val / 64, by omega⟩ : Fin 12) (⟨c.val % 64, by omega⟩ : Fin 64))
      = FloatOps.ofBits (F := Ideal) .bf16 ((x1 (ix3 (⟨16 + n.val / 32, by omega⟩ : Fin 2432) (⟨n.val % 32 / 16, by omega⟩ : Fin 2) (⟨16 * (n.val % 16 / 2) + c.val / 64, by omega⟩ : Fin 128))).extractLsb' (16 * (n.val % 2)) 16) := by
  have d0 : (n.val * 12 + c.val / 64) / 192 = n.val / 16 := by omega
  have d1 : (n.val * 12 + c.val / 64) / 24 % 8 = n.val % 16 / 2 := by omega
  have d2 : (n.val * 12 + c.val / 64) / 12 % 2 = n.val % 2 := by omega
  have d3 : (n.val * 12 + c.val / 64) % 12 = c.val / 64 := by omega
  rw [val_main_v40_apply, val_main_v39_apply, val_main_v38_apply, val_main_v37_apply, val_main_v36_apply]
  refine ofBits_upper _ _ ?_
  refine (v35_at x1 _ (x1 (ix3 (⟨16 + n.val / 32, by omega⟩ : Fin 2432) (⟨n.val % 32 / 16, by omega⟩ : Fin 2) (⟨16 * (n.val % 16 / 2) + c.val / 64, by omega⟩ : Fin 128))) ?_).trans ?_
  · intro I h0 h1 h2
    have g0 : (I 0).val = n.val / 16 := h0.trans d0
    have g1 : (I 1).val = n.val % 16 / 2 := h1.trans d1
    have g2 : (I 2).val = c.val / 64 := h2.trans d3
    rw [val_main_v28_apply, val_main_v27_apply, val_main_v26_apply]
    refine congrArg x1 (funext fun a => Fin.ext (match a with
      | ⟨0, _⟩ => ?_
      | ⟨1, _⟩ => ?_
      | ⟨2, _⟩ => ?_))
    · show 16 + (((I 0).val * 8 + (I 1).val) * 16 + (I 2).val) / 256 = 16 + n.val / 32
      rw [g0, g1, g2]; omega
    · show (((I 0).val * 8 + (I 1).val) * 16 + (I 2).val) / 128 % 2 = n.val % 32 / 16
      rw [g0, g1, g2]
      have q : ((n.val / 16 * 8 + n.val % 16 / 2) * 16 + c.val / 64) / 128 = n.val / 16 := by omega
      rw [q]; exact (Nat.mod_mul_right_div_self n.val 16 2).symm
    · show (((I 0).val * 8 + (I 1).val) * 16 + (I 2).val) % 128 = 16 * (n.val % 16 / 2) + c.val / 64
      rw [g0, g1, g2]; omega
  · have hk : (idx_main_v37 (idx_main_v39 (idx_main_v40 (ix3 n (⟨c.val / 64, by omega⟩ : Fin 12) (⟨c.val % 64, by omega⟩ : Fin 64)))) 2).val = n.val % 2 := d2
    rw [hk]

/-- An element of the reference's dequantised rows. -/
theorem v42_at (x0 : (⟨S2432x6x8x128, .i32⟩ : BufTy).Contents (Elt Ideal)) (x1 : (⟨S2432x2x128, .i32⟩ : BufTy).Contents (Elt Ideal)) (n : Fin 77312) (c : Fin 768) :
    val_main_v42 (F := Ideal) x0 x1 (ix2 n c)
      = FloatOps.mulf (FloatOps.sitofp (F := Ideal) .bf16 ((x0 (ix4 (⟨16 + n.val / 32, by omega⟩ : Fin 2432) (⟨c.val / 128, by omega⟩ : Fin 6) (⟨n.val % 32 / 4, by omega⟩ : Fin 8) (⟨c.val % 128, by omega⟩ : Fin 128))).extractLsb' (8 * (n.val % 4)) 8))
          (FloatOps.ofBits (F := Ideal) .bf16 ((x1 (ix3 (⟨16 + n.val / 32, by omega⟩ : Fin 2432) (⟨n.val % 32 / 16, by omega⟩ : Fin 2) (⟨16 * (n.val % 16 / 2) + c.val / 64, by omega⟩ : Fin 128))).extractLsb' (16 * (n.val % 2)) 16)) := by
  rw [val_main_v42_apply, val_main_v41_apply, idx42, v25_at, v40_at]

end Cert.ReferenceIdeal.Read

end
-- ==== Proof.RefRows.lean ====
/-
  The reference's target rows and shares, an element at a time: which row of the table each activation row takes.
-/
module

public import proofs.«01_k».proof.Proof.RefCode
public import Idealize.ShloMosaic.Lib.KernelVsHost
public import Idealize.ShloMosaic.Lib.Routing.Ops

@[expose] public section

noncomputable section

namespace Cert.ReferenceIdeal.Read

open Cert.ReferenceIdeal Cert.ReferenceIdeal.Gen Idealize.ShloMosaic Idealize.ShloMosaic.TcCoe Idealize.SL.Sem Idealize.ShloMosaic.StableHlo
open Idealize.ShloMosaic (ix1 ix2 ix3 ix4)

variable (x4 : (⟨S4800, .i32⟩ : BufTy).Contents (Elt Ideal)) (n : Fin 77312) (hn : n.val / 16 < 4800)

/-- The row number the activation row `n` names. -/
theorem v47_at (i : S4832.Idx) (hi : (i 0).val = n.val / 16) : val_main_v47 (F := Ideal) x4 i = x4 (ix1 (⟨n.val / 16, hn⟩ : Fin 4800)) := by
  unfold val_main_v47
  exact pad_apply_of_inside _ _ _ x4 _ _ _ i (ix1 (⟨n.val / 16, hn⟩ : Fin 4800)) (fun a => match a with
    | ⟨0, _⟩ => by show (i 0).val = 0 + n.val / 16 * (0 + 1); omega)

/-- A row number below the table's height is taken as it is. -/
theorem norm_pos (b c : BitVec 32) (hb : b.toNat < 200) : Scalar.select (IntOp.cmpi .slt b 0#32) c b = b := by
  have h : IntOp.cmpi .slt b 0#32 = 0#1 := by
    show BitVec.ofBool (b.slt 0#32) = 0#1
    have : b.slt 0#32 = false := by
      rw [BitVec.slt_eq_decide, decide_eq_false_iff_not]
      have : b.toInt = b.toNat := BitVec.toInt_eq_toNat_of_lt (by omega)
      rw [this]
      show ¬ ((b.toNat : ℤ) < 0)
      omega
    rw [this]; rfl
  rw [h]
  rfl

variable (hb : (x4 (ix1 (⟨n.val / 16, hn⟩ : Fin 4800)) : BitVec 32).toNat < 200)
include hb

theorem v53_at (i : S4832x1.Idx) (hi : (i 0).val = n.val / 16) : val_main_v53 (F := Ideal) x4 i = x4 (ix1 (⟨n.val / 16, hn⟩ : Fin 4800)) := by
  rw [val_main_v53_apply, val_main_v52_apply, val_main_v49_apply, val_main_v48_apply, val_main_c_11_apply, v47_at x4 n hn _ hi]
  exact norm_pos _ _ hb

theorem v63_at (i : S4832x1.Idx) (hi : (i 0).val = n.val / 16) : val_main_v63 (F := Ideal) x4 i = x4 (ix1 (⟨n.val / 16, hn⟩ : Fin 4800)) := by
  rw [val_main_v63_apply, val_main_v62_apply, val_main_v59_apply, val_main_v58_apply, val_main_c_13_apply, v47_at x4 n hn _ hi]
  exact norm_pos _ _ hb

/-- A share of the reference. -/
theorem v67_at (x3 : (⟨S224x512, .f32⟩ : BufTy).Contents (Elt Ideal)) (j : Fin 512) :
    val_main_v67 (F := Ideal) x3 x4 (ix2 n j) = x3 (ix2 (⟨(x4 (ix1 (⟨n.val / 16, hn⟩ : Fin 4800)) : BitVec 32).toNat % 224, Nat.mod_lt _ (by decide)⟩ : Fin 224) j) := by
  have d0 : (n.val * 512 + j.val) / 8192 = n.val / 16 := by omega
  have d1 : (n.val * 512 + j.val) % 512 = j.val := by omega
  rw [val_main_v67_apply, val_main_v66_apply, val_main_v65_apply]
  have e : idx_main_v65 (idx_main_v66 (idx_main_v67 (ix2 n j))) = ix2 (⟨n.val / 16, by omega⟩ : Fin 4832) j := by
    funext a
    refine Fin.ext ?_
    match a with
    | ⟨0, _⟩ => exact d0
    | ⟨1, _⟩ => exact d1
  rw [e]
  unfold val_main_v64
  refine Routing.gather_row gather_S224x512_S4832x1_S4832x512_1_0_n_n_0_1_1512 rfl rfl rfl rfl rfl _ _ _ _ _ ?_ (by decide)
  refine (v63_at x4 n hn hb _ rfl).trans ?_
  show _ = BitVec.ofNat 32 ((x4 (ix1 (⟨n.val / 16, hn⟩ : Fin 4800)) : BitVec 32).toNat % 224)
  rw [Nat.mod_eq_of_lt (by omega), BitVec.ofNat_toNat, BitVec.setWidth_eq]

/-- A target entry of the reference, as a half of the doubled word. -/
theorem v57_at (x2 : (⟨S224x768, .i32⟩ : BufTy).Contents (Elt Ideal)) (c : Fin 768) :
    val_main_v57 (F := Ideal) x2 x4 (ix2 n c)
      = FloatOps.ofBits (F := Ideal) .bf16 ((x2 (ix2 (⟨(x4 (ix1 (⟨n.val / 16, hn⟩ : Fin 4800)) : BitVec 32).toNat % 224, Nat.mod_lt _ (by decide)⟩ : Fin 224) c)).extractLsb' (16 * 0) 16) := by
  have d0 : (n.val * 768 + c.val) / 12288 = n.val / 16 := by omega
  have d1 : (n.val * 768 + c.val) % 768 = c.val := by omega
  rw [val_main_v57_apply, val_main_v56_apply, val_main_v55_apply]
  have e : idx_main_v55 (idx_main_v56 (idx_main_v57 (ix2 n c))) = ix2 (⟨n.val / 16, by omega⟩ : Fin 4832) c := by
    funext a
    refine Fin.ext ?_
    match a with
    | ⟨0, _⟩ => exact d0
    | ⟨1, _⟩ => exact d1
  rw [e]
  unfold val_main_v54
  refine (Routing.gather_row gather_S224x768_S4832x1_S4832x768_1_0_n_n_0_1_1768 rfl rfl rfl rfl rfl _ _ _ _ (⟨(x4 (ix1 (⟨n.val / 16, hn⟩ : Fin 4800)) : BitVec 32).toNat % 224, Nat.mod_lt _ (by decide)⟩ : Fin 224) ?_ (by decide)).trans ?_
  · refine (v53_at x4 n hn hb _ rfl).trans ?_
    show _ = BitVec.ofNat 32 ((x4 (ix1 (⟨n.val / 16, hn⟩ : Fin 4800)) : BitVec 32).toNat % 224)
    rw [Nat.mod_eq_of_lt (by omega), BitVec.ofNat_toNat, BitVec.setWidth_eq]
  · refine (val_main_v46_apply x2 _).trans ?_
    show val_main_v45 (F := Ideal) x2 _ = _
    rw [val_main_v45_apply, val_main_v44_apply, val_main_v43_apply, val_main_c_9_apply]
    exact ofBits_upper _ _ (shl_half _)

omit hb in
/-- A word of two equal halves: either half is the lower one. -/
theorem half_eq (w : BitVec 32) (hw : w = IntOp.ori (IntOp.shrui .host w 16#32) (IntOp.shli .host w 16#32)) (q : Nat) :
    w.extractLsb' (16 * (q % 2)) 16 = w.extractLsb' (16 * 0) 16 := by
  have hq : q % 2 = 0 ∨ q % 2 = 1 := by omega
  rcases hq with hq | hq
  · rw [hq]
  · rw [hq]
    refine BitVec.eq_of_getLsbD_eq fun i hi => ?_
    have e : w.getLsbD i = ((w >>> 16) ||| (w <<< 16)).getLsbD i := congrArg (fun v => BitVec.getLsbD v i) hw
    rw [BitVec.getLsbD_or, BitVec.getLsbD_ushiftRight, BitVec.getLsbD_shiftLeft] at e
    rw [BitVec.getLsbD_extractLsb', BitVec.getLsbD_extractLsb']
    have a1 : 16 * 0 + i = i := by omega
    rw [a1, e]
    simp [hi]

end Cert.ReferenceIdeal.Read

end
-- ==== Proof.Item.lean ====
/-
  One work item of the kernel's body as named vector operations: the item's 32 history rows from its code words and
  the two rows of scale words, and its 32 rows of the target from two target rows.
-/
module

public import proofs.«01_k».proof.Proof.BodyIdeal

@[expose] public section

noncomputable section

namespace Cert.Proof.KernelIdeal

open Cert.KernelIdeal Cert.KernelIdeal.Gen
open Idealize.ShloMosaic
open Cert.KernelIdeal.Facts

variable {F : FTy → Type} [FloatOps F]

/-- The lane number divided by 64, rounded down, as the kernel computes it. -/
def fdiv64 (v : IVec S8x128 32) : IVec S8x128 32 :=
  select (andi (cmpi .ne (subi (extui 32 (cmpi .sgt v (broadcast S8x128 0#32)) natLt_1_32) (extui 32 (cmpi .slt v (broadcast S8x128 0#32)) natLt_1_32))
      (broadcast S8x128 (Scalar.subi (Scalar.extui (Scalar.cmpi .sgt 64#32 0#32)) (Scalar.extui (Scalar.cmpi .slt 64#32 0#32)))))
      (cmpi .ne (remsi v (broadcast S8x128 64#32)) (broadcast S8x128 0#32)))
    (subi (divsi v (broadcast S8x128 64#32)) (broadcast S8x128 1#32)) (divsi v (broadcast S8x128 64#32))

/-- A negative lane number wrapped once. -/
def wrap128 (v : IVec S8x128 32) : IVec S8x128 32 :=
  select (cmpi .slt v (broadcast S8x128 0#32)) (addi v (broadcast S8x128 128#32)) v

/-- The lanes a column's scale words are gathered from: 16 per row pair, `k` to start, one more past lane 64. -/
def laneIx (k : BitVec 32) : IVec S8x128 32 :=
  shapeCast S8x128 (shapeCast S8x128x1 (wrap128 (addi (addi (muli (broadcast S8x128 16#32) (iota .tc S8x128 32 [0] iota_S8x128_d0_w32)) (broadcast S8x128 k))
    (fdiv64 (iota .tc S8x128 32 [1] iota_S8x128_d1_w32)))) shapeCasts_S8x128_S8x128x1) shapeCasts_S8x128x1_S8x128

/-- Sixteen rows of scales: the gathered words' halves. -/
def scaleHalf (k : BitVec 32) (s : Vec F S1x1x128 .i32) : FVec F S16x128 .bf16 :=
  bitcastToFloat .bf16 (bitcast S16x128 16 (dynamicGather 1 (broadcastTo S8x128 (shapeCast S1x128 (shapeCast S1x128 s shapeCasts_S1x1x128_S1x128) shapeCasts_S1x128_S1x128) broadcasts_S1x128_S8x128) (laneIx k))
    bitcasts_S8x128_w32_S16x128_w16)

/-- One register of code words as 32 rows of small integers. -/
def codeRows (w : IVec S1x8x128 32) : FVec F S32x128 .bf16 :=
  sitofp .bf16 (bitcast S32x128 8 (shapeCast S8x128 w shapeCasts_S1x8x128_S8x128) bitcasts_S8x128_w32_S32x128_w8)

/-- One register's 128 columns of history: codes times scales. -/
def colBlk (w : IVec S1x8x128 32) (k : BitVec 32) (s0 s1 : Vec F S1x1x128 .i32) : FVec F S32x128 .bf16 :=
  mulf (codeRows w) (concatenate S32x128 0 [⟨S16x128, scaleHalf k s0⟩, ⟨S16x128, scaleHalf k s1⟩] concatenates_S16x128_S16x128_S32x128_d0)

/-- The item's 32 history rows. -/
def itemH (w : Vec F S1x6x8x128 .i32) (s0 s1 : Vec F S1x1x128 .i32) : FVec F S32x768 .bf16 :=
  concatenate S32x768 1
    [⟨S32x128, colBlk (extractStridedSlice S1x8x128 ![0, 0, 0] (shapeCast S6x8x128 w shapeCasts_S1x6x8x128_S6x8x128) slices_S6x8x128_o0_0_0_S1x8x128) 0#32 s0 s1⟩,
     ⟨S32x128, colBlk (extractStridedSlice S1x8x128 ![1, 0, 0] (shapeCast S6x8x128 w shapeCasts_S1x6x8x128_S6x8x128) slices_S6x8x128_o1_0_0_S1x8x128) 2#32 s0 s1⟩,
     ⟨S32x128, colBlk (extractStridedSlice S1x8x128 ![2, 0, 0] (shapeCast S6x8x128 w shapeCasts_S1x6x8x128_S6x8x128) slices_S6x8x128_o2_0_0_S1x8x128) 4#32 s0 s1⟩,
     ⟨S32x128, colBlk (extractStridedSlice S1x8x128 ![3, 0, 0] (shapeCast S6x8x128 w shapeCasts_S1x6x8x128_S6x8x128) slices_S6x8x128_o3_0_0_S1x8x128) 6#32 s0 s1⟩,
     ⟨S32x128, colBlk (extractStridedSlice S1x8x128 ![4, 0, 0] (shapeCast S6x8x128 w shapeCasts_S1x6x8x128_S6x8x128) slices_S6x8x128_o4_0_0_S1x8x128) 8#32 s0 s1⟩,
     ⟨S32x128, colBlk (extractStridedSlice S1x8x128 ![5, 0, 0] (shapeCast S6x8x128 w shapeCasts_S1x6x8x128_S6x8x128) slices_S6x8x128_o5_0_0_S1x8x128) 10#32 s0 s1⟩]
    concatenates_S32x128_S32x128_S32x128_S32x128_S32x128_S32x128_S32x768_d1

/-- The item's 32 target rows from the two rows' words. -/
def itemT (u v : Vec F S1x768 .i32) : FVec F S32x768 .bf16 :=
  concatenate S32x768 0
    [⟨S16x768, bitcastToFloat .bf16 (bitcast S16x768 16 (broadcastTo S8x768 (shapeCast S1x768 u shapeCasts_S1x768_S1x768) broadcasts_S1x768_S8x768) bitcasts_S8x768_w32_S16x768_w16)⟩,
     ⟨S16x768, bitcastToFloat .bf16 (bitcast S16x768 16 (broadcastTo S8x768 (shapeCast S1x768 v shapeCasts_S1x768_S1x768) broadcasts_S1x768_S8x768) bitcasts_S8x768_w32_S16x768_w16)⟩]
    concatenates_S16x768_S16x768_S32x768_d0

end Cert.Proof.KernelIdeal

end
-- ==== Proof.ItemVal.lean ====
/-
  One work item's rows read at an element: a history entry is a code byte times a half of a scale word, a target entry
  a half of a target row's word.
-/
module

public import proofs.«01_k».proof.Proof.Item
public import Idealize.ShloMosaic.Lib.Pointwise
public import Idealize.ShloMosaic.Lib.BitcastPair
public import Idealize.ShloMosaic.Lib.ValueIdx

@[expose] public section

noncomputable section

namespace Cert.Proof.KernelIdeal

open Cert.KernelIdeal Cert.KernelIdeal.Gen
open Idealize.ShloMosaic

open Cert.KernelIdeal.Facts

variable {F : FTy → Type} [FloatOps F]

/-- The rounded-down division on words. -/
def fdivWord (v : BitVec 32) : BitVec 32 :=
  Scalar.select
    (IntOp.andi
      (IntOp.cmpi .ne (IntOp.subi ((IntOp.cmpi .sgt v 0#32).setWidth 32) ((IntOp.cmpi .slt v 0#32).setWidth 32))
        (Scalar.subi (Scalar.extui (Scalar.cmpi .sgt 64#32 0#32)) (Scalar.extui (Scalar.cmpi .slt 64#32 0#32))))
      (IntOp.cmpi .ne (IntOp.remsi .vector v 64#32) 0#32))
    (IntOp.subi (IntOp.divsi .vector v 64#32) 1#32) (IntOp.divsi .vector v 64#32)

theorem fdivWord_eq : ∀ l : Fin 128, fdivWord (BitVec.ofNat 32 l.val) = BitVec.ofNat 32 (l.val / 64) := by decide

theorem fdiv64_apply (v : IVec S8x128 32) (j : S8x128.Idx) : fdiv64 v j = fdivWord (v j) := rfl

/-- A lane number read as the gather reads it. -/
theorem wrapWord : ∀ (a : Fin 8) (k : Fin 6) (l : Fin 2),
    (Scalar.select (IntOp.cmpi .slt (IntOp.addi (IntOp.addi (IntOp.muli 16#32 (BitVec.ofNat 32 a.val)) (BitVec.ofNat 32 (2 * k.val))) (BitVec.ofNat 32 l.val)) 0#32)
      (IntOp.addi (IntOp.addi (IntOp.addi (IntOp.muli 16#32 (BitVec.ofNat 32 a.val)) (BitVec.ofNat 32 (2 * k.val))) (BitVec.ofNat 32 l.val)) 128#32)
      (IntOp.addi (IntOp.addi (IntOp.muli 16#32 (BitVec.ofNat 32 a.val)) (BitVec.ofNat 32 (2 * k.val))) (BitVec.ofNat 32 l.val))).toNat % 128
      = 16 * a.val + 2 * k.val + l.val := by decide

theorem laneIx_apply (k : Fin 6) (a : Fin 8) (l : Fin 128) :
    (laneIx (BitVec.ofNat 32 (2 * k.val)) (ix2 a l)).toNat % 128 = 16 * a.val + 2 * k.val + l.val / 64 := by
  unfold laneIx wrap128
  pointwise
  simp only [fdiv64_apply]
  pointwise
  rw [fdivWord_eq]
  exact wrapWord a k ⟨l.val / 64, by omega⟩

theorem bitcast_32_8 {s t : Shape} (x : s.Idx → BitVec 32) (h : s.Bitcasts 32 t 8) (j : t.Idx) :
    bitcast t 8 x h j = (x (h.srcIdx j (t.row j / 4) (fun a ha => by
        have := h.pos_lt j 0 (by decide) a ha; omega))).extractLsb' (8 * (t.row j % 4)) 8 := by
  apply BitVec.eq_of_getLsbD_eq
  intro i hi
  rw [bitcast_getLsbD x h j i hi (by decide), BitVec.getLsbD_extractLsb']
  have ep : (t.row j * 8 + i) / 32 = t.row j / 4 := by omega
  have eq : (t.row j * 8 + i) % 32 = 8 * (t.row j % 4) + i := by omega
  rw [h.srcIdx_congr j ep _ (fun a ha => by have := h.pos_lt j 0 (by decide) a ha; omega), eq]
  simp [hi]

/-- A register's word seen as bytes. -/
theorem bitcast8_ix (x : IVec S8x128 32) (q : Fin 32) (l : Fin 128) :
    bitcast S32x128 8 x bitcasts_S8x128_w32_S32x128_w8 (ix2 q l)
      = (x (ix2 ⟨q.val / 4, by omega⟩ l)).extractLsb' (8 * (q.val % 4)) 8 := by
  rw [bitcast_32_8]
  exact congrArg (fun z => (x z).extractLsb' (8 * (q.val % 4)) 8) (funext fun d => by fin_cases d <;> rfl)

/-- A register's word seen as halves. -/
theorem bitcast16_ix (x : IVec S8x128 32) (q : Fin 16) (l : Fin 128) :
    bitcast S16x128 16 x bitcasts_S8x128_w32_S16x128_w16 (ix2 q l)
      = (x (ix2 ⟨q.val / 2, by omega⟩ l)).extractLsb' (16 * (q.val % 2)) 16 := by
  rw [bitcast_32_16]
  exact congrArg (fun z => (x z).extractLsb' (16 * (q.val % 2)) 16) (funext fun d => by fin_cases d <;> rfl)

theorem bitcast16w_ix (x : IVec S8x768 32) (q : Fin 16) (l : Fin 768) :
    bitcast S16x768 16 x bitcasts_S8x768_w32_S16x768_w16 (ix2 q l)
      = (x (ix2 ⟨q.val / 2, by omega⟩ l)).extractLsb' (16 * (q.val % 2)) 16 := by
  rw [bitcast_32_16]
  exact congrArg (fun z => (x z).extractLsb' (16 * (q.val % 2)) 16) (funext fun d => by fin_cases d <;> rfl)

theorem gather_ix (x : IVec S8x128 32) (idx : IVec S8x128 32) (a : Fin 8) (l : Fin 128) :
    dynamicGather 1 x idx (ix2 a l) = x (ix2 a ⟨(idx (ix2 a l)).toNat % 128, Nat.mod_lt _ (by decide)⟩) := by
  rw [dynamicGather_apply]
  congr 1
  funext d
  fin_cases d <;> rfl

theorem scaleHalf_apply (k : Fin 6) (s : Vec F S1x1x128 .i32) (q : Fin 16) (l : Fin 128) :
    scaleHalf (F := F) (BitVec.ofNat 32 (2 * k.val)) s (ix2 q l)
      = FloatOps.ofBits (F := F) .bf16 (((s (ix3 0 0 ⟨16 * (q.val / 2) + 2 * k.val + l.val / 64, by omega⟩) : BitVec 32)).extractLsb' (16 * (q.val % 2)) 16) := by
  unfold scaleHalf
  rw [bitcastToFloat_apply, bitcast16_ix, gather_ix]
  pointwise
  congr 2
  refine congrArg (fun z => s (ix3 (0 : Fin 1) (0 : Fin 1) z)) (Fin.ext ?_)
  exact laneIx_apply k ⟨q.val / 2, by omega⟩ l

theorem codeRows_apply (w : IVec S1x8x128 32) (q : Fin 32) (l : Fin 128) :
    codeRows (F := F) w (ix2 q l) = FloatOps.sitofp (F := F) .bf16 ((w (ix3 0 ⟨q.val / 4, by omega⟩ l)).extractLsb' (8 * (q.val % 4)) 8) := by
  unfold codeRows
  pointwise
  rw [bitcast8_ix]
  pointwise

/-- A history entry. -/
def hVal (w : Vec F S1x6x8x128 .i32) (s0 s1 : Vec F S1x1x128 .i32) (q : Fin 32) (k : Fin 6) (l : Fin 128) : F .bf16 :=
  FloatOps.mulf (FloatOps.sitofp (F := F) .bf16 (((w (ix4 0 k ⟨q.val / 4, by omega⟩ l) : BitVec 32)).extractLsb' (8 * (q.val % 4)) 8))
    (FloatOps.ofBits (F := F) .bf16 ((((if q.val < 16 then s0 else s1) (ix3 0 0 ⟨16 * (q.val % 16 / 2) + 2 * k.val + l.val / 64, by omega⟩) : BitVec 32)).extractLsb' (16 * (q.val % 2)) 16))

theorem colBlk_apply (w : IVec S1x8x128 32) (k : Fin 6) (s0 s1 : Vec F S1x1x128 .i32) (q : Fin 32) (l : Fin 128) :
    colBlk (F := F) w (BitVec.ofNat 32 (2 * k.val)) s0 s1 (ix2 q l) =
      FloatOps.mulf (FloatOps.sitofp (F := F) .bf16 ((w (ix3 0 ⟨q.val / 4, by omega⟩ l)).extractLsb' (8 * (q.val % 4)) 8))
        (FloatOps.ofBits (F := F) .bf16 ((((if q.val < 16 then s0 else s1) (ix3 0 0 ⟨16 * (q.val % 16 / 2) + 2 * k.val + l.val / 64, by omega⟩) : BitVec 32)).extractLsb' (16 * (q.val % 2)) 16)) := by
  unfold colBlk
  pointwise
  rw [codeRows_apply]
  congr 1
  split
  · rename_i h
    rw [scaleHalf_apply k s0 ⟨q.val, h⟩ l]
    simp only [Nat.mod_eq_of_lt h]
  · rename_i h
    rw [scaleHalf_apply k s1 ⟨q.val - 16, by omega⟩ l]
    have e : q.val % 16 = q.val - 16 := by omega
    have e2 : (q.val - 16) % 2 = q.val % 2 := by omega
    simp only [e, e2]

theorem itemH_apply (w : Vec F S1x6x8x128 .i32) (s0 s1 : Vec F S1x1x128 .i32) (q : Fin 32) (k : Fin 6) (l : Fin 128) (c : Fin 768)
    (hc : c.val = 128 * k.val + l.val) : itemH w s0 s1 (ix2 q c) = hVal w s0 s1 q k l := by
  unfold itemH
  have hl := l.isLt
  obtain ⟨k, hk⟩ := k
  obtain rfl | rfl | rfl | rfl | rfl | rfl : k = 0 ∨ k = 1 ∨ k = 2 ∨ k = 3 ∨ k = 4 ∨ k = 5 := by omega
  · have hc : c.val = 128 * 0 + l.val := hc
    pointwise
    rw [dif_pos (by omega)]
    rw [show (⟨c.val, by omega⟩ : Fin 128) = l from Fin.ext (by show c.val = l.val; omega)]
    refine (colBlk_apply _ (0 : Fin 6) s0 s1 q l).trans ?_
    unfold hVal
    pointwise
  · have hc : c.val = 128 * 1 + l.val := hc
    pointwise
    rw [dif_neg (by omega)]
    rw [dif_pos (by omega)]
    rw [show (⟨c.val - 128, by omega⟩ : Fin 128) = l from Fin.ext (by show c.val - 128 = l.val; omega)]
    refine (colBlk_apply _ (1 : Fin 6) s0 s1 q l).trans ?_
    unfold hVal
    pointwise
  · have hc : c.val = 128 * 2 + l.val := hc
    pointwise
    rw [dif_neg (by omega)]
    rw [dif_neg (by omega)]
    rw [dif_pos (by omega)]
    rw [show (⟨c.val - 128 - 128, by omega⟩ : Fin 128) = l from Fin.ext (by show c.val - 128 - 128 = l.val; omega)]
    refine (colBlk_apply _ (2 : Fin 6) s0 s1 q l).trans ?_
    unfold hVal
    pointwise
  · have hc : c.val = 128 * 3 + l.val := hc
    pointwise
    rw [dif_neg (by omega)]
    rw [dif_neg (by omega)]
    rw [dif_neg (by omega)]
    rw [dif_pos (by omega)]
    rw [show (⟨c.val - 128 - 128 - 128, by omega⟩ : Fin 128) = l from Fin.ext (by show c.val - 128 - 128 - 128 = l.val; omega)]
    refine (colBlk_apply _ (3 : Fin 6) s0 s1 q l).trans ?_
    unfold hVal
    pointwise
  · have hc : c.val = 128 * 4 + l.val := hc
    pointwise
    rw [dif_neg (by omega)]
    rw [dif_neg (by omega)]
    rw [dif_neg (by omega)]
    rw [dif_neg (by omega)]
    rw [dif_pos (by omega)]
    rw [show (⟨c.val - 128 - 128 - 128 - 128, by omega⟩ : Fin 128) = l from Fin.ext (by show c.val - 128 - 128 - 128 - 128 = l.val; omega)]
    refine (colBlk_apply _ (4 : Fin 6) s0 s1 q l).trans ?_
    unfold hVal
    pointwise
  · have hc : c.val = 128 * 5 + l.val := hc
    pointwise
    rw [dif_neg (by omega)]
    rw [dif_neg (by omega)]
    rw [dif_neg (by omega)]
    rw [dif_neg (by omega)]
    rw [dif_neg (by omega)]
    rw [show (⟨c.val - 128 - 128 - 128 - 128 - 128, by omega⟩ : Fin 128) = l from Fin.ext (by show c.val - 128 - 128 - 128 - 128 - 128 = l.val; omega)]
    refine (colBlk_apply _ (5 : Fin 6) s0 s1 q l).trans ?_
    unfold hVal
    pointwise

/-- A target entry. -/
theorem itemT_apply (u v : Vec F S1x768 .i32) (q : Fin 32) (c : Fin 768) :
    itemT u v (ix2 q c) = FloatOps.ofBits (F := F) .bf16 ((((if q.val < 16 then u else v) (ix2 0 c) : BitVec 32)).extractLsb' (16 * (q.val % 2)) 16) := by
  unfold itemT
  pointwise
  split
  · rename_i h
    rw [bitcast16w_ix _ ⟨q.val, h⟩ c]
    pointwise
  · rename_i h
    rw [bitcast16w_ix _ ⟨q.val - 16, by omega⟩ c]
    have e2 : (q.val - 16) % 2 = q.val % 2 := by omega
    simp only [e2]
    pointwise

end Cert.Proof.KernelIdeal

end
-- ==== Proof.Feat.lean ====
/-
  The feature rows a grid step builds: 512 rows of history, history minus target, and history times target, as one
  function of the words the step reads, and the three stores of one work item as blocks of it.
-/
module

public import proofs.«01_k».proof.Proof.ItemVal
public import Idealize.ShloMosaic.Lib.Pipeline.FrameBody
public import Idealize.ShloMosaic.Lib.Pipeline.ValueKit.Tiles

@[expose] public section

noncomputable section

namespace Cert.Proof.KernelIdeal

open Cert.KernelIdeal Cert.KernelIdeal.Gen
open Idealize.ShloMosaic
open Cert.KernelIdeal.Facts

variable {F : FTy → Type} [FloatOps F]

/-- The table word `n` of grid step `a0` past the first tile `v0`. -/
def gW (g : S4800.Idx → BitVec 32) (a0 v0 : BitVec 32) (n : Nat) : BitVec 32 :=
  g (ix1 ⟨((v0 + a0) * 32#32 + BitVec.ofNat 32 n).toNat % 4800, Nat.mod_lt _ (by decide)⟩)

/-- History entry `c` of row `r` of the step's 512. -/
def hAt (x3 : S16x6x8x128.Idx → BitVec 32) (x4 : S16x2x128.Idx → BitVec 32) (r : Fin 512) (c : Fin 768) : F .bf16 :=
  FloatOps.mulf (FloatOps.sitofp (F := F) .bf16 ((x3 (ix4 ⟨r.val / 32, by omega⟩ ⟨c.val / 128, by omega⟩ ⟨r.val % 32 / 4, by omega⟩ ⟨c.val % 128, by omega⟩)).extractLsb' (8 * (r.val % 4)) 8))
    (FloatOps.ofBits (F := F) .bf16 ((x4 (ix3 ⟨r.val / 32, by omega⟩ ⟨r.val % 32 / 16, by omega⟩ ⟨16 * (r.val % 16 / 2) + c.val / 64, by omega⟩)).extractLsb' (16 * (r.val % 2)) 16))

/-- Target entry `c` of the row `b` names, at a row of parity `q`. -/
def tAt (x5 : S224x768.Idx → BitVec 32) (b : BitVec 32) (q : Nat) (c : Fin 768) : F .bf16 :=
  FloatOps.ofBits (F := F) .bf16 ((x5 (ix2 ⟨b.toNat % 224, Nat.mod_lt _ (by decide)⟩ c)).extractLsb' (16 * (q % 2)) 16)

/-- The feature matrix. -/
def featAt (x3 : S16x6x8x128.Idx → BitVec 32) (x4 : S16x2x128.Idx → BitVec 32) (x5 : S224x768.Idx → BitVec 32) (gn : Nat → BitVec 32) :
    S512x2304.Idx → F .bf16 := fun y =>
  if h : (y 1).val < 768 then hAt x3 x4 (y 0) ⟨(y 1).val, h⟩
  else if h' : (y 1).val < 1536 then
    FloatOps.subf (hAt x3 x4 (y 0) ⟨(y 1).val - 768, by omega⟩) (tAt x5 (gn ((y 0).val / 16)) (y 0).val ⟨(y 1).val - 768, by omega⟩)
  else
    FloatOps.mulf (hAt x3 x4 (y 0) ⟨(y 1).val - 1536, by have : (y 1).val < 2304 := (y 1).isLt; omega⟩)
      (tAt x5 (gn ((y 0).val / 16)) (y 0).val ⟨(y 1).val - 1536, by have : (y 1).val < 2304 := (y 1).isLt; omega⟩)

section
variable (x3 : S16x6x8x128.Idx → BitVec 32) (x4 : S16x2x128.Idx → BitVec 32) (x5 : S224x768.Idx → BitVec 32) (gn : Nat → BitVec 32)

theorem featH (r : Fin 512) (k : Fin 2304) (cc : Fin 768) (hk : k.val = cc.val) : featAt (F := F) x3 x4 x5 gn (ix2 r k) = hAt x3 x4 r cc := by
  obtain ⟨k, hk'⟩ := k
  obtain rfl : k = cc.val := hk
  unfold featAt
  exact dif_pos cc.isLt

theorem featS (r : Fin 512) (k : Fin 2304) (cc : Fin 768) (hk : k.val = 768 + cc.val) :
    featAt (F := F) x3 x4 x5 gn (ix2 r k) = FloatOps.subf (hAt x3 x4 r cc) (tAt x5 (gn (r.val / 16)) r.val cc) := by
  have hcc := cc.isLt
  have e : (⟨k.val - 768, by omega⟩ : Fin 768) = cc := Fin.ext (by show k.val - 768 = cc.val; omega)
  unfold featAt
  refine (dif_neg (by show ¬ k.val < 768; omega)).trans ((dif_pos (by show k.val < 1536; omega)).trans ?_)
  exact congrArg (fun z => FloatOps.subf (hAt (F := F) x3 x4 r z) (tAt x5 (gn (r.val / 16)) r.val z)) e

theorem featM (r : Fin 512) (k : Fin 2304) (cc : Fin 768) (hk : k.val = 1536 + cc.val) :
    featAt (F := F) x3 x4 x5 gn (ix2 r k) = FloatOps.mulf (hAt x3 x4 r cc) (tAt x5 (gn (r.val / 16)) r.val cc) := by
  have hcc := cc.isLt
  have e : (⟨k.val - 1536, by omega⟩ : Fin 768) = cc := Fin.ext (by show k.val - 1536 = cc.val; omega)
  unfold featAt
  refine (dif_neg (by show ¬ k.val < 768; omega)).trans ((dif_neg (by show ¬ k.val < 1536; omega)).trans ?_)
  exact congrArg (fun z => FloatOps.mulf (hAt (F := F) x3 x4 r z) (tAt x5 (gn (r.val / 16)) r.val z)) e

end

/-! ## Loads at an element -/

theorem itemH_read (c : Dev nD) (arg3 : Memref sig .tc .vmem S16x6x8x128 .i32) (arg4 : Memref sig .tc .vmem S16x2x128 .i32)
    (f3 : Bf (F := F) c arg3) (f4 : Bf (F := F) c arg4) (i : Nat) (hi : i < 16) (inb3 inb4 inb5) (q : Fin 32) (cc : Fin 768) (r : Fin 512) (hr : r.val = 32 * i + q.val) :
    itemH (F := F) (View.readAt (Elt F) arg3.view (Rect.unit (s := S16x6x8x128) ![i, 0, 0, 0] S1x6x8x128.size inb3).toLoadRect f3)
      (View.readAt (Elt F) arg4.view (Rect.unit (s := S16x2x128) ![i, 0, 0] S1x1x128.size inb4).toLoadRect f4)
      (View.readAt (Elt F) arg4.view (Rect.unit (s := S16x2x128) ![i, 1, 0] S1x1x128.size inb5).toLoadRect f4) (ix2 q cc)
      = hAt (F := F) (View.read (Elt F) arg3.view f3) (View.read (Elt F) arg4.view f4) r cc := by
  rw [itemH_apply _ _ _ q ⟨cc.val / 128, by omega⟩ ⟨cc.val % 128, by omega⟩ cc (by show cc.val = 128 * (cc.val / 128) + cc.val % 128; omega)]
  unfold hVal hAt
  have e32 : r.val / 32 = i := by omega
  have er4 : r.val % 4 = q.val % 4 := by omega
  have er2 : r.val % 2 = q.val % 2 := by omega
  have e16 : r.val % 16 = q.val % 16 := by omega
  have e32' : r.val % 32 = q.val := by omega
  have e64 : 16 * (q.val % 16 / 2) + 2 * (cc.val / 128) + cc.val % 128 / 64 = 16 * (q.val % 16 / 2) + cc.val / 64 := by omega
  congr 2
  · rw [er4]
    refine congrArg (fun z => BitVec.extractLsb' _ _ (View.read (Elt F) arg3.view f3 z)) (funext fun d => Fin.ext ?_)
    rw [Rect.idx_unit_val]
    fin_cases d
    · show i + 0 = r.val / 32; omega
    · show 0 + cc.val / 128 = cc.val / 128; omega
    · show 0 + q.val / 4 = r.val % 32 / 4; omega
    · show 0 + cc.val % 128 = cc.val % 128; omega
  · rw [er2]
    split
    · rename_i h
      refine congrArg (fun z => BitVec.extractLsb' _ _ (View.read (Elt F) arg4.view f4 z)) (funext fun d => Fin.ext ?_)
      rw [Rect.idx_unit_val]
      fin_cases d
      · show i + 0 = r.val / 32; omega
      · show 0 + 0 = r.val % 32 / 16; omega
      · show 0 + (16 * (q.val % 16 / 2) + 2 * (cc.val / 128) + cc.val % 128 / 64) = 16 * (r.val % 16 / 2) + cc.val / 64; omega
    · rename_i h
      refine congrArg (fun z => BitVec.extractLsb' _ _ (View.read (Elt F) arg4.view f4 z)) (funext fun d => Fin.ext ?_)
      rw [Rect.idx_unit_val]
      fin_cases d
      · show i + 0 = r.val / 32; omega
      · show 1 + 0 = r.val % 32 / 16; omega
      · show 0 + (16 * (q.val % 16 / 2) + 2 * (cc.val / 128) + cc.val % 128 / 64) = 16 * (r.val % 16 / 2) + cc.val / 64; omega

/-- A row load named by a word. -/
theorem row_read (c : Dev nD) (arg5 : Memref sig .tc .vmem S224x768 .i32) (f5 : Bf (F := F) c arg5) (b : BitVec 32) (off : Fin 2 → Nat) (hoff : off = ![b.toNat, 0])
    (inb) (cc : Fin 768) :
    View.readAt (Elt F) arg5.view (Rect.unit (s := S224x768) off S1x768.size inb).toLoadRect f5 (ix2 0 cc)
      = View.read (Elt F) arg5.view f5 (ix2 ⟨b.toNat % 224, Nat.mod_lt _ (by decide)⟩ cc) := by
  subst hoff
  have h0 : b.toNat + 1 ≤ 224 := inb 0
  refine congrArg (View.read (Elt F) arg5.view f5) (funext fun d => Fin.ext ?_)
  rw [Rect.idx_unit_val]
  fin_cases d
  · show b.toNat + 0 = b.toNat % 224; omega
  · show 0 + cc.val = cc.val; omega

theorem row_read6 (c : Dev nD) (arg6 : Memref sig .tc .vmem S224x512 .f32) (f6 : Bf (F := F) c arg6) (b : BitVec 32) (off : Fin 2 → Nat) (hoff : off = ![b.toNat, 0])
    (inb) (cc : Fin 512) :
    View.readAt (Elt F) arg6.view (Rect.unit (s := S224x512) off S1x512.size inb).toLoadRect f6 (ix2 0 cc)
      = View.read (Elt F) arg6.view f6 (ix2 ⟨b.toNat % 224, Nat.mod_lt _ (by decide)⟩ cc) := by
  subst hoff
  have h0 : b.toNat + 1 ≤ 224 := inb 0
  refine congrArg (View.read (Elt F) arg6.view f6) (funext fun d => Fin.ext ?_)
  rw [Rect.idx_unit_val]
  fin_cases d
  · show b.toNat + 0 = b.toNat % 224; omega
  · show 0 + cc.val = cc.val; omega

/-- A table word. -/
theorem word_read (c : Dev nD) (arg1 : Memref sig .tc .smem S4800 .i32) (f1 : Bf (F := F) c arg1) (a0 v0 : BitVec 32) (u v : Nat) (off : Fin 1 → Nat)
    (hoff : off = ![(Scalar.addi (Scalar.addi (Scalar.muli (Scalar.addi v0 a0) 32#32) (BitVec.ofNat 32 u)) (BitVec.ofNat 32 v)).toNat]) (inb) (j : S1.Idx) :
    View.readAt (Elt F) arg1.view (Rect.unit (s := S4800) off S1.size inb).toLoadRect f1 j
      = gW (View.read (Elt F) arg1.view f1) a0 v0 (u + v) := by
  subst hoff
  have h0 := inb 0
  have e : Scalar.addi (Scalar.addi (Scalar.muli (Scalar.addi v0 a0) 32#32) (BitVec.ofNat 32 u)) (BitVec.ofNat 32 v) = (v0 + a0) * 32#32 + BitVec.ofNat 32 (u + v) := by
    show (v0 + a0) * 32#32 + BitVec.ofNat 32 u + BitVec.ofNat 32 v = _
    rw [BitVec.add_assoc, BitVec.ofNat_add]
  refine congrArg (View.read (Elt F) arg1.view f1) (funext fun d => Fin.ext ?_)
  rw [Rect.idx_unit_val]
  obtain rfl : d = 0 := Subsingleton.elim _ _
  have hj : (j 0).val < 1 := (j 0).isLt
  have h1 : ((v0 + a0) * 32#32 + BitVec.ofNat 32 (u + v)).toNat + 1 ≤ 4800 := by rw [← e]; exact h0
  show (Scalar.addi (Scalar.addi (Scalar.muli (Scalar.addi v0 a0) 32#32) (BitVec.ofNat 32 u)) (BitVec.ofNat 32 v)).toNat + (j 0).val = ((v0 + a0) * 32#32 + BitVec.ofNat 32 (u + v)).toNat % 4800
  rw [e]; omega

/-! ## One work item's three stores -/

theorem feat_step (G : S512x2304.Idx → F .bf16) (o : Nat) (L : List (View.Piece (Elt F) S512x2304 .bf16))
    (hL : ∀ y : S512x2304.Idx, (y 0).val < o → View.canon L y = G y) (inb1 inb2 inb3) (w1 w2 w3 : S32x768.Idx → F .bf16)
    (e1 : ∀ (q : Fin 32) (cc : Fin 768) (r : Fin 512) (k : Fin 2304), r.val = o + q.val → k.val = cc.val → w1 (ix2 q cc) = G (ix2 r k))
    (e2 : ∀ (q : Fin 32) (cc : Fin 768) (r : Fin 512) (k : Fin 2304), r.val = o + q.val → k.val = 768 + cc.val → w2 (ix2 q cc) = G (ix2 r k))
    (e3 : ∀ (q : Fin 32) (cc : Fin 768) (r : Fin 512) (k : Fin 2304), r.val = o + q.val → k.val = 1536 + cc.val → w3 (ix2 q cc) = G (ix2 r k)) :
    ∀ y : S512x2304.Idx, (y 0).val < o + 32 →
      View.canon (⟨Rect.unit (s := S512x2304) ![o, 1536] S32x768.size inb3, w3⟩ :: ⟨Rect.unit (s := S512x2304) ![o, 768] S32x768.size inb2, w2⟩ ::
        ⟨Rect.unit (s := S512x2304) ![o, 0] S32x768.size inb1, w1⟩ :: L : List (View.Piece (Elt F) S512x2304 .bf16)) y = G y := by
  intro y hy
  have key : ∀ (P : Nat) (inb) (w : S32x768.Idx → F .bf16) (L' : List (View.Piece (Elt F) S512x2304 .bf16)),
      (∀ (q : Fin 32) (cc : Fin 768) (r : Fin 512) (k : Fin 2304), r.val = o + q.val → k.val = P + cc.val → w (ix2 q cc) = G (ix2 r k)) →
      ((o ≤ (y 0).val ∧ P ≤ (y 1).val ∧ (y 1).val < P + 768) ∨ View.canon L' y = G y) →
      View.canon (⟨Rect.unit (s := S512x2304) ![o, P] S32x768.size inb, w⟩ :: L' : List (View.Piece (Elt F) S512x2304 .bf16)) y = G y := by
    intro P inb w L' hw hc
    by_cases hm : y ∈ (Rect.unit (s := S512x2304) ![o, P] S32x768.size inb).set
    · obtain ⟨x, hxy⟩ := (Rect.unit (s := S512x2304) ![o, P] S32x768.size inb).exists_idx_of_mem hm
      have hc0 := View.canon_cons_emb (Rect.unit (s := S512x2304) ![o, P] S32x768.size inb) w L' x
      have h0 : (y 0).val = o + (x 0).val := by rw [← hxy]; exact Rect.idx_unit_val _ _ _ x 0
      have h1 : (y 1).val = P + (x 1).val := by rw [← hxy]; exact Rect.idx_unit_val _ _ _ x 1
      have hx : x = (ix2 (x 0) (x 1) : S32x768.Idx) := eq_ix2 (n0 := 32) (n1 := 768) x
      have hE : y = ix2 (y 0) (y 1) := eq_ix2 (n0 := 512) (n1 := 2304) y
      have hxy' : (Rect.unit (s := S512x2304) ![o, P] S32x768.size inb).emb x = y := hxy
      rw [hxy'] at hc0
      refine hc0.trans ?_
      have h2 := hw (x 0) (x 1) (y 0) (y 1) h0 h1
      exact (congrArg w hx).trans (h2.trans (congrArg G hE.symm))
    · refine (View.canon_cons_of_not_mem (⟨Rect.unit (s := S512x2304) ![o, P] S32x768.size inb, w⟩ : View.Piece (Elt F) S512x2304 .bf16) L' (y := y) hm).trans ?_
      rcases hc with hc | hc
      · refine absurd (Rect.mem_set_unit.2 ?_) hm
        intro d
        have hd : d = 0 ∨ d = 1 := by
          rcases d with ⟨d, hd⟩
          have : d < 2 := hd
          obtain rfl | rfl : d = 0 ∨ d = 1 := by omega
          · exact .inl rfl
          · exact .inr rfl
        rcases hd with rfl | rfl
        · exact ⟨hc.1, hy⟩
        · exact ⟨hc.2.1, hc.2.2⟩
      · exact hc
  have hy1 : (y 1).val < 2304 := (y 1).isLt
  refine key 1536 inb3 w3 _ e3 ?_
  by_cases h : o ≤ (y 0).val ∧ 1536 ≤ (y 1).val ∧ (y 1).val < 1536 + 768
  · exact .inl h
  refine .inr (key 768 inb2 w2 _ e2 ?_)
  by_cases h' : o ≤ (y 0).val ∧ 768 ≤ (y 1).val ∧ (y 1).val < 768 + 768
  · exact .inl h'
  refine .inr (key 0 inb1 w1 _ (fun q cc r k hr hk => e1 q cc r k hr (by omega)) ?_)
  by_cases h'' : o ≤ (y 0).val
  · exact .inl (by omega)
  · exact .inr (hL y (by omega))

end Cert.Proof.KernelIdeal

end
-- ==== Proof.Act.lean ====
/-
  The first layer's activation, sixteen rows at a time: the product plus the share row its table word names, the
  parametric rectifier, rounded.
-/
module

public import proofs.«01_k».proof.Proof.Feat

@[expose] public section

noncomputable section

namespace Cert.Proof.KernelIdeal

open Cert.KernelIdeal Cert.KernelIdeal.Gen
open Idealize.ShloMosaic
open Cert.KernelIdeal.Facts

variable {F : FTy → Type} [FloatOps F]

/-- One activated element. -/
def actEl (z t a : F .f32) : F .bf16 :=
  FloatOps.truncf .bf16 bitsLt_bf16_f32 (Scalar.select (FloatOps.cmpf .oge (FloatOps.addf z t) (FloatOps.ofBits .f32 0x00000000#32)) (FloatOps.addf z t) (FloatOps.mulf a (FloatOps.addf z t)))

/-- Sixteen activated rows. -/
def zRow (off : Fin 2 → Nat) (h : S256x512.Slices off S16x512) (z : FVec F S256x512 .f32) (t a : Vec F S1x512 .f32) : FVec F S16x512 .bf16 :=
  shapeCast S16x512 (truncf .bf16 (select (cmpf .oge (addf (extractStridedSlice S16x512 off z h) (broadcastTo S16x512 t broadcasts_S1x512_S16x512)) (broadcast S16x512 (Scalar.ofBits .f32 0x00000000#32)))
    (addf (extractStridedSlice S16x512 off z h) (broadcastTo S16x512 t broadcasts_S1x512_S16x512))
    (mulf (broadcastTo S16x512 (shapeCast S1x512 a shapeCasts_S1x512_S1x512) broadcasts_S1x512_S16x512) (addf (extractStridedSlice S16x512 off z h) (broadcastTo S16x512 t broadcasts_S1x512_S16x512))))
    bitsLt_bf16_f32) shapeCasts_S16x512_S16x512

theorem zRow_apply (o : Nat) (h : S256x512.Slices ![o, 0] S16x512) (z : FVec F S256x512 .f32) (t a : Vec F S1x512 .f32) (q : Fin 16) (k : Fin 512) (r : Fin 256) (hr : r.val = o + q.val) :
    zRow ![o, 0] h z t a (ix2 q k) = actEl (z (ix2 r k)) (t (ix2 0 k)) (a (ix2 0 k)) := by
  unfold zRow actEl
  pointwise
  rw [show (⟨o + q.val, by omega⟩ : Fin 256) = r from Fin.ext hr.symm]

/-- The activated matrix, from the two halves of the product. -/
def actAt (zA zB : FVec F S256x512 .f32) (x6 : S224x512.Idx → F .f32) (x8 : S1x512.Idx → F .f32) (gn : Nat → BitVec 32) : S512x512.Idx → F .bf16 := fun y =>
  actEl (if h : (y 0).val < 256 then zA (ix2 ⟨(y 0).val, h⟩ (y 1)) else zB (ix2 ⟨(y 0).val - 256, by have : (y 0).val < 512 := (y 0).isLt; omega⟩ (y 1)))
    (x6 (ix2 ⟨(gn ((y 0).val / 16)).toNat % 224, Nat.mod_lt _ (by decide)⟩ (y 1))) (x8 (ix2 0 (y 1)))

section
variable (zA zB : FVec F S256x512 .f32) (x6 : S224x512.Idx → F .f32) (x8 : S1x512.Idx → F .f32) (gn : Nat → BitVec 32)

theorem grpA (o g : Nat) (ho : o = 16 * g) (hg : g < 16) (h : S256x512.Slices ![o, 0] S16x512) (t a : Vec F S1x512 .f32)
    (ht : ∀ k : Fin 512, t (ix2 0 k) = x6 (ix2 ⟨(gn g).toNat % 224, Nat.mod_lt _ (by decide)⟩ k)) (ha : ∀ k : Fin 512, a (ix2 0 k) = x8 (ix2 0 k))
    (q : Fin 16) (k : Fin 512) (r : Fin 512) (hr : r.val = o + q.val) : zRow ![o, 0] h zA t a (ix2 q k) = actAt zA zB x6 x8 gn (ix2 r k) := by
  have hq := q.isLt
  rw [zRow_apply o h zA t a q k ⟨r.val, by omega⟩ hr, ht, ha]
  unfold actAt
  have e : r.val / 16 = g := by omega
  have e1 : (ix2 r k : S512x512.Idx) 0 = r := rfl
  have e2 : (ix2 r k : S512x512.Idx) 1 = k := rfl
  simp only [e1, e2, e]
  rw [dif_pos (show r.val < 256 by omega)]

theorem grpB (o o' g : Nat) (ho : o = 16 * g) (ho' : o = o' + 256) (h : S256x512.Slices ![o', 0] S16x512) (t a : Vec F S1x512 .f32)
    (ht : ∀ k : Fin 512, t (ix2 0 k) = x6 (ix2 ⟨(gn g).toNat % 224, Nat.mod_lt _ (by decide)⟩ k)) (ha : ∀ k : Fin 512, a (ix2 0 k) = x8 (ix2 0 k))
    (q : Fin 16) (k : Fin 512) (r : Fin 512) (hr : r.val = o + q.val) : zRow ![o', 0] h zB t a (ix2 q k) = actAt zA zB x6 x8 gn (ix2 r k) := by
  have hq := q.isLt
  rw [zRow_apply o' h zB t a q k ⟨r.val - 256, by omega⟩ (by show r.val - 256 = _; omega), ht, ha]
  unfold actAt
  have e : r.val / 16 = g := by omega
  have e1 : (ix2 r k : S512x512.Idx) 0 = r := rfl
  have e2 : (ix2 r k : S512x512.Idx) 1 = k := rfl
  simp only [e1, e2, e]
  rw [dif_neg (show ¬ r.val < 256 by omega)]

end

theorem row_read8 (c : Dev nD) (arg8 : Memref sig .tc .vmem S1x512 .f32) (f8 : Bf (F := F) c arg8) (inb) (k : Fin 512) :
    View.readAt (Elt F) arg8.view (Rect.unit (s := S1x512) ![0, 0] S1x512.size inb).toLoadRect f8 (ix2 0 k) = View.read (Elt F) arg8.view f8 (ix2 0 k) := by
  refine congrArg (View.read (Elt F) arg8.view f8) (funext fun d => Fin.ext ?_)
  rw [Rect.idx_unit_val]
  fin_cases d
  · rfl
  · show 0 + k.val = k.val; omega

theorem act_step (G : S512x512.Idx → F .bf16) (o : Nat) (L : List (View.Piece (Elt F) S512x512 .bf16))
    (hL : ∀ y : S512x512.Idx, (y 0).val < o → View.canon L y = G y) (inb) (w : S16x512.Idx → F .bf16)
    (hw : ∀ (q : Fin 16) (k : Fin 512) (r : Fin 512), r.val = o + q.val → w (ix2 q k) = G (ix2 r k)) :
    ∀ y : S512x512.Idx, (y 0).val < o + 16 →
      View.canon (⟨Rect.unit (s := S512x512) ![o, 0] S16x512.size inb, w⟩ :: L : List (View.Piece (Elt F) S512x512 .bf16)) y = G y := by
  intro y hy
  have hy1 : (y 1).val < 512 := (y 1).isLt
  by_cases hm : y ∈ (Rect.unit (s := S512x512) ![o, 0] S16x512.size inb).set
  · obtain ⟨x, hxy⟩ := (Rect.unit (s := S512x512) ![o, 0] S16x512.size inb).exists_idx_of_mem hm
    have hc0 := View.canon_cons_emb (Rect.unit (s := S512x512) ![o, 0] S16x512.size inb) w L x
    have h0 : (y 0).val = o + (x 0).val := by rw [← hxy]; exact Rect.idx_unit_val _ _ _ x 0
    have h1 : (y 1).val = 0 + (x 1).val := by rw [← hxy]; exact Rect.idx_unit_val _ _ _ x 1
    have hx : x = (ix2 (x 0) (x 1) : S16x512.Idx) := eq_ix2 (n0 := 16) (n1 := 512) x
    have hE : y = ix2 (y 0) (y 1) := eq_ix2 (n0 := 512) (n1 := 512) y
    have hxy' : (Rect.unit (s := S512x512) ![o, 0] S16x512.size inb).emb x = y := hxy
    rw [hxy'] at hc0
    refine hc0.trans ?_
    have h2 := hw (x 0) (x 1) (y 0) h0
    have h3 : (ix2 (y 0) (x 1) : S512x512.Idx) = y := by
      refine Eq.trans ?_ hE.symm
      exact congrArg (ix2 (n0 := 512) (n1 := 512) (y 0)) (Fin.ext (by show (x 1).val = (y 1).val; omega))
    exact (congrArg w hx).trans (h2.trans (congrArg G h3))
  · refine (View.canon_cons_of_not_mem (⟨Rect.unit (s := S512x512) ![o, 0] S16x512.size inb, w⟩ : View.Piece (Elt F) S512x512 .bf16) L (y := y) hm).trans ?_
    refine hL y ?_
    by_contra hlt
    refine absurd (Rect.mem_set_unit.2 ?_) hm
    intro d
    have hd : d = 0 ∨ d = 1 := by
      rcases d with ⟨d, hd⟩
      have : d < 2 := hd
      obtain rfl | rfl : d = 0 ∨ d = 1 := by omega
      · exact .inl rfl
      · exact .inr rfl
    rcases hd with rfl | rfl
    · exact ⟨Nat.le_of_not_lt hlt, hy⟩
    · exact ⟨Nat.zero_le _, by show (y 1).val < 0 + 512; omega⟩

end Cert.Proof.KernelIdeal

end
-- ==== Proof.ActA.lean ====
/-
  The first eight groups of sixteen rows: their stores are blocks of the activated matrix.
-/
module

public import proofs.«01_k».proof.Proof.Act

@[expose] public section

noncomputable section

namespace Cert.Proof.KernelIdeal

open Cert.KernelIdeal Cert.KernelIdeal.Gen
open Idealize.ShloMosaic
open Cert.KernelIdeal.Facts

variable {F : FTy → Type} [FloatOps F]
variable (c : Dev nD) (arg0 : BitVec 32)
  (arg1 : Memref sig .tc .smem S4800 .i32) (arg2 : Memref sig .tc .smem S1 .i32) (arg3 : Memref sig .tc .vmem S16x6x8x128 .i32)
  (arg4 : Memref sig .tc .vmem S16x2x128 .i32) (arg5 : Memref sig .tc .vmem S224x768 .i32) (arg6 : Memref sig .tc .vmem S224x512 .f32)
  (arg7 : Memref sig .tc .vmem S3072x512 .bf16) (arg8 : Memref sig .tc .vmem S1x512 .f32) (arg19 : Memref sig .tc .vmem S512x2304 .bf16)
  (f1 : Bf (F := F) c arg1) (f2 : Bf (F := F) c arg2) (f3 : Bf (F := F) c arg3) (f4 : Bf (F := F) c arg4) (f5 : Bf (F := F) c arg5)
  (f6 : Bf (F := F) c arg6) (f7 : Bf (F := F) c arg7) (f8 : Bf (F := F) c arg8)
  (hstep : arg0.toNat < 150) (hmeta : ∀ x, arg2.view.read (Elt F) f2 x = (0#32 : BitVec 32)) (hgb : ∀ x, BitVec.toNat (arg1.view.read (Elt F) f1 x) < 200)

/-- The activated matrix of the step's buffers. -/
def actOf : S512x512.Idx → F .bf16 :=
  actAt (F := F) (bodyRun.sl.r_402 c arg0 arg1 arg2 arg3 arg4 arg5 arg7 arg19 f1 f2 f3 f4 f5 f7 hstep hmeta hgb) (bodyRun.sl.r_427 c arg0 arg1 arg2 arg3 arg4 arg5 arg7 arg19 f1 f2 f3 f4 f5 f7 hstep hmeta hgb) (View.read (Elt F) arg6.view f6) (View.read (Elt F) arg8.view f8)
    (gW (View.read (Elt F) arg1.view f1) arg0 (bodyRun.sl.r (F := F) c arg2 f2))

theorem tw0 (k : Fin 512) : bodyRun.sl.v8963 c arg0 arg1 arg2 arg6 f1 f2 f6 hstep hmeta hgb (ix2 0 k)
    = View.read (Elt F) arg6.view f6 (ix2 ⟨(gW (View.read (Elt F) arg1.view f1) arg0 (bodyRun.sl.r (F := F) c arg2 f2) 0).toNat % 224, Nat.mod_lt _ (by decide)⟩ k) := by
  have e : bodyRun.sl.r_401 c arg0 arg1 arg2 f1 f2 hstep hmeta = gW (View.read (Elt F) arg1.view f1) arg0 (bodyRun.sl.r c arg2 f2) 0 :=
    word_read c arg1 f1 arg0 (bodyRun.sl.r c arg2 f2) 0 0 _ rfl _ _
  have h : bodyRun.sl.v8963 c arg0 arg1 arg2 arg6 f1 f2 f6 hstep hmeta hgb (ix2 0 k) = View.read (Elt F) arg6.view f6 (ix2 ⟨(bodyRun.sl.r_401 c arg0 arg1 arg2 f1 f2 hstep hmeta).toNat % 224, Nat.mod_lt _ (by decide)⟩ k) :=
    row_read6 c arg6 f6 _ _ rfl _ k
  rw [h]; simp only [e]

theorem grp0 (q : Fin 16) (k : Fin 512) (r : Fin 512) (hr : r.val = 0 + q.val) :
    zRow (F := F) ![0, 0] slices_S256x512_o0_0_S16x512 (bodyRun.sl.r_402 c arg0 arg1 arg2 arg3 arg4 arg5 arg7 arg19 f1 f2 f3 f4 f5 f7 hstep hmeta hgb) (bodyRun.sl.v8963 c arg0 arg1 arg2 arg6 f1 f2 f6 hstep hmeta hgb) (View.readAt (Elt F) arg8.view (Rect.unit (s := S1x512) ![0, 0] S1x512.size inb_S1x512_S1x512_0_0).toLoadRect f8) (ix2 q k) = (actOf c arg0 arg1 arg2 arg3 arg4 arg5 arg6 arg7 arg8 arg19 f1 f2 f3 f4 f5 f6 f7 f8 hstep hmeta hgb) (ix2 r k) :=
  grpA _ _ _ _ _ 0 0 rfl (by decide) _ _ _ (tw0 c arg0 arg1 arg2 arg6 f1 f2 f6 hstep hmeta hgb) (row_read8 c arg8 f8 _) q k r hr

theorem act0 : ∀ y : S512x512.Idx, (y 0).val < 16 → View.canon (bodyRun.sl.H20_1 c arg0 arg1 arg2 arg3 arg4 arg5 arg6 arg7 arg8 arg19 f1 f2 f3 f4 f5 f6 f7 f8 hstep hmeta hgb) y = (actOf c arg0 arg1 arg2 arg3 arg4 arg5 arg6 arg7 arg8 arg19 f1 f2 f3 f4 f5 f6 f7 f8 hstep hmeta hgb) y :=
  act_step (actOf c arg0 arg1 arg2 arg3 arg4 arg5 arg6 arg7 arg8 arg19 f1 f2 f3 f4 f5 f6 f7 f8 hstep hmeta hgb) 0 [] (fun y hy => absurd hy (Nat.not_lt_zero _))
    inb_S512x512_S16x512_0_0 (zRow (F := F) ![0, 0] slices_S256x512_o0_0_S16x512 (bodyRun.sl.r_402 c arg0 arg1 arg2 arg3 arg4 arg5 arg7 arg19 f1 f2 f3 f4 f5 f7 hstep hmeta hgb) (bodyRun.sl.v8963 c arg0 arg1 arg2 arg6 f1 f2 f6 hstep hmeta hgb) (View.readAt (Elt F) arg8.view (Rect.unit (s := S1x512) ![0, 0] S1x512.size inb_S1x512_S1x512_0_0).toLoadRect f8)) (grp0 c arg0 arg1 arg2 arg3 arg4 arg5 arg6 arg7 arg8 arg19 f1 f2 f3 f4 f5 f6 f7 f8 hstep hmeta hgb)

theorem tw1 (k : Fin 512) : bodyRun.sl.v8984 c arg0 arg1 arg2 arg6 f1 f2 f6 hstep hmeta hgb (ix2 0 k)
    = View.read (Elt F) arg6.view f6 (ix2 ⟨(gW (View.read (Elt F) arg1.view f1) arg0 (bodyRun.sl.r (F := F) c arg2 f2) 1).toNat % 224, Nat.mod_lt _ (by decide)⟩ k) := by
  have e : bodyRun.sl.r_403 c arg0 arg1 arg2 f1 f2 hstep hmeta = gW (View.read (Elt F) arg1.view f1) arg0 (bodyRun.sl.r c arg2 f2) 1 :=
    word_read c arg1 f1 arg0 (bodyRun.sl.r c arg2 f2) 0 1 _ rfl _ _
  have h : bodyRun.sl.v8984 c arg0 arg1 arg2 arg6 f1 f2 f6 hstep hmeta hgb (ix2 0 k) = View.read (Elt F) arg6.view f6 (ix2 ⟨(bodyRun.sl.r_403 c arg0 arg1 arg2 f1 f2 hstep hmeta).toNat % 224, Nat.mod_lt _ (by decide)⟩ k) :=
    row_read6 c arg6 f6 _ _ rfl _ k
  rw [h]; simp only [e]

theorem grp1 (q : Fin 16) (k : Fin 512) (r : Fin 512) (hr : r.val = 16 + q.val) :
    zRow (F := F) ![16, 0] slices_S256x512_o16_0_S16x512 (bodyRun.sl.r_402 c arg0 arg1 arg2 arg3 arg4 arg5 arg7 arg19 f1 f2 f3 f4 f5 f7 hstep hmeta hgb) (bodyRun.sl.v8984 c arg0 arg1 arg2 arg6 f1 f2 f6 hstep hmeta hgb) (View.readAt (Elt F) arg8.view (Rect.unit (s := S1x512) ![0, 0] S1x512.size inb_S1x512_S1x512_0_0).toLoadRect f8) (ix2 q k) = (actOf c arg0 arg1 arg2 arg3 arg4 arg5 arg6 arg7 arg8 arg19 f1 f2 f3 f4 f5 f6 f7 f8 hstep hmeta hgb) (ix2 r k) :=
  grpA _ _ _ _ _ 16 1 rfl (by decide) _ _ _ (tw1 c arg0 arg1 arg2 arg6 f1 f2 f6 hstep hmeta hgb) (row_read8 c arg8 f8 _) q k r hr

theorem act1 : ∀ y : S512x512.Idx, (y 0).val < 32 → View.canon (bodyRun.sl.H20_2 c arg0 arg1 arg2 arg3 arg4 arg5 arg6 arg7 arg8 arg19 f1 f2 f3 f4 f5 f6 f7 f8 hstep hmeta hgb) y = (actOf c arg0 arg1 arg2 arg3 arg4 arg5 arg6 arg7 arg8 arg19 f1 f2 f3 f4 f5 f6 f7 f8 hstep hmeta hgb) y :=
  act_step (actOf c arg0 arg1 arg2 arg3 arg4 arg5 arg6 arg7 arg8 arg19 f1 f2 f3 f4 f5 f6 f7 f8 hstep hmeta hgb) 16 (bodyRun.sl.H20_1 c arg0 arg1 arg2 arg3 arg4 arg5 arg6 arg7 arg8 arg19 f1 f2 f3 f4 f5 f6 f7 f8 hstep hmeta hgb) (act0 c arg0 arg1 arg2 arg3 arg4 arg5 arg6 arg7 arg8 arg19 f1 f2 f3 f4 f5 f6 f7 f8 hstep hmeta hgb)
    inb_S512x512_S16x512_16_0 (zRow (F := F) ![16, 0] slices_S256x512_o16_0_S16x512 (bodyRun.sl.r_402 c arg0 arg1 arg2 arg3 arg4 arg5 arg7 arg19 f1 f2 f3 f4 f5 f7 hstep hmeta hgb) (bodyRun.sl.v8984 c arg0 arg1 arg2 arg6 f1 f2 f6 hstep hmeta hgb) (View.readAt (Elt F) arg8.view (Rect.unit (s := S1x512) ![0, 0] S1x512.size inb_S1x512_S1x512_0_0).toLoadRect f8)) (grp1 c arg0 arg1 arg2 arg3 arg4 arg5 arg6 arg7 arg8 arg19 f1 f2 f3 f4 f5 f6 f7 f8 hstep hmeta hgb)

theorem tw2 (k : Fin 512) : bodyRun.sl.v9005 c arg0 arg1 arg2 arg6 f1 f2 f6 hstep hmeta hgb (ix2 0 k)
    = View.read (Elt F) arg6.view f6 (ix2 ⟨(gW (View.read (Elt F) arg1.view f1) arg0 (bodyRun.sl.r (F := F) c arg2 f2) 2).toNat % 224, Nat.mod_lt _ (by decide)⟩ k) := by
  have e : bodyRun.sl.r_404 c arg0 arg1 arg2 f1 f2 hstep hmeta = gW (View.read (Elt F) arg1.view f1) arg0 (bodyRun.sl.r c arg2 f2) 2 :=
    word_read c arg1 f1 arg0 (bodyRun.sl.r c arg2 f2) 0 2 _ rfl _ _
  have h : bodyRun.sl.v9005 c arg0 arg1 arg2 arg6 f1 f2 f6 hstep hmeta hgb (ix2 0 k) = View.read (Elt F) arg6.view f6 (ix2 ⟨(bodyRun.sl.r_404 c arg0 arg1 arg2 f1 f2 hstep hmeta).toNat % 224, Nat.mod_lt _ (by decide)⟩ k) :=
    row_read6 c arg6 f6 _ _ rfl _ k
  rw [h]; simp only [e]

theorem grp2 (q : Fin 16) (k : Fin 512) (r : Fin 512) (hr : r.val = 32 + q.val) :
    zRow (F := F) ![32, 0] slices_S256x512_o32_0_S16x512 (bodyRun.sl.r_402 c arg0 arg1 arg2 arg3 arg4 arg5 arg7 arg19 f1 f2 f3 f4 f5 f7 hstep hmeta hgb) (bodyRun.sl.v9005 c arg0 arg1 arg2 arg6 f1 f2 f6 hstep hmeta hgb) (View.readAt (Elt F) arg8.view (Rect.unit (s := S1x512) ![0, 0] S1x512.size inb_S1x512_S1x512_0_0).toLoadRect f8) (ix2 q k) = (actOf c arg0 arg1 arg2 arg3 arg4 arg5 arg6 arg7 arg8 arg19 f1 f2 f3 f4 f5 f6 f7 f8 hstep hmeta hgb) (ix2 r k) :=
  grpA _ _ _ _ _ 32 2 rfl (by decide) _ _ _ (tw2 c arg0 arg1 arg2 arg6 f1 f2 f6 hstep hmeta hgb) (row_read8 c arg8 f8 _) q k r hr

theorem tw3 (k : Fin 512) : bodyRun.sl.v9026 c arg0 arg1 arg2 arg6 f1 f2 f6 hstep hmeta hgb (ix2 0 k)
    = View.read (Elt F) arg6.view f6 (ix2 ⟨(gW (View.read (Elt F) arg1.view f1) arg0 (bodyRun.sl.r (F := F) c arg2 f2) 3).toNat % 224, Nat.mod_lt _ (by decide)⟩ k) := by
  have e : bodyRun.sl.r_406 c arg0 arg1 arg2 f1 f2 hstep hmeta = gW (View.read (Elt F) arg1.view f1) arg0 (bodyRun.sl.r c arg2 f2) 3 :=
    word_read c arg1 f1 arg0 (bodyRun.sl.r c arg2 f2) 0 3 _ rfl _ _
  have h : bodyRun.sl.v9026 c arg0 arg1 arg2 arg6 f1 f2 f6 hstep hmeta hgb (ix2 0 k) = View.read (Elt F) arg6.view f6 (ix2 ⟨(bodyRun.sl.r_406 c arg0 arg1 arg2 f1 f2 hstep hmeta).toNat % 224, Nat.mod_lt _ (by decide)⟩ k) :=
    row_read6 c arg6 f6 _ _ rfl _ k
  rw [h]; simp only [e]

theorem grp3 (q : Fin 16) (k : Fin 512) (r : Fin 512) (hr : r.val = 48 + q.val) :
    zRow (F := F) ![48, 0] slices_S256x512_o48_0_S16x512 (bodyRun.sl.r_402 c arg0 arg1 arg2 arg3 arg4 arg5 arg7 arg19 f1 f2 f3 f4 f5 f7 hstep hmeta hgb) (bodyRun.sl.v9026 c arg0 arg1 arg2 arg6 f1 f2 f6 hstep hmeta hgb) (View.readAt (Elt F) arg8.view (Rect.unit (s := S1x512) ![0, 0] S1x512.size inb_S1x512_S1x512_0_0).toLoadRect f8) (ix2 q k) = (actOf c arg0 arg1 arg2 arg3 arg4 arg5 arg6 arg7 arg8 arg19 f1 f2 f3 f4 f5 f6 f7 f8 hstep hmeta hgb) (ix2 r k) :=
  grpA _ _ _ _ _ 48 3 rfl (by decide) _ _ _ (tw3 c arg0 arg1 arg2 arg6 f1 f2 f6 hstep hmeta hgb) (row_read8 c arg8 f8 _) q k r hr

theorem act3 : ∀ y : S512x512.Idx, (y 0).val < 64 → View.canon (bodyRun.sl.H20_4 c arg0 arg1 arg2 arg3 arg4 arg5 arg6 arg7 arg8 arg19 f1 f2 f3 f4 f5 f6 f7 f8 hstep hmeta hgb) y = (actOf c arg0 arg1 arg2 arg3 arg4 arg5 arg6 arg7 arg8 arg19 f1 f2 f3 f4 f5 f6 f7 f8 hstep hmeta hgb) y :=
  act_step (actOf c arg0 arg1 arg2 arg3 arg4 arg5 arg6 arg7 arg8 arg19 f1 f2 f3 f4 f5 f6 f7 f8 hstep hmeta hgb) 48 (⟨Rect.unit (s := S512x512) ![32, 0] S16x512.size inb_S512x512_S16x512_32_0, (zRow (F := F) ![32, 0] slices_S256x512_o32_0_S16x512 (bodyRun.sl.r_402 c arg0 arg1 arg2 arg3 arg4 arg5 arg7 arg19 f1 f2 f3 f4 f5 f7 hstep hmeta hgb) (bodyRun.sl.v9005 c arg0 arg1 arg2 arg6 f1 f2 f6 hstep hmeta hgb) (View.readAt (Elt F) arg8.view (Rect.unit (s := S1x512) ![0, 0] S1x512.size inb_S1x512_S1x512_0_0).toLoadRect f8))⟩ :: bodyRun.sl.H20_2 c arg0 arg1 arg2 arg3 arg4 arg5 arg6 arg7 arg8 arg19 f1 f2 f3 f4 f5 f6 f7 f8 hstep hmeta hgb) (act_step (actOf c arg0 arg1 arg2 arg3 arg4 arg5 arg6 arg7 arg8 arg19 f1 f2 f3 f4 f5 f6 f7 f8 hstep hmeta hgb) 32 (bodyRun.sl.H20_2 c arg0 arg1 arg2 arg3 arg4 arg5 arg6 arg7 arg8 arg19 f1 f2 f3 f4 f5 f6 f7 f8 hstep hmeta hgb) (act1 c arg0 arg1 arg2 arg3 arg4 arg5 arg6 arg7 arg8 arg19 f1 f2 f3 f4 f5 f6 f7 f8 hstep hmeta hgb) inb_S512x512_S16x512_32_0 (zRow (F := F) ![32, 0] slices_S256x512_o32_0_S16x512 (bodyRun.sl.r_402 c arg0 arg1 arg2 arg3 arg4 arg5 arg7 arg19 f1 f2 f3 f4 f5 f7 hstep hmeta hgb) (bodyRun.sl.v9005 c arg0 arg1 arg2 arg6 f1 f2 f6 hstep hmeta hgb) (View.readAt (Elt F) arg8.view (Rect.unit (s := S1x512) ![0, 0] S1x512.size inb_S1x512_S1x512_0_0).toLoadRect f8)) (grp2 c arg0 arg1 arg2 arg3 arg4 arg5 arg6 arg7 arg8 arg19 f1 f2 f3 f4 f5 f6 f7 f8 hstep hmeta hgb))
    inb_S512x512_S16x512_48_0 (zRow (F := F) ![48, 0] slices_S256x512_o48_0_S16x512 (bodyRun.sl.r_402 c arg0 arg1 arg2 arg3 arg4 arg5 arg7 arg19 f1 f2 f3 f4 f5 f7 hstep hmeta hgb) (bodyRun.sl.v9026 c arg0 arg1 arg2 arg6 f1 f2 f6 hstep hmeta hgb) (View.readAt (Elt F) arg8.view (Rect.unit (s := S1x512) ![0, 0] S1x512.size inb_S1x512_S1x512_0_0).toLoadRect f8)) (grp3 c arg0 arg1 arg2 arg3 arg4 arg5 arg6 arg7 arg8 arg19 f1 f2 f3 f4 f5 f6 f7 f8 hstep hmeta hgb)

theorem tw4 (k : Fin 512) : bodyRun.sl.v9047 c arg0 arg1 arg2 arg6 f1 f2 f6 hstep hmeta hgb (ix2 0 k)
    = View.read (Elt F) arg6.view f6 (ix2 ⟨(gW (View.read (Elt F) arg1.view f1) arg0 (bodyRun.sl.r (F := F) c arg2 f2) 4).toNat % 224, Nat.mod_lt _ (by decide)⟩ k) := by
  have e : bodyRun.sl.r_407 c arg0 arg1 arg2 f1 f2 hstep hmeta = gW (View.read (Elt F) arg1.view f1) arg0 (bodyRun.sl.r c arg2 f2) 4 :=
    word_read c arg1 f1 arg0 (bodyRun.sl.r c arg2 f2) 0 4 _ rfl _ _
  have h : bodyRun.sl.v9047 c arg0 arg1 arg2 arg6 f1 f2 f6 hstep hmeta hgb (ix2 0 k) = View.read (Elt F) arg6.view f6 (ix2 ⟨(bodyRun.sl.r_407 c arg0 arg1 arg2 f1 f2 hstep hmeta).toNat % 224, Nat.mod_lt _ (by decide)⟩ k) :=
    row_read6 c arg6 f6 _ _ rfl _ k
  rw [h]; simp only [e]

theorem grp4 (q : Fin 16) (k : Fin 512) (r : Fin 512) (hr : r.val = 64 + q.val) :
    zRow (F := F) ![64, 0] slices_S256x512_o64_0_S16x512 (bodyRun.sl.r_402 c arg0 arg1 arg2 arg3 arg4 arg5 arg7 arg19 f1 f2 f3 f4 f5 f7 hstep hmeta hgb) (bodyRun.sl.v9047 c arg0 arg1 arg2 arg6 f1 f2 f6 hstep hmeta hgb) (View.readAt (Elt F) arg8.view (Rect.unit (s := S1x512) ![0, 0] S1x512.size inb_S1x512_S1x512_0_0).toLoadRect f8) (ix2 q k) = (actOf c arg0 arg1 arg2 arg3 arg4 arg5 arg6 arg7 arg8 arg19 f1 f2 f3 f4 f5 f6 f7 f8 hstep hmeta hgb) (ix2 r k) :=
  grpA _ _ _ _ _ 64 4 rfl (by decide) _ _ _ (tw4 c arg0 arg1 arg2 arg6 f1 f2 f6 hstep hmeta hgb) (row_read8 c arg8 f8 _) q k r hr

theorem tw5 (k : Fin 512) : bodyRun.sl.v9068 c arg0 arg1 arg2 arg6 f1 f2 f6 hstep hmeta hgb (ix2 0 k)
    = View.read (Elt F) arg6.view f6 (ix2 ⟨(gW (View.read (Elt F) arg1.view f1) arg0 (bodyRun.sl.r (F := F) c arg2 f2) 5).toNat % 224, Nat.mod_lt _ (by decide)⟩ k) := by
  have e : bodyRun.sl.r_409 c arg0 arg1 arg2 f1 f2 hstep hmeta = gW (View.read (Elt F) arg1.view f1) arg0 (bodyRun.sl.r c arg2 f2) 5 :=
    word_read c arg1 f1 arg0 (bodyRun.sl.r c arg2 f2) 0 5 _ rfl _ _
  have h : bodyRun.sl.v9068 c arg0 arg1 arg2 arg6 f1 f2 f6 hstep hmeta hgb (ix2 0 k) = View.read (Elt F) arg6.view f6 (ix2 ⟨(bodyRun.sl.r_409 c arg0 arg1 arg2 f1 f2 hstep hmeta).toNat % 224, Nat.mod_lt _ (by decide)⟩ k) :=
    row_read6 c arg6 f6 _ _ rfl _ k
  rw [h]; simp only [e]

theorem grp5 (q : Fin 16) (k : Fin 512) (r : Fin 512) (hr : r.val = 80 + q.val) :
    zRow (F := F) ![80, 0] slices_S256x512_o80_0_S16x512 (bodyRun.sl.r_402 c arg0 arg1 arg2 arg3 arg4 arg5 arg7 arg19 f1 f2 f3 f4 f5 f7 hstep hmeta hgb) (bodyRun.sl.v9068 c arg0 arg1 arg2 arg6 f1 f2 f6 hstep hmeta hgb) (View.readAt (Elt F) arg8.view (Rect.unit (s := S1x512) ![0, 0] S1x512.size inb_S1x512_S1x512_0_0).toLoadRect f8) (ix2 q k) = (actOf c arg0 arg1 arg2 arg3 arg4 arg5 arg6 arg7 arg8 arg19 f1 f2 f3 f4 f5 f6 f7 f8 hstep hmeta hgb) (ix2 r k) :=
  grpA _ _ _ _ _ 80 5 rfl (by decide) _ _ _ (tw5 c arg0 arg1 arg2 arg6 f1 f2 f6 hstep hmeta hgb) (row_read8 c arg8 f8 _) q k r hr

theorem act5 : ∀ y : S512x512.Idx, (y 0).val < 96 → View.canon (bodyRun.sl.H20_6 c arg0 arg1 arg2 arg3 arg4 arg5 arg6 arg7 arg8 arg19 f1 f2 f3 f4 f5 f6 f7 f8 hstep hmeta hgb) y = (actOf c arg0 arg1 arg2 arg3 arg4 arg5 arg6 arg7 arg8 arg19 f1 f2 f3 f4 f5 f6 f7 f8 hstep hmeta hgb) y :=
  act_step (actOf c arg0 arg1 arg2 arg3 arg4 arg5 arg6 arg7 arg8 arg19 f1 f2 f3 f4 f5 f6 f7 f8 hstep hmeta hgb) 80 (⟨Rect.unit (s := S512x512) ![64, 0] S16x512.size inb_S512x512_S16x512_64_0, (zRow (F := F) ![64, 0] slices_S256x512_o64_0_S16x512 (bodyRun.sl.r_402 c arg0 arg1 arg2 arg3 arg4 arg5 arg7 arg19 f1 f2 f3 f4 f5 f7 hstep hmeta hgb) (bodyRun.sl.v9047 c arg0 arg1 arg2 arg6 f1 f2 f6 hstep hmeta hgb) (View.readAt (Elt F) arg8.view (Rect.unit (s := S1x512) ![0, 0] S1x512.size inb_S1x512_S1x512_0_0).toLoadRect f8))⟩ :: bodyRun.sl.H20_4 c arg0 arg1 arg2 arg3 arg4 arg5 arg6 arg7 arg8 arg19 f1 f2 f3 f4 f5 f6 f7 f8 hstep hmeta hgb) (act_step (actOf c arg0 arg1 arg2 arg3 arg4 arg5 arg6 arg7 arg8 arg19 f1 f2 f3 f4 f5 f6 f7 f8 hstep hmeta hgb) 64 (bodyRun.sl.H20_4 c arg0 arg1 arg2 arg3 arg4 arg5 arg6 arg7 arg8 arg19 f1 f2 f3 f4 f5 f6 f7 f8 hstep hmeta hgb) (act3 c arg0 arg1 arg2 arg3 arg4 arg5 arg6 arg7 arg8 arg19 f1 f2 f3 f4 f5 f6 f7 f8 hstep hmeta hgb) inb_S512x512_S16x512_64_0 (zRow (F := F) ![64, 0] slices_S256x512_o64_0_S16x512 (bodyRun.sl.r_402 c arg0 arg1 arg2 arg3 arg4 arg5 arg7 arg19 f1 f2 f3 f4 f5 f7 hstep hmeta hgb) (bodyRun.sl.v9047 c arg0 arg1 arg2 arg6 f1 f2 f6 hstep hmeta hgb) (View.readAt (Elt F) arg8.view (Rect.unit (s := S1x512) ![0, 0] S1x512.size inb_S1x512_S1x512_0_0).toLoadRect f8)) (grp4 c arg0 arg1 arg2 arg3 arg4 arg5 arg6 arg7 arg8 arg19 f1 f2 f3 f4 f5 f6 f7 f8 hstep hmeta hgb))
    inb_S512x512_S16x512_80_0 (zRow (F := F) ![80, 0] slices_S256x512_o80_0_S16x512 (bodyRun.sl.r_402 c arg0 arg1 arg2 arg3 arg4 arg5 arg7 arg19 f1 f2 f3 f4 f5 f7 hstep hmeta hgb) (bodyRun.sl.v9068 c arg0 arg1 arg2 arg6 f1 f2 f6 hstep hmeta hgb) (View.readAt (Elt F) arg8.view (Rect.unit (s := S1x512) ![0, 0] S1x512.size inb_S1x512_S1x512_0_0).toLoadRect f8)) (grp5 c arg0 arg1 arg2 arg3 arg4 arg5 arg6 arg7 arg8 arg19 f1 f2 f3 f4 f5 f6 f7 f8 hstep hmeta hgb)

theorem tw6 (k : Fin 512) : bodyRun.sl.v9089 c arg0 arg1 arg2 arg6 f1 f2 f6 hstep hmeta hgb (ix2 0 k)
    = View.read (Elt F) arg6.view f6 (ix2 ⟨(gW (View.read (Elt F) arg1.view f1) arg0 (bodyRun.sl.r (F := F) c arg2 f2) 6).toNat % 224, Nat.mod_lt _ (by decide)⟩ k) := by
  have e : bodyRun.sl.r_410 c arg0 arg1 arg2 f1 f2 hstep hmeta = gW (View.read (Elt F) arg1.view f1) arg0 (bodyRun.sl.r c arg2 f2) 6 :=
    word_read c arg1 f1 arg0 (bodyRun.sl.r c arg2 f2) 0 6 _ rfl _ _
  have h : bodyRun.sl.v9089 c arg0 arg1 arg2 arg6 f1 f2 f6 hstep hmeta hgb (ix2 0 k) = View.read (Elt F) arg6.view f6 (ix2 ⟨(bodyRun.sl.r_410 c arg0 arg1 arg2 f1 f2 hstep hmeta).toNat % 224, Nat.mod_lt _ (by decide)⟩ k) :=
    row_read6 c arg6 f6 _ _ rfl _ k
  rw [h]; simp only [e]

theorem grp6 (q : Fin 16) (k : Fin 512) (r : Fin 512) (hr : r.val = 96 + q.val) :
    zRow (F := F) ![96, 0] slices_S256x512_o96_0_S16x512 (bodyRun.sl.r_402 c arg0 arg1 arg2 arg3 arg4 arg5 arg7 arg19 f1 f2 f3 f4 f5 f7 hstep hmeta hgb) (bodyRun.sl.v9089 c arg0 arg1 arg2 arg6 f1 f2 f6 hstep hmeta hgb) (View.readAt (Elt F) arg8.view (Rect.unit (s := S1x512) ![0, 0] S1x512.size inb_S1x512_S1x512_0_0).toLoadRect f8) (ix2 q k) = (actOf c arg0 arg1 arg2 arg3 arg4 arg5 arg6 arg7 arg8 arg19 f1 f2 f3 f4 f5 f6 f7 f8 hstep hmeta hgb) (ix2 r k) :=
  grpA _ _ _ _ _ 96 6 rfl (by decide) _ _ _ (tw6 c arg0 arg1 arg2 arg6 f1 f2 f6 hstep hmeta hgb) (row_read8 c arg8 f8 _) q k r hr

theorem tw7 (k : Fin 512) : bodyRun.sl.v9110 c arg0 arg1 arg2 arg6 f1 f2 f6 hstep hmeta hgb (ix2 0 k)
    = View.read (Elt F) arg6.view f6 (ix2 ⟨(gW (View.read (Elt F) arg1.view f1) arg0 (bodyRun.sl.r (F := F) c arg2 f2) 7).toNat % 224, Nat.mod_lt _ (by decide)⟩ k) := by
  have e : bodyRun.sl.r_414 c arg0 arg1 arg2 f1 f2 hstep hmeta = gW (View.read (Elt F) arg1.view f1) arg0 (bodyRun.sl.r c arg2 f2) 7 :=
    word_read c arg1 f1 arg0 (bodyRun.sl.r c arg2 f2) 0 7 _ rfl _ _
  have h : bodyRun.sl.v9110 c arg0 arg1 arg2 arg6 f1 f2 f6 hstep hmeta hgb (ix2 0 k) = View.read (Elt F) arg6.view f6 (ix2 ⟨(bodyRun.sl.r_414 c arg0 arg1 arg2 f1 f2 hstep hmeta).toNat % 224, Nat.mod_lt _ (by decide)⟩ k) :=
    row_read6 c arg6 f6 _ _ rfl _ k
  rw [h]; simp only [e]

theorem grp7 (q : Fin 16) (k : Fin 512) (r : Fin 512) (hr : r.val = 112 + q.val) :
    zRow (F := F) ![112, 0] slices_S256x512_o112_0_S16x512 (bodyRun.sl.r_402 c arg0 arg1 arg2 arg3 arg4 arg5 arg7 arg19 f1 f2 f3 f4 f5 f7 hstep hmeta hgb) (bodyRun.sl.v9110 c arg0 arg1 arg2 arg6 f1 f2 f6 hstep hmeta hgb) (View.readAt (Elt F) arg8.view (Rect.unit (s := S1x512) ![0, 0] S1x512.size inb_S1x512_S1x512_0_0).toLoadRect f8) (ix2 q k) = (actOf c arg0 arg1 arg2 arg3 arg4 arg5 arg6 arg7 arg8 arg19 f1 f2 f3 f4 f5 f6 f7 f8 hstep hmeta hgb) (ix2 r k) :=
  grpA _ _ _ _ _ 112 7 rfl (by decide) _ _ _ (tw7 c arg0 arg1 arg2 arg6 f1 f2 f6 hstep hmeta hgb) (row_read8 c arg8 f8 _) q k r hr

theorem act7 : ∀ y : S512x512.Idx, (y 0).val < 128 → View.canon (bodyRun.sl.H20_8 c arg0 arg1 arg2 arg3 arg4 arg5 arg6 arg7 arg8 arg19 f1 f2 f3 f4 f5 f6 f7 f8 hstep hmeta hgb) y = (actOf c arg0 arg1 arg2 arg3 arg4 arg5 arg6 arg7 arg8 arg19 f1 f2 f3 f4 f5 f6 f7 f8 hstep hmeta hgb) y :=
  act_step (actOf c arg0 arg1 arg2 arg3 arg4 arg5 arg6 arg7 arg8 arg19 f1 f2 f3 f4 f5 f6 f7 f8 hstep hmeta hgb) 112 (⟨Rect.unit (s := S512x512) ![96, 0] S16x512.size inb_S512x512_S16x512_96_0, (zRow (F := F) ![96, 0] slices_S256x512_o96_0_S16x512 (bodyRun.sl.r_402 c arg0 arg1 arg2 arg3 arg4 arg5 arg7 arg19 f1 f2 f3 f4 f5 f7 hstep hmeta hgb) (bodyRun.sl.v9089 c arg0 arg1 arg2 arg6 f1 f2 f6 hstep hmeta hgb) (View.readAt (Elt F) arg8.view (Rect.unit (s := S1x512) ![0, 0] S1x512.size inb_S1x512_S1x512_0_0).toLoadRect f8))⟩ :: bodyRun.sl.H20_6 c arg0 arg1 arg2 arg3 arg4 arg5 arg6 arg7 arg8 arg19 f1 f2 f3 f4 f5 f6 f7 f8 hstep hmeta hgb) (act_step (actOf c arg0 arg1 arg2 arg3 arg4 arg5 arg6 arg7 arg8 arg19 f1 f2 f3 f4 f5 f6 f7 f8 hstep hmeta hgb) 96 (bodyRun.sl.H20_6 c arg0 arg1 arg2 arg3 arg4 arg5 arg6 arg7 arg8 arg19 f1 f2 f3 f4 f5 f6 f7 f8 hstep hmeta hgb) (act5 c arg0 arg1 arg2 arg3 arg4 arg5 arg6 arg7 arg8 arg19 f1 f2 f3 f4 f5 f6 f7 f8 hstep hmeta hgb) inb_S512x512_S16x512_96_0 (zRow (F := F) ![96, 0] slices_S256x512_o96_0_S16x512 (bodyRun.sl.r_402 c arg0 arg1 arg2 arg3 arg4 arg5 arg7 arg19 f1 f2 f3 f4 f5 f7 hstep hmeta hgb) (bodyRun.sl.v9089 c arg0 arg1 arg2 arg6 f1 f2 f6 hstep hmeta hgb) (View.readAt (Elt F) arg8.view (Rect.unit (s := S1x512) ![0, 0] S1x512.size inb_S1x512_S1x512_0_0).toLoadRect f8)) (grp6 c arg0 arg1 arg2 arg3 arg4 arg5 arg6 arg7 arg8 arg19 f1 f2 f3 f4 f5 f6 f7 f8 hstep hmeta hgb))
    inb_S512x512_S16x512_112_0 (zRow (F := F) ![112, 0] slices_S256x512_o112_0_S16x512 (bodyRun.sl.r_402 c arg0 arg1 arg2 arg3 arg4 arg5 arg7 arg19 f1 f2 f3 f4 f5 f7 hstep hmeta hgb) (bodyRun.sl.v9110 c arg0 arg1 arg2 arg6 f1 f2 f6 hstep hmeta hgb) (View.readAt (Elt F) arg8.view (Rect.unit (s := S1x512) ![0, 0] S1x512.size inb_S1x512_S1x512_0_0).toLoadRect f8)) (grp7 c arg0 arg1 arg2 arg3 arg4 arg5 arg6 arg7 arg8 arg19 f1 f2 f3 f4 f5 f6 f7 f8 hstep hmeta hgb)

end Cert.Proof.KernelIdeal

end
-- ==== Proof.ActB.lean ====
/-
  Groups 8 to 15.
-/
module

public import proofs.«01_k».proof.Proof.ActA

@[expose] public section

noncomputable section

namespace Cert.Proof.KernelIdeal

open Cert.KernelIdeal Cert.KernelIdeal.Gen
open Idealize.ShloMosaic
open Cert.KernelIdeal.Facts

variable {F : FTy → Type} [FloatOps F]
variable (c : Dev nD) (arg0 : BitVec 32)
  (arg1 : Memref sig .tc .smem S4800 .i32) (arg2 : Memref sig .tc .smem S1 .i32) (arg3 : Memref sig .tc .vmem S16x6x8x128 .i32)
  (arg4 : Memref sig .tc .vmem S16x2x128 .i32) (arg5 : Memref sig .tc .vmem S224x768 .i32) (arg6 : Memref sig .tc .vmem S224x512 .f32)
  (arg7 : Memref sig .tc .vmem S3072x512 .bf16) (arg8 : Memref sig .tc .vmem S1x512 .f32) (arg19 : Memref sig .tc .vmem S512x2304 .bf16)
  (f1 : Bf (F := F) c arg1) (f2 : Bf (F := F) c arg2) (f3 : Bf (F := F) c arg3) (f4 : Bf (F := F) c arg4) (f5 : Bf (F := F) c arg5)
  (f6 : Bf (F := F) c arg6) (f7 : Bf (F := F) c arg7) (f8 : Bf (F := F) c arg8)
  (hstep : arg0.toNat < 150) (hmeta : ∀ x, arg2.view.read (Elt F) f2 x = (0#32 : BitVec 32)) (hgb : ∀ x, BitVec.toNat (arg1.view.read (Elt F) f1 x) < 200)

theorem tw8 (k : Fin 512) : bodyRun.sl.v9131 c arg0 arg1 arg2 arg6 f1 f2 f6 hstep hmeta hgb (ix2 0 k)
    = View.read (Elt F) arg6.view f6 (ix2 ⟨(gW (View.read (Elt F) arg1.view f1) arg0 (bodyRun.sl.r (F := F) c arg2 f2) 8).toNat % 224, Nat.mod_lt _ (by decide)⟩ k) := by
  have e : bodyRun.sl.r_415 c arg0 arg1 arg2 f1 f2 hstep hmeta = gW (View.read (Elt F) arg1.view f1) arg0 (bodyRun.sl.r c arg2 f2) 8 :=
    word_read c arg1 f1 arg0 (bodyRun.sl.r c arg2 f2) 0 8 _ rfl _ _
  have h : bodyRun.sl.v9131 c arg0 arg1 arg2 arg6 f1 f2 f6 hstep hmeta hgb (ix2 0 k) = View.read (Elt F) arg6.view f6 (ix2 ⟨(bodyRun.sl.r_415 c arg0 arg1 arg2 f1 f2 hstep hmeta).toNat % 224, Nat.mod_lt _ (by decide)⟩ k) :=
    row_read6 c arg6 f6 _ _ rfl _ k
  rw [h]; simp only [e]

theorem grp8 (q : Fin 16) (k : Fin 512) (r : Fin 512) (hr : r.val = 128 + q.val) :
    zRow (F := F) ![128, 0] slices_S256x512_o128_0_S16x512 (bodyRun.sl.r_402 c arg0 arg1 arg2 arg3 arg4 arg5 arg7 arg19 f1 f2 f3 f4 f5 f7 hstep hmeta hgb) (bodyRun.sl.v9131 c arg0 arg1 arg2 arg6 f1 f2 f6 hstep hmeta hgb) (View.readAt (Elt F) arg8.view (Rect.unit (s := S1x512) ![0, 0] S1x512.size inb_S1x512_S1x512_0_0).toLoadRect f8) (ix2 q k) = (actOf c arg0 arg1 arg2 arg3 arg4 arg5 arg6 arg7 arg8 arg19 f1 f2 f3 f4 f5 f6 f7 f8 hstep hmeta hgb) (ix2 r k) :=
  grpA _ _ _ _ _ 128 8 rfl (by decide) _ _ _ (tw8 c arg0 arg1 arg2 arg6 f1 f2 f6 hstep hmeta hgb) (row_read8 c arg8 f8 _) q k r hr

theorem tw9 (k : Fin 512) : bodyRun.sl.v9152 c arg0 arg1 arg2 arg6 f1 f2 f6 hstep hmeta hgb (ix2 0 k)
    = View.read (Elt F) arg6.view f6 (ix2 ⟨(gW (View.read (Elt F) arg1.view f1) arg0 (bodyRun.sl.r (F := F) c arg2 f2) 9).toNat % 224, Nat.mod_lt _ (by decide)⟩ k) := by
  have e : bodyRun.sl.r_417 c arg0 arg1 arg2 f1 f2 hstep hmeta = gW (View.read (Elt F) arg1.view f1) arg0 (bodyRun.sl.r c arg2 f2) 9 :=
    word_read c arg1 f1 arg0 (bodyRun.sl.r c arg2 f2) 0 9 _ rfl _ _
  have h : bodyRun.sl.v9152 c arg0 arg1 arg2 arg6 f1 f2 f6 hstep hmeta hgb (ix2 0 k) = View.read (Elt F) arg6.view f6 (ix2 ⟨(bodyRun.sl.r_417 c arg0 arg1 arg2 f1 f2 hstep hmeta).toNat % 224, Nat.mod_lt _ (by decide)⟩ k) :=
    row_read6 c arg6 f6 _ _ rfl _ k
  rw [h]; simp only [e]

theorem grp9 (q : Fin 16) (k : Fin 512) (r : Fin 512) (hr : r.val = 144 + q.val) :
    zRow (F := F) ![144, 0] slices_S256x512_o144_0_S16x512 (bodyRun.sl.r_402 c arg0 arg1 arg2 arg3 arg4 arg5 arg7 arg19 f1 f2 f3 f4 f5 f7 hstep hmeta hgb) (bodyRun.sl.v9152 c arg0 arg1 arg2 arg6 f1 f2 f6 hstep hmeta hgb) (View.readAt (Elt F) arg8.view (Rect.unit (s := S1x512) ![0, 0] S1x512.size inb_S1x512_S1x512_0_0).toLoadRect f8) (ix2 q k) = (actOf c arg0 arg1 arg2 arg3 arg4 arg5 arg6 arg7 arg8 arg19 f1 f2 f3 f4 f5 f6 f7 f8 hstep hmeta hgb) (ix2 r k) :=
  grpA _ _ _ _ _ 144 9 rfl (by decide) _ _ _ (tw9 c arg0 arg1 arg2 arg6 f1 f2 f6 hstep hmeta hgb) (row_read8 c arg8 f8 _) q k r hr

theorem act9 : ∀ y : S512x512.Idx, (y 0).val < 160 → View.canon (bodyRun.sl.H20_10 c arg0 arg1 arg2 arg3 arg4 arg5 arg6 arg7 arg8 arg19 f1 f2 f3 f4 f5 f6 f7 f8 hstep hmeta hgb) y = (actOf c arg0 arg1 arg2 arg3 arg4 arg5 arg6 arg7 arg8 arg19 f1 f2 f3 f4 f5 f6 f7 f8 hstep hmeta hgb) y :=
  act_step (actOf c arg0 arg1 arg2 arg3 arg4 arg5 arg6 arg7 arg8 arg19 f1 f2 f3 f4 f5 f6 f7 f8 hstep hmeta hgb) 144 (⟨Rect.unit (s := S512x512) ![128, 0] S16x512.size inb_S512x512_S16x512_128_0, (zRow (F := F) ![128, 0] slices_S256x512_o128_0_S16x512 (bodyRun.sl.r_402 c arg0 arg1 arg2 arg3 arg4 arg5 arg7 arg19 f1 f2 f3 f4 f5 f7 hstep hmeta hgb) (bodyRun.sl.v9131 c arg0 arg1 arg2 arg6 f1 f2 f6 hstep hmeta hgb) (View.readAt (Elt F) arg8.view (Rect.unit (s := S1x512) ![0, 0] S1x512.size inb_S1x512_S1x512_0_0).toLoadRect f8))⟩ :: bodyRun.sl.H20_8 c arg0 arg1 arg2 arg3 arg4 arg5 arg6 arg7 arg8 arg19 f1 f2 f3 f4 f5 f6 f7 f8 hstep hmeta hgb) (act_step (actOf c arg0 arg1 arg2 arg3 arg4 arg5 arg6 arg7 arg8 arg19 f1 f2 f3 f4 f5 f6 f7 f8 hstep hmeta hgb) 128 (bodyRun.sl.H20_8 c arg0 arg1 arg2 arg3 arg4 arg5 arg6 arg7 arg8 arg19 f1 f2 f3 f4 f5 f6 f7 f8 hstep hmeta hgb) (act7 c arg0 arg1 arg2 arg3 arg4 arg5 arg6 arg7 arg8 arg19 f1 f2 f3 f4 f5 f6 f7 f8 hstep hmeta hgb) inb_S512x512_S16x512_128_0 (zRow (F := F) ![128, 0] slices_S256x512_o128_0_S16x512 (bodyRun.sl.r_402 c arg0 arg1 arg2 arg3 arg4 arg5 arg7 arg19 f1 f2 f3 f4 f5 f7 hstep hmeta hgb) (bodyRun.sl.v9131 c arg0 arg1 arg2 arg6 f1 f2 f6 hstep hmeta hgb) (View.readAt (Elt F) arg8.view (Rect.unit (s := S1x512) ![0, 0] S1x512.size inb_S1x512_S1x512_0_0).toLoadRect f8)) (grp8 c arg0 arg1 arg2 arg3 arg4 arg5 arg6 arg7 arg8 arg19 f1 f2 f3 f4 f5 f6 f7 f8 hstep hmeta hgb))
    inb_S512x512_S16x512_144_0 (zRow (F := F) ![144, 0] slices_S256x512_o144_0_S16x512 (bodyRun.sl.r_402 c arg0 arg1 arg2 arg3 arg4 arg5 arg7 arg19 f1 f2 f3 f4 f5 f7 hstep hmeta hgb) (bodyRun.sl.v9152 c arg0 arg1 arg2 arg6 f1 f2 f6 hstep hmeta hgb) (View.readAt (Elt F) arg8.view (Rect.unit (s := S1x512) ![0, 0] S1x512.size inb_S1x512_S1x512_0_0).toLoadRect f8)) (grp9 c arg0 arg1 arg2 arg3 arg4 arg5 arg6 arg7 arg8 arg19 f1 f2 f3 f4 f5 f6 f7 f8 hstep hmeta hgb)

theorem tw10 (k : Fin 512) : bodyRun.sl.v9173 c arg0 arg1 arg2 arg6 f1 f2 f6 hstep hmeta hgb (ix2 0 k)
    = View.read (Elt F) arg6.view f6 (ix2 ⟨(gW (View.read (Elt F) arg1.view f1) arg0 (bodyRun.sl.r (F := F) c arg2 f2) 10).toNat % 224, Nat.mod_lt _ (by decide)⟩ k) := by
  have e : bodyRun.sl.r_418 c arg0 arg1 arg2 f1 f2 hstep hmeta = gW (View.read (Elt F) arg1.view f1) arg0 (bodyRun.sl.r c arg2 f2) 10 :=
    word_read c arg1 f1 arg0 (bodyRun.sl.r c arg2 f2) 0 10 _ rfl _ _
  have h : bodyRun.sl.v9173 c arg0 arg1 arg2 arg6 f1 f2 f6 hstep hmeta hgb (ix2 0 k) = View.read (Elt F) arg6.view f6 (ix2 ⟨(bodyRun.sl.r_418 c arg0 arg1 arg2 f1 f2 hstep hmeta).toNat % 224, Nat.mod_lt _ (by decide)⟩ k) :=
    row_read6 c arg6 f6 _ _ rfl _ k
  rw [h]; simp only [e]

theorem grp10 (q : Fin 16) (k : Fin 512) (r : Fin 512) (hr : r.val = 160 + q.val) :
    zRow (F := F) ![160, 0] slices_S256x512_o160_0_S16x512 (bodyRun.sl.r_402 c arg0 arg1 arg2 arg3 arg4 arg5 arg7 arg19 f1 f2 f3 f4 f5 f7 hstep hmeta hgb) (bodyRun.sl.v9173 c arg0 arg1 arg2 arg6 f1 f2 f6 hstep hmeta hgb) (View.readAt (Elt F) arg8.view (Rect.unit (s := S1x512) ![0, 0] S1x512.size inb_S1x512_S1x512_0_0).toLoadRect f8) (ix2 q k) = (actOf c arg0 arg1 arg2 arg3 arg4 arg5 arg6 arg7 arg8 arg19 f1 f2 f3 f4 f5 f6 f7 f8 hstep hmeta hgb) (ix2 r k) :=
  grpA _ _ _ _ _ 160 10 rfl (by decide) _ _ _ (tw10 c arg0 arg1 arg2 arg6 f1 f2 f6 hstep hmeta hgb) (row_read8 c arg8 f8 _) q k r hr

theorem tw11 (k : Fin 512) : bodyRun.sl.v9194 c arg0 arg1 arg2 arg6 f1 f2 f6 hstep hmeta hgb (ix2 0 k)
    = View.read (Elt F) arg6.view f6 (ix2 ⟨(gW (View.read (Elt F) arg1.view f1) arg0 (bodyRun.sl.r (F := F) c arg2 f2) 11).toNat % 224, Nat.mod_lt _ (by decide)⟩ k) := by
  have e : bodyRun.sl.r_420 c arg0 arg1 arg2 f1 f2 hstep hmeta = gW (View.read (Elt F) arg1.view f1) arg0 (bodyRun.sl.r c arg2 f2) 11 :=
    word_read c arg1 f1 arg0 (bodyRun.sl.r c arg2 f2) 0 11 _ rfl _ _
  have h : bodyRun.sl.v9194 c arg0 arg1 arg2 arg6 f1 f2 f6 hstep hmeta hgb (ix2 0 k) = View.read (Elt F) arg6.view f6 (ix2 ⟨(bodyRun.sl.r_420 c arg0 arg1 arg2 f1 f2 hstep hmeta).toNat % 224, Nat.mod_lt _ (by decide)⟩ k) :=
    row_read6 c arg6 f6 _ _ rfl _ k
  rw [h]; simp only [e]

theorem grp11 (q : Fin 16) (k : Fin 512) (r : Fin 512) (hr : r.val = 176 + q.val) :
    zRow (F := F) ![176, 0] slices_S256x512_o176_0_S16x512 (bodyRun.sl.r_402 c arg0 arg1 arg2 arg3 arg4 arg5 arg7 arg19 f1 f2 f3 f4 f5 f7 hstep hmeta hgb) (bodyRun.sl.v9194 c arg0 arg1 arg2 arg6 f1 f2 f6 hstep hmeta hgb) (View.readAt (Elt F) arg8.view (Rect.unit (s := S1x512) ![0, 0] S1x512.size inb_S1x512_S1x512_0_0).toLoadRect f8) (ix2 q k) = (actOf c arg0 arg1 arg2 arg3 arg4 arg5 arg6 arg7 arg8 arg19 f1 f2 f3 f4 f5 f6 f7 f8 hstep hmeta hgb) (ix2 r k) :=
  grpA _ _ _ _ _ 176 11 rfl (by decide) _ _ _ (tw11 c arg0 arg1 arg2 arg6 f1 f2 f6 hstep hmeta hgb) (row_read8 c arg8 f8 _) q k r hr

theorem act11 : ∀ y : S512x512.Idx, (y 0).val < 192 → View.canon (bodyRun.sl.H20_12 c arg0 arg1 arg2 arg3 arg4 arg5 arg6 arg7 arg8 arg19 f1 f2 f3 f4 f5 f6 f7 f8 hstep hmeta hgb) y = (actOf c arg0 arg1 arg2 arg3 arg4 arg5 arg6 arg7 arg8 arg19 f1 f2 f3 f4 f5 f6 f7 f8 hstep hmeta hgb) y :=
  act_step (actOf c arg0 arg1 arg2 arg3 arg4 arg5 arg6 arg7 arg8 arg19 f1 f2 f3 f4 f5 f6 f7 f8 hstep hmeta hgb) 176 (⟨Rect.unit (s := S512x512) ![160, 0] S16x512.size inb_S512x512_S16x512_160_0, (zRow (F := F) ![160, 0] slices_S256x512_o160_0_S16x512 (bodyRun.sl.r_402 c arg0 arg1 arg2 arg3 arg4 arg5 arg7 arg19 f1 f2 f3 f4 f5 f7 hstep hmeta hgb) (bodyRun.sl.v9173 c arg0 arg1 arg2 arg6 f1 f2 f6 hstep hmeta hgb) (View.readAt (Elt F) arg8.view (Rect.unit (s := S1x512) ![0, 0] S1x512.size inb_S1x512_S1x512_0_0).toLoadRect f8))⟩ :: bodyRun.sl.H20_10 c arg0 arg1 arg2 arg3 arg4 arg5 arg6 arg7 arg8 arg19 f1 f2 f3 f4 f5 f6 f7 f8 hstep hmeta hgb) (act_step (actOf c arg0 arg1 arg2 arg3 arg4 arg5 arg6 arg7 arg8 arg19 f1 f2 f3 f4 f5 f6 f7 f8 hstep hmeta hgb) 160 (bodyRun.sl.H20_10 c arg0 arg1 arg2 arg3 arg4 arg5 arg6 arg7 arg8 arg19 f1 f2 f3 f4 f5 f6 f7 f8 hstep hmeta hgb) (act9 c arg0 arg1 arg2 arg3 arg4 arg5 arg6 arg7 arg8 arg19 f1 f2 f3 f4 f5 f6 f7 f8 hstep hmeta hgb) inb_S512x512_S16x512_160_0 (zRow (F := F) ![160, 0] slices_S256x512_o160_0_S16x512 (bodyRun.sl.r_402 c arg0 arg1 arg2 arg3 arg4 arg5 arg7 arg19 f1 f2 f3 f4 f5 f7 hstep hmeta hgb) (bodyRun.sl.v9173 c arg0 arg1 arg2 arg6 f1 f2 f6 hstep hmeta hgb) (View.readAt (Elt F) arg8.view (Rect.unit (s := S1x512) ![0, 0] S1x512.size inb_S1x512_S1x512_0_0).toLoadRect f8)) (grp10 c arg0 arg1 arg2 arg3 arg4 arg5 arg6 arg7 arg8 arg19 f1 f2 f3 f4 f5 f6 f7 f8 hstep hmeta hgb))
    inb_S512x512_S16x512_176_0 (zRow (F := F) ![176, 0] slices_S256x512_o176_0_S16x512 (bodyRun.sl.r_402 c arg0 arg1 arg2 arg3 arg4 arg5 arg7 arg19 f1 f2 f3 f4 f5 f7 hstep hmeta hgb) (bodyRun.sl.v9194 c arg0 arg1 arg2 arg6 f1 f2 f6 hstep hmeta hgb) (View.readAt (Elt F) arg8.view (Rect.unit (s := S1x512) ![0, 0] S1x512.size inb_S1x512_S1x512_0_0).toLoadRect f8)) (grp11 c arg0 arg1 arg2 arg3 arg4 arg5 arg6 arg7 arg8 arg19 f1 f2 f3 f4 f5 f6 f7 f8 hstep hmeta hgb)

theorem tw12 (k : Fin 512) : bodyRun.sl.v9215 c arg0 arg1 arg2 arg6 f1 f2 f6 hstep hmeta hgb (ix2 0 k)
    = View.read (Elt F) arg6.view f6 (ix2 ⟨(gW (View.read (Elt F) arg1.view f1) arg0 (bodyRun.sl.r (F := F) c arg2 f2) 12).toNat % 224, Nat.mod_lt _ (by decide)⟩ k) := by
  have e : bodyRun.sl.r_421 c arg0 arg1 arg2 f1 f2 hstep hmeta = gW (View.read (Elt F) arg1.view f1) arg0 (bodyRun.sl.r c arg2 f2) 12 :=
    word_read c arg1 f1 arg0 (bodyRun.sl.r c arg2 f2) 0 12 _ rfl _ _
  have h : bodyRun.sl.v9215 c arg0 arg1 arg2 arg6 f1 f2 f6 hstep hmeta hgb (ix2 0 k) = View.read (Elt F) arg6.view f6 (ix2 ⟨(bodyRun.sl.r_421 c arg0 arg1 arg2 f1 f2 hstep hmeta).toNat % 224, Nat.mod_lt _ (by decide)⟩ k) :=
    row_read6 c arg6 f6 _ _ rfl _ k
  rw [h]; simp only [e]

theorem grp12 (q : Fin 16) (k : Fin 512) (r : Fin 512) (hr : r.val = 192 + q.val) :
    zRow (F := F) ![192, 0] slices_S256x512_o192_0_S16x512 (bodyRun.sl.r_402 c arg0 arg1 arg2 arg3 arg4 arg5 arg7 arg19 f1 f2 f3 f4 f5 f7 hstep hmeta hgb) (bodyRun.sl.v9215 c arg0 arg1 arg2 arg6 f1 f2 f6 hstep hmeta hgb) (View.readAt (Elt F) arg8.view (Rect.unit (s := S1x512) ![0, 0] S1x512.size inb_S1x512_S1x512_0_0).toLoadRect f8) (ix2 q k) = (actOf c arg0 arg1 arg2 arg3 arg4 arg5 arg6 arg7 arg8 arg19 f1 f2 f3 f4 f5 f6 f7 f8 hstep hmeta hgb) (ix2 r k) :=
  grpA _ _ _ _ _ 192 12 rfl (by decide) _ _ _ (tw12 c arg0 arg1 arg2 arg6 f1 f2 f6 hstep hmeta hgb) (row_read8 c arg8 f8 _) q k r hr

theorem tw13 (k : Fin 512) : bodyRun.sl.v9236 c arg0 arg1 arg2 arg6 f1 f2 f6 hstep hmeta hgb (ix2 0 k)
    = View.read (Elt F) arg6.view f6 (ix2 ⟨(gW (View.read (Elt F) arg1.view f1) arg0 (bodyRun.sl.r (F := F) c arg2 f2) 13).toNat % 224, Nat.mod_lt _ (by decide)⟩ k) := by
  have e : bodyRun.sl.r_422 c arg0 arg1 arg2 f1 f2 hstep hmeta = gW (View.read (Elt F) arg1.view f1) arg0 (bodyRun.sl.r c arg2 f2) 13 :=
    word_read c arg1 f1 arg0 (bodyRun.sl.r c arg2 f2) 0 13 _ rfl _ _
  have h : bodyRun.sl.v9236 c arg0 arg1 arg2 arg6 f1 f2 f6 hstep hmeta hgb (ix2 0 k) = View.read (Elt F) arg6.view f6 (ix2 ⟨(bodyRun.sl.r_422 c arg0 arg1 arg2 f1 f2 hstep hmeta).toNat % 224, Nat.mod_lt _ (by decide)⟩ k) :=
    row_read6 c arg6 f6 _ _ rfl _ k
  rw [h]; simp only [e]

theorem grp13 (q : Fin 16) (k : Fin 512) (r : Fin 512) (hr : r.val = 208 + q.val) :
    zRow (F := F) ![208, 0] slices_S256x512_o208_0_S16x512 (bodyRun.sl.r_402 c arg0 arg1 arg2 arg3 arg4 arg5 arg7 arg19 f1 f2 f3 f4 f5 f7 hstep hmeta hgb) (bodyRun.sl.v9236 c arg0 arg1 arg2 arg6 f1 f2 f6 hstep hmeta hgb) (View.readAt (Elt F) arg8.view (Rect.unit (s := S1x512) ![0, 0] S1x512.size inb_S1x512_S1x512_0_0).toLoadRect f8) (ix2 q k) = (actOf c arg0 arg1 arg2 arg3 arg4 arg5 arg6 arg7 arg8 arg19 f1 f2 f3 f4 f5 f6 f7 f8 hstep hmeta hgb) (ix2 r k) :=
  grpA _ _ _ _ _ 208 13 rfl (by decide) _ _ _ (tw13 c arg0 arg1 arg2 arg6 f1 f2 f6 hstep hmeta hgb) (row_read8 c arg8 f8 _) q k r hr

theorem act13 : ∀ y : S512x512.Idx, (y 0).val < 224 → View.canon (bodyRun.sl.H20_14 c arg0 arg1 arg2 arg3 arg4 arg5 arg6 arg7 arg8 arg19 f1 f2 f3 f4 f5 f6 f7 f8 hstep hmeta hgb) y = (actOf c arg0 arg1 arg2 arg3 arg4 arg5 arg6 arg7 arg8 arg19 f1 f2 f3 f4 f5 f6 f7 f8 hstep hmeta hgb) y :=
  act_step (actOf c arg0 arg1 arg2 arg3 arg4 arg5 arg6 arg7 arg8 arg19 f1 f2 f3 f4 f5 f6 f7 f8 hstep hmeta hgb) 208 (⟨Rect.unit (s := S512x512) ![192, 0] S16x512.size inb_S512x512_S16x512_192_0, (zRow (F := F) ![192, 0] slices_S256x512_o192_0_S16x512 (bodyRun.sl.r_402 c arg0 arg1 arg2 arg3 arg4 arg5 arg7 arg19 f1 f2 f3 f4 f5 f7 hstep hmeta hgb) (bodyRun.sl.v9215 c arg0 arg1 arg2 arg6 f1 f2 f6 hstep hmeta hgb) (View.readAt (Elt F) arg8.view (Rect.unit (s := S1x512) ![0, 0] S1x512.size inb_S1x512_S1x512_0_0).toLoadRect f8))⟩ :: bodyRun.sl.H20_12 c arg0 arg1 arg2 arg3 arg4 arg5 arg6 arg7 arg8 arg19 f1 f2 f3 f4 f5 f6 f7 f8 hstep hmeta hgb) (act_step (actOf c arg0 arg1 arg2 arg3 arg4 arg5 arg6 arg7 arg8 arg19 f1 f2 f3 f4 f5 f6 f7 f8 hstep hmeta hgb) 192 (bodyRun.sl.H20_12 c arg0 arg1 arg2 arg3 arg4 arg5 arg6 arg7 arg8 arg19 f1 f2 f3 f4 f5 f6 f7 f8 hstep hmeta hgb) (act11 c arg0 arg1 arg2 arg3 arg4 arg5 arg6 arg7 arg8 arg19 f1 f2 f3 f4 f5 f6 f7 f8 hstep hmeta hgb) inb_S512x512_S16x512_192_0 (zRow (F := F) ![192, 0] slices_S256x512_o192_0_S16x512 (bodyRun.sl.r_402 c arg0 arg1 arg2 arg3 arg4 arg5 arg7 arg19 f1 f2 f3 f4 f5 f7 hstep hmeta hgb) (bodyRun.sl.v9215 c arg0 arg1 arg2 arg6 f1 f2 f6 hstep hmeta hgb) (View.readAt (Elt F) arg8.view (Rect.unit (s := S1x512) ![0, 0] S1x512.size inb_S1x512_S1x512_0_0).toLoadRect f8)) (grp12 c arg0 arg1 arg2 arg3 arg4 arg5 arg6 arg7 arg8 arg19 f1 f2 f3 f4 f5 f6 f7 f8 hstep hmeta hgb))
    inb_S512x512_S16x512_208_0 (zRow (F := F) ![208, 0] slices_S256x512_o208_0_S16x512 (bodyRun.sl.r_402 c arg0 arg1 arg2 arg3 arg4 arg5 arg7 arg19 f1 f2 f3 f4 f5 f7 hstep hmeta hgb) (bodyRun.sl.v9236 c arg0 arg1 arg2 arg6 f1 f2 f6 hstep hmeta hgb) (View.readAt (Elt F) arg8.view (Rect.unit (s := S1x512) ![0, 0] S1x512.size inb_S1x512_S1x512_0_0).toLoadRect f8)) (grp13 c arg0 arg1 arg2 arg3 arg4 arg5 arg6 arg7 arg8 arg19 f1 f2 f3 f4 f5 f6 f7 f8 hstep hmeta hgb)

theorem tw14 (k : Fin 512) : bodyRun.sl.v9257 c arg0 arg1 arg2 arg6 f1 f2 f6 hstep hmeta hgb (ix2 0 k)
    = View.read (Elt F) arg6.view f6 (ix2 ⟨(gW (View.read (Elt F) arg1.view f1) arg0 (bodyRun.sl.r (F := F) c arg2 f2) 14).toNat % 224, Nat.mod_lt _ (by decide)⟩ k) := by
  have e : bodyRun.sl.r_423 c arg0 arg1 arg2 f1 f2 hstep hmeta = gW (View.read (Elt F) arg1.view f1) arg0 (bodyRun.sl.r c arg2 f2) 14 :=
    word_read c arg1 f1 arg0 (bodyRun.sl.r c arg2 f2) 0 14 _ rfl _ _
  have h : bodyRun.sl.v9257 c arg0 arg1 arg2 arg6 f1 f2 f6 hstep hmeta hgb (ix2 0 k) = View.read (Elt F) arg6.view f6 (ix2 ⟨(bodyRun.sl.r_423 c arg0 arg1 arg2 f1 f2 hstep hmeta).toNat % 224, Nat.mod_lt _ (by decide)⟩ k) :=
    row_read6 c arg6 f6 _ _ rfl _ k
  rw [h]; simp only [e]

theorem grp14 (q : Fin 16) (k : Fin 512) (r : Fin 512) (hr : r.val = 224 + q.val) :
    zRow (F := F) ![224, 0] slices_S256x512_o224_0_S16x512 (bodyRun.sl.r_402 c arg0 arg1 arg2 arg3 arg4 arg5 arg7 arg19 f1 f2 f3 f4 f5 f7 hstep hmeta hgb) (bodyRun.sl.v9257 c arg0 arg1 arg2 arg6 f1 f2 f6 hstep hmeta hgb) (View.readAt (Elt F) arg8.view (Rect.unit (s := S1x512) ![0, 0] S1x512.size inb_S1x512_S1x512_0_0).toLoadRect f8) (ix2 q k) = (actOf c arg0 arg1 arg2 arg3 arg4 arg5 arg6 arg7 arg8 arg19 f1 f2 f3 f4 f5 f6 f7 f8 hstep hmeta hgb) (ix2 r k) :=
  grpA _ _ _ _ _ 224 14 rfl (by decide) _ _ _ (tw14 c arg0 arg1 arg2 arg6 f1 f2 f6 hstep hmeta hgb) (row_read8 c arg8 f8 _) q k r hr

theorem tw15 (k : Fin 512) : bodyRun.sl.v9278 c arg0 arg1 arg2 arg6 f1 f2 f6 hstep hmeta hgb (ix2 0 k)
    = View.read (Elt F) arg6.view f6 (ix2 ⟨(gW (View.read (Elt F) arg1.view f1) arg0 (bodyRun.sl.r (F := F) c arg2 f2) 15).toNat % 224, Nat.mod_lt _ (by decide)⟩ k) := by
  have e : bodyRun.sl.r_424 c arg0 arg1 arg2 f1 f2 hstep hmeta = gW (View.read (Elt F) arg1.view f1) arg0 (bodyRun.sl.r c arg2 f2) 15 :=
    word_read c arg1 f1 arg0 (bodyRun.sl.r c arg2 f2) 0 15 _ rfl _ _
  have h : bodyRun.sl.v9278 c arg0 arg1 arg2 arg6 f1 f2 f6 hstep hmeta hgb (ix2 0 k) = View.read (Elt F) arg6.view f6 (ix2 ⟨(bodyRun.sl.r_424 c arg0 arg1 arg2 f1 f2 hstep hmeta).toNat % 224, Nat.mod_lt _ (by decide)⟩ k) :=
    row_read6 c arg6 f6 _ _ rfl _ k
  rw [h]; simp only [e]

theorem grp15 (q : Fin 16) (k : Fin 512) (r : Fin 512) (hr : r.val = 240 + q.val) :
    zRow (F := F) ![240, 0] slices_S256x512_o240_0_S16x512 (bodyRun.sl.r_402 c arg0 arg1 arg2 arg3 arg4 arg5 arg7 arg19 f1 f2 f3 f4 f5 f7 hstep hmeta hgb) (bodyRun.sl.v9278 c arg0 arg1 arg2 arg6 f1 f2 f6 hstep hmeta hgb) (View.readAt (Elt F) arg8.view (Rect.unit (s := S1x512) ![0, 0] S1x512.size inb_S1x512_S1x512_0_0).toLoadRect f8) (ix2 q k) = (actOf c arg0 arg1 arg2 arg3 arg4 arg5 arg6 arg7 arg8 arg19 f1 f2 f3 f4 f5 f6 f7 f8 hstep hmeta hgb) (ix2 r k) :=
  grpA _ _ _ _ _ 240 15 rfl (by decide) _ _ _ (tw15 c arg0 arg1 arg2 arg6 f1 f2 f6 hstep hmeta hgb) (row_read8 c arg8 f8 _) q k r hr

theorem act15 : ∀ y : S512x512.Idx, (y 0).val < 256 → View.canon (bodyRun.sl.H20_16 c arg0 arg1 arg2 arg3 arg4 arg5 arg6 arg7 arg8 arg19 f1 f2 f3 f4 f5 f6 f7 f8 hstep hmeta hgb) y = (actOf c arg0 arg1 arg2 arg3 arg4 arg5 arg6 arg7 arg8 arg19 f1 f2 f3 f4 f5 f6 f7 f8 hstep hmeta hgb) y :=
  act_step (actOf c arg0 arg1 arg2 arg3 arg4 arg5 arg6 arg7 arg8 arg19 f1 f2 f3 f4 f5 f6 f7 f8 hstep hmeta hgb) 240 (⟨Rect.unit (s := S512x512) ![224, 0] S16x512.size inb_S512x512_S16x512_224_0, (zRow (F := F) ![224, 0] slices_S256x512_o224_0_S16x512 (bodyRun.sl.r_402 c arg0 arg1 arg2 arg3 arg4 arg5 arg7 arg19 f1 f2 f3 f4 f5 f7 hstep hmeta hgb) (bodyRun.sl.v9257 c arg0 arg1 arg2 arg6 f1 f2 f6 hstep hmeta hgb) (View.readAt (Elt F) arg8.view (Rect.unit (s := S1x512) ![0, 0] S1x512.size inb_S1x512_S1x512_0_0).toLoadRect f8))⟩ :: bodyRun.sl.H20_14 c arg0 arg1 arg2 arg3 arg4 arg5 arg6 arg7 arg8 arg19 f1 f2 f3 f4 f5 f6 f7 f8 hstep hmeta hgb) (act_step (actOf c arg0 arg1 arg2 arg3 arg4 arg5 arg6 arg7 arg8 arg19 f1 f2 f3 f4 f5 f6 f7 f8 hstep hmeta hgb) 224 (bodyRun.sl.H20_14 c arg0 arg1 arg2 arg3 arg4 arg5 arg6 arg7 arg8 arg19 f1 f2 f3 f4 f5 f6 f7 f8 hstep hmeta hgb) (act13 c arg0 arg1 arg2 arg3 arg4 arg5 arg6 arg7 arg8 arg19 f1 f2 f3 f4 f5 f6 f7 f8 hstep hmeta hgb) inb_S512x512_S16x512_224_0 (zRow (F := F) ![224, 0] slices_S256x512_o224_0_S16x512 (bodyRun.sl.r_402 c arg0 arg1 arg2 arg3 arg4 arg5 arg7 arg19 f1 f2 f3 f4 f5 f7 hstep hmeta hgb) (bodyRun.sl.v9257 c arg0 arg1 arg2 arg6 f1 f2 f6 hstep hmeta hgb) (View.readAt (Elt F) arg8.view (Rect.unit (s := S1x512) ![0, 0] S1x512.size inb_S1x512_S1x512_0_0).toLoadRect f8)) (grp14 c arg0 arg1 arg2 arg3 arg4 arg5 arg6 arg7 arg8 arg19 f1 f2 f3 f4 f5 f6 f7 f8 hstep hmeta hgb))
    inb_S512x512_S16x512_240_0 (zRow (F := F) ![240, 0] slices_S256x512_o240_0_S16x512 (bodyRun.sl.r_402 c arg0 arg1 arg2 arg3 arg4 arg5 arg7 arg19 f1 f2 f3 f4 f5 f7 hstep hmeta hgb) (bodyRun.sl.v9278 c arg0 arg1 arg2 arg6 f1 f2 f6 hstep hmeta hgb) (View.readAt (Elt F) arg8.view (Rect.unit (s := S1x512) ![0, 0] S1x512.size inb_S1x512_S1x512_0_0).toLoadRect f8)) (grp15 c arg0 arg1 arg2 arg3 arg4 arg5 arg6 arg7 arg8 arg19 f1 f2 f3 f4 f5 f6 f7 f8 hstep hmeta hgb)

end Cert.Proof.KernelIdeal

end
-- ==== Proof.ActC.lean ====
/-
  Groups 16 to 23.
-/
module

public import proofs.«01_k».proof.Proof.ActB

@[expose] public section

noncomputable section

namespace Cert.Proof.KernelIdeal

open Cert.KernelIdeal Cert.KernelIdeal.Gen
open Idealize.ShloMosaic
open Cert.KernelIdeal.Facts

variable {F : FTy → Type} [FloatOps F]
variable (c : Dev nD) (arg0 : BitVec 32)
  (arg1 : Memref sig .tc .smem S4800 .i32) (arg2 : Memref sig .tc .smem S1 .i32) (arg3 : Memref sig .tc .vmem S16x6x8x128 .i32)
  (arg4 : Memref sig .tc .vmem S16x2x128 .i32) (arg5 : Memref sig .tc .vmem S224x768 .i32) (arg6 : Memref sig .tc .vmem S224x512 .f32)
  (arg7 : Memref sig .tc .vmem S3072x512 .bf16) (arg8 : Memref sig .tc .vmem S1x512 .f32) (arg19 : Memref sig .tc .vmem S512x2304 .bf16)
  (f1 : Bf (F := F) c arg1) (f2 : Bf (F := F) c arg2) (f3 : Bf (F := F) c arg3) (f4 : Bf (F := F) c arg4) (f5 : Bf (F := F) c arg5)
  (f6 : Bf (F := F) c arg6) (f7 : Bf (F := F) c arg7) (f8 : Bf (F := F) c arg8)
  (hstep : arg0.toNat < 150) (hmeta : ∀ x, arg2.view.read (Elt F) f2 x = (0#32 : BitVec 32)) (hgb : ∀ x, BitVec.toNat (arg1.view.read (Elt F) f1 x) < 200)

theorem tw16 (k : Fin 512) : bodyRun.sl.v9306 c arg0 arg1 arg2 arg6 f1 f2 f6 hstep hmeta hgb (ix2 0 k)
    = View.read (Elt F) arg6.view f6 (ix2 ⟨(gW (View.read (Elt F) arg1.view f1) arg0 (bodyRun.sl.r (F := F) c arg2 f2) 16).toNat % 224, Nat.mod_lt _ (by decide)⟩ k) := by
  have e : bodyRun.sl.r_425 c arg0 arg1 arg2 f1 f2 hstep hmeta = gW (View.read (Elt F) arg1.view f1) arg0 (bodyRun.sl.r c arg2 f2) 16 :=
    word_read c arg1 f1 arg0 (bodyRun.sl.r c arg2 f2) 16 0 _ rfl _ _
  have h : bodyRun.sl.v9306 c arg0 arg1 arg2 arg6 f1 f2 f6 hstep hmeta hgb (ix2 0 k) = View.read (Elt F) arg6.view f6 (ix2 ⟨(bodyRun.sl.r_425 c arg0 arg1 arg2 f1 f2 hstep hmeta).toNat % 224, Nat.mod_lt _ (by decide)⟩ k) :=
    row_read6 c arg6 f6 _ _ rfl _ k
  rw [h]; simp only [e]

theorem grp16 (q : Fin 16) (k : Fin 512) (r : Fin 512) (hr : r.val = 256 + q.val) :
    zRow (F := F) ![0, 0] slices_S256x512_o0_0_S16x512 (bodyRun.sl.r_427 c arg0 arg1 arg2 arg3 arg4 arg5 arg7 arg19 f1 f2 f3 f4 f5 f7 hstep hmeta hgb) (bodyRun.sl.v9306 c arg0 arg1 arg2 arg6 f1 f2 f6 hstep hmeta hgb) (View.readAt (Elt F) arg8.view (Rect.unit (s := S1x512) ![0, 0] S1x512.size inb_S1x512_S1x512_0_0).toLoadRect f8) (ix2 q k) = (actOf c arg0 arg1 arg2 arg3 arg4 arg5 arg6 arg7 arg8 arg19 f1 f2 f3 f4 f5 f6 f7 f8 hstep hmeta hgb) (ix2 r k) :=
  grpB _ _ _ _ _ 256 0 16 rfl rfl _ _ _ (tw16 c arg0 arg1 arg2 arg6 f1 f2 f6 hstep hmeta hgb) (row_read8 c arg8 f8 _) q k r hr

theorem act16 : ∀ y : S512x512.Idx, (y 0).val < 272 → View.canon (bodyRun.sl.H20_17 c arg0 arg1 arg2 arg3 arg4 arg5 arg6 arg7 arg8 arg19 f1 f2 f3 f4 f5 f6 f7 f8 hstep hmeta hgb) y = (actOf c arg0 arg1 arg2 arg3 arg4 arg5 arg6 arg7 arg8 arg19 f1 f2 f3 f4 f5 f6 f7 f8 hstep hmeta hgb) y :=
  act_step (actOf c arg0 arg1 arg2 arg3 arg4 arg5 arg6 arg7 arg8 arg19 f1 f2 f3 f4 f5 f6 f7 f8 hstep hmeta hgb) 256 (bodyRun.sl.H20_16 c arg0 arg1 arg2 arg3 arg4 arg5 arg6 arg7 arg8 arg19 f1 f2 f3 f4 f5 f6 f7 f8 hstep hmeta hgb) (act15 c arg0 arg1 arg2 arg3 arg4 arg5 arg6 arg7 arg8 arg19 f1 f2 f3 f4 f5 f6 f7 f8 hstep hmeta hgb)
    inb_S512x512_S16x512_256_0 (zRow (F := F) ![0, 0] slices_S256x512_o0_0_S16x512 (bodyRun.sl.r_427 c arg0 arg1 arg2 arg3 arg4 arg5 arg7 arg19 f1 f2 f3 f4 f5 f7 hstep hmeta hgb) (bodyRun.sl.v9306 c arg0 arg1 arg2 arg6 f1 f2 f6 hstep hmeta hgb) (View.readAt (Elt F) arg8.view (Rect.unit (s := S1x512) ![0, 0] S1x512.size inb_S1x512_S1x512_0_0).toLoadRect f8)) (grp16 c arg0 arg1 arg2 arg3 arg4 arg5 arg6 arg7 arg8 arg19 f1 f2 f3 f4 f5 f6 f7 f8 hstep hmeta hgb)

theorem tw17 (k : Fin 512) : bodyRun.sl.v9327 c arg0 arg1 arg2 arg6 f1 f2 f6 hstep hmeta hgb (ix2 0 k)
    = View.read (Elt F) arg6.view f6 (ix2 ⟨(gW (View.read (Elt F) arg1.view f1) arg0 (bodyRun.sl.r (F := F) c arg2 f2) 17).toNat % 224, Nat.mod_lt _ (by decide)⟩ k) := by
  have e : bodyRun.sl.r_426 c arg0 arg1 arg2 f1 f2 hstep hmeta = gW (View.read (Elt F) arg1.view f1) arg0 (bodyRun.sl.r c arg2 f2) 17 :=
    word_read c arg1 f1 arg0 (bodyRun.sl.r c arg2 f2) 16 1 _ rfl _ _
  have h : bodyRun.sl.v9327 c arg0 arg1 arg2 arg6 f1 f2 f6 hstep hmeta hgb (ix2 0 k) = View.read (Elt F) arg6.view f6 (ix2 ⟨(bodyRun.sl.r_426 c arg0 arg1 arg2 f1 f2 hstep hmeta).toNat % 224, Nat.mod_lt _ (by decide)⟩ k) :=
    row_read6 c arg6 f6 _ _ rfl _ k
  rw [h]; simp only [e]

theorem grp17 (q : Fin 16) (k : Fin 512) (r : Fin 512) (hr : r.val = 272 + q.val) :
    zRow (F := F) ![16, 0] slices_S256x512_o16_0_S16x512 (bodyRun.sl.r_427 c arg0 arg1 arg2 arg3 arg4 arg5 arg7 arg19 f1 f2 f3 f4 f5 f7 hstep hmeta hgb) (bodyRun.sl.v9327 c arg0 arg1 arg2 arg6 f1 f2 f6 hstep hmeta hgb) (View.readAt (Elt F) arg8.view (Rect.unit (s := S1x512) ![0, 0] S1x512.size inb_S1x512_S1x512_0_0).toLoadRect f8) (ix2 q k) = (actOf c arg0 arg1 arg2 arg3 arg4 arg5 arg6 arg7 arg8 arg19 f1 f2 f3 f4 f5 f6 f7 f8 hstep hmeta hgb) (ix2 r k) :=
  grpB _ _ _ _ _ 272 16 17 rfl rfl _ _ _ (tw17 c arg0 arg1 arg2 arg6 f1 f2 f6 hstep hmeta hgb) (row_read8 c arg8 f8 _) q k r hr

theorem tw18 (k : Fin 512) : bodyRun.sl.v9348 c arg0 arg1 arg2 arg6 f1 f2 f6 hstep hmeta hgb (ix2 0 k)
    = View.read (Elt F) arg6.view f6 (ix2 ⟨(gW (View.read (Elt F) arg1.view f1) arg0 (bodyRun.sl.r (F := F) c arg2 f2) 18).toNat % 224, Nat.mod_lt _ (by decide)⟩ k) := by
  have e : bodyRun.sl.r_429 c arg0 arg1 arg2 f1 f2 hstep hmeta = gW (View.read (Elt F) arg1.view f1) arg0 (bodyRun.sl.r c arg2 f2) 18 :=
    word_read c arg1 f1 arg0 (bodyRun.sl.r c arg2 f2) 16 2 _ rfl _ _
  have h : bodyRun.sl.v9348 c arg0 arg1 arg2 arg6 f1 f2 f6 hstep hmeta hgb (ix2 0 k) = View.read (Elt F) arg6.view f6 (ix2 ⟨(bodyRun.sl.r_429 c arg0 arg1 arg2 f1 f2 hstep hmeta).toNat % 224, Nat.mod_lt _ (by decide)⟩ k) :=
    row_read6 c arg6 f6 _ _ rfl _ k
  rw [h]; simp only [e]

theorem grp18 (q : Fin 16) (k : Fin 512) (r : Fin 512) (hr : r.val = 288 + q.val) :
    zRow (F := F) ![32, 0] slices_S256x512_o32_0_S16x512 (bodyRun.sl.r_427 c arg0 arg1 arg2 arg3 arg4 arg5 arg7 arg19 f1 f2 f3 f4 f5 f7 hstep hmeta hgb) (bodyRun.sl.v9348 c arg0 arg1 arg2 arg6 f1 f2 f6 hstep hmeta hgb) (View.readAt (Elt F) arg8.view (Rect.unit (s := S1x512) ![0, 0] S1x512.size inb_S1x512_S1x512_0_0).toLoadRect f8) (ix2 q k) = (actOf c arg0 arg1 arg2 arg3 arg4 arg5 arg6 arg7 arg8 arg19 f1 f2 f3 f4 f5 f6 f7 f8 hstep hmeta hgb) (ix2 r k) :=
  grpB _ _ _ _ _ 288 32 18 rfl rfl _ _ _ (tw18 c arg0 arg1 arg2 arg6 f1 f2 f6 hstep hmeta hgb) (row_read8 c arg8 f8 _) q k r hr

theorem act18 : ∀ y : S512x512.Idx, (y 0).val < 304 → View.canon (bodyRun.sl.H20_19 c arg0 arg1 arg2 arg3 arg4 arg5 arg6 arg7 arg8 arg19 f1 f2 f3 f4 f5 f6 f7 f8 hstep hmeta hgb) y = (actOf c arg0 arg1 arg2 arg3 arg4 arg5 arg6 arg7 arg8 arg19 f1 f2 f3 f4 f5 f6 f7 f8 hstep hmeta hgb) y :=
  act_step (actOf c arg0 arg1 arg2 arg3 arg4 arg5 arg6 arg7 arg8 arg19 f1 f2 f3 f4 f5 f6 f7 f8 hstep hmeta hgb) 288 (⟨Rect.unit (s := S512x512) ![272, 0] S16x512.size inb_S512x512_S16x512_272_0, (zRow (F := F) ![16, 0] slices_S256x512_o16_0_S16x512 (bodyRun.sl.r_427 c arg0 arg1 arg2 arg3 arg4 arg5 arg7 arg19 f1 f2 f3 f4 f5 f7 hstep hmeta hgb) (bodyRun.sl.v9327 c arg0 arg1 arg2 arg6 f1 f2 f6 hstep hmeta hgb) (View.readAt (Elt F) arg8.view (Rect.unit (s := S1x512) ![0, 0] S1x512.size inb_S1x512_S1x512_0_0).toLoadRect f8))⟩ :: bodyRun.sl.H20_17 c arg0 arg1 arg2 arg3 arg4 arg5 arg6 arg7 arg8 arg19 f1 f2 f3 f4 f5 f6 f7 f8 hstep hmeta hgb) (act_step (actOf c arg0 arg1 arg2 arg3 arg4 arg5 arg6 arg7 arg8 arg19 f1 f2 f3 f4 f5 f6 f7 f8 hstep hmeta hgb) 272 (bodyRun.sl.H20_17 c arg0 arg1 arg2 arg3 arg4 arg5 arg6 arg7 arg8 arg19 f1 f2 f3 f4 f5 f6 f7 f8 hstep hmeta hgb) (act16 c arg0 arg1 arg2 arg3 arg4 arg5 arg6 arg7 arg8 arg19 f1 f2 f3 f4 f5 f6 f7 f8 hstep hmeta hgb) inb_S512x512_S16x512_272_0 (zRow (F := F) ![16, 0] slices_S256x512_o16_0_S16x512 (bodyRun.sl.r_427 c arg0 arg1 arg2 arg3 arg4 arg5 arg7 arg19 f1 f2 f3 f4 f5 f7 hstep hmeta hgb) (bodyRun.sl.v9327 c arg0 arg1 arg2 arg6 f1 f2 f6 hstep hmeta hgb) (View.readAt (Elt F) arg8.view (Rect.unit (s := S1x512) ![0, 0] S1x512.size inb_S1x512_S1x512_0_0).toLoadRect f8)) (grp17 c arg0 arg1 arg2 arg3 arg4 arg5 arg6 arg7 arg8 arg19 f1 f2 f3 f4 f5 f6 f7 f8 hstep hmeta hgb))
    inb_S512x512_S16x512_288_0 (zRow (F := F) ![32, 0] slices_S256x512_o32_0_S16x512 (bodyRun.sl.r_427 c arg0 arg1 arg2 arg3 arg4 arg5 arg7 arg19 f1 f2 f3 f4 f5 f7 hstep hmeta hgb) (bodyRun.sl.v9348 c arg0 arg1 arg2 arg6 f1 f2 f6 hstep hmeta hgb) (View.readAt (Elt F) arg8.view (Rect.unit (s := S1x512) ![0, 0] S1x512.size inb_S1x512_S1x512_0_0).toLoadRect f8)) (grp18 c arg0 arg1 arg2 arg3 arg4 arg5 arg6 arg7 arg8 arg19 f1 f2 f3 f4 f5 f6 f7 f8 hstep hmeta hgb)

theorem tw19 (k : Fin 512) : bodyRun.sl.v9369 c arg0 arg1 arg2 arg6 f1 f2 f6 hstep hmeta hgb (ix2 0 k)
    = View.read (Elt F) arg6.view f6 (ix2 ⟨(gW (View.read (Elt F) arg1.view f1) arg0 (bodyRun.sl.r (F := F) c arg2 f2) 19).toNat % 224, Nat.mod_lt _ (by decide)⟩ k) := by
  have e : bodyRun.sl.r_430 c arg0 arg1 arg2 f1 f2 hstep hmeta = gW (View.read (Elt F) arg1.view f1) arg0 (bodyRun.sl.r c arg2 f2) 19 :=
    word_read c arg1 f1 arg0 (bodyRun.sl.r c arg2 f2) 16 3 _ rfl _ _
  have h : bodyRun.sl.v9369 c arg0 arg1 arg2 arg6 f1 f2 f6 hstep hmeta hgb (ix2 0 k) = View.read (Elt F) arg6.view f6 (ix2 ⟨(bodyRun.sl.r_430 c arg0 arg1 arg2 f1 f2 hstep hmeta).toNat % 224, Nat.mod_lt _ (by decide)⟩ k) :=
    row_read6 c arg6 f6 _ _ rfl _ k
  rw [h]; simp only [e]

theorem grp19 (q : Fin 16) (k : Fin 512) (r : Fin 512) (hr : r.val = 304 + q.val) :
    zRow (F := F) ![48, 0] slices_S256x512_o48_0_S16x512 (bodyRun.sl.r_427 c arg0 arg1 arg2 arg3 arg4 arg5 arg7 arg19 f1 f2 f3 f4 f5 f7 hstep hmeta hgb) (bodyRun.sl.v9369 c arg0 arg1 arg2 arg6 f1 f2 f6 hstep hmeta hgb) (View.readAt (Elt F) arg8.view (Rect.unit (s := S1x512) ![0, 0] S1x512.size inb_S1x512_S1x512_0_0).toLoadRect f8) (ix2 q k) = (actOf c arg0 arg1 arg2 arg3 arg4 arg5 arg6 arg7 arg8 arg19 f1 f2 f3 f4 f5 f6 f7 f8 hstep hmeta hgb) (ix2 r k) :=
  grpB _ _ _ _ _ 304 48 19 rfl rfl _ _ _ (tw19 c arg0 arg1 arg2 arg6 f1 f2 f6 hstep hmeta hgb) (row_read8 c arg8 f8 _) q k r hr

theorem tw20 (k : Fin 512) : bodyRun.sl.v9390 c arg0 arg1 arg2 arg6 f1 f2 f6 hstep hmeta hgb (ix2 0 k)
    = View.read (Elt F) arg6.view f6 (ix2 ⟨(gW (View.read (Elt F) arg1.view f1) arg0 (bodyRun.sl.r (F := F) c arg2 f2) 20).toNat % 224, Nat.mod_lt _ (by decide)⟩ k) := by
  have e : bodyRun.sl.r_431 c arg0 arg1 arg2 f1 f2 hstep hmeta = gW (View.read (Elt F) arg1.view f1) arg0 (bodyRun.sl.r c arg2 f2) 20 :=
    word_read c arg1 f1 arg0 (bodyRun.sl.r c arg2 f2) 16 4 _ rfl _ _
  have h : bodyRun.sl.v9390 c arg0 arg1 arg2 arg6 f1 f2 f6 hstep hmeta hgb (ix2 0 k) = View.read (Elt F) arg6.view f6 (ix2 ⟨(bodyRun.sl.r_431 c arg0 arg1 arg2 f1 f2 hstep hmeta).toNat % 224, Nat.mod_lt _ (by decide)⟩ k) :=
    row_read6 c arg6 f6 _ _ rfl _ k
  rw [h]; simp only [e]

theorem grp20 (q : Fin 16) (k : Fin 512) (r : Fin 512) (hr : r.val = 320 + q.val) :
    zRow (F := F) ![64, 0] slices_S256x512_o64_0_S16x512 (bodyRun.sl.r_427 c arg0 arg1 arg2 arg3 arg4 arg5 arg7 arg19 f1 f2 f3 f4 f5 f7 hstep hmeta hgb) (bodyRun.sl.v9390 c arg0 arg1 arg2 arg6 f1 f2 f6 hstep hmeta hgb) (View.readAt (Elt F) arg8.view (Rect.unit (s := S1x512) ![0, 0] S1x512.size inb_S1x512_S1x512_0_0).toLoadRect f8) (ix2 q k) = (actOf c arg0 arg1 arg2 arg3 arg4 arg5 arg6 arg7 arg8 arg19 f1 f2 f3 f4 f5 f6 f7 f8 hstep hmeta hgb) (ix2 r k) :=
  grpB _ _ _ _ _ 320 64 20 rfl rfl _ _ _ (tw20 c arg0 arg1 arg2 arg6 f1 f2 f6 hstep hmeta hgb) (row_read8 c arg8 f8 _) q k r hr

theorem act20 : ∀ y : S512x512.Idx, (y 0).val < 336 → View.canon (bodyRun.sl.H20_21 c arg0 arg1 arg2 arg3 arg4 arg5 arg6 arg7 arg8 arg19 f1 f2 f3 f4 f5 f6 f7 f8 hstep hmeta hgb) y = (actOf c arg0 arg1 arg2 arg3 arg4 arg5 arg6 arg7 arg8 arg19 f1 f2 f3 f4 f5 f6 f7 f8 hstep hmeta hgb) y :=
  act_step (actOf c arg0 arg1 arg2 arg3 arg4 arg5 arg6 arg7 arg8 arg19 f1 f2 f3 f4 f5 f6 f7 f8 hstep hmeta hgb) 320 (⟨Rect.unit (s := S512x512) ![304, 0] S16x512.size inb_S512x512_S16x512_304_0, (zRow (F := F) ![48, 0] slices_S256x512_o48_0_S16x512 (bodyRun.sl.r_427 c arg0 arg1 arg2 arg3 arg4 arg5 arg7 arg19 f1 f2 f3 f4 f5 f7 hstep hmeta hgb) (bodyRun.sl.v9369 c arg0 arg1 arg2 arg6 f1 f2 f6 hstep hmeta hgb) (View.readAt (Elt F) arg8.view (Rect.unit (s := S1x512) ![0, 0] S1x512.size inb_S1x512_S1x512_0_0).toLoadRect f8))⟩ :: bodyRun.sl.H20_19 c arg0 arg1 arg2 arg3 arg4 arg5 arg6 arg7 arg8 arg19 f1 f2 f3 f4 f5 f6 f7 f8 hstep hmeta hgb) (act_step (actOf c arg0 arg1 arg2 arg3 arg4 arg5 arg6 arg7 arg8 arg19 f1 f2 f3 f4 f5 f6 f7 f8 hstep hmeta hgb) 304 (bodyRun.sl.H20_19 c arg0 arg1 arg2 arg3 arg4 arg5 arg6 arg7 arg8 arg19 f1 f2 f3 f4 f5 f6 f7 f8 hstep hmeta hgb) (act18 c arg0 arg1 arg2 arg3 arg4 arg5 arg6 arg7 arg8 arg19 f1 f2 f3 f4 f5 f6 f7 f8 hstep hmeta hgb) inb_S512x512_S16x512_304_0 (zRow (F := F) ![48, 0] slices_S256x512_o48_0_S16x512 (bodyRun.sl.r_427 c arg0 arg1 arg2 arg3 arg4 arg5 arg7 arg19 f1 f2 f3 f4 f5 f7 hstep hmeta hgb) (bodyRun.sl.v9369 c arg0 arg1 arg2 arg6 f1 f2 f6 hstep hmeta hgb) (View.readAt (Elt F) arg8.view (Rect.unit (s := S1x512) ![0, 0] S1x512.size inb_S1x512_S1x512_0_0).toLoadRect f8)) (grp19 c arg0 arg1 arg2 arg3 arg4 arg5 arg6 arg7 arg8 arg19 f1 f2 f3 f4 f5 f6 f7 f8 hstep hmeta hgb))
    inb_S512x512_S16x512_320_0 (zRow (F := F) ![64, 0] slices_S256x512_o64_0_S16x512 (bodyRun.sl.r_427 c arg0 arg1 arg2 arg3 arg4 arg5 arg7 arg19 f1 f2 f3 f4 f5 f7 hstep hmeta hgb) (bodyRun.sl.v9390 c arg0 arg1 arg2 arg6 f1 f2 f6 hstep hmeta hgb) (View.readAt (Elt F) arg8.view (Rect.unit (s := S1x512) ![0, 0] S1x512.size inb_S1x512_S1x512_0_0).toLoadRect f8)) (grp20 c arg0 arg1 arg2 arg3 arg4 arg5 arg6 arg7 arg8 arg19 f1 f2 f3 f4 f5 f6 f7 f8 hstep hmeta hgb)

theorem tw21 (k : Fin 512) : bodyRun.sl.v9411 c arg0 arg1 arg2 arg6 f1 f2 f6 hstep hmeta hgb (ix2 0 k)
    = View.read (Elt F) arg6.view f6 (ix2 ⟨(gW (View.read (Elt F) arg1.view f1) arg0 (bodyRun.sl.r (F := F) c arg2 f2) 21).toNat % 224, Nat.mod_lt _ (by decide)⟩ k) := by
  have e : bodyRun.sl.r_432 c arg0 arg1 arg2 f1 f2 hstep hmeta = gW (View.read (Elt F) arg1.view f1) arg0 (bodyRun.sl.r c arg2 f2) 21 :=
    word_read c arg1 f1 arg0 (bodyRun.sl.r c arg2 f2) 16 5 _ rfl _ _
  have h : bodyRun.sl.v9411 c arg0 arg1 arg2 arg6 f1 f2 f6 hstep hmeta hgb (ix2 0 k) = View.read (Elt F) arg6.view f6 (ix2 ⟨(bodyRun.sl.r_432 c arg0 arg1 arg2 f1 f2 hstep hmeta).toNat % 224, Nat.mod_lt _ (by decide)⟩ k) :=
    row_read6 c arg6 f6 _ _ rfl _ k
  rw [h]; simp only [e]

theorem grp21 (q : Fin 16) (k : Fin 512) (r : Fin 512) (hr : r.val = 336 + q.val) :
    zRow (F := F) ![80, 0] slices_S256x512_o80_0_S16x512 (bodyRun.sl.r_427 c arg0 arg1 arg2 arg3 arg4 arg5 arg7 arg19 f1 f2 f3 f4 f5 f7 hstep hmeta hgb) (bodyRun.sl.v9411 c arg0 arg1 arg2 arg6 f1 f2 f6 hstep hmeta hgb) (View.readAt (Elt F) arg8.view (Rect.unit (s := S1x512) ![0, 0] S1x512.size inb_S1x512_S1x512_0_0).toLoadRect f8) (ix2 q k) = (actOf c arg0 arg1 arg2 arg3 arg4 arg5 arg6 arg7 arg8 arg19 f1 f2 f3 f4 f5 f6 f7 f8 hstep hmeta hgb) (ix2 r k) :=
  grpB _ _ _ _ _ 336 80 21 rfl rfl _ _ _ (tw21 c arg0 arg1 arg2 arg6 f1 f2 f6 hstep hmeta hgb) (row_read8 c arg8 f8 _) q k r hr

theorem tw22 (k : Fin 512) : bodyRun.sl.v9432 c arg0 arg1 arg2 arg6 f1 f2 f6 hstep hmeta hgb (ix2 0 k)
    = View.read (Elt F) arg6.view f6 (ix2 ⟨(gW (View.read (Elt F) arg1.view f1) arg0 (bodyRun.sl.r (F := F) c arg2 f2) 22).toNat % 224, Nat.mod_lt _ (by decide)⟩ k) := by
  have e : bodyRun.sl.r_433 c arg0 arg1 arg2 f1 f2 hstep hmeta = gW (View.read (Elt F) arg1.view f1) arg0 (bodyRun.sl.r c arg2 f2) 22 :=
    word_read c arg1 f1 arg0 (bodyRun.sl.r c arg2 f2) 16 6 _ rfl _ _
  have h : bodyRun.sl.v9432 c arg0 arg1 arg2 arg6 f1 f2 f6 hstep hmeta hgb (ix2 0 k) = View.read (Elt F) arg6.view f6 (ix2 ⟨(bodyRun.sl.r_433 c arg0 arg1 arg2 f1 f2 hstep hmeta).toNat % 224, Nat.mod_lt _ (by decide)⟩ k) :=
    row_read6 c arg6 f6 _ _ rfl _ k
  rw [h]; simp only [e]

theorem grp22 (q : Fin 16) (k : Fin 512) (r : Fin 512) (hr : r.val = 352 + q.val) :
    zRow (F := F) ![96, 0] slices_S256x512_o96_0_S16x512 (bodyRun.sl.r_427 c arg0 arg1 arg2 arg3 arg4 arg5 arg7 arg19 f1 f2 f3 f4 f5 f7 hstep hmeta hgb) (bodyRun.sl.v9432 c arg0 arg1 arg2 arg6 f1 f2 f6 hstep hmeta hgb) (View.readAt (Elt F) arg8.view (Rect.unit (s := S1x512) ![0, 0] S1x512.size inb_S1x512_S1x512_0_0).toLoadRect f8) (ix2 q k) = (actOf c arg0 arg1 arg2 arg3 arg4 arg5 arg6 arg7 arg8 arg19 f1 f2 f3 f4 f5 f6 f7 f8 hstep hmeta hgb) (ix2 r k) :=
  grpB _ _ _ _ _ 352 96 22 rfl rfl _ _ _ (tw22 c arg0 arg1 arg2 arg6 f1 f2 f6 hstep hmeta hgb) (row_read8 c arg8 f8 _) q k r hr

theorem act22 : ∀ y : S512x512.Idx, (y 0).val < 368 → View.canon (bodyRun.sl.H20_23 c arg0 arg1 arg2 arg3 arg4 arg5 arg6 arg7 arg8 arg19 f1 f2 f3 f4 f5 f6 f7 f8 hstep hmeta hgb) y = (actOf c arg0 arg1 arg2 arg3 arg4 arg5 arg6 arg7 arg8 arg19 f1 f2 f3 f4 f5 f6 f7 f8 hstep hmeta hgb) y :=
  act_step (actOf c arg0 arg1 arg2 arg3 arg4 arg5 arg6 arg7 arg8 arg19 f1 f2 f3 f4 f5 f6 f7 f8 hstep hmeta hgb) 352 (⟨Rect.unit (s := S512x512) ![336, 0] S16x512.size inb_S512x512_S16x512_336_0, (zRow (F := F) ![80, 0] slices_S256x512_o80_0_S16x512 (bodyRun.sl.r_427 c arg0 arg1 arg2 arg3 arg4 arg5 arg7 arg19 f1 f2 f3 f4 f5 f7 hstep hmeta hgb) (bodyRun.sl.v9411 c arg0 arg1 arg2 arg6 f1 f2 f6 hstep hmeta hgb) (View.readAt (Elt F) arg8.view (Rect.unit (s := S1x512) ![0, 0] S1x512.size inb_S1x512_S1x512_0_0).toLoadRect f8))⟩ :: bodyRun.sl.H20_21 c arg0 arg1 arg2 arg3 arg4 arg5 arg6 arg7 arg8 arg19 f1 f2 f3 f4 f5 f6 f7 f8 hstep hmeta hgb) (act_step (actOf c arg0 arg1 arg2 arg3 arg4 arg5 arg6 arg7 arg8 arg19 f1 f2 f3 f4 f5 f6 f7 f8 hstep hmeta hgb) 336 (bodyRun.sl.H20_21 c arg0 arg1 arg2 arg3 arg4 arg5 arg6 arg7 arg8 arg19 f1 f2 f3 f4 f5 f6 f7 f8 hstep hmeta hgb) (act20 c arg0 arg1 arg2 arg3 arg4 arg5 arg6 arg7 arg8 arg19 f1 f2 f3 f4 f5 f6 f7 f8 hstep hmeta hgb) inb_S512x512_S16x512_336_0 (zRow (F := F) ![80, 0] slices_S256x512_o80_0_S16x512 (bodyRun.sl.r_427 c arg0 arg1 arg2 arg3 arg4 arg5 arg7 arg19 f1 f2 f3 f4 f5 f7 hstep hmeta hgb) (bodyRun.sl.v9411 c arg0 arg1 arg2 arg6 f1 f2 f6 hstep hmeta hgb) (View.readAt (Elt F) arg8.view (Rect.unit (s := S1x512) ![0, 0] S1x512.size inb_S1x512_S1x512_0_0).toLoadRect f8)) (grp21 c arg0 arg1 arg2 arg3 arg4 arg5 arg6 arg7 arg8 arg19 f1 f2 f3 f4 f5 f6 f7 f8 hstep hmeta hgb))
    inb_S512x512_S16x512_352_0 (zRow (F := F) ![96, 0] slices_S256x512_o96_0_S16x512 (bodyRun.sl.r_427 c arg0 arg1 arg2 arg3 arg4 arg5 arg7 arg19 f1 f2 f3 f4 f5 f7 hstep hmeta hgb) (bodyRun.sl.v9432 c arg0 arg1 arg2 arg6 f1 f2 f6 hstep hmeta hgb) (View.readAt (Elt F) arg8.view (Rect.unit (s := S1x512) ![0, 0] S1x512.size inb_S1x512_S1x512_0_0).toLoadRect f8)) (grp22 c arg0 arg1 arg2 arg3 arg4 arg5 arg6 arg7 arg8 arg19 f1 f2 f3 f4 f5 f6 f7 f8 hstep hmeta hgb)

theorem tw23 (k : Fin 512) : bodyRun.sl.v9453 c arg0 arg1 arg2 arg6 f1 f2 f6 hstep hmeta hgb (ix2 0 k)
    = View.read (Elt F) arg6.view f6 (ix2 ⟨(gW (View.read (Elt F) arg1.view f1) arg0 (bodyRun.sl.r (F := F) c arg2 f2) 23).toNat % 224, Nat.mod_lt _ (by decide)⟩ k) := by
  have e : bodyRun.sl.r_434 c arg0 arg1 arg2 f1 f2 hstep hmeta = gW (View.read (Elt F) arg1.view f1) arg0 (bodyRun.sl.r c arg2 f2) 23 :=
    word_read c arg1 f1 arg0 (bodyRun.sl.r c arg2 f2) 16 7 _ rfl _ _
  have h : bodyRun.sl.v9453 c arg0 arg1 arg2 arg6 f1 f2 f6 hstep hmeta hgb (ix2 0 k) = View.read (Elt F) arg6.view f6 (ix2 ⟨(bodyRun.sl.r_434 c arg0 arg1 arg2 f1 f2 hstep hmeta).toNat % 224, Nat.mod_lt _ (by decide)⟩ k) :=
    row_read6 c arg6 f6 _ _ rfl _ k
  rw [h]; simp only [e]

theorem grp23 (q : Fin 16) (k : Fin 512) (r : Fin 512) (hr : r.val = 368 + q.val) :
    zRow (F := F) ![112, 0] slices_S256x512_o112_0_S16x512 (bodyRun.sl.r_427 c arg0 arg1 arg2 arg3 arg4 arg5 arg7 arg19 f1 f2 f3 f4 f5 f7 hstep hmeta hgb) (bodyRun.sl.v9453 c arg0 arg1 arg2 arg6 f1 f2 f6 hstep hmeta hgb) (View.readAt (Elt F) arg8.view (Rect.unit (s := S1x512) ![0, 0] S1x512.size inb_S1x512_S1x512_0_0).toLoadRect f8) (ix2 q k) = (actOf c arg0 arg1 arg2 arg3 arg4 arg5 arg6 arg7 arg8 arg19 f1 f2 f3 f4 f5 f6 f7 f8 hstep hmeta hgb) (ix2 r k) :=
  grpB _ _ _ _ _ 368 112 23 rfl rfl _ _ _ (tw23 c arg0 arg1 arg2 arg6 f1 f2 f6 hstep hmeta hgb) (row_read8 c arg8 f8 _) q k r hr

theorem act23 : ∀ y : S512x512.Idx, (y 0).val < 384 → View.canon (bodyRun.sl.H20_24 c arg0 arg1 arg2 arg3 arg4 arg5 arg6 arg7 arg8 arg19 f1 f2 f3 f4 f5 f6 f7 f8 hstep hmeta hgb) y = (actOf c arg0 arg1 arg2 arg3 arg4 arg5 arg6 arg7 arg8 arg19 f1 f2 f3 f4 f5 f6 f7 f8 hstep hmeta hgb) y :=
  act_step (actOf c arg0 arg1 arg2 arg3 arg4 arg5 arg6 arg7 arg8 arg19 f1 f2 f3 f4 f5 f6 f7 f8 hstep hmeta hgb) 368 (bodyRun.sl.H20_23 c arg0 arg1 arg2 arg3 arg4 arg5 arg6 arg7 arg8 arg19 f1 f2 f3 f4 f5 f6 f7 f8 hstep hmeta hgb) (act22 c arg0 arg1 arg2 arg3 arg4 arg5 arg6 arg7 arg8 arg19 f1 f2 f3 f4 f5 f6 f7 f8 hstep hmeta hgb)
    inb_S512x512_S16x512_368_0 (zRow (F := F) ![112, 0] slices_S256x512_o112_0_S16x512 (bodyRun.sl.r_427 c arg0 arg1 arg2 arg3 arg4 arg5 arg7 arg19 f1 f2 f3 f4 f5 f7 hstep hmeta hgb) (bodyRun.sl.v9453 c arg0 arg1 arg2 arg6 f1 f2 f6 hstep hmeta hgb) (View.readAt (Elt F) arg8.view (Rect.unit (s := S1x512) ![0, 0] S1x512.size inb_S1x512_S1x512_0_0).toLoadRect f8)) (grp23 c arg0 arg1 arg2 arg3 arg4 arg5 arg6 arg7 arg8 arg19 f1 f2 f3 f4 f5 f6 f7 f8 hstep hmeta hgb)

end Cert.Proof.KernelIdeal

end
-- ==== Proof.ActD.lean ====
/-
  Groups 24 to 31.
-/
module

public import proofs.«01_k».proof.Proof.ActC

@[expose] public section

noncomputable section

namespace Cert.Proof.KernelIdeal

open Cert.KernelIdeal Cert.KernelIdeal.Gen
open Idealize.ShloMosaic
open Cert.KernelIdeal.Facts

variable {F : FTy → Type} [FloatOps F]
variable (c : Dev nD) (arg0 : BitVec 32)
  (arg1 : Memref sig .tc .smem S4800 .i32) (arg2 : Memref sig .tc .smem S1 .i32) (arg3 : Memref sig .tc .vmem S16x6x8x128 .i32)
  (arg4 : Memref sig .tc .vmem S16x2x128 .i32) (arg5 : Memref sig .tc .vmem S224x768 .i32) (arg6 : Memref sig .tc .vmem S224x512 .f32)
  (arg7 : Memref sig .tc .vmem S3072x512 .bf16) (arg8 : Memref sig .tc .vmem S1x512 .f32) (arg19 : Memref sig .tc .vmem S512x2304 .bf16)
  (f1 : Bf (F := F) c arg1) (f2 : Bf (F := F) c arg2) (f3 : Bf (F := F) c arg3) (f4 : Bf (F := F) c arg4) (f5 : Bf (F := F) c arg5)
  (f6 : Bf (F := F) c arg6) (f7 : Bf (F := F) c arg7) (f8 : Bf (F := F) c arg8)
  (hstep : arg0.toNat < 150) (hmeta : ∀ x, arg2.view.read (Elt F) f2 x = (0#32 : BitVec 32)) (hgb : ∀ x, BitVec.toNat (arg1.view.read (Elt F) f1 x) < 200)

theorem tw24 (k : Fin 512) : bodyRun.sl.v9474 c arg0 arg1 arg2 arg6 f1 f2 f6 hstep hmeta hgb (ix2 0 k)
    = View.read (Elt F) arg6.view f6 (ix2 ⟨(gW (View.read (Elt F) arg1.view f1) arg0 (bodyRun.sl.r (F := F) c arg2 f2) 24).toNat % 224, Nat.mod_lt _ (by decide)⟩ k) := by
  have e : bodyRun.sl.r_435 c arg0 arg1 arg2 f1 f2 hstep hmeta = gW (View.read (Elt F) arg1.view f1) arg0 (bodyRun.sl.r c arg2 f2) 24 :=
    word_read c arg1 f1 arg0 (bodyRun.sl.r c arg2 f2) 16 8 _ rfl _ _
  have h : bodyRun.sl.v9474 c arg0 arg1 arg2 arg6 f1 f2 f6 hstep hmeta hgb (ix2 0 k) = View.read (Elt F) arg6.view f6 (ix2 ⟨(bodyRun.sl.r_435 c arg0 arg1 arg2 f1 f2 hstep hmeta).toNat % 224, Nat.mod_lt _ (by decide)⟩ k) :=
    row_read6 c arg6 f6 _ _ rfl _ k
  rw [h]; simp only [e]

theorem grp24 (q : Fin 16) (k : Fin 512) (r : Fin 512) (hr : r.val = 384 + q.val) :
    zRow (F := F) ![128, 0] slices_S256x512_o128_0_S16x512 (bodyRun.sl.r_427 c arg0 arg1 arg2 arg3 arg4 arg5 arg7 arg19 f1 f2 f3 f4 f5 f7 hstep hmeta hgb) (bodyRun.sl.v9474 c arg0 arg1 arg2 arg6 f1 f2 f6 hstep hmeta hgb) (View.readAt (Elt F) arg8.view (Rect.unit (s := S1x512) ![0, 0] S1x512.size inb_S1x512_S1x512_0_0).toLoadRect f8) (ix2 q k) = (actOf c arg0 arg1 arg2 arg3 arg4 arg5 arg6 arg7 arg8 arg19 f1 f2 f3 f4 f5 f6 f7 f8 hstep hmeta hgb) (ix2 r k) :=
  grpB _ _ _ _ _ 384 128 24 rfl rfl _ _ _ (tw24 c arg0 arg1 arg2 arg6 f1 f2 f6 hstep hmeta hgb) (row_read8 c arg8 f8 _) q k r hr

theorem tw25 (k : Fin 512) : bodyRun.sl.v9495 c arg0 arg1 arg2 arg6 f1 f2 f6 hstep hmeta hgb (ix2 0 k)
    = View.read (Elt F) arg6.view f6 (ix2 ⟨(gW (View.read (Elt F) arg1.view f1) arg0 (bodyRun.sl.r (F := F) c arg2 f2) 25).toNat % 224, Nat.mod_lt _ (by decide)⟩ k) := by
  have e : bodyRun.sl.r_437 c arg0 arg1 arg2 f1 f2 hstep hmeta = gW (View.read (Elt F) arg1.view f1) arg0 (bodyRun.sl.r c arg2 f2) 25 :=
    word_read c arg1 f1 arg0 (bodyRun.sl.r c arg2 f2) 16 9 _ rfl _ _
  have h : bodyRun.sl.v9495 c arg0 arg1 arg2 arg6 f1 f2 f6 hstep hmeta hgb (ix2 0 k) = View.read (Elt F) arg6.view f6 (ix2 ⟨(bodyRun.sl.r_437 c arg0 arg1 arg2 f1 f2 hstep hmeta).toNat % 224, Nat.mod_lt _ (by decide)⟩ k) :=
    row_read6 c arg6 f6 _ _ rfl _ k
  rw [h]; simp only [e]

theorem grp25 (q : Fin 16) (k : Fin 512) (r : Fin 512) (hr : r.val = 400 + q.val) :
    zRow (F := F) ![144, 0] slices_S256x512_o144_0_S16x512 (bodyRun.sl.r_427 c arg0 arg1 arg2 arg3 arg4 arg5 arg7 arg19 f1 f2 f3 f4 f5 f7 hstep hmeta hgb) (bodyRun.sl.v9495 c arg0 arg1 arg2 arg6 f1 f2 f6 hstep hmeta hgb) (View.readAt (Elt F) arg8.view (Rect.unit (s := S1x512) ![0, 0] S1x512.size inb_S1x512_S1x512_0_0).toLoadRect f8) (ix2 q k) = (actOf c arg0 arg1 arg2 arg3 arg4 arg5 arg6 arg7 arg8 arg19 f1 f2 f3 f4 f5 f6 f7 f8 hstep hmeta hgb) (ix2 r k) :=
  grpB _ _ _ _ _ 400 144 25 rfl rfl _ _ _ (tw25 c arg0 arg1 arg2 arg6 f1 f2 f6 hstep hmeta hgb) (row_read8 c arg8 f8 _) q k r hr

theorem act25 : ∀ y : S512x512.Idx, (y 0).val < 416 → View.canon (bodyRun.sl.H20_26 c arg0 arg1 arg2 arg3 arg4 arg5 arg6 arg7 arg8 arg19 f1 f2 f3 f4 f5 f6 f7 f8 hstep hmeta hgb) y = (actOf c arg0 arg1 arg2 arg3 arg4 arg5 arg6 arg7 arg8 arg19 f1 f2 f3 f4 f5 f6 f7 f8 hstep hmeta hgb) y :=
  act_step (actOf c arg0 arg1 arg2 arg3 arg4 arg5 arg6 arg7 arg8 arg19 f1 f2 f3 f4 f5 f6 f7 f8 hstep hmeta hgb) 400 (⟨Rect.unit (s := S512x512) ![384, 0] S16x512.size inb_S512x512_S16x512_384_0, (zRow (F := F) ![128, 0] slices_S256x512_o128_0_S16x512 (bodyRun.sl.r_427 c arg0 arg1 arg2 arg3 arg4 arg5 arg7 arg19 f1 f2 f3 f4 f5 f7 hstep hmeta hgb) (bodyRun.sl.v9474 c arg0 arg1 arg2 arg6 f1 f2 f6 hstep hmeta hgb) (View.readAt (Elt F) arg8.view (Rect.unit (s := S1x512) ![0, 0] S1x512.size inb_S1x512_S1x512_0_0).toLoadRect f8))⟩ :: bodyRun.sl.H20_24 c arg0 arg1 arg2 arg3 arg4 arg5 arg6 arg7 arg8 arg19 f1 f2 f3 f4 f5 f6 f7 f8 hstep hmeta hgb) (act_step (actOf c arg0 arg1 arg2 arg3 arg4 arg5 arg6 arg7 arg8 arg19 f1 f2 f3 f4 f5 f6 f7 f8 hstep hmeta hgb) 384 (bodyRun.sl.H20_24 c arg0 arg1 arg2 arg3 arg4 arg5 arg6 arg7 arg8 arg19 f1 f2 f3 f4 f5 f6 f7 f8 hstep hmeta hgb) (act23 c arg0 arg1 arg2 arg3 arg4 arg5 arg6 arg7 arg8 arg19 f1 f2 f3 f4 f5 f6 f7 f8 hstep hmeta hgb) inb_S512x512_S16x512_384_0 (zRow (F := F) ![128, 0] slices_S256x512_o128_0_S16x512 (bodyRun.sl.r_427 c arg0 arg1 arg2 arg3 arg4 arg5 arg7 arg19 f1 f2 f3 f4 f5 f7 hstep hmeta hgb) (bodyRun.sl.v9474 c arg0 arg1 arg2 arg6 f1 f2 f6 hstep hmeta hgb) (View.readAt (Elt F) arg8.view (Rect.unit (s := S1x512) ![0, 0] S1x512.size inb_S1x512_S1x512_0_0).toLoadRect f8)) (grp24 c arg0 arg1 arg2 arg3 arg4 arg5 arg6 arg7 arg8 arg19 f1 f2 f3 f4 f5 f6 f7 f8 hstep hmeta hgb))
    inb_S512x512_S16x512_400_0 (zRow (F := F) ![144, 0] slices_S256x512_o144_0_S16x512 (bodyRun.sl.r_427 c arg0 arg1 arg2 arg3 arg4 arg5 arg7 arg19 f1 f2 f3 f4 f5 f7 hstep hmeta hgb) (bodyRun.sl.v9495 c arg0 arg1 arg2 arg6 f1 f2 f6 hstep hmeta hgb) (View.readAt (Elt F) arg8.view (Rect.unit (s := S1x512) ![0, 0] S1x512.size inb_S1x512_S1x512_0_0).toLoadRect f8)) (grp25 c arg0 arg1 arg2 arg3 arg4 arg5 arg6 arg7 arg8 arg19 f1 f2 f3 f4 f5 f6 f7 f8 hstep hmeta hgb)

theorem tw26 (k : Fin 512) : bodyRun.sl.v9516 c arg0 arg1 arg2 arg6 f1 f2 f6 hstep hmeta hgb (ix2 0 k)
    = View.read (Elt F) arg6.view f6 (ix2 ⟨(gW (View.read (Elt F) arg1.view f1) arg0 (bodyRun.sl.r (F := F) c arg2 f2) 26).toNat % 224, Nat.mod_lt _ (by decide)⟩ k) := by
  have e : bodyRun.sl.r_438 c arg0 arg1 arg2 f1 f2 hstep hmeta = gW (View.read (Elt F) arg1.view f1) arg0 (bodyRun.sl.r c arg2 f2) 26 :=
    word_read c arg1 f1 arg0 (bodyRun.sl.r c arg2 f2) 16 10 _ rfl _ _
  have h : bodyRun.sl.v9516 c arg0 arg1 arg2 arg6 f1 f2 f6 hstep hmeta hgb (ix2 0 k) = View.read (Elt F) arg6.view f6 (ix2 ⟨(bodyRun.sl.r_438 c arg0 arg1 arg2 f1 f2 hstep hmeta).toNat % 224, Nat.mod_lt _ (by decide)⟩ k) :=
    row_read6 c arg6 f6 _ _ rfl _ k
  rw [h]; simp only [e]

theorem grp26 (q : Fin 16) (k : Fin 512) (r : Fin 512) (hr : r.val = 416 + q.val) :
    zRow (F := F) ![160, 0] slices_S256x512_o160_0_S16x512 (bodyRun.sl.r_427 c arg0 arg1 arg2 arg3 arg4 arg5 arg7 arg19 f1 f2 f3 f4 f5 f7 hstep hmeta hgb) (bodyRun.sl.v9516 c arg0 arg1 arg2 arg6 f1 f2 f6 hstep hmeta hgb) (View.readAt (Elt F) arg8.view (Rect.unit (s := S1x512) ![0, 0] S1x512.size inb_S1x512_S1x512_0_0).toLoadRect f8) (ix2 q k) = (actOf c arg0 arg1 arg2 arg3 arg4 arg5 arg6 arg7 arg8 arg19 f1 f2 f3 f4 f5 f6 f7 f8 hstep hmeta hgb) (ix2 r k) :=
  grpB _ _ _ _ _ 416 160 26 rfl rfl _ _ _ (tw26 c arg0 arg1 arg2 arg6 f1 f2 f6 hstep hmeta hgb) (row_read8 c arg8 f8 _) q k r hr

theorem tw27 (k : Fin 512) : bodyRun.sl.v9537 c arg0 arg1 arg2 arg6 f1 f2 f6 hstep hmeta hgb (ix2 0 k)
    = View.read (Elt F) arg6.view f6 (ix2 ⟨(gW (View.read (Elt F) arg1.view f1) arg0 (bodyRun.sl.r (F := F) c arg2 f2) 27).toNat % 224, Nat.mod_lt _ (by decide)⟩ k) := by
  have e : bodyRun.sl.r_442 c arg0 arg1 arg2 f1 f2 hstep hmeta = gW (View.read (Elt F) arg1.view f1) arg0 (bodyRun.sl.r c arg2 f2) 27 :=
    word_read c arg1 f1 arg0 (bodyRun.sl.r c arg2 f2) 16 11 _ rfl _ _
  have h : bodyRun.sl.v9537 c arg0 arg1 arg2 arg6 f1 f2 f6 hstep hmeta hgb (ix2 0 k) = View.read (Elt F) arg6.view f6 (ix2 ⟨(bodyRun.sl.r_442 c arg0 arg1 arg2 f1 f2 hstep hmeta).toNat % 224, Nat.mod_lt _ (by decide)⟩ k) :=
    row_read6 c arg6 f6 _ _ rfl _ k
  rw [h]; simp only [e]

theorem grp27 (q : Fin 16) (k : Fin 512) (r : Fin 512) (hr : r.val = 432 + q.val) :
    zRow (F := F) ![176, 0] slices_S256x512_o176_0_S16x512 (bodyRun.sl.r_427 c arg0 arg1 arg2 arg3 arg4 arg5 arg7 arg19 f1 f2 f3 f4 f5 f7 hstep hmeta hgb) (bodyRun.sl.v9537 c arg0 arg1 arg2 arg6 f1 f2 f6 hstep hmeta hgb) (View.readAt (Elt F) arg8.view (Rect.unit (s := S1x512) ![0, 0] S1x512.size inb_S1x512_S1x512_0_0).toLoadRect f8) (ix2 q k) = (actOf c arg0 arg1 arg2 arg3 arg4 arg5 arg6 arg7 arg8 arg19 f1 f2 f3 f4 f5 f6 f7 f8 hstep hmeta hgb) (ix2 r k) :=
  grpB _ _ _ _ _ 432 176 27 rfl rfl _ _ _ (tw27 c arg0 arg1 arg2 arg6 f1 f2 f6 hstep hmeta hgb) (row_read8 c arg8 f8 _) q k r hr

theorem act27 : ∀ y : S512x512.Idx, (y 0).val < 448 → View.canon (bodyRun.sl.H20_28 c arg0 arg1 arg2 arg3 arg4 arg5 arg6 arg7 arg8 arg19 f1 f2 f3 f4 f5 f6 f7 f8 hstep hmeta hgb) y = (actOf c arg0 arg1 arg2 arg3 arg4 arg5 arg6 arg7 arg8 arg19 f1 f2 f3 f4 f5 f6 f7 f8 hstep hmeta hgb) y :=
  act_step (actOf c arg0 arg1 arg2 arg3 arg4 arg5 arg6 arg7 arg8 arg19 f1 f2 f3 f4 f5 f6 f7 f8 hstep hmeta hgb) 432 (⟨Rect.unit (s := S512x512) ![416, 0] S16x512.size inb_S512x512_S16x512_416_0, (zRow (F := F) ![160, 0] slices_S256x512_o160_0_S16x512 (bodyRun.sl.r_427 c arg0 arg1 arg2 arg3 arg4 arg5 arg7 arg19 f1 f2 f3 f4 f5 f7 hstep hmeta hgb) (bodyRun.sl.v9516 c arg0 arg1 arg2 arg6 f1 f2 f6 hstep hmeta hgb) (View.readAt (Elt F) arg8.view (Rect.unit (s := S1x512) ![0, 0] S1x512.size inb_S1x512_S1x512_0_0).toLoadRect f8))⟩ :: bodyRun.sl.H20_26 c arg0 arg1 arg2 arg3 arg4 arg5 arg6 arg7 arg8 arg19 f1 f2 f3 f4 f5 f6 f7 f8 hstep hmeta hgb) (act_step (actOf c arg0 arg1 arg2 arg3 arg4 arg5 arg6 arg7 arg8 arg19 f1 f2 f3 f4 f5 f6 f7 f8 hstep hmeta hgb) 416 (bodyRun.sl.H20_26 c arg0 arg1 arg2 arg3 arg4 arg5 arg6 arg7 arg8 arg19 f1 f2 f3 f4 f5 f6 f7 f8 hstep hmeta hgb) (act25 c arg0 arg1 arg2 arg3 arg4 arg5 arg6 arg7 arg8 arg19 f1 f2 f3 f4 f5 f6 f7 f8 hstep hmeta hgb) inb_S512x512_S16x512_416_0 (zRow (F := F) ![160, 0] slices_S256x512_o160_0_S16x512 (bodyRun.sl.r_427 c arg0 arg1 arg2 arg3 arg4 arg5 arg7 arg19 f1 f2 f3 f4 f5 f7 hstep hmeta hgb) (bodyRun.sl.v9516 c arg0 arg1 arg2 arg6 f1 f2 f6 hstep hmeta hgb) (View.readAt (Elt F) arg8.view (Rect.unit (s := S1x512) ![0, 0] S1x512.size inb_S1x512_S1x512_0_0).toLoadRect f8)) (grp26 c arg0 arg1 arg2 arg3 arg4 arg5 arg6 arg7 arg8 arg19 f1 f2 f3 f4 f5 f6 f7 f8 hstep hmeta hgb))
    inb_S512x512_S16x512_432_0 (zRow (F := F) ![176, 0] slices_S256x512_o176_0_S16x512 (bodyRun.sl.r_427 c arg0 arg1 arg2 arg3 arg4 arg5 arg7 arg19 f1 f2 f3 f4 f5 f7 hstep hmeta hgb) (bodyRun.sl.v9537 c arg0 arg1 arg2 arg6 f1 f2 f6 hstep hmeta hgb) (View.readAt (Elt F) arg8.view (Rect.unit (s := S1x512) ![0, 0] S1x512.size inb_S1x512_S1x512_0_0).toLoadRect f8)) (grp27 c arg0 arg1 arg2 arg3 arg4 arg5 arg6 arg7 arg8 arg19 f1 f2 f3 f4 f5 f6 f7 f8 hstep hmeta hgb)

theorem tw28 (k : Fin 512) : bodyRun.sl.v9558 c arg0 arg1 arg2 arg6 f1 f2 f6 hstep hmeta hgb (ix2 0 k)
    = View.read (Elt F) arg6.view f6 (ix2 ⟨(gW (View.read (Elt F) arg1.view f1) arg0 (bodyRun.sl.r (F := F) c arg2 f2) 28).toNat % 224, Nat.mod_lt _ (by decide)⟩ k) := by
  have e : bodyRun.sl.r_443 c arg0 arg1 arg2 f1 f2 hstep hmeta = gW (View.read (Elt F) arg1.view f1) arg0 (bodyRun.sl.r c arg2 f2) 28 :=
    word_read c arg1 f1 arg0 (bodyRun.sl.r c arg2 f2) 16 12 _ rfl _ _
  have h : bodyRun.sl.v9558 c arg0 arg1 arg2 arg6 f1 f2 f6 hstep hmeta hgb (ix2 0 k) = View.read (Elt F) arg6.view f6 (ix2 ⟨(bodyRun.sl.r_443 c arg0 arg1 arg2 f1 f2 hstep hmeta).toNat % 224, Nat.mod_lt _ (by decide)⟩ k) :=
    row_read6 c arg6 f6 _ _ rfl _ k
  rw [h]; simp only [e]

theorem grp28 (q : Fin 16) (k : Fin 512) (r : Fin 512) (hr : r.val = 448 + q.val) :
    zRow (F := F) ![192, 0] slices_S256x512_o192_0_S16x512 (bodyRun.sl.r_427 c arg0 arg1 arg2 arg3 arg4 arg5 arg7 arg19 f1 f2 f3 f4 f5 f7 hstep hmeta hgb) (bodyRun.sl.v9558 c arg0 arg1 arg2 arg6 f1 f2 f6 hstep hmeta hgb) (View.readAt (Elt F) arg8.view (Rect.unit (s := S1x512) ![0, 0] S1x512.size inb_S1x512_S1x512_0_0).toLoadRect f8) (ix2 q k) = (actOf c arg0 arg1 arg2 arg3 arg4 arg5 arg6 arg7 arg8 arg19 f1 f2 f3 f4 f5 f6 f7 f8 hstep hmeta hgb) (ix2 r k) :=
  grpB _ _ _ _ _ 448 192 28 rfl rfl _ _ _ (tw28 c arg0 arg1 arg2 arg6 f1 f2 f6 hstep hmeta hgb) (row_read8 c arg8 f8 _) q k r hr

theorem tw29 (k : Fin 512) : bodyRun.sl.v9579 c arg0 arg1 arg2 arg6 f1 f2 f6 hstep hmeta hgb (ix2 0 k)
    = View.read (Elt F) arg6.view f6 (ix2 ⟨(gW (View.read (Elt F) arg1.view f1) arg0 (bodyRun.sl.r (F := F) c arg2 f2) 29).toNat % 224, Nat.mod_lt _ (by decide)⟩ k) := by
  have e : bodyRun.sl.r_446 c arg0 arg1 arg2 f1 f2 hstep hmeta = gW (View.read (Elt F) arg1.view f1) arg0 (bodyRun.sl.r c arg2 f2) 29 :=
    word_read c arg1 f1 arg0 (bodyRun.sl.r c arg2 f2) 16 13 _ rfl _ _
  have h : bodyRun.sl.v9579 c arg0 arg1 arg2 arg6 f1 f2 f6 hstep hmeta hgb (ix2 0 k) = View.read (Elt F) arg6.view f6 (ix2 ⟨(bodyRun.sl.r_446 c arg0 arg1 arg2 f1 f2 hstep hmeta).toNat % 224, Nat.mod_lt _ (by decide)⟩ k) :=
    row_read6 c arg6 f6 _ _ rfl _ k
  rw [h]; simp only [e]

theorem grp29 (q : Fin 16) (k : Fin 512) (r : Fin 512) (hr : r.val = 464 + q.val) :
    zRow (F := F) ![208, 0] slices_S256x512_o208_0_S16x512 (bodyRun.sl.r_427 c arg0 arg1 arg2 arg3 arg4 arg5 arg7 arg19 f1 f2 f3 f4 f5 f7 hstep hmeta hgb) (bodyRun.sl.v9579 c arg0 arg1 arg2 arg6 f1 f2 f6 hstep hmeta hgb) (View.readAt (Elt F) arg8.view (Rect.unit (s := S1x512) ![0, 0] S1x512.size inb_S1x512_S1x512_0_0).toLoadRect f8) (ix2 q k) = (actOf c arg0 arg1 arg2 arg3 arg4 arg5 arg6 arg7 arg8 arg19 f1 f2 f3 f4 f5 f6 f7 f8 hstep hmeta hgb) (ix2 r k) :=
  grpB _ _ _ _ _ 464 208 29 rfl rfl _ _ _ (tw29 c arg0 arg1 arg2 arg6 f1 f2 f6 hstep hmeta hgb) (row_read8 c arg8 f8 _) q k r hr

theorem act29 : ∀ y : S512x512.Idx, (y 0).val < 480 → View.canon (bodyRun.sl.H20_30 c arg0 arg1 arg2 arg3 arg4 arg5 arg6 arg7 arg8 arg19 f1 f2 f3 f4 f5 f6 f7 f8 hstep hmeta hgb) y = (actOf c arg0 arg1 arg2 arg3 arg4 arg5 arg6 arg7 arg8 arg19 f1 f2 f3 f4 f5 f6 f7 f8 hstep hmeta hgb) y :=
  act_step (actOf c arg0 arg1 arg2 arg3 arg4 arg5 arg6 arg7 arg8 arg19 f1 f2 f3 f4 f5 f6 f7 f8 hstep hmeta hgb) 464 (⟨Rect.unit (s := S512x512) ![448, 0] S16x512.size inb_S512x512_S16x512_448_0, (zRow (F := F) ![192, 0] slices_S256x512_o192_0_S16x512 (bodyRun.sl.r_427 c arg0 arg1 arg2 arg3 arg4 arg5 arg7 arg19 f1 f2 f3 f4 f5 f7 hstep hmeta hgb) (bodyRun.sl.v9558 c arg0 arg1 arg2 arg6 f1 f2 f6 hstep hmeta hgb) (View.readAt (Elt F) arg8.view (Rect.unit (s := S1x512) ![0, 0] S1x512.size inb_S1x512_S1x512_0_0).toLoadRect f8))⟩ :: bodyRun.sl.H20_28 c arg0 arg1 arg2 arg3 arg4 arg5 arg6 arg7 arg8 arg19 f1 f2 f3 f4 f5 f6 f7 f8 hstep hmeta hgb) (act_step (actOf c arg0 arg1 arg2 arg3 arg4 arg5 arg6 arg7 arg8 arg19 f1 f2 f3 f4 f5 f6 f7 f8 hstep hmeta hgb) 448 (bodyRun.sl.H20_28 c arg0 arg1 arg2 arg3 arg4 arg5 arg6 arg7 arg8 arg19 f1 f2 f3 f4 f5 f6 f7 f8 hstep hmeta hgb) (act27 c arg0 arg1 arg2 arg3 arg4 arg5 arg6 arg7 arg8 arg19 f1 f2 f3 f4 f5 f6 f7 f8 hstep hmeta hgb) inb_S512x512_S16x512_448_0 (zRow (F := F) ![192, 0] slices_S256x512_o192_0_S16x512 (bodyRun.sl.r_427 c arg0 arg1 arg2 arg3 arg4 arg5 arg7 arg19 f1 f2 f3 f4 f5 f7 hstep hmeta hgb) (bodyRun.sl.v9558 c arg0 arg1 arg2 arg6 f1 f2 f6 hstep hmeta hgb) (View.readAt (Elt F) arg8.view (Rect.unit (s := S1x512) ![0, 0] S1x512.size inb_S1x512_S1x512_0_0).toLoadRect f8)) (grp28 c arg0 arg1 arg2 arg3 arg4 arg5 arg6 arg7 arg8 arg19 f1 f2 f3 f4 f5 f6 f7 f8 hstep hmeta hgb))
    inb_S512x512_S16x512_464_0 (zRow (F := F) ![208, 0] slices_S256x512_o208_0_S16x512 (bodyRun.sl.r_427 c arg0 arg1 arg2 arg3 arg4 arg5 arg7 arg19 f1 f2 f3 f4 f5 f7 hstep hmeta hgb) (bodyRun.sl.v9579 c arg0 arg1 arg2 arg6 f1 f2 f6 hstep hmeta hgb) (View.readAt (Elt F) arg8.view (Rect.unit (s := S1x512) ![0, 0] S1x512.size inb_S1x512_S1x512_0_0).toLoadRect f8)) (grp29 c arg0 arg1 arg2 arg3 arg4 arg5 arg6 arg7 arg8 arg19 f1 f2 f3 f4 f5 f6 f7 f8 hstep hmeta hgb)

theorem tw30 (k : Fin 512) : bodyRun.sl.v9600 c arg0 arg1 arg2 arg6 f1 f2 f6 hstep hmeta hgb (ix2 0 k)
    = View.read (Elt F) arg6.view f6 (ix2 ⟨(gW (View.read (Elt F) arg1.view f1) arg0 (bodyRun.sl.r (F := F) c arg2 f2) 30).toNat % 224, Nat.mod_lt _ (by decide)⟩ k) := by
  have e : bodyRun.sl.r_447 c arg0 arg1 arg2 f1 f2 hstep hmeta = gW (View.read (Elt F) arg1.view f1) arg0 (bodyRun.sl.r c arg2 f2) 30 :=
    word_read c arg1 f1 arg0 (bodyRun.sl.r c arg2 f2) 16 14 _ rfl _ _
  have h : bodyRun.sl.v9600 c arg0 arg1 arg2 arg6 f1 f2 f6 hstep hmeta hgb (ix2 0 k) = View.read (Elt F) arg6.view f6 (ix2 ⟨(bodyRun.sl.r_447 c arg0 arg1 arg2 f1 f2 hstep hmeta).toNat % 224, Nat.mod_lt _ (by decide)⟩ k) :=
    row_read6 c arg6 f6 _ _ rfl _ k
  rw [h]; simp only [e]

theorem grp30 (q : Fin 16) (k : Fin 512) (r : Fin 512) (hr : r.val = 480 + q.val) :
    zRow (F := F) ![224, 0] slices_S256x512_o224_0_S16x512 (bodyRun.sl.r_427 c arg0 arg1 arg2 arg3 arg4 arg5 arg7 arg19 f1 f2 f3 f4 f5 f7 hstep hmeta hgb) (bodyRun.sl.v9600 c arg0 arg1 arg2 arg6 f1 f2 f6 hstep hmeta hgb) (View.readAt (Elt F) arg8.view (Rect.unit (s := S1x512) ![0, 0] S1x512.size inb_S1x512_S1x512_0_0).toLoadRect f8) (ix2 q k) = (actOf c arg0 arg1 arg2 arg3 arg4 arg5 arg6 arg7 arg8 arg19 f1 f2 f3 f4 f5 f6 f7 f8 hstep hmeta hgb) (ix2 r k) :=
  grpB _ _ _ _ _ 480 224 30 rfl rfl _ _ _ (tw30 c arg0 arg1 arg2 arg6 f1 f2 f6 hstep hmeta hgb) (row_read8 c arg8 f8 _) q k r hr

theorem tw31 (k : Fin 512) : bodyRun.sl.v9621 c arg0 arg1 arg2 arg6 f1 f2 f6 hstep hmeta hgb (ix2 0 k)
    = View.read (Elt F) arg6.view f6 (ix2 ⟨(gW (View.read (Elt F) arg1.view f1) arg0 (bodyRun.sl.r (F := F) c arg2 f2) 31).toNat % 224, Nat.mod_lt _ (by decide)⟩ k) := by
  have e : bodyRun.sl.r_449 c arg0 arg1 arg2 f1 f2 hstep hmeta = gW (View.read (Elt F) arg1.view f1) arg0 (bodyRun.sl.r c arg2 f2) 31 :=
    word_read c arg1 f1 arg0 (bodyRun.sl.r c arg2 f2) 16 15 _ rfl _ _
  have h : bodyRun.sl.v9621 c arg0 arg1 arg2 arg6 f1 f2 f6 hstep hmeta hgb (ix2 0 k) = View.read (Elt F) arg6.view f6 (ix2 ⟨(bodyRun.sl.r_449 c arg0 arg1 arg2 f1 f2 hstep hmeta).toNat % 224, Nat.mod_lt _ (by decide)⟩ k) :=
    row_read6 c arg6 f6 _ _ rfl _ k
  rw [h]; simp only [e]

theorem grp31 (q : Fin 16) (k : Fin 512) (r : Fin 512) (hr : r.val = 496 + q.val) :
    zRow (F := F) ![240, 0] slices_S256x512_o240_0_S16x512 (bodyRun.sl.r_427 c arg0 arg1 arg2 arg3 arg4 arg5 arg7 arg19 f1 f2 f3 f4 f5 f7 hstep hmeta hgb) (bodyRun.sl.v9621 c arg0 arg1 arg2 arg6 f1 f2 f6 hstep hmeta hgb) (View.readAt (Elt F) arg8.view (Rect.unit (s := S1x512) ![0, 0] S1x512.size inb_S1x512_S1x512_0_0).toLoadRect f8) (ix2 q k) = (actOf c arg0 arg1 arg2 arg3 arg4 arg5 arg6 arg7 arg8 arg19 f1 f2 f3 f4 f5 f6 f7 f8 hstep hmeta hgb) (ix2 r k) :=
  grpB _ _ _ _ _ 496 240 31 rfl rfl _ _ _ (tw31 c arg0 arg1 arg2 arg6 f1 f2 f6 hstep hmeta hgb) (row_read8 c arg8 f8 _) q k r hr

theorem act31 : ∀ y : S512x512.Idx, (y 0).val < 512 → View.canon (bodyRun.sl.H20_32 c arg0 arg1 arg2 arg3 arg4 arg5 arg6 arg7 arg8 arg19 f1 f2 f3 f4 f5 f6 f7 f8 hstep hmeta hgb) y = (actOf c arg0 arg1 arg2 arg3 arg4 arg5 arg6 arg7 arg8 arg19 f1 f2 f3 f4 f5 f6 f7 f8 hstep hmeta hgb) y :=
  act_step (actOf c arg0 arg1 arg2 arg3 arg4 arg5 arg6 arg7 arg8 arg19 f1 f2 f3 f4 f5 f6 f7 f8 hstep hmeta hgb) 496 (⟨Rect.unit (s := S512x512) ![480, 0] S16x512.size inb_S512x512_S16x512_480_0, (zRow (F := F) ![224, 0] slices_S256x512_o224_0_S16x512 (bodyRun.sl.r_427 c arg0 arg1 arg2 arg3 arg4 arg5 arg7 arg19 f1 f2 f3 f4 f5 f7 hstep hmeta hgb) (bodyRun.sl.v9600 c arg0 arg1 arg2 arg6 f1 f2 f6 hstep hmeta hgb) (View.readAt (Elt F) arg8.view (Rect.unit (s := S1x512) ![0, 0] S1x512.size inb_S1x512_S1x512_0_0).toLoadRect f8))⟩ :: bodyRun.sl.H20_30 c arg0 arg1 arg2 arg3 arg4 arg5 arg6 arg7 arg8 arg19 f1 f2 f3 f4 f5 f6 f7 f8 hstep hmeta hgb) (act_step (actOf c arg0 arg1 arg2 arg3 arg4 arg5 arg6 arg7 arg8 arg19 f1 f2 f3 f4 f5 f6 f7 f8 hstep hmeta hgb) 480 (bodyRun.sl.H20_30 c arg0 arg1 arg2 arg3 arg4 arg5 arg6 arg7 arg8 arg19 f1 f2 f3 f4 f5 f6 f7 f8 hstep hmeta hgb) (act29 c arg0 arg1 arg2 arg3 arg4 arg5 arg6 arg7 arg8 arg19 f1 f2 f3 f4 f5 f6 f7 f8 hstep hmeta hgb) inb_S512x512_S16x512_480_0 (zRow (F := F) ![224, 0] slices_S256x512_o224_0_S16x512 (bodyRun.sl.r_427 c arg0 arg1 arg2 arg3 arg4 arg5 arg7 arg19 f1 f2 f3 f4 f5 f7 hstep hmeta hgb) (bodyRun.sl.v9600 c arg0 arg1 arg2 arg6 f1 f2 f6 hstep hmeta hgb) (View.readAt (Elt F) arg8.view (Rect.unit (s := S1x512) ![0, 0] S1x512.size inb_S1x512_S1x512_0_0).toLoadRect f8)) (grp30 c arg0 arg1 arg2 arg3 arg4 arg5 arg6 arg7 arg8 arg19 f1 f2 f3 f4 f5 f6 f7 f8 hstep hmeta hgb))
    inb_S512x512_S16x512_496_0 (zRow (F := F) ![240, 0] slices_S256x512_o240_0_S16x512 (bodyRun.sl.r_427 c arg0 arg1 arg2 arg3 arg4 arg5 arg7 arg19 f1 f2 f3 f4 f5 f7 hstep hmeta hgb) (bodyRun.sl.v9621 c arg0 arg1 arg2 arg6 f1 f2 f6 hstep hmeta hgb) (View.readAt (Elt F) arg8.view (Rect.unit (s := S1x512) ![0, 0] S1x512.size inb_S1x512_S1x512_0_0).toLoadRect f8)) (grp31 c arg0 arg1 arg2 arg3 arg4 arg5 arg6 arg7 arg8 arg19 f1 f2 f3 f4 f5 f6 f7 f8 hstep hmeta hgb)

end Cert.Proof.KernelIdeal

end
-- ==== Proof.FeatA.lean ====
/-
  Work items 0 to 3 of a grid step: their three stores are blocks of the feature matrix.
-/
module

public import proofs.«01_k».proof.Proof.Feat

@[expose] public section

noncomputable section

namespace Cert.Proof.KernelIdeal

open Cert.KernelIdeal Cert.KernelIdeal.Gen
open Idealize.ShloMosaic
open Cert.KernelIdeal.Facts

variable {F : FTy → Type} [FloatOps F]
variable (c : Dev nD) (arg0 : BitVec 32)
  (arg1 : Memref sig .tc .smem S4800 .i32) (arg2 : Memref sig .tc .smem S1 .i32) (arg3 : Memref sig .tc .vmem S16x6x8x128 .i32)
  (arg4 : Memref sig .tc .vmem S16x2x128 .i32) (arg5 : Memref sig .tc .vmem S224x768 .i32)
  (f1 : Bf (F := F) c arg1) (f2 : Bf (F := F) c arg2) (f3 : Bf (F := F) c arg3) (f4 : Bf (F := F) c arg4) (f5 : Bf (F := F) c arg5)
  (hstep : arg0.toNat < 150) (hmeta : ∀ x, arg2.view.read (Elt F) f2 x = (0#32 : BitVec 32)) (hgb : ∀ x, BitVec.toNat (arg1.view.read (Elt F) f1 x) < 200)

/-- The feature matrix of the step's buffers. -/
def featOf : S512x2304.Idx → F .bf16 :=
  featAt (F := F) (View.read (Elt F) arg3.view f3) (View.read (Elt F) arg4.view f4) (View.read (Elt F) arg5.view f5)
    (gW (View.read (Elt F) arg1.view f1) arg0 (bodyRun.sl.r (F := F) c arg2 f2))

theorem gw0a : bodyRun.sl.r_21 c arg0 arg1 arg2 f1 f2 hstep hmeta = gW (View.read (Elt F) arg1.view f1) arg0 (bodyRun.sl.r c arg2 f2) 0 :=
  word_read c arg1 f1 arg0 (bodyRun.sl.r c arg2 f2) 0 0 _ rfl _ _
theorem gw0b : bodyRun.sl.r_22 c arg0 arg1 arg2 f1 f2 hstep hmeta = gW (View.read (Elt F) arg1.view f1) arg0 (bodyRun.sl.r c arg2 f2) 1 :=
  word_read c arg1 f1 arg0 (bodyRun.sl.r c arg2 f2) 0 1 _ rfl _ _

theorem h0 (q : Fin 32) (cc : Fin 768) (r : Fin 512) (hr : r.val = 0 + q.val) :
    bodyRun.sl.r_23 c arg3 arg4 f3 f4 (ix2 q cc) = hAt (F := F) (View.read (Elt F) arg3.view f3) (View.read (Elt F) arg4.view f4) r cc :=
  itemH_read c arg3 arg4 f3 f4 0 (by decide) inb_S16x6x8x128_S1x6x8x128_0_0_0_0 inb_S16x2x128_S1x1x128_0_0_0 inb_S16x2x128_S1x1x128_0_1_0 q cc r hr

theorem t0 (q : Fin 32) (cc : Fin 768) (r : Fin 512) (hr : r.val = 0 + q.val) :
    bodyRun.sl.r_24 c arg0 arg1 arg2 arg5 f1 f2 f5 hstep hmeta hgb (ix2 q cc) = tAt (F := F) (View.read (Elt F) arg5.view f5) (gW (View.read (Elt F) arg1.view f1) arg0 (bodyRun.sl.r c arg2 f2) (r.val / 16)) r.val cc := by
  have e : bodyRun.sl.r_24 c arg0 arg1 arg2 arg5 f1 f2 f5 hstep hmeta hgb = itemT (F := F) (bodyRun.sl.v538 c arg0 arg1 arg2 arg5 f1 f2 f5 hstep hmeta hgb) (bodyRun.sl.v548 c arg0 arg1 arg2 arg5 f1 f2 f5 hstep hmeta hgb) := rfl
  rw [e, itemT_apply]
  unfold tAt
  rw [show r.val % 2 = q.val % 2 by omega]
  split
  · rename_i h
    rw [show r.val / 16 = 0 by omega, ← gw0a c arg0 arg1 arg2 f1 f2 hstep hmeta]
    exact congrArg (fun z => FloatOps.ofBits (F := F) .bf16 (BitVec.extractLsb' _ 16 z)) (row_read c arg5 f5 _ _ rfl _ cc)
  · rename_i h
    rw [show r.val / 16 = 1 by omega, ← gw0b c arg0 arg1 arg2 f1 f2 hstep hmeta]
    exact congrArg (fun z => FloatOps.ofBits (F := F) .bf16 (BitVec.extractLsb' _ 16 z)) (row_read c arg5 f5 _ _ rfl _ cc)

theorem s0 : bodyRun.sl.r_25 c arg0 arg1 arg2 arg3 arg4 arg5 f1 f2 f3 f4 f5 hstep hmeta hgb = subf (bodyRun.sl.r_23 c arg3 arg4 f3 f4) (bodyRun.sl.r_24 c arg0 arg1 arg2 arg5 f1 f2 f5 hstep hmeta hgb) := rfl

theorem feat0 : ∀ y : S512x2304.Idx, (y 0).val < 32 → View.canon (bodyRun.sl.H19_3 c arg0 arg1 arg2 arg3 arg4 arg5 f1 f2 f3 f4 f5 hstep hmeta hgb) y = (featOf c arg0 arg1 arg2 arg3 arg4 arg5 f1 f2 f3 f4 f5) y := by
  refine feat_step (featOf c arg0 arg1 arg2 arg3 arg4 arg5 f1 f2 f3 f4 f5) 0 [] (fun y hy => absurd hy (Nat.not_lt_zero _))
    inb_S512x2304_S32x768_0_0 inb_S512x2304_S32x768_0_768 inb_S512x2304_S32x768_0_1536
    (shapeCast S32x768 (bodyRun.sl.r_23 c arg3 arg4 f3 f4) shapeCasts_S32x768_S32x768)
    (shapeCast S32x768 (bodyRun.sl.r_25 c arg0 arg1 arg2 arg3 arg4 arg5 f1 f2 f3 f4 f5 hstep hmeta hgb) shapeCasts_S32x768_S32x768)
    (shapeCast S32x768 (mulf (bodyRun.sl.r_23 c arg3 arg4 f3 f4) (bodyRun.sl.r_24 c arg0 arg1 arg2 arg5 f1 f2 f5 hstep hmeta hgb)) shapeCasts_S32x768_S32x768) ?_ ?_ ?_
  · intro q cc r k hr hk
    pointwise
    rw [h0 c arg3 arg4 f3 f4 q cc r hr]
    exact (featH _ _ _ _ r k cc hk).symm
  · intro q cc r k hr hk
    rw [s0]
    pointwise
    rw [h0 c arg3 arg4 f3 f4 q cc r hr, t0 c arg0 arg1 arg2 arg5 f1 f2 f5 hstep hmeta hgb q cc r hr]
    exact (featS _ _ _ _ r k cc hk).symm
  · intro q cc r k hr hk
    pointwise
    rw [h0 c arg3 arg4 f3 f4 q cc r hr, t0 c arg0 arg1 arg2 arg5 f1 f2 f5 hstep hmeta hgb q cc r hr]
    exact (featM _ _ _ _ r k cc hk).symm

theorem gw1a : bodyRun.sl.r_46 c arg0 arg1 arg2 f1 f2 hstep hmeta = gW (View.read (Elt F) arg1.view f1) arg0 (bodyRun.sl.r c arg2 f2) 2 :=
  word_read c arg1 f1 arg0 (bodyRun.sl.r c arg2 f2) 2 0 _ rfl _ _
theorem gw1b : bodyRun.sl.r_47 c arg0 arg1 arg2 f1 f2 hstep hmeta = gW (View.read (Elt F) arg1.view f1) arg0 (bodyRun.sl.r c arg2 f2) 3 :=
  word_read c arg1 f1 arg0 (bodyRun.sl.r c arg2 f2) 2 1 _ rfl _ _

theorem h1 (q : Fin 32) (cc : Fin 768) (r : Fin 512) (hr : r.val = 32 + q.val) :
    bodyRun.sl.r_48 c arg3 arg4 f3 f4 (ix2 q cc) = hAt (F := F) (View.read (Elt F) arg3.view f3) (View.read (Elt F) arg4.view f4) r cc :=
  itemH_read c arg3 arg4 f3 f4 1 (by decide) inb_S16x6x8x128_S1x6x8x128_1_0_0_0 inb_S16x2x128_S1x1x128_1_0_0 inb_S16x2x128_S1x1x128_1_1_0 q cc r hr

theorem t1 (q : Fin 32) (cc : Fin 768) (r : Fin 512) (hr : r.val = 32 + q.val) :
    bodyRun.sl.r_49 c arg0 arg1 arg2 arg5 f1 f2 f5 hstep hmeta hgb (ix2 q cc) = tAt (F := F) (View.read (Elt F) arg5.view f5) (gW (View.read (Elt F) arg1.view f1) arg0 (bodyRun.sl.r c arg2 f2) (r.val / 16)) r.val cc := by
  have e : bodyRun.sl.r_49 c arg0 arg1 arg2 arg5 f1 f2 f5 hstep hmeta hgb = itemT (F := F) (bodyRun.sl.v1097 c arg0 arg1 arg2 arg5 f1 f2 f5 hstep hmeta hgb) (bodyRun.sl.v1107 c arg0 arg1 arg2 arg5 f1 f2 f5 hstep hmeta hgb) := rfl
  rw [e, itemT_apply]
  unfold tAt
  rw [show r.val % 2 = q.val % 2 by omega]
  split
  · rename_i h
    rw [show r.val / 16 = 2 by omega, ← gw1a c arg0 arg1 arg2 f1 f2 hstep hmeta]
    exact congrArg (fun z => FloatOps.ofBits (F := F) .bf16 (BitVec.extractLsb' _ 16 z)) (row_read c arg5 f5 _ _ rfl _ cc)
  · rename_i h
    rw [show r.val / 16 = 3 by omega, ← gw1b c arg0 arg1 arg2 f1 f2 hstep hmeta]
    exact congrArg (fun z => FloatOps.ofBits (F := F) .bf16 (BitVec.extractLsb' _ 16 z)) (row_read c arg5 f5 _ _ rfl _ cc)

theorem s1 : bodyRun.sl.r_50 c arg0 arg1 arg2 arg3 arg4 arg5 f1 f2 f3 f4 f5 hstep hmeta hgb = subf (bodyRun.sl.r_48 c arg3 arg4 f3 f4) (bodyRun.sl.r_49 c arg0 arg1 arg2 arg5 f1 f2 f5 hstep hmeta hgb) := rfl

theorem feat1 : ∀ y : S512x2304.Idx, (y 0).val < 64 → View.canon (bodyRun.sl.H19_6 c arg0 arg1 arg2 arg3 arg4 arg5 f1 f2 f3 f4 f5 hstep hmeta hgb) y = (featOf c arg0 arg1 arg2 arg3 arg4 arg5 f1 f2 f3 f4 f5) y := by
  refine feat_step (featOf c arg0 arg1 arg2 arg3 arg4 arg5 f1 f2 f3 f4 f5) 32 (bodyRun.sl.H19_3 c arg0 arg1 arg2 arg3 arg4 arg5 f1 f2 f3 f4 f5 hstep hmeta hgb) (feat0 c arg0 arg1 arg2 arg3 arg4 arg5 f1 f2 f3 f4 f5 hstep hmeta hgb)
    inb_S512x2304_S32x768_32_0 inb_S512x2304_S32x768_32_768 inb_S512x2304_S32x768_32_1536
    (shapeCast S32x768 (bodyRun.sl.r_48 c arg3 arg4 f3 f4) shapeCasts_S32x768_S32x768)
    (shapeCast S32x768 (bodyRun.sl.r_50 c arg0 arg1 arg2 arg3 arg4 arg5 f1 f2 f3 f4 f5 hstep hmeta hgb) shapeCasts_S32x768_S32x768)
    (shapeCast S32x768 (mulf (bodyRun.sl.r_48 c arg3 arg4 f3 f4) (bodyRun.sl.r_49 c arg0 arg1 arg2 arg5 f1 f2 f5 hstep hmeta hgb)) shapeCasts_S32x768_S32x768) ?_ ?_ ?_
  · intro q cc r k hr hk
    pointwise
    rw [h1 c arg3 arg4 f3 f4 q cc r hr]
    exact (featH _ _ _ _ r k cc hk).symm
  · intro q cc r k hr hk
    rw [s1]
    pointwise
    rw [h1 c arg3 arg4 f3 f4 q cc r hr, t1 c arg0 arg1 arg2 arg5 f1 f2 f5 hstep hmeta hgb q cc r hr]
    exact (featS _ _ _ _ r k cc hk).symm
  · intro q cc r k hr hk
    pointwise
    rw [h1 c arg3 arg4 f3 f4 q cc r hr, t1 c arg0 arg1 arg2 arg5 f1 f2 f5 hstep hmeta hgb q cc r hr]
    exact (featM _ _ _ _ r k cc hk).symm

theorem gw2a : bodyRun.sl.r_71 c arg0 arg1 arg2 f1 f2 hstep hmeta = gW (View.read (Elt F) arg1.view f1) arg0 (bodyRun.sl.r c arg2 f2) 4 :=
  word_read c arg1 f1 arg0 (bodyRun.sl.r c arg2 f2) 4 0 _ rfl _ _
theorem gw2b : bodyRun.sl.r_72 c arg0 arg1 arg2 f1 f2 hstep hmeta = gW (View.read (Elt F) arg1.view f1) arg0 (bodyRun.sl.r c arg2 f2) 5 :=
  word_read c arg1 f1 arg0 (bodyRun.sl.r c arg2 f2) 4 1 _ rfl _ _

theorem h2 (q : Fin 32) (cc : Fin 768) (r : Fin 512) (hr : r.val = 64 + q.val) :
    bodyRun.sl.r_73 c arg3 arg4 f3 f4 (ix2 q cc) = hAt (F := F) (View.read (Elt F) arg3.view f3) (View.read (Elt F) arg4.view f4) r cc :=
  itemH_read c arg3 arg4 f3 f4 2 (by decide) inb_S16x6x8x128_S1x6x8x128_2_0_0_0 inb_S16x2x128_S1x1x128_2_0_0 inb_S16x2x128_S1x1x128_2_1_0 q cc r hr

theorem t2 (q : Fin 32) (cc : Fin 768) (r : Fin 512) (hr : r.val = 64 + q.val) :
    bodyRun.sl.r_74 c arg0 arg1 arg2 arg5 f1 f2 f5 hstep hmeta hgb (ix2 q cc) = tAt (F := F) (View.read (Elt F) arg5.view f5) (gW (View.read (Elt F) arg1.view f1) arg0 (bodyRun.sl.r c arg2 f2) (r.val / 16)) r.val cc := by
  have e : bodyRun.sl.r_74 c arg0 arg1 arg2 arg5 f1 f2 f5 hstep hmeta hgb = itemT (F := F) (bodyRun.sl.v1656 c arg0 arg1 arg2 arg5 f1 f2 f5 hstep hmeta hgb) (bodyRun.sl.v1666 c arg0 arg1 arg2 arg5 f1 f2 f5 hstep hmeta hgb) := rfl
  rw [e, itemT_apply]
  unfold tAt
  rw [show r.val % 2 = q.val % 2 by omega]
  split
  · rename_i h
    rw [show r.val / 16 = 4 by omega, ← gw2a c arg0 arg1 arg2 f1 f2 hstep hmeta]
    exact congrArg (fun z => FloatOps.ofBits (F := F) .bf16 (BitVec.extractLsb' _ 16 z)) (row_read c arg5 f5 _ _ rfl _ cc)
  · rename_i h
    rw [show r.val / 16 = 5 by omega, ← gw2b c arg0 arg1 arg2 f1 f2 hstep hmeta]
    exact congrArg (fun z => FloatOps.ofBits (F := F) .bf16 (BitVec.extractLsb' _ 16 z)) (row_read c arg5 f5 _ _ rfl _ cc)

theorem s2 : bodyRun.sl.r_75 c arg0 arg1 arg2 arg3 arg4 arg5 f1 f2 f3 f4 f5 hstep hmeta hgb = subf (bodyRun.sl.r_73 c arg3 arg4 f3 f4) (bodyRun.sl.r_74 c arg0 arg1 arg2 arg5 f1 f2 f5 hstep hmeta hgb) := rfl

theorem feat2 : ∀ y : S512x2304.Idx, (y 0).val < 96 → View.canon (bodyRun.sl.H19_9 c arg0 arg1 arg2 arg3 arg4 arg5 f1 f2 f3 f4 f5 hstep hmeta hgb) y = (featOf c arg0 arg1 arg2 arg3 arg4 arg5 f1 f2 f3 f4 f5) y := by
  refine feat_step (featOf c arg0 arg1 arg2 arg3 arg4 arg5 f1 f2 f3 f4 f5) 64 (bodyRun.sl.H19_6 c arg0 arg1 arg2 arg3 arg4 arg5 f1 f2 f3 f4 f5 hstep hmeta hgb) (feat1 c arg0 arg1 arg2 arg3 arg4 arg5 f1 f2 f3 f4 f5 hstep hmeta hgb)
    inb_S512x2304_S32x768_64_0 inb_S512x2304_S32x768_64_768 inb_S512x2304_S32x768_64_1536
    (shapeCast S32x768 (bodyRun.sl.r_73 c arg3 arg4 f3 f4) shapeCasts_S32x768_S32x768)
    (shapeCast S32x768 (bodyRun.sl.r_75 c arg0 arg1 arg2 arg3 arg4 arg5 f1 f2 f3 f4 f5 hstep hmeta hgb) shapeCasts_S32x768_S32x768)
    (shapeCast S32x768 (mulf (bodyRun.sl.r_73 c arg3 arg4 f3 f4) (bodyRun.sl.r_74 c arg0 arg1 arg2 arg5 f1 f2 f5 hstep hmeta hgb)) shapeCasts_S32x768_S32x768) ?_ ?_ ?_
  · intro q cc r k hr hk
    pointwise
    rw [h2 c arg3 arg4 f3 f4 q cc r hr]
    exact (featH _ _ _ _ r k cc hk).symm
  · intro q cc r k hr hk
    rw [s2]
    pointwise
    rw [h2 c arg3 arg4 f3 f4 q cc r hr, t2 c arg0 arg1 arg2 arg5 f1 f2 f5 hstep hmeta hgb q cc r hr]
    exact (featS _ _ _ _ r k cc hk).symm
  · intro q cc r k hr hk
    pointwise
    rw [h2 c arg3 arg4 f3 f4 q cc r hr, t2 c arg0 arg1 arg2 arg5 f1 f2 f5 hstep hmeta hgb q cc r hr]
    exact (featM _ _ _ _ r k cc hk).symm

theorem gw3a : bodyRun.sl.r_96 c arg0 arg1 arg2 f1 f2 hstep hmeta = gW (View.read (Elt F) arg1.view f1) arg0 (bodyRun.sl.r c arg2 f2) 6 :=
  word_read c arg1 f1 arg0 (bodyRun.sl.r c arg2 f2) 6 0 _ rfl _ _
theorem gw3b : bodyRun.sl.r_97 c arg0 arg1 arg2 f1 f2 hstep hmeta = gW (View.read (Elt F) arg1.view f1) arg0 (bodyRun.sl.r c arg2 f2) 7 :=
  word_read c arg1 f1 arg0 (bodyRun.sl.r c arg2 f2) 6 1 _ rfl _ _

theorem h3 (q : Fin 32) (cc : Fin 768) (r : Fin 512) (hr : r.val = 96 + q.val) :
    bodyRun.sl.r_98 c arg3 arg4 f3 f4 (ix2 q cc) = hAt (F := F) (View.read (Elt F) arg3.view f3) (View.read (Elt F) arg4.view f4) r cc :=
  itemH_read c arg3 arg4 f3 f4 3 (by decide) inb_S16x6x8x128_S1x6x8x128_3_0_0_0 inb_S16x2x128_S1x1x128_3_0_0 inb_S16x2x128_S1x1x128_3_1_0 q cc r hr

theorem t3 (q : Fin 32) (cc : Fin 768) (r : Fin 512) (hr : r.val = 96 + q.val) :
    bodyRun.sl.r_99 c arg0 arg1 arg2 arg5 f1 f2 f5 hstep hmeta hgb (ix2 q cc) = tAt (F := F) (View.read (Elt F) arg5.view f5) (gW (View.read (Elt F) arg1.view f1) arg0 (bodyRun.sl.r c arg2 f2) (r.val / 16)) r.val cc := by
  have e : bodyRun.sl.r_99 c arg0 arg1 arg2 arg5 f1 f2 f5 hstep hmeta hgb = itemT (F := F) (bodyRun.sl.v2215 c arg0 arg1 arg2 arg5 f1 f2 f5 hstep hmeta hgb) (bodyRun.sl.v2225 c arg0 arg1 arg2 arg5 f1 f2 f5 hstep hmeta hgb) := rfl
  rw [e, itemT_apply]
  unfold tAt
  rw [show r.val % 2 = q.val % 2 by omega]
  split
  · rename_i h
    rw [show r.val / 16 = 6 by omega, ← gw3a c arg0 arg1 arg2 f1 f2 hstep hmeta]
    exact congrArg (fun z => FloatOps.ofBits (F := F) .bf16 (BitVec.extractLsb' _ 16 z)) (row_read c arg5 f5 _ _ rfl _ cc)
  · rename_i h
    rw [show r.val / 16 = 7 by omega, ← gw3b c arg0 arg1 arg2 f1 f2 hstep hmeta]
    exact congrArg (fun z => FloatOps.ofBits (F := F) .bf16 (BitVec.extractLsb' _ 16 z)) (row_read c arg5 f5 _ _ rfl _ cc)

theorem s3 : bodyRun.sl.r_100 c arg0 arg1 arg2 arg3 arg4 arg5 f1 f2 f3 f4 f5 hstep hmeta hgb = subf (bodyRun.sl.r_98 c arg3 arg4 f3 f4) (bodyRun.sl.r_99 c arg0 arg1 arg2 arg5 f1 f2 f5 hstep hmeta hgb) := rfl

theorem feat3 : ∀ y : S512x2304.Idx, (y 0).val < 128 → View.canon (bodyRun.sl.H19_12 c arg0 arg1 arg2 arg3 arg4 arg5 f1 f2 f3 f4 f5 hstep hmeta hgb) y = (featOf c arg0 arg1 arg2 arg3 arg4 arg5 f1 f2 f3 f4 f5) y := by
  refine feat_step (featOf c arg0 arg1 arg2 arg3 arg4 arg5 f1 f2 f3 f4 f5) 96 (bodyRun.sl.H19_9 c arg0 arg1 arg2 arg3 arg4 arg5 f1 f2 f3 f4 f5 hstep hmeta hgb) (feat2 c arg0 arg1 arg2 arg3 arg4 arg5 f1 f2 f3 f4 f5 hstep hmeta hgb)
    inb_S512x2304_S32x768_96_0 inb_S512x2304_S32x768_96_768 inb_S512x2304_S32x768_96_1536
    (shapeCast S32x768 (bodyRun.sl.r_98 c arg3 arg4 f3 f4) shapeCasts_S32x768_S32x768)
    (shapeCast S32x768 (bodyRun.sl.r_100 c arg0 arg1 arg2 arg3 arg4 arg5 f1 f2 f3 f4 f5 hstep hmeta hgb) shapeCasts_S32x768_S32x768)
    (shapeCast S32x768 (mulf (bodyRun.sl.r_98 c arg3 arg4 f3 f4) (bodyRun.sl.r_99 c arg0 arg1 arg2 arg5 f1 f2 f5 hstep hmeta hgb)) shapeCasts_S32x768_S32x768) ?_ ?_ ?_
  · intro q cc r k hr hk
    pointwise
    rw [h3 c arg3 arg4 f3 f4 q cc r hr]
    exact (featH _ _ _ _ r k cc hk).symm
  · intro q cc r k hr hk
    rw [s3]
    pointwise
    rw [h3 c arg3 arg4 f3 f4 q cc r hr, t3 c arg0 arg1 arg2 arg5 f1 f2 f5 hstep hmeta hgb q cc r hr]
    exact (featS _ _ _ _ r k cc hk).symm
  · intro q cc r k hr hk
    pointwise
    rw [h3 c arg3 arg4 f3 f4 q cc r hr, t3 c arg0 arg1 arg2 arg5 f1 f2 f5 hstep hmeta hgb q cc r hr]
    exact (featM _ _ _ _ r k cc hk).symm

end Cert.Proof.KernelIdeal

end
-- ==== Proof.FeatB.lean ====
/-
  Work items 4 to 7 of a grid step: their three stores are blocks of the feature matrix.
-/
module

public import proofs.«01_k».proof.Proof.FeatA

@[expose] public section

noncomputable section

namespace Cert.Proof.KernelIdeal

open Cert.KernelIdeal Cert.KernelIdeal.Gen
open Idealize.ShloMosaic
open Cert.KernelIdeal.Facts

variable {F : FTy → Type} [FloatOps F]
variable (c : Dev nD) (arg0 : BitVec 32)
  (arg1 : Memref sig .tc .smem S4800 .i32) (arg2 : Memref sig .tc .smem S1 .i32) (arg3 : Memref sig .tc .vmem S16x6x8x128 .i32)
  (arg4 : Memref sig .tc .vmem S16x2x128 .i32) (arg5 : Memref sig .tc .vmem S224x768 .i32)
  (f1 : Bf (F := F) c arg1) (f2 : Bf (F := F) c arg2) (f3 : Bf (F := F) c arg3) (f4 : Bf (F := F) c arg4) (f5 : Bf (F := F) c arg5)
  (hstep : arg0.toNat < 150) (hmeta : ∀ x, arg2.view.read (Elt F) f2 x = (0#32 : BitVec 32)) (hgb : ∀ x, BitVec.toNat (arg1.view.read (Elt F) f1 x) < 200)

theorem gw4a : bodyRun.sl.r_121 c arg0 arg1 arg2 f1 f2 hstep hmeta = gW (View.read (Elt F) arg1.view f1) arg0 (bodyRun.sl.r c arg2 f2) 8 :=
  word_read c arg1 f1 arg0 (bodyRun.sl.r c arg2 f2) 8 0 _ rfl _ _
theorem gw4b : bodyRun.sl.r_122 c arg0 arg1 arg2 f1 f2 hstep hmeta = gW (View.read (Elt F) arg1.view f1) arg0 (bodyRun.sl.r c arg2 f2) 9 :=
  word_read c arg1 f1 arg0 (bodyRun.sl.r c arg2 f2) 8 1 _ rfl _ _

theorem h4 (q : Fin 32) (cc : Fin 768) (r : Fin 512) (hr : r.val = 128 + q.val) :
    bodyRun.sl.r_123 c arg3 arg4 f3 f4 (ix2 q cc) = hAt (F := F) (View.read (Elt F) arg3.view f3) (View.read (Elt F) arg4.view f4) r cc :=
  itemH_read c arg3 arg4 f3 f4 4 (by decide) inb_S16x6x8x128_S1x6x8x128_4_0_0_0 inb_S16x2x128_S1x1x128_4_0_0 inb_S16x2x128_S1x1x128_4_1_0 q cc r hr

theorem t4 (q : Fin 32) (cc : Fin 768) (r : Fin 512) (hr : r.val = 128 + q.val) :
    bodyRun.sl.r_124 c arg0 arg1 arg2 arg5 f1 f2 f5 hstep hmeta hgb (ix2 q cc) = tAt (F := F) (View.read (Elt F) arg5.view f5) (gW (View.read (Elt F) arg1.view f1) arg0 (bodyRun.sl.r c arg2 f2) (r.val / 16)) r.val cc := by
  have e : bodyRun.sl.r_124 c arg0 arg1 arg2 arg5 f1 f2 f5 hstep hmeta hgb = itemT (F := F) (bodyRun.sl.v2774 c arg0 arg1 arg2 arg5 f1 f2 f5 hstep hmeta hgb) (bodyRun.sl.v2784 c arg0 arg1 arg2 arg5 f1 f2 f5 hstep hmeta hgb) := rfl
  rw [e, itemT_apply]
  unfold tAt
  rw [show r.val % 2 = q.val % 2 by omega]
  split
  · rename_i h
    rw [show r.val / 16 = 8 by omega, ← gw4a c arg0 arg1 arg2 f1 f2 hstep hmeta]
    exact congrArg (fun z => FloatOps.ofBits (F := F) .bf16 (BitVec.extractLsb' _ 16 z)) (row_read c arg5 f5 _ _ rfl _ cc)
  · rename_i h
    rw [show r.val / 16 = 9 by omega, ← gw4b c arg0 arg1 arg2 f1 f2 hstep hmeta]
    exact congrArg (fun z => FloatOps.ofBits (F := F) .bf16 (BitVec.extractLsb' _ 16 z)) (row_read c arg5 f5 _ _ rfl _ cc)

theorem s4 : bodyRun.sl.r_125 c arg0 arg1 arg2 arg3 arg4 arg5 f1 f2 f3 f4 f5 hstep hmeta hgb = subf (bodyRun.sl.r_123 c arg3 arg4 f3 f4) (bodyRun.sl.r_124 c arg0 arg1 arg2 arg5 f1 f2 f5 hstep hmeta hgb) := rfl

theorem feat4 : ∀ y : S512x2304.Idx, (y 0).val < 160 → View.canon (bodyRun.sl.H19_15 c arg0 arg1 arg2 arg3 arg4 arg5 f1 f2 f3 f4 f5 hstep hmeta hgb) y = (featOf c arg0 arg1 arg2 arg3 arg4 arg5 f1 f2 f3 f4 f5) y := by
  refine feat_step (featOf c arg0 arg1 arg2 arg3 arg4 arg5 f1 f2 f3 f4 f5) 128 (bodyRun.sl.H19_12 c arg0 arg1 arg2 arg3 arg4 arg5 f1 f2 f3 f4 f5 hstep hmeta hgb) (feat3 c arg0 arg1 arg2 arg3 arg4 arg5 f1 f2 f3 f4 f5 hstep hmeta hgb)
    inb_S512x2304_S32x768_128_0 inb_S512x2304_S32x768_128_768 inb_S512x2304_S32x768_128_1536
    (shapeCast S32x768 (bodyRun.sl.r_123 c arg3 arg4 f3 f4) shapeCasts_S32x768_S32x768)
    (shapeCast S32x768 (bodyRun.sl.r_125 c arg0 arg1 arg2 arg3 arg4 arg5 f1 f2 f3 f4 f5 hstep hmeta hgb) shapeCasts_S32x768_S32x768)
    (shapeCast S32x768 (mulf (bodyRun.sl.r_123 c arg3 arg4 f3 f4) (bodyRun.sl.r_124 c arg0 arg1 arg2 arg5 f1 f2 f5 hstep hmeta hgb)) shapeCasts_S32x768_S32x768) ?_ ?_ ?_
  · intro q cc r k hr hk
    pointwise
    rw [h4 c arg3 arg4 f3 f4 q cc r hr]
    exact (featH _ _ _ _ r k cc hk).symm
  · intro q cc r k hr hk
    rw [s4]
    pointwise
    rw [h4 c arg3 arg4 f3 f4 q cc r hr, t4 c arg0 arg1 arg2 arg5 f1 f2 f5 hstep hmeta hgb q cc r hr]
    exact (featS _ _ _ _ r k cc hk).symm
  · intro q cc r k hr hk
    pointwise
    rw [h4 c arg3 arg4 f3 f4 q cc r hr, t4 c arg0 arg1 arg2 arg5 f1 f2 f5 hstep hmeta hgb q cc r hr]
    exact (featM _ _ _ _ r k cc hk).symm

theorem gw5a : bodyRun.sl.r_146 c arg0 arg1 arg2 f1 f2 hstep hmeta = gW (View.read (Elt F) arg1.view f1) arg0 (bodyRun.sl.r c arg2 f2) 10 :=
  word_read c arg1 f1 arg0 (bodyRun.sl.r c arg2 f2) 10 0 _ rfl _ _
theorem gw5b : bodyRun.sl.r_147 c arg0 arg1 arg2 f1 f2 hstep hmeta = gW (View.read (Elt F) arg1.view f1) arg0 (bodyRun.sl.r c arg2 f2) 11 :=
  word_read c arg1 f1 arg0 (bodyRun.sl.r c arg2 f2) 10 1 _ rfl _ _

theorem h5 (q : Fin 32) (cc : Fin 768) (r : Fin 512) (hr : r.val = 160 + q.val) :
    bodyRun.sl.r_148 c arg3 arg4 f3 f4 (ix2 q cc) = hAt (F := F) (View.read (Elt F) arg3.view f3) (View.read (Elt F) arg4.view f4) r cc :=
  itemH_read c arg3 arg4 f3 f4 5 (by decide) inb_S16x6x8x128_S1x6x8x128_5_0_0_0 inb_S16x2x128_S1x1x128_5_0_0 inb_S16x2x128_S1x1x128_5_1_0 q cc r hr

theorem t5 (q : Fin 32) (cc : Fin 768) (r : Fin 512) (hr : r.val = 160 + q.val) :
    bodyRun.sl.r_149 c arg0 arg1 arg2 arg5 f1 f2 f5 hstep hmeta hgb (ix2 q cc) = tAt (F := F) (View.read (Elt F) arg5.view f5) (gW (View.read (Elt F) arg1.view f1) arg0 (bodyRun.sl.r c arg2 f2) (r.val / 16)) r.val cc := by
  have e : bodyRun.sl.r_149 c arg0 arg1 arg2 arg5 f1 f2 f5 hstep hmeta hgb = itemT (F := F) (bodyRun.sl.v3333 c arg0 arg1 arg2 arg5 f1 f2 f5 hstep hmeta hgb) (bodyRun.sl.v3343 c arg0 arg1 arg2 arg5 f1 f2 f5 hstep hmeta hgb) := rfl
  rw [e, itemT_apply]
  unfold tAt
  rw [show r.val % 2 = q.val % 2 by omega]
  split
  · rename_i h
    rw [show r.val / 16 = 10 by omega, ← gw5a c arg0 arg1 arg2 f1 f2 hstep hmeta]
    exact congrArg (fun z => FloatOps.ofBits (F := F) .bf16 (BitVec.extractLsb' _ 16 z)) (row_read c arg5 f5 _ _ rfl _ cc)
  · rename_i h
    rw [show r.val / 16 = 11 by omega, ← gw5b c arg0 arg1 arg2 f1 f2 hstep hmeta]
    exact congrArg (fun z => FloatOps.ofBits (F := F) .bf16 (BitVec.extractLsb' _ 16 z)) (row_read c arg5 f5 _ _ rfl _ cc)

theorem s5 : bodyRun.sl.r_150 c arg0 arg1 arg2 arg3 arg4 arg5 f1 f2 f3 f4 f5 hstep hmeta hgb = subf (bodyRun.sl.r_148 c arg3 arg4 f3 f4) (bodyRun.sl.r_149 c arg0 arg1 arg2 arg5 f1 f2 f5 hstep hmeta hgb) := rfl

theorem feat5 : ∀ y : S512x2304.Idx, (y 0).val < 192 → View.canon (bodyRun.sl.H19_18 c arg0 arg1 arg2 arg3 arg4 arg5 f1 f2 f3 f4 f5 hstep hmeta hgb) y = (featOf c arg0 arg1 arg2 arg3 arg4 arg5 f1 f2 f3 f4 f5) y := by
  refine feat_step (featOf c arg0 arg1 arg2 arg3 arg4 arg5 f1 f2 f3 f4 f5) 160 (bodyRun.sl.H19_15 c arg0 arg1 arg2 arg3 arg4 arg5 f1 f2 f3 f4 f5 hstep hmeta hgb) (feat4 c arg0 arg1 arg2 arg3 arg4 arg5 f1 f2 f3 f4 f5 hstep hmeta hgb)
    inb_S512x2304_S32x768_160_0 inb_S512x2304_S32x768_160_768 inb_S512x2304_S32x768_160_1536
    (shapeCast S32x768 (bodyRun.sl.r_148 c arg3 arg4 f3 f4) shapeCasts_S32x768_S32x768)
    (shapeCast S32x768 (bodyRun.sl.r_150 c arg0 arg1 arg2 arg3 arg4 arg5 f1 f2 f3 f4 f5 hstep hmeta hgb) shapeCasts_S32x768_S32x768)
    (shapeCast S32x768 (mulf (bodyRun.sl.r_148 c arg3 arg4 f3 f4) (bodyRun.sl.r_149 c arg0 arg1 arg2 arg5 f1 f2 f5 hstep hmeta hgb)) shapeCasts_S32x768_S32x768) ?_ ?_ ?_
  · intro q cc r k hr hk
    pointwise
    rw [h5 c arg3 arg4 f3 f4 q cc r hr]
    exact (featH _ _ _ _ r k cc hk).symm
  · intro q cc r k hr hk
    rw [s5]
    pointwise
    rw [h5 c arg3 arg4 f3 f4 q cc r hr, t5 c arg0 arg1 arg2 arg5 f1 f2 f5 hstep hmeta hgb q cc r hr]
    exact (featS _ _ _ _ r k cc hk).symm
  · intro q cc r k hr hk
    pointwise
    rw [h5 c arg3 arg4 f3 f4 q cc r hr, t5 c arg0 arg1 arg2 arg5 f1 f2 f5 hstep hmeta hgb q cc r hr]
    exact (featM _ _ _ _ r k cc hk).symm

theorem gw6a : bodyRun.sl.r_171 c arg0 arg1 arg2 f1 f2 hstep hmeta = gW (View.read (Elt F) arg1.view f1) arg0 (bodyRun.sl.r c arg2 f2) 12 :=
  word_read c arg1 f1 arg0 (bodyRun.sl.r c arg2 f2) 12 0 _ rfl _ _
theorem gw6b : bodyRun.sl.r_172 c arg0 arg1 arg2 f1 f2 hstep hmeta = gW (View.read (Elt F) arg1.view f1) arg0 (bodyRun.sl.r c arg2 f2) 13 :=
  word_read c arg1 f1 arg0 (bodyRun.sl.r c arg2 f2) 12 1 _ rfl _ _

theorem h6 (q : Fin 32) (cc : Fin 768) (r : Fin 512) (hr : r.val = 192 + q.val) :
    bodyRun.sl.r_173 c arg3 arg4 f3 f4 (ix2 q cc) = hAt (F := F) (View.read (Elt F) arg3.view f3) (View.read (Elt F) arg4.view f4) r cc :=
  itemH_read c arg3 arg4 f3 f4 6 (by decide) inb_S16x6x8x128_S1x6x8x128_6_0_0_0 inb_S16x2x128_S1x1x128_6_0_0 inb_S16x2x128_S1x1x128_6_1_0 q cc r hr

theorem t6 (q : Fin 32) (cc : Fin 768) (r : Fin 512) (hr : r.val = 192 + q.val) :
    bodyRun.sl.r_174 c arg0 arg1 arg2 arg5 f1 f2 f5 hstep hmeta hgb (ix2 q cc) = tAt (F := F) (View.read (Elt F) arg5.view f5) (gW (View.read (Elt F) arg1.view f1) arg0 (bodyRun.sl.r c arg2 f2) (r.val / 16)) r.val cc := by
  have e : bodyRun.sl.r_174 c arg0 arg1 arg2 arg5 f1 f2 f5 hstep hmeta hgb = itemT (F := F) (bodyRun.sl.v3892 c arg0 arg1 arg2 arg5 f1 f2 f5 hstep hmeta hgb) (bodyRun.sl.v3902 c arg0 arg1 arg2 arg5 f1 f2 f5 hstep hmeta hgb) := rfl
  rw [e, itemT_apply]
  unfold tAt
  rw [show r.val % 2 = q.val % 2 by omega]
  split
  · rename_i h
    rw [show r.val / 16 = 12 by omega, ← gw6a c arg0 arg1 arg2 f1 f2 hstep hmeta]
    exact congrArg (fun z => FloatOps.ofBits (F := F) .bf16 (BitVec.extractLsb' _ 16 z)) (row_read c arg5 f5 _ _ rfl _ cc)
  · rename_i h
    rw [show r.val / 16 = 13 by omega, ← gw6b c arg0 arg1 arg2 f1 f2 hstep hmeta]
    exact congrArg (fun z => FloatOps.ofBits (F := F) .bf16 (BitVec.extractLsb' _ 16 z)) (row_read c arg5 f5 _ _ rfl _ cc)

theorem s6 : bodyRun.sl.r_175 c arg0 arg1 arg2 arg3 arg4 arg5 f1 f2 f3 f4 f5 hstep hmeta hgb = subf (bodyRun.sl.r_173 c arg3 arg4 f3 f4) (bodyRun.sl.r_174 c arg0 arg1 arg2 arg5 f1 f2 f5 hstep hmeta hgb) := rfl

theorem feat6 : ∀ y : S512x2304.Idx, (y 0).val < 224 → View.canon (bodyRun.sl.H19_21 c arg0 arg1 arg2 arg3 arg4 arg5 f1 f2 f3 f4 f5 hstep hmeta hgb) y = (featOf c arg0 arg1 arg2 arg3 arg4 arg5 f1 f2 f3 f4 f5) y := by
  refine feat_step (featOf c arg0 arg1 arg2 arg3 arg4 arg5 f1 f2 f3 f4 f5) 192 (bodyRun.sl.H19_18 c arg0 arg1 arg2 arg3 arg4 arg5 f1 f2 f3 f4 f5 hstep hmeta hgb) (feat5 c arg0 arg1 arg2 arg3 arg4 arg5 f1 f2 f3 f4 f5 hstep hmeta hgb)
    inb_S512x2304_S32x768_192_0 inb_S512x2304_S32x768_192_768 inb_S512x2304_S32x768_192_1536
    (shapeCast S32x768 (bodyRun.sl.r_173 c arg3 arg4 f3 f4) shapeCasts_S32x768_S32x768)
    (shapeCast S32x768 (bodyRun.sl.r_175 c arg0 arg1 arg2 arg3 arg4 arg5 f1 f2 f3 f4 f5 hstep hmeta hgb) shapeCasts_S32x768_S32x768)
    (shapeCast S32x768 (mulf (bodyRun.sl.r_173 c arg3 arg4 f3 f4) (bodyRun.sl.r_174 c arg0 arg1 arg2 arg5 f1 f2 f5 hstep hmeta hgb)) shapeCasts_S32x768_S32x768) ?_ ?_ ?_
  · intro q cc r k hr hk
    pointwise
    rw [h6 c arg3 arg4 f3 f4 q cc r hr]
    exact (featH _ _ _ _ r k cc hk).symm
  · intro q cc r k hr hk
    rw [s6]
    pointwise
    rw [h6 c arg3 arg4 f3 f4 q cc r hr, t6 c arg0 arg1 arg2 arg5 f1 f2 f5 hstep hmeta hgb q cc r hr]
    exact (featS _ _ _ _ r k cc hk).symm
  · intro q cc r k hr hk
    pointwise
    rw [h6 c arg3 arg4 f3 f4 q cc r hr, t6 c arg0 arg1 arg2 arg5 f1 f2 f5 hstep hmeta hgb q cc r hr]
    exact (featM _ _ _ _ r k cc hk).symm

theorem gw7a : bodyRun.sl.r_196 c arg0 arg1 arg2 f1 f2 hstep hmeta = gW (View.read (Elt F) arg1.view f1) arg0 (bodyRun.sl.r c arg2 f2) 14 :=
  word_read c arg1 f1 arg0 (bodyRun.sl.r c arg2 f2) 14 0 _ rfl _ _
theorem gw7b : bodyRun.sl.r_197 c arg0 arg1 arg2 f1 f2 hstep hmeta = gW (View.read (Elt F) arg1.view f1) arg0 (bodyRun.sl.r c arg2 f2) 15 :=
  word_read c arg1 f1 arg0 (bodyRun.sl.r c arg2 f2) 14 1 _ rfl _ _

theorem h7 (q : Fin 32) (cc : Fin 768) (r : Fin 512) (hr : r.val = 224 + q.val) :
    bodyRun.sl.r_198 c arg3 arg4 f3 f4 (ix2 q cc) = hAt (F := F) (View.read (Elt F) arg3.view f3) (View.read (Elt F) arg4.view f4) r cc :=
  itemH_read c arg3 arg4 f3 f4 7 (by decide) inb_S16x6x8x128_S1x6x8x128_7_0_0_0 inb_S16x2x128_S1x1x128_7_0_0 inb_S16x2x128_S1x1x128_7_1_0 q cc r hr

theorem t7 (q : Fin 32) (cc : Fin 768) (r : Fin 512) (hr : r.val = 224 + q.val) :
    bodyRun.sl.r_199 c arg0 arg1 arg2 arg5 f1 f2 f5 hstep hmeta hgb (ix2 q cc) = tAt (F := F) (View.read (Elt F) arg5.view f5) (gW (View.read (Elt F) arg1.view f1) arg0 (bodyRun.sl.r c arg2 f2) (r.val / 16)) r.val cc := by
  have e : bodyRun.sl.r_199 c arg0 arg1 arg2 arg5 f1 f2 f5 hstep hmeta hgb = itemT (F := F) (bodyRun.sl.v4451 c arg0 arg1 arg2 arg5 f1 f2 f5 hstep hmeta hgb) (bodyRun.sl.v4461 c arg0 arg1 arg2 arg5 f1 f2 f5 hstep hmeta hgb) := rfl
  rw [e, itemT_apply]
  unfold tAt
  rw [show r.val % 2 = q.val % 2 by omega]
  split
  · rename_i h
    rw [show r.val / 16 = 14 by omega, ← gw7a c arg0 arg1 arg2 f1 f2 hstep hmeta]
    exact congrArg (fun z => FloatOps.ofBits (F := F) .bf16 (BitVec.extractLsb' _ 16 z)) (row_read c arg5 f5 _ _ rfl _ cc)
  · rename_i h
    rw [show r.val / 16 = 15 by omega, ← gw7b c arg0 arg1 arg2 f1 f2 hstep hmeta]
    exact congrArg (fun z => FloatOps.ofBits (F := F) .bf16 (BitVec.extractLsb' _ 16 z)) (row_read c arg5 f5 _ _ rfl _ cc)

theorem s7 : bodyRun.sl.r_200 c arg0 arg1 arg2 arg3 arg4 arg5 f1 f2 f3 f4 f5 hstep hmeta hgb = subf (bodyRun.sl.r_198 c arg3 arg4 f3 f4) (bodyRun.sl.r_199 c arg0 arg1 arg2 arg5 f1 f2 f5 hstep hmeta hgb) := rfl

theorem feat7 : ∀ y : S512x2304.Idx, (y 0).val < 256 → View.canon (bodyRun.sl.H19_24 c arg0 arg1 arg2 arg3 arg4 arg5 f1 f2 f3 f4 f5 hstep hmeta hgb) y = (featOf c arg0 arg1 arg2 arg3 arg4 arg5 f1 f2 f3 f4 f5) y := by
  refine feat_step (featOf c arg0 arg1 arg2 arg3 arg4 arg5 f1 f2 f3 f4 f5) 224 (bodyRun.sl.H19_21 c arg0 arg1 arg2 arg3 arg4 arg5 f1 f2 f3 f4 f5 hstep hmeta hgb) (feat6 c arg0 arg1 arg2 arg3 arg4 arg5 f1 f2 f3 f4 f5 hstep hmeta hgb)
    inb_S512x2304_S32x768_224_0 inb_S512x2304_S32x768_224_768 inb_S512x2304_S32x768_224_1536
    (shapeCast S32x768 (bodyRun.sl.r_198 c arg3 arg4 f3 f4) shapeCasts_S32x768_S32x768)
    (shapeCast S32x768 (bodyRun.sl.r_200 c arg0 arg1 arg2 arg3 arg4 arg5 f1 f2 f3 f4 f5 hstep hmeta hgb) shapeCasts_S32x768_S32x768)
    (shapeCast S32x768 (mulf (bodyRun.sl.r_198 c arg3 arg4 f3 f4) (bodyRun.sl.r_199 c arg0 arg1 arg2 arg5 f1 f2 f5 hstep hmeta hgb)) shapeCasts_S32x768_S32x768) ?_ ?_ ?_
  · intro q cc r k hr hk
    pointwise
    rw [h7 c arg3 arg4 f3 f4 q cc r hr]
    exact (featH _ _ _ _ r k cc hk).symm
  · intro q cc r k hr hk
    rw [s7]
    pointwise
    rw [h7 c arg3 arg4 f3 f4 q cc r hr, t7 c arg0 arg1 arg2 arg5 f1 f2 f5 hstep hmeta hgb q cc r hr]
    exact (featS _ _ _ _ r k cc hk).symm
  · intro q cc r k hr hk
    pointwise
    rw [h7 c arg3 arg4 f3 f4 q cc r hr, t7 c arg0 arg1 arg2 arg5 f1 f2 f5 hstep hmeta hgb q cc r hr]
    exact (featM _ _ _ _ r k cc hk).symm

end Cert.Proof.KernelIdeal

end
-- ==== Proof.FeatC.lean ====
/-
  Work items 8 to 11 of a grid step: their three stores are blocks of the feature matrix.
-/
module

public import proofs.«01_k».proof.Proof.FeatB

@[expose] public section

noncomputable section

namespace Cert.Proof.KernelIdeal

open Cert.KernelIdeal Cert.KernelIdeal.Gen
open Idealize.ShloMosaic
open Cert.KernelIdeal.Facts

variable {F : FTy → Type} [FloatOps F]
variable (c : Dev nD) (arg0 : BitVec 32)
  (arg1 : Memref sig .tc .smem S4800 .i32) (arg2 : Memref sig .tc .smem S1 .i32) (arg3 : Memref sig .tc .vmem S16x6x8x128 .i32)
  (arg4 : Memref sig .tc .vmem S16x2x128 .i32) (arg5 : Memref sig .tc .vmem S224x768 .i32)
  (f1 : Bf (F := F) c arg1) (f2 : Bf (F := F) c arg2) (f3 : Bf (F := F) c arg3) (f4 : Bf (F := F) c arg4) (f5 : Bf (F := F) c arg5)
  (hstep : arg0.toNat < 150) (hmeta : ∀ x, arg2.view.read (Elt F) f2 x = (0#32 : BitVec 32)) (hgb : ∀ x, BitVec.toNat (arg1.view.read (Elt F) f1 x) < 200)

theorem gw8a : bodyRun.sl.r_221 c arg0 arg1 arg2 f1 f2 hstep hmeta = gW (View.read (Elt F) arg1.view f1) arg0 (bodyRun.sl.r c arg2 f2) 16 :=
  word_read c arg1 f1 arg0 (bodyRun.sl.r c arg2 f2) 16 0 _ rfl _ _
theorem gw8b : bodyRun.sl.r_222 c arg0 arg1 arg2 f1 f2 hstep hmeta = gW (View.read (Elt F) arg1.view f1) arg0 (bodyRun.sl.r c arg2 f2) 17 :=
  word_read c arg1 f1 arg0 (bodyRun.sl.r c arg2 f2) 16 1 _ rfl _ _

theorem h8 (q : Fin 32) (cc : Fin 768) (r : Fin 512) (hr : r.val = 256 + q.val) :
    bodyRun.sl.r_223 c arg3 arg4 f3 f4 (ix2 q cc) = hAt (F := F) (View.read (Elt F) arg3.view f3) (View.read (Elt F) arg4.view f4) r cc :=
  itemH_read c arg3 arg4 f3 f4 8 (by decide) inb_S16x6x8x128_S1x6x8x128_8_0_0_0 inb_S16x2x128_S1x1x128_8_0_0 inb_S16x2x128_S1x1x128_8_1_0 q cc r hr

theorem t8 (q : Fin 32) (cc : Fin 768) (r : Fin 512) (hr : r.val = 256 + q.val) :
    bodyRun.sl.r_224 c arg0 arg1 arg2 arg5 f1 f2 f5 hstep hmeta hgb (ix2 q cc) = tAt (F := F) (View.read (Elt F) arg5.view f5) (gW (View.read (Elt F) arg1.view f1) arg0 (bodyRun.sl.r c arg2 f2) (r.val / 16)) r.val cc := by
  have e : bodyRun.sl.r_224 c arg0 arg1 arg2 arg5 f1 f2 f5 hstep hmeta hgb = itemT (F := F) (bodyRun.sl.v5010 c arg0 arg1 arg2 arg5 f1 f2 f5 hstep hmeta hgb) (bodyRun.sl.v5020 c arg0 arg1 arg2 arg5 f1 f2 f5 hstep hmeta hgb) := rfl
  rw [e, itemT_apply]
  unfold tAt
  rw [show r.val % 2 = q.val % 2 by omega]
  split
  · rename_i h
    rw [show r.val / 16 = 16 by omega, ← gw8a c arg0 arg1 arg2 f1 f2 hstep hmeta]
    exact congrArg (fun z => FloatOps.ofBits (F := F) .bf16 (BitVec.extractLsb' _ 16 z)) (row_read c arg5 f5 _ _ rfl _ cc)
  · rename_i h
    rw [show r.val / 16 = 17 by omega, ← gw8b c arg0 arg1 arg2 f1 f2 hstep hmeta]
    exact congrArg (fun z => FloatOps.ofBits (F := F) .bf16 (BitVec.extractLsb' _ 16 z)) (row_read c arg5 f5 _ _ rfl _ cc)

theorem s8 : bodyRun.sl.r_225 c arg0 arg1 arg2 arg3 arg4 arg5 f1 f2 f3 f4 f5 hstep hmeta hgb = subf (bodyRun.sl.r_223 c arg3 arg4 f3 f4) (bodyRun.sl.r_224 c arg0 arg1 arg2 arg5 f1 f2 f5 hstep hmeta hgb) := rfl

theorem feat8 : ∀ y : S512x2304.Idx, (y 0).val < 288 → View.canon (bodyRun.sl.H19_27 c arg0 arg1 arg2 arg3 arg4 arg5 f1 f2 f3 f4 f5 hstep hmeta hgb) y = (featOf c arg0 arg1 arg2 arg3 arg4 arg5 f1 f2 f3 f4 f5) y := by
  refine feat_step (featOf c arg0 arg1 arg2 arg3 arg4 arg5 f1 f2 f3 f4 f5) 256 (bodyRun.sl.H19_24 c arg0 arg1 arg2 arg3 arg4 arg5 f1 f2 f3 f4 f5 hstep hmeta hgb) (feat7 c arg0 arg1 arg2 arg3 arg4 arg5 f1 f2 f3 f4 f5 hstep hmeta hgb)
    inb_S512x2304_S32x768_256_0 inb_S512x2304_S32x768_256_768 inb_S512x2304_S32x768_256_1536
    (shapeCast S32x768 (bodyRun.sl.r_223 c arg3 arg4 f3 f4) shapeCasts_S32x768_S32x768)
    (shapeCast S32x768 (bodyRun.sl.r_225 c arg0 arg1 arg2 arg3 arg4 arg5 f1 f2 f3 f4 f5 hstep hmeta hgb) shapeCasts_S32x768_S32x768)
    (shapeCast S32x768 (mulf (bodyRun.sl.r_223 c arg3 arg4 f3 f4) (bodyRun.sl.r_224 c arg0 arg1 arg2 arg5 f1 f2 f5 hstep hmeta hgb)) shapeCasts_S32x768_S32x768) ?_ ?_ ?_
  · intro q cc r k hr hk
    pointwise
    rw [h8 c arg3 arg4 f3 f4 q cc r hr]
    exact (featH _ _ _ _ r k cc hk).symm
  · intro q cc r k hr hk
    rw [s8]
    pointwise
    rw [h8 c arg3 arg4 f3 f4 q cc r hr, t8 c arg0 arg1 arg2 arg5 f1 f2 f5 hstep hmeta hgb q cc r hr]
    exact (featS _ _ _ _ r k cc hk).symm
  · intro q cc r k hr hk
    pointwise
    rw [h8 c arg3 arg4 f3 f4 q cc r hr, t8 c arg0 arg1 arg2 arg5 f1 f2 f5 hstep hmeta hgb q cc r hr]
    exact (featM _ _ _ _ r k cc hk).symm

theorem gw9a : bodyRun.sl.r_246 c arg0 arg1 arg2 f1 f2 hstep hmeta = gW (View.read (Elt F) arg1.view f1) arg0 (bodyRun.sl.r c arg2 f2) 18 :=
  word_read c arg1 f1 arg0 (bodyRun.sl.r c arg2 f2) 18 0 _ rfl _ _
theorem gw9b : bodyRun.sl.r_247 c arg0 arg1 arg2 f1 f2 hstep hmeta = gW (View.read (Elt F) arg1.view f1) arg0 (bodyRun.sl.r c arg2 f2) 19 :=
  word_read c arg1 f1 arg0 (bodyRun.sl.r c arg2 f2) 18 1 _ rfl _ _

theorem h9 (q : Fin 32) (cc : Fin 768) (r : Fin 512) (hr : r.val = 288 + q.val) :
    bodyRun.sl.r_248 c arg3 arg4 f3 f4 (ix2 q cc) = hAt (F := F) (View.read (Elt F) arg3.view f3) (View.read (Elt F) arg4.view f4) r cc :=
  itemH_read c arg3 arg4 f3 f4 9 (by decide) inb_S16x6x8x128_S1x6x8x128_9_0_0_0 inb_S16x2x128_S1x1x128_9_0_0 inb_S16x2x128_S1x1x128_9_1_0 q cc r hr

theorem t9 (q : Fin 32) (cc : Fin 768) (r : Fin 512) (hr : r.val = 288 + q.val) :
    bodyRun.sl.r_249 c arg0 arg1 arg2 arg5 f1 f2 f5 hstep hmeta hgb (ix2 q cc) = tAt (F := F) (View.read (Elt F) arg5.view f5) (gW (View.read (Elt F) arg1.view f1) arg0 (bodyRun.sl.r c arg2 f2) (r.val / 16)) r.val cc := by
  have e : bodyRun.sl.r_249 c arg0 arg1 arg2 arg5 f1 f2 f5 hstep hmeta hgb = itemT (F := F) (bodyRun.sl.v5569 c arg0 arg1 arg2 arg5 f1 f2 f5 hstep hmeta hgb) (bodyRun.sl.v5579 c arg0 arg1 arg2 arg5 f1 f2 f5 hstep hmeta hgb) := rfl
  rw [e, itemT_apply]
  unfold tAt
  rw [show r.val % 2 = q.val % 2 by omega]
  split
  · rename_i h
    rw [show r.val / 16 = 18 by omega, ← gw9a c arg0 arg1 arg2 f1 f2 hstep hmeta]
    exact congrArg (fun z => FloatOps.ofBits (F := F) .bf16 (BitVec.extractLsb' _ 16 z)) (row_read c arg5 f5 _ _ rfl _ cc)
  · rename_i h
    rw [show r.val / 16 = 19 by omega, ← gw9b c arg0 arg1 arg2 f1 f2 hstep hmeta]
    exact congrArg (fun z => FloatOps.ofBits (F := F) .bf16 (BitVec.extractLsb' _ 16 z)) (row_read c arg5 f5 _ _ rfl _ cc)

theorem s9 : bodyRun.sl.r_250 c arg0 arg1 arg2 arg3 arg4 arg5 f1 f2 f3 f4 f5 hstep hmeta hgb = subf (bodyRun.sl.r_248 c arg3 arg4 f3 f4) (bodyRun.sl.r_249 c arg0 arg1 arg2 arg5 f1 f2 f5 hstep hmeta hgb) := rfl

theorem feat9 : ∀ y : S512x2304.Idx, (y 0).val < 320 → View.canon (bodyRun.sl.H19_30 c arg0 arg1 arg2 arg3 arg4 arg5 f1 f2 f3 f4 f5 hstep hmeta hgb) y = (featOf c arg0 arg1 arg2 arg3 arg4 arg5 f1 f2 f3 f4 f5) y := by
  refine feat_step (featOf c arg0 arg1 arg2 arg3 arg4 arg5 f1 f2 f3 f4 f5) 288 (bodyRun.sl.H19_27 c arg0 arg1 arg2 arg3 arg4 arg5 f1 f2 f3 f4 f5 hstep hmeta hgb) (feat8 c arg0 arg1 arg2 arg3 arg4 arg5 f1 f2 f3 f4 f5 hstep hmeta hgb)
    inb_S512x2304_S32x768_288_0 inb_S512x2304_S32x768_288_768 inb_S512x2304_S32x768_288_1536
    (shapeCast S32x768 (bodyRun.sl.r_248 c arg3 arg4 f3 f4) shapeCasts_S32x768_S32x768)
    (shapeCast S32x768 (bodyRun.sl.r_250 c arg0 arg1 arg2 arg3 arg4 arg5 f1 f2 f3 f4 f5 hstep hmeta hgb) shapeCasts_S32x768_S32x768)
    (shapeCast S32x768 (mulf (bodyRun.sl.r_248 c arg3 arg4 f3 f4) (bodyRun.sl.r_249 c arg0 arg1 arg2 arg5 f1 f2 f5 hstep hmeta hgb)) shapeCasts_S32x768_S32x768) ?_ ?_ ?_
  · intro q cc r k hr hk
    pointwise
    rw [h9 c arg3 arg4 f3 f4 q cc r hr]
    exact (featH _ _ _ _ r k cc hk).symm
  · intro q cc r k hr hk
    rw [s9]
    pointwise
    rw [h9 c arg3 arg4 f3 f4 q cc r hr, t9 c arg0 arg1 arg2 arg5 f1 f2 f5 hstep hmeta hgb q cc r hr]
    exact (featS _ _ _ _ r k cc hk).symm
  · intro q cc r k hr hk
    pointwise
    rw [h9 c arg3 arg4 f3 f4 q cc r hr, t9 c arg0 arg1 arg2 arg5 f1 f2 f5 hstep hmeta hgb q cc r hr]
    exact (featM _ _ _ _ r k cc hk).symm

theorem gw10a : bodyRun.sl.r_271 c arg0 arg1 arg2 f1 f2 hstep hmeta = gW (View.read (Elt F) arg1.view f1) arg0 (bodyRun.sl.r c arg2 f2) 20 :=
  word_read c arg1 f1 arg0 (bodyRun.sl.r c arg2 f2) 20 0 _ rfl _ _
theorem gw10b : bodyRun.sl.r_272 c arg0 arg1 arg2 f1 f2 hstep hmeta = gW (View.read (Elt F) arg1.view f1) arg0 (bodyRun.sl.r c arg2 f2) 21 :=
  word_read c arg1 f1 arg0 (bodyRun.sl.r c arg2 f2) 20 1 _ rfl _ _

theorem h10 (q : Fin 32) (cc : Fin 768) (r : Fin 512) (hr : r.val = 320 + q.val) :
    bodyRun.sl.r_273 c arg3 arg4 f3 f4 (ix2 q cc) = hAt (F := F) (View.read (Elt F) arg3.view f3) (View.read (Elt F) arg4.view f4) r cc :=
  itemH_read c arg3 arg4 f3 f4 10 (by decide) inb_S16x6x8x128_S1x6x8x128_10_0_0_0 inb_S16x2x128_S1x1x128_10_0_0 inb_S16x2x128_S1x1x128_10_1_0 q cc r hr

theorem t10 (q : Fin 32) (cc : Fin 768) (r : Fin 512) (hr : r.val = 320 + q.val) :
    bodyRun.sl.r_274 c arg0 arg1 arg2 arg5 f1 f2 f5 hstep hmeta hgb (ix2 q cc) = tAt (F := F) (View.read (Elt F) arg5.view f5) (gW (View.read (Elt F) arg1.view f1) arg0 (bodyRun.sl.r c arg2 f2) (r.val / 16)) r.val cc := by
  have e : bodyRun.sl.r_274 c arg0 arg1 arg2 arg5 f1 f2 f5 hstep hmeta hgb = itemT (F := F) (bodyRun.sl.v6128 c arg0 arg1 arg2 arg5 f1 f2 f5 hstep hmeta hgb) (bodyRun.sl.v6138 c arg0 arg1 arg2 arg5 f1 f2 f5 hstep hmeta hgb) := rfl
  rw [e, itemT_apply]
  unfold tAt
  rw [show r.val % 2 = q.val % 2 by omega]
  split
  · rename_i h
    rw [show r.val / 16 = 20 by omega, ← gw10a c arg0 arg1 arg2 f1 f2 hstep hmeta]
    exact congrArg (fun z => FloatOps.ofBits (F := F) .bf16 (BitVec.extractLsb' _ 16 z)) (row_read c arg5 f5 _ _ rfl _ cc)
  · rename_i h
    rw [show r.val / 16 = 21 by omega, ← gw10b c arg0 arg1 arg2 f1 f2 hstep hmeta]
    exact congrArg (fun z => FloatOps.ofBits (F := F) .bf16 (BitVec.extractLsb' _ 16 z)) (row_read c arg5 f5 _ _ rfl _ cc)

theorem s10 : bodyRun.sl.r_275 c arg0 arg1 arg2 arg3 arg4 arg5 f1 f2 f3 f4 f5 hstep hmeta hgb = subf (bodyRun.sl.r_273 c arg3 arg4 f3 f4) (bodyRun.sl.r_274 c arg0 arg1 arg2 arg5 f1 f2 f5 hstep hmeta hgb) := rfl

theorem feat10 : ∀ y : S512x2304.Idx, (y 0).val < 352 → View.canon (bodyRun.sl.H19_33 c arg0 arg1 arg2 arg3 arg4 arg5 f1 f2 f3 f4 f5 hstep hmeta hgb) y = (featOf c arg0 arg1 arg2 arg3 arg4 arg5 f1 f2 f3 f4 f5) y := by
  refine feat_step (featOf c arg0 arg1 arg2 arg3 arg4 arg5 f1 f2 f3 f4 f5) 320 (bodyRun.sl.H19_30 c arg0 arg1 arg2 arg3 arg4 arg5 f1 f2 f3 f4 f5 hstep hmeta hgb) (feat9 c arg0 arg1 arg2 arg3 arg4 arg5 f1 f2 f3 f4 f5 hstep hmeta hgb)
    inb_S512x2304_S32x768_320_0 inb_S512x2304_S32x768_320_768 inb_S512x2304_S32x768_320_1536
    (shapeCast S32x768 (bodyRun.sl.r_273 c arg3 arg4 f3 f4) shapeCasts_S32x768_S32x768)
    (shapeCast S32x768 (bodyRun.sl.r_275 c arg0 arg1 arg2 arg3 arg4 arg5 f1 f2 f3 f4 f5 hstep hmeta hgb) shapeCasts_S32x768_S32x768)
    (shapeCast S32x768 (mulf (bodyRun.sl.r_273 c arg3 arg4 f3 f4) (bodyRun.sl.r_274 c arg0 arg1 arg2 arg5 f1 f2 f5 hstep hmeta hgb)) shapeCasts_S32x768_S32x768) ?_ ?_ ?_
  · intro q cc r k hr hk
    pointwise
    rw [h10 c arg3 arg4 f3 f4 q cc r hr]
    exact (featH _ _ _ _ r k cc hk).symm
  · intro q cc r k hr hk
    rw [s10]
    pointwise
    rw [h10 c arg3 arg4 f3 f4 q cc r hr, t10 c arg0 arg1 arg2 arg5 f1 f2 f5 hstep hmeta hgb q cc r hr]
    exact (featS _ _ _ _ r k cc hk).symm
  · intro q cc r k hr hk
    pointwise
    rw [h10 c arg3 arg4 f3 f4 q cc r hr, t10 c arg0 arg1 arg2 arg5 f1 f2 f5 hstep hmeta hgb q cc r hr]
    exact (featM _ _ _ _ r k cc hk).symm

theorem gw11a : bodyRun.sl.r_296 c arg0 arg1 arg2 f1 f2 hstep hmeta = gW (View.read (Elt F) arg1.view f1) arg0 (bodyRun.sl.r c arg2 f2) 22 :=
  word_read c arg1 f1 arg0 (bodyRun.sl.r c arg2 f2) 22 0 _ rfl _ _
theorem gw11b : bodyRun.sl.r_297 c arg0 arg1 arg2 f1 f2 hstep hmeta = gW (View.read (Elt F) arg1.view f1) arg0 (bodyRun.sl.r c arg2 f2) 23 :=
  word_read c arg1 f1 arg0 (bodyRun.sl.r c arg2 f2) 22 1 _ rfl _ _

theorem h11 (q : Fin 32) (cc : Fin 768) (r : Fin 512) (hr : r.val = 352 + q.val) :
    bodyRun.sl.r_298 c arg3 arg4 f3 f4 (ix2 q cc) = hAt (F := F) (View.read (Elt F) arg3.view f3) (View.read (Elt F) arg4.view f4) r cc :=
  itemH_read c arg3 arg4 f3 f4 11 (by decide) inb_S16x6x8x128_S1x6x8x128_11_0_0_0 inb_S16x2x128_S1x1x128_11_0_0 inb_S16x2x128_S1x1x128_11_1_0 q cc r hr

theorem t11 (q : Fin 32) (cc : Fin 768) (r : Fin 512) (hr : r.val = 352 + q.val) :
    bodyRun.sl.r_299 c arg0 arg1 arg2 arg5 f1 f2 f5 hstep hmeta hgb (ix2 q cc) = tAt (F := F) (View.read (Elt F) arg5.view f5) (gW (View.read (Elt F) arg1.view f1) arg0 (bodyRun.sl.r c arg2 f2) (r.val / 16)) r.val cc := by
  have e : bodyRun.sl.r_299 c arg0 arg1 arg2 arg5 f1 f2 f5 hstep hmeta hgb = itemT (F := F) (bodyRun.sl.v6687 c arg0 arg1 arg2 arg5 f1 f2 f5 hstep hmeta hgb) (bodyRun.sl.v6697 c arg0 arg1 arg2 arg5 f1 f2 f5 hstep hmeta hgb) := rfl
  rw [e, itemT_apply]
  unfold tAt
  rw [show r.val % 2 = q.val % 2 by omega]
  split
  · rename_i h
    rw [show r.val / 16 = 22 by omega, ← gw11a c arg0 arg1 arg2 f1 f2 hstep hmeta]
    exact congrArg (fun z => FloatOps.ofBits (F := F) .bf16 (BitVec.extractLsb' _ 16 z)) (row_read c arg5 f5 _ _ rfl _ cc)
  · rename_i h
    rw [show r.val / 16 = 23 by omega, ← gw11b c arg0 arg1 arg2 f1 f2 hstep hmeta]
    exact congrArg (fun z => FloatOps.ofBits (F := F) .bf16 (BitVec.extractLsb' _ 16 z)) (row_read c arg5 f5 _ _ rfl _ cc)

theorem s11 : bodyRun.sl.r_300 c arg0 arg1 arg2 arg3 arg4 arg5 f1 f2 f3 f4 f5 hstep hmeta hgb = subf (bodyRun.sl.r_298 c arg3 arg4 f3 f4) (bodyRun.sl.r_299 c arg0 arg1 arg2 arg5 f1 f2 f5 hstep hmeta hgb) := rfl

theorem feat11 : ∀ y : S512x2304.Idx, (y 0).val < 384 → View.canon (bodyRun.sl.H19_36 c arg0 arg1 arg2 arg3 arg4 arg5 f1 f2 f3 f4 f5 hstep hmeta hgb) y = (featOf c arg0 arg1 arg2 arg3 arg4 arg5 f1 f2 f3 f4 f5) y := by
  refine feat_step (featOf c arg0 arg1 arg2 arg3 arg4 arg5 f1 f2 f3 f4 f5) 352 (bodyRun.sl.H19_33 c arg0 arg1 arg2 arg3 arg4 arg5 f1 f2 f3 f4 f5 hstep hmeta hgb) (feat10 c arg0 arg1 arg2 arg3 arg4 arg5 f1 f2 f3 f4 f5 hstep hmeta hgb)
    inb_S512x2304_S32x768_352_0 inb_S512x2304_S32x768_352_768 inb_S512x2304_S32x768_352_1536
    (shapeCast S32x768 (bodyRun.sl.r_298 c arg3 arg4 f3 f4) shapeCasts_S32x768_S32x768)
    (shapeCast S32x768 (bodyRun.sl.r_300 c arg0 arg1 arg2 arg3 arg4 arg5 f1 f2 f3 f4 f5 hstep hmeta hgb) shapeCasts_S32x768_S32x768)
    (shapeCast S32x768 (mulf (bodyRun.sl.r_298 c arg3 arg4 f3 f4) (bodyRun.sl.r_299 c arg0 arg1 arg2 arg5 f1 f2 f5 hstep hmeta hgb)) shapeCasts_S32x768_S32x768) ?_ ?_ ?_
  · intro q cc r k hr hk
    pointwise
    rw [h11 c arg3 arg4 f3 f4 q cc r hr]
    exact (featH _ _ _ _ r k cc hk).symm
  · intro q cc r k hr hk
    rw [s11]
    pointwise
    rw [h11 c arg3 arg4 f3 f4 q cc r hr, t11 c arg0 arg1 arg2 arg5 f1 f2 f5 hstep hmeta hgb q cc r hr]
    exact (featS _ _ _ _ r k cc hk).symm
  · intro q cc r k hr hk
    pointwise
    rw [h11 c arg3 arg4 f3 f4 q cc r hr, t11 c arg0 arg1 arg2 arg5 f1 f2 f5 hstep hmeta hgb q cc r hr]
    exact (featM _ _ _ _ r k cc hk).symm

end Cert.Proof.KernelIdeal

end
-- ==== Proof.FeatD.lean ====
/-
  Work items 12 to 15 of a grid step: their three stores are blocks of the feature matrix.
-/
module

public import proofs.«01_k».proof.Proof.FeatC

@[expose] public section

noncomputable section

namespace Cert.Proof.KernelIdeal

open Cert.KernelIdeal Cert.KernelIdeal.Gen
open Idealize.ShloMosaic
open Cert.KernelIdeal.Facts

variable {F : FTy → Type} [FloatOps F]
variable (c : Dev nD) (arg0 : BitVec 32)
  (arg1 : Memref sig .tc .smem S4800 .i32) (arg2 : Memref sig .tc .smem S1 .i32) (arg3 : Memref sig .tc .vmem S16x6x8x128 .i32)
  (arg4 : Memref sig .tc .vmem S16x2x128 .i32) (arg5 : Memref sig .tc .vmem S224x768 .i32)
  (f1 : Bf (F := F) c arg1) (f2 : Bf (F := F) c arg2) (f3 : Bf (F := F) c arg3) (f4 : Bf (F := F) c arg4) (f5 : Bf (F := F) c arg5)
  (hstep : arg0.toNat < 150) (hmeta : ∀ x, arg2.view.read (Elt F) f2 x = (0#32 : BitVec 32)) (hgb : ∀ x, BitVec.toNat (arg1.view.read (Elt F) f1 x) < 200)

theorem gw12a : bodyRun.sl.r_321 c arg0 arg1 arg2 f1 f2 hstep hmeta = gW (View.read (Elt F) arg1.view f1) arg0 (bodyRun.sl.r c arg2 f2) 24 :=
  word_read c arg1 f1 arg0 (bodyRun.sl.r c arg2 f2) 24 0 _ rfl _ _
theorem gw12b : bodyRun.sl.r_322 c arg0 arg1 arg2 f1 f2 hstep hmeta = gW (View.read (Elt F) arg1.view f1) arg0 (bodyRun.sl.r c arg2 f2) 25 :=
  word_read c arg1 f1 arg0 (bodyRun.sl.r c arg2 f2) 24 1 _ rfl _ _

theorem h12 (q : Fin 32) (cc : Fin 768) (r : Fin 512) (hr : r.val = 384 + q.val) :
    bodyRun.sl.r_323 c arg3 arg4 f3 f4 (ix2 q cc) = hAt (F := F) (View.read (Elt F) arg3.view f3) (View.read (Elt F) arg4.view f4) r cc :=
  itemH_read c arg3 arg4 f3 f4 12 (by decide) inb_S16x6x8x128_S1x6x8x128_12_0_0_0 inb_S16x2x128_S1x1x128_12_0_0 inb_S16x2x128_S1x1x128_12_1_0 q cc r hr

theorem t12 (q : Fin 32) (cc : Fin 768) (r : Fin 512) (hr : r.val = 384 + q.val) :
    bodyRun.sl.r_324 c arg0 arg1 arg2 arg5 f1 f2 f5 hstep hmeta hgb (ix2 q cc) = tAt (F := F) (View.read (Elt F) arg5.view f5) (gW (View.read (Elt F) arg1.view f1) arg0 (bodyRun.sl.r c arg2 f2) (r.val / 16)) r.val cc := by
  have e : bodyRun.sl.r_324 c arg0 arg1 arg2 arg5 f1 f2 f5 hstep hmeta hgb = itemT (F := F) (bodyRun.sl.v7246 c arg0 arg1 arg2 arg5 f1 f2 f5 hstep hmeta hgb) (bodyRun.sl.v7256 c arg0 arg1 arg2 arg5 f1 f2 f5 hstep hmeta hgb) := rfl
  rw [e, itemT_apply]
  unfold tAt
  rw [show r.val % 2 = q.val % 2 by omega]
  split
  · rename_i h
    rw [show r.val / 16 = 24 by omega, ← gw12a c arg0 arg1 arg2 f1 f2 hstep hmeta]
    exact congrArg (fun z => FloatOps.ofBits (F := F) .bf16 (BitVec.extractLsb' _ 16 z)) (row_read c arg5 f5 _ _ rfl _ cc)
  · rename_i h
    rw [show r.val / 16 = 25 by omega, ← gw12b c arg0 arg1 arg2 f1 f2 hstep hmeta]
    exact congrArg (fun z => FloatOps.ofBits (F := F) .bf16 (BitVec.extractLsb' _ 16 z)) (row_read c arg5 f5 _ _ rfl _ cc)

theorem s12 : bodyRun.sl.r_325 c arg0 arg1 arg2 arg3 arg4 arg5 f1 f2 f3 f4 f5 hstep hmeta hgb = subf (bodyRun.sl.r_323 c arg3 arg4 f3 f4) (bodyRun.sl.r_324 c arg0 arg1 arg2 arg5 f1 f2 f5 hstep hmeta hgb) := rfl

theorem feat12 : ∀ y : S512x2304.Idx, (y 0).val < 416 → View.canon (bodyRun.sl.H19_39 c arg0 arg1 arg2 arg3 arg4 arg5 f1 f2 f3 f4 f5 hstep hmeta hgb) y = (featOf c arg0 arg1 arg2 arg3 arg4 arg5 f1 f2 f3 f4 f5) y := by
  refine feat_step (featOf c arg0 arg1 arg2 arg3 arg4 arg5 f1 f2 f3 f4 f5) 384 (bodyRun.sl.H19_36 c arg0 arg1 arg2 arg3 arg4 arg5 f1 f2 f3 f4 f5 hstep hmeta hgb) (feat11 c arg0 arg1 arg2 arg3 arg4 arg5 f1 f2 f3 f4 f5 hstep hmeta hgb)
    inb_S512x2304_S32x768_384_0 inb_S512x2304_S32x768_384_768 inb_S512x2304_S32x768_384_1536
    (shapeCast S32x768 (bodyRun.sl.r_323 c arg3 arg4 f3 f4) shapeCasts_S32x768_S32x768)
    (shapeCast S32x768 (bodyRun.sl.r_325 c arg0 arg1 arg2 arg3 arg4 arg5 f1 f2 f3 f4 f5 hstep hmeta hgb) shapeCasts_S32x768_S32x768)
    (shapeCast S32x768 (mulf (bodyRun.sl.r_323 c arg3 arg4 f3 f4) (bodyRun.sl.r_324 c arg0 arg1 arg2 arg5 f1 f2 f5 hstep hmeta hgb)) shapeCasts_S32x768_S32x768) ?_ ?_ ?_
  · intro q cc r k hr hk
    pointwise
    rw [h12 c arg3 arg4 f3 f4 q cc r hr]
    exact (featH _ _ _ _ r k cc hk).symm
  · intro q cc r k hr hk
    rw [s12]
    pointwise
    rw [h12 c arg3 arg4 f3 f4 q cc r hr, t12 c arg0 arg1 arg2 arg5 f1 f2 f5 hstep hmeta hgb q cc r hr]
    exact (featS _ _ _ _ r k cc hk).symm
  · intro q cc r k hr hk
    pointwise
    rw [h12 c arg3 arg4 f3 f4 q cc r hr, t12 c arg0 arg1 arg2 arg5 f1 f2 f5 hstep hmeta hgb q cc r hr]
    exact (featM _ _ _ _ r k cc hk).symm

theorem gw13a : bodyRun.sl.r_346 c arg0 arg1 arg2 f1 f2 hstep hmeta = gW (View.read (Elt F) arg1.view f1) arg0 (bodyRun.sl.r c arg2 f2) 26 :=
  word_read c arg1 f1 arg0 (bodyRun.sl.r c arg2 f2) 26 0 _ rfl _ _
theorem gw13b : bodyRun.sl.r_347 c arg0 arg1 arg2 f1 f2 hstep hmeta = gW (View.read (Elt F) arg1.view f1) arg0 (bodyRun.sl.r c arg2 f2) 27 :=
  word_read c arg1 f1 arg0 (bodyRun.sl.r c arg2 f2) 26 1 _ rfl _ _

theorem h13 (q : Fin 32) (cc : Fin 768) (r : Fin 512) (hr : r.val = 416 + q.val) :
    bodyRun.sl.r_348 c arg3 arg4 f3 f4 (ix2 q cc) = hAt (F := F) (View.read (Elt F) arg3.view f3) (View.read (Elt F) arg4.view f4) r cc :=
  itemH_read c arg3 arg4 f3 f4 13 (by decide) inb_S16x6x8x128_S1x6x8x128_13_0_0_0 inb_S16x2x128_S1x1x128_13_0_0 inb_S16x2x128_S1x1x128_13_1_0 q cc r hr

theorem t13 (q : Fin 32) (cc : Fin 768) (r : Fin 512) (hr : r.val = 416 + q.val) :
    bodyRun.sl.r_349 c arg0 arg1 arg2 arg5 f1 f2 f5 hstep hmeta hgb (ix2 q cc) = tAt (F := F) (View.read (Elt F) arg5.view f5) (gW (View.read (Elt F) arg1.view f1) arg0 (bodyRun.sl.r c arg2 f2) (r.val / 16)) r.val cc := by
  have e : bodyRun.sl.r_349 c arg0 arg1 arg2 arg5 f1 f2 f5 hstep hmeta hgb = itemT (F := F) (bodyRun.sl.v7805 c arg0 arg1 arg2 arg5 f1 f2 f5 hstep hmeta hgb) (bodyRun.sl.v7815 c arg0 arg1 arg2 arg5 f1 f2 f5 hstep hmeta hgb) := rfl
  rw [e, itemT_apply]
  unfold tAt
  rw [show r.val % 2 = q.val % 2 by omega]
  split
  · rename_i h
    rw [show r.val / 16 = 26 by omega, ← gw13a c arg0 arg1 arg2 f1 f2 hstep hmeta]
    exact congrArg (fun z => FloatOps.ofBits (F := F) .bf16 (BitVec.extractLsb' _ 16 z)) (row_read c arg5 f5 _ _ rfl _ cc)
  · rename_i h
    rw [show r.val / 16 = 27 by omega, ← gw13b c arg0 arg1 arg2 f1 f2 hstep hmeta]
    exact congrArg (fun z => FloatOps.ofBits (F := F) .bf16 (BitVec.extractLsb' _ 16 z)) (row_read c arg5 f5 _ _ rfl _ cc)

theorem s13 : bodyRun.sl.r_350 c arg0 arg1 arg2 arg3 arg4 arg5 f1 f2 f3 f4 f5 hstep hmeta hgb = subf (bodyRun.sl.r_348 c arg3 arg4 f3 f4) (bodyRun.sl.r_349 c arg0 arg1 arg2 arg5 f1 f2 f5 hstep hmeta hgb) := rfl

theorem feat13 : ∀ y : S512x2304.Idx, (y 0).val < 448 → View.canon (bodyRun.sl.H19_42 c arg0 arg1 arg2 arg3 arg4 arg5 f1 f2 f3 f4 f5 hstep hmeta hgb) y = (featOf c arg0 arg1 arg2 arg3 arg4 arg5 f1 f2 f3 f4 f5) y := by
  refine feat_step (featOf c arg0 arg1 arg2 arg3 arg4 arg5 f1 f2 f3 f4 f5) 416 (bodyRun.sl.H19_39 c arg0 arg1 arg2 arg3 arg4 arg5 f1 f2 f3 f4 f5 hstep hmeta hgb) (feat12 c arg0 arg1 arg2 arg3 arg4 arg5 f1 f2 f3 f4 f5 hstep hmeta hgb)
    inb_S512x2304_S32x768_416_0 inb_S512x2304_S32x768_416_768 inb_S512x2304_S32x768_416_1536
    (shapeCast S32x768 (bodyRun.sl.r_348 c arg3 arg4 f3 f4) shapeCasts_S32x768_S32x768)
    (shapeCast S32x768 (bodyRun.sl.r_350 c arg0 arg1 arg2 arg3 arg4 arg5 f1 f2 f3 f4 f5 hstep hmeta hgb) shapeCasts_S32x768_S32x768)
    (shapeCast S32x768 (mulf (bodyRun.sl.r_348 c arg3 arg4 f3 f4) (bodyRun.sl.r_349 c arg0 arg1 arg2 arg5 f1 f2 f5 hstep hmeta hgb)) shapeCasts_S32x768_S32x768) ?_ ?_ ?_
  · intro q cc r k hr hk
    pointwise
    rw [h13 c arg3 arg4 f3 f4 q cc r hr]
    exact (featH _ _ _ _ r k cc hk).symm
  · intro q cc r k hr hk
    rw [s13]
    pointwise
    rw [h13 c arg3 arg4 f3 f4 q cc r hr, t13 c arg0 arg1 arg2 arg5 f1 f2 f5 hstep hmeta hgb q cc r hr]
    exact (featS _ _ _ _ r k cc hk).symm
  · intro q cc r k hr hk
    pointwise
    rw [h13 c arg3 arg4 f3 f4 q cc r hr, t13 c arg0 arg1 arg2 arg5 f1 f2 f5 hstep hmeta hgb q cc r hr]
    exact (featM _ _ _ _ r k cc hk).symm

theorem gw14a : bodyRun.sl.r_371 c arg0 arg1 arg2 f1 f2 hstep hmeta = gW (View.read (Elt F) arg1.view f1) arg0 (bodyRun.sl.r c arg2 f2) 28 :=
  word_read c arg1 f1 arg0 (bodyRun.sl.r c arg2 f2) 28 0 _ rfl _ _
theorem gw14b : bodyRun.sl.r_372 c arg0 arg1 arg2 f1 f2 hstep hmeta = gW (View.read (Elt F) arg1.view f1) arg0 (bodyRun.sl.r c arg2 f2) 29 :=
  word_read c arg1 f1 arg0 (bodyRun.sl.r c arg2 f2) 28 1 _ rfl _ _

theorem h14 (q : Fin 32) (cc : Fin 768) (r : Fin 512) (hr : r.val = 448 + q.val) :
    bodyRun.sl.r_373 c arg3 arg4 f3 f4 (ix2 q cc) = hAt (F := F) (View.read (Elt F) arg3.view f3) (View.read (Elt F) arg4.view f4) r cc :=
  itemH_read c arg3 arg4 f3 f4 14 (by decide) inb_S16x6x8x128_S1x6x8x128_14_0_0_0 inb_S16x2x128_S1x1x128_14_0_0 inb_S16x2x128_S1x1x128_14_1_0 q cc r hr

theorem t14 (q : Fin 32) (cc : Fin 768) (r : Fin 512) (hr : r.val = 448 + q.val) :
    bodyRun.sl.r_374 c arg0 arg1 arg2 arg5 f1 f2 f5 hstep hmeta hgb (ix2 q cc) = tAt (F := F) (View.read (Elt F) arg5.view f5) (gW (View.read (Elt F) arg1.view f1) arg0 (bodyRun.sl.r c arg2 f2) (r.val / 16)) r.val cc := by
  have e : bodyRun.sl.r_374 c arg0 arg1 arg2 arg5 f1 f2 f5 hstep hmeta hgb = itemT (F := F) (bodyRun.sl.v8364 c arg0 arg1 arg2 arg5 f1 f2 f5 hstep hmeta hgb) (bodyRun.sl.v8374 c arg0 arg1 arg2 arg5 f1 f2 f5 hstep hmeta hgb) := rfl
  rw [e, itemT_apply]
  unfold tAt
  rw [show r.val % 2 = q.val % 2 by omega]
  split
  · rename_i h
    rw [show r.val / 16 = 28 by omega, ← gw14a c arg0 arg1 arg2 f1 f2 hstep hmeta]
    exact congrArg (fun z => FloatOps.ofBits (F := F) .bf16 (BitVec.extractLsb' _ 16 z)) (row_read c arg5 f5 _ _ rfl _ cc)
  · rename_i h
    rw [show r.val / 16 = 29 by omega, ← gw14b c arg0 arg1 arg2 f1 f2 hstep hmeta]
    exact congrArg (fun z => FloatOps.ofBits (F := F) .bf16 (BitVec.extractLsb' _ 16 z)) (row_read c arg5 f5 _ _ rfl _ cc)

theorem s14 : bodyRun.sl.r_375 c arg0 arg1 arg2 arg3 arg4 arg5 f1 f2 f3 f4 f5 hstep hmeta hgb = subf (bodyRun.sl.r_373 c arg3 arg4 f3 f4) (bodyRun.sl.r_374 c arg0 arg1 arg2 arg5 f1 f2 f5 hstep hmeta hgb) := rfl

theorem feat14 : ∀ y : S512x2304.Idx, (y 0).val < 480 → View.canon (bodyRun.sl.H19_45 c arg0 arg1 arg2 arg3 arg4 arg5 f1 f2 f3 f4 f5 hstep hmeta hgb) y = (featOf c arg0 arg1 arg2 arg3 arg4 arg5 f1 f2 f3 f4 f5) y := by
  refine feat_step (featOf c arg0 arg1 arg2 arg3 arg4 arg5 f1 f2 f3 f4 f5) 448 (bodyRun.sl.H19_42 c arg0 arg1 arg2 arg3 arg4 arg5 f1 f2 f3 f4 f5 hstep hmeta hgb) (feat13 c arg0 arg1 arg2 arg3 arg4 arg5 f1 f2 f3 f4 f5 hstep hmeta hgb)
    inb_S512x2304_S32x768_448_0 inb_S512x2304_S32x768_448_768 inb_S512x2304_S32x768_448_1536
    (shapeCast S32x768 (bodyRun.sl.r_373 c arg3 arg4 f3 f4) shapeCasts_S32x768_S32x768)
    (shapeCast S32x768 (bodyRun.sl.r_375 c arg0 arg1 arg2 arg3 arg4 arg5 f1 f2 f3 f4 f5 hstep hmeta hgb) shapeCasts_S32x768_S32x768)
    (shapeCast S32x768 (mulf (bodyRun.sl.r_373 c arg3 arg4 f3 f4) (bodyRun.sl.r_374 c arg0 arg1 arg2 arg5 f1 f2 f5 hstep hmeta hgb)) shapeCasts_S32x768_S32x768) ?_ ?_ ?_
  · intro q cc r k hr hk
    pointwise
    rw [h14 c arg3 arg4 f3 f4 q cc r hr]
    exact (featH _ _ _ _ r k cc hk).symm
  · intro q cc r k hr hk
    rw [s14]
    pointwise
    rw [h14 c arg3 arg4 f3 f4 q cc r hr, t14 c arg0 arg1 arg2 arg5 f1 f2 f5 hstep hmeta hgb q cc r hr]
    exact (featS _ _ _ _ r k cc hk).symm
  · intro q cc r k hr hk
    pointwise
    rw [h14 c arg3 arg4 f3 f4 q cc r hr, t14 c arg0 arg1 arg2 arg5 f1 f2 f5 hstep hmeta hgb q cc r hr]
    exact (featM _ _ _ _ r k cc hk).symm

theorem gw15a : bodyRun.sl.r_396 c arg0 arg1 arg2 f1 f2 hstep hmeta = gW (View.read (Elt F) arg1.view f1) arg0 (bodyRun.sl.r c arg2 f2) 30 :=
  word_read c arg1 f1 arg0 (bodyRun.sl.r c arg2 f2) 30 0 _ rfl _ _
theorem gw15b : bodyRun.sl.r_397 c arg0 arg1 arg2 f1 f2 hstep hmeta = gW (View.read (Elt F) arg1.view f1) arg0 (bodyRun.sl.r c arg2 f2) 31 :=
  word_read c arg1 f1 arg0 (bodyRun.sl.r c arg2 f2) 30 1 _ rfl _ _

theorem h15 (q : Fin 32) (cc : Fin 768) (r : Fin 512) (hr : r.val = 480 + q.val) :
    bodyRun.sl.r_398 c arg3 arg4 f3 f4 (ix2 q cc) = hAt (F := F) (View.read (Elt F) arg3.view f3) (View.read (Elt F) arg4.view f4) r cc :=
  itemH_read c arg3 arg4 f3 f4 15 (by decide) inb_S16x6x8x128_S1x6x8x128_15_0_0_0 inb_S16x2x128_S1x1x128_15_0_0 inb_S16x2x128_S1x1x128_15_1_0 q cc r hr

theorem t15 (q : Fin 32) (cc : Fin 768) (r : Fin 512) (hr : r.val = 480 + q.val) :
    bodyRun.sl.r_399 c arg0 arg1 arg2 arg5 f1 f2 f5 hstep hmeta hgb (ix2 q cc) = tAt (F := F) (View.read (Elt F) arg5.view f5) (gW (View.read (Elt F) arg1.view f1) arg0 (bodyRun.sl.r c arg2 f2) (r.val / 16)) r.val cc := by
  have e : bodyRun.sl.r_399 c arg0 arg1 arg2 arg5 f1 f2 f5 hstep hmeta hgb = itemT (F := F) (bodyRun.sl.v8923 c arg0 arg1 arg2 arg5 f1 f2 f5 hstep hmeta hgb) (bodyRun.sl.v8933 c arg0 arg1 arg2 arg5 f1 f2 f5 hstep hmeta hgb) := rfl
  rw [e, itemT_apply]
  unfold tAt
  rw [show r.val % 2 = q.val % 2 by omega]
  split
  · rename_i h
    rw [show r.val / 16 = 30 by omega, ← gw15a c arg0 arg1 arg2 f1 f2 hstep hmeta]
    exact congrArg (fun z => FloatOps.ofBits (F := F) .bf16 (BitVec.extractLsb' _ 16 z)) (row_read c arg5 f5 _ _ rfl _ cc)
  · rename_i h
    rw [show r.val / 16 = 31 by omega, ← gw15b c arg0 arg1 arg2 f1 f2 hstep hmeta]
    exact congrArg (fun z => FloatOps.ofBits (F := F) .bf16 (BitVec.extractLsb' _ 16 z)) (row_read c arg5 f5 _ _ rfl _ cc)

theorem s15 : bodyRun.sl.r_400 c arg0 arg1 arg2 arg3 arg4 arg5 f1 f2 f3 f4 f5 hstep hmeta hgb = subf (bodyRun.sl.r_398 c arg3 arg4 f3 f4) (bodyRun.sl.r_399 c arg0 arg1 arg2 arg5 f1 f2 f5 hstep hmeta hgb) := rfl

theorem feat15 : ∀ y : S512x2304.Idx, (y 0).val < 512 → View.canon (bodyRun.sl.H19_48 c arg0 arg1 arg2 arg3 arg4 arg5 f1 f2 f3 f4 f5 hstep hmeta hgb) y = (featOf c arg0 arg1 arg2 arg3 arg4 arg5 f1 f2 f3 f4 f5) y := by
  refine feat_step (featOf c arg0 arg1 arg2 arg3 arg4 arg5 f1 f2 f3 f4 f5) 480 (bodyRun.sl.H19_45 c arg0 arg1 arg2 arg3 arg4 arg5 f1 f2 f3 f4 f5 hstep hmeta hgb) (feat14 c arg0 arg1 arg2 arg3 arg4 arg5 f1 f2 f3 f4 f5 hstep hmeta hgb)
    inb_S512x2304_S32x768_480_0 inb_S512x2304_S32x768_480_768 inb_S512x2304_S32x768_480_1536
    (shapeCast S32x768 (bodyRun.sl.r_398 c arg3 arg4 f3 f4) shapeCasts_S32x768_S32x768)
    (shapeCast S32x768 (bodyRun.sl.r_400 c arg0 arg1 arg2 arg3 arg4 arg5 f1 f2 f3 f4 f5 hstep hmeta hgb) shapeCasts_S32x768_S32x768)
    (shapeCast S32x768 (mulf (bodyRun.sl.r_398 c arg3 arg4 f3 f4) (bodyRun.sl.r_399 c arg0 arg1 arg2 arg5 f1 f2 f5 hstep hmeta hgb)) shapeCasts_S32x768_S32x768) ?_ ?_ ?_
  · intro q cc r k hr hk
    pointwise
    rw [h15 c arg3 arg4 f3 f4 q cc r hr]
    exact (featH _ _ _ _ r k cc hk).symm
  · intro q cc r k hr hk
    rw [s15]
    pointwise
    rw [h15 c arg3 arg4 f3 f4 q cc r hr, t15 c arg0 arg1 arg2 arg5 f1 f2 f5 hstep hmeta hgb q cc r hr]
    exact (featS _ _ _ _ r k cc hk).symm
  · intro q cc r k hr hk
    pointwise
    rw [h15 c arg3 arg4 f3 f4 q cc r hr, t15 c arg0 arg1 arg2 arg5 f1 f2 f5 hstep hmeta hgb q cc r hr]
    exact (featM _ _ _ _ r k cc hk).symm

end Cert.Proof.KernelIdeal

end
-- ==== Proof.Prod.lean ====
/-
  The two halves of the first layer's product, entry by entry, over the extended reals.
-/
module

public import proofs.«01_k».proof.Proof.ActD
public import proofs.«01_k».proof.Proof.FeatD

@[expose] public section

noncomputable section

namespace Cert.Proof.KernelIdeal

open Cert.KernelIdeal Cert.KernelIdeal.Gen
open Idealize.ShloMosaic
open Cert.KernelIdeal.Facts

section Loads
variable {F : FTy → Type} [FloatOps F]

theorem w1a_read (c : Dev nD) (arg7 : Memref sig .tc .vmem S3072x512 .bf16) (f7 : Bf (F := F) c arg7) (inb) (j : Fin 768) (k : Fin 512) :
    View.readAt (Elt F) arg7.view (Rect.unit (s := S3072x512) ![0, 0] S768x512.size inb).toLoadRect f7 (ix2 j k)
      = View.read (Elt F) arg7.view f7 (ix2 ⟨j.val, by omega⟩ k) := by
  refine congrArg (View.read (Elt F) arg7.view f7) (funext fun d => Fin.ext ?_)
  rw [Rect.idx_unit_val]
  fin_cases d
  · show 0 + j.val = j.val; omega
  · show 0 + k.val = k.val; omega

theorem w1b_read (c : Dev nD) (arg7 : Memref sig .tc .vmem S3072x512 .bf16) (f7 : Bf (F := F) c arg7) (inb) (j : Fin 1536) (k : Fin 512) :
    View.readAt (Elt F) arg7.view (Rect.unit (s := S3072x512) ![1536, 0] S1536x512.size inb).toLoadRect f7 (ix2 j k)
      = View.read (Elt F) arg7.view f7 (ix2 ⟨1536 + j.val, by omega⟩ k) := by
  refine congrArg (View.read (Elt F) arg7.view f7) (funext fun d => Fin.ext ?_)
  rw [Rect.idx_unit_val]
  fin_cases d
  · rfl
  · show 0 + k.val = k.val; omega

variable (c : Dev nD) (arg0 : BitVec 32)
  (arg1 : Memref sig .tc .smem S4800 .i32) (arg2 : Memref sig .tc .smem S1 .i32) (arg3 : Memref sig .tc .vmem S16x6x8x128 .i32)
  (arg4 : Memref sig .tc .vmem S16x2x128 .i32) (arg5 : Memref sig .tc .vmem S224x768 .i32) (arg19 : Memref sig .tc .vmem S512x2304 .bf16)
  (f1 : Bf (F := F) c arg1) (f2 : Bf (F := F) c arg2) (f3 : Bf (F := F) c arg3) (f4 : Bf (F := F) c arg4) (f5 : Bf (F := F) c arg5)
  (hstep : arg0.toNat < 150) (hmeta : ∀ x, arg2.view.read (Elt F) f2 x = (0#32 : BitVec 32)) (hgb : ∀ x, BitVec.toNat (arg1.view.read (Elt F) f1 x) < 200)

theorem feat_v8949 (a : Fin 256) (b : Fin 768) : bodyRun.sl.v8949 c arg0 arg1 arg2 arg3 arg4 arg5 arg19 f1 f2 f3 f4 f5 hstep hmeta hgb (ix2 a b) = featOf c arg0 arg1 arg2 arg3 arg4 arg5 f1 f2 f3 f4 f5 (ix2 ⟨0 + a.val, by omega⟩ ⟨0 + b.val, by omega⟩) := by
  have e : bodyRun.sl.v8949 c arg0 arg1 arg2 arg3 arg4 arg5 arg19 f1 f2 f3 f4 f5 hstep hmeta hgb = fun j => View.canon (bodyRun.sl.H19_48 c arg0 arg1 arg2 arg3 arg4 arg5 f1 f2 f3 f4 f5 hstep hmeta hgb) ((Rect.unit (s := S512x2304) ![0, 0] S256x768.size inb_S512x2304_S256x768_0_0).toLoadRect.idx j) :=
    View.readCov_eq_canon' arg19.view _ _
  rw [e]
  have e2 : (Rect.unit (s := S512x2304) ![0, 0] S256x768.size inb_S512x2304_S256x768_0_0).toLoadRect.idx (ix2 a b) = (ix2 ⟨0 + a.val, by omega⟩ ⟨0 + b.val, by omega⟩ : S512x2304.Idx) := by
    funext d
    refine Fin.ext ?_
    rw [Rect.idx_unit_val]
    fin_cases d <;> rfl
  show View.canon _ _ = _
  rw [e2]
  exact feat15 c arg0 arg1 arg2 arg3 arg4 arg5 f1 f2 f3 f4 f5 hstep hmeta hgb _ (by show 0 + a.val < 512; omega)

theorem feat_v8952 (a : Fin 256) (b : Fin 1536) : bodyRun.sl.v8952 c arg0 arg1 arg2 arg3 arg4 arg5 arg19 f1 f2 f3 f4 f5 hstep hmeta hgb (ix2 a b) = featOf c arg0 arg1 arg2 arg3 arg4 arg5 f1 f2 f3 f4 f5 (ix2 ⟨0 + a.val, by omega⟩ ⟨768 + b.val, by omega⟩) := by
  have e : bodyRun.sl.v8952 c arg0 arg1 arg2 arg3 arg4 arg5 arg19 f1 f2 f3 f4 f5 hstep hmeta hgb = fun j => View.canon (bodyRun.sl.H19_48 c arg0 arg1 arg2 arg3 arg4 arg5 f1 f2 f3 f4 f5 hstep hmeta hgb) ((Rect.unit (s := S512x2304) ![0, 768] S256x1536.size inb_S512x2304_S256x1536_0_768).toLoadRect.idx j) :=
    View.readCov_eq_canon' arg19.view _ _
  rw [e]
  have e2 : (Rect.unit (s := S512x2304) ![0, 768] S256x1536.size inb_S512x2304_S256x1536_0_768).toLoadRect.idx (ix2 a b) = (ix2 ⟨0 + a.val, by omega⟩ ⟨768 + b.val, by omega⟩ : S512x2304.Idx) := by
    funext d
    refine Fin.ext ?_
    rw [Rect.idx_unit_val]
    fin_cases d <;> rfl
  show View.canon _ _ = _
  rw [e2]
  exact feat15 c arg0 arg1 arg2 arg3 arg4 arg5 f1 f2 f3 f4 f5 hstep hmeta hgb _ (by show 0 + a.val < 512; omega)

theorem feat_v9292 (a : Fin 256) (b : Fin 768) : bodyRun.sl.v9292 c arg0 arg1 arg2 arg3 arg4 arg5 arg19 f1 f2 f3 f4 f5 hstep hmeta hgb (ix2 a b) = featOf c arg0 arg1 arg2 arg3 arg4 arg5 f1 f2 f3 f4 f5 (ix2 ⟨256 + a.val, by omega⟩ ⟨0 + b.val, by omega⟩) := by
  have e : bodyRun.sl.v9292 c arg0 arg1 arg2 arg3 arg4 arg5 arg19 f1 f2 f3 f4 f5 hstep hmeta hgb = fun j => View.canon (bodyRun.sl.H19_48 c arg0 arg1 arg2 arg3 arg4 arg5 f1 f2 f3 f4 f5 hstep hmeta hgb) ((Rect.unit (s := S512x2304) ![256, 0] S256x768.size inb_S512x2304_S256x768_256_0).toLoadRect.idx j) :=
    View.readCov_eq_canon' arg19.view _ _
  rw [e]
  have e2 : (Rect.unit (s := S512x2304) ![256, 0] S256x768.size inb_S512x2304_S256x768_256_0).toLoadRect.idx (ix2 a b) = (ix2 ⟨256 + a.val, by omega⟩ ⟨0 + b.val, by omega⟩ : S512x2304.Idx) := by
    funext d
    refine Fin.ext ?_
    rw [Rect.idx_unit_val]
    fin_cases d <;> rfl
  show View.canon _ _ = _
  rw [e2]
  exact feat15 c arg0 arg1 arg2 arg3 arg4 arg5 f1 f2 f3 f4 f5 hstep hmeta hgb _ (by show 256 + a.val < 512; omega)

theorem feat_v9295 (a : Fin 256) (b : Fin 1536) : bodyRun.sl.v9295 c arg0 arg1 arg2 arg3 arg4 arg5 arg19 f1 f2 f3 f4 f5 hstep hmeta hgb (ix2 a b) = featOf c arg0 arg1 arg2 arg3 arg4 arg5 f1 f2 f3 f4 f5 (ix2 ⟨256 + a.val, by omega⟩ ⟨768 + b.val, by omega⟩) := by
  have e : bodyRun.sl.v9295 c arg0 arg1 arg2 arg3 arg4 arg5 arg19 f1 f2 f3 f4 f5 hstep hmeta hgb = fun j => View.canon (bodyRun.sl.H19_48 c arg0 arg1 arg2 arg3 arg4 arg5 f1 f2 f3 f4 f5 hstep hmeta hgb) ((Rect.unit (s := S512x2304) ![256, 768] S256x1536.size inb_S512x2304_S256x1536_256_768).toLoadRect.idx j) :=
    View.readCov_eq_canon' arg19.view _ _
  rw [e]
  have e2 : (Rect.unit (s := S512x2304) ![256, 768] S256x1536.size inb_S512x2304_S256x1536_256_768).toLoadRect.idx (ix2 a b) = (ix2 ⟨256 + a.val, by omega⟩ ⟨768 + b.val, by omega⟩ : S512x2304.Idx) := by
    funext d
    refine Fin.ext ?_
    rw [Rect.idx_unit_val]
    fin_cases d <;> rfl
  show View.canon _ _ = _
  rw [e2]
  exact feat15 c arg0 arg1 arg2 arg3 arg4 arg5 f1 f2 f3 f4 f5 hstep hmeta hgb _ (by show 256 + a.val < 512; omega)

end Loads

/-- One entry of the first layer's product. -/
def prodAt (G : S512x2304.Idx → EReal) (x7 : S3072x512.Idx → EReal) (r : Fin 512) (k : Fin 512) : EReal :=
  (∑ j : Fin 768, G (ix2 r ⟨0 + j.val, by omega⟩) * x7 (ix2 ⟨j.val, by omega⟩ k)) + ∑ j : Fin 1536, G (ix2 r ⟨768 + j.val, by omega⟩) * x7 (ix2 ⟨1536 + j.val, by omega⟩ k)

section Product
variable (c : Dev nD) (arg0 : BitVec 32)
  (arg1 : Memref sig .tc .smem S4800 .i32) (arg2 : Memref sig .tc .smem S1 .i32) (arg3 : Memref sig .tc .vmem S16x6x8x128 .i32)
  (arg4 : Memref sig .tc .vmem S16x2x128 .i32) (arg5 : Memref sig .tc .vmem S224x768 .i32) (arg7 : Memref sig .tc .vmem S3072x512 .bf16) (arg19 : Memref sig .tc .vmem S512x2304 .bf16)
  (f1 : Bf (F := Ideal) c arg1) (f2 : Bf (F := Ideal) c arg2) (f3 : Bf (F := Ideal) c arg3) (f4 : Bf (F := Ideal) c arg4) (f5 : Bf (F := Ideal) c arg5) (f7 : Bf (F := Ideal) c arg7)
  (hstep : arg0.toNat < 150) (hmeta : ∀ x, arg2.view.read (Elt Ideal) f2 x = (0#32 : BitVec 32)) (hgb : ∀ x, BitVec.toNat (arg1.view.read (Elt Ideal) f1 x) < 200)

theorem prod_402 (a : Fin 256) (k : Fin 512) (R : Fin 512) (hR : R.val = 0 + a.val) : bodyRun.sl.r_402 c arg0 arg1 arg2 arg3 arg4 arg5 arg7 arg19 f1 f2 f3 f4 f5 f7 hstep hmeta hgb (ix2 a k)
    = prodAt (featOf c arg0 arg1 arg2 arg3 arg4 arg5 f1 f2 f3 f4 f5) (View.read (Elt Ideal) arg7.view f7) R k := by
  have hr : (⟨0 + a.val, by omega⟩ : Fin 512) = R := Fin.ext hR.symm
  have e : bodyRun.sl.r_402 c arg0 arg1 arg2 arg3 arg4 arg5 arg7 arg19 f1 f2 f3 f4 f5 f7 hstep hmeta hgb = k0_pay833 (F := Ideal) (bodyRun.sl.v8949 c arg0 arg1 arg2 arg3 arg4 arg5 arg19 f1 f2 f3 f4 f5 hstep hmeta hgb)
    (View.readAt (Elt Ideal) arg7.view (Rect.unit (s := S3072x512) ![0, 0] S768x512.size inb_S3072x512_S768x512_0_0).toLoadRect f7) (bodyRun.sl.v8952 c arg0 arg1 arg2 arg3 arg4 arg5 arg19 f1 f2 f3 f4 f5 hstep hmeta hgb)
    (View.readAt (Elt Ideal) arg7.view (Rect.unit (s := S3072x512) ![1536, 0] S1536x512.size inb_S3072x512_S1536x512_1536_0).toLoadRect f7) := rfl
  rw [e]
  unfold k0_pay833
  pointwise
  unfold prodAt
  exact congrArg₂ (· + ·)
    (Finset.sum_congr rfl fun j _ => congrArg₂ (· * ·) (by rw [feat_v8949 c arg0 arg1 arg2 arg3 arg4 arg5 arg19 f1 f2 f3 f4 f5 hstep hmeta hgb a j, hr]) (w1a_read c arg7 f7 _ j k))
    (Finset.sum_congr rfl fun j _ => congrArg₂ (· * ·) (by rw [feat_v8952 c arg0 arg1 arg2 arg3 arg4 arg5 arg19 f1 f2 f3 f4 f5 hstep hmeta hgb a j, hr]) (w1b_read c arg7 f7 _ j k))

theorem prod_427 (a : Fin 256) (k : Fin 512) (R : Fin 512) (hR : R.val = 256 + a.val) : bodyRun.sl.r_427 c arg0 arg1 arg2 arg3 arg4 arg5 arg7 arg19 f1 f2 f3 f4 f5 f7 hstep hmeta hgb (ix2 a k)
    = prodAt (featOf c arg0 arg1 arg2 arg3 arg4 arg5 f1 f2 f3 f4 f5) (View.read (Elt Ideal) arg7.view f7) R k := by
  have hr : (⟨256 + a.val, by omega⟩ : Fin 512) = R := Fin.ext hR.symm
  have e : bodyRun.sl.r_427 c arg0 arg1 arg2 arg3 arg4 arg5 arg7 arg19 f1 f2 f3 f4 f5 f7 hstep hmeta hgb = k0_pay857 (F := Ideal) (bodyRun.sl.v9292 c arg0 arg1 arg2 arg3 arg4 arg5 arg19 f1 f2 f3 f4 f5 hstep hmeta hgb)
    (View.readAt (Elt Ideal) arg7.view (Rect.unit (s := S3072x512) ![0, 0] S768x512.size inb_S3072x512_S768x512_0_0).toLoadRect f7) (bodyRun.sl.v9295 c arg0 arg1 arg2 arg3 arg4 arg5 arg19 f1 f2 f3 f4 f5 hstep hmeta hgb)
    (View.readAt (Elt Ideal) arg7.view (Rect.unit (s := S3072x512) ![1536, 0] S1536x512.size inb_S3072x512_S1536x512_1536_0).toLoadRect f7) := rfl
  rw [e]
  unfold k0_pay857
  pointwise
  unfold prodAt
  exact congrArg₂ (· + ·)
    (Finset.sum_congr rfl fun j _ => congrArg₂ (· * ·) (by rw [feat_v9292 c arg0 arg1 arg2 arg3 arg4 arg5 arg19 f1 f2 f3 f4 f5 hstep hmeta hgb a j, hr]) (w1a_read c arg7 f7 _ j k))
    (Finset.sum_congr rfl fun j _ => congrArg₂ (· * ·) (by rw [feat_v9295 c arg0 arg1 arg2 arg3 arg4 arg5 arg19 f1 f2 f3 f4 f5 hstep hmeta hgb a j, hr]) (w1b_read c arg7 f7 _ j k))

end Product

end Cert.Proof.KernelIdeal

end
-- ==== Proof.Score.lean ====
/-
  The body's score block as sums: both dense layers over the activated rows, then the row of the block that each of its
  eight lines is.
-/
module

public import proofs.«01_k».proof.Proof.Prod

@[expose] public section

set_option maxRecDepth 16384

noncomputable section

namespace Cert.Proof.KernelIdeal

open Cert.KernelIdeal Cert.KernelIdeal.Gen
open Idealize.ShloMosaic
open Cert.KernelIdeal.Facts

/-- One activated element of the second layer: the product, the bias, the rectifier. -/
def act2At (z1 : Fin 512 → EReal) (x9 : S512x128.Idx → EReal) (b2 a2 : EReal) (k : Fin 128) : EReal :=
  actEl (F := Ideal) (∑ j : Fin 512, z1 j * x9 (ix2 j k)) b2 a2

/-- The tile row a line of the score block holds in its lane. -/
def lineRow (p : Fin 8) (l : Fin 128) : Fin 512 := ⟨128 * (if p.val < 4 then p.val else 0) + l.val, by have := l.isLt; split <;> omega⟩

/-- The second layer's rectifier and the last product. -/
theorem pay884_apply (v : Vec Ideal S512x128 .f32) (b a : Vec Ideal S1x128 .f32) (w : Vec Ideal S8x128 .bf16) (s : Elt Ideal .f32) (p : Fin 8) (r : Fin 512) :
    k0_pay884 (F := Ideal) v b a w s (ix2 p r) = (∑ k : Fin 128, w (ix2 p k) * actEl (F := Ideal) (v (ix2 r k)) (b (ix2 0 k)) (a (ix2 0 k))) + s := by
  unfold k0_pay884 actEl
  pointwise

theorem pay882_apply (z : Vec Ideal S512x512 .bf16) (w : Vec Ideal S512x128 .bf16) (r : Fin 512) (k : Fin 128) :
    k0_pay882 (F := Ideal) z w (ix2 r k) = ∑ j : Fin 512, z (ix2 r j) * w (ix2 j k) := by
  unfold k0_pay882
  pointwise

theorem pay885_apply (v : Vec Ideal S512x128 .f32) (b a : Vec Ideal S1x128 .f32) (w : Vec Ideal S8x128 .bf16) (s : Elt Ideal .f32) (p : Fin 8) (l : Fin 128) :
    k0_pay885 (F := Ideal) v b a w s (ix2 p l) = k0_pay884 (F := Ideal) v b a w s (ix2 p (lineRow p l)) := by
  unfold k0_pay885
  generalize k0_pay884 (F := Ideal) v b a w s = y
  pointwise
  fin_cases p
  · refine Eq.trans ?_ (congrArg (fun r => y (ix2 (0 : Fin 8) r)) (Fin.ext (by show l.val = 0 + l.val; omega) : (⟨l.val, by omega⟩ : Fin 512) = lineRow 0 l))
    rfl
  · rfl
  · rfl
  · rfl
  all_goals
    refine Eq.trans ?_ (congrArg (fun r => y (ix2 (_ : Fin 8) r)) (Fin.ext (by show l.val = 0 + l.val; omega) : (⟨l.val, by omega⟩ : Fin 512) = lineRow _ l))
    rfl

/-- A load of a whole matrix is the matrix. -/
theorem whole_read {e : EltTy} {n0 n1 : Nat} (c : Dev nD) (arg : Memref sig .tc .vmem ⟨2, ![n0, n1]⟩ e) (f : Bf (F := Ideal) c arg) (inb) (a : Fin n0) (b : Fin n1) :
    View.readAt (Elt Ideal) arg.view (Rect.unit (s := ⟨2, ![n0, n1]⟩) ![0, 0] (Shape.size ⟨2, ![n0, n1]⟩) inb).toLoadRect f (ix2 a b) = View.read (Elt Ideal) arg.view f (ix2 a b) := by
  refine congrArg (View.read (Elt Ideal) arg.view f) (funext fun d => Fin.ext ?_)
  rw [Rect.idx_unit_val]
  fin_cases d
  · show 0 + a.val = a.val; omega
  · show 0 + b.val = b.val; omega

section
variable (c : Dev nD) (arg0 : BitVec 32)
  (arg1 : Memref sig .tc .smem S4800 .i32) (arg2 : Memref sig .tc .smem S1 .i32) (arg3 : Memref sig .tc .vmem S16x6x8x128 .i32)
  (arg4 : Memref sig .tc .vmem S16x2x128 .i32) (arg5 : Memref sig .tc .vmem S224x768 .i32) (arg6 : Memref sig .tc .vmem S224x512 .f32) (arg7 : Memref sig .tc .vmem S3072x512 .bf16)
  (arg8 : Memref sig .tc .vmem S1x512 .f32) (arg9 : Memref sig .tc .vmem S512x128 .bf16) (arg10 arg11 : Memref sig .tc .vmem S1x128 .f32) (arg12 : Memref sig .tc .vmem S8x128 .bf16)
  (arg13 : Memref sig .tc .smem S1 .f32)
  (arg19 : Memref sig .tc .vmem S512x2304 .bf16) (arg20 : Memref sig .tc .vmem S512x512 .bf16)
  (f1 : Bf (F := Ideal) c arg1) (f2 : Bf (F := Ideal) c arg2) (f3 : Bf (F := Ideal) c arg3) (f4 : Bf (F := Ideal) c arg4) (f5 : Bf (F := Ideal) c arg5) (f6 : Bf (F := Ideal) c arg6) (f7 : Bf (F := Ideal) c arg7)
  (f8 : Bf (F := Ideal) c arg8) (f9 : Bf (F := Ideal) c arg9) (f10 : Bf (F := Ideal) c arg10) (f11 : Bf (F := Ideal) c arg11) (f12 : Bf (F := Ideal) c arg12) (f13 : Bf (F := Ideal) c arg13)
  (hstep : arg0.toNat < 150) (hmeta : ∀ x, arg2.view.read (Elt Ideal) f2 x = (0#32 : BitVec 32)) (hgb : ∀ x, BitVec.toNat (arg1.view.read (Elt Ideal) f1 x) < 200)

/-- An activated element of the first layer, from the feature matrix. -/
theorem actOf_apply (r k : Fin 512) : actOf c arg0 arg1 arg2 arg3 arg4 arg5 arg6 arg7 arg8 arg19 f1 f2 f3 f4 f5 f6 f7 f8 hstep hmeta hgb (ix2 r k)
    = actEl (F := Ideal) (prodAt (featOf c arg0 arg1 arg2 arg3 arg4 arg5 f1 f2 f3 f4 f5) (View.read (Elt Ideal) arg7.view f7) r k)
        (View.read (Elt Ideal) arg6.view f6 (ix2 ⟨(gW (View.read (Elt Ideal) arg1.view f1) arg0 (bodyRun.sl.r c arg2 f2) (r.val / 16)).toNat % 224, Nat.mod_lt _ (by decide)⟩ k))
        (View.read (Elt Ideal) arg8.view f8 (ix2 0 k)) := by
  have e1 : (ix2 r k : S512x512.Idx) 0 = r := rfl
  have e2 : (ix2 r k : S512x512.Idx) 1 = k := rfl
  unfold actOf actAt
  simp only [e1, e2]
  by_cases h : r.val < 256
  · rw [dif_pos h, prod_402 c arg0 arg1 arg2 arg3 arg4 arg5 arg7 arg19 f1 f2 f3 f4 f5 f7 hstep hmeta hgb ⟨r.val, h⟩ k r (by simp)]
  · rw [dif_neg h, prod_427 c arg0 arg1 arg2 arg3 arg4 arg5 arg7 arg19 f1 f2 f3 f4 f5 f7 hstep hmeta hgb ⟨r.val - 256, by omega⟩ k r (by show r.val = 256 + (r.val - 256); omega)]

theorem z1_read (r k : Fin 512) : bodyRun.sl.v9635 c arg0 arg1 arg2 arg3 arg4 arg5 arg6 arg7 arg8 arg19 arg20 f1 f2 f3 f4 f5 f6 f7 f8 hstep hmeta hgb (ix2 r k)
    = actOf c arg0 arg1 arg2 arg3 arg4 arg5 arg6 arg7 arg8 arg19 f1 f2 f3 f4 f5 f6 f7 f8 hstep hmeta hgb (ix2 r k) := by
  have e : bodyRun.sl.v9635 c arg0 arg1 arg2 arg3 arg4 arg5 arg6 arg7 arg8 arg19 arg20 f1 f2 f3 f4 f5 f6 f7 f8 hstep hmeta hgb
      = fun j => View.canon (bodyRun.sl.H20_32 c arg0 arg1 arg2 arg3 arg4 arg5 arg6 arg7 arg8 arg19 f1 f2 f3 f4 f5 f6 f7 f8 hstep hmeta hgb) ((Rect.unit (s := S512x512) ![0, 0] S512x512.size inb_S512x512_S512x512_0_0).toLoadRect.idx j) :=
    View.readCov_eq_canon' arg20.view _ _
  rw [e]
  have e2 : (Rect.unit (s := S512x512) ![0, 0] S512x512.size inb_S512x512_S512x512_0_0).toLoadRect.idx (ix2 r k) = (ix2 r k : S512x512.Idx) := by
    funext d
    refine Fin.ext ?_
    rw [Rect.idx_unit_val]
    fin_cases d
    · show 0 + r.val = r.val; omega
    · show 0 + k.val = k.val; omega
  show View.canon _ _ = _
  rw [e2]
  exact act31 c arg0 arg1 arg2 arg3 arg4 arg5 arg6 arg7 arg8 arg19 f1 f2 f3 f4 f5 f6 f7 f8 hstep hmeta hgb _ (by show r.val < 512; omega)

/-- One entry of the score block. -/
def scoreOf (p : Fin 8) (l : Fin 128) : EReal :=
  (∑ k : Fin 128, View.read (Elt Ideal) arg12.view f12 (ix2 p k) *
    act2At (fun j => actEl (F := Ideal) (prodAt (featOf c arg0 arg1 arg2 arg3 arg4 arg5 f1 f2 f3 f4 f5) (View.read (Elt Ideal) arg7.view f7) (lineRow p l) j)
        (View.read (Elt Ideal) arg6.view f6 (ix2 ⟨(gW (View.read (Elt Ideal) arg1.view f1) arg0 (bodyRun.sl.r c arg2 f2) ((lineRow p l).val / 16)).toNat % 224, Nat.mod_lt _ (by decide)⟩ j))
        (View.read (Elt Ideal) arg8.view f8 (ix2 0 j)))
      (View.read (Elt Ideal) arg9.view f9) (View.read (Elt Ideal) arg10.view f10 (ix2 0 k)) (View.read (Elt Ideal) arg11.view f11 (ix2 0 k)) k)
    + View.read (Elt Ideal) arg13.view f13 (ix1 0)

theorem score_payload (p : Fin 8) (l : Fin 128) : k0_pay885 (F := Ideal)
      (bodyRun.sl.r_450 c arg0 arg1 arg2 arg3 arg4 arg5 arg6 arg7 arg8 arg9 arg19 arg20 f1 f2 f3 f4 f5 f6 f7 f8 f9 hstep hmeta hgb)
      (bodyRun.sl.r_451 c arg10 f10)
      (View.readAt (Elt Ideal) arg11.view (Rect.unit (s := S1x128) ![0, 0] S1x128.size inb_S1x128_S1x128_0_0).toLoadRect f11)
      (View.readAt (Elt Ideal) arg12.view (Rect.unit (s := S8x128) ![0, 0] S8x128.size inb_S8x128_S8x128_0_0).toLoadRect f12)
      (bodyRun.sl.r_452 c arg13 f13) (ix2 p l)
    = scoreOf c arg0 arg1 arg2 arg3 arg4 arg5 arg6 arg7 arg8 arg9 arg10 arg11 arg12 arg13 f1 f2 f3 f4 f5 f6 f7 f8 f9 f10 f11 f12 f13 p l := by
  rw [pay885_apply, pay884_apply]
  unfold scoreOf act2At
  refine congrArg₂ (· + ·) (Finset.sum_congr rfl fun k _ => congrArg₂ (· * ·) (whole_read c arg12 f12 _ p k) ?_) ?_
  · have e9 : bodyRun.sl.r_450 c arg0 arg1 arg2 arg3 arg4 arg5 arg6 arg7 arg8 arg9 arg19 arg20 f1 f2 f3 f4 f5 f6 f7 f8 f9 hstep hmeta hgb
        = k0_pay882 (F := Ideal) (bodyRun.sl.v9635 c arg0 arg1 arg2 arg3 arg4 arg5 arg6 arg7 arg8 arg19 arg20 f1 f2 f3 f4 f5 f6 f7 f8 hstep hmeta hgb)
          (View.readAt (Elt Ideal) arg9.view (Rect.unit (s := S512x128) ![0, 0] S512x128.size inb_S512x128_S512x128_0_0).toLoadRect f9) := rfl
    have e10 : bodyRun.sl.r_451 c arg10 f10 (ix2 0 k) = View.read (Elt Ideal) arg10.view f10 (ix2 0 k) := by
      show k0_pay883 (F := Ideal) _ _ = _
      unfold k0_pay883
      pointwise
      exact whole_read c arg10 f10 _ 0 k
    rw [e10, e9, pay882_apply]
    refine congrArg₂ (fun z a => actEl (F := Ideal) z (View.read (Elt Ideal) arg10.view f10 (ix2 0 k)) a) (Finset.sum_congr rfl fun j _ => congrArg₂ (· * ·) ?_ (whole_read c arg9 f9 _ j k)) (whole_read c arg11 f11 _ 0 k)
    rw [z1_read, actOf_apply]
  · show View.read (Elt Ideal) arg13.view f13 _ = _
    refine congrArg (View.read (Elt Ideal) arg13.view f13) (funext fun d => Fin.ext ?_)
    fin_cases d
    rfl

end

end Cert.Proof.KernelIdeal

end
-- ==== Proof.Arr.lean ====
/-
  The score array after the run: each line of tile `t`'s block, from the arguments.
-/
module

public import proofs.«01_k».proof.Proof.Score
public import proofs.«01_k».proof.Proof.LaunchIdeal
public import Idealize.ShloMosaic.Lib.Pipeline.Value
public import Idealize.ShloMosaic.Lib.Pipeline.ValueKit.Geometry

@[expose] public section

set_option maxRecDepth 16384

noncomputable section

namespace Cert.Proof.KernelIdeal

open Cert.KernelIdeal Cert.KernelIdeal.Gen
open Idealize.ShloMosaic Idealize.ShloMosaic.TcCoe
open Idealize.ShloMosaic.Pipeline (Dat Cfg Window cellOf)
open Cert.KernelIdeal.Facts

variable (m : (ℓ : Loc nD τ sig) → Buf (Elt Ideal) ℓ)

section
variable (hG : Good m) (c : Dev nD) (t : Fin (cfgM hG).N)

theorem coord_eq : ((cfgM hG).grid.coords t 0).val = t.val := coords_at _ t

theorem index_15 : ((cfgM hG).win 15).index t = ![t.val, 0] := by
  refine (transform_15_eq (dynb0 (tbl m)) hG.n_le _).trans ?_
  rw [show ((grid0.at (dynb0 (tbl m))).coords t 0).val = t.val from coords_at _ t]

theorem index_15_ne (t t' : Fin (cfgM hG).N) (h : t ≠ t') : ((cfgM hG).win 15).index t ≠ ((cfgM hG).win 15).index t' := by
  rw [index_15, index_15]
  intro e
  exact h (Fin.ext (congrFun e 0))

theorem flush_15 : ((cfgM hG).win 15).flush t = true := by
  rw [Window.flush_eq_flushOf]
  unfold Window.flushOf
  by_cases h : t.val + 1 < (cfgM hG).N
  · have := index_15_ne m hG ⟨t.val + 1, h⟩ t (fun e => by have := congrArg Fin.val e; simp at this)
    simp only [Bool.and_eq_true, Bool.or_eq_true, decide_eq_true_eq]
    exact ⟨rfl, .inr ⟨h, this⟩⟩
  · simp only [Bool.and_eq_true, Bool.or_eq_true, decide_eq_true_eq]
    exact ⟨rfl, .inl (Nat.le_antisymm t.isLt (Nat.not_lt.mp h))⟩

theorem arr_score (p : Fin 8) (l : Fin 128) (r : Fin 1208) (hr : r.val = 8 * t.val + p.val) :
    (dats m hG 0 c).arrAt 15 (cfgM hG).N (ix2 r l : S1208x128.Idx) = scoreAt m hG c t (ix2 p l) := by
  have h := (dats m hG 0 c).arrAt_emb_eq_flushed 15
    (fun t t' _ _ hne => ((cfgM hG).win 15).disjoint_blk (index_15_ne m hG t t' hne)) t (flush_15 m hG t) (ix2 p l)
  have e : ((((cfgM hG).win 15).blk t).view.emb (ix2 p l) : S1208x128.Idx) = ix2 r l := by
    funext a
    refine Fin.ext ?_
    refine (((cfgM hG).win 15).rect_emb_val t (ix2 p l) a).trans ?_
    rw [index_15]
    fin_cases a
    · show t.val * 8 + p.val = r.val; omega
    · show 0 * 128 + l.val = l.val; omega
  have h2 : (dats m hG 0 c).arrAt 15 (cfgM hG).N ((((cfgM hG).win 15).blk t).view.emb (ix2 p l)) = scoreAt m hG c t (ix2 p l) := h
  rw [← h2]
  exact congrArg (fun i : S1208x128.Idx => (dats m hG 0 c).arrAt 15 (cfgM hG).N i) e.symm

/-! ## What the windows hold -/

theorem iblk_0 (a : Fin 16) (b : Fin 6) (d : Fin 8) (e : Fin 128) (A : Fin 2432) (hA : A.val = 16 * (t.val + 1) + a.val) :
    iblk m hG c 0 t (ix4 a b d e : S16x6x8x128.Idx) = m ((c : Thread nD τ).loc main_arg0) (ix4 A b d e : S2432x6x8x128.Idx) := by
  have i0 : ((cfgM hG).win 0).index t = ![t.val + 1, 0, 0, 0] := by
    refine (transform_0_eq (dynb0 (tbl m)) hG.n_le _).trans ?_
    rw [show ((grid0.at (dynb0 (tbl m))).coords t 0).val = t.val from coords_at _ t]
  have e0 : ((((cfgM hG).win 0).blk t).view.emb (ix4 a b d e : S16x6x8x128.Idx) : S2432x6x8x128.Idx) = ix4 A b d e := by
    funext q
    refine Fin.ext ?_
    refine (((cfgM hG).win 0).rect_emb_val t (ix4 a b d e : S16x6x8x128.Idx) q).trans ?_
    rw [i0]
    fin_cases q
    · show (t.val + 1) * 16 + a.val = A.val; omega
    · show 0 * 6 + b.val = b.val; omega
    · show 0 * 8 + d.val = d.val; omega
    · show 0 * 128 + e.val = e.val; omega
  show V m c main_arg0 ((((cfgM hG).win 0).blk t).view.emb (ix4 a b d e : S16x6x8x128.Idx)) = _
  rw [V_arg0]
  exact congrArg (fun i : S2432x6x8x128.Idx => m ((c : Thread nD τ).loc main_arg0) i) e0

theorem iblk_1 (a : Fin 16) (b : Fin 2) (d : Fin 128) (A : Fin 2432) (hA : A.val = 16 * (t.val + 1) + a.val) :
    iblk m hG c 1 t (ix3 a b d : S16x2x128.Idx) = m ((c : Thread nD τ).loc main_arg1) (ix3 A b d : S2432x2x128.Idx) := by
  have i0 : ((cfgM hG).win 1).index t = ![t.val + 1, 0, 0] := by
    refine (transform_1_eq (dynb0 (tbl m)) hG.n_le _).trans ?_
    rw [show ((grid0.at (dynb0 (tbl m))).coords t 0).val = t.val from coords_at _ t]
  have e0 : ((((cfgM hG).win 1).blk t).view.emb (ix3 a b d : S16x2x128.Idx) : S2432x2x128.Idx) = ix3 A b d := by
    funext q
    refine Fin.ext ?_
    refine (((cfgM hG).win 1).rect_emb_val t (ix3 a b d : S16x2x128.Idx) q).trans ?_
    rw [i0]
    fin_cases q
    · show (t.val + 1) * 16 + a.val = A.val; omega
    · show 0 * 2 + b.val = b.val; omega
    · show 0 * 128 + d.val = d.val; omega
  show V m c main_arg1 ((((cfgM hG).win 1).blk t).view.emb (ix3 a b d : S16x2x128.Idx)) = _
  rw [V_arg1]
  exact congrArg (fun i : S2432x2x128.Idx => m ((c : Thread nD τ).loc main_arg1) i) e0

theorem iblk_2 : (iblk m hG c 2 t : S224x768.Idx → Elt Ideal _) = V m c main_arg2 := by
  funext y
  refine congrArg (fun i : S224x768.Idx => V m c main_arg2 i) (?_ : ((((cfgM hG).win 2).blk t).view.emb y : S224x768.Idx) = y)
  funext q
  refine Fin.ext ?_
  refine ((cfgM hG).win 2).rect_emb_val_of_index_zero t q ?_ y
  show cc0_transform_2 (dynb0 (tbl m)) ((cfgM hG).grid.coords t) q = 0
  fin_cases q <;> rfl

theorem iblk_3 : (iblk m hG c 3 t : S224x512.Idx → Elt Ideal _) = V m c main_arg3 := by
  funext y
  refine congrArg (fun i : S224x512.Idx => V m c main_arg3 i) (?_ : ((((cfgM hG).win 3).blk t).view.emb y : S224x512.Idx) = y)
  funext q
  refine Fin.ext ?_
  refine ((cfgM hG).win 3).rect_emb_val_of_index_zero t q ?_ y
  show cc0_transform_3 (dynb0 (tbl m)) ((cfgM hG).grid.coords t) q = 0
  fin_cases q <;> rfl

theorem iblk_4 : (iblk m hG c 4 t : S3072x512.Idx → Elt Ideal _) = V m c main_arg10 := by
  funext y
  refine congrArg (fun i : S3072x512.Idx => V m c main_arg10 i) (?_ : ((((cfgM hG).win 4).blk t).view.emb y : S3072x512.Idx) = y)
  funext q
  refine Fin.ext ?_
  refine ((cfgM hG).win 4).rect_emb_val_of_index_zero t q ?_ y
  show cc0_transform_4 (dynb0 (tbl m)) ((cfgM hG).grid.coords t) q = 0
  fin_cases q <;> rfl

theorem iblk_5 : (iblk m hG c 5 t : S1x512.Idx → Elt Ideal _) = V m c main_v0 := by
  funext y
  refine congrArg (fun i : S1x512.Idx => V m c main_v0 i) (?_ : ((((cfgM hG).win 5).blk t).view.emb y : S1x512.Idx) = y)
  funext q
  refine Fin.ext ?_
  refine ((cfgM hG).win 5).rect_emb_val_of_index_zero t q ?_ y
  show cc0_transform_5 (dynb0 (tbl m)) ((cfgM hG).grid.coords t) q = 0
  fin_cases q <;> rfl

theorem iblk_6 : (iblk m hG c 6 t : S512x128.Idx → Elt Ideal _) = V m c main_arg12 := by
  funext y
  refine congrArg (fun i : S512x128.Idx => V m c main_arg12 i) (?_ : ((((cfgM hG).win 6).blk t).view.emb y : S512x128.Idx) = y)
  funext q
  refine Fin.ext ?_
  refine ((cfgM hG).win 6).rect_emb_val_of_index_zero t q ?_ y
  show cc0_transform_6 (dynb0 (tbl m)) ((cfgM hG).grid.coords t) q = 0
  fin_cases q <;> rfl

theorem iblk_7 : (iblk m hG c 7 t : S1x128.Idx → Elt Ideal _) = V m c main_v1 := by
  funext y
  refine congrArg (fun i : S1x128.Idx => V m c main_v1 i) (?_ : ((((cfgM hG).win 7).blk t).view.emb y : S1x128.Idx) = y)
  funext q
  refine Fin.ext ?_
  refine ((cfgM hG).win 7).rect_emb_val_of_index_zero t q ?_ y
  show cc0_transform_7 (dynb0 (tbl m)) ((cfgM hG).grid.coords t) q = 0
  fin_cases q <;> rfl

theorem iblk_8 : (iblk m hG c 8 t : S1x128.Idx → Elt Ideal _) = V m c main_v2 := by
  funext y
  refine congrArg (fun i : S1x128.Idx => V m c main_v2 i) (?_ : ((((cfgM hG).win 8).blk t).view.emb y : S1x128.Idx) = y)
  funext q
  refine Fin.ext ?_
  refine ((cfgM hG).win 8).rect_emb_val_of_index_zero t q ?_ y
  show cc0_transform_8 (dynb0 (tbl m)) ((cfgM hG).grid.coords t) q = 0
  fin_cases q <;> rfl

theorem iblk_9 : (iblk m hG c 9 t : S8x128.Idx → Elt Ideal _) = V m c main_v4 := by
  funext y
  refine congrArg (fun i : S8x128.Idx => V m c main_v4 i) (?_ : ((((cfgM hG).win 9).blk t).view.emb y : S8x128.Idx) = y)
  funext q
  refine Fin.ext ?_
  refine ((cfgM hG).win 9).rect_emb_val_of_index_zero t q ?_ y
  show cc0_transform_9 (dynb0 (tbl m)) ((cfgM hG).grid.coords t) q = 0
  fin_cases q <;> rfl

theorem iblk_10 : (iblk m hG c 10 t : S1.Idx → Elt Ideal _) = V m c main_arg16 := by
  funext y
  refine congrArg (fun i : S1.Idx => V m c main_arg16 i) (?_ : ((((cfgM hG).win 10).blk t).view.emb y : S1.Idx) = y)
  funext q
  refine Fin.ext ?_
  refine ((cfgM hG).win 10).rect_emb_val_of_index_zero t q ?_ y
  show cc0_transform_10 (dynb0 (tbl m)) ((cfgM hG).grid.coords t) q = 0
  fin_cases q <;> rfl

end

end Cert.Proof.KernelIdeal

end
-- ==== Proof.Tile.lean ====
/-
  Tile `t`'s score block as a plain function of the arguments.
-/
module

public import proofs.«01_k».proof.Proof.Arr

@[expose] public section

set_option maxRecDepth 16384

noncomputable section

namespace Cert.Proof.KernelIdeal

open Cert.KernelIdeal Cert.KernelIdeal.Gen
open Idealize.ShloMosaic Idealize.ShloMosaic.TcCoe
open Cert.KernelIdeal.Facts

/-- The score of one row: its feature vector `f` through the three layers. -/
def rowScore (f : Fin 2304 → EReal) (sh : Fin 512 → EReal) (w1 : S3072x512.Idx → EReal) (a1 : Fin 512 → EReal) (w2 : S512x128.Idx → EReal) (b2 a2 w3 : Fin 128 → EReal) (b3 : EReal) : EReal :=
  (∑ k : Fin 128, w3 k * actEl (F := Ideal) (∑ j : Fin 512, actEl (F := Ideal)
      ((∑ i : Fin 768, f ⟨0 + i.val, by omega⟩ * w1 (ix2 ⟨i.val, by omega⟩ j)) + ∑ i : Fin 1536, f ⟨768 + i.val, by omega⟩ * w1 (ix2 ⟨1536 + i.val, by omega⟩ j))
      (sh j) (a1 j) * w2 (ix2 j k)) (b2 k) (a2 k)) + b3

variable (m : (ℓ : Loc nD τ sig) → Buf (Elt Ideal) ℓ) (c : Dev nD)

theorem V_v0 (k : Fin 512) : V m c main_v0 (ix2 0 k : S1x512.Idx) = m ((c : Thread nD τ).loc main_arg11) (ix1 k : S512.Idx) := by
  have e : V m c main_v0 = shapeCast S1x512 (m ((c : Thread nD τ).loc main_arg11) : S512.Idx → EReal) shapeCasts_S512_S1x512 := by
    show StableHlo.after hostOps0 _ (Proc.devRef .tc main_v0) = _
    after_results
    rfl
  rw [e]
  pointwise

theorem V_v1 (k : Fin 128) : V m c main_v1 (ix2 0 k : S1x128.Idx) = m ((c : Thread nD τ).loc main_arg13) (ix1 k : S128.Idx) := by
  have e : V m c main_v1 = shapeCast S1x128 (m ((c : Thread nD τ).loc main_arg13) : S128.Idx → EReal) shapeCasts_S128_S1x128 := by
    show StableHlo.after hostOps0 _ (Proc.devRef .tc main_v1) = _
    after_results
    rfl
  rw [e]
  pointwise

theorem V_v2 (k : Fin 128) : V m c main_v2 (ix2 0 k : S1x128.Idx) = m ((c : Thread nD τ).loc main_arg14) (ix1 k : S128.Idx) := by
  have e : V m c main_v2 = shapeCast S1x128 (m ((c : Thread nD τ).loc main_arg14) : S128.Idx → EReal) shapeCasts_S128_S1x128 := by
    show StableHlo.after hostOps0 _ (Proc.devRef .tc main_v2) = _
    after_results
    rfl
  rw [e]
  pointwise

theorem V_v4 (p : Fin 8) (k : Fin 128) : V m c main_v4 (ix2 p k : S8x128.Idx) = m ((c : Thread nD τ).loc main_arg15) (ix1 k : S128.Idx) := by
  have e : V m c main_v4 = broadcastInDim S8x128 ![0, 1] bcast_S1x128_S8x128_0_1 (shapeCast S1x128 (m ((c : Thread nD τ).loc main_arg15) : S128.Idx → EReal) shapeCasts_S128_S1x128) := by
    show StableHlo.after hostOps0 _ (Proc.devRef .tc main_v4) = _
    after_results
    rfl
  rw [e]
  pointwise

variable (hG : Good m) (t : Fin (cfgM hG).N)

/-- The body's score block, at an element. -/
theorem scoreAt_scoreOf (p : Fin 8) (l : Fin 128) : scoreAt m hG c t (ix2 p l)
    = scoreOf c (BitVec.ofNat 32 (((cfgM hG).grid.coords t) 0).val) (Memref.whole main_arg4) (Memref.whole main_arg5) (ms_0 m hG t) (ms_1 m hG t) (ms_2 m hG t) (ms_3 m hG t) (ms_4 m hG t) (ms_5 m hG t) (ms_6 m hG t) (ms_7 m hG t) (ms_8 m hG t) (ms_9 m hG t) (ms_10 m hG t)
        (tbl m 1) (tbl m 2) ((hs_0 m hG t).unread (iblk m hG c 0 t)) ((hs_1 m hG t).unread (iblk m hG c 1 t)) ((hs_2 m hG t).unread (iblk m hG c 2 t)) ((hs_3 m hG t).unread (iblk m hG c 3 t)) ((hs_4 m hG t).unread (iblk m hG c 4 t)) ((hs_5 m hG t).unread (iblk m hG c 5 t)) ((hs_6 m hG t).unread (iblk m hG c 6 t)) ((hs_7 m hG t).unread (iblk m hG c 7 t)) ((hs_8 m hG t).unread (iblk m hG c 8 t)) ((hs_9 m hG t).unread (iblk m hG c 9 t)) ((hs_10 m hG t).unread (iblk m hG c 10 t)) p l := by
  refine (congrFun (View.read_writes_junk_eq_canon (ms_15 m hG t).view (bodyRun.sl.H18_1 c (BitVec.ofNat 32 (((cfgM hG).grid.coords t) 0).val) (Memref.whole main_arg4) (Memref.whole main_arg5) (ms_0 m hG t) (ms_1 m hG t) (ms_2 m hG t) (ms_3 m hG t) (ms_4 m hG t) (ms_5 m hG t) (ms_6 m hG t) (ms_7 m hG t) (ms_8 m hG t) (ms_9 m hG t) (ms_10 m hG t) scM0 scM1 (tbl m 1) (tbl m 2) ((hs_0 m hG t).unread (iblk m hG c 0 t)) ((hs_1 m hG t).unread (iblk m hG c 1 t)) ((hs_2 m hG t).unread (iblk m hG c 2 t)) ((hs_3 m hG t).unread (iblk m hG c 3 t)) ((hs_4 m hG t).unread (iblk m hG c 4 t)) ((hs_5 m hG t).unread (iblk m hG c 5 t)) ((hs_6 m hG t).unread (iblk m hG c 6 t)) ((hs_7 m hG t).unread (iblk m hG c 7 t)) ((hs_8 m hG t).unread (iblk m hG c 8 t)) ((hs_9 m hG t).unread (iblk m hG c 9 t)) ((hs_10 m hG t).unread (iblk m hG c 10 t)) (step_lt m hG t) hG.meta_eq hG.gb_lt)) (ix2 p l)).trans ?_
  refine Eq.trans ?_ (score_payload c (BitVec.ofNat 32 (((cfgM hG).grid.coords t) 0).val) (Memref.whole main_arg4) (Memref.whole main_arg5) (ms_0 m hG t) (ms_1 m hG t) (ms_2 m hG t) (ms_3 m hG t) (ms_4 m hG t) (ms_5 m hG t) (ms_6 m hG t) (ms_7 m hG t) (ms_8 m hG t) (ms_9 m hG t) (ms_10 m hG t) scM0 scM1 (tbl m 1) (tbl m 2) ((hs_0 m hG t).unread (iblk m hG c 0 t)) ((hs_1 m hG t).unread (iblk m hG c 1 t)) ((hs_2 m hG t).unread (iblk m hG c 2 t)) ((hs_3 m hG t).unread (iblk m hG c 3 t)) ((hs_4 m hG t).unread (iblk m hG c 4 t)) ((hs_5 m hG t).unread (iblk m hG c 5 t)) ((hs_6 m hG t).unread (iblk m hG c 6 t)) ((hs_7 m hG t).unread (iblk m hG c 7 t)) ((hs_8 m hG t).unread (iblk m hG c 8 t)) ((hs_9 m hG t).unread (iblk m hG c 9 t)) ((hs_10 m hG t).unread (iblk m hG c 10 t)) (step_lt m hG t) hG.meta_eq hG.gb_lt p l)
  have e : (ix2 p l : S8x128.Idx) = (Rect.unit (s := S8x128) ![0, 0] S8x128.size inb_S8x128_S8x128_0_0).emb (ix2 p l) := by
    funext d
    refine Fin.ext ?_
    rw [Rect.emb_apply]
    fin_cases d
    · show p.val = 0 + 1 * p.val; omega
    · show l.val = 0 + 1 * l.val; omega
  refine (congrArg (View.canon (bodyRun.sl.H18_1 c (BitVec.ofNat 32 (((cfgM hG).grid.coords t) 0).val) (Memref.whole main_arg4) (Memref.whole main_arg5) (ms_0 m hG t) (ms_1 m hG t) (ms_2 m hG t) (ms_3 m hG t) (ms_4 m hG t) (ms_5 m hG t) (ms_6 m hG t) (ms_7 m hG t) (ms_8 m hG t) (ms_9 m hG t) (ms_10 m hG t) scM0 scM1 (tbl m 1) (tbl m 2) ((hs_0 m hG t).unread (iblk m hG c 0 t)) ((hs_1 m hG t).unread (iblk m hG c 1 t)) ((hs_2 m hG t).unread (iblk m hG c 2 t)) ((hs_3 m hG t).unread (iblk m hG c 3 t)) ((hs_4 m hG t).unread (iblk m hG c 4 t)) ((hs_5 m hG t).unread (iblk m hG c 5 t)) ((hs_6 m hG t).unread (iblk m hG c 6 t)) ((hs_7 m hG t).unread (iblk m hG c 7 t)) ((hs_8 m hG t).unread (iblk m hG c 8 t)) ((hs_9 m hG t).unread (iblk m hG c 9 t)) ((hs_10 m hG t).unread (iblk m hG c 10 t)) (step_lt m hG t) hG.meta_eq hG.gb_lt)) e).trans ?_
  exact View.canon_cons_emb _ _ _ _

/-- The table word of group `n` of tile `t`. -/
def gnT (t n : Nat) : BitVec 32 := m ((c : Thread nD τ).loc main_arg4) (ix1 ⟨(32 * t + n) % 4800, Nat.mod_lt _ (by decide)⟩ : S4800.Idx)

theorem gW_eq (n : Nat) (hn : n < 32) : gW (View.read (Elt Ideal) (Memref.whole main_arg4 : Memref sig .tc .smem S4800 .i32).view (tbl m 1)) (BitVec.ofNat 32 (((cfgM hG).grid.coords t) 0).val) (bodyRun.sl.r c (Memref.whole main_arg5) (tbl m 2)) n = gnT m c t.val n := by
  have hr : bodyRun.sl.r c (Memref.whole main_arg5) (tbl m 2) = 0#32 := hG.meta_eq _
  have ht := N_le hG t
  have e0 : (((cfgM hG).grid.coords t) 0).val = t.val := coords_at _ t
  rw [hr, e0]
  unfold gW gnT
  have e1 : ((0#32 + BitVec.ofNat 32 t.val) * 32#32 + BitVec.ofNat 32 n).toNat % 4800 = (32 * t.val + n) % 4800 := by
    simp only [BitVec.toNat_add, BitVec.toNat_mul, BitVec.toNat_ofNat]
    omega
  obtain rfl : c = 0 := Subsingleton.elim _ _
  show V m (0 : Dev nD) main_arg4 _ = _
  rw [V_arg4]
  exact congrArg (fun i : Fin 4800 => m (((0 : Dev nD) : Thread nD τ).loc main_arg4) (ix1 i : S4800.Idx)) (Fin.ext e1)

theorem actEl_congr {z z' u u' a a' : EReal} (hz : z = z') (hu : u = u') (ha : a = a') : actEl (F := Ideal) z u a = actEl (F := Ideal) z' u' a' := by rw [hz, hu, ha]

theorem featAt_congr (x3 x3' : S16x6x8x128.Idx → BitVec 32) (x4 x4' : S16x2x128.Idx → BitVec 32) (x5 x5' : S224x768.Idx → BitVec 32) (gn gn' : Nat → BitVec 32) (r : Fin 512) (j : Fin 2304)
    (h3 : x3 = x3') (h4 : x4 = x4') (h5 : x5 = x5') (hg : gn (r.val / 16) = gn' (r.val / 16)) : featAt (F := Ideal) x3 x4 x5 gn (ix2 r j) = featAt (F := Ideal) x3' x4' x5' gn' (ix2 r j) := by
  have e1 : (ix2 r j : S512x2304.Idx) 0 = r := rfl
  unfold featAt
  simp only [e1]
  rw [hg, h3, h4, h5]

/-- Tile `t`'s score block, an element of it, from the arguments. -/
theorem scoreAt_eq (p : Fin 8) (l : Fin 128) : scoreAt m hG c t (ix2 p l)
    = rowScore (fun j => featAt (F := Ideal) (iblk m hG c 0 t) (iblk m hG c 1 t) (m ((c : Thread nD τ).loc main_arg2)) (gnT m c t.val) (ix2 (lineRow p l) j))
        (fun j => m ((c : Thread nD τ).loc main_arg3) (ix2 ⟨(gnT m c t.val ((lineRow p l).val / 16)).toNat % 224, Nat.mod_lt _ (by decide)⟩ j : S224x512.Idx))
        (m ((c : Thread nD τ).loc main_arg10)) (fun j => m ((c : Thread nD τ).loc main_arg11) (ix1 j : S512.Idx)) (m ((c : Thread nD τ).loc main_arg12))
        (fun k => m ((c : Thread nD τ).loc main_arg13) (ix1 k : S128.Idx)) (fun k => m ((c : Thread nD τ).loc main_arg14) (ix1 k : S128.Idx)) (fun k => m ((c : Thread nD τ).loc main_arg15) (ix1 k : S128.Idx))
        (m ((c : Thread nD τ).loc main_arg16) (ix1 0 : S1.Idx)) := by
  rw [scoreAt_scoreOf]
  have hr : (lineRow p l).val / 16 < 32 := by have := (lineRow p l).isLt; omega
  have hg := gW_eq m c hG t _ hr
  have h2 : (iblk m hG c 2 t : S224x768.Idx → BitVec 32) = m ((c : Thread nD τ).loc main_arg2) := (iblk_2 m hG c t).trans (V_arg2 m c)
  have hf : ∀ j : Fin 2304, featOf c (BitVec.ofNat 32 (((cfgM hG).grid.coords t) 0).val) (Memref.whole main_arg4) (Memref.whole main_arg5) (ms_0 m hG t) (ms_1 m hG t) (ms_2 m hG t) (tbl m 1) (tbl m 2) ((hs_0 m hG t).unread (iblk m hG c 0 t)) ((hs_1 m hG t).unread (iblk m hG c 1 t)) ((hs_2 m hG t).unread (iblk m hG c 2 t)) (ix2 (lineRow p l) j)
      = featAt (F := Ideal) (iblk m hG c 0 t) (iblk m hG c 1 t) (m ((c : Thread nD τ).loc main_arg2)) (gnT m c t.val) (ix2 (lineRow p l) j) := by
    intro j
    unfold featOf
    exact featAt_congr _ _ _ _ _ _ _ _ _ _ ((hs_0 m hG t).read_unread _) ((hs_1 m hG t).read_unread _) (((hs_2 m hG t).read_unread _).trans h2) hg
  unfold scoreOf act2At prodAt rowScore
  refine congrArg₂ (· + ·) (Finset.sum_congr rfl fun k _ => congrArg₂ (· * ·) ?_ (actEl_congr (Finset.sum_congr rfl fun j _ => congrArg₂ (· * ·)
    (actEl_congr (congrArg₂ (· + ·) (Finset.sum_congr rfl fun i _ => congrArg₂ (· * ·) (hf _) ?_) (Finset.sum_congr rfl fun i _ => congrArg₂ (· * ·) (hf _) ?_)) ?_ ?_) ?_) ?_ ?_)) ?_
  · refine (congrFun ((hs_9 m hG t).read_unread _) _).trans ?_; exact (congrFun (iblk_9 m hG c t) _).trans (V_v4 m c p k)
  · refine (congrFun ((hs_4 m hG t).read_unread _) _).trans ?_; exact (congrFun (iblk_4 m hG c t) _).trans (congrFun (V_arg10 m c) _)
  · refine (congrFun ((hs_4 m hG t).read_unread _) _).trans ?_; exact (congrFun (iblk_4 m hG c t) _).trans (congrFun (V_arg10 m c) _)
  · refine (congrFun ((hs_3 m hG t).read_unread _) _).trans ?_; refine (congrFun (iblk_3 m hG c t) _).trans ((congrFun (V_arg3 m c) _).trans ?_); exact congrArg (fun b : BitVec 32 => m ((c : Thread nD τ).loc main_arg3) (ix2 ⟨b.toNat % 224, Nat.mod_lt _ (by decide)⟩ j : S224x512.Idx)) hg
  · refine (congrFun ((hs_5 m hG t).read_unread _) _).trans ?_; exact (congrFun (iblk_5 m hG c t) _).trans (V_v0 m c j)
  · refine (congrFun ((hs_6 m hG t).read_unread _) _).trans ?_; exact (congrFun (iblk_6 m hG c t) _).trans (congrFun (V_arg12 m c) _)
  · refine (congrFun ((hs_7 m hG t).read_unread _) _).trans ?_; exact (congrFun (iblk_7 m hG c t) _).trans (V_v1 m c k)
  · refine (congrFun ((hs_8 m hG t).read_unread _) _).trans ?_; exact (congrFun (iblk_8 m hG c t) _).trans (V_v2 m c k)
  · refine (congrFun ((hs_10 m hG t).read_unread _) _).trans ?_; exact (congrFun (iblk_10 m hG c t) _).trans (congrFun (V_arg16 m c) _)

end Cert.Proof.KernelIdeal

end
-- ==== Proof.RefVal.lean ====
/-
  The reference's score, an element at a time: each row through the three layers, and the place of its score in the result.
-/
module

public import proofs.«01_k».proof.Proof.RefRows
public import proofs.«01_k».proof.Proof.Tile

@[expose] public section

noncomputable section

namespace Cert.ReferenceIdeal.Read

open Cert.ReferenceIdeal Cert.ReferenceIdeal.Gen Idealize.ShloMosaic Idealize.ShloMosaic.TcCoe Idealize.SL.Sem Idealize.ShloMosaic.StableHlo
open Idealize.ShloMosaic (ix1 ix2 ix3 ix4)
open Cert.Proof.KernelIdeal (rowScore actEl hAt tAt featAt lineRow)

variable (x0 : (⟨S2432x6x8x128, .i32⟩ : BufTy).Contents (Elt Ideal)) (x1 : (⟨S2432x2x128, .i32⟩ : BufTy).Contents (Elt Ideal)) (x2 : (⟨S224x768, .i32⟩ : BufTy).Contents (Elt Ideal)) (x3 : (⟨S224x512, .f32⟩ : BufTy).Contents (Elt Ideal)) (x4 : (⟨S4800, .i32⟩ : BufTy).Contents (Elt Ideal)) (x10 : (⟨S3072x512, .bf16⟩ : BufTy).Contents (Elt Ideal)) (x11 : (⟨S512, .f32⟩ : BufTy).Contents (Elt Ideal)) (x12 : (⟨S512x128, .bf16⟩ : BufTy).Contents (Elt Ideal)) (x13 x14 : (⟨S128, .f32⟩ : BufTy).Contents (Elt Ideal)) (x15 : (⟨S128, .bf16⟩ : BufTy).Contents (Elt Ideal)) (x16 : (⟨S1, .f32⟩ : BufTy).Contents (Elt Ideal))

/-- The first layer's weights over the features: the first block of rows, then the last two. -/
theorem v77_lo (i : Fin 768) (j : Fin 512) (I : S2304x512.Idx) (h0 : (I 0).val = i.val) (h1 : (I 1).val = j.val) :
    val_main_v77 (F := Ideal) x10 I = x10 (ix2 (⟨i.val, by omega⟩ : Fin 3072) j) := by
  unfold val_main_v77
  refine (concatenate_pair_apply_left (s₁ := S768x512) (s₂ := S1536x512) 0 _ _ _ I rfl (ix2 i j) (fun b => match b with
    | ⟨0, _⟩ => h0.symm
    | ⟨1, _⟩ => h1.symm)).trans ?_
  refine (val_main_v75_apply x10 (ix2 i j)).trans (congrArg x10 (funext fun a => ?_))
  match a with
  | ⟨0, _⟩ => rfl
  | ⟨1, _⟩ => rfl

theorem v77_hi (i : Fin 1536) (j : Fin 512) (I : S2304x512.Idx) (h0 : (I 0).val = 768 + i.val) (h1 : (I 1).val = j.val) :
    val_main_v77 (F := Ideal) x10 I = x10 (ix2 (⟨1536 + i.val, by omega⟩ : Fin 3072) j) := by
  unfold val_main_v77
  refine (concatenate_pair_apply_right (s₁ := S768x512) (s₂ := S1536x512) 0 _ _ _ I rfl rfl (ix2 i j) (fun b => match b with
    | ⟨0, _⟩ => fun h => absurd rfl h
    | ⟨1, _⟩ => fun _ => h1.symm) (by show i.val + 768 = (I 0).val; omega)).trans ?_
  refine (val_main_v76_apply x10 (ix2 i j)).trans (congrArg x10 (funext fun a => ?_))
  match a with
  | ⟨0, _⟩ => rfl
  | ⟨1, _⟩ => rfl

/-- The first layer's product, cut where the weights are. -/
theorem v78_at (n : Fin 77312) (j : Fin 512) : val_main_v78 (F := Ideal) x0 x1 x2 x4 x10 (ix2 n j)
    = ((∑ i : Fin 768, val_main_v74 (F := Ideal) x0 x1 x2 x4 (ix2 n (⟨0 + i.val, by omega⟩ : Fin 2304)) * x10 (ix2 (⟨i.val, by omega⟩ : Fin 3072) j))
      + ∑ i : Fin 1536, val_main_v74 (F := Ideal) x0 x1 x2 x4 (ix2 n (⟨768 + i.val, by omega⟩ : Fin 2304)) * x10 (ix2 (⟨1536 + i.val, by omega⟩ : Fin 3072) j) : EReal) := by
  rw [val_main_v78_apply]
  refine (Fin.sum_univ_add (a := 768) (b := 1536) (fun k : Fin (768 + 1536) => (val_main_v74 (F := Ideal) x0 x1 x2 x4 (lidx_main_v78 (ix2 n j) k) * val_main_v77 (F := Ideal) x10 (ridx_main_v78 (ix2 n j) k) : EReal))).trans ?_
  refine congrArg₂ (· + ·) (Finset.sum_congr rfl fun i _ => congrArg₂ (· * ·) ?_ ?_) (Finset.sum_congr rfl fun i _ => congrArg₂ (· * ·) ?_ ?_)
  · refine congrArg _ (funext fun a => Fin.ext ?_)
    match a with
    | ⟨0, _⟩ => rfl
    | ⟨1, _⟩ => exact (Nat.zero_add i.val).symm
  · exact v77_lo x10 i j _ rfl rfl
  · refine congrArg _ (funext fun a => Fin.ext ?_)
    match a with
    | ⟨0, _⟩ => rfl
    | ⟨1, _⟩ => rfl
  · exact v77_hi x10 i j _ rfl rfl

theorem v86_at (n : Fin 77312) (j : Fin 512) (I : S77312x512.Idx) (hI : I = ix2 n j) : val_main_v86 (F := Ideal) x0 x1 x2 x3 x4 x10 x11 I
    = actEl (F := Ideal) (val_main_v78 (F := Ideal) x0 x1 x2 x4 x10 (ix2 n j)) (val_main_v67 (F := Ideal) x3 x4 (ix2 n j)) (x11 (ix1 j)) := by
  subst hI
  rw [val_main_v86_apply, val_main_v85_apply, val_main_v84_apply, val_main_v83_apply, val_main_v82_apply, val_main_v81_apply, val_main_v80_apply, val_main_cst_apply, val_main_v79_apply]
  have e : idx_main_v82 (idx_main_v83 (ix2 n j)) = ix1 j := by
    funext a
    match a with
    | ⟨0, _⟩ => rfl
  rw [e]
  rfl

theorem v97_at (n : Fin 77312) (k : Fin 128) (I : S77312x128.Idx) (hI : I = ix2 n k) : val_main_v97 (F := Ideal) x0 x1 x2 x3 x4 x10 x11 x12 x13 x14 I
    = actEl (F := Ideal) (val_main_v87 (F := Ideal) x0 x1 x2 x3 x4 x10 x11 x12 (ix2 n k)) (x13 (ix1 k)) (x14 (ix1 k)) := by
  subst hI
  rw [val_main_v97_apply, val_main_v96_apply, val_main_v95_apply, val_main_v94_apply, val_main_v93_apply, val_main_v92_apply, val_main_v91_apply, val_main_cst_15_apply, val_main_v90_apply, val_main_v89_apply, val_main_v88_apply]
  have e : idx_main_v88 (idx_main_v89 (ix2 n k)) = ix1 k := by
    funext a
    match a with
    | ⟨0, _⟩ => rfl
  have e' : idx_main_v93 (idx_main_v94 (ix2 n k)) = ix1 k := by
    funext a
    match a with
    | ⟨0, _⟩ => rfl
  rw [e, e']
  rfl

/-- Row `n`'s score. -/
theorem v101_at (n : Fin 77312) (I : S77312.Idx) (hI : I = ix1 n) : val_main_v101 (F := Ideal) x0 x1 x2 x3 x4 x10 x11 x12 x13 x14 x15 x16 I
    = rowScore (fun j => val_main_v74 (F := Ideal) x0 x1 x2 x4 (ix2 n j)) (fun j => val_main_v67 (F := Ideal) x3 x4 (ix2 n j)) x10 (fun j => x11 (ix1 j)) x12
        (fun k => x13 (ix1 k)) (fun k => x14 (ix1 k)) (fun k => x15 (ix1 k)) (x16 (ix1 (0 : Fin 1))) := by
  subst hI
  rw [val_main_v101_apply]
  unfold rowScore
  refine congrArg₂ (· + ·) ?_ ?_
  · rw [val_main_v98_apply]
    refine Finset.sum_congr rfl fun k _ => ?_
    refine (mul_comm _ _).trans (congrArg₂ (· * ·) ?_ ?_)
    · refine congrArg x15 (funext fun a => ?_)
      match a with
      | ⟨0, _⟩ => rfl
    · refine (v97_at x0 x1 x2 x3 x4 x10 x11 x12 x13 x14 n k _ ?_).trans ?_
      · funext a
        match a with
        | ⟨0, _⟩ => rfl
        | ⟨1, _⟩ => rfl
      · refine Cert.Proof.KernelIdeal.actEl_congr ?_ rfl rfl
        rw [val_main_v87_apply]
        refine Finset.sum_congr rfl fun j _ => congrArg₂ (· * ·) ?_ ?_
        · refine (v86_at x0 x1 x2 x3 x4 x10 x11 n j _ ?_).trans ?_
          · funext a
            match a with
            | ⟨0, _⟩ => rfl
            | ⟨1, _⟩ => rfl
          · exact Cert.Proof.KernelIdeal.actEl_congr (v78_at x0 x1 x2 x4 x10 n j) rfl rfl
        · refine congrArg x12 (funext fun a => ?_)
          match a with
          | ⟨0, _⟩ => rfl
          | ⟨1, _⟩ => rfl
  · rw [val_main_v100_apply]
    unfold val_main_v99
    pointwise

/-- Where the scores lie in the result: four lines of 128 to a tile, then its first line four times over. -/
theorem v105_at (t : Fin 151) (p : Fin 8) (l : Fin 128) (r : Fin 1208) (hr : r.val = 8 * t.val + p.val) :
    val_main_v105 (F := Ideal) x0 x1 x2 x3 x4 x10 x11 x12 x13 x14 x15 x16 (ix2 r l)
      = val_main_v101 (F := Ideal) x0 x1 x2 x3 x4 x10 x11 x12 x13 x14 x15 x16 (ix1 (⟨512 * t.val + (lineRow p l).val, by have := (lineRow p l).isLt; omega⟩ : Fin 77312)) := by
  rw [val_main_v105_apply]
  have e : idx_main_v105 (ix2 r l) = ix3 t p l := by
    funext a
    refine Fin.ext ?_
    match a with
    | ⟨0, _⟩ => show (r.val * 128 + l.val) / 1024 = t.val; omega
    | ⟨1, _⟩ => show (r.val * 128 + l.val) / 128 % 8 = p.val; omega
    | ⟨2, _⟩ => show (r.val * 128 + l.val) % 128 = l.val; omega
  rw [e]
  unfold val_main_v104
  have h2 : ∀ I : S151x4x128.Idx, (I 0).val = t.val → (I 1).val = (if p.val < 4 then p.val else 0) → (I 2).val = l.val →
      val_main_v102 (F := Ideal) x0 x1 x2 x3 x4 x10 x11 x12 x13 x14 x15 x16 I
        = val_main_v101 (F := Ideal) x0 x1 x2 x3 x4 x10 x11 x12 x13 x14 x15 x16 (ix1 (⟨512 * t.val + (lineRow p l).val, by have := (lineRow p l).isLt; omega⟩ : Fin 77312)) := by
    intro I g0 g1 g2
    rw [val_main_v102_apply]
    refine congrArg _ (funext fun a => Fin.ext ?_)
    match a with
    | ⟨0, _⟩ =>
      show ((I 0).val * 4 + (I 1).val) * 128 + (I 2).val = 512 * t.val + (128 * (if p.val < 4 then p.val else 0) + l.val)
      rw [g0, g1, g2]; omega
  have h3 : ∀ I : S151x1x128.Idx, ¬ p.val < 4 → (I 0).val = t.val → (I 2).val = l.val →
      val_main_v103 (F := Ideal) x0 x1 x2 x3 x4 x10 x11 x12 x13 x14 x15 x16 I
        = val_main_v101 (F := Ideal) x0 x1 x2 x3 x4 x10 x11 x12 x13 x14 x15 x16 (ix1 (⟨512 * t.val + (lineRow p l).val, by have := (lineRow p l).isLt; omega⟩ : Fin 77312)) := by
    intro I hp g0 g2
    rw [val_main_v103_apply]
    have g1 : (I 1).val < 1 := (I 1).isLt
    exact h2 _ g0 (by rw [if_neg hp]; show (I 1).val = 0; omega) g2
  generalize val_main_v102 (F := Ideal) x0 x1 x2 x3 x4 x10 x11 x12 x13 x14 x15 x16 = y at h2 ⊢
  generalize val_main_v103 (F := Ideal) x0 x1 x2 x3 x4 x10 x11 x12 x13 x14 x15 x16 = z at h3 ⊢
  generalize val_main_v101 (F := Ideal) x0 x1 x2 x3 x4 x10 x11 x12 x13 x14 x15 x16 (ix1 (⟨512 * t.val + (lineRow p l).val, by have := (lineRow p l).isLt; omega⟩ : Fin 77312)) = v at h2 h3 ⊢
  pointwise
  by_cases hp : p.val < 4
  · rw [dif_pos hp]
    exact h2 _ rfl (by rw [if_pos hp]; rfl) rfl
  · rw [dif_neg hp]
    repeat' split
    all_goals exact h3 _ hp rfl rfl

section
variable (y0 : Cert.KernelIdeal.S16x6x8x128.Idx → BitVec 32) (y1 : Cert.KernelIdeal.S16x2x128.Idx → BitVec 32) (gn : Nat → BitVec 32) (t : Nat)
  (hy0 : ∀ (a : Fin 16) (b : Fin 6) (d : Fin 8) (e : Fin 128) (A : Fin 2432), A.val = 16 * (t + 1) + a.val → y0 (ix4 a b d e) = x0 (ix4 A b d e))
  (hy1 : ∀ (a : Fin 16) (b : Fin 2) (d : Fin 128) (A : Fin 2432), A.val = 16 * (t + 1) + a.val → y1 (ix3 a b d) = x1 (ix3 A b d))
  (R : Fin 512) (n : Fin 77312) (hnR : n.val = 512 * t + R.val) (hn : n.val / 16 < 4800)
include hy0 hy1 hnR

/-- The reference's dequantised row is the tile's. -/
theorem h_eq (c : Fin 768) : val_main_v42 (F := Ideal) x0 x1 (ix2 n c) = hAt (F := Ideal) y0 y1 R c := by
  have hR := R.isLt
  have hc := c.isLt
  rw [v42_at]
  unfold hAt
  have e0 := hy0 ⟨R.val / 32, by omega⟩ ⟨c.val / 128, by omega⟩ ⟨R.val % 32 / 4, by omega⟩ ⟨c.val % 128, by omega⟩ ⟨16 + n.val / 32, by omega⟩ (by show 16 + n.val / 32 = 16 * (t + 1) + R.val / 32; omega)
  have e1 := hy1 ⟨R.val / 32, by omega⟩ ⟨R.val % 32 / 16, by omega⟩ ⟨16 * (R.val % 16 / 2) + c.val / 64, by omega⟩ ⟨16 + n.val / 32, by omega⟩ (by show 16 + n.val / 32 = 16 * (t + 1) + R.val / 32; omega)
  rw [e0, e1]
  have q32 : n.val % 32 = R.val % 32 := by omega
  have q16 : n.val % 16 = R.val % 16 := by omega
  have q4 : n.val % 4 = R.val % 4 := by omega
  have q2 : n.val % 2 = R.val % 2 := by omega
  simp only [q32, q16, q4, q2]

variable (x5w : ∀ x : S224x768.Idx, x2 x = IntOp.ori (IntOp.shrui .host (x2 x) 16#32) (IntOp.shli .host (x2 x) 16#32))
  (hb : (x4 (ix1 (⟨n.val / 16, hn⟩ : Fin 4800)) : BitVec 32).toNat < 200) (hg : gn (R.val / 16) = x4 (ix1 (⟨n.val / 16, hn⟩ : Fin 4800)))
include x5w hb hg

omit hy0 hy1 hnR in
/-- The reference's target row is the tile's. -/
theorem t_eq (c : Fin 768) : val_main_v57 (F := Ideal) x2 x4 (ix2 n c) = tAt (F := Ideal) x2 (gn (R.val / 16)) R.val c := by
  rw [v57_at x4 n hn hb, hg]
  unfold tAt
  exact congrArg _ (half_eq _ (x5w _) R.val).symm

/-- The reference's features are the tile's. -/
theorem feat_eq (k : Fin 2304) : val_main_v74 (F := Ideal) x0 x1 x2 x4 (ix2 n k) = featAt (F := Ideal) y0 y1 x2 gn (ix2 R k) := by
  have h42 := h_eq x0 x1 y0 y1 t hy0 hy1 R n hnR
  have h57 := t_eq x2 x4 gn R n hn x5w hb hg
  have h71 : ∀ c : Fin 768, val_main_v71 (F := Ideal) x0 x1 x2 x4 (ix2 n c) = FloatOps.subf (hAt (F := Ideal) y0 y1 R c) (tAt (F := Ideal) x2 (gn (R.val / 16)) R.val c) := by
    intro c
    rw [val_main_v71_apply, val_main_v70_apply, val_main_v69_apply, val_main_v68_apply, h42 c, h57 c]
    rfl
  have h73 : ∀ c : Fin 768, val_main_v73 (F := Ideal) x0 x1 x2 x4 (ix2 n c) = FloatOps.mulf (hAt (F := Ideal) y0 y1 R c) (tAt (F := Ideal) x2 (gn (R.val / 16)) R.val c) := by
    intro c
    rw [val_main_v73_apply, val_main_v72_apply, val_main_v69_apply, val_main_v68_apply, h42 c, h57 c]
    rfl
  unfold val_main_v74
  generalize val_main_v42 (F := Ideal) x0 x1 = u at h42 ⊢
  generalize val_main_v71 (F := Ideal) x0 x1 x2 x4 = v at h71 ⊢
  generalize val_main_v73 (F := Ideal) x0 x1 x2 x4 = w at h73 ⊢
  have hk := k.isLt
  pointwise
  by_cases c0 : k.val < 768
  · rw [dif_pos c0]
    exact (h42 _).trans (Cert.Proof.KernelIdeal.featH y0 y1 x2 gn R k ⟨k.val, c0⟩ rfl).symm
  · rw [dif_neg c0]
    by_cases c1 : k.val - 768 < 768
    · rw [dif_pos c1]
      exact (h71 _).trans (Cert.Proof.KernelIdeal.featS y0 y1 x2 gn R k ⟨k.val - 768, c1⟩ (by show k.val = 768 + (k.val - 768); omega)).symm
    · rw [dif_neg c1]
      exact (h73 _).trans (Cert.Proof.KernelIdeal.featM y0 y1 x2 gn R k ⟨k.val - 768 - 768, by omega⟩ (by show k.val = 1536 + (k.val - 768 - 768); omega)).symm
end

end Cert.ReferenceIdeal.Read

end
-- ==== Proof.Value.lean ====
/-
  The scores of the written tiles: the kernel's and the reference's are the same function of the arguments.
-/
module

public import proofs.«01_k».proof.Proof.RefVal
public import proofs.«01_k».proof.Proof.Gen.ReferenceIdeal.Run
public import proofs.«01_k».proof.Proof.Tile
public import proofs.«01_k».proof.Proof.PreIdeal
public import proofs.«01_k».proof.Proof.Gen.Pre_admissible
public import proofs.«01_k».proof.On_written

@[expose] public section

set_option maxRecDepth 16384

noncomputable section

namespace Cert.Proof.KernelIdeal

open Cert.KernelIdeal Cert.KernelIdeal.Gen
open Idealize.ShloMosaic Idealize.ShloMosaic.TcCoe Idealize.SL.Sem

/-- The mask's one side condition: a scalar spreads over the score array. -/
instance onFacts : Cert.On_written.Facts := ⟨by decide⟩

variable (m : (ℓ : Loc nD τ sig) → Buf (Elt Ideal) ℓ)

/-- A row the mask selects lies in one of the first `arg6` tiles. -/
theorem lt_of_written (n : BitVec 32) (hn : n.toNat ≤ 150) (r : Nat) (hr : r < 1208)
    (h : IntOp.cmpi .slt (BitVec.ofNat 32 r) (IntOp.muli (8#32) n) = 1#1) : r / 8 < n.toNat := by
  have e : (BitVec.ofNat 32 r).slt (8#32 * n) = true := by
    by_contra hc
    have hf : (BitVec.ofNat 32 r).slt (8#32 * n) = false := by simpa using hc
    have h' : BitVec.ofBool ((BitVec.ofNat 32 r).slt (8#32 * n)) = 1#1 := h
    rw [hf] at h'
    exact absurd h' (by decide)
  have hm : (8#32 * n).toNat = 8 * n.toNat := by
    rw [BitVec.toNat_mul]
    show 8 * n.toNat % 2 ^ 32 = _
    omega
  have hr' : (BitVec.ofNat 32 r).toNat = r := by rw [BitVec.toNat_ofNat]; omega
  have e2 : (BitVec.ofNat 32 r).toInt < (8#32 * n).toInt := by simpa [BitVec.slt] using e
  rw [BitVec.toInt_eq_toNat_of_lt (by rw [hr']; omega), BitVec.toInt_eq_toNat_of_lt (by rw [hm]; omega), hr', hm] at e2
  omega

/-- The reference's score array of the arguments. -/
def refScore (c : Dev nD) : S1208x128.Idx → EReal :=
  Cert.ReferenceIdeal.Read.val_main_v105 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))

/-- The two agree at every row of tile `t`. -/
theorem score_eq (h : Cert.Pre_KernelIdeal m) (hG : Good m) (c : Dev nD) (t : Fin (cfgM hG).N) (p : Fin 8) (l : Fin 128) (r : Fin 1208)
    (hr : r.val = 8 * t.val + p.val) : (dats m hG 0 c).arrAt 15 (cfgM hG).N (ix2 r l : S1208x128.Idx) = refScore m c (ix2 r l) := by
  obtain rfl : c = 0 := Subsingleton.elim _ _
  have ht := N_le hG t
  have hR := (lineRow p l).isLt
  have hd : (512 * t.val + (lineRow p l).val) / 16 = 32 * t.val + (lineRow p l).val / 16 := by omega
  have hn : (512 * t.val + (lineRow p l).val) / 16 < 4800 := by omega
  have hg : gnT m 0 t.val ((lineRow p l).val / 16) = m (((0 : Dev nD).tc : Thread nD τ).loc main_arg4) (ix1 (⟨(512 * t.val + (lineRow p l).val) / 16, hn⟩ : Fin 4800)) := by
    unfold gnT
    refine congrArg (m (((0 : Dev nD).tc : Thread nD τ).loc main_arg4)) (congrArg (ix1 (n0 := 4800)) (Fin.ext ?_))
    show (32 * t.val + (lineRow p l).val / 16) % 4800 = (512 * t.val + (lineRow p l).val) / 16
    omega
  have hb := pre_gb h (ix1 (⟨(512 * t.val + (lineRow p l).val) / 16, hn⟩ : Fin 4800))
  rw [arr_score m hG 0 t p l r hr, scoreAt_eq]
  unfold refScore
  rw [Cert.ReferenceIdeal.Read.v105_at _ _ _ _ _ _ _ _ _ _ _ _ ⟨t.val, by omega⟩ p l r hr, Cert.ReferenceIdeal.Read.v101_at _ _ _ _ _ _ _ _ _ _ _ _ _ _ rfl]
  have hf : (fun j => featAt (F := Ideal) (iblk m hG 0 0 t) (iblk m hG 0 1 t) (m (((0 : Dev nD).tc : Thread nD τ).loc main_arg2)) (gnT m 0 t.val) (ix2 (lineRow p l) j))
      = fun j => Cert.ReferenceIdeal.Read.val_main_v74 (F := Ideal) (m (((0 : Dev nD).tc : Thread nD τ).loc main_arg0)) (m (((0 : Dev nD).tc : Thread nD τ).loc main_arg1)) (m (((0 : Dev nD).tc : Thread nD τ).loc main_arg2)) (m (((0 : Dev nD).tc : Thread nD τ).loc main_arg4)) (ix2 ⟨512 * t.val + (lineRow p l).val, by omega⟩ j) :=
    funext fun j => (Cert.ReferenceIdeal.Read.feat_eq _ _ _ _ _ _ (gnT m 0 t.val) t.val (fun a b d e A hA => iblk_0 m hG 0 t a b d e A hA)
      (fun a b d A hA => iblk_1 m hG 0 t a b d A hA) (lineRow p l) _ rfl hn (pre_tp h) hb hg j).symm
  have hs : (fun j => m (((0 : Dev nD).tc : Thread nD τ).loc main_arg3) (ix2 ⟨(gnT m 0 t.val ((lineRow p l).val / 16)).toNat % 224, Nat.mod_lt _ (by decide)⟩ j : S224x512.Idx))
      = fun j => Cert.ReferenceIdeal.Read.val_main_v67 (F := Ideal) (m (((0 : Dev nD).tc : Thread nD τ).loc main_arg3)) (m (((0 : Dev nD).tc : Thread nD τ).loc main_arg4)) (ix2 ⟨512 * t.val + (lineRow p l).val, by omega⟩ j) := by
    funext j
    rw [Cert.ReferenceIdeal.Read.v67_at _ _ hn hb, hg]
  rw [hf, hs]

/-- A row the mask selects holds the same score in both. -/
theorem score_on (h : Cert.Pre_KernelIdeal m) (hG : Good m) (c : Dev nD) (i : S1208x128.Idx)
    (hi : IntOp.cmpi .slt (BitVec.ofNat 32 (i 0).val) (IntOp.muli (8#32) (m ((c.tc : Thread nD τ).loc main_arg6) (fun a => a.elim0))) = 1#1) :
    (dats m hG 0 c).arrAt 15 (cfgM hG).N i = refScore m c i := by
  obtain rfl : c = 0 := Subsingleton.elim _ _
  have h0 : (i 0).val < 1208 := (i 0).isLt
  have hlt := lt_of_written _ (pre_n h _) _ h0 hi
  have hN : (cfgM hG).N = (m (((0 : Dev nD).tc : Thread nD τ).loc main_arg6) (fun a => a.elim0) : BitVec 32).toNat := by
    refine (N_at _).trans ?_
    have e : tbl m 0 = m (((0 : Dev nD).tc : Thread nD τ).loc main_arg6) := V_arg6 m 0
    show BitVec.toNat (tbl m 0 fun a => a.elim0) = _
    rw [e]
    rfl
  have key := score_eq m h hG 0 ⟨(i 0).val / 8, by rw [hN]; exact hlt⟩ ⟨(i 0).val % 8, Nat.mod_lt _ (by decide)⟩ (i 1) (i 0) (by show (i 0).val = 8 * ((i 0).val / 8) + (i 0).val % 8; omega)
  have e : (ix2 (i 0) (i 1) : S1208x128.Idx) = i := funext fun a => match a with
    | ⟨0, _⟩ => rfl
    | ⟨1, _⟩ => rfl
  rwa [e] at key

/-- The kernel and the reference end with the same scores in the written tiles. -/
theorem algebraic : Cert.algebraic_KernelIdeal_ReferenceIdeal_on_written := by
  intro m g m' g' h ha
  have hG := good_of_pre h
  refine ⟨fun c => (dats m hG 0 c).arrAt 15 (cfgM hG).N, ?_, ?_⟩
  · refine (θ_run _ _ _).mono (fun r hr c => ?_) (run_end m g hG)
    obtain ⟨a0, a1, a2, a3, a4, a5, a6, a7, a8, a9, a10, a11, a12, a13, a14, a15, a16, ho⟩ := hr.1 c
    exact ⟨fun i _ => congrFun ho i, a0, a1, a2, a3, a4, a5, a6, a7, a8, a9, a10, a11, a12, a13, a14, a15, a16⟩
  · refine (θ_run _ _ _).mono (fun r hr c => ?_) (Cert.ReferenceIdeal.Value.run (F := Ideal) m' g')
    refine ⟨fun i hi => ?_, (hr c).2⟩
    obtain ⟨e0, e1, e2, e3, e4, e5, e6, e7, e8, e9, e10, e11, e12, e13, e14, e15, e16⟩ := ha c
    have hv := (hr c).1.trans (Cert.ReferenceIdeal.Read.val_main_v105_eq (F := Ideal) (Idealize.ShloMosaic.StableHlo.launchContents m' c))
    have hk : Cert.ReferenceIdeal.Read.val_main_v105 (F := Ideal) (Idealize.ShloMosaic.StableHlo.launchContents m' c (Proc.devRef .tc Cert.ReferenceIdeal.main_arg0)) (Idealize.ShloMosaic.StableHlo.launchContents m' c (Proc.devRef .tc Cert.ReferenceIdeal.main_arg1)) (Idealize.ShloMosaic.StableHlo.launchContents m' c (Proc.devRef .tc Cert.ReferenceIdeal.main_arg2)) (Idealize.ShloMosaic.StableHlo.launchContents m' c (Proc.devRef .tc Cert.ReferenceIdeal.main_arg3)) (Idealize.ShloMosaic.StableHlo.launchContents m' c (Proc.devRef .tc Cert.ReferenceIdeal.main_arg4)) (Idealize.ShloMosaic.StableHlo.launchContents m' c (Proc.devRef .tc Cert.ReferenceIdeal.main_arg10)) (Idealize.ShloMosaic.StableHlo.launchContents m' c (Proc.devRef .tc Cert.ReferenceIdeal.main_arg11)) (Idealize.ShloMosaic.StableHlo.launchContents m' c (Proc.devRef .tc Cert.ReferenceIdeal.main_arg12)) (Idealize.ShloMosaic.StableHlo.launchContents m' c (Proc.devRef .tc Cert.ReferenceIdeal.main_arg13)) (Idealize.ShloMosaic.StableHlo.launchContents m' c (Proc.devRef .tc Cert.ReferenceIdeal.main_arg14)) (Idealize.ShloMosaic.StableHlo.launchContents m' c (Proc.devRef .tc Cert.ReferenceIdeal.main_arg15)) (Idealize.ShloMosaic.StableHlo.launchContents m' c (Proc.devRef .tc Cert.ReferenceIdeal.main_arg16)) = refScore m c := by
      unfold refScore
      rw [← e0, ← e1, ← e2, ← e3, ← e4, ← e10, ← e11, ← e12, ← e13, ← e14, ← e15, ← e16]
    refine (congrFun (hv.trans hk) i).trans (score_on m h hG c i (Eq.trans ?_ hi)).symm
    exact congrArg (fun w => IntOp.cmpi .slt (BitVec.ofNat 32 (i 0).val) (IntOp.muli (8#32) w))
      (congrArg (m ((c.tc : Thread nD τ).loc main_arg6)) (Subsingleton.elim (α := S_.Idx) _ _))

end Cert.Proof.KernelIdeal

end
-- ==== Proof.FinRow.lean ====
/-
  One batch's scores as the finishing kernel builds them: four packed rows laid above each other, rolled left by the
  start's lane and spliced at the lane where a row ends; entry `(j, l)` is the packed score `128 j + l` places after the
  start, or zero past the batch's length.
-/
module

public import proofs.«01_k».proof.Proof.Gen.Finish
public import proofs.«01_k».proof.Proof.Gen.Finish.Skeleton
public import Idealize.ShloMosaic.Lib.KernelVsHost
public import Idealize.ShloMosaic.Lib.Pipeline.Value
public import Idealize.ShloMosaic.Lib.ValueIdx

@[expose] public section

set_option maxRecDepth 8192

noncomputable section

namespace Cert.Proof.Finish

open Cert.Finish Cert.Finish.Gen
open Idealize.ShloMosaic Idealize.ShloMosaic.ValueIdx

variable {F : FTy → Type} [FloatOps F]

/-- Where the packed row `q` lies among the flat rows: every block of eight rows holds four packed ones. -/
def flatRow (q : Nat) : Nat := q / 4 * 8 + q % 4

theorem and127 (v : BitVec 32) : (v &&& 127#32).toNat = v.toNat % 128 := by
  rw [BitVec.toNat_and]; exact Nat.and_two_pow_sub_one_eq_mod v.toNat 7

theorem and3 (v : BitVec 32) : (v &&& 3#32).toNat = v.toNat % 4 := by
  rw [BitVec.toNat_and]; exact Nat.and_two_pow_sub_one_eq_mod v.toNat 2

theorem shr7 (v : BitVec 32) : (IntOp.shrui .scalar v 7#32).toNat = v.toNat / 128 := by
  show (if (7#32).toNat < 32 then v >>> (7#32) else _).toNat = _
  rw [if_pos (by decide)]
  show (v >>> (7#32).toNat).toNat = _
  rw [BitVec.toNat_ushiftRight, Nat.shiftRight_eq_div_pow]; rfl

theorem shr2 (v : BitVec 32) : (IntOp.shrui .scalar v 2#32).toNat = v.toNat / 4 := by
  show (if (2#32).toNat < 32 then v >>> (2#32) else _).toNat = _
  rw [if_pos (by decide)]
  show (v >>> (2#32).toNat).toNat = _
  rw [BitVec.toNat_ushiftRight, Nat.shiftRight_eq_div_pow]; rfl

/-- The offset of the row read for the `r`-th packed row from a start on. -/
theorem off_eq (v : BitVec 32) (h : v.toNat ≤ 76927) (r : Fin 4) : k0_off3 v (BitVec.ofNat 32 r.val) = ![flatRow (v.toNat / 128 + r.val), 0] := by
  have hr := r.isLt
  have e : (IntOp.shrui .scalar v 7#32 + BitVec.ofNat 32 r.val).toNat = v.toNat / 128 + r.val := by
    rw [BitVec.toNat_add, shr7, BitVec.toNat_ofNat]; omega
  have : (IntOp.shrui .scalar (IntOp.shrui .scalar v 7#32 + BitVec.ofNat 32 r.val) 2#32 * 8#32 + ((IntOp.shrui .scalar v 7#32 + BitVec.ofNat 32 r.val) &&& 3#32)).toNat = flatRow (v.toNat / 128 + r.val) := by
    unfold flatRow
    rw [BitVec.toNat_add, BitVec.toNat_mul, shr2, and3, e, BitVec.toNat_ofNat]; omega
  exact congrArg (fun n => ![n, 0]) this

/-- The four rows twice above each other, read at `(j, l)`. -/
theorem rows_apply (r : Fin 4 → Vec F S1x128 .f32) (h) (j : Fin 8) (l : Fin 128) :
    concatenate S8x128 0 [⟨S1x128, r 0⟩, ⟨S1x128, r 1⟩, ⟨S1x128, r 2⟩, ⟨S1x128, r 3⟩, ⟨S1x128, r 0⟩, ⟨S1x128, r 1⟩, ⟨S1x128, r 2⟩, ⟨S1x128, r 3⟩] h (ix2 j l)
      = r ⟨j.val % 4, Nat.mod_lt _ (by decide)⟩ (ix2 0 l) :=
  concatenate_ofFn_unit_apply (s₁ := S1x128) 0 (N := 8) (fun n => r ⟨n.val % 4, Nat.mod_lt _ (by decide)⟩) h rfl rfl (ix2 j l) j rfl (ix2 0 l)
    (fun b hb => match b with | ⟨0, _⟩ => absurd rfl hb | ⟨1, _⟩ => rfl)

theorem sel0 {α : Type} (a b : α) : Scalar.select 0#1 a b = b := rfl

/-- One batch's scores at `(j, l)`. -/
theorem pay5_apply (v : BitVec 32) (r : Fin 4 → Vec F S1x128 .f32) (len : BitVec 32) (j : Fin 3) (l : Fin 128) :
    k0_pay5 (iota .tc S8x128 32 [1] iota_S8x128_d1_w32) (iota .tc S8x128 32 [0] iota_S8x128_d0_w32) (Scalar.andi v 127#32) (r 0) (r 1) (r 2) (r 3) len
        (ix2 ⟨j.val, lt_trans j.isLt (by decide)⟩ l)
      = Scalar.select (IntOp.cmpi .slt (BitVec.ofNat 32 (j.val * 128 + l.val)) len)
          (r ⟨j.val + (v.toNat % 128 + l.val) / 128, by have := j.isLt; have := l.isLt; omega⟩ (ix2 0 ⟨(v.toNat % 128 + l.val) % 128, Nat.mod_lt _ (by decide)⟩))
          (Scalar.ofBits .f32 0x00000000#32) := by
  have hj := j.isLt
  have hl := l.isLt
  have hd : (128#32 - (v &&& 127#32)).toNat = 128 - v.toNat % 128 := by
    rw [BitVec.toNat_sub, and127]; simp only [BitVec.toNat_ofNat]; omega
  have hm : ((128#32 - (v &&& 127#32)) &&& 127#32).toNat = (128 - v.toNat % 128) % 128 := by rw [and127, hd]
  -- the first roll
  have hx (p : Fin 8) : dynamicRotate 1 (Scalar.andi (Scalar.subi 128#32 (Scalar.andi v 127#32)) 127#32) none
      (concatenate S8x128 0 [⟨S1x128, r 0⟩, ⟨S1x128, r 1⟩, ⟨S1x128, r 2⟩, ⟨S1x128, r 3⟩, ⟨S1x128, r 0⟩, ⟨S1x128, r 1⟩, ⟨S1x128, r 2⟩, ⟨S1x128, r 3⟩] concatenates_S1x128_S1x128_S1x128_S1x128_S1x128_S1x128_S1x128_S1x128_S8x128_d0)
      rotates_S8x128_d1 (ix2 p l) = r ⟨p.val % 4, Nat.mod_lt _ (by decide)⟩ (ix2 0 ⟨(v.toNat % 128 + l.val) % 128, Nat.mod_lt _ (by decide)⟩) := by
    rw [dynamicRotate_apply 1 _ _ _ (ix2 p l) (ix2 p ⟨(v.toNat % 128 + l.val) % 128, Nat.mod_lt _ (by decide)⟩) (fun b => match b with
      | ⟨0, _⟩ => rfl
      | ⟨1, _⟩ => by
        show (v.toNat % 128 + l.val) % 128 = (l.val + 128 - ((128#32 - (v &&& 127#32)) &&& 127#32).toNat % 128) % 128
        rw [hm]; omega), rows_apply]
  have hc : IntOp.cmpi .slt (BitVec.ofNat 32 l.val) (128#32 - (v &&& 127#32)) = if v.toNat % 128 + l.val < 128 then 1#1 else 0#1 := by
    have e : (BitVec.ofNat 32 l.val).slt (128#32 - (v &&& 127#32)) = decide (v.toNat % 128 + l.val < 128) := by
      rw [BitVec.slt_eq_decide, decide_eq_decide, BitVec.toInt_eq_toNat_of_lt (by rw [BitVec.toNat_ofNat]; omega), BitVec.toInt_eq_toNat_of_lt (by rw [hd]; omega), hd, BitVec.toNat_ofNat]
      omega
    show (BitVec.ofBool ((BitVec.ofNat 32 l.val).slt _)) = _
    rw [e]
    by_cases h : v.toNat % 128 + l.val < 128
    · rw [decide_eq_true h, if_pos h]; rfl
    · rw [decide_eq_false h, if_neg h]; rfl
  have hi : IntOp.addi (IntOp.muli (BitVec.ofNat 32 j.val) 128#32) (BitVec.ofNat 32 l.val) = BitVec.ofNat 32 (j.val * 128 + l.val) := by
    apply BitVec.eq_of_toNat_eq
    show ((BitVec.ofNat 32 j.val * 128#32) + BitVec.ofNat 32 l.val).toNat = _
    simp only [BitVec.toNat_add, BitVec.toNat_mul, BitVec.toNat_ofNat]; omega
  have hi1 (p : Fin 8) : iota .tc S8x128 32 [1] iota_S8x128_d1_w32 (ix2 p l) = BitVec.ofNat 32 l.val :=
    iota_single_apply _ _ _ _ _ _
  have hi0 (p : Fin 8) : iota .tc S8x128 32 [0] iota_S8x128_d0_w32 (ix2 p l) = BitVec.ofNat 32 p.val :=
    iota_single_apply _ _ _ _ _ _
  unfold k0_pay5
  dsimp only
  rw [select_apply, select_apply]
  show Scalar.select (IntOp.cmpi .slt (IntOp.addi (IntOp.muli (iota .tc S8x128 32 [0] iota_S8x128_d0_w32 _) 128#32) (iota .tc S8x128 32 [1] iota_S8x128_d1_w32 _)) len)
    (Scalar.select (IntOp.cmpi .slt (iota .tc S8x128 32 [1] iota_S8x128_d1_w32 _) (128#32 - (v &&& 127#32))) _ _) (Scalar.ofBits .f32 0x00000000#32) = _
  rw [hi1, hi0, hi, hc]
  have hq {a b : Fin 4} (h : a.val = b.val) (y : S1x128.Idx) : r a y = r b y := by rw [Fin.ext h]
  refine congrArg (fun z => Scalar.select _ z _) ?_
  by_cases hr : v.toNat % 128 + l.val < 128
  · rw [if_pos hr, hx]
    exact hq (by show j.val % 4 = j.val + (v.toNat % 128 + l.val) / 128; omega) _
  · rw [if_neg hr, sel0, dynamicRotate_apply 0 _ _ _ _ (ix2 ⟨j.val + 1, by omega⟩ l) (fun b => match b with
      | ⟨0, _⟩ => by show j.val + 1 = (j.val + 8 - (7#32).toNat % 8) % 8; simp only [BitVec.toNat_ofNat]; omega
      | ⟨1, _⟩ => rfl), hx]
    refine hq ?_ _
    show (j.val + 1) % 4 = j.val + (v.toNat % 128 + l.val) / 128
    omega

end Cert.Proof.Finish

end
-- ==== Proof.FinTrip.lean ====
/-
  One trip of the finishing kernel's loop, run once at a symbolic trip: the eight batches' scores read off the flat rows
  and stored as three blocks of eight rows.
-/
module

public import proofs.«01_k».proof.Proof.Gen.Finish
public import proofs.«01_k».proof.Proof.Gen.Finish.Skeleton
public import proofs.«01_k».proof.Proof.Gen.Finish.Loops
public import Idealize.ShloMosaic.Lib.Tactic
public import proofs.«01_k».proof.Proof.FinRow

@[expose] public section

set_option maxRecDepth 8192

noncomputable section

namespace Cert.Proof.Finish

open Cert.Finish Cert.Finish.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦[M.view.set]{fullShare} f
/-- A table memref's buffer, read only: held at the half of the full share the pipeline hands the body. -/
abbrev tb (c : Dev nD) {sp : Space} {S : Shape} {e : EltTy} (M : Memref sig .tc sp S e) (f : Bf (F := F) c M) : sProp 𝕄 :=
  M.view.loc (c : Thread nD τ) ↦[M.view.set]{fullShare.right} f

/-- The flat row of the `c`-th packed row after a start's row is below 1208. -/
theorem off_lt (v : BitVec 32) (h : v.toNat ≤ 76927) (r : Fin 4) : k0_off3 v (BitVec.ofNat 32 r.val) 0 + 1 ≤ 1208 := by
  rw [off_eq v h r]
  have hr := r.isLt
  show flatRow _ + 1 ≤ 1208
  unfold flatRow
  omega

theorem chk (v : BitVec 32) (h : v.toNat ≤ 76927) (r : Fin 4) : ∀ a, k0_off3 v (BitVec.ofNat 32 r.val) a + S1x128.size a ≤ S2416x128.size a := by
  intro a; fin_cases a
  · exact le_trans (off_lt v h r) (by decide)
  · exact Nat.le_refl 128

theorem check2 (v : BitVec 32) (h : v.toNat ≤ 76927) : k0_chk2 v := chk v h
theorem check3 (v : BitVec 32) (h : v.toNat ≤ 76927) : k0_chk3 v := chk v h
theorem check4 (v : BitVec 32) (h : v.toNat ≤ 76927) : k0_chk4 v := chk v h
theorem check5 (v : BitVec 32) (h : v.toNat ≤ 76927) : k0_chk5 v := chk v h
theorem check6 (v : BitVec 32) (h : v.toNat ≤ 76927) : k0_chk6 v := chk v h
theorem check7 (v : BitVec 32) (h : v.toNat ≤ 76927) : k0_chk7 v := chk v h
theorem check8 (v : BitVec 32) (h : v.toNat ≤ 76927) : k0_chk8 v := chk v h
theorem check9 (v : BitVec 32) (h : v.toNat ≤ 76927) : k0_chk9 v := chk v h

/-- The pieces one trip stores, WITH the proof that the trip runs to its return storing them. -/
noncomputable def tripRun (𝒱 : Variants) (bd : Option 𝒱.V) (c : Dev nD) (i : grid0.Coords)
    (arg1 : Memref sig .tc .smem S200 .i32) (harg1 : arg1.IsWhole) (arg2 : Memref sig .tc .smem S200 .i32) (harg2 : arg2.IsWhole)
    (arg3 : Memref sig .tc .smem S1 .i32) (harg3 : arg3.IsWhole) (arg4 : Memref sig .tc .vmem S6x216x128 .f32) (harg4 : arg4.IsWhole)
    (arg5 : Memref sig .tc .vmem S1208x128 .f32) (harg5 : arg5.IsWhole) (arg6 : Memref sig .tc .vmem S200x768 .bf16) (harg6 : arg6.IsWhole)
    (arg7 : Memref sig .tc .vmem S200x384 .f32) (harg7 : arg7.IsWhole) (arg8 : Memref sig .tc .vmem S2416x128 .f32) (harg8 : arg8.IsWhole)
    (v32 v33 : IVec S8x128 32)
    (f1 : Bf (F := F) c arg1) (f2 : Bf (F := F) c arg2) (f8 : Bf (F := F) c arg8)
    (hst : ∀ x, BitVec.toNat (arg1.view.read (Elt F) f1 x) ≤ 76927) (k : Fin k0_t1_loop.trips) :
    { L : List (View.Piece (Elt F) S200x384 .f32) //
      ∀ (f7 : Bf (F := F) c arg7) (E : Set ℕ),
        iprop(tb c arg1 f1 ∗ tb c arg2 f2 ∗ pt c arg8 f8 ∗ pt c arg7 f7)
        ⊢ wp frame (wpE (defs₀ (F := F)) 𝒱 c bd) E
            (k0_t1_body i arg1 harg1 arg2 harg2 arg3 harg3 arg4 harg4 arg5 harg5 arg6 harg6 arg7 harg7 arg8 harg8 v32 v33 k ())
            (fun _ => iprop(tb c arg1 f1 ∗ tb c arg2 f2 ∗ pt c arg8 f8 ∗ pt c arg7 (arg7.view.writes (Elt F) f7 L))) } := by
  refine ⟨?_, fun f7 E => ?run⟩
  case run =>
    unfold k0_t1_body
    iintro ⟨H1, H2, H8, H7⟩
    sl_exec_parts! (disch := first | assumption | ((with_reducible first | refine check2 _ ?_ | refine check3 _ ?_ | refine check4 _ ?_ | refine check5 _ ?_ | refine check6 _ ?_ | refine check7 _ ?_ | refine check8 _ ?_ | refine check9 _ ?_) <;> exact hst _))
    sl_step
    isplitl [H1]; · iexact H1
    isplitl [H2]; · iexact H2
    isplitl [H8]; · iexact H8
    iexact H7

end Cert.Proof.Finish

end
-- ==== Proof.FinVal.lean ====
/-
  What one trip of the finishing kernel's loop leaves in the score buffer: its eight rows at the scores of its eight
  batches, every other row as it was.
-/
module

public import proofs.«01_k».proof.Proof.FinTrip
public import Idealize.ShloMosaic.Lib.WritesUnit

@[expose] public section

set_option maxRecDepth 8192

noncomputable section

namespace Cert.Proof.Finish

open Cert.Finish Cert.Finish.Gen
open Idealize.ShloMosaic Idealize.ShloMosaic.ValueIdx Idealize.ShloMosaic.TcCoe

variable {F : FTy → Type} [FloatOps F]

/-- The score at place `n` from the start `v` on: the flat rows' entry there, or zero past the length. -/
def scoreAt (x : S2416x128.Idx → Elt F .f32) (v len : BitVec 32) (n : Nat) : Elt F .f32 :=
  Scalar.select (IntOp.cmpi .slt (BitVec.ofNat 32 n) len)
    (x (ix2 (Fin.ofNat 2416 (flatRow ((v.toNat + n) / 128))) (Fin.ofNat 128 ((v.toNat + n) % 128)))) (Scalar.ofBits .f32 0x00000000#32)

/-- One batch's scores, its start and length read from the tables at given offsets. -/
abbrev oneB (c : Dev nD) (arg1 arg2 : Memref sig .tc .smem S200 .i32) (arg8 : Memref sig .tc .vmem S2416x128 .f32)
    (v32 v33 : IVec S8x128 32) (f1 : Bf (F := F) c arg1) (f2 : Bf (F := F) c arg2) (f8 : Bf (F := F) c arg8)
    (hst : ∀ x, BitVec.toNat (arg1.view.read (Elt F) f1 x) ≤ 76927)
    (o : Fin 1 → Nat) (ho : ∀ a, o a + S1.size a ≤ S200.size a) (o' : Fin 1 → Nat) (ho' : ∀ a, o' a + S1.size a ≤ S200.size a) : FVec F S8x128 .f32 :=
  k0_pay5 v32 v33 (Scalar.andi (arg1.view.readAt (Elt F) (Rect.unit (s := S200) o S1.size ho).toLoadRect f1 (Shape.Idx.first (show 0 < S1.numel by decide))) 127#32)
    (arg8.view.readAt (Elt F) (Rect.unit (s := S2416x128) (k0_off3 (arg1.view.readAt (Elt F) (Rect.unit (s := S200) o S1.size ho).toLoadRect f1 (Shape.Idx.first (show 0 < S1.numel by decide))) 0#32) S1x128.size (chk _ (hst _) 0)).toLoadRect f8)
    (arg8.view.readAt (Elt F) (Rect.unit (s := S2416x128) (k0_off3 (arg1.view.readAt (Elt F) (Rect.unit (s := S200) o S1.size ho).toLoadRect f1 (Shape.Idx.first (show 0 < S1.numel by decide))) 1#32) S1x128.size (chk _ (hst _) 1)).toLoadRect f8)
    (arg8.view.readAt (Elt F) (Rect.unit (s := S2416x128) (k0_off3 (arg1.view.readAt (Elt F) (Rect.unit (s := S200) o S1.size ho).toLoadRect f1 (Shape.Idx.first (show 0 < S1.numel by decide))) 2#32) S1x128.size (chk _ (hst _) 2)).toLoadRect f8)
    (arg8.view.readAt (Elt F) (Rect.unit (s := S2416x128) (k0_off3 (arg1.view.readAt (Elt F) (Rect.unit (s := S200) o S1.size ho).toLoadRect f1 (Shape.Idx.first (show 0 < S1.numel by decide))) 3#32) S1x128.size (chk _ (hst _) 3)).toLoadRect f8)
    (arg2.view.readAt (Elt F) (Rect.unit (s := S200) o' S1.size ho').toLoadRect f2 (Shape.Idx.first (show 0 < S1.numel by decide)))

/-- One batch's scores at `(j, l)`. -/
theorem oneB_apply (c : Dev nD) (arg1 arg2 : Memref sig .tc .smem S200 .i32) (arg8 : Memref sig .tc .vmem S2416x128 .f32)
    (f1 : Bf (F := F) c arg1) (f2 : Bf (F := F) c arg2) (f8 : Bf (F := F) c arg8)
    (hst : ∀ x, BitVec.toNat (arg1.view.read (Elt F) f1 x) ≤ 76927)
    (o : Fin 1 → Nat) (ho : ∀ a, o a + S1.size a ≤ S200.size a) (o' : Fin 1 → Nat) (ho' : ∀ a, o' a + S1.size a ≤ S200.size a)
    (b : Fin 200) (hb : o 0 = b.val) (hb' : o' 0 = b.val) (j : Fin 3) (l : Fin 128) :
    oneB c arg1 arg2 arg8 (iota .tc S8x128 32 [1] iota_S8x128_d1_w32) (iota .tc S8x128 32 [0] iota_S8x128_d0_w32) f1 f2 f8 hst o ho o' ho'
        (ix2 ⟨j.val, lt_trans j.isLt (by decide)⟩ l)
      = scoreAt (arg8.view.read (Elt F) f8) (arg1.view.read (Elt F) f1 (ix1 b)) (arg2.view.read (Elt F) f2 (ix1 b)) (j.val * 128 + l.val) := by
  have e1 : (Rect.unit (s := S200) o S1.size ho).toLoadRect.idx (Shape.Idx.first (show 0 < S1.numel by decide)) = ix1 b :=
    funext fun a => match a with | ⟨0, _⟩ => Fin.ext (by show o 0 + 1 * 0 = b.val; omega)
  have e2 : (Rect.unit (s := S200) o' S1.size ho').toLoadRect.idx (Shape.Idx.first (show 0 < S1.numel by decide)) = ix1 b :=
    funext fun a => match a with | ⟨0, _⟩ => Fin.ext (by show o' 0 + 1 * 0 = b.val; omega)
  have ev : arg1.view.readAt (Elt F) (Rect.unit (s := S200) o S1.size ho).toLoadRect f1 (Shape.Idx.first (show 0 < S1.numel by decide)) = arg1.view.read (Elt F) f1 (ix1 b) := congrArg (arg1.view.read (Elt F) f1) e1
  have el : arg2.view.readAt (Elt F) (Rect.unit (s := S200) o' S1.size ho').toLoadRect f2 (Shape.Idx.first (show 0 < S1.numel by decide)) = arg2.view.read (Elt F) f2 (ix1 b) := congrArg (arg2.view.read (Elt F) f2) e2
  have hv : BitVec.toNat (arg1.view.readAt (Elt F) (Rect.unit (s := S200) o S1.size ho).toLoadRect f1 (Shape.Idx.first (show 0 < S1.numel by decide))) ≤ 76927 := hst _
  refine (pay5_apply (arg1.view.readAt (Elt F) (Rect.unit (s := S200) o S1.size ho).toLoadRect f1 (Shape.Idx.first (show 0 < S1.numel by decide)))
    (fun r => arg8.view.readAt (Elt F) (Rect.unit (s := S2416x128) (k0_off3 (arg1.view.readAt (Elt F) (Rect.unit (s := S200) o S1.size ho).toLoadRect f1 (Shape.Idx.first (show 0 < S1.numel by decide))) (BitVec.ofNat 32 r.val)) S1x128.size (chk _ (hst _) r)).toLoadRect f8)
    (arg2.view.readAt (Elt F) (Rect.unit (s := S200) o' S1.size ho').toLoadRect f2 (Shape.Idx.first (show 0 < S1.numel by decide))) j l).trans ?_
  rw [← ev, ← el]
  unfold scoreAt
  refine congrArg (fun z => Scalar.select _ z _) (congrArg (arg8.view.read (Elt F) f8) ?_)
  have hj := j.isLt
  have hl := l.isLt
  funext a
  match a with
  | ⟨0, _⟩ =>
    refine Fin.ext ?_
    show k0_off3 (arg1.view.readAt (Elt F) (Rect.unit (s := S200) o S1.size ho).toLoadRect f1 (Shape.Idx.first (show 0 < S1.numel by decide))) _ 0 + 1 * 0 = flatRow _ % 2416
    rw [off_eq _ hv]
    show flatRow (BitVec.toNat (arg1.view.readAt (Elt F) (Rect.unit (s := S200) o S1.size ho).toLoadRect f1 (Shape.Idx.first (show 0 < S1.numel by decide))) / 128 + (j.val + (BitVec.toNat (arg1.view.readAt (Elt F) (Rect.unit (s := S200) o S1.size ho).toLoadRect f1 (Shape.Idx.first (show 0 < S1.numel by decide))) % 128 + l.val) / 128)) + 1 * 0 = flatRow ((BitVec.toNat (arg1.view.readAt (Elt F) (Rect.unit (s := S200) o S1.size ho).toLoadRect f1 (Shape.Idx.first (show 0 < S1.numel by decide))) + (j.val * 128 + l.val)) / 128) % 2416
    generalize BitVec.toNat (arg1.view.readAt (Elt F) (Rect.unit (s := S200) o S1.size ho).toLoadRect f1 (Shape.Idx.first (show 0 < S1.numel by decide))) = v at hv ⊢
    unfold flatRow
    show (v / 128 + (j.val + (v % 128 + l.val) / 128)) / 4 * 8 + (v / 128 + (j.val + (v % 128 + l.val) / 128)) % 4 + 1 * 0 = _
    rw [show v / 128 + (j.val + (v % 128 + l.val) / 128) = (v + (j.val * 128 + l.val)) / 128 by omega]
    omega
  | ⟨1, _⟩ =>
    refine Fin.ext ?_
    show 0 + 1 * ((BitVec.toNat (arg1.view.readAt (Elt F) (Rect.unit (s := S200) o S1.size ho).toLoadRect f1 (Shape.Idx.first (show 0 < S1.numel by decide))) % 128 + l.val) % 128) = (BitVec.toNat (arg1.view.readAt (Elt F) (Rect.unit (s := S200) o S1.size ho).toLoadRect f1 (Shape.Idx.first (show 0 < S1.numel by decide))) + (j.val * 128 + l.val)) % 128 % 128
    omega

/-- Eight batches' rows `j` above each other, read at `(i, l)`. -/
theorem stack_apply (j : Fin 3) (z : Fin 8 → FVec F S8x128 .f32) (hs : S8x128.Slices ![j.val, 0] S1x128) (h) (i : Fin 8) (l : Fin 128) :
    concatenate S8x128 0 [⟨S1x128, extractStridedSlice S1x128 ![j.val, 0] (z 0) hs⟩, ⟨S1x128, extractStridedSlice S1x128 ![j.val, 0] (z 1) hs⟩,
        ⟨S1x128, extractStridedSlice S1x128 ![j.val, 0] (z 2) hs⟩, ⟨S1x128, extractStridedSlice S1x128 ![j.val, 0] (z 3) hs⟩,
        ⟨S1x128, extractStridedSlice S1x128 ![j.val, 0] (z 4) hs⟩, ⟨S1x128, extractStridedSlice S1x128 ![j.val, 0] (z 5) hs⟩,
        ⟨S1x128, extractStridedSlice S1x128 ![j.val, 0] (z 6) hs⟩, ⟨S1x128, extractStridedSlice S1x128 ![j.val, 0] (z 7) hs⟩] h (ix2 i l)
      = z i (ix2 ⟨j.val, lt_trans j.isLt (by decide)⟩ l) :=
  (concatenate_ofFn_unit_apply (s₁ := S1x128) 0 (N := 8) (fun n => extractStridedSlice S1x128 ![j.val, 0] (z n) hs) h rfl rfl (ix2 i l) i rfl (ix2 0 l)
    (fun b hb => match b with | ⟨0, _⟩ => absurd rfl hb | ⟨1, _⟩ => rfl)).trans
  (extractStridedSlice_apply _ _ hs _ _ fun a => match a with | ⟨0, _⟩ => rfl | ⟨1, _⟩ => (Nat.zero_add _).symm)

theorem off19 : ∀ k : Fin k0_t1_loop.trips, k0_off19 k = ![8 * k.val, 0] := by decide
theorem off20 : ∀ k : Fin k0_t1_loop.trips, k0_off20 k = ![8 * k.val, 128] := by decide
theorem off21 : ∀ k : Fin k0_t1_loop.trips, k0_off21 k = ![8 * k.val, 256] := by decide
theorem hA0 : ∀ k : Fin k0_t1_loop.trips, (k0_off2 k) 0 = 8 * k.val + 0 := by decide
theorem hB0 : ∀ k : Fin k0_t1_loop.trips, (k0_off4 k 0#32) 0 = 8 * k.val + 0 := by decide
theorem hA1 : ∀ k : Fin k0_t1_loop.trips, (k0_off4 k 1#32) 0 = 8 * k.val + 1 := by decide
theorem hB1 : ∀ k : Fin k0_t1_loop.trips, (k0_off6 k 1#32) 0 = 8 * k.val + 1 := by decide
theorem hA2 : ∀ k : Fin k0_t1_loop.trips, (k0_off6 k 2#32) 0 = 8 * k.val + 2 := by decide
theorem hB2 : ∀ k : Fin k0_t1_loop.trips, (k0_off8 k 2#32) 0 = 8 * k.val + 2 := by decide
theorem hA3 : ∀ k : Fin k0_t1_loop.trips, (k0_off8 k 3#32) 0 = 8 * k.val + 3 := by decide
theorem hB3 : ∀ k : Fin k0_t1_loop.trips, (k0_off10 k 3#32) 0 = 8 * k.val + 3 := by decide
theorem hA4 : ∀ k : Fin k0_t1_loop.trips, (k0_off10 k 4#32) 0 = 8 * k.val + 4 := by decide
theorem hB4 : ∀ k : Fin k0_t1_loop.trips, (k0_off12 k 4#32) 0 = 8 * k.val + 4 := by decide
theorem hA5 : ∀ k : Fin k0_t1_loop.trips, (k0_off12 k 5#32) 0 = 8 * k.val + 5 := by decide
theorem hB5 : ∀ k : Fin k0_t1_loop.trips, (k0_off14 k 5#32) 0 = 8 * k.val + 5 := by decide
theorem hA6 : ∀ k : Fin k0_t1_loop.trips, (k0_off14 k 6#32) 0 = 8 * k.val + 6 := by decide
theorem hB6 : ∀ k : Fin k0_t1_loop.trips, (k0_off16 k 6#32) 0 = 8 * k.val + 6 := by decide
theorem hA7 : ∀ k : Fin k0_t1_loop.trips, (k0_off16 k 7#32) 0 = 8 * k.val + 7 := by decide
theorem hB7 : ∀ k : Fin k0_t1_loop.trips, (k0_off18 k) 0 = 8 * k.val + 7 := by decide

theorem trips25 : k0_t1_loop.trips = 25 := by decide

/-- Row `i` of trip `k`. -/
def row (k : Fin k0_t1_loop.trips) (i : Fin 8) : Fin 200 := ⟨8 * k.val + i.val, by have := k.isLt; have := i.isLt; have := trips25; omega⟩

/-- The eight batches' scores of trip `k`. -/
def eight (c : Dev nD) (arg1 arg2 : Memref sig .tc .smem S200 .i32) (arg8 : Memref sig .tc .vmem S2416x128 .f32)
    (v32 v33 : IVec S8x128 32) (f1 : Bf (F := F) c arg1) (f2 : Bf (F := F) c arg2) (f8 : Bf (F := F) c arg8)
    (hst : ∀ x, BitVec.toNat (arg1.view.read (Elt F) f1 x) ≤ 76927) (k : Fin k0_t1_loop.trips) : Fin 8 → FVec F S8x128 .f32
  | ⟨0, _⟩ => oneB c arg1 arg2 arg8 v32 v33 f1 f2 f8 hst (k0_off2 k) (k0_off2_inb k) (k0_off4 k 0#32) (k0_off4_inb k 0)
  | ⟨1, _⟩ => oneB c arg1 arg2 arg8 v32 v33 f1 f2 f8 hst (k0_off4 k 1#32) (k0_off4_inb k 1) (k0_off6 k 1#32) (k0_off6_inb k 0)
  | ⟨2, _⟩ => oneB c arg1 arg2 arg8 v32 v33 f1 f2 f8 hst (k0_off6 k 2#32) (k0_off6_inb k 1) (k0_off8 k 2#32) (k0_off8_inb k 0)
  | ⟨3, _⟩ => oneB c arg1 arg2 arg8 v32 v33 f1 f2 f8 hst (k0_off8 k 3#32) (k0_off8_inb k 1) (k0_off10 k 3#32) (k0_off10_inb k 0)
  | ⟨4, _⟩ => oneB c arg1 arg2 arg8 v32 v33 f1 f2 f8 hst (k0_off10 k 4#32) (k0_off10_inb k 1) (k0_off12 k 4#32) (k0_off12_inb k 0)
  | ⟨5, _⟩ => oneB c arg1 arg2 arg8 v32 v33 f1 f2 f8 hst (k0_off12 k 5#32) (k0_off12_inb k 1) (k0_off14 k 5#32) (k0_off14_inb k 0)
  | ⟨6, _⟩ => oneB c arg1 arg2 arg8 v32 v33 f1 f2 f8 hst (k0_off14 k 6#32) (k0_off14_inb k 1) (k0_off16 k 6#32) (k0_off16_inb k 0)
  | ⟨7, _⟩ => oneB c arg1 arg2 arg8 v32 v33 f1 f2 f8 hst (k0_off16 k 7#32) (k0_off16_inb k 1) (k0_off18 k) (k0_off18_inb k)

theorem eight_apply (c : Dev nD) (arg1 arg2 : Memref sig .tc .smem S200 .i32) (arg8 : Memref sig .tc .vmem S2416x128 .f32)
    (f1 : Bf (F := F) c arg1) (f2 : Bf (F := F) c arg2) (f8 : Bf (F := F) c arg8)
    (hst : ∀ x, BitVec.toNat (arg1.view.read (Elt F) f1 x) ≤ 76927) (k : Fin k0_t1_loop.trips) (i : Fin 8) (j : Fin 3) (l : Fin 128) :
    eight c arg1 arg2 arg8 (iota .tc S8x128 32 [1] iota_S8x128_d1_w32) (iota .tc S8x128 32 [0] iota_S8x128_d0_w32) f1 f2 f8 hst k i
        (ix2 ⟨j.val, lt_trans j.isLt (by decide)⟩ l)
      = scoreAt (arg8.view.read (Elt F) f8) (arg1.view.read (Elt F) f1 (ix1 (row k i))) (arg2.view.read (Elt F) f2 (ix1 (row k i))) (j.val * 128 + l.val) :=
  match i with
  | ⟨0, _⟩ => oneB_apply c arg1 arg2 arg8 f1 f2 f8 hst _ _ _ _ (row k ⟨0, by decide⟩) (hA0 k) (hB0 k) j l
  | ⟨1, _⟩ => oneB_apply c arg1 arg2 arg8 f1 f2 f8 hst _ _ _ _ (row k ⟨1, by decide⟩) (hA1 k) (hB1 k) j l
  | ⟨2, _⟩ => oneB_apply c arg1 arg2 arg8 f1 f2 f8 hst _ _ _ _ (row k ⟨2, by decide⟩) (hA2 k) (hB2 k) j l
  | ⟨3, _⟩ => oneB_apply c arg1 arg2 arg8 f1 f2 f8 hst _ _ _ _ (row k ⟨3, by decide⟩) (hA3 k) (hB3 k) j l
  | ⟨4, _⟩ => oneB_apply c arg1 arg2 arg8 f1 f2 f8 hst _ _ _ _ (row k ⟨4, by decide⟩) (hA4 k) (hB4 k) j l
  | ⟨5, _⟩ => oneB_apply c arg1 arg2 arg8 f1 f2 f8 hst _ _ _ _ (row k ⟨5, by decide⟩) (hA5 k) (hB5 k) j l
  | ⟨6, _⟩ => oneB_apply c arg1 arg2 arg8 f1 f2 f8 hst _ _ _ _ (row k ⟨6, by decide⟩) (hA6 k) (hB6 k) j l
  | ⟨7, _⟩ => oneB_apply c arg1 arg2 arg8 f1 f2 f8 hst _ _ _ _ (row k ⟨7, by decide⟩) (hA7 k) (hB7 k) j l

/-- The pieces a trip stores: three stacks of its batches' rows. -/
theorem trip_pieces (𝒱 : Variants) (bd : Option 𝒱.V) (c : Dev nD) (i : grid0.Coords)
    (arg1 : Memref sig .tc .smem S200 .i32) (harg1 : arg1.IsWhole) (arg2 : Memref sig .tc .smem S200 .i32) (harg2 : arg2.IsWhole)
    (arg3 : Memref sig .tc .smem S1 .i32) (harg3 : arg3.IsWhole) (arg4 : Memref sig .tc .vmem S6x216x128 .f32) (harg4 : arg4.IsWhole)
    (arg5 : Memref sig .tc .vmem S1208x128 .f32) (harg5 : arg5.IsWhole) (arg6 : Memref sig .tc .vmem S200x768 .bf16) (harg6 : arg6.IsWhole)
    (arg7 : Memref sig .tc .vmem S200x384 .f32) (harg7 : arg7.IsWhole) (arg8 : Memref sig .tc .vmem S2416x128 .f32) (harg8 : arg8.IsWhole)
    (v32 v33 : IVec S8x128 32)
    (f1 : Bf (F := F) c arg1) (f2 : Bf (F := F) c arg2) (f8 : Bf (F := F) c arg8)
    (hst : ∀ x, BitVec.toNat (arg1.view.read (Elt F) f1 x) ≤ 76927) (k : Fin k0_t1_loop.trips) :
    (tripRun 𝒱 bd c i arg1 harg1 arg2 harg2 arg3 harg3 arg4 harg4 arg5 harg5 arg6 harg6 arg7 harg7 arg8 harg8 v32 v33 f1 f2 f8 hst k).1
      = [⟨Rect.unit (s := S200x384) (k0_off21 k) S8x128.size (k0_off21_inb k), k0_pay4 (eight c arg1 arg2 arg8 v32 v33 f1 f2 f8 hst k 0) (eight c arg1 arg2 arg8 v32 v33 f1 f2 f8 hst k 1) (eight c arg1 arg2 arg8 v32 v33 f1 f2 f8 hst k 2) (eight c arg1 arg2 arg8 v32 v33 f1 f2 f8 hst k 3) (eight c arg1 arg2 arg8 v32 v33 f1 f2 f8 hst k 4) (eight c arg1 arg2 arg8 v32 v33 f1 f2 f8 hst k 5) (eight c arg1 arg2 arg8 v32 v33 f1 f2 f8 hst k 6) (eight c arg1 arg2 arg8 v32 v33 f1 f2 f8 hst k 7)⟩,
         ⟨Rect.unit (s := S200x384) (k0_off20 k) S8x128.size (k0_off20_inb k), k0_pay3 (eight c arg1 arg2 arg8 v32 v33 f1 f2 f8 hst k 0) (eight c arg1 arg2 arg8 v32 v33 f1 f2 f8 hst k 1) (eight c arg1 arg2 arg8 v32 v33 f1 f2 f8 hst k 2) (eight c arg1 arg2 arg8 v32 v33 f1 f2 f8 hst k 3) (eight c arg1 arg2 arg8 v32 v33 f1 f2 f8 hst k 4) (eight c arg1 arg2 arg8 v32 v33 f1 f2 f8 hst k 5) (eight c arg1 arg2 arg8 v32 v33 f1 f2 f8 hst k 6) (eight c arg1 arg2 arg8 v32 v33 f1 f2 f8 hst k 7)⟩,
         ⟨Rect.unit (s := S200x384) (k0_off19 k) S8x128.size (k0_off19_inb k), k0_pay2 (eight c arg1 arg2 arg8 v32 v33 f1 f2 f8 hst k 3) (eight c arg1 arg2 arg8 v32 v33 f1 f2 f8 hst k 4) (eight c arg1 arg2 arg8 v32 v33 f1 f2 f8 hst k 5) (eight c arg1 arg2 arg8 v32 v33 f1 f2 f8 hst k 6) (eight c arg1 arg2 arg8 v32 v33 f1 f2 f8 hst k 7)
           (extractStridedSlice S1x128 ![0, 0] (eight c arg1 arg2 arg8 v32 v33 f1 f2 f8 hst k 0) slices_S8x128_o0_0_S1x128) (extractStridedSlice S1x128 ![0, 0] (eight c arg1 arg2 arg8 v32 v33 f1 f2 f8 hst k 1) slices_S8x128_o0_0_S1x128) (extractStridedSlice S1x128 ![0, 0] (eight c arg1 arg2 arg8 v32 v33 f1 f2 f8 hst k 2) slices_S8x128_o0_0_S1x128)⟩] := by
  rfl

/-- What the score buffer reads after a trip: the trip's eight rows at their scores. -/
theorem trip_read_in (𝒱 : Variants) (bd : Option 𝒱.V) (c : Dev nD) (i : grid0.Coords)
    (arg1 : Memref sig .tc .smem S200 .i32) (harg1 : arg1.IsWhole) (arg2 : Memref sig .tc .smem S200 .i32) (harg2 : arg2.IsWhole)
    (arg3 : Memref sig .tc .smem S1 .i32) (harg3 : arg3.IsWhole) (arg4 : Memref sig .tc .vmem S6x216x128 .f32) (harg4 : arg4.IsWhole)
    (arg5 : Memref sig .tc .vmem S1208x128 .f32) (harg5 : arg5.IsWhole) (arg6 : Memref sig .tc .vmem S200x768 .bf16) (harg6 : arg6.IsWhole)
    (arg7 : Memref sig .tc .vmem S200x384 .f32) (harg7 : arg7.IsWhole) (arg8 : Memref sig .tc .vmem S2416x128 .f32) (harg8 : arg8.IsWhole)
    (f1 : Bf (F := F) c arg1) (f2 : Bf (F := F) c arg2) (f8 : Bf (F := F) c arg8)
    (hst : ∀ x, BitVec.toNat (arg1.view.read (Elt F) f1 x) ≤ 76927) (k : Fin k0_t1_loop.trips) (f7 : Bf (F := F) c arg7) (b : Fin 200) (n : Nat) (hn : n < 384) (h : 8 * k.val ≤ b.val ∧ b.val < 8 * k.val + 8) :
    arg7.view.read (Elt F) (arg7.view.writes (Elt F) f7 (tripRun 𝒱 bd c i arg1 harg1 arg2 harg2 arg3 harg3 arg4 harg4 arg5 harg5 arg6 harg6 arg7 harg7 arg8 harg8 (iota .tc S8x128 32 [1] iota_S8x128_d1_w32) (iota .tc S8x128 32 [0] iota_S8x128_d0_w32) f1 f2 f8 hst k).1) (ix2 b ⟨n, hn⟩)
      = scoreAt (arg8.view.read (Elt F) f8) (arg1.view.read (Elt F) f1 (ix1 b)) (arg2.view.read (Elt F) f2 (ix1 b)) n := by
  rw [trip_pieces]
  obtain ⟨r, hr⟩ : ∃ r : Fin 8, b.val = 8 * k.val + r.val := ⟨⟨b.val - 8 * k.val, by omega⟩, by show _ = 8 * k.val + (b.val - 8 * k.val); omega⟩
  have hb : row k r = b := Fin.ext hr.symm
  have hz (j : Fin 3) (l : Fin 128) (e : j.val * 128 + l.val = n) : eight c arg1 arg2 arg8 (iota .tc S8x128 32 [1] iota_S8x128_d1_w32) (iota .tc S8x128 32 [0] iota_S8x128_d0_w32) f1 f2 f8 hst k r (ix2 ⟨j.val, lt_trans j.isLt (by decide)⟩ l)
      = scoreAt (arg8.view.read (Elt F) f8) (arg1.view.read (Elt F) f1 (ix1 b)) (arg2.view.read (Elt F) f2 (ix1 b)) n := by
    rw [eight_apply, hb, e]
  by_cases h2 : 256 ≤ n
  · exact (View.read_writes_cons_unit_of_mem _ _ _ _ _ _ (ix2 r (⟨n - 256, by omega⟩ : Fin 128)) (off21 k) (fun a => match a with | ⟨0, _⟩ => (by show b.val = 8 * k.val + r.val; omega) | ⟨1, _⟩ => (by show n = 256 + (n - 256); omega))).trans ((stack_apply 2 (eight c arg1 arg2 arg8 (iota .tc S8x128 32 [1] iota_S8x128_d1_w32) (iota .tc S8x128 32 [0] iota_S8x128_d0_w32) f1 f2 f8 hst k) slices_S8x128_o2_0_S1x128 concatenates_S1x128_S1x128_S1x128_S1x128_S1x128_S1x128_S1x128_S1x128_S8x128_d0 r ⟨n - 256, by omega⟩).trans (hz 2 _ (by show 2 * 128 + (n - 256) = n; omega)))
  · by_cases h1 : 128 ≤ n
    · exact (View.read_writes_cons_unit_of_not_mem _ _ _ _ _ _ (off21 k) 1 (by show n < 256 ∨ 256 + 128 ≤ n; omega)).trans ((View.read_writes_cons_unit_of_mem _ _ _ _ _ _ (ix2 r (⟨n - 128, by omega⟩ : Fin 128)) (off20 k) (fun a => match a with | ⟨0, _⟩ => (by show b.val = 8 * k.val + r.val; omega) | ⟨1, _⟩ => (by show n = 128 + (n - 128); omega))).trans ((stack_apply 1 (eight c arg1 arg2 arg8 (iota .tc S8x128 32 [1] iota_S8x128_d1_w32) (iota .tc S8x128 32 [0] iota_S8x128_d0_w32) f1 f2 f8 hst k) slices_S8x128_o1_0_S1x128 concatenates_S1x128_S1x128_S1x128_S1x128_S1x128_S1x128_S1x128_S1x128_S8x128_d0 r ⟨n - 128, by omega⟩).trans (hz 1 _ (by show 1 * 128 + (n - 128) = n; omega))))
    · exact (View.read_writes_cons_unit_of_not_mem _ _ _ _ _ _ (off21 k) 1 (by show n < 256 ∨ 256 + 128 ≤ n; omega)).trans ((View.read_writes_cons_unit_of_not_mem _ _ _ _ _ _ (off20 k) 1 (by show n < 128 ∨ 128 + 128 ≤ n; omega)).trans ((View.read_writes_cons_unit_of_mem _ _ _ _ _ _ (ix2 r (⟨n - 0, by omega⟩ : Fin 128)) (off19 k) (fun a => match a with | ⟨0, _⟩ => (by show b.val = 8 * k.val + r.val; omega) | ⟨1, _⟩ => (by show n = 0 + (n - 0); omega))).trans ((stack_apply 0 (eight c arg1 arg2 arg8 (iota .tc S8x128 32 [1] iota_S8x128_d1_w32) (iota .tc S8x128 32 [0] iota_S8x128_d0_w32) f1 f2 f8 hst k) slices_S8x128_o0_0_S1x128 concatenates_S1x128_S1x128_S1x128_S1x128_S1x128_S1x128_S1x128_S1x128_S8x128_d0 r ⟨n - 0, by omega⟩).trans (hz 0 _ (by show 0 * 128 + (n - 0) = n; omega)))))

/-- Rows outside a trip's eight are as they were. -/
theorem trip_read_out (𝒱 : Variants) (bd : Option 𝒱.V) (c : Dev nD) (i : grid0.Coords)
    (arg1 : Memref sig .tc .smem S200 .i32) (harg1 : arg1.IsWhole) (arg2 : Memref sig .tc .smem S200 .i32) (harg2 : arg2.IsWhole)
    (arg3 : Memref sig .tc .smem S1 .i32) (harg3 : arg3.IsWhole) (arg4 : Memref sig .tc .vmem S6x216x128 .f32) (harg4 : arg4.IsWhole)
    (arg5 : Memref sig .tc .vmem S1208x128 .f32) (harg5 : arg5.IsWhole) (arg6 : Memref sig .tc .vmem S200x768 .bf16) (harg6 : arg6.IsWhole)
    (arg7 : Memref sig .tc .vmem S200x384 .f32) (harg7 : arg7.IsWhole) (arg8 : Memref sig .tc .vmem S2416x128 .f32) (harg8 : arg8.IsWhole)
    (f1 : Bf (F := F) c arg1) (f2 : Bf (F := F) c arg2) (f8 : Bf (F := F) c arg8)
    (hst : ∀ x, BitVec.toNat (arg1.view.read (Elt F) f1 x) ≤ 76927) (k : Fin k0_t1_loop.trips) (f7 : Bf (F := F) c arg7) (b : Fin 200) (n : Nat) (hn : n < 384) (h : b.val < 8 * k.val) :
    arg7.view.read (Elt F) (arg7.view.writes (Elt F) f7 (tripRun 𝒱 bd c i arg1 harg1 arg2 harg2 arg3 harg3 arg4 harg4 arg5 harg5 arg6 harg6 arg7 harg7 arg8 harg8 (iota .tc S8x128 32 [1] iota_S8x128_d1_w32) (iota .tc S8x128 32 [0] iota_S8x128_d0_w32) f1 f2 f8 hst k).1) (ix2 b ⟨n, hn⟩) = arg7.view.read (Elt F) f7 (ix2 b ⟨n, hn⟩) := by
  rw [trip_pieces]
  exact (View.read_writes_cons_unit_of_not_mem _ _ _ _ _ _ (off21 k) 0 (.inl h)).trans
    ((View.read_writes_cons_unit_of_not_mem _ _ _ _ _ _ (off20 k) 0 (.inl h)).trans
      (View.read_writes_cons_unit_of_not_mem _ _ _ _ _ _ (off19 k) 0 (.inl h)))

end Cert.Proof.Finish

end
-- ==== Proof.FinBody.lean ====
/-
  The finishing kernel's body run once at symbolic operands: the interest window left at the accumulator's lane blocks
  rounded, the score window at every batch's scores read off the flat rows.
-/
module

public import proofs.«01_k».proof.Proof.FinVal

@[expose] public section

set_option maxRecDepth 8192

noncomputable section

namespace Cert.Proof.Finish

open Cert.Finish Cert.Finish.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The score buffer's rows below `n` hold their batches' scores. -/
def Done (c : Dev nD) (arg1 arg2 : Memref sig .tc .smem S200 .i32) (arg7 : Memref sig .tc .vmem S200x384 .f32) (arg8 : Memref sig .tc .vmem S2416x128 .f32)
    (f1 : Bf (F := F) c arg1) (f2 : Bf (F := F) c arg2) (f8 : Bf (F := F) c arg8) (n : Nat) (f7 : Bf (F := F) c arg7) : Prop :=
  ∀ (b : Fin 200) (j : Nat) (hj : j < 384), b.val < n → arg7.view.read (Elt F) f7 (ix2 b ⟨j, hj⟩)
    = scoreAt (arg8.view.read (Elt F) f8) (arg1.view.read (Elt F) f1 (ix1 b)) (arg2.view.read (Elt F) f2 (ix1 b)) j

theorem done_step (𝒱 : Variants) (bd : Option 𝒱.V) (c : Dev nD) (i : grid0.Coords)
    (arg1 : Memref sig .tc .smem S200 .i32) (harg1 : arg1.IsWhole) (arg2 : Memref sig .tc .smem S200 .i32) (harg2 : arg2.IsWhole)
    (arg3 : Memref sig .tc .smem S1 .i32) (harg3 : arg3.IsWhole) (arg4 : Memref sig .tc .vmem S6x216x128 .f32) (harg4 : arg4.IsWhole)
    (arg5 : Memref sig .tc .vmem S1208x128 .f32) (harg5 : arg5.IsWhole) (arg6 : Memref sig .tc .vmem S200x768 .bf16) (harg6 : arg6.IsWhole)
    (arg7 : Memref sig .tc .vmem S200x384 .f32) (harg7 : arg7.IsWhole) (arg8 : Memref sig .tc .vmem S2416x128 .f32) (harg8 : arg8.IsWhole)
    (f1 : Bf (F := F) c arg1) (f2 : Bf (F := F) c arg2) (f8 : Bf (F := F) c arg8)
    (hst : ∀ x, BitVec.toNat (arg1.view.read (Elt F) f1 x) ≤ 76927) (k : Fin k0_t1_loop.trips) (f7 : Bf (F := F) c arg7)
    (h : Done c arg1 arg2 arg7 arg8 f1 f2 f8 (8 * k.val) f7) :
    Done c arg1 arg2 arg7 arg8 f1 f2 f8 (8 * (k.val + 1)) (arg7.view.writes (Elt F) f7
      (tripRun 𝒱 bd c i arg1 harg1 arg2 harg2 arg3 harg3 arg4 harg4 arg5 harg5 arg6 harg6 arg7 harg7 arg8 harg8 (iota .tc S8x128 32 [1] iota_S8x128_d1_w32) (iota .tc S8x128 32 [0] iota_S8x128_d0_w32) f1 f2 f8 hst k).1) := fun b j hj hb => by
  by_cases hk : b.val < 8 * k.val
  · rw [trip_read_out _ _ _ _ _ _ _ _ _ _ _ _ _ _ _ _ _ _ _ _ _ _ _ _ _ f7 b j hj hk]; exact h b j hj hk
  · exact trip_read_in _ _ _ _ _ _ _ _ _ _ _ _ _ _ _ _ _ _ _ _ _ _ _ _ _ f7 b j hj ⟨by omega, by omega⟩

/-- The score buffer before trip `k`: from its contents at the loop's entry, each trip's stores on top. -/
def acc (c : Dev nD) (i : grid0.Coords)
    (arg1 : Memref sig .tc .smem S200 .i32) (harg1 : arg1.IsWhole) (arg2 : Memref sig .tc .smem S200 .i32) (harg2 : arg2.IsWhole)
    (arg3 : Memref sig .tc .smem S1 .i32) (harg3 : arg3.IsWhole) (arg4 : Memref sig .tc .vmem S6x216x128 .f32) (harg4 : arg4.IsWhole)
    (arg5 : Memref sig .tc .vmem S1208x128 .f32) (harg5 : arg5.IsWhole) (arg6 : Memref sig .tc .vmem S200x768 .bf16) (harg6 : arg6.IsWhole)
    (arg7 : Memref sig .tc .vmem S200x384 .f32) (harg7 : arg7.IsWhole) (arg8 : Memref sig .tc .vmem S2416x128 .f32) (harg8 : arg8.IsWhole)
    (f1 : Bf (F := F) c arg1) (f2 : Bf (F := F) c arg2) (f8 : Bf (F := F) c arg8) (f7 : Bf (F := F) c arg7) : ℕ → Bf (F := F) c arg7
  | 0 => f7
  | k + 1 =>
    if h : k < k0_t1_loop.trips ∧ ∀ x, BitVec.toNat (arg1.view.read (Elt F) f1 x) ≤ 76927 then
      arg7.view.writes (Elt F) (acc c i arg1 harg1 arg2 harg2 arg3 harg3 arg4 harg4 arg5 harg5 arg6 harg6 arg7 harg7 arg8 harg8 f1 f2 f8 f7 k) (tripRun Variants.none none c i arg1 harg1 arg2 harg2 arg3 harg3 arg4 harg4 arg5 harg5 arg6 harg6 arg7 harg7 arg8 harg8 (iota .tc S8x128 32 [1] iota_S8x128_d1_w32) (iota .tc S8x128 32 [0] iota_S8x128_d0_w32) f1 f2 f8 h.2 ⟨k, h.1⟩).1
    else acc c i arg1 harg1 arg2 harg2 arg3 harg3 arg4 harg4 arg5 harg5 arg6 harg6 arg7 harg7 arg8 harg8 f1 f2 f8 f7 k

theorem acc_done (c : Dev nD) (i : grid0.Coords)
    (arg1 : Memref sig .tc .smem S200 .i32) (harg1 : arg1.IsWhole) (arg2 : Memref sig .tc .smem S200 .i32) (harg2 : arg2.IsWhole)
    (arg3 : Memref sig .tc .smem S1 .i32) (harg3 : arg3.IsWhole) (arg4 : Memref sig .tc .vmem S6x216x128 .f32) (harg4 : arg4.IsWhole)
    (arg5 : Memref sig .tc .vmem S1208x128 .f32) (harg5 : arg5.IsWhole) (arg6 : Memref sig .tc .vmem S200x768 .bf16) (harg6 : arg6.IsWhole)
    (arg7 : Memref sig .tc .vmem S200x384 .f32) (harg7 : arg7.IsWhole) (arg8 : Memref sig .tc .vmem S2416x128 .f32) (harg8 : arg8.IsWhole)
    (f1 : Bf (F := F) c arg1) (f2 : Bf (F := F) c arg2) (f8 : Bf (F := F) c arg8) (f7 : Bf (F := F) c arg7)
    (hst : ∀ x, BitVec.toNat (arg1.view.read (Elt F) f1 x) ≤ 76927) (k : ℕ) (hk : k ≤ k0_t1_loop.trips) :
    Done c arg1 arg2 arg7 arg8 f1 f2 f8 (8 * k) (acc c i arg1 harg1 arg2 harg2 arg3 harg3 arg4 harg4 arg5 harg5 arg6 harg6 arg7 harg7 arg8 harg8 f1 f2 f8 f7 k) := by
  induction k with
  | zero => intro b j hj hb; omega
  | succ k ih =>
    rw [acc, dif_pos ⟨hk, hst⟩]
    exact done_step _ _ _ _ _ _ _ _ _ _ _ _ _ _ _ _ _ _ _ _ f1 f2 f8 hst ⟨k, hk⟩ _ (ih (Nat.le_of_lt hk))

set_option warn.classDefReducibility false in
/-- The loop's invariant: before trip `k` the score buffer holds the stores of the trips before it. -/
@[sl_loop] def loopInv (c : Dev nD) (i : grid0.Coords)
    (arg1 : Memref sig .tc .smem S200 .i32) (harg1 : arg1.IsWhole) (arg2 : Memref sig .tc .smem S200 .i32) (harg2 : arg2.IsWhole)
    (arg3 : Memref sig .tc .smem S1 .i32) (harg3 : arg3.IsWhole) (arg4 : Memref sig .tc .vmem S6x216x128 .f32) (harg4 : arg4.IsWhole)
    (arg5 : Memref sig .tc .vmem S1208x128 .f32) (harg5 : arg5.IsWhole) (arg6 : Memref sig .tc .vmem S200x768 .bf16) (harg6 : arg6.IsWhole)
    (arg7 : Memref sig .tc .vmem S200x384 .f32) (harg7 : arg7.IsWhole) (arg8 : Memref sig .tc .vmem S2416x128 .f32) (harg8 : arg8.IsWhole)
    (f1 : Bf (F := F) c arg1) (f2 : Bf (F := F) c arg2) (f8 : Bf (F := F) c arg8) (f7 : Bf (F := F) c arg7) :
    Gen.LoopInvTy_k0_t1 (F := F) Unit ℕ (UR sig nD τ) ℕ Variants.none c none Set.univ i arg1 harg1 arg2 harg2 arg3 harg3 arg4 harg4 arg5 harg5 arg6 harg6 arg7 harg7 arg8 harg8 (iota .tc S8x128 32 [1] iota_S8x128_d1_w32) (iota .tc S8x128 32 [0] iota_S8x128_d0_w32) where
  inv k _ := iprop(⌜∀ x, BitVec.toNat (arg1.view.read (Elt F) f1 x) ≤ 76927⌝ ∗ tb c arg1 f1 ∗ tb c arg2 f2 ∗ pt c arg8 f8 ∗ pt c arg7 (acc c i arg1 harg1 arg2 harg2 arg3 harg3 arg4 harg4 arg5 harg5 arg6 harg6 arg7 harg7 arg8 harg8 f1 f2 f8 f7 k))
  step k _ := by
    iintro ⟨%hst, H1, H2, H8, H7⟩
    rw [show acc c i arg1 harg1 arg2 harg2 arg3 harg3 arg4 harg4 arg5 harg5 arg6 harg6 arg7 harg7 arg8 harg8 f1 f2 f8 f7 (k.val + 1) = arg7.view.writes (Elt F) (acc c i arg1 harg1 arg2 harg2 arg3 harg3 arg4 harg4 arg5 harg5 arg6 harg6 arg7 harg7 arg8 harg8 f1 f2 f8 f7 k.val) (tripRun Variants.none none c i arg1 harg1 arg2 harg2 arg3 harg3 arg4 harg4 arg5 harg5 arg6 harg6 arg7 harg7 arg8 harg8 (iota .tc S8x128 32 [1] iota_S8x128_d1_w32) (iota .tc S8x128 32 [0] iota_S8x128_d0_w32) f1 f2 f8 hst k).1 from dif_pos ⟨k.isLt, hst⟩]
    iapply (wp_wand_r Idealize.ShloMosaic.frame (wpE (defs₀ (F := F)) Variants.none (c : Thread nD τ) none) Set.univ)
    isplitl [H1 H2 H8 H7]
    · iapply (tripRun Variants.none none c i arg1 harg1 arg2 harg2 arg3 harg3 arg4 harg4 arg5 harg5 arg6 harg6 arg7 harg7 arg8 harg8 (iota .tc S8x128 32 [1] iota_S8x128_d1_w32) (iota .tc S8x128 32 [0] iota_S8x128_d0_w32) f1 f2 f8 hst k).2 _ Set.univ
      isplitl [H1]; · iexact H1
      isplitl [H2]; · iexact H2
      isplitl [H8]; · iexact H8
      iexact H7
    · iintro %_ ⟨H1, H2, H8, H7⟩
      isplitr; · ipureintro; exact hst
      isplitl [H1]; · iexact H1
      isplitl [H2]; · iexact H2
      isplitl [H8]; · iexact H8
      iexact H7

/-- The score at place `j` of batch `b`, off the flat array. -/
def scoreOut (c : Dev nD) (arg1 arg2 : Memref sig .tc .smem S200 .i32) (arg5 : Memref sig .tc .vmem S1208x128 .f32)
    (f1 : Bf (F := F) c arg1) (f2 : Bf (F := F) c arg2) (f5 : Bf (F := F) c arg5) (y : S200x384.Idx) : Elt F .f32 :=
  Scalar.select (IntOp.cmpi .slt (BitVec.ofNat 32 (y 1).val) (arg2.view.read (Elt F) f2 (ix1 (y 0))))
    (arg5.view.read (Elt F) f5 (ix2 (Fin.ofNat 1208 (flatRow ((BitVec.toNat (arg1.view.read (Elt F) f1 (ix1 (y 0))) + (y 1).val) / 128)))
      (Fin.ofNat 128 ((BitVec.toNat (arg1.view.read (Elt F) f1 (ix1 (y 0))) + (y 1).val) % 128)))) (Scalar.ofBits .f32 0x00000000#32)

/-- The interest at `(b, n)`: the accumulator's lane block, rounded. -/
def interestOut (c : Dev nD) (arg4 : Memref sig .tc .vmem S6x216x128 .f32) (f4 : Bf (F := F) c arg4) (y : S200x768.Idx) : Elt F .bf16 :=
  FloatOps.truncf .bf16 bitsLt_bf16_f32 (arg4.view.read (Elt F) f4 (ix3 (Fin.ofNat 6 ((y 1).val / 128)) (Fin.castLE (by decide) (y 0)) (Fin.ofNat 128 ((y 1).val % 128))))

/-- The lane block stored at column `128 j`, at an index: the accumulator's, rounded. -/
theorem int_piece (c : Dev nD) (arg4 : Memref sig .tc .vmem S6x216x128 .f32) (f4 : Bf (F := F) c arg4) (j : Fin 6)
    (inb : ∀ a : Fin S6x216x128.rank, (![j.val, 0, 0] : Fin 3 → Nat) a + S1x200x128.size a ≤ S6x216x128.size a) (hc : S1x200x128.ShapeCasts S200x128) (b : Fin 200) (l : Fin 128) :
    truncf .bf16 (shapeCast S200x128 (arg4.view.readAt (Elt F) (Rect.unit (s := S6x216x128) ![j.val, 0, 0] S1x200x128.size inb).toLoadRect f4) hc : FVec F S200x128 .f32) bitsLt_bf16_f32 (ix2 b l)
      = FloatOps.truncf .bf16 bitsLt_bf16_f32 (arg4.view.read (Elt F) f4 (ix3 j (Fin.castLE (by decide) b) l)) := by
  refine congrArg (FloatOps.truncf .bf16 bitsLt_bf16_f32) ?_
  refine (shapeCast_dropUnit_apply (n := 2) ![200, 128] _ hc (ix2 b l)).trans ?_
  refine congrArg (fun q => arg4.view.read (Elt F) f4 q) ?_
  funext a; refine Fin.ext ?_
  match a with
  | ⟨0, _⟩ => show j.val + 0 = j.val; omega
  | ⟨1, _⟩ => exact (Nat.zero_add _).trans (Nat.one_mul _)
  | ⟨2, _⟩ => exact (Nat.zero_add _).trans (Nat.one_mul _)

/-- The interest window after the six stores. -/
theorem int_read (c : Dev nD) (arg4 : Memref sig .tc .vmem S6x216x128 .f32) (f4 : Bf (F := F) c arg4)
    (arg6 : Memref sig .tc .vmem S200x768 .bf16) (f6 : Bf (F := F) c arg6) (y : S200x768.Idx) :
    arg6.view.read (Elt F) (arg6.view.writes (Elt F) f6
      [⟨Rect.unit (s := S200x768) ![0, 640] S200x128.size inb_S200x768_S200x128_0_640, k0_pay26 (arg4.view.readAt (Elt F) (Rect.unit (s := S6x216x128) ![5, 0, 0] S1x200x128.size inb_S6x216x128_S1x200x128_5_0_0).toLoadRect f4)⟩,
      ⟨Rect.unit (s := S200x768) ![0, 512] S200x128.size inb_S200x768_S200x128_0_512, k0_pay25 (arg4.view.readAt (Elt F) (Rect.unit (s := S6x216x128) ![4, 0, 0] S1x200x128.size inb_S6x216x128_S1x200x128_4_0_0).toLoadRect f4)⟩,
      ⟨Rect.unit (s := S200x768) ![0, 384] S200x128.size inb_S200x768_S200x128_0_384, k0_pay24 (arg4.view.readAt (Elt F) (Rect.unit (s := S6x216x128) ![3, 0, 0] S1x200x128.size inb_S6x216x128_S1x200x128_3_0_0).toLoadRect f4)⟩,
      ⟨Rect.unit (s := S200x768) ![0, 256] S200x128.size inb_S200x768_S200x128_0_256, k0_pay23 (arg4.view.readAt (Elt F) (Rect.unit (s := S6x216x128) ![2, 0, 0] S1x200x128.size inb_S6x216x128_S1x200x128_2_0_0).toLoadRect f4)⟩,
      ⟨Rect.unit (s := S200x768) ![0, 128] S200x128.size inb_S200x768_S200x128_0_128, k0_pay22 (arg4.view.readAt (Elt F) (Rect.unit (s := S6x216x128) ![1, 0, 0] S1x200x128.size inb_S6x216x128_S1x200x128_1_0_0).toLoadRect f4)⟩,
      ⟨Rect.unit (s := S200x768) ![0, 0] S200x128.size inb_S200x768_S200x128_0_0, k0_pay21 (arg4.view.readAt (Elt F) (Rect.unit (s := S6x216x128) ![0, 0, 0] S1x200x128.size inb_S6x216x128_S1x200x128_0_0_0).toLoadRect f4)⟩]) y = interestOut c arg4 f4 y := by
  obtain ⟨b, n, hn, rfl⟩ : ∃ (b : Fin 200) (n : Nat) (hn : n < 768), y = ix2 b ⟨n, hn⟩ := ⟨y 0, (y 1).val, (y 1).isLt, eq_ix2 y⟩
  unfold interestOut
  by_cases h5 : 640 ≤ n
  · exact (View.read_writes_cons_unit_of_mem _ _ _ _ _ _ (ix2 b (⟨n - 640, by omega⟩ : Fin 128)) rfl (fun a => match a with | ⟨0, _⟩ => (by show b.val = 0 + b.val; omega) | ⟨1, _⟩ => (by show n = 640 + (n - 640); omega))).trans (int_piece c arg4 f4 5 _ _ b ⟨n - 640, by omega⟩ |>.trans (congrArg (fun q => FloatOps.truncf .bf16 bitsLt_bf16_f32 (arg4.view.read (Elt F) f4 q)) (by
      funext a; refine Fin.ext ?_
      match a with
      | ⟨0, _⟩ => show 5 = n / 128 % 6; omega
      | ⟨1, _⟩ => rfl
      | ⟨2, _⟩ => show n - 640 = n % 128 % 128; omega)))
  refine (View.read_writes_cons_unit_of_not_mem _ _ _ _ _ _ rfl 1 (by show n < 640 ∨ 640 + 128 ≤ n; omega)).trans ?_
  by_cases h4 : 512 ≤ n
  · exact (View.read_writes_cons_unit_of_mem _ _ _ _ _ _ (ix2 b (⟨n - 512, by omega⟩ : Fin 128)) rfl (fun a => match a with | ⟨0, _⟩ => (by show b.val = 0 + b.val; omega) | ⟨1, _⟩ => (by show n = 512 + (n - 512); omega))).trans (int_piece c arg4 f4 4 _ _ b ⟨n - 512, by omega⟩ |>.trans (congrArg (fun q => FloatOps.truncf .bf16 bitsLt_bf16_f32 (arg4.view.read (Elt F) f4 q)) (by
      funext a; refine Fin.ext ?_
      match a with
      | ⟨0, _⟩ => show 4 = n / 128 % 6; omega
      | ⟨1, _⟩ => rfl
      | ⟨2, _⟩ => show n - 512 = n % 128 % 128; omega)))
  refine (View.read_writes_cons_unit_of_not_mem _ _ _ _ _ _ rfl 1 (by show n < 512 ∨ 512 + 128 ≤ n; omega)).trans ?_
  by_cases h3 : 384 ≤ n
  · exact (View.read_writes_cons_unit_of_mem _ _ _ _ _ _ (ix2 b (⟨n - 384, by omega⟩ : Fin 128)) rfl (fun a => match a with | ⟨0, _⟩ => (by show b.val = 0 + b.val; omega) | ⟨1, _⟩ => (by show n = 384 + (n - 384); omega))).trans (int_piece c arg4 f4 3 _ _ b ⟨n - 384, by omega⟩ |>.trans (congrArg (fun q => FloatOps.truncf .bf16 bitsLt_bf16_f32 (arg4.view.read (Elt F) f4 q)) (by
      funext a; refine Fin.ext ?_
      match a with
      | ⟨0, _⟩ => show 3 = n / 128 % 6; omega
      | ⟨1, _⟩ => rfl
      | ⟨2, _⟩ => show n - 384 = n % 128 % 128; omega)))
  refine (View.read_writes_cons_unit_of_not_mem _ _ _ _ _ _ rfl 1 (by show n < 384 ∨ 384 + 128 ≤ n; omega)).trans ?_
  by_cases h2 : 256 ≤ n
  · exact (View.read_writes_cons_unit_of_mem _ _ _ _ _ _ (ix2 b (⟨n - 256, by omega⟩ : Fin 128)) rfl (fun a => match a with | ⟨0, _⟩ => (by show b.val = 0 + b.val; omega) | ⟨1, _⟩ => (by show n = 256 + (n - 256); omega))).trans (int_piece c arg4 f4 2 _ _ b ⟨n - 256, by omega⟩ |>.trans (congrArg (fun q => FloatOps.truncf .bf16 bitsLt_bf16_f32 (arg4.view.read (Elt F) f4 q)) (by
      funext a; refine Fin.ext ?_
      match a with
      | ⟨0, _⟩ => show 2 = n / 128 % 6; omega
      | ⟨1, _⟩ => rfl
      | ⟨2, _⟩ => show n - 256 = n % 128 % 128; omega)))
  refine (View.read_writes_cons_unit_of_not_mem _ _ _ _ _ _ rfl 1 (by show n < 256 ∨ 256 + 128 ≤ n; omega)).trans ?_
  by_cases h1 : 128 ≤ n
  · exact (View.read_writes_cons_unit_of_mem _ _ _ _ _ _ (ix2 b (⟨n - 128, by omega⟩ : Fin 128)) rfl (fun a => match a with | ⟨0, _⟩ => (by show b.val = 0 + b.val; omega) | ⟨1, _⟩ => (by show n = 128 + (n - 128); omega))).trans (int_piece c arg4 f4 1 _ _ b ⟨n - 128, by omega⟩ |>.trans (congrArg (fun q => FloatOps.truncf .bf16 bitsLt_bf16_f32 (arg4.view.read (Elt F) f4 q)) (by
      funext a; refine Fin.ext ?_
      match a with
      | ⟨0, _⟩ => show 1 = n / 128 % 6; omega
      | ⟨1, _⟩ => rfl
      | ⟨2, _⟩ => show n - 128 = n % 128 % 128; omega)))
  refine (View.read_writes_cons_unit_of_not_mem _ _ _ _ _ _ rfl 1 (by show n < 128 ∨ 128 + 128 ≤ n; omega)).trans ?_
  exact (View.read_writes_cons_unit_of_mem _ _ _ _ _ _ (ix2 b (⟨n - 0, by omega⟩ : Fin 128)) rfl (fun a => match a with | ⟨0, _⟩ => (by show b.val = 0 + b.val; omega) | ⟨1, _⟩ => (by show n = 0 + (n - 0); omega))).trans (int_piece c arg4 f4 0 _ _ b ⟨n - 0, by omega⟩ |>.trans (congrArg (fun q => FloatOps.truncf .bf16 bitsLt_bf16_f32 (arg4.view.read (Elt F) f4 q)) (by
      funext a; refine Fin.ext ?_
      match a with
      | ⟨0, _⟩ => show 0 = n / 128 % 6; omega
      | ⟨1, _⟩ => rfl
      | ⟨2, _⟩ => show n - 0 = n % 128 % 128; omega)))

/-- The flat array after its one store, at an index the score reads: the score tiles. -/
theorem flat_read (c : Dev nD) (arg5 : Memref sig .tc .vmem S1208x128 .f32) (f5 : Bf (F := F) c arg5)
    (arg8 : Memref sig .tc .vmem S2416x128 .f32) (f8 : Bf (F := F) c arg8) (v : BitVec 32) (hv : v = 0#32) (inb)
    (r : Fin 2416) (hr : r.val < 1208) (l : Fin 128) :
    arg8.view.read (Elt F) (arg8.view.writes (Elt F) f8
      [⟨Rect.unit (s := S2416x128) (k0_off1 v) S1208x128.size inb, k0_pay1 (arg5.view.readAt (Elt F) (Rect.unit (s := S1208x128) ![0, 0] S1208x128.size inb_S1208x128_S1208x128_0_0).toLoadRect f5)⟩]) (ix2 r l)
      = arg5.view.read (Elt F) f5 (ix2 ⟨r.val, hr⟩ l) := by
  subst hv
  refine (View.read_writes_cons_unit_of_mem _ _ _ _ _ _ (ix2 (⟨r.val, hr⟩ : Fin 1208) l) (show k0_off1 0#32 = ![0, 0] by funext a; fin_cases a <;> decide)
    (fun a => match a with | ⟨0, _⟩ => (by show r.val = 0 + r.val; omega) | ⟨1, _⟩ => (by show l.val = 0 + l.val; omega))).trans ?_
  unfold k0_pay1
  dsimp only
  rw [shapeCast_self]
  refine congrArg (fun q => arg5.view.read (Elt F) f5 q) ?_
  funext a; refine Fin.ext ?_
  match a with
  | ⟨0, _⟩ => exact (Nat.zero_add _).trans (Nat.one_mul _)
  | ⟨1, _⟩ => exact (Nat.zero_add _).trans (Nat.one_mul _)

theorem flatRow_lt (st n : Nat) (hst : st ≤ 76927) (hn : n < 384) : flatRow ((st + n) / 128) < 1208 := by
  have h : (st + n) / 128 ≤ 603 := by omega
  unfold flatRow; omega

theorem chk1 (v : BitVec 32) (h : v = 0#32) : k0_chk1 v := by
  subst h
  refine ⟨by decide, fun a => ?_⟩
  fin_cases a <;> decide

/-- The score window after the last trip. -/
theorem score_read (c : Dev nD) (i : grid0.Coords)
    (arg1 : Memref sig .tc .smem S200 .i32) (harg1 : arg1.IsWhole) (arg2 : Memref sig .tc .smem S200 .i32) (harg2 : arg2.IsWhole)
    (arg3 : Memref sig .tc .smem S1 .i32) (harg3 : arg3.IsWhole) (arg4 : Memref sig .tc .vmem S6x216x128 .f32) (harg4 : arg4.IsWhole)
    (arg5 : Memref sig .tc .vmem S1208x128 .f32) (harg5 : arg5.IsWhole) (arg6 : Memref sig .tc .vmem S200x768 .bf16) (harg6 : arg6.IsWhole)
    (arg7 : Memref sig .tc .vmem S200x384 .f32) (harg7 : arg7.IsWhole) (arg8 : Memref sig .tc .vmem S2416x128 .f32) (harg8 : arg8.IsWhole)
    (f1 : Bf (F := F) c arg1) (f2 : Bf (F := F) c arg2) (f5 : Bf (F := F) c arg5) (f7 : Bf (F := F) c arg7) (f8 : Bf (F := F) c arg8)
    (hst : ∀ x, BitVec.toNat (arg1.view.read (Elt F) f1 x) ≤ 76927) (v : BitVec 32) (hv : v = 0#32) (inb) (y : S200x384.Idx) :
    arg7.view.read (Elt F) (acc c i arg1 harg1 arg2 harg2 arg3 harg3 arg4 harg4 arg5 harg5 arg6 harg6 arg7 harg7 arg8 harg8 f1 f2 (arg8.view.writes (Elt F) f8
      [⟨Rect.unit (s := S2416x128) (k0_off1 v) S1208x128.size inb, k0_pay1 (arg5.view.readAt (Elt F) (Rect.unit (s := S1208x128) ![0, 0] S1208x128.size inb_S1208x128_S1208x128_0_0).toLoadRect f5)⟩]) f7 25) y
      = scoreOut c arg1 arg2 arg5 f1 f2 f5 y := by
  obtain ⟨b, n, hn, rfl⟩ : ∃ (b : Fin 200) (n : Nat) (hn : n < 384), y = ix2 b ⟨n, hn⟩ := ⟨y 0, (y 1).val, (y 1).isLt, eq_ix2 y⟩
  refine (acc_done c i arg1 harg1 arg2 harg2 arg3 harg3 arg4 harg4 arg5 harg5 arg6 harg6 arg7 harg7 arg8 harg8 f1 f2 _ f7 hst 25 (le_of_eq trips25.symm) b n hn (by omega)).trans ?_
  have hs := hst (ix1 b)
  have hr := flatRow_lt _ n hs hn
  unfold scoreAt scoreOut
  refine congrArg (fun z => Scalar.select (IntOp.cmpi .slt (BitVec.ofNat 32 n) (arg2.view.read (Elt F) f2 (ix1 b))) z (Scalar.ofBits .f32 0x00000000#32)) ?_
  refine (flat_read c arg5 f5 arg8 f8 v hv inb (Fin.ofNat 2416 (flatRow ((BitVec.toNat (arg1.view.read (Elt F) f1 (ix1 b)) + n) / 128))) ?_ _).trans ?_
  · exact (Nat.mod_eq_of_lt (lt_trans hr (by decide))).trans_lt hr
  · refine congrArg (fun q => arg5.view.read (Elt F) f5 (ix2 q (Fin.ofNat 128 ((BitVec.toNat (arg1.view.read (Elt F) f1 (ix1 b)) + n) % 128)))) (Fin.ext ?_)
    exact (Nat.mod_eq_of_lt (lt_trans hr (by decide))).trans (Nat.mod_eq_of_lt hr).symm

set_option maxHeartbeats 2000000 in
theorem bodyRun (c : Dev nD) (i : grid0.Coords)
    (arg1 : Memref sig .tc .smem S200 .i32) (harg1 : arg1.IsWhole) (arg2 : Memref sig .tc .smem S200 .i32) (harg2 : arg2.IsWhole)
    (arg3 : Memref sig .tc .smem S1 .i32) (harg3 : arg3.IsWhole) (arg4 : Memref sig .tc .vmem S6x216x128 .f32) (harg4 : arg4.IsWhole)
    (arg5 : Memref sig .tc .vmem S1208x128 .f32) (harg5 : arg5.IsWhole) (arg6 : Memref sig .tc .vmem S200x768 .bf16) (harg6 : arg6.IsWhole)
    (arg7 : Memref sig .tc .vmem S200x384 .f32) (harg7 : arg7.IsWhole) (arg8 : Memref sig .tc .vmem S2416x128 .f32) (harg8 : arg8.IsWhole)
    (f1 : Bf (F := F) c arg1) (f2 : Bf (F := F) c arg2) (f3 : Bf (F := F) c arg3) (f4 : Bf (F := F) c arg4) (f5 : Bf (F := F) c arg5)
    (hst : ∀ x, BitVec.toNat (arg1.view.read (Elt F) f1 x) ≤ 76927) (hb : ∀ x, arg3.view.read (Elt F) f3 x = (0#32 : BitVec 32))
    (f6 : Bf (F := F) c arg6) (f7 : Bf (F := F) c arg7) (f8 : Bf (F := F) c arg8) (Q : PUnit → sProp 𝕄) :
    iprop(tb c arg1 f1 ∗ tb c arg2 f2 ∗ tb c arg3 f3 ∗ pt c arg4 f4 ∗ pt c arg5 f5 ∗ pt c arg6 f6 ∗ pt c arg7 f7 ∗ pt c arg8 f8
      ∗ (iprop(tb c arg1 f1 ∗ tb c arg2 f2 ∗ tb c arg3 f3 ∗ pt c arg4 f4 ∗ pt c arg5 f5
          ∗ (∃ f, ⌜∀ y, arg6.view.read (Elt F) f y = interestOut c arg4 f4 y⌝ ∗ pt c arg6 f)
          ∗ (∃ f, ⌜∀ y, arg7.view.read (Elt F) f y = scoreOut c arg1 arg2 arg5 f1 f2 f5 y⌝ ∗ pt c arg7 f)
          ∗ (∃ f, pt c arg8 f)) -∗ Q ⟨⟩))
    ⊢ wp frame (wpE (defs₀ (F := F)) Variants.none c none) Set.univ (cc0_finish i arg1 harg1 arg2 harg2 arg3 harg3 arg4 harg4 arg5 harg5 arg6 harg6 arg7 harg7 arg8 harg8) Q := by
  iintro ⟨H1, H2, H3, H4, H5, H6, H7, H8, Hk⟩
  sl_exec_parts! (disch := first | assumption | (refine chk1 _ ?_; exact hb _))
  sl_step
  iapply Hk
  isplitl [H1]; · iexact H1
  isplitl [H2]; · iexact H2
  isplitl [H3]; · iexact H3
  isplitl [H4]; · iexact H4
  isplitl [H5]; · iexact H5
  isplitl [H6]
  · iexists _; isplitr; swap; · iexact H6
    ipureintro
    exact int_read c arg4 f4 arg6 _
  isplitl [H7]
  · iexists _; isplitr; swap; · iexact H7
    ipureintro
    exact score_read c i arg1 harg1 arg2 harg2 arg3 harg3 arg4 harg4 arg5 harg5 arg6 harg6 arg7 harg7 arg8 harg8 f1 f2 f5 f7 f8 hst _ (hb _) _
  iexists _; iexact H8

end Cert.Proof.Finish

end
-- ==== Proof.FinLaunch.lean ====
/-
  The launch of the finishing pallas_call: the kernel's body at its one grid point, the proof data of its pipeline (both
  output windows at what the body leaves there), and the run from launch to return.
-/
module

public import proofs.«01_k».proof.Proof.FinBody
public import proofs.«01_k».proof.Proof.Gen.Finish.Launch
public import Idealize.ShloMosaic.Lib.Pipeline.FrameBody
public import Idealize.ShloMosaic.Lib.Pipeline.Value
public import Idealize.ShloMosaic.Lib.Tactic
public import Idealize.ShloMosaic.Lib.Claim

@[expose] public section

set_option maxRecDepth 16384

noncomputable section

namespace Cert.Proof.Finish

open Cert.Finish Cert.Finish.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers when the region is entered: the program's, for nothing runs before it. -/
abbrev V (c : Dev nD) (b : Ref sig .tc) : Buf (Elt F) ((c : Thread nD τ).loc b) := m ((c : Thread nD τ).loc b)

theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main main_chain

/-- The tables' contents when the region is entered (the program runs on one device). -/
def tbl : pre0.Contents (Elt F) := fun j => V m (0 : Dev nD) (pre0.ref j)

theorem V_pre (c : Dev nD) (j : Fin 3) : V m c (pre0.ref j) = tbl m j := by
  obtain rfl : c = 0 := Subsingleton.elim _ _; rfl

/-- What the precondition says of the tables: every start at most 76927, the shift word zero. -/
structure Good : Prop where
  st_le : ∀ x, BitVec.toNat ((Memref.whole main_arg0 : Memref sig .tc .smem S200 .i32).view.read (Elt F) (tbl m 0) x) ≤ 76927
  sh_eq : ∀ x, (Memref.whole main_arg2 : Memref sig .tc .smem S1 .i32).view.read (Elt F) (tbl m 2) x = (0#32 : BitVec 32)

/-- The tables as admissible contents, and the pipeline at them. -/
abbrev adm : (pcfg0 (F := F)).Adm := ⟨tbl m, trivial⟩
abbrev cfgM : Pipeline.Cfg sig Λ₀ := cfg0 (adm m)

/-- A table's half as the region hands it to the body. -/
theorem tb_whole (c : Dev nD) (b : Ref sig .tc) (f : Buf (Elt F) ((c : Thread nD τ).loc b)) :
    (tb c (Memref.whole b : Memref sig .tc b.space b.ty.shape b.ty.elt) f : sProp 𝕄) = (((c : Thread nD τ).loc b) ↦{fullShare.right} f) :=
  congrArg (fun s => (((c : Thread nD τ).loc b) ↦[s]{fullShare.right} f : sProp 𝕄)) (View.set_whole b)

abbrev tM0 : Memref sig .tc .smem S200 .i32 := Memref.whole main_arg0
abbrev tM1 : Memref sig .tc .smem S200 .i32 := Memref.whole main_arg1
abbrev tM2 : Memref sig .tc .smem S1 .i32 := Memref.whole main_arg2
abbrev scM : Memref sig .tc .vmem S2416x128 .f32 := Memref.whole cc0_scratch0

theorem PhiT0_eq (c : Dev nD) : (Pipeline.ΦT pre0 (tbl m) c : sProp 𝕄)
    = iprop(tb c tM0 (tbl m 0) ∗ tb c tM1 (tbl m 1) ∗ tb c tM2 (tbl m 2)) := by
  rw [show (tb c tM0 (tbl m 0) : sProp 𝕄) = _ from tb_whole c main_arg0 (tbl m 0), show (tb c tM1 (tbl m 1) : sProp 𝕄) = _ from tb_whole c main_arg1 (tbl m 1),
    show (tb c tM2 (tbl m 2) : sProp 𝕄) = _ from tb_whole c main_arg2 (tbl m 2)]
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

theorem pt_whole (c : Dev nD) (b : Ref sig .tc) (f : Buf (Elt F) ((c : Thread nD τ).loc b)) :
    (pt c (Memref.whole b : Memref sig .tc b.space b.ty.shape b.ty.elt) f : sProp 𝕄) = (((c : Thread nD τ).loc b) ↦{fullShare} f) :=
  congrArg (fun s => (((c : Thread nD τ).loc b) ↦[s]{fullShare} f : sProp 𝕄)) (View.set_whole b)

/-- The kernel's scratch buffer at some contents. -/
theorem PhiA0_eq (c : Dev nD) : (Pipeline.ΦA spec0 c : sProp 𝕄) = iprop((∃ f, pt c scM f) ∗ (∃ r, prngReg c r)) := by
  rw [show (fun f => (pt c scM f : sProp 𝕄)) = _ from funext fun f => pt_whole c cc0_scratch0 f]
  unfold Pipeline.ΦA; rw [scopedRest0_eq]; try rfl

/-! ## The windows' blocks -/

/-- Window `w`'s block at point `t`, read off its array as the region finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

theorem before_0_of {c : Dev nD} (dat : Dat τ (Elt F) Unit ℕ (UR sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ (cfgM m) c) (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

abbrev ms_0 (t : Fin (cfgM m).N) : Memref sig .tc .vmem S6x216x128 .f32 := spec0_0.stage ((cfgM m).slots t 0)
abbrev hs_0 (t : Fin (cfgM m).N) : (ms_0 m t).IsWhole := hstage0_0 (((cfgM m).slots t 0).cast nbuf0_0)
abbrev ms_1 (t : Fin (cfgM m).N) : Memref sig .tc .vmem S1208x128 .f32 := spec0_1.stage ((cfgM m).slots t 1)
abbrev hs_1 (t : Fin (cfgM m).N) : (ms_1 m t).IsWhole := hstage0_1 (((cfgM m).slots t 1).cast nbuf0_1)
abbrev ms_2 (t : Fin (cfgM m).N) : Memref sig .tc .vmem S200x768 .bf16 := spec0_2.stage ((cfgM m).slots t 2)
abbrev hs_2 (t : Fin (cfgM m).N) : (ms_2 m t).IsWhole := hstage0_2 (((cfgM m).slots t 2).cast nbuf0_2)
abbrev ms_3 (t : Fin (cfgM m).N) : Memref sig .tc .vmem S200x384 .f32 := spec0_3.stage ((cfgM m).slots t 3)
abbrev hs_3 (t : Fin (cfgM m).N) : (ms_3 m t).IsWhole := hstage0_3 (((cfgM m).slots t 3).cast nbuf0_3)

/-- The kernel body at point `t`, on what the pipeline calls it with. -/
abbrev bodyAt (t : Fin (cfgM m).N) : Prog (TpuEff nD τ sig (Elt F) Λ₀ .tc) PUnit :=
  cc0_finish ((cfgM m).grid.coords t) tM0 (Memref.isWhole_whole _) tM1 (Memref.isWhole_whole _) tM2 (Memref.isWhole_whole _) (ms_0 m t) (hs_0 m t) (ms_1 m t) (hs_1 m t) (ms_2 m t) (hs_2 m t) (ms_3 m t) (hs_3 m t) scM (Memref.isWhole_whole _)

/-- What the body leaves in the interest window, -/
def intAt (c : Dev nD) (t : Fin (cfgM m).N) : Vec F S200x768 .bf16 := interestOut c (ms_0 m t) ((hs_0 m t).unread (iblk m c 0 t))
/-- and in the score window. -/
def scoAt (c : Dev nD) (t : Fin (cfgM m).N) : Vec F S200x384 .f32 := scoreOut c tM0 tM1 (ms_1 m t) (tbl m 0) (tbl m 1) ((hs_1 m t).unread (iblk m c 1 t))

/-! ## The pipeline's proof data -/

/-- No window is forgotten. -/
def forgets : Fin 4 → Bool := fun _ => false

def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => intAt m c t
    | ⟨3, _⟩ => scoAt m c t
    | ⟨_ + 4, h⟩ => absurd h (Nat.not_lt.2 (Nat.le_add_left _ _))
  Φ _ := iprop(Pipeline.ΦA spec0 c ∗ Pipeline.ΦT pre0 (tbl m) c)
  q _ := fullShare
  owed _ := 0

theorem A_eq (c : Dev nD) (w : Fin (cfgM m).W) : (dats m 0 c).A w = V m c (Pipeline.arrRef spec0 w) := by
  dsimp only [dats]

theorem after_0 (c : Dev nD) (t : Fin (cfgM m).N) : (dats m 0 c).after 0 t = iblk m c 0 t := by dsimp only [dats]; try rfl
theorem after_1 (c : Dev nD) (t : Fin (cfgM m).N) : (dats m 0 c).after 1 t = iblk m c 1 t := by dsimp only [dats]; try rfl
theorem after_2 (c : Dev nD) (t : Fin (cfgM m).N) : (dats m 0 c).after 2 t = intAt m c t := by dsimp only [dats]; try rfl
theorem after_3 (c : Dev nD) (t : Fin (cfgM m).N) : (dats m 0 c).after 3 t = scoAt m c t := by dsimp only [dats]; try rfl
theorem before_0 (c : Dev nD) (t : Fin (cfgM m).N) (d) : (dats m 0 c).before 0 t d = iblk m c 0 t :=
  before_0_of m (dats m 0 c) (A_eq m c 0) (after_0 m c) t d
theorem before_1 (c : Dev nD) (t : Fin (cfgM m).N) (d) : (dats m 0 c).before 1 t d = iblk m c 1 t :=
  before_1_of m (dats m 0 c) (A_eq m c 1) (after_1 m c) t d

/-! ## The body obligation -/

/-- What the body is called with at point `t`, -/
def bodyPre (c : Dev nD) (t : Fin (cfgM m).N) : sProp 𝕄 :=
  iprop((dats m 0 c).Φ t.castSucc ∗ (dats m 0 c).owesAt () t.castSucc
    ∗ (∃ d, owns (c : Thread nD τ) (ms_0 m t) fullShare ((dats m 0 c).before 0 t d))
    ∗ (∃ d, owns (c : Thread nD τ) (ms_1 m t) fullShare ((dats m 0 c).before 1 t d))
    ∗ (∃ d, owns (c : Thread nD τ) (ms_2 m t) fullShare ((dats m 0 c).before 2 t d))
    ∗ (∃ d, owns (c : Thread nD τ) (ms_3 m t) fullShare ((dats m 0 c).before 3 t d)))

/-- and what it returns. -/
def bodyPost (c : Dev nD) (t : Fin (cfgM m).N) : sProp 𝕄 :=
  iprop((dats m 0 c).Φ t.succ ∗ (dats m 0 c).owesAt () t.succ
    ∗ owns (c : Thread nD τ) (ms_0 m t) fullShare ((dats m 0 c).after 0 t)
    ∗ owns (c : Thread nD τ) (ms_1 m t) fullShare ((dats m 0 c).after 1 t)
    ∗ owns (c : Thread nD τ) (ms_2 m t) fullShare ((dats m 0 c).after 2 t)
    ∗ owns (c : Thread nD τ) (ms_3 m t) fullShare ((dats m 0 c).after 3 t))

set_option maxHeartbeats 2000000 in
/-- The body at the point: the inputs' buffers hold their blocks, so the run applies. -/
theorem sound_body (hG : Good m) (c : Dev nD) (t : Fin (cfgM m).N) :
    bodyPre m c t ⊢ wp frame (wpE (defs₀ (F := F)) Variants.none c none) Set.univ (bodyAt m t) (fun _ => bodyPost m c t) := by
  unfold bodyPre bodyPost bodyAt
  simp only [before_0, before_1]
  rw [show (dats m 0 c).Φ t.succ = (dats m 0 c).Φ t.castSucc from rfl,
    show (dats m 0 c).owesAt () t.succ = (dats m 0 c).owesAt () t.castSucc from rfl,
    after_0, after_1, after_2, after_3]
  rw [show (dats m 0 c).Φ t.castSucc = iprop(Pipeline.ΦA spec0 c ∗ Pipeline.ΦT pre0 (tbl m) c) from rfl, PhiT0_eq, PhiA0_eq]
  unfold owns
  iintro ⟨⟨⟨⟨%s0, HS⟩, Hg⟩, ⟨HT0, HT1, HT2⟩⟩, Ho, ⟨%d0, %f0, %hf0, H0⟩, ⟨%d1, %f1, %hf1, H1⟩, ⟨%d2, %f2, %hf2, H2⟩, ⟨%d3, %f3, %hf3, H3⟩⟩
  obtain rfl := (hs_0 m t).eq_unread hf0; obtain rfl := (hs_1 m t).eq_unread hf1
  iapply (bodyRun (F := F) c ((cfgM m).grid.coords t) tM0 (Memref.isWhole_whole _) tM1 (Memref.isWhole_whole _) tM2 (Memref.isWhole_whole _) (ms_0 m t) (hs_0 m t) (ms_1 m t) (hs_1 m t) (ms_2 m t) (hs_2 m t) (ms_3 m t) (hs_3 m t) scM (Memref.isWhole_whole _)
    (tbl m 0) (tbl m 1) (tbl m 2) ((hs_0 m t).unread (iblk m c 0 t)) ((hs_1 m t).unread (iblk m c 1 t)) hG.st_le hG.sh_eq f2 f3 s0 _)
  isplitl [HT0]; · iexact HT0
  isplitl [HT1]; · iexact HT1
  isplitl [HT2]; · iexact HT2
  isplitl [H0]; · iexact H0
  isplitl [H1]; · iexact H1
  isplitl [H2]; · iexact H2
  isplitl [H3]; · iexact H3
  isplitl [HS]; · iexact HS
  iintro ⟨HT0, HT1, HT2, H0, H1, ⟨%g2, %hg2, H2⟩, ⟨%g3, %hg3, H3⟩, ⟨%g4, HS⟩⟩
  isplitl [HS Hg HT0 HT1 HT2]
  · isplitl [HS Hg]
    · isplitl [HS]
      · iexists _; iexact HS
      iexact Hg
    isplitl [HT0]; · iexact HT0
    isplitl [HT1]; · iexact HT1
    iexact HT2
  isplitl [Ho]; · iexact Ho
  isplitl [H0]
  · iexists _; isplitr; · ipureintro; exact (hs_0 m t).read_unread _
    iexact H0
  isplitl [H1]
  · iexists _; isplitr; · ipureintro; exact (hs_1 m t).read_unread _
    iexact H1
  isplitl [H2]
  · iexists _; isplitr; swap; · iexact H2
    ipureintro; exact funext hg2
  iexists _; isplitr; swap; · iexact H3
  ipureintro; exact funext hg3

theorem defs₀_row (t : Fin (cfgM m).N) :
    defs₀ (F := F) .tc (cfgM m).body ((cfgM m).bodyArgs t ((cfgM m).slots t)) = bodyAt m t := by
  unfold defs₀; rw [Defs.onTc_tc]

theorem body_obligation (hG : Good m) (c : Dev nD) : BodyObligation (dats (F := F) m 0 c) (defs₀ (F := F)) Variants.none () Set.univ forgets := fun t => by
  rw [bigSep_W0, bigSep_W0, defs₀_row m]
  exact triple_restated (sound_body m hG c t) rfl .rfl fun _ => .rfl

/-! ## The run -/

set_option backward.isDefEq.respectTransparency.types false in
/-- Every run terminates with the arrays as the proof data say and every counter at zero. -/
theorem run_main (hG : Good m) : θ_run defs (onTc (τ := τ) (main (F := F))) (s₀ m ρ) (fun r => (Pipeline.RDat.FramePost ((Pipeline.pin pcfgs fun _ => adm m) 0) (fun c => (dats m 0 c).toRForget forgets) (V m)) r ∧ r.2.sem = fun _ => 0) :=
  Pipeline.θ_run_frameP_forget (Q' := _) pcfgs (fun _ => adm m) (dats m) (0 : Fin 1) launch0 defs₀ Variants.none forgets m ρ main
    (hbody := fun c => (body_obligation m hG c).loose) (hshare := fun c => (dats m 0 c).share_full fun _ => rfl)
    (howed := fun _ _ => rfl) (V := V m) (hmain := hmain m Variants.none) (hA := A_eq m) (hpf := V_pre m) (hΦ := fun _ _ => rfl)

/-- The run's end: the arguments unchanged, the results the pipeline's arrays, every counter at zero. -/
theorem run_end (hG : Good m) : θ_run defs (onTc (τ := τ) (main (F := F))) ⟨m, fun _ => 0, ρ⟩ (fun r => (∀ c : Dev nD,
      r.2.mem ((c.tc : Thread nD τ).loc main_v0_0) = (dats m 0 c).arrAt 2 (cfgM m).N
      ∧ r.2.mem ((c.tc : Thread nD τ).loc main_v0_1) = (dats m 0 c).arrAt 3 (cfgM m).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨
      ((dats m 0 c).toRForget_arrAt_iff (fgt := forgets) (w := 2) rfl _ _).mp ((h.1 c).1 2),
      ((dats m 0 c).toRForget_arrAt_iff (fgt := forgets) (w := 3) rfl _ _).mp ((h.1 c).1 3),
      (h.1 c).2 main_arg0 (by decide : main_arg0 ∈ Pipeline.restRefs sig spec0),
      (h.1 c).2 main_arg1 (by decide : main_arg1 ∈ Pipeline.restRefs sig spec0),
      (h.1 c).2 main_arg2 (by decide : main_arg2 ∈ Pipeline.restRefs sig spec0),
      (Pipeline.RDat.FramePost.arr_in h.1 c 0 rfl).trans (A_eq m c 0),
      (Pipeline.RDat.FramePost.arr_in h.1 c 1 rfl).trans (A_eq m c 1)⟩, h.2⟩) (run_main m ρ hG)

end Cert.Proof.Finish

end
-- ==== Proof.FinEnd.lean ====
/-
  The finishing call's two results after the run, at every index, from its arguments.
-/
module

public import proofs.«01_k».proof.Proof.FinLaunch
public import Idealize.ShloMosaic.Lib.Pipeline.Value
public import Idealize.ShloMosaic.Lib.Pipeline.ValueKit.Geometry

@[expose] public section

set_option maxRecDepth 16384

noncomputable section

namespace Cert.Proof.Finish

open Cert.Finish Cert.Finish.Gen
open Idealize.ShloMosaic Idealize.ShloMosaic.TcCoe Idealize.ShloMosaic.ValueIdx
open Idealize.SL.Sem
open Idealize.ShloMosaic.Pipeline (Dat Cfg Window cellOf)

variable {F : FTy → Type} [FloatOps F]
variable (m : (ℓ : Loc nD τ sig) → Buf (Elt F) ℓ) (c : Dev nD)

/-- The interest at `(b, n)`: the accumulated sum, rounded. -/
def intV (x : S6x216x128.Idx → Elt F .f32) (y : S200x768.Idx) : Elt F .bf16 :=
  FloatOps.truncf .bf16 bitsLt_bf16_f32 (x (ix3 (Fin.ofNat 6 ((y 1).val / 128)) (Fin.castLE (by decide) (y 0)) (Fin.ofNat 128 ((y 1).val % 128))))

/-- The score at `(b, j)`: the packed score `j` places after the start, zero from the length on. -/
def scoV (st len : S200.Idx → BitVec 32) (x : S1208x128.Idx → Elt F .f32) (y : S200x384.Idx) : Elt F .f32 :=
  Scalar.select (IntOp.cmpi .slt (BitVec.ofNat 32 (y 1).val) (len (ix1 (y 0))))
    (x (ix2 (Fin.ofNat 1208 (flatRow (((st (ix1 (y 0))).toNat + (y 1).val) / 128))) (Fin.ofNat 128 (((st (ix1 (y 0))).toNat + (y 1).val) % 128))))
    (Scalar.ofBits .f32 0x00000000#32)

theorem t_eq (t t' : Fin (cfgM m).N) : t = t' := (fin_N0 t).trans (fin_N0 t').symm

theorem t_last (t : Fin (cfgM m).N) : t.val + 1 = (cfgM m).N := by
  have h : (cfgM m).N = 1 := N_0
  have := t.isLt
  omega

theorem flush_2 (t : Fin (cfgM m).N) : ((cfgM m).win 2).flush t = true := by
  rw [Window.flush_eq_flushOf]
  unfold Window.flushOf
  simp only [Bool.and_eq_true, Bool.or_eq_true, decide_eq_true_eq]
  exact ⟨rfl, .inl (t_last m t)⟩

theorem flush_3 (t : Fin (cfgM m).N) : ((cfgM m).win 3).flush t = true := by
  rw [Window.flush_eq_flushOf]
  unfold Window.flushOf
  simp only [Bool.and_eq_true, Bool.or_eq_true, decide_eq_true_eq]
  exact ⟨rfl, .inl (t_last m t)⟩

theorem iblk_0 (t : Fin (cfgM m).N) : (iblk m c 0 t : S6x216x128.Idx → Elt F _) = m ((c : Thread nD τ).loc main_arg3) := by
  funext y
  refine congrArg (fun i : S6x216x128.Idx => m ((c : Thread nD τ).loc main_arg3) i) (?_ : ((((cfgM m).win 0).blk t).view.emb y : S6x216x128.Idx) = y)
  funext q
  refine Fin.ext ?_
  refine ((cfgM m).win 0).rect_emb_val_of_index_zero t q ?_ y
  fin_cases q <;> rfl

theorem iblk_1 (t : Fin (cfgM m).N) : (iblk m c 1 t : S1208x128.Idx → Elt F _) = m ((c : Thread nD τ).loc main_arg4) := by
  funext y
  refine congrArg (fun i : S1208x128.Idx => m ((c : Thread nD τ).loc main_arg4) i) (?_ : ((((cfgM m).win 1).blk t).view.emb y : S1208x128.Idx) = y)
  funext q
  refine Fin.ext ?_
  refine ((cfgM m).win 1).rect_emb_val_of_index_zero t q ?_ y
  fin_cases q <;> rfl

theorem intAt_eq (t : Fin (cfgM m).N) : (intAt m c t : S200x768.Idx → Elt F _) = intV (m ((c : Thread nD τ).loc main_arg3)) := by
  funext y
  exact congrArg (fun x : S6x216x128.Idx → Elt F .f32 => intV x y) (((hs_0 m t).read_unread _).trans (iblk_0 m c t))

theorem scoAt_eq (t : Fin (cfgM m).N) : (scoAt m c t : S200x384.Idx → Elt F _)
    = scoV (m ((c : Thread nD τ).loc main_arg0)) (m ((c : Thread nD τ).loc main_arg1)) (m ((c : Thread nD τ).loc main_arg4)) := by
  obtain rfl : c = 0 := Subsingleton.elim _ _
  funext y
  exact congrArg (fun x : S1208x128.Idx → Elt F .f32 => scoV (m (((0 : Dev nD) : Thread nD τ).loc main_arg0)) (m (((0 : Dev nD) : Thread nD τ).loc main_arg1)) x y)
    (((hs_1 m t).read_unread _).trans (iblk_1 m 0 t))

/-- The interest array at the run's end. -/
theorem arr_int : (dats m 0 c).arrAt 2 (cfgM m).N = (intV (m ((c : Thread nD τ).loc main_arg3)) : S200x768.Idx → Elt F .bf16) := by
  funext (y : S200x768.Idx)
  have h := (dats m 0 c).arrAt_emb_eq_flushed 2 (fun t t' _ _ hne => absurd (t_eq m t t') hne) t0_0 (flush_2 m t0_0) y
  have e : ((((cfgM m).win 2).blk t0_0).view.emb y : S200x768.Idx) = y := by
    funext q
    refine Fin.ext ?_
    refine ((cfgM m).win 2).rect_emb_val_of_index_zero t0_0 q ?_ y
    fin_cases q <;> rfl
  have h2 : (dats m 0 c).arrAt 2 (cfgM m).N ((((cfgM m).win 2).blk t0_0).view.emb y) = intAt m c t0_0 y := h
  rw [intAt_eq] at h2
  exact (congrArg (fun i : S200x768.Idx => (dats m 0 c).arrAt 2 (cfgM m).N i) e.symm).trans h2

/-- The score array at the run's end. -/
theorem arr_sco : (dats m 0 c).arrAt 3 (cfgM m).N
    = (scoV (m ((c : Thread nD τ).loc main_arg0)) (m ((c : Thread nD τ).loc main_arg1)) (m ((c : Thread nD τ).loc main_arg4)) : S200x384.Idx → Elt F .f32) := by
  funext (y : S200x384.Idx)
  have h := (dats m 0 c).arrAt_emb_eq_flushed 3 (fun t t' _ _ hne => absurd (t_eq m t t') hne) t0_0 (flush_3 m t0_0) y
  have e : ((((cfgM m).win 3).blk t0_0).view.emb y : S200x384.Idx) = y := by
    funext q
    refine Fin.ext ?_
    refine ((cfgM m).win 3).rect_emb_val_of_index_zero t0_0 q ?_ y
    fin_cases q <;> rfl
  have h2 : (dats m 0 c).arrAt 3 (cfgM m).N ((((cfgM m).win 3).blk t0_0).view.emb y) = scoAt m c t0_0 y := h
  rw [scoAt_eq] at h2
  exact (congrArg (fun i : S200x384.Idx => (dats m 0 c).arrAt 3 (cfgM m).N i) e.symm).trans h2

end Cert.Proof.Finish

end
-- ==== Proof.FinRef.lean ====
/-
  The finishing call's plain definition read at an index: the same functions of the arguments as the call's results.
-/
module

public import proofs.«01_k».proof.Proof.FinEnd
public import proofs.«01_k».proof.Proof.Gen.FinishReference.Read

@[expose] public section

set_option maxRecDepth 16384

noncomputable section

namespace Cert.Proof.Finish

open Cert.FinishReference Cert.FinishReference.Gen Cert.FinishReference.Read
open Idealize.ShloMosaic Idealize.ShloMosaic.ValueIdx

variable {F : FTy → Type} [FloatOps F]

theorem ref_int (x3 : (⟨S6x216x128, .f32⟩ : BufTy).Contents (Elt F)) (y : S200x768.Idx) : val_main_v3 (F := F) x3 y = intV x3 y := by
  rw [val_main_v3_apply, val_main_v2_apply, val_main_v1_apply, val_main_v0_apply]
  refine congrArg (fun q => FloatOps.truncf .bf16 _ (x3 q)) ?_
  have h0 : (y 0).val < 200 := (y 0).isLt
  have h1 : (y 1).val < 768 := (y 1).isLt
  funext a; refine Fin.ext ?_
  match a with
  | ⟨0, _⟩ => show ((y 0).val * 768 + (y 1).val) / 128 % 6 = (y 1).val / 128 % 6; omega
  | ⟨1, _⟩ => show ((y 0).val * 768 + (y 1).val) / 768 = (y 0).val; omega
  | ⟨2, _⟩ => show ((y 0).val * 768 + (y 1).val) % 128 = (y 1).val % 128 % 128; omega

/-- The place a batch's score is read at: its start and the offset added, neither wrapping nor negative. -/
theorem idx_val (x0 : (⟨S200, .i32⟩ : BufTy).Contents (Elt F)) (hst : ∀ x, (x0 x : BitVec 32).toNat ≤ 76927) (y : S200x384.Idx) :
    (val_main_v17 (F := F) x0 y : BitVec 32) = BitVec.ofNat 32 ((x0 (ix1 (y 0)) : BitVec 32).toNat + (y 1).val) := by
  have h1 : (y 1).val < 384 := (y 1).isLt
  have e12 : (val_main_v12 (F := F) x0 y : BitVec 32) = BitVec.ofNat 32 ((x0 (ix1 (y 0)) : BitVec 32).toNat + (y 1).val) := by
    rw [val_main_v12_apply, val_main_v10_apply, val_main_v8_apply, val_main_v11_apply, val_main_v9_apply, val_main_v7_apply]
    rw [show idx_main_v8 (idx_main_v10 y) = ix1 (y 0) from funext fun a => match a with | ⟨0, _⟩ => rfl]
    have hs := hst (ix1 (y 0))
    apply BitVec.eq_of_toNat_eq
    show ((x0 (ix1 (y 0)) : BitVec 32) + BitVec.ofNat 32 (y 1).val).toNat = _
    rw [BitVec.toNat_add, BitVec.toNat_ofNat, BitVec.toNat_ofNat]
    omega
  rw [val_main_v17_apply, val_main_v14_apply, val_main_v13_apply, val_main_c_apply, e12]
  have hs := hst (ix1 (y 0))
  rw [show IntOp.cmpi .slt (BitVec.ofNat 32 ((x0 (ix1 (y 0)) : BitVec 32).toNat + (y 1).val)) 0#32 = 0#1 from by
    show BitVec.ofBool ((BitVec.ofNat 32 ((x0 (ix1 (y 0)) : BitVec 32).toNat + (y 1).val)).slt 0#32) = 0#1
    rw [show (BitVec.ofNat 32 ((x0 (ix1 (y 0)) : BitVec 32).toNat + (y 1).val)).slt 0#32 = false from by
      have en : (BitVec.ofNat 32 ((x0 (ix1 (y 0)) : BitVec 32).toNat + (y 1).val)).toNat = (x0 (ix1 (y 0)) : BitVec 32).toNat + (y 1).val := by
        rw [BitVec.toNat_ofNat]; omega
      rw [BitVec.slt, BitVec.toInt_eq_toNat_of_lt (by rw [en]; omega)]
      exact decide_eq_false (Int.not_lt.mpr (Int.natCast_nonneg _))]
    rfl]
  rfl

/-- The packed score `q` lies in flat row `flatRow (q / 128)`, -/
theorem row_val (p q : Nat) (h : p = q) (hq : q < 77312) : ((p / 512 * 8 + p / 128 % 4) * 128 + p % 128) / 128 = flatRow (q / 128) % 1208 := by
  subst h; unfold flatRow; omega
/-- at lane `q % 128`. -/
theorem lane_val (p q : Nat) (h : p = q) : ((p / 512 * 8 + p / 128 % 4) * 128 + p % 128) % 128 = q % 128 % 128 := by
  subst h; omega

theorem ref_sco (x0 x1 : (⟨S200, .i32⟩ : BufTy).Contents (Elt F)) (x4 : (⟨S1208x128, .f32⟩ : BufTy).Contents (Elt F))
    (hst : ∀ x, (x0 x : BitVec 32).toNat ≤ 76927) (y : S200x384.Idx) : val_main_v25 (F := F) x0 x1 x4 y = scoV x0 x1 x4 y := by
  have h1 : (y 1).val < 384 := (y 1).isLt
  have hs := hst (ix1 (y 0))
  rw [val_main_v25_apply, val_main_v24_apply, val_main_v22_apply, val_main_v20_apply, val_main_v7_apply, val_main_v23_apply, val_main_v21_apply,
    val_main_call0_v1_apply, val_main_call0_v0_apply, val_main_cst_apply]
  rw [show idx_main_v21 (idx_main_v23 y) = ix1 (y 0) from funext fun a => match a with | ⟨0, _⟩ => rfl]
  unfold scoV
  refine congrArg (fun z => Scalar.select _ z _) ?_
  unfold val_main_v19
  refine (gather_take_apply (by decide) gather_S77312_S200x384x1_S200x384_n_0_n_n_0_2_1_wf (val_main_v6 (F := F) x4) (val_main_v18 (F := F) x0) y).trans ?_
  rw [val_main_v6_apply, val_main_v5_apply, val_main_v4_apply]
  have e : (val_main_v18 (F := F) x0 (takeIdx y) : BitVec 32) = BitVec.ofNat 32 ((x0 (ix1 (y 0)) : BitVec 32).toNat + (y 1).val) := by
    rw [val_main_v18_apply]
    refine Eq.trans (congrArg (fun q => (val_main_v17 (F := F) x0 q : BitVec 32)) (?_ : idx_main_v18 (takeIdx y) = y)) (idx_val x0 hst y)
    funext a
    match a with
    | ⟨0, _⟩ => rfl
    | ⟨1, _⟩ => rfl
  have ev : min (val_main_v18 (F := F) x0 (takeIdx y) : BitVec 32).toInt.toNat (77312 - 1) = (x0 (ix1 (y 0)) : BitVec 32).toNat + (y 1).val := by
    have en : (BitVec.ofNat 32 ((x0 (ix1 (y 0)) : BitVec 32).toNat + (y 1).val)).toNat = (x0 (ix1 (y 0)) : BitVec 32).toNat + (y 1).val := by
      rw [BitVec.toNat_ofNat]; omega
    have hi : (BitVec.ofNat 32 ((x0 (ix1 (y 0)) : BitVec 32).toNat + (y 1).val)).toInt = (((x0 (ix1 (y 0)) : BitVec 32).toNat + (y 1).val : Nat) : Int) := by
      rw [BitVec.toInt_eq_toNat_of_lt (by rw [en]; omega), en]
    rw [e, hi, Int.toNat_natCast]
    omega
  refine congrArg (fun q => x4 q) ?_
  funext a; refine Fin.ext ?_
  match a with
  | ⟨0, _⟩ => exact row_val _ _ ev (by omega)
  | ⟨1, _⟩ => exact lane_val _ _ ev

end Cert.Proof.Finish

end
-- ==== Proof.FinPre.lean ====
/-
  The precondition of the finishing call read element by element, the frame claims of the call and of its plain
  definition, and their equality.
-/
module

public import proofs.«01_k».proof.Defs
public import proofs.«01_k».proof.Proof.FinRef
public import proofs.«01_k».proof.Proof.Pre
public import proofs.«01_k».proof.Proof.Gen.FinishReference.Run
public import proofs.«01_k».proof.Proof.Gen.Pre_placed
public import Idealize.ShloMosaic.Lib.Quiescent
public import Idealize.ShloMosaic.Lib.StableHlo.Predicate

@[expose] public section

noncomputable section

namespace Cert.Proof.Finish

open Cert.Finish Cert.Finish.Gen
open Idealize.ShloMosaic Idealize.SL.Sem
open Idealize.ShloMosaic.StableHlo.Predicate (cmpi_eq_iff)
open Cert.Proof.Kernel (andi_one toNat_le_of_sle)

variable {m : (ℓ : Loc nD τ sig) → Buf (Elt Bits) ℓ}

/-- Every start is at most 76927. -/
theorem pre_st (h : Cert.Pre_Finish m) (x : S200.Idx) : (m (((0 : Dev nD).tc : Thread nD τ).loc main_arg0) x : BitVec 32).toNat ≤ 76927 := by
  have e := congrFun (h 0).1 x
  have e' : IntOp.andi (IntOp.cmpi .sge (m (((0 : Dev nD).tc : Thread nD τ).loc main_arg0) x : BitVec 32) 0#32) (IntOp.cmpi .sle (m (((0 : Dev nD).tc : Thread nD τ).loc main_arg0) x : BitVec 32) 76927#32) = 1#1 := e
  exact toNat_le_of_sle (andi_one e').1 (by decide) (andi_one e').2

/-- The place of the one part of the scores is zero. -/
theorem pre_sh (h : Cert.Pre_Finish m) (x : S1.Idx) : (m (((0 : Dev nD).tc : Thread nD τ).loc main_arg2) x : BitVec 32) = 0#32 := by
  have e := congrFun (h 0).2 x
  exact cmpi_eq_iff.mp e

theorem good_of_pre (h : Cert.Pre_Finish m) : Good (F := Bits) m where
  st_le x := by
    have e : tbl m 0 = m (((0 : Dev nD).tc : Thread nD τ).loc main_arg0) := rfl
    rw [e]; exact pre_st h _
  sh_eq x := by
    have e : tbl m 2 = m (((0 : Dev nD).tc : Thread nD τ).loc main_arg2) := rfl
    rw [e]; exact pre_sh h _

theorem frame : Cert.quiescent_Finish := fun m ρ h =>
  (θ_run _ _ _).mono (fun _ hr => ⟨fun c => (hr.1 c).2.2, hr.2⟩) (run_end m ρ (good_of_pre h))

theorem refFrame : Cert.quiescent_FinishReference := fun m ρ _ =>
  (θ_run _ _ _).mono (fun r h => ⟨fun c => (h c).2.2, Idealize.ShloMosaic.sem_eq_zero_of_no_sems (by decide) r.2⟩) (Cert.FinishReference.Value.run (F := Bits) m ρ)

theorem bitexact : Cert.bitexact_Finish_FinishReference := by
  intro m g m' g' h ha
  have hG := good_of_pre h
  refine ⟨fun c => intV (F := Bits) (m ((c.tc : Thread nD τ).loc main_arg3)),
    fun c => scoV (F := Bits) (m ((c.tc : Thread nD τ).loc main_arg0)) (m ((c.tc : Thread nD τ).loc main_arg1)) (m ((c.tc : Thread nD τ).loc main_arg4)), ?_, ?_⟩
  · refine (θ_run _ _ _).mono (fun r hr c => ?_) (run_end m g hG)
    obtain ⟨o0, o1, a⟩ := hr.1 c
    exact ⟨o0.trans (arr_int m c), o1.trans (arr_sco m c), a⟩
  · refine (θ_run _ _ _).mono (fun r hr c => ?_) (Cert.FinishReference.Value.run (F := Bits) m' g')
    obtain ⟨o0, o1, a⟩ := hr c
    obtain ⟨e0, e1, e2, e3, e4⟩ := ha c
    refine ⟨?_, ?_, a⟩
    · refine (o0.trans (Cert.FinishReference.Read.val_main_v3_eq (F := Bits) _)).trans ?_
      refine Eq.trans (b := intV (F := Bits) (m' ((c.tc : Thread Cert.FinishReference.nD Cert.FinishReference.τ).loc Cert.FinishReference.main_arg3))) (funext fun y => ref_int _ y) ?_
      exact congrArg (fun x => intV (F := Bits) x) e3
    · refine (o1.trans (Cert.FinishReference.Read.val_main_v25_eq (F := Bits) _ _ _)).trans ?_
      obtain rfl : c = 0 := Subsingleton.elim _ _
      have hst : ∀ x : S200.Idx, (m' (((0 : Dev nD).tc : Thread Cert.FinishReference.nD Cert.FinishReference.τ).loc Cert.FinishReference.main_arg0) x : BitVec 32).toNat ≤ 76927 := fun x =>
        (congrArg (fun q : S200.Idx → BitVec 32 => (q x).toNat) e0).trans_le (pre_st h x)
      refine (funext fun y => ref_sco _ _ _ hst y : _ = scoV (F := Bits) (m' (((0 : Dev nD).tc : Thread Cert.FinishReference.nD Cert.FinishReference.τ).loc Cert.FinishReference.main_arg0)) (m' (((0 : Dev nD).tc : Thread Cert.FinishReference.nD Cert.FinishReference.τ).loc Cert.FinishReference.main_arg1)) (m' (((0 : Dev nD).tc : Thread Cert.FinishReference.nD Cert.FinishReference.τ).loc Cert.FinishReference.main_arg4))).trans ?_
      exact (congrArg (fun x => scoV (F := Bits) x _ _) e0).trans ((congrArg (fun x => scoV (F := Bits) _ x _) e1).trans (congrArg (fun x => scoV (F := Bits) _ _ x) e4))

end Cert.Proof.Finish

end
-- ==== Proof.lean ====
/-
  The proof of `Cert.Claim`: the frames of the kernel (as written and idealized) and of the reference, the
  equality of their scores in the written tiles, and the same for the finishing call, bit for bit.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Flash
public import proofs.«01_k».proof.Proof.Gen.Finish
public import proofs.«01_k».proof.Proof.Gen.Finish.Skeleton
public import proofs.«01_k».proof.Proof.Gen.Finish.Loops
public import proofs.«01_k».proof.Proof.Gen.Finish.Launch
public import proofs.«01_k».proof.Proof.Gen.FinishReference
public import proofs.«01_k».proof.Proof.Gen.FinishReference.Run
public import proofs.«01_k».proof.Proof.Gen.FinishReference.Read
public import proofs.«01_k».proof.Proof.Gen.Pre_placed
public import proofs.«01_k».proof.Proof.Gen.ReferenceIdeal
public import proofs.«01_k».proof.Proof.Gen.Pre_admissible
public import proofs.«01_k».proof.Proof.Gen.ReferenceIdeal.Run
public import proofs.«01_k».proof.Proof.Gen.ReferenceIdeal.Read
public import proofs.«01_k».proof.Proof.Pre
public import proofs.«01_k».proof.Proof.PreIdeal
public import proofs.«01_k».proof.Proof.RefFrame
public import proofs.«01_k».proof.Proof.Value
public import proofs.«01_k».proof.Proof.FinPre
public import Idealize.ShloMosaic.Adequacy
public import Idealize.ShloMosaic.Init

@[expose] public section

noncomputable section

namespace Cert.Proof

open Idealize.ShloMosaic Idealize.SL.Sem Cert.Kernel

/-- The reference's frame under the precondition, from its frame without one. -/
theorem refFrame : Cert.quiescent_ReferenceIdeal_pre_admissible := fun m ρ _ =>
  (θ_run _ _ _).mono (fun r h => ⟨fun c => (h c).2, Idealize.ShloMosaic.sem_eq_zero_of_no_sems (by decide) r.2⟩) (Cert.ReferenceIdeal.Value.run (F := Ideal) m ρ)

theorem claim : Cert.Claim := ⟨Cert.Kernel.Gen.facts, Cert.KernelIdeal.Gen.facts, Cert.ReferenceIdeal.Gen.facts, Cert.Finish.Gen.facts, Cert.FinishReference.Gen.facts,
  Cert.Pre_admissible.Gen.facts, Cert.Pre_placed.Gen.facts, Cert.Proof.KernelIdeal.onFacts,
  Cert.Proof.Kernel.frame, Cert.Proof.KernelIdeal.frame, Cert.Proof.ReferenceIdeal.frame, refFrame, Cert.Proof.Finish.frame, Cert.Proof.Finish.refFrame, trivial,
  Cert.Proof.KernelIdeal.algebraic, Cert.Proof.Finish.bitexact⟩

end Cert.Proof

end
